-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def preserves_Kernel_KernelIdeal : Prop :=
  IdealRules.named_const.Statement Cert.KernelIdeal.κ "log2e_8" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v0_2)) (v1 : (c : Dev Cert.PrepIdeal.nD) → Buf (Elt Ideal) ((c.tc : Thread Cert.PrepIdeal.nD Cert.PrepIdeal.τ).loc Cert.PrepIdeal.main_v0_3)) (v2 : (c : Dev Cert.PrepIdeal.nD) → Buf (Elt Ideal) ((c.tc : Thread Cert.PrepIdeal.nD Cert.PrepIdeal.τ).loc Cert.PrepIdeal.main_v0_4)) (v3 : (c : Dev Cert.PrepIdeal.nD) → Buf (Elt Ideal) ((c.tc : Thread Cert.PrepIdeal.nD Cert.PrepIdeal.τ).loc Cert.PrepIdeal.main_v0_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_2) = v0 c
          ∧ r.2.mem ((c.tc : Thread Cert.PrepIdeal.nD Cert.PrepIdeal.τ).loc Cert.PrepIdeal.main_v0_3) = v1 c
          ∧ r.2.mem ((c.tc : Thread Cert.PrepIdeal.nD Cert.PrepIdeal.τ).loc Cert.PrepIdeal.main_v0_4) = v2 c
          ∧ r.2.mem ((c.tc : Thread Cert.PrepIdeal.nD Cert.PrepIdeal.τ).loc Cert.PrepIdeal.main_v0_5) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v40) = v0 c
          ∧ r.2.mem ((c.tc : Thread Cert.PrepReferenceIdeal.nD Cert.PrepReferenceIdeal.τ).loc Cert.PrepReferenceIdeal.main_v41) = v1 c
          ∧ r.2.mem ((c.tc : Thread Cert.PrepReferenceIdeal.nD Cert.PrepReferenceIdeal.τ).loc Cert.PrepReferenceIdeal.main_v52) = v2 c
          ∧ r.2.mem ((c.tc : Thread Cert.PrepReferenceIdeal.nD Cert.PrepReferenceIdeal.τ).loc Cert.PrepReferenceIdeal.main_v53) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
    ∧ preserves_Prep_PrepIdeal
    ∧ algebraic_PrepIdeal_PrepReferenceIdeal (hPrepIdeal := hPrepIdeal) (hPrepReferenceIdeal := hPrepReferenceIdeal)
-- ==== Pre_finite_in_range.lean ====
abbrev S24x2048 : Shape := ⟨2, ![24, 2048]⟩
abbrev S24 : Shape := ⟨1, ![24]⟩
abbrev S122880x128 : Shape := ⟨2, ![122880, 128]⟩
abbrev S32x49152 : Shape := ⟨2, ![32, 49152]⟩
abbrev S24x80x64 : Shape := ⟨3, ![24, 80, 64]⟩
abbrev S24x72x128 : Shape := ⟨3, ![24, 72, 128]⟩
abbrev S24x64 : Shape := ⟨2, ![24, 64]⟩
abbrev S24x128 : Shape := ⟨2, ![24, 128]⟩
abbrev S_ : Shape := ⟨0, ![]⟩
abbrev S49152 : Shape := ⟨1, ![49152]⟩
abbrev S49176 : Shape := ⟨1, ![49176]⟩
abbrev S1572864 : Shape := ⟨1, ![1572864]⟩
abbrev S122880 : Shape := ⟨1, ![122880]⟩
abbrev S221184 : Shape := ⟨1, ![221184]⟩
abbrev S24x72x1 : Shape := ⟨3, ![24, 72, 1]⟩
abbrev S2187288 : Shape := ⟨1, ![2187288]⟩

class Facts : Prop where
  bcast_S_S24x2048 : S_.BroadcastsInDim S24x2048 (![] : Fin 0 → Fin S24x2048.rank)
  shapeCasts_S24x2048_S49152 : S24x2048.ShapeCasts S49152
  bcast_S_S24 : S_.BroadcastsInDim S24 (![] : Fin 0 → Fin S24.rank)
  concatenates_S49152_S24_S49176_d0 : Shape.Concatenates [S49152, S24] S49176 0
  bcast_S_S32x49152 : S_.BroadcastsInDim S32x49152 (![] : Fin 0 → Fin S32x49152.rank)
  shapeCasts_S32x49152_S1572864 : S32x49152.ShapeCasts S1572864
  bitsLt_bf16_f32 : FTy.bits .bf16 < FTy.bits .f32
  bcast_S_S24x80x64 : S_.BroadcastsInDim S24x80x64 (![] : Fin 0 → Fin S24x80x64.rank)
  shapeCasts_S24x80x64_S122880 : S24x80x64.ShapeCasts S122880
  bcast_S_S24x72x128 : S_.BroadcastsInDim S24x72x128 (![] : Fin 0 → Fin S24x72x128.rank)
  shapeCasts_S24x72x128_S221184 : S24x72x128.ShapeCasts S221184
  slices_S24x72x128_S24x72x1_0_0_0 : S24x72x128.Slices ![0, 0, 0] S24x72x1
  bcast_S24x72x1_S24x72x128_0_1_2 : S24x72x1.BroadcastsInDim S24x72x128 (![0, 1, 2] : Fin 3 → Fin S24x72x128.rank)
  concatenates_S49176_S1572864_S122880_S221184_S221184_S2187288_d0 : Shape.Concatenates [S49176, S1572864, S122880, S221184, S221184] S2187288 0

variable [Facts]

def fn_part1 {F : FTy → Type} [FloatOps F] (main_arg5 : FVec F S24x72x128 .f32) (main_v8 : IVec S49176 1) (main_v14 : IVec S1572864 1) (main_v15 : FVec F S24x80x64 .f32) (main_v17 : IVec S24x80x64 1) : IVec S2187288 1 :=
  let main_cst_4 : FVec F S_ .f32 := constant S_ .f32 0x7F800000#32
  let main_v18 : FVec F S24x80x64 .f32 := broadcastInDim S24x80x64 ![] bcast_S_S24x80x64 main_cst_4
  let main_v19 : IVec S24x80x64 1 := cmpf .olt main_v15 main_v18
  let main_v20 : IVec S24x80x64 1 := andi main_v17 main_v19
  let main_v21 : IVec S122880 1 := shapeCast S122880 main_v20 shapeCasts_S24x80x64_S122880
  let main_cst_5 : FVec F S_ .f32 := constant S_ .f32 0xFF800000#32
  let main_v22 : FVec F S24x72x128 .f32 := broadcastInDim S24x72x128 ![] bcast_S_S24x72x128 main_cst_5
  let main_v23 : IVec S24x72x128 1 := cmpf .ogt main_arg5 main_v22
  let main_cst_6 : FVec F S_ .f32 := constant S_ .f32 0x7F800000#32
  let main_v24 : FVec F S24x72x128 .f32 := broadcastInDim S24x72x128 ![] bcast_S_S24x72x128 main_cst_6
  let main_v25 : IVec S24x72x128 1 := cmpf .olt main_arg5 main_v24
  let main_v26 : IVec S24x72x128 1 := andi main_v23 main_v25
  let main_v27 : IVec S221184 1 := shapeCast S221184 main_v26 shapeCasts_S24x72x128_S221184
  let main_v28 : FVec F S24x72x1 .f32 := (extractStridedSlice S24x72x1 ![0, 0, 0] · slices_S24x72x128_S24x72x1_0_0_0) main_arg5
  let main_v29 : FVec F S24x72x128 .f32 := broadcastInDim S24x72x128 ![0, 1, 2] bcast_S24x72x1_S24x72x128_0_1_2 main_v28
  let main_v30 : IVec S24x72x128 1 := cmpf .oeq main_arg5 main_v29
  let main_v31 : IVec S221184 1 := shapeCast S221184 main_v30 shapeCasts_S24x72x128_S221184
  let main_v32 : IVec S2187288 1 := concatenate S2187288 0 [⟨S49176, main_v8⟩, ⟨S1572864, main_v14⟩, ⟨S122880, main_v21⟩, ⟨S221184, main_v27⟩, ⟨S221184, main_v31⟩] concatenates_S49176_S1572864_S122880_S221184_S221184_S2187288_d0
  main_v32

def fn {F : FTy → Type} [FloatOps F] (main_arg0 : IVec S24x2048 32) (main_arg1 : IVec S24 32) (main_arg2 : IVec S122880x128 32) (main_arg3 : FVec F S32x49152 .f32) (main_arg4 : FVec F S24x80x64 .bf16) (main_arg5 : FVec F S24x72x128 .f32) (main_arg6 : FVec F S24x64 .f32) (main_arg7 : FVec F S24x128 .f32) : IVec S2187288 1 :=
  let main_c : IVec S_ 32 := constantI S_ 32 0#32
  let main_v0 : IVec S24x2048 32 := broadcastInDim S24x2048 ![] bcast_S_S24x2048 main_c
  let main_v1 : IVec S24x2048 1 := cmpi .sge main_arg0 main_v0
  let main_c_0 : IVec S_ 32 := constantI S_ 32 61440#32
  let main_v2 : IVec S24x2048 32 := broadcastInDim S24x2048 ![] bcast_S_S24x2048 main_c_0
  let main_v3 : IVec S24x2048 1 := cmpi .slt main_arg0 main_v2
  let main_v4 : IVec S24x2048 1 := andi main_v1 main_v3
  let main_v5 : IVec S49152 1 := shapeCast S49152 main_v4 shapeCasts_S24x2048_S49152
  let main_c_1 : IVec S_ 32 := constantI S_ 32 32768#32
  let main_v6 : IVec S24 32 := broadcastInDim S24 ![] bcast_S_S24 main_c_1
  let main_v7 : IVec S24 1 := cmpi .sle main_arg1 main_v6
  let main_v8 : IVec S49176 1 := (fun a b => concatenate S49176 0 [⟨S49152, a⟩, ⟨S24, b⟩] concatenates_S49152_S24_S49176_d0) main_v5 main_v7
  let main_cst : FVec F S_ .f32 := constant S_ .f32 0xFF800000#32
  let main_v9 : FVec F S32x49152 .f32 := broadcastInDim S32x49152 ![] bcast_S_S32x49152 main_cst
  let main_v10 : IVec S32x49152 1 := cmpf .ogt main_arg3 main_v9
  let main_cst_2 : FVec F S_ .f32 := constant S_ .f32 0x7F800000#32
  let main_v11 : FVec F S32x49152 .f32 := broadcastInDim S32x49152 ![] bcast_S_S32x49152 main_cst_2
  let main_v12 : IVec S32x49152 1 := cmpf .olt main_arg3 main_v11
  let main_v13 : IVec S32x49152 1 := andi main_v10 main_v12
  let main_v14 : IVec S1572864 1 := shapeCast S1572864 main_v13 shapeCasts_S32x49152_S1572864
  let main_v15 : FVec F S24x80x64 .f32 := (extf .f32 · bitsLt_bf16_f32) main_arg4
  let main_cst_3 : FVec F S_ .f32 := constant S_ .f32 0xFF800000#32
  let main_v16 : FVec F S24x80x64 .f32 := broadcastInDim S24x80x64 ![] bcast_S_S24x80x64 main_cst_3
  let main_v17 : IVec S24x80x64 1 := cmpf .ogt main_v15 main_v16
  fn_part1 (F := F) main_arg5 main_v8 main_v14 main_v15 main_v17
-- ==== Pre_in_range.lean ====
abbrev S24x2048 : Shape := ⟨2, ![24, 2048]⟩
abbrev S24 : Shape := ⟨1, ![24]⟩
abbrev S122880x128 : Shape := ⟨2, ![122880, 128]⟩
abbrev S32x49152 : Shape := ⟨2, ![32, 49152]⟩
abbrev S24x80x64 : Shape := ⟨3, ![24, 80, 64]⟩
abbrev S24x72x128 : Shape := ⟨3, ![24, 72, 128]⟩
abbrev S24x64 : Shape := ⟨2, ![24, 64]⟩
abbrev S24x128 : Shape := ⟨2, ![24, 128]⟩
abbrev S_ : Shape := ⟨0, ![]⟩
abbrev S49152 : Shape := ⟨1, ![49152]⟩
abbrev S49176 : Shape := ⟨1, ![49176]⟩

class Facts : Prop where
  bcast_S_S24x2048 : S_.BroadcastsInDim S24x2048 (![] : Fin 0 → Fin S24x2048.rank)
  shapeCasts_S24x2048_S49152 : S24x2048.ShapeCasts S49152
  bcast_S_S24 : S_.BroadcastsInDim S24 (![] : Fin 0 → Fin S24.rank)
  concatenates_S49152_S24_S49176_d0 : Shape.Concatenates [S49152, S24] S49176 0

variable [Facts]

def fn {F : FTy → Type} [FloatOps F] (main_arg0 : IVec S24x2048 32) (main_arg1 : IVec S24 32) (main_arg2 : IVec S122880x128 32) (main_arg3 : FVec F S32x49152 .f32) (main_arg4 : FVec F S24x80x64 .bf16) (main_arg5 : FVec F S24x72x128 .f32) (main_arg6 : FVec F S24x64 .f32) (main_arg7 : FVec F S24x128 .f32) : IVec S49176 1 :=
  let main_c : IVec S_ 32 := constantI S_ 32 0#32
  let main_v0 : IVec S24x2048 32 := broadcastInDim S24x2048 ![] bcast_S_S24x2048 main_c
  let main_v1 : IVec S24x2048 1 := cmpi .sge main_arg0 main_v0
  let main_c_0 : IVec S_ 32 := constantI S_ 32 61440#32
  let main_v2 : IVec S24x2048 32 := broadcastInDim S24x2048 ![] bcast_S_S24x2048 main_c_0
  let main_v3 : IVec S24x2048 1 := cmpi .slt main_arg0 main_v2
  let main_v4 : IVec S24x2048 1 := andi main_v1 main_v3
  let main_v5 : IVec S49152 1 := shapeCast S49152 main_v4 shapeCasts_S24x2048_S49152
  let main_c_1 : IVec S_ 32 := constantI S_ 32 32768#32
  let main_v6 : IVec S24 32 := broadcastInDim S24 ![] bcast_S_S24 main_c_1
  let main_v7 : IVec S24 1 := cmpi .sle main_arg1 main_v6
  let main_v8 : IVec S49176 1 := (fun a b => concatenate S49176 0 [⟨S49152, a⟩, ⟨S24, b⟩] concatenates_S49152_S24_S49176_d0) main_v5 main_v7
  main_v8
-- ==== Kernel.lean ====
abbrev S24x2048 : Shape := ⟨2, ![24, 2048]⟩
abbrev S24 : Shape := ⟨1, ![24]⟩
abbrev S122880x128 : Shape := ⟨2, ![122880, 128]⟩
abbrev S32x49152 : Shape := ⟨2, ![32, 49152]⟩
abbrev S24x80x64 : Shape := ⟨3, ![24, 80, 64]⟩
abbrev S24x72x128 : Shape := ⟨3, ![24, 72, 128]⟩
abbrev S24x64 : Shape := ⟨2, ![24, 64]⟩
abbrev S24x128 : Shape := ⟨2, ![24, 128]⟩
abbrev S24x64x71 : Shape := ⟨3, ![24, 64, 71]⟩
abbrev S256x128 : Shape := ⟨2, ![256, 128]⟩
abbrev S4x32x128 : Shape := ⟨3, ![4, 32, 128]⟩
abbrev S2x72x128 : Shape := ⟨3, ![2, 72, 128]⟩
abbrev S4 : Shape := ⟨1, ![4]⟩
abbrev S16x128 : Shape := ⟨2, ![16, 128]⟩
abbrev S1 : Shape := ⟨1, ![1]⟩
abbrev S1x72x128 : Shape := ⟨3, ![1, 72, 128]⟩
abbrev S72x128 : Shape := ⟨2, ![72, 128]⟩
abbrev S1x80x64 : Shape := ⟨3, ![1, 80, 64]⟩
abbrev S80x64 : Shape := ⟨2, ![80, 64]⟩
abbrev S72x256 : Shape := ⟨2, ![72, 256]⟩
abbrev S64x72 : Shape := ⟨2, ![64, 72]⟩
abbrev S_ : Shape := ⟨0, ![]⟩
abbrev S1x32x128 : Shape := ⟨3, ![1, 32, 128]⟩
abbrev S32x128 : Shape := ⟨2, ![32, 128]⟩
abbrev S1x1 : Shape := ⟨2, ![1, 1]⟩
abbrev S2x128 : Shape := ⟨2, ![2, 128]⟩
abbrev S1x16x128 : Shape := ⟨3, ![1, 16, 128]⟩
abbrev S128x128 : Shape := ⟨2, ![128, 128]⟩
abbrev S8x128 : Shape := ⟨2, ![8, 128]⟩
abbrev S8x8x128 : Shape := ⟨3, ![8, 8, 128]⟩
abbrev S8x1x128 : Shape := ⟨3, ![8, 1, 128]⟩
abbrev S64x128 : Shape := ⟨2, ![64, 128]⟩
abbrev S64x256 : Shape := ⟨2, ![64, 256]⟩
abbrev S80x256 : Shape := ⟨2, ![80, 256]⟩
abbrev S1x128 : Shape := ⟨2, ![1, 128]⟩
abbrev S1x256 : Shape := ⟨2, ![1, 256]⟩
abbrev S56x128 : Shape := ⟨2, ![56, 128]⟩
abbrev S128x72 : Shape := ⟨2, ![128, 72]⟩
abbrev S1x72 : Shape := ⟨2, ![1, 72]⟩
abbrev S72 : Shape := ⟨1, ![72]⟩
abbrev S1x64 : Shape := ⟨2, ![1, 64]⟩
abbrev S128x64 : Shape := ⟨2, ![128, 64]⟩
abbrev S64x71 : Shape := ⟨2, ![64, 71]⟩
abbrev S1x64x71 : Shape := ⟨3, ![1, 64, 71]⟩
abbrev S64 : Shape := ⟨1, ![64]⟩
abbrev S64x1 : Shape := ⟨2, ![64, 1]⟩
abbrev S1x1x1 : Shape := ⟨3, ![1, 1, 1]⟩
abbrev S1x64x72 : Shape := ⟨3, ![1, 64, 72]⟩
abbrev S72x1 : Shape := ⟨2, ![72, 1]⟩

abbrev nBuf : Space → Nat
  | .hbm => 10
  | .vmem => 11
  | .smem => 2
  | _ => 0

abbrev bufTy : (tb : Table) → Fin (tcTables nBuf tb) → BufTy
  | .hbm, ⟨0, _⟩ => ⟨S24x2048, .i32⟩
  | .hbm, ⟨1, _⟩ => ⟨S24, .i32⟩
  | .hbm, ⟨2, _⟩ => ⟨S32x49152, .f32⟩
  | .hbm, ⟨3, _⟩ => ⟨S24x80x64, .bf16⟩
  | .hbm, ⟨4, _⟩ => ⟨S24x72x128, .f32⟩
  | .hbm, ⟨5, _⟩ => ⟨S24x64, .f32⟩
  | .hbm, ⟨6, _⟩ => ⟨S24x128, .f32⟩
  | .hbm, ⟨7, _⟩ => ⟨S24x64x71, .bf16⟩
  | .hbm, ⟨8, _⟩ => ⟨S24x64x71, .fp8e4m3⟩
  | .hbm, ⟨9, _⟩ => ⟨S24x128, .f32⟩
  | .local _ .vmem, ⟨0, _⟩ => ⟨S122880x128, .i32⟩
  | .local _ .vmem, ⟨1, _⟩ => ⟨S24x80x64, .bf16⟩
  | .local _ .vmem, ⟨2, _⟩ => ⟨S24x72x128, .f32⟩
  | .local _ .vmem, ⟨3, _⟩ => ⟨S24x64, .f32⟩
  | .local _ .vmem, ⟨4, _⟩ => ⟨S24x128, .f32⟩
  | .local _ .vmem, ⟨5, _⟩ => ⟨S24x64x71, .bf16⟩
  | .local _ .vmem, ⟨6, _⟩ => ⟨S24x64x71, .fp8e4m3⟩
  | .local _ .vmem, ⟨7, _⟩ => ⟨S24x128, .f32⟩
  | .local _ .vmem, ⟨8, _⟩ => ⟨S256x128, .i32⟩
  | .local _ .vmem, ⟨9, _⟩ => ⟨S4x32x128, .f32⟩
  | .local _ .vmem, ⟨10, _⟩ => ⟨S2x72x128, .f32⟩
  | .local _ .smem, ⟨0, _⟩ => ⟨S24x2048, .i32⟩
  | .local _ .smem, ⟨1, _⟩ => ⟨S24, .i32⟩
  | _, _ => ⟨S24x2048, .i32⟩

abbrev bufScoped : (cs : CoreSpace) → Fin (nBuf (.core cs)) → Bool
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg2 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c24_i32 : BitVec 32 := 24#32
  let v2 : BitVec 32 := Scalar.addi c0_i32 c24_i32
  let c1_i32 : BitVec 32 := 1#32
  ⟨c0_i32, v2, c1_i32⟩
def k0_off1 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v5 : Index := Scalar.indexCast v4
  ![v5.toNat]
def k0_off2 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v25 : Index := Scalar.indexCast v4
  let c0 : Index := 0#32
  let c0_9 : Index := 0#32
  ![v25.toNat, 0, 0]
def k0_off3 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v28 : Index := Scalar.indexCast v4
  let c0_10 : Index := 0#32
  let c0_11 : Index := 0#32
  ![v28.toNat, 0, 0]
def k0_mult1 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_69 : BitVec 32 := 2048#32
  let v207 : BitVec 32 := Scalar.muli v4 c2048_i32_69
  let c0_i32_70 : BitVec 32 := 0#32
  let v208 : BitVec 32 := Scalar.addi v207 c0_i32_70
  v208
def k0_off4 : Fin 1 → Nat :=
  let c0_i32_71 : BitVec 32 := 0#32
  let c4_i32 : BitVec 32 := 4#32
  let v210 : BitVec 32 := Scalar.remsi c0_i32_71 c4_i32
  ![v210.toNat]
def k0_off5 : Fin 3 → Nat :=
  let c0_i32_71 : BitVec 32 := 0#32
  let c4_i32 : BitVec 32 := 4#32
  let v210 : BitVec 32 := Scalar.remsi c0_i32_71 c4_i32
  let c0_i32_72 : BitVec 32 := 0#32
  let c0_i32_73 : BitVec 32 := 0#32
  ![v210.toNat, 0, 0]
def k0_off6 (k0_t1 : Fin k0_t1_loop.trips) : Fin 2 → Nat :=
  let c0_i32_74 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_69 : BitVec 32 := 2048#32
  let v207 : BitVec 32 := Scalar.muli v4 c2048_i32_69
  let c0_i32_70 : BitVec 32 := 0#32
  let v208 : BitVec 32 := Scalar.addi v207 c0_i32_70
  let v209 : BitVec 32 := v208
  ![0, v209.toNat]
def k0_mult2 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_69 : BitVec 32 := 2048#32
  let v207 : BitVec 32 := Scalar.muli v4 c2048_i32_69
  let c128_i32 : BitVec 32 := 128#32
  let v208 : BitVec 32 := Scalar.addi v207 c128_i32
  v208
def k0_off7 : Fin 1 → Nat :=
  let c1_i32_70 : BitVec 32 := 1#32
  let c4_i32 : BitVec 32 := 4#32
  let v210 : BitVec 32 := Scalar.remsi c1_i32_70 c4_i32
  ![v210.toNat]
def k0_off8 : Fin 3 → Nat :=
  let c1_i32_70 : BitVec 32 := 1#32
  let c4_i32 : BitVec 32 := 4#32
  let v210 : BitVec 32 := Scalar.remsi c1_i32_70 c4_i32
  let c0_i32_71 : BitVec 32 := 0#32
  let c0_i32_72 : BitVec 32 := 0#32
  ![v210.toNat, 0, 0]
def k0_off9 (k0_t1 : Fin k0_t1_loop.trips) : Fin 2 → Nat :=
  let c0_i32_73 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_69 : BitVec 32 := 2048#32
  let v207 : BitVec 32 := Scalar.muli v4 c2048_i32_69
  let c128_i32 : BitVec 32 := 128#32
  let v208 : BitVec 32 := Scalar.addi v207 c128_i32
  let v209 : BitVec 32 := v208
  ![0, v209.toNat]
def k0_mult3 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_69 : BitVec 32 := 2048#32
  let v207 : BitVec 32 := Scalar.muli v4 c2048_i32_69
  let c256_i32 : BitVec 32 := 256#32
  let v208 : BitVec 32 := Scalar.addi v207 c256_i32
  v208
def k0_off10 : Fin 1 → Nat :=
  let c2_i32_70 : BitVec 32 := 2#32
  let c4_i32 : BitVec 32 := 4#32
  let v210 : BitVec 32 := Scalar.remsi c2_i32_70 c4_i32
  ![v210.toNat]
def k0_off11 : Fin 3 → Nat :=
  let c2_i32_70 : BitVec 32 := 2#32
  let c4_i32 : BitVec 32 := 4#32
  let v210 : BitVec 32 := Scalar.remsi c2_i32_70 c4_i32
  let c0_i32_71 : BitVec 32 := 0#32
  let c0_i32_72 : BitVec 32 := 0#32
  ![v210.toNat, 0, 0]
def k0_off12 (k0_t1 : Fin k0_t1_loop.trips) : Fin 2 → Nat :=
  let c0_i32_73 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_69 : BitVec 32 := 2048#32
  let v207 : BitVec 32 := Scalar.muli v4 c2048_i32_69
  let c256_i32 : BitVec 32 := 256#32
  let v208 : BitVec 32 := Scalar.addi v207 c256_i32
  let v209 : BitVec 32 := v208
  ![0, v209.toNat]
@[reducible] def k0_t2_loop (v6 : BitVec 32) : Scf.Loop 32 :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_20 : BitVec 32 := 1#32
  ⟨c0_i32_18, v47, c1_i32_20⟩

def k0_mult4 (k0_t1 : Fin k0_t1_loop.trips) (v6 : BitVec 32) (k0_t2 : Fin (k0_t2_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_212 : BitVec 32 := 2048#32
  let v940 : BitVec 32 := Scalar.muli v4 c2048_i32_212
  let c0_i32_18 : BitVec 32 := 0#32
  let c1_i32_20 : BitVec 32 := 1#32
  let arg16 : BitVec 32 := Scf.iv c0_i32_18 c1_i32_20 k0_t2
  let c4_i32_210 : BitVec 32 := 4#32
  let v938 : BitVec 32 := Scalar.addi arg16 c4_i32_210
  let c1_i32_211 : BitVec 32 := 1#32
  let v939 : BitVec 32 := Scalar.subi v938 c1_i32_211
  let c128_i32_213 : BitVec 32 := 128#32
  let v941 : BitVec 32 := Scalar.muli v939 c128_i32_213
  let v942 : BitVec 32 := Scalar.addi v940 v941
  v942
def k0_cond4 (v6 : BitVec 32) (k0_t2 : Fin (k0_t2_loop v6).trips) : BitVec 1 :=
  let c0_i32_18 : BitVec 32 := 0#32
  let c1_i32_20 : BitVec 32 := 1#32
  let arg16 : BitVec 32 := Scf.iv c0_i32_18 c1_i32_20 k0_t2
  let c4_i32 : BitVec 32 := 4#32
  let v207 : BitVec 32 := Scalar.addi arg16 c4_i32
  let c1_i32_69 : BitVec 32 := 1#32
  let v208 : BitVec 32 := Scalar.subi v207 c1_i32_69
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v209 : BitVec 1 := Scalar.cmpi .slt v208 v24
  let v210 : BitVec 32 := Scalar.extui v209
  let c0_i32_70 : BitVec 32 := 0#32
  let v211 : BitVec 1 := Scalar.cmpi .ne v210 c0_i32_70
  v211

def k0_off13 (v6 : BitVec 32) (k0_t2 : Fin (k0_t2_loop v6).trips) : Fin 1 → Nat :=
  let c0_i32_18 : BitVec 32 := 0#32
  let c1_i32_20 : BitVec 32 := 1#32
  let arg16 : BitVec 32 := Scf.iv c0_i32_18 c1_i32_20 k0_t2
  let c4_i32_210 : BitVec 32 := 4#32
  let v938 : BitVec 32 := Scalar.addi arg16 c4_i32_210
  let c1_i32_211 : BitVec 32 := 1#32
  let v939 : BitVec 32 := Scalar.subi v938 c1_i32_211
  let c4_i32_214 : BitVec 32 := 4#32
  let v944 : BitVec 32 := Scalar.remsi v939 c4_i32_214
  ![v944.toNat]
def k0_off14 (v6 : BitVec 32) (k0_t2 : Fin (k0_t2_loop v6).trips) : Fin 3 → Nat :=
  let c0_i32_18 : BitVec 32 := 0#32
  let c1_i32_20 : BitVec 32 := 1#32
  let arg16 : BitVec 32 := Scf.iv c0_i32_18 c1_i32_20 k0_t2
  let c4_i32_210 : BitVec 32 := 4#32
  let v938 : BitVec 32 := Scalar.addi arg16 c4_i32_210
  let c1_i32_211 : BitVec 32 := 1#32
  let v939 : BitVec 32 := Scalar.subi v938 c1_i32_211
  let c4_i32_214 : BitVec 32 := 4#32
  let v944 : BitVec 32 := Scalar.remsi v939 c4_i32_214
  let c0_i32_215 : BitVec 32 := 0#32
  let c0_i32_216 : BitVec 32 := 0#32
  ![v944.toNat, 0, 0]
def k0_off15 (k0_t1 : Fin k0_t1_loop.trips) (v6 : BitVec 32) (k0_t2 : Fin (k0_t2_loop v6).trips) : Fin 2 → Nat :=
  let c0_i32_217 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_212 : BitVec 32 := 2048#32
  let v940 : BitVec 32 := Scalar.muli v4 c2048_i32_212
  let c0_i32_18 : BitVec 32 := 0#32
  let c1_i32_20 : BitVec 32 := 1#32
  let arg16 : BitVec 32 := Scf.iv c0_i32_18 c1_i32_20 k0_t2
  let c4_i32_210 : BitVec 32 := 4#32
  let v938 : BitVec 32 := Scalar.addi arg16 c4_i32_210
  let c1_i32_211 : BitVec 32 := 1#32
  let v939 : BitVec 32 := Scalar.subi v938 c1_i32_211
  let c128_i32_213 : BitVec 32 := 128#32
  let v941 : BitVec 32 := Scalar.muli v939 c128_i32_213
  let v942 : BitVec 32 := Scalar.addi v940 v941
  let v943 : BitVec 32 := v942
  ![0, v943.toNat]
@[reducible] def k0_t3_loop : Scf.Loop 32 :=
  let c0_i32_71 : BitVec 32 := 0#32
  let c128_i32 : BitVec 32 := 128#32
  let v212 : BitVec 32 := Scalar.addi c0_i32_71 c128_i32
  let c1_i32_72 : BitVec 32 := 1#32
  ⟨c0_i32_71, v212, c1_i32_72⟩
def k0_off16 (k0_t1 : Fin k0_t1_loop.trips) (v6 : BitVec 32) (k0_t2 : Fin (k0_t2_loop v6).trips) (k0_t3 : Fin k0_t3_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v942 : Index := Scalar.indexCast v4
  let c0_i32_18 : BitVec 32 := 0#32
  let c1_i32_20 : BitVec 32 := 1#32
  let arg16 : BitVec 32 := Scf.iv c0_i32_18 c1_i32_20 k0_t2
  let c128_i32_212 : BitVec 32 := 128#32
  let v940 : BitVec 32 := Scalar.muli arg16 c128_i32_212
  let c0_i32_211 : BitVec 32 := 0#32
  let c0_i32_71 : BitVec 32 := 0#32
  let c1_i32_72 : BitVec 32 := 1#32
  let arg19 : BitVec 32 := Scf.iv c0_i32_71 c1_i32_72 k0_t3
  let c1_i32_210 : BitVec 32 := 1#32
  let v938 : BitVec 32 := Scalar.muli arg19 c1_i32_210
  let v939 : BitVec 32 := Scalar.addi c0_i32_211 v938
  let v941 : BitVec 32 := Scalar.addi v940 v939
  let v943 : Index := Scalar.indexCast v941
  ![v942.toNat, v943.toNat]
def k0_off17 (v944 : BitVec 32) : Fin 2 → Nat :=
  let c2_i32_213 : BitVec 32 := 2#32
  let v945 : BitVec 32 := Scalar.muli c2_i32_213 v944
  let v946 : Index := Scalar.indexCast v945
  let c0_214 : Index := 0#32
  ![v946.toNat, 0]

def k0_chk2 (v944 : BitVec 32) : Prop :=
  (∀ a, (k0_off17 v944) a + S2x128.size a ≤ S122880x128.size a)
theorem k0_off17_inb : ∀ (v944 : BitVec 32) (k0_hw2 : k0_chk2 v944), ∀ a, (k0_off17 v944) a + S2x128.size a ≤ S122880x128.size a := fun v944 k0_hw2 => k0_hw2

def k0_off18 (k0_t3 : Fin k0_t3_loop.trips) : Fin 2 → Nat :=
  let c2_i32_215 : BitVec 32 := 2#32
  let c0_i32_211 : BitVec 32 := 0#32
  let c0_i32_71 : BitVec 32 := 0#32
  let c1_i32_72 : BitVec 32 := 1#32
  let arg19 : BitVec 32 := Scf.iv c0_i32_71 c1_i32_72 k0_t3
  let c1_i32_210 : BitVec 32 := 1#32
  let v938 : BitVec 32 := Scalar.muli arg19 c1_i32_210
  let v939 : BitVec 32 := Scalar.addi c0_i32_211 v938
  let v948 : BitVec 32 := Scalar.muli c2_i32_215 v939
  let v949 : Index := Scalar.indexCast v948
  let c0_216 : Index := 0#32
  ![v949.toNat, 0]
def k0_mult5 (k0_t1 : Fin k0_t1_loop.trips) (v6 : BitVec 32) (k0_t2 : Fin (k0_t2_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_74 : BitVec 32 := 2048#32
  let v213 : BitVec 32 := Scalar.muli v4 c2048_i32_74
  let c0_i32_18 : BitVec 32 := 0#32
  let c1_i32_20 : BitVec 32 := 1#32
  let arg16 : BitVec 32 := Scf.iv c0_i32_18 c1_i32_20 k0_t2
  let c128_i32_75 : BitVec 32 := 128#32
  let v214 : BitVec 32 := Scalar.muli arg16 c128_i32_75
  let v215 : BitVec 32 := Scalar.addi v213 v214
  v215
def k0_off19 (v6 : BitVec 32) (k0_t2 : Fin (k0_t2_loop v6).trips) : Fin 1 → Nat :=
  let c0_i32_18 : BitVec 32 := 0#32
  let c1_i32_20 : BitVec 32 := 1#32
  let arg16 : BitVec 32 := Scf.iv c0_i32_18 c1_i32_20 k0_t2
  let c4_i32_76 : BitVec 32 := 4#32
  let v217 : BitVec 32 := Scalar.remsi arg16 c4_i32_76
  ![v217.toNat]
def k0_off20 (v6 : BitVec 32) (k0_t2 : Fin (k0_t2_loop v6).trips) : Fin 3 → Nat :=
  let c0_i32_18 : BitVec 32 := 0#32
  let c1_i32_20 : BitVec 32 := 1#32
  let arg16 : BitVec 32 := Scf.iv c0_i32_18 c1_i32_20 k0_t2
  let c4_i32_76 : BitVec 32 := 4#32
  let v217 : BitVec 32 := Scalar.remsi arg16 c4_i32_76
  let c0_i32_77 : BitVec 32 := 0#32
  let c0_i32_78 : BitVec 32 := 0#32
  ![v217.toNat, 0, 0]
def k0_off21 (k0_t1 : Fin k0_t1_loop.trips) (v6 : BitVec 32) (k0_t2 : Fin (k0_t2_loop v6).trips) : Fin 2 → Nat :=
  let c0_i32_79 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_74 : BitVec 32 := 2048#32
  let v213 : BitVec 32 := Scalar.muli v4 c2048_i32_74
  let c0_i32_18 : BitVec 32 := 0#32
  let c1_i32_20 : BitVec 32 := 1#32
  let arg16 : BitVec 32 := Scf.iv c0_i32_18 c1_i32_20 k0_t2
  let c128_i32_75 : BitVec 32 := 128#32
  let v214 : BitVec 32 := Scalar.muli arg16 c128_i32_75
  let v215 : BitVec 32 := Scalar.addi v213 v214
  let v216 : BitVec 32 := v215
  ![0, v216.toNat]
def k0_off22 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v230 : Index := Scalar.indexCast v4
  ![v230.toNat]
def k0_off23 (v6 : BitVec 32) (k0_t2 : Fin (k0_t2_loop v6).trips) : Fin 3 → Nat :=
  let c0_i32_18 : BitVec 32 := 0#32
  let c1_i32_20 : BitVec 32 := 1#32
  let arg16 : BitVec 32 := Scf.iv c0_i32_18 c1_i32_20 k0_t2
  let c4_i32_80 : BitVec 32 := 4#32
  let v223 : BitVec 32 := Scalar.remsi arg16 c4_i32_80
  let v234 : Index := Scalar.indexCast v223
  let c0_82 : Index := 0#32
  let c0_83 : Index := 0#32
  ![v234.toNat, 0, 0]
def k0_off24 (v6 : BitVec 32) (k0_t2 : Fin (k0_t2_loop v6).trips) : Fin 3 → Nat :=
  let c0_i32_18 : BitVec 32 := 0#32
  let c1_i32_20 : BitVec 32 := 1#32
  let arg16 : BitVec 32 := Scf.iv c0_i32_18 c1_i32_20 k0_t2
  let c4_i32_80 : BitVec 32 := 4#32
  let v223 : BitVec 32 := Scalar.remsi arg16 c4_i32_80
  let v241 : Index := Scalar.indexCast v223
  let c16 : Index := 16#32
  let c0_86 : Index := 0#32
  ![v241.toNat, 16, 0]
@[reducible] def k0_t4_loop (v6 : BitVec 32) : Scf.Loop 32 :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let v44 : BitVec 32 := Scalar.addi c0_i32_18 v43
  let c1_i32_21 : BitVec 32 := 1#32
  ⟨v47, v44, c1_i32_21⟩
def k0_mult6 (k0_t1 : Fin k0_t1_loop.trips) (v6 : BitVec 32) (k0_t4 : Fin (k0_t4_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_212 : BitVec 32 := 2048#32
  let v940 : BitVec 32 := Scalar.muli v4 c2048_i32_212
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_210 : BitVec 32 := 4#32
  let v938 : BitVec 32 := Scalar.addi arg16 c4_i32_210
  let c1_i32_211 : BitVec 32 := 1#32
  let v939 : BitVec 32 := Scalar.subi v938 c1_i32_211
  let c128_i32_213 : BitVec 32 := 128#32
  let v941 : BitVec 32 := Scalar.muli v939 c128_i32_213
  let v942 : BitVec 32 := Scalar.addi v940 v941
  v942
def k0_cond5 (v6 : BitVec 32) (k0_t4 : Fin (k0_t4_loop v6).trips) : BitVec 1 :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32 : BitVec 32 := 4#32
  let v207 : BitVec 32 := Scalar.addi arg16 c4_i32
  let c1_i32_69 : BitVec 32 := 1#32
  let v208 : BitVec 32 := Scalar.subi v207 c1_i32_69
  let v209 : BitVec 1 := Scalar.cmpi .slt v208 v24
  let v210 : BitVec 32 := Scalar.extui v209
  let c0_i32_70 : BitVec 32 := 0#32
  let v211 : BitVec 1 := Scalar.cmpi .ne v210 c0_i32_70
  v211

def k0_off25 (v6 : BitVec 32) (k0_t4 : Fin (k0_t4_loop v6).trips) : Fin 1 → Nat :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_210 : BitVec 32 := 4#32
  let v938 : BitVec 32 := Scalar.addi arg16 c4_i32_210
  let c1_i32_211 : BitVec 32 := 1#32
  let v939 : BitVec 32 := Scalar.subi v938 c1_i32_211
  let c4_i32_214 : BitVec 32 := 4#32
  let v944 : BitVec 32 := Scalar.remsi v939 c4_i32_214
  ![v944.toNat]
def k0_off26 (v6 : BitVec 32) (k0_t4 : Fin (k0_t4_loop v6).trips) : Fin 3 → Nat :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_210 : BitVec 32 := 4#32
  let v938 : BitVec 32 := Scalar.addi arg16 c4_i32_210
  let c1_i32_211 : BitVec 32 := 1#32
  let v939 : BitVec 32 := Scalar.subi v938 c1_i32_211
  let c4_i32_214 : BitVec 32 := 4#32
  let v944 : BitVec 32 := Scalar.remsi v939 c4_i32_214
  let c0_i32_215 : BitVec 32 := 0#32
  let c0_i32_216 : BitVec 32 := 0#32
  ![v944.toNat, 0, 0]
def k0_off27 (k0_t1 : Fin k0_t1_loop.trips) (v6 : BitVec 32) (k0_t4 : Fin (k0_t4_loop v6).trips) : Fin 2 → Nat :=
  let c0_i32_217 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_212 : BitVec 32 := 2048#32
  let v940 : BitVec 32 := Scalar.muli v4 c2048_i32_212
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_210 : BitVec 32 := 4#32
  let v938 : BitVec 32 := Scalar.addi arg16 c4_i32_210
  let c1_i32_211 : BitVec 32 := 1#32
  let v939 : BitVec 32 := Scalar.subi v938 c1_i32_211
  let c128_i32_213 : BitVec 32 := 128#32
  let v941 : BitVec 32 := Scalar.muli v939 c128_i32_213
  let v942 : BitVec 32 := Scalar.addi v940 v941
  let v943 : BitVec 32 := v942
  ![0, v943.toNat]
@[reducible] def k0_t5_loop : Scf.Loop 32 :=
  let c0_i32_71 : BitVec 32 := 0#32
  let c128_i32 : BitVec 32 := 128#32
  let v212 : BitVec 32 := Scalar.addi c0_i32_71 c128_i32
  let c1_i32_72 : BitVec 32 := 1#32
  ⟨c0_i32_71, v212, c1_i32_72⟩
def k0_off28 (k0_t1 : Fin k0_t1_loop.trips) (v6 : BitVec 32) (k0_t4 : Fin (k0_t4_loop v6).trips) (k0_t5 : Fin k0_t5_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v942 : Index := Scalar.indexCast v4
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c128_i32_212 : BitVec 32 := 128#32
  let v940 : BitVec 32 := Scalar.muli arg16 c128_i32_212
  let c0_i32_211 : BitVec 32 := 0#32
  let c0_i32_71 : BitVec 32 := 0#32
  let c1_i32_72 : BitVec 32 := 1#32
  let arg19 : BitVec 32 := Scf.iv c0_i32_71 c1_i32_72 k0_t5
  let c1_i32_210 : BitVec 32 := 1#32
  let v938 : BitVec 32 := Scalar.muli arg19 c1_i32_210
  let v939 : BitVec 32 := Scalar.addi c0_i32_211 v938
  let v941 : BitVec 32 := Scalar.addi v940 v939
  let v943 : Index := Scalar.indexCast v941
  ![v942.toNat, v943.toNat]
def k0_off29 (v944 : BitVec 32) : Fin 2 → Nat :=
  let c2_i32_213 : BitVec 32 := 2#32
  let v945 : BitVec 32 := Scalar.muli c2_i32_213 v944
  let v946 : Index := Scalar.indexCast v945
  let c0_214 : Index := 0#32
  ![v946.toNat, 0]

def k0_chk3 (v944 : BitVec 32) : Prop :=
  (∀ a, (k0_off29 v944) a + S2x128.size a ≤ S122880x128.size a)
theorem k0_off29_inb : ∀ (v944 : BitVec 32) (k0_hw3 : k0_chk3 v944), ∀ a, (k0_off29 v944) a + S2x128.size a ≤ S122880x128.size a := fun v944 k0_hw3 => k0_hw3

def k0_off30 (k0_t5 : Fin k0_t5_loop.trips) : Fin 2 → Nat :=
  let c2_i32_215 : BitVec 32 := 2#32
  let c0_i32_211 : BitVec 32 := 0#32
  let c0_i32_71 : BitVec 32 := 0#32
  let c1_i32_72 : BitVec 32 := 1#32
  let arg19 : BitVec 32 := Scf.iv c0_i32_71 c1_i32_72 k0_t5
  let c1_i32_210 : BitVec 32 := 1#32
  let v938 : BitVec 32 := Scalar.muli arg19 c1_i32_210
  let v939 : BitVec 32 := Scalar.addi c0_i32_211 v938
  let v948 : BitVec 32 := Scalar.muli c2_i32_215 v939
  let v949 : Index := Scalar.indexCast v948
  let c0_216 : Index := 0#32
  ![v949.toNat, 0]
def k0_mult7 (k0_t1 : Fin k0_t1_loop.trips) (v6 : BitVec 32) (k0_t4 : Fin (k0_t4_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_74 : BitVec 32 := 2048#32
  let v213 : BitVec 32 := Scalar.muli v4 c2048_i32_74
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c128_i32_75 : BitVec 32 := 128#32
  let v214 : BitVec 32 := Scalar.muli arg16 c128_i32_75
  let v215 : BitVec 32 := Scalar.addi v213 v214
  v215
def k0_off31 (v6 : BitVec 32) (k0_t4 : Fin (k0_t4_loop v6).trips) : Fin 1 → Nat :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_76 : BitVec 32 := 4#32
  let v217 : BitVec 32 := Scalar.remsi arg16 c4_i32_76
  ![v217.toNat]
def k0_off32 (v6 : BitVec 32) (k0_t4 : Fin (k0_t4_loop v6).trips) : Fin 3 → Nat :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_76 : BitVec 32 := 4#32
  let v217 : BitVec 32 := Scalar.remsi arg16 c4_i32_76
  let c0_i32_77 : BitVec 32 := 0#32
  let c0_i32_78 : BitVec 32 := 0#32
  ![v217.toNat, 0, 0]
def k0_off33 (k0_t1 : Fin k0_t1_loop.trips) (v6 : BitVec 32) (k0_t4 : Fin (k0_t4_loop v6).trips) : Fin 2 → Nat :=
  let c0_i32_79 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_74 : BitVec 32 := 2048#32
  let v213 : BitVec 32 := Scalar.muli v4 c2048_i32_74
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c128_i32_75 : BitVec 32 := 128#32
  let v214 : BitVec 32 := Scalar.muli arg16 c128_i32_75
  let v215 : BitVec 32 := Scalar.addi v213 v214
  let v216 : BitVec 32 := v215
  ![0, v216.toNat]
def k0_off34 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v230 : Index := Scalar.indexCast v4
  ![v230.toNat]
def k0_off35 (v6 : BitVec 32) (k0_t4 : Fin (k0_t4_loop v6).trips) : Fin 3 → Nat :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_80 : BitVec 32 := 4#32
  let v223 : BitVec 32 := Scalar.remsi arg16 c4_i32_80
  let v234 : Index := Scalar.indexCast v223
  let c0_82 : Index := 0#32
  let c0_83 : Index := 0#32
  ![v234.toNat, 0, 0]
def k0_off36 (v6 : BitVec 32) (k0_t4 : Fin (k0_t4_loop v6).trips) : Fin 3 → Nat :=
  let c0_i32_18 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v43 : BitVec 32 := Scalar.subi v24 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg16 : BitVec 32 := Scf.iv v47 c1_i32_21 k0_t4
  let c4_i32_80 : BitVec 32 := 4#32
  let v223 : BitVec 32 := Scalar.remsi arg16 c4_i32_80
  let v241 : Index := Scalar.indexCast v223
  let c16 : Index := 16#32
  let c0_86 : Index := 0#32
  ![v241.toNat, 16, 0]

def k0_chk1 (k0_t1 : Fin k0_t1_loop.trips) (v6 : BitVec 32) : Prop :=
  ((k0_t2_loop v6).OK) ∧
  (∀ k0_t2 : Fin (k0_t2_loop v6).trips, ∀ (k0_h4 : k0_cond4 v6 k0_t2 = 1#1), 128 ∣ (k0_mult4 k0_t1 v6 k0_t2).toNat) ∧
  (∀ k0_t2 : Fin (k0_t2_loop v6).trips, ∀ (k0_h4 : k0_cond4 v6 k0_t2 = 1#1), ∀ a, (k0_off13 v6 k0_t2) a + S1.size a ≤ S4.size a) ∧
  (∀ k0_t2 : Fin (k0_t2_loop v6).trips, ∀ (k0_h4 : k0_cond4 v6 k0_t2 = 1#1), ∀ a, (k0_off14 v6 k0_t2) a + S1x32x128.size a ≤ S4x32x128.size a) ∧
  (∀ k0_t2 : Fin (k0_t2_loop v6).trips, ∀ (k0_h4 : k0_cond4 v6 k0_t2 = 1#1), ∀ a, (k0_off15 k0_t1 v6 k0_t2) a + S32x128.size a ≤ S32x49152.size a) ∧
  (∀ (k0_t2 : Fin (k0_t2_loop v6).trips) (k0_t3 : Fin k0_t3_loop.trips), ∀ a, (k0_off16 k0_t1 v6 k0_t2 k0_t3) a + S1x1.size a ≤ S24x2048.size a) ∧
  (∀ k0_t2 : Fin (k0_t2_loop v6).trips, 128 ∣ (k0_mult5 k0_t1 v6 k0_t2).toNat) ∧
  (∀ k0_t2 : Fin (k0_t2_loop v6).trips, ∀ a, (k0_off19 v6 k0_t2) a + S1.size a ≤ S4.size a) ∧
  (∀ k0_t2 : Fin (k0_t2_loop v6).trips, ∀ a, (k0_off20 v6 k0_t2) a + S1x32x128.size a ≤ S4x32x128.size a) ∧
  (∀ k0_t2 : Fin (k0_t2_loop v6).trips, ∀ a, (k0_off21 k0_t1 v6 k0_t2) a + S32x128.size a ≤ S32x49152.size a) ∧
  (∀ k0_t2 : Fin (k0_t2_loop v6).trips, ∀ a, (k0_off23 v6 k0_t2) a + S1x16x128.size a ≤ S4x32x128.size a) ∧
  (∀ k0_t2 : Fin (k0_t2_loop v6).trips, ∀ a, (k0_off24 v6 k0_t2) a + S1x16x128.size a ≤ S4x32x128.size a) ∧
  ((k0_t4_loop v6).OK) ∧
  (∀ k0_t4 : Fin (k0_t4_loop v6).trips, ∀ (k0_h5 : k0_cond5 v6 k0_t4 = 1#1), 128 ∣ (k0_mult6 k0_t1 v6 k0_t4).toNat) ∧
  (∀ k0_t4 : Fin (k0_t4_loop v6).trips, ∀ (k0_h5 : k0_cond5 v6 k0_t4 = 1#1), ∀ a, (k0_off25 v6 k0_t4) a + S1.size a ≤ S4.size a) ∧
  (∀ k0_t4 : Fin (k0_t4_loop v6).trips, ∀ (k0_h5 : k0_cond5 v6 k0_t4 = 1#1), ∀ a, (k0_off26 v6 k0_t4) a + S1x32x128.size a ≤ S4x32x128.size a) ∧
  (∀ k0_t4 : Fin (k0_t4_loop v6).trips, ∀ (k0_h5 : k0_cond5 v6 k0_t4 = 1#1), ∀ a, (k0_off27 k0_t1 v6 k0_t4) a + S32x128.size a ≤ S32x49152.size a) ∧
  (∀ (k0_t4 : Fin (k0_t4_loop v6).trips) (k0_t5 : Fin k0_t5_loop.trips), ∀ a, (k0_off28 k0_t1 v6 k0_t4 k0_t5) a + S1x1.size a ≤ S24x2048.size a) ∧
  (∀ k0_t4 : Fin (k0_t4_loop v6).trips, 128 ∣ (k0_mult7 k0_t1 v6 k0_t4).toNat) ∧
  (∀ k0_t4 : Fin (k0_t4_loop v6).trips, ∀ a, (k0_off31 v6 k0_t4) a + S1.size a ≤ S4.size a) ∧
  (∀ k0_t4 : Fin (k0_t4_loop v6).trips, ∀ a, (k0_off32 v6 k0_t4) a + S1x32x128.size a ≤ S4x32x128.size a) ∧
  (∀ k0_t4 : Fin (k0_t4_loop v6).trips, ∀ a, (k0_off33 k0_t1 v6 k0_t4) a + S32x128.size a ≤ S32x49152.size a) ∧
  (∀ k0_t4 : Fin (k0_t4_loop v6).trips, ∀ a, (k0_off35 v6 k0_t4) a + S1x16x128.size a ≤ S4x32x128.size a) ∧
  (∀ k0_t4 : Fin (k0_t4_loop v6).trips, ∀ a, (k0_off36 v6 k0_t4) a + S1x16x128.size a ≤ S4x32x128.size a)
theorem k0_t2_ok : ∀ (k0_t1 : Fin k0_t1_loop.trips) (v6 : BitVec 32) (k0_hw1 : k0_chk1 k0_t1 v6), (k0_t2_loop v6).OK := fun k0_t1 v6 k0_hw1 => k0_hw1.1
theorem k0_mult4_dvd : ∀ (k0_t1 : Fin k0_t1_loop.trips) (v6 : BitVec 32) (k0_hw1 : k0_chk1 k0_t1 v6) (k0_t2 : Fin (k0_t2_loop v6).trips), ∀ (k0_h4 : k0_cond4 v6 k0_t2 = 1#1), 128 ∣ (k0_mult4 k0_t1 v6 k0_t2).toNat := fun k0_t1 v6 k0_hw1 k0_t2 k0_h4 => k0_hw1.2.1 k0_t2 k0_h4
theorem k0_off13_inb : ∀ (k0_t1 : Fin k0_t1_loop.trips) (v6 : BitVec 32) (k0_hw1 : k0_chk1 k0_t1 v6) (k0_t2 : Fin (k0_t2_loop v6).trips), ∀ (k0_h4 : k0_cond4 v6 k0_t2 = 1#1), ∀ a, (k0_off13 v6 k0_t2) a + S1.size a ≤ S4.size a := fun k0_t1 v6 k0_hw1 k0_t2 k0_h4 => k0_hw1.2.2.1 k0_t2 k0_h4
theorem k0_off14_inb : ∀ (k0_t1 : Fin k0_t1_loop.trips) (v6 : BitVec 32) (k0_hw1 : k0_chk1 k0_t1 v6) (k0_t2 : Fin (k0_t2_loop v6).trips), ∀ (k0_h4 : k0_cond4 v6 k0_t2 = 1#1), ∀ a, (k0_off14 v6 k0_t2) a + S1x32x128.size a ≤ S4x32x128.size a := fun k0_t1 v6 k0_hw1 k0_t2 k0_h4 => k0_hw1.2.2.2.1 k0_t2 k0_h4
theorem k0_off15_inb : ∀ (k0_t1 : Fin k0_t1_loop.trips) (v6 : BitVec 32) (k0_hw1 : k0_chk1 k0_t1 v6) (k0_t2 : Fin (k0_t2_loop v6).trips), ∀ (k0_h4 : k0_cond4 v6 k0_t2 = 1#1), ∀ a, (k0_off15 k0_t1 v6 k0_t2) a + S32x128.size a ≤ S32x49152.size a := fun k0_t1 v6 k0_hw1 k0_t2 k0_h4 => k0_hw1.2.2.2.2.1 k0_t2 k0_h4
theorem k0_off16_inb : ∀ (k0_t1 : Fin k0_t1_loop.trips) (v6 : BitVec 32) (k0_hw1 : k0_chk1 k0_t1 v6) (k0_t2 : Fin (k0_t2_loop v6).trips) (k0_t3 : Fin k0_t3_loop.trips), ∀ a, (k0_off16 k0_t1 v6 k0_t2 k0_t3) a + S1x1.size a ≤ S24x2048.size a := fun k0_t1 v6 k0_hw1 k0_t2 k0_t3 => k0_hw1.2.2.2.2.2.1 k0_t2 k0_t3
theorem k0_mult5_dvd : ∀ (k0_t1 : Fin k0_t1_loop.trips) (v6 : BitVec 32) (k0_hw1 : k0_chk1 k0_t1 v6) (k0_t2 : Fin (k0_t2_loop v6).trips), 128 ∣ (k0_mult5 k0_t1 v6 k0_t2).toNat := fun k0_t1 v6 k0_hw1 k0_t2 => k0_hw1.2.2.2.2.2.2.1 k0_t2
theorem k0_off19_inb : ∀ (k0_t1 : Fin k0_t1_loop.trips) (v6 : BitVec 32) (k0_hw1 : k0_chk1 k0_t1 v6) (k0_t2 : Fin (k0_t2_loop v6).trips), ∀ a, (k0_off19 v6 k0_t2) a + S1.size a ≤ S4.size a := fun k0_t1 v6 k0_hw1 k0_t2 => k0_hw1.2.2.2.2.2.2.2.1 k0_t2
theorem k0_off20_inb : ∀ (k0_t1 : Fin k0_t1_loop.trips) (v6 : BitVec 32) (k0_hw1 : k0_chk1 k0_t1 v6) (k0_t2 : Fin (k0_t2_loop v6).trips), ∀ a, (k0_off20 v6 k0_t2) a + S1x32x128.size a ≤ S4x32x128.size a := fun k0_t1 v6 k0_hw1 k0_t2 => k0_hw1.2.2.2.2.2.2.2.2.1 k0_t2
theorem k0_off21_inb : ∀ (k0_t1 : Fin k0_t1_loop.trips) (v6 : BitVec 32) (k0_hw1 : k0_chk1 k0_t1 v6) (k0_t2 : Fin (k0_t2_loop v6).trips), ∀ a, (k0_off21 k0_t1 v6 k0_t2) a + S32x128.size a ≤ S32x49152.size a := fun k0_t1 v6 k0_hw1 k0_t2 => k0_hw1.2.2.2.2.2.2.2.2.2.1 k0_t2
theorem k0_off23_inb : ∀ (k0_t1 : Fin k0_t1_loop.trips) (v6 : BitVec 32) (k0_hw1 : k0_chk1 k0_t1 v6) (k0_t2 : Fin (k0_t2_loop v6).trips), ∀ a, (k0_off23 v6 k0_t2) a + S1x16x128.size a ≤ S4x32x128.size a := fun k0_t1 v6 k0_hw1 k0_t2 => k0_hw1.2.2.2.2.2.2.2.2.2.2.1 k0_t2
theorem k0_off24_inb : ∀ (k0_t1 : Fin k0_t1_loop.trips) (v6 : BitVec 32) (k0_hw1 : k0_chk1 k0_t1 v6) (k0_t2 : Fin (k0_t2_loop v6).trips), ∀ a, (k0_off24 v6 k0_t2) a + S1x16x128.size a ≤ S4x32x128.size a := fun k0_t1 v6 k0_hw1 k0_t2 => k0_hw1.2.2.2.2.2.2.2.2.2.2.2.1 k0_t2
theorem k0_t4_ok : ∀ (k0_t1 : Fin k0_t1_loop.trips) (v6 : BitVec 32) (k0_hw1 : k0_chk1 k0_t1 v6), (k0_t4_loop v6).OK := fun k0_t1 v6 k0_hw1 => k0_hw1.2.2.2.2.2.2.2.2.2.2.2.2.1
theorem k0_mult6_dvd : ∀ (k0_t1 : Fin k0_t1_loop.trips) (v6 : BitVec 32) (k0_hw1 : k0_chk1 k0_t1 v6) (k0_t4 : Fin (k0_t4_loop v6).trips), ∀ (k0_h5 : k0_cond5 v6 k0_t4 = 1#1), 128 ∣ (k0_mult6 k0_t1 v6 k0_t4).toNat := fun k0_t1 v6 k0_hw1 k0_t4 k0_h5 => k0_hw1.2.2.2.2.2.2.2.2.2.2.2.2.2.1 k0_t4 k0_h5
theorem k0_off25_inb : ∀ (k0_t1 : Fin k0_t1_loop.trips) (v6 : BitVec 32) (k0_hw1 : k0_chk1 k0_t1 v6) (k0_t4 : Fin (k0_t4_loop v6).trips), ∀ (k0_h5 : k0_cond5 v6 k0_t4 = 1#1), ∀ a, (k0_off25 v6 k0_t4) a + S1.size a ≤ S4.size a := fun k0_t1 v6 k0_hw1 k0_t4 k0_h5 => k0_hw1.2.2.2.2.2.2.2.2.2.2.2.2.2.2.1 k0_t4 k0_h5
theorem k0_off26_inb : ∀ (k0_t1 : Fin k0_t1_loop.trips) (v6 : BitVec 32) (k0_hw1 : k0_chk1 k0_t1 v6) (k0_t4 : Fin (k0_t4_loop v6).trips), ∀ (k0_h5 : k0_cond5 v6 k0_t4 = 1#1), ∀ a, (k0_off26 v6 k0_t4) a + S1x32x128.size a ≤ S4x32x128.size a := fun k0_t1 v6 k0_hw1 k0_t4 k0_h5 => k0_hw1.2.2.2.2.2.2.2.2.2.2.2.2.2.2.2.1 k0_t4 k0_h5
theorem k0_off27_inb : ∀ (k0_t1 : Fin k0_t1_loop.trips) (v6 : BitVec 32) (k0_hw1 : k0_chk1 k0_t1 v6) (k0_t4 : Fin (k0_t4_loop v6).trips), ∀ (k0_h5 : k0_cond5 v6 k0_t4 = 1#1), ∀ a, (k0_off27 k0_t1 v6 k0_t4) a + S32x128.size a ≤ S32x49152.size a := fun k0_t1 v6 k0_hw1 k0_t4 k0_h5 => k0_hw1.2.2.2.2.2.2.2.2.2.2.2.2.2.2.2.2.1 k0_t4 k0_h5
theorem k0_off28_inb : ∀ (k0_t1 : Fin k0_t1_loop.trips) (v6 : BitVec 32) (k0_hw1 : k0_chk1 k0_t1 v6) (k0_t4 : Fin (k0_t4_loop v6).trips) (k0_t5 : Fin k0_t5_loop.trips), ∀ a, (k0_off28 k0_t1 v6 k0_t4 k0_t5) a + S1x1.size a ≤ S24x2048.size a := fun k0_t1 v6 k0_hw1 k0_t4 k0_t5 => k0_hw1.2.2.2.2.2.2.2.2.2.2.2.2.2.2.2.2.2.1 k0_t4 k0_t5
theorem k0_mult7_dvd : ∀ (k0_t1 : Fin k0_t1_loop.trips) (v6 : BitVec 32) (k0_hw1 : k0_chk1 k0_t1 v6) (k0_t4 : Fin (k0_t4_loop v6).trips), 128 ∣ (k0_mult7 k0_t1 v6 k0_t4).toNat := fun k0_t1 v6 k0_hw1 k0_t4 => k0_hw1.2.2.2.2.2.2.2.2.2.2.2.2.2.2.2.2.2.2.1 k0_t4
theorem k0_off31_inb : ∀ (k0_t1 : Fin k0_t1_loop.trips) (v6 : BitVec 32) (k0_hw1 : k0_chk1 k0_t1 v6) (k0_t4 : Fin (k0_t4_loop v6).trips), ∀ a, (k0_off31 v6 k0_t4) a + S1.size a ≤ S4.size a := fun k0_t1 v6 k0_hw1 k0_t4 => k0_hw1.2.2.2.2.2.2.2.2.2.2.2.2.2.2.2.2.2.2.2.1 k0_t4
theorem k0_off32_inb : ∀ (k0_t1 : Fin k0_t1_loop.trips) (v6 : BitVec 32) (k0_hw1 : k0_chk1 k0_t1 v6) (k0_t4 : Fin (k0_t4_loop v6).trips), ∀ a, (k0_off32 v6 k0_t4) a + S1x32x128.size a ≤ S4x32x128.size a := fun k0_t1 v6 k0_hw1 k0_t4 => k0_hw1.2.2.2.2.2.2.2.2.2.2.2.2.2.2.2.2.2.2.2.2.1 k0_t4
theorem k0_off33_inb : ∀ (k0_t1 : Fin k0_t1_loop.trips) (v6 : BitVec 32) (k0_hw1 : k0_chk1 k0_t1 v6) (k0_t4 : Fin (k0_t4_loop v6).trips), ∀ a, (k0_off33 k0_t1 v6 k0_t4) a + S32x128.size a ≤ S32x49152.size a := fun k0_t1 v6 k0_hw1 k0_t4 => k0_hw1.2.2.2.2.2.2.2.2.2.2.2.2.2.2.2.2.2.2.2.2.2.1 k0_t4
theorem k0_off35_inb : ∀ (k0_t1 : Fin k0_t1_loop.trips) (v6 : BitVec 32) (k0_hw1 : k0_chk1 k0_t1 v6) (k0_t4 : Fin (k0_t4_loop v6).trips), ∀ a, (k0_off35 v6 k0_t4) a + S1x16x128.size a ≤ S4x32x128.size a := fun k0_t1 v6 k0_hw1 k0_t4 => k0_hw1.2.2.2.2.2.2.2.2.2.2.2.2.2.2.2.2.2.2.2.2.2.2.1 k0_t4
theorem k0_off36_inb : ∀ (k0_t1 : Fin k0_t1_loop.trips) (v6 : BitVec 32) (k0_hw1 : k0_chk1 k0_t1 v6) (k0_t4 : Fin (k0_t4_loop v6).trips), ∀ a, (k0_off36 v6 k0_t4) a + S1x16x128.size a ≤ S4x32x128.size a := fun k0_t1 v6 k0_hw1 k0_t4 => k0_hw1.2.2.2.2.2.2.2.2.2.2.2.2.2.2.2.2.2.2.2.2.2.2.2 k0_t4

def k0_off37 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v50 : Index := Scalar.indexCast v4
  let c0_22 : Index := 0#32
  let c0_23 : Index := 0#32
  ![v50.toNat, 0, 0]
def k0_off38 (k0_t1 : Fin k0_t1_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v70 : Index := Scalar.indexCast v4
  let c0_28 : Index := 0#32
  ![v70.toNat, 0]
def k0_off39 (k0_t1 : Fin k0_t1_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v75 : Index := Scalar.indexCast v4
  let c0_29 : Index := 0#32
  ![v75.toNat, 0]
def k0_off40 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v88 : Index := Scalar.indexCast v4
  let c0_30 : Index := 0#32
  let c0_31 : Index := 0#32
  ![v88.toNat, 0, 0]
def k0_off41 (k0_t1 : Fin k0_t1_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v165 : Index := Scalar.indexCast v4
  let c0_53 : Index := 0#32
  ![v165.toNat, 0]
def k0_off42 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v365 : Index := Scalar.indexCast v4
  let c0_138 : Index := 0#32
  let c0_139 : Index := 0#32
  ![v365.toNat, 0, 0]
def k0_mult8 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c0_i32_172 : BitVec 32 := 0#32
  let v417 : BitVec 32 := Scalar.addi v416 c0_i32_172
  v417
def k0_off43 : Fin 1 → Nat :=
  let c0_i32_173 : BitVec 32 := 0#32
  let c4_i32 : BitVec 32 := 4#32
  let v419 : BitVec 32 := Scalar.remsi c0_i32_173 c4_i32
  ![v419.toNat]
def k0_off44 : Fin 3 → Nat :=
  let c0_i32_173 : BitVec 32 := 0#32
  let c4_i32 : BitVec 32 := 4#32
  let v419 : BitVec 32 := Scalar.remsi c0_i32_173 c4_i32
  let c0_i32_174 : BitVec 32 := 0#32
  let c0_i32_175 : BitVec 32 := 0#32
  ![v419.toNat, 0, 0]
def k0_off45 (k0_t1 : Fin k0_t1_loop.trips) : Fin 2 → Nat :=
  let c0_i32_176 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c0_i32_172 : BitVec 32 := 0#32
  let v417 : BitVec 32 := Scalar.addi v416 c0_i32_172
  let v418 : BitVec 32 := v417
  ![0, v418.toNat]
def k0_mult9 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c128_i32 : BitVec 32 := 128#32
  let v417 : BitVec 32 := Scalar.addi v416 c128_i32
  v417
def k0_off46 : Fin 1 → Nat :=
  let c1_i32_172 : BitVec 32 := 1#32
  let c4_i32 : BitVec 32 := 4#32
  let v419 : BitVec 32 := Scalar.remsi c1_i32_172 c4_i32
  ![v419.toNat]
def k0_off47 : Fin 3 → Nat :=
  let c1_i32_172 : BitVec 32 := 1#32
  let c4_i32 : BitVec 32 := 4#32
  let v419 : BitVec 32 := Scalar.remsi c1_i32_172 c4_i32
  let c0_i32_173 : BitVec 32 := 0#32
  let c0_i32_174 : BitVec 32 := 0#32
  ![v419.toNat, 0, 0]
def k0_off48 (k0_t1 : Fin k0_t1_loop.trips) : Fin 2 → Nat :=
  let c0_i32_175 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c128_i32 : BitVec 32 := 128#32
  let v417 : BitVec 32 := Scalar.addi v416 c128_i32
  let v418 : BitVec 32 := v417
  ![0, v418.toNat]
def k0_mult10 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c256_i32 : BitVec 32 := 256#32
  let v417 : BitVec 32 := Scalar.addi v416 c256_i32
  v417
def k0_off49 : Fin 1 → Nat :=
  let c2_i32_172 : BitVec 32 := 2#32
  let c4_i32 : BitVec 32 := 4#32
  let v419 : BitVec 32 := Scalar.remsi c2_i32_172 c4_i32
  ![v419.toNat]
def k0_off50 : Fin 3 → Nat :=
  let c2_i32_172 : BitVec 32 := 2#32
  let c4_i32 : BitVec 32 := 4#32
  let v419 : BitVec 32 := Scalar.remsi c2_i32_172 c4_i32
  let c0_i32_173 : BitVec 32 := 0#32
  let c0_i32_174 : BitVec 32 := 0#32
  ![v419.toNat, 0, 0]
def k0_off51 (k0_t1 : Fin k0_t1_loop.trips) : Fin 2 → Nat :=
  let c0_i32_175 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c256_i32 : BitVec 32 := 256#32
  let v417 : BitVec 32 := Scalar.addi v416 c256_i32
  let v418 : BitVec 32 := v417
  ![0, v418.toNat]
@[reducible] def k0_t6_loop (v6 : BitVec 32) : Scf.Loop 32 :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_148 : BitVec 32 := 1#32
  ⟨c0_i32_146, v381, c1_i32_148⟩
def k0_cond6 (v180 : BitVec 1) (v190 : BitVec 1) (v201 : BitVec 1) : BitVec 1 :=
  let v202 : BitVec 1 := Scalar.andi v190 v201
  let v_true : BitVec 1 := 1#1
  let v203 : BitVec 1 := Scalar.xori v202 v_true
  let v204 : BitVec 1 := Scalar.ori v180 v203
  let v205 : BitVec 32 := Scalar.extui v204
  let c0_i32_68 : BitVec 32 := 0#32
  let v206 : BitVec 1 := Scalar.cmpi .ne v205 c0_i32_68
  v206

def k0_cond7 (v190 : BitVec 1) (v201 : BitVec 1) : BitVec 1 :=
  let v202 : BitVec 1 := Scalar.andi v190 v201
  let v_true : BitVec 1 := 1#1
  let v203 : BitVec 1 := Scalar.xori v202 v_true
  let v213 : BitVec 32 := Scalar.extui v203
  let c0_i32_74 : BitVec 32 := 0#32
  let v214 : BitVec 1 := Scalar.cmpi .ne v213 c0_i32_74
  v214

def k0_mult11 (k0_t1 : Fin k0_t1_loop.trips) (v6 : BitVec 32) (k0_t6 : Fin (k0_t6_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_259 : BitVec 32 := 2048#32
  let v837 : BitVec 32 := Scalar.muli v4 c2048_i32_259
  let c0_i32_146 : BitVec 32 := 0#32
  let c1_i32_148 : BitVec 32 := 1#32
  let arg16 : BitVec 32 := Scf.iv c0_i32_146 c1_i32_148 k0_t6
  let c4_i32_257 : BitVec 32 := 4#32
  let v835 : BitVec 32 := Scalar.addi arg16 c4_i32_257
  let c1_i32_258 : BitVec 32 := 1#32
  let v836 : BitVec 32 := Scalar.subi v835 c1_i32_258
  let c128_i32_260 : BitVec 32 := 128#32
  let v838 : BitVec 32 := Scalar.muli v836 c128_i32_260
  let v839 : BitVec 32 := Scalar.addi v837 v838
  v839
def k0_cond11 (v6 : BitVec 32) (k0_t6 : Fin (k0_t6_loop v6).trips) : BitVec 1 :=
  let c0_i32_146 : BitVec 32 := 0#32
  let c1_i32_148 : BitVec 32 := 1#32
  let arg16 : BitVec 32 := Scf.iv c0_i32_146 c1_i32_148 k0_t6
  let c4_i32 : BitVec 32 := 4#32
  let v416 : BitVec 32 := Scalar.addi arg16 c4_i32
  let c1_i32_171 : BitVec 32 := 1#32
  let v417 : BitVec 32 := Scalar.subi v416 c1_i32_171
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v418 : BitVec 1 := Scalar.cmpi .slt v417 v24
  let v419 : BitVec 32 := Scalar.extui v418
  let c0_i32_172 : BitVec 32 := 0#32
  let v420 : BitVec 1 := Scalar.cmpi .ne v419 c0_i32_172
  v420

def k0_off52 (v6 : BitVec 32) (k0_t6 : Fin (k0_t6_loop v6).trips) : Fin 1 → Nat :=
  let c0_i32_146 : BitVec 32 := 0#32
  let c1_i32_148 : BitVec 32 := 1#32
  let arg16 : BitVec 32 := Scf.iv c0_i32_146 c1_i32_148 k0_t6
  let c4_i32_257 : BitVec 32 := 4#32
  let v835 : BitVec 32 := Scalar.addi arg16 c4_i32_257
  let c1_i32_258 : BitVec 32 := 1#32
  let v836 : BitVec 32 := Scalar.subi v835 c1_i32_258
  let c4_i32_261 : BitVec 32 := 4#32
  let v841 : BitVec 32 := Scalar.remsi v836 c4_i32_261
  ![v841.toNat]
def k0_off53 (v6 : BitVec 32) (k0_t6 : Fin (k0_t6_loop v6).trips) : Fin 3 → Nat :=
  let c0_i32_146 : BitVec 32 := 0#32
  let c1_i32_148 : BitVec 32 := 1#32
  let arg16 : BitVec 32 := Scf.iv c0_i32_146 c1_i32_148 k0_t6
  let c4_i32_257 : BitVec 32 := 4#32
  let v835 : BitVec 32 := Scalar.addi arg16 c4_i32_257
  let c1_i32_258 : BitVec 32 := 1#32
  let v836 : BitVec 32 := Scalar.subi v835 c1_i32_258
  let c4_i32_261 : BitVec 32 := 4#32
  let v841 : BitVec 32 := Scalar.remsi v836 c4_i32_261
  let c0_i32_262 : BitVec 32 := 0#32
  let c0_i32_263 : BitVec 32 := 0#32
  ![v841.toNat, 0, 0]
def k0_off54 (k0_t1 : Fin k0_t1_loop.trips) (v6 : BitVec 32) (k0_t6 : Fin (k0_t6_loop v6).trips) : Fin 2 → Nat :=
  let c0_i32_264 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_259 : BitVec 32 := 2048#32
  let v837 : BitVec 32 := Scalar.muli v4 c2048_i32_259
  let c0_i32_146 : BitVec 32 := 0#32
  let c1_i32_148 : BitVec 32 := 1#32
  let arg16 : BitVec 32 := Scf.iv c0_i32_146 c1_i32_148 k0_t6
  let c4_i32_257 : BitVec 32 := 4#32
  let v835 : BitVec 32 := Scalar.addi arg16 c4_i32_257
  let c1_i32_258 : BitVec 32 := 1#32
  let v836 : BitVec 32 := Scalar.subi v835 c1_i32_258
  let c128_i32_260 : BitVec 32 := 128#32
  let v838 : BitVec 32 := Scalar.muli v836 c128_i32_260
  let v839 : BitVec 32 := Scalar.addi v837 v838
  let v840 : BitVec 32 := v839
  ![0, v840.toNat]
@[reducible] def k0_t7_loop : Scf.Loop 32 :=
  let c0_i32_173 : BitVec 32 := 0#32
  let c128_i32 : BitVec 32 := 128#32
  let v421 : BitVec 32 := Scalar.addi c0_i32_173 c128_i32
  let c1_i32_174 : BitVec 32 := 1#32
  ⟨c0_i32_173, v421, c1_i32_174⟩
def k0_off55 (k0_t1 : Fin k0_t1_loop.trips) (v6 : BitVec 32) (k0_t6 : Fin (k0_t6_loop v6).trips) (k0_t7 : Fin k0_t7_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v839 : Index := Scalar.indexCast v4
  let c0_i32_146 : BitVec 32 := 0#32
  let c1_i32_148 : BitVec 32 := 1#32
  let arg16 : BitVec 32 := Scf.iv c0_i32_146 c1_i32_148 k0_t6
  let c128_i32_259 : BitVec 32 := 128#32
  let v837 : BitVec 32 := Scalar.muli arg16 c128_i32_259
  let c0_i32_258 : BitVec 32 := 0#32
  let c0_i32_173 : BitVec 32 := 0#32
  let c1_i32_174 : BitVec 32 := 1#32
  let arg18 : BitVec 32 := Scf.iv c0_i32_173 c1_i32_174 k0_t7
  let c1_i32_257 : BitVec 32 := 1#32
  let v835 : BitVec 32 := Scalar.muli arg18 c1_i32_257
  let v836 : BitVec 32 := Scalar.addi c0_i32_258 v835
  let v838 : BitVec 32 := Scalar.addi v837 v836
  let v840 : Index := Scalar.indexCast v838
  ![v839.toNat, v840.toNat]
def k0_off56 (v841 : BitVec 32) : Fin 2 → Nat :=
  let c2_i32_260 : BitVec 32 := 2#32
  let v842 : BitVec 32 := Scalar.muli c2_i32_260 v841
  let v843 : Index := Scalar.indexCast v842
  let c0_261 : Index := 0#32
  ![v843.toNat, 0]

def k0_chk5 (v180 : BitVec 1) (v190 : BitVec 1) (v201 : BitVec 1) (v841 : BitVec 32) : Prop :=
  (∀ (k0_h6 : k0_cond6 v180 v190 v201 = 1#1), ∀ (k0_h7 : k0_cond7 v190 v201 = 1#1), ∀ a, (k0_off56 v841) a + S2x128.size a ≤ S122880x128.size a)
theorem k0_off56_inb : ∀ (v180 : BitVec 1) (v190 : BitVec 1) (v201 : BitVec 1) (v841 : BitVec 32) (k0_hw5 : k0_chk5 v180 v190 v201 v841), ∀ (k0_h6 : k0_cond6 v180 v190 v201 = 1#1), ∀ (k0_h7 : k0_cond7 v190 v201 = 1#1), ∀ a, (k0_off56 v841) a + S2x128.size a ≤ S122880x128.size a := fun v180 v190 v201 v841 k0_hw5 k0_h6 k0_h7 => k0_hw5 k0_h6 k0_h7

def k0_off57 (k0_t7 : Fin k0_t7_loop.trips) : Fin 2 → Nat :=
  let c2_i32_262 : BitVec 32 := 2#32
  let c0_i32_258 : BitVec 32 := 0#32
  let c0_i32_173 : BitVec 32 := 0#32
  let c1_i32_174 : BitVec 32 := 1#32
  let arg18 : BitVec 32 := Scf.iv c0_i32_173 c1_i32_174 k0_t7
  let c1_i32_257 : BitVec 32 := 1#32
  let v835 : BitVec 32 := Scalar.muli arg18 c1_i32_257
  let v836 : BitVec 32 := Scalar.addi c0_i32_258 v835
  let v845 : BitVec 32 := Scalar.muli c2_i32_262 v836
  let v846 : Index := Scalar.indexCast v845
  let c0_263 : Index := 0#32
  ![v846.toNat, 0]
def k0_mult12 (k0_t1 : Fin k0_t1_loop.trips) (v6 : BitVec 32) (k0_t6 : Fin (k0_t6_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_146 : BitVec 32 := 0#32
  let c1_i32_148 : BitVec 32 := 1#32
  let arg16 : BitVec 32 := Scf.iv c0_i32_146 c1_i32_148 k0_t6
  let c128_i32_177 : BitVec 32 := 128#32
  let v423 : BitVec 32 := Scalar.muli arg16 c128_i32_177
  let v424 : BitVec 32 := Scalar.addi v422 v423
  v424
def k0_off58 (v6 : BitVec 32) (k0_t6 : Fin (k0_t6_loop v6).trips) : Fin 1 → Nat :=
  let c0_i32_146 : BitVec 32 := 0#32
  let c1_i32_148 : BitVec 32 := 1#32
  let arg16 : BitVec 32 := Scf.iv c0_i32_146 c1_i32_148 k0_t6
  let c4_i32_178 : BitVec 32 := 4#32
  let v426 : BitVec 32 := Scalar.remsi arg16 c4_i32_178
  ![v426.toNat]
def k0_off59 (v6 : BitVec 32) (k0_t6 : Fin (k0_t6_loop v6).trips) : Fin 3 → Nat :=
  let c0_i32_146 : BitVec 32 := 0#32
  let c1_i32_148 : BitVec 32 := 1#32
  let arg16 : BitVec 32 := Scf.iv c0_i32_146 c1_i32_148 k0_t6
  let c4_i32_178 : BitVec 32 := 4#32
  let v426 : BitVec 32 := Scalar.remsi arg16 c4_i32_178
  let c0_i32_179 : BitVec 32 := 0#32
  let c0_i32_180 : BitVec 32 := 0#32
  ![v426.toNat, 0, 0]
def k0_off60 (k0_t1 : Fin k0_t1_loop.trips) (v6 : BitVec 32) (k0_t6 : Fin (k0_t6_loop v6).trips) : Fin 2 → Nat :=
  let c0_i32_181 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_146 : BitVec 32 := 0#32
  let c1_i32_148 : BitVec 32 := 1#32
  let arg16 : BitVec 32 := Scf.iv c0_i32_146 c1_i32_148 k0_t6
  let c128_i32_177 : BitVec 32 := 128#32
  let v423 : BitVec 32 := Scalar.muli arg16 c128_i32_177
  let v424 : BitVec 32 := Scalar.addi v422 v423
  let v425 : BitVec 32 := v424
  ![0, v425.toNat]
def k0_off61 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v439 : Index := Scalar.indexCast v4
  ![v439.toNat]
def k0_off62 (v6 : BitVec 32) (k0_t6 : Fin (k0_t6_loop v6).trips) : Fin 3 → Nat :=
  let c0_i32_146 : BitVec 32 := 0#32
  let c1_i32_148 : BitVec 32 := 1#32
  let arg16 : BitVec 32 := Scf.iv c0_i32_146 c1_i32_148 k0_t6
  let c4_i32_182 : BitVec 32 := 4#32
  let v432 : BitVec 32 := Scalar.remsi arg16 c4_i32_182
  let v443 : Index := Scalar.indexCast v432
  let c0_184 : Index := 0#32
  let c0_185 : Index := 0#32
  ![v443.toNat, 0, 0]
def k0_off63 (v6 : BitVec 32) (k0_t6 : Fin (k0_t6_loop v6).trips) : Fin 3 → Nat :=
  let c0_i32_146 : BitVec 32 := 0#32
  let c1_i32_148 : BitVec 32 := 1#32
  let arg16 : BitVec 32 := Scf.iv c0_i32_146 c1_i32_148 k0_t6
  let c4_i32_182 : BitVec 32 := 4#32
  let v432 : BitVec 32 := Scalar.remsi arg16 c4_i32_182
  let v450 : Index := Scalar.indexCast v432
  let c16 : Index := 16#32
  let c0_188 : Index := 0#32
  ![v450.toNat, 16, 0]
@[reducible] def k0_t8_loop (v6 : BitVec 32) : Scf.Loop 32 :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let v378 : BitVec 32 := Scalar.addi c0_i32_146 v377
  let c1_i32_149 : BitVec 32 := 1#32
  ⟨v381, v378, c1_i32_149⟩
def k0_mult13 (k0_t1 : Fin k0_t1_loop.trips) (v6 : BitVec 32) (k0_t8 : Fin (k0_t8_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_259 : BitVec 32 := 2048#32
  let v837 : BitVec 32 := Scalar.muli v4 c2048_i32_259
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_257 : BitVec 32 := 4#32
  let v835 : BitVec 32 := Scalar.addi arg16 c4_i32_257
  let c1_i32_258 : BitVec 32 := 1#32
  let v836 : BitVec 32 := Scalar.subi v835 c1_i32_258
  let c128_i32_260 : BitVec 32 := 128#32
  let v838 : BitVec 32 := Scalar.muli v836 c128_i32_260
  let v839 : BitVec 32 := Scalar.addi v837 v838
  v839
def k0_cond12 (v6 : BitVec 32) (k0_t8 : Fin (k0_t8_loop v6).trips) : BitVec 1 :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32 : BitVec 32 := 4#32
  let v416 : BitVec 32 := Scalar.addi arg16 c4_i32
  let c1_i32_171 : BitVec 32 := 1#32
  let v417 : BitVec 32 := Scalar.subi v416 c1_i32_171
  let v418 : BitVec 1 := Scalar.cmpi .slt v417 v24
  let v419 : BitVec 32 := Scalar.extui v418
  let c0_i32_172 : BitVec 32 := 0#32
  let v420 : BitVec 1 := Scalar.cmpi .ne v419 c0_i32_172
  v420

def k0_off64 (v6 : BitVec 32) (k0_t8 : Fin (k0_t8_loop v6).trips) : Fin 1 → Nat :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_257 : BitVec 32 := 4#32
  let v835 : BitVec 32 := Scalar.addi arg16 c4_i32_257
  let c1_i32_258 : BitVec 32 := 1#32
  let v836 : BitVec 32 := Scalar.subi v835 c1_i32_258
  let c4_i32_261 : BitVec 32 := 4#32
  let v841 : BitVec 32 := Scalar.remsi v836 c4_i32_261
  ![v841.toNat]
def k0_off65 (v6 : BitVec 32) (k0_t8 : Fin (k0_t8_loop v6).trips) : Fin 3 → Nat :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_257 : BitVec 32 := 4#32
  let v835 : BitVec 32 := Scalar.addi arg16 c4_i32_257
  let c1_i32_258 : BitVec 32 := 1#32
  let v836 : BitVec 32 := Scalar.subi v835 c1_i32_258
  let c4_i32_261 : BitVec 32 := 4#32
  let v841 : BitVec 32 := Scalar.remsi v836 c4_i32_261
  let c0_i32_262 : BitVec 32 := 0#32
  let c0_i32_263 : BitVec 32 := 0#32
  ![v841.toNat, 0, 0]
def k0_off66 (k0_t1 : Fin k0_t1_loop.trips) (v6 : BitVec 32) (k0_t8 : Fin (k0_t8_loop v6).trips) : Fin 2 → Nat :=
  let c0_i32_264 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_259 : BitVec 32 := 2048#32
  let v837 : BitVec 32 := Scalar.muli v4 c2048_i32_259
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_257 : BitVec 32 := 4#32
  let v835 : BitVec 32 := Scalar.addi arg16 c4_i32_257
  let c1_i32_258 : BitVec 32 := 1#32
  let v836 : BitVec 32 := Scalar.subi v835 c1_i32_258
  let c128_i32_260 : BitVec 32 := 128#32
  let v838 : BitVec 32 := Scalar.muli v836 c128_i32_260
  let v839 : BitVec 32 := Scalar.addi v837 v838
  let v840 : BitVec 32 := v839
  ![0, v840.toNat]
@[reducible] def k0_t9_loop : Scf.Loop 32 :=
  let c0_i32_173 : BitVec 32 := 0#32
  let c128_i32 : BitVec 32 := 128#32
  let v421 : BitVec 32 := Scalar.addi c0_i32_173 c128_i32
  let c1_i32_174 : BitVec 32 := 1#32
  ⟨c0_i32_173, v421, c1_i32_174⟩
def k0_off67 (k0_t1 : Fin k0_t1_loop.trips) (v6 : BitVec 32) (k0_t8 : Fin (k0_t8_loop v6).trips) (k0_t9 : Fin k0_t9_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v839 : Index := Scalar.indexCast v4
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c128_i32_259 : BitVec 32 := 128#32
  let v837 : BitVec 32 := Scalar.muli arg16 c128_i32_259
  let c0_i32_258 : BitVec 32 := 0#32
  let c0_i32_173 : BitVec 32 := 0#32
  let c1_i32_174 : BitVec 32 := 1#32
  let arg18 : BitVec 32 := Scf.iv c0_i32_173 c1_i32_174 k0_t9
  let c1_i32_257 : BitVec 32 := 1#32
  let v835 : BitVec 32 := Scalar.muli arg18 c1_i32_257
  let v836 : BitVec 32 := Scalar.addi c0_i32_258 v835
  let v838 : BitVec 32 := Scalar.addi v837 v836
  let v840 : Index := Scalar.indexCast v838
  ![v839.toNat, v840.toNat]
def k0_off68 (v841 : BitVec 32) : Fin 2 → Nat :=
  let c2_i32_260 : BitVec 32 := 2#32
  let v842 : BitVec 32 := Scalar.muli c2_i32_260 v841
  let v843 : Index := Scalar.indexCast v842
  let c0_261 : Index := 0#32
  ![v843.toNat, 0]

def k0_chk6 (v180 : BitVec 1) (v190 : BitVec 1) (v201 : BitVec 1) (v841 : BitVec 32) : Prop :=
  (∀ (k0_h6 : k0_cond6 v180 v190 v201 = 1#1), ∀ (k0_h7 : k0_cond7 v190 v201 = 1#1), ∀ a, (k0_off68 v841) a + S2x128.size a ≤ S122880x128.size a)
theorem k0_off68_inb : ∀ (v180 : BitVec 1) (v190 : BitVec 1) (v201 : BitVec 1) (v841 : BitVec 32) (k0_hw6 : k0_chk6 v180 v190 v201 v841), ∀ (k0_h6 : k0_cond6 v180 v190 v201 = 1#1), ∀ (k0_h7 : k0_cond7 v190 v201 = 1#1), ∀ a, (k0_off68 v841) a + S2x128.size a ≤ S122880x128.size a := fun v180 v190 v201 v841 k0_hw6 k0_h6 k0_h7 => k0_hw6 k0_h6 k0_h7

def k0_off69 (k0_t9 : Fin k0_t9_loop.trips) : Fin 2 → Nat :=
  let c2_i32_262 : BitVec 32 := 2#32
  let c0_i32_258 : BitVec 32 := 0#32
  let c0_i32_173 : BitVec 32 := 0#32
  let c1_i32_174 : BitVec 32 := 1#32
  let arg18 : BitVec 32 := Scf.iv c0_i32_173 c1_i32_174 k0_t9
  let c1_i32_257 : BitVec 32 := 1#32
  let v835 : BitVec 32 := Scalar.muli arg18 c1_i32_257
  let v836 : BitVec 32 := Scalar.addi c0_i32_258 v835
  let v845 : BitVec 32 := Scalar.muli c2_i32_262 v836
  let v846 : Index := Scalar.indexCast v845
  let c0_263 : Index := 0#32
  ![v846.toNat, 0]
def k0_mult14 (k0_t1 : Fin k0_t1_loop.trips) (v6 : BitVec 32) (k0_t8 : Fin (k0_t8_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c128_i32_177 : BitVec 32 := 128#32
  let v423 : BitVec 32 := Scalar.muli arg16 c128_i32_177
  let v424 : BitVec 32 := Scalar.addi v422 v423
  v424
def k0_off70 (v6 : BitVec 32) (k0_t8 : Fin (k0_t8_loop v6).trips) : Fin 1 → Nat :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_178 : BitVec 32 := 4#32
  let v426 : BitVec 32 := Scalar.remsi arg16 c4_i32_178
  ![v426.toNat]
def k0_off71 (v6 : BitVec 32) (k0_t8 : Fin (k0_t8_loop v6).trips) : Fin 3 → Nat :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_178 : BitVec 32 := 4#32
  let v426 : BitVec 32 := Scalar.remsi arg16 c4_i32_178
  let c0_i32_179 : BitVec 32 := 0#32
  let c0_i32_180 : BitVec 32 := 0#32
  ![v426.toNat, 0, 0]
def k0_off72 (k0_t1 : Fin k0_t1_loop.trips) (v6 : BitVec 32) (k0_t8 : Fin (k0_t8_loop v6).trips) : Fin 2 → Nat :=
  let c0_i32_181 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c128_i32_177 : BitVec 32 := 128#32
  let v423 : BitVec 32 := Scalar.muli arg16 c128_i32_177
  let v424 : BitVec 32 := Scalar.addi v422 v423
  let v425 : BitVec 32 := v424
  ![0, v425.toNat]
def k0_off73 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v439 : Index := Scalar.indexCast v4
  ![v439.toNat]
def k0_off74 (v6 : BitVec 32) (k0_t8 : Fin (k0_t8_loop v6).trips) : Fin 3 → Nat :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_182 : BitVec 32 := 4#32
  let v432 : BitVec 32 := Scalar.remsi arg16 c4_i32_182
  let v443 : Index := Scalar.indexCast v432
  let c0_184 : Index := 0#32
  let c0_185 : Index := 0#32
  ![v443.toNat, 0, 0]
def k0_off75 (v6 : BitVec 32) (k0_t8 : Fin (k0_t8_loop v6).trips) : Fin 3 → Nat :=
  let c0_i32_146 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v377 : BitVec 32 := Scalar.subi v24 c0_i32_146
  let c1_i32_147 : BitVec 32 := 1#32
  let v379 : BitVec 32 := Scalar.divsi v377 c1_i32_147
  let v380 : BitVec 32 := Scalar.muli v379 c1_i32_147
  let v381 : BitVec 32 := Scalar.addi c0_i32_146 v380
  let c1_i32_149 : BitVec 32 := 1#32
  let arg16 : BitVec 32 := Scf.iv v381 c1_i32_149 k0_t8
  let c4_i32_182 : BitVec 32 := 4#32
  let v432 : BitVec 32 := Scalar.remsi arg16 c4_i32_182
  let v450 : Index := Scalar.indexCast v432
  let c16 : Index := 16#32
  let c0_188 : Index := 0#32
  ![v450.toNat, 16, 0]
def k0_mult15 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c0_i32_172 : BitVec 32 := 0#32
  let v417 : BitVec 32 := Scalar.addi v416 c0_i32_172
  v417
def k0_off76 : Fin 1 → Nat :=
  let c0_i32_173 : BitVec 32 := 0#32
  let c4_i32 : BitVec 32 := 4#32
  let v419 : BitVec 32 := Scalar.remsi c0_i32_173 c4_i32
  ![v419.toNat]
def k0_off77 : Fin 3 → Nat :=
  let c0_i32_173 : BitVec 32 := 0#32
  let c4_i32 : BitVec 32 := 4#32
  let v419 : BitVec 32 := Scalar.remsi c0_i32_173 c4_i32
  let c0_i32_174 : BitVec 32 := 0#32
  let c0_i32_175 : BitVec 32 := 0#32
  ![v419.toNat, 0, 0]
def k0_off78 (k0_t1 : Fin k0_t1_loop.trips) : Fin 2 → Nat :=
  let c0_i32_176 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c0_i32_172 : BitVec 32 := 0#32
  let v417 : BitVec 32 := Scalar.addi v416 c0_i32_172
  let v418 : BitVec 32 := v417
  ![0, v418.toNat]
def k0_mult16 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c128_i32 : BitVec 32 := 128#32
  let v417 : BitVec 32 := Scalar.addi v416 c128_i32
  v417
def k0_off79 : Fin 1 → Nat :=
  let c1_i32_172 : BitVec 32 := 1#32
  let c4_i32 : BitVec 32 := 4#32
  let v419 : BitVec 32 := Scalar.remsi c1_i32_172 c4_i32
  ![v419.toNat]
def k0_off80 : Fin 3 → Nat :=
  let c1_i32_172 : BitVec 32 := 1#32
  let c4_i32 : BitVec 32 := 4#32
  let v419 : BitVec 32 := Scalar.remsi c1_i32_172 c4_i32
  let c0_i32_173 : BitVec 32 := 0#32
  let c0_i32_174 : BitVec 32 := 0#32
  ![v419.toNat, 0, 0]
def k0_off81 (k0_t1 : Fin k0_t1_loop.trips) : Fin 2 → Nat :=
  let c0_i32_175 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c128_i32 : BitVec 32 := 128#32
  let v417 : BitVec 32 := Scalar.addi v416 c128_i32
  let v418 : BitVec 32 := v417
  ![0, v418.toNat]
def k0_mult17 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c256_i32 : BitVec 32 := 256#32
  let v417 : BitVec 32 := Scalar.addi v416 c256_i32
  v417
def k0_off82 : Fin 1 → Nat :=
  let c2_i32_172 : BitVec 32 := 2#32
  let c4_i32 : BitVec 32 := 4#32
  let v419 : BitVec 32 := Scalar.remsi c2_i32_172 c4_i32
  ![v419.toNat]
def k0_off83 : Fin 3 → Nat :=
  let c2_i32_172 : BitVec 32 := 2#32
  let c4_i32 : BitVec 32 := 4#32
  let v419 : BitVec 32 := Scalar.remsi c2_i32_172 c4_i32
  let c0_i32_173 : BitVec 32 := 0#32
  let c0_i32_174 : BitVec 32 := 0#32
  ![v419.toNat, 0, 0]
def k0_off84 (k0_t1 : Fin k0_t1_loop.trips) : Fin 2 → Nat :=
  let c0_i32_175 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_171 : BitVec 32 := 2048#32
  let v416 : BitVec 32 := Scalar.muli v4 c2048_i32_171
  let c256_i32 : BitVec 32 := 256#32
  let v417 : BitVec 32 := Scalar.addi v416 c256_i32
  let v418 : BitVec 32 := v417
  ![0, v418.toNat]
@[reducible] def k0_t10_loop (v6 : BitVec 32) : Scf.Loop 32 :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_166 : BitVec 32 := 1#32
  ⟨c0_i32_164, v410, c1_i32_166⟩
def k0_mult18 (k0_t1 : Fin k0_t1_loop.trips) (v6 : BitVec 32) (k0_t10 : Fin (k0_t10_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_315 : BitVec 32 := 2048#32
  let v1149 : BitVec 32 := Scalar.muli v4 c2048_i32_315
  let c0_i32_164 : BitVec 32 := 0#32
  let c1_i32_166 : BitVec 32 := 1#32
  let arg16 : BitVec 32 := Scf.iv c0_i32_164 c1_i32_166 k0_t10
  let c4_i32_313 : BitVec 32 := 4#32
  let v1147 : BitVec 32 := Scalar.addi arg16 c4_i32_313
  let c1_i32_314 : BitVec 32 := 1#32
  let v1148 : BitVec 32 := Scalar.subi v1147 c1_i32_314
  let c128_i32_316 : BitVec 32 := 128#32
  let v1150 : BitVec 32 := Scalar.muli v1148 c128_i32_316
  let v1151 : BitVec 32 := Scalar.addi v1149 v1150
  v1151
def k0_cond16 (v6 : BitVec 32) (k0_t10 : Fin (k0_t10_loop v6).trips) : BitVec 1 :=
  let c0_i32_164 : BitVec 32 := 0#32
  let c1_i32_166 : BitVec 32 := 1#32
  let arg16 : BitVec 32 := Scf.iv c0_i32_164 c1_i32_166 k0_t10
  let c4_i32 : BitVec 32 := 4#32
  let v416 : BitVec 32 := Scalar.addi arg16 c4_i32
  let c1_i32_171 : BitVec 32 := 1#32
  let v417 : BitVec 32 := Scalar.subi v416 c1_i32_171
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v418 : BitVec 1 := Scalar.cmpi .slt v417 v24
  let v419 : BitVec 32 := Scalar.extui v418
  let c0_i32_172 : BitVec 32 := 0#32
  let v420 : BitVec 1 := Scalar.cmpi .ne v419 c0_i32_172
  v420

def k0_off85 (v6 : BitVec 32) (k0_t10 : Fin (k0_t10_loop v6).trips) : Fin 1 → Nat :=
  let c0_i32_164 : BitVec 32 := 0#32
  let c1_i32_166 : BitVec 32 := 1#32
  let arg16 : BitVec 32 := Scf.iv c0_i32_164 c1_i32_166 k0_t10
  let c4_i32_313 : BitVec 32 := 4#32
  let v1147 : BitVec 32 := Scalar.addi arg16 c4_i32_313
  let c1_i32_314 : BitVec 32 := 1#32
  let v1148 : BitVec 32 := Scalar.subi v1147 c1_i32_314
  let c4_i32_317 : BitVec 32 := 4#32
  let v1153 : BitVec 32 := Scalar.remsi v1148 c4_i32_317
  ![v1153.toNat]
def k0_off86 (v6 : BitVec 32) (k0_t10 : Fin (k0_t10_loop v6).trips) : Fin 3 → Nat :=
  let c0_i32_164 : BitVec 32 := 0#32
  let c1_i32_166 : BitVec 32 := 1#32
  let arg16 : BitVec 32 := Scf.iv c0_i32_164 c1_i32_166 k0_t10
  let c4_i32_313 : BitVec 32 := 4#32
  let v1147 : BitVec 32 := Scalar.addi arg16 c4_i32_313
  let c1_i32_314 : BitVec 32 := 1#32
  let v1148 : BitVec 32 := Scalar.subi v1147 c1_i32_314
  let c4_i32_317 : BitVec 32 := 4#32
  let v1153 : BitVec 32 := Scalar.remsi v1148 c4_i32_317
  let c0_i32_318 : BitVec 32 := 0#32
  let c0_i32_319 : BitVec 32 := 0#32
  ![v1153.toNat, 0, 0]
def k0_off87 (k0_t1 : Fin k0_t1_loop.trips) (v6 : BitVec 32) (k0_t10 : Fin (k0_t10_loop v6).trips) : Fin 2 → Nat :=
  let c0_i32_320 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_315 : BitVec 32 := 2048#32
  let v1149 : BitVec 32 := Scalar.muli v4 c2048_i32_315
  let c0_i32_164 : BitVec 32 := 0#32
  let c1_i32_166 : BitVec 32 := 1#32
  let arg16 : BitVec 32 := Scf.iv c0_i32_164 c1_i32_166 k0_t10
  let c4_i32_313 : BitVec 32 := 4#32
  let v1147 : BitVec 32 := Scalar.addi arg16 c4_i32_313
  let c1_i32_314 : BitVec 32 := 1#32
  let v1148 : BitVec 32 := Scalar.subi v1147 c1_i32_314
  let c128_i32_316 : BitVec 32 := 128#32
  let v1150 : BitVec 32 := Scalar.muli v1148 c128_i32_316
  let v1151 : BitVec 32 := Scalar.addi v1149 v1150
  let v1152 : BitVec 32 := v1151
  ![0, v1152.toNat]
@[reducible] def k0_t11_loop : Scf.Loop 32 :=
  let c0_i32_173 : BitVec 32 := 0#32
  let c128_i32 : BitVec 32 := 128#32
  let v421 : BitVec 32 := Scalar.addi c0_i32_173 c128_i32
  let c1_i32_174 : BitVec 32 := 1#32
  ⟨c0_i32_173, v421, c1_i32_174⟩
def k0_off88 (k0_t1 : Fin k0_t1_loop.trips) (v6 : BitVec 32) (k0_t10 : Fin (k0_t10_loop v6).trips) (k0_t11 : Fin k0_t11_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v1151 : Index := Scalar.indexCast v4
  let c0_i32_164 : BitVec 32 := 0#32
  let c1_i32_166 : BitVec 32 := 1#32
  let arg16 : BitVec 32 := Scf.iv c0_i32_164 c1_i32_166 k0_t10
  let c128_i32_315 : BitVec 32 := 128#32
  let v1149 : BitVec 32 := Scalar.muli arg16 c128_i32_315
  let c0_i32_314 : BitVec 32 := 0#32
  let c0_i32_173 : BitVec 32 := 0#32
  let c1_i32_174 : BitVec 32 := 1#32
  let arg19 : BitVec 32 := Scf.iv c0_i32_173 c1_i32_174 k0_t11
  let c1_i32_313 : BitVec 32 := 1#32
  let v1147 : BitVec 32 := Scalar.muli arg19 c1_i32_313
  let v1148 : BitVec 32 := Scalar.addi c0_i32_314 v1147
  let v1150 : BitVec 32 := Scalar.addi v1149 v1148
  let v1152 : Index := Scalar.indexCast v1150
  ![v1151.toNat, v1152.toNat]
def k0_off89 (v1153 : BitVec 32) : Fin 2 → Nat :=
  let c2_i32_316 : BitVec 32 := 2#32
  let v1154 : BitVec 32 := Scalar.muli c2_i32_316 v1153
  let v1155 : Index := Scalar.indexCast v1154
  let c0_317 : Index := 0#32
  ![v1155.toNat, 0]

def k0_chk7 (v180 : BitVec 1) (v190 : BitVec 1) (v201 : BitVec 1) (v1153 : BitVec 32) : Prop :=
  (∀ (k0_h6 : k0_cond6 v180 v190 v201 = 1#1), ∀ (k0_h7 : k0_cond7 v190 v201 = 1#1), ∀ a, (k0_off89 v1153) a + S2x128.size a ≤ S122880x128.size a)
theorem k0_off89_inb : ∀ (v180 : BitVec 1) (v190 : BitVec 1) (v201 : BitVec 1) (v1153 : BitVec 32) (k0_hw7 : k0_chk7 v180 v190 v201 v1153), ∀ (k0_h6 : k0_cond6 v180 v190 v201 = 1#1), ∀ (k0_h7 : k0_cond7 v190 v201 = 1#1), ∀ a, (k0_off89 v1153) a + S2x128.size a ≤ S122880x128.size a := fun v180 v190 v201 v1153 k0_hw7 k0_h6 k0_h7 => k0_hw7 k0_h6 k0_h7

def k0_off90 (k0_t11 : Fin k0_t11_loop.trips) : Fin 2 → Nat :=
  let c2_i32_318 : BitVec 32 := 2#32
  let c0_i32_314 : BitVec 32 := 0#32
  let c0_i32_173 : BitVec 32 := 0#32
  let c1_i32_174 : BitVec 32 := 1#32
  let arg19 : BitVec 32 := Scf.iv c0_i32_173 c1_i32_174 k0_t11
  let c1_i32_313 : BitVec 32 := 1#32
  let v1147 : BitVec 32 := Scalar.muli arg19 c1_i32_313
  let v1148 : BitVec 32 := Scalar.addi c0_i32_314 v1147
  let v1157 : BitVec 32 := Scalar.muli c2_i32_318 v1148
  let v1158 : Index := Scalar.indexCast v1157
  let c0_319 : Index := 0#32
  ![v1158.toNat, 0]
def k0_mult19 (k0_t1 : Fin k0_t1_loop.trips) (v6 : BitVec 32) (k0_t10 : Fin (k0_t10_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_164 : BitVec 32 := 0#32
  let c1_i32_166 : BitVec 32 := 1#32
  let arg16 : BitVec 32 := Scf.iv c0_i32_164 c1_i32_166 k0_t10
  let c128_i32_177 : BitVec 32 := 128#32
  let v423 : BitVec 32 := Scalar.muli arg16 c128_i32_177
  let v424 : BitVec 32 := Scalar.addi v422 v423
  v424
def k0_off91 (v6 : BitVec 32) (k0_t10 : Fin (k0_t10_loop v6).trips) : Fin 1 → Nat :=
  let c0_i32_164 : BitVec 32 := 0#32
  let c1_i32_166 : BitVec 32 := 1#32
  let arg16 : BitVec 32 := Scf.iv c0_i32_164 c1_i32_166 k0_t10
  let c4_i32_178 : BitVec 32 := 4#32
  let v426 : BitVec 32 := Scalar.remsi arg16 c4_i32_178
  ![v426.toNat]
def k0_off92 (v6 : BitVec 32) (k0_t10 : Fin (k0_t10_loop v6).trips) : Fin 3 → Nat :=
  let c0_i32_164 : BitVec 32 := 0#32
  let c1_i32_166 : BitVec 32 := 1#32
  let arg16 : BitVec 32 := Scf.iv c0_i32_164 c1_i32_166 k0_t10
  let c4_i32_178 : BitVec 32 := 4#32
  let v426 : BitVec 32 := Scalar.remsi arg16 c4_i32_178
  let c0_i32_179 : BitVec 32 := 0#32
  let c0_i32_180 : BitVec 32 := 0#32
  ![v426.toNat, 0, 0]
def k0_off93 (k0_t1 : Fin k0_t1_loop.trips) (v6 : BitVec 32) (k0_t10 : Fin (k0_t10_loop v6).trips) : Fin 2 → Nat :=
  let c0_i32_181 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_164 : BitVec 32 := 0#32
  let c1_i32_166 : BitVec 32 := 1#32
  let arg16 : BitVec 32 := Scf.iv c0_i32_164 c1_i32_166 k0_t10
  let c128_i32_177 : BitVec 32 := 128#32
  let v423 : BitVec 32 := Scalar.muli arg16 c128_i32_177
  let v424 : BitVec 32 := Scalar.addi v422 v423
  let v425 : BitVec 32 := v424
  ![0, v425.toNat]
def k0_off94 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v439 : Index := Scalar.indexCast v4
  ![v439.toNat]
def k0_off95 (v6 : BitVec 32) (k0_t10 : Fin (k0_t10_loop v6).trips) : Fin 3 → Nat :=
  let c0_i32_164 : BitVec 32 := 0#32
  let c1_i32_166 : BitVec 32 := 1#32
  let arg16 : BitVec 32 := Scf.iv c0_i32_164 c1_i32_166 k0_t10
  let c4_i32_182 : BitVec 32 := 4#32
  let v432 : BitVec 32 := Scalar.remsi arg16 c4_i32_182
  let v443 : Index := Scalar.indexCast v432
  let c0_184 : Index := 0#32
  let c0_185 : Index := 0#32
  ![v443.toNat, 0, 0]
def k0_off96 (v6 : BitVec 32) (k0_t10 : Fin (k0_t10_loop v6).trips) : Fin 3 → Nat :=
  let c0_i32_164 : BitVec 32 := 0#32
  let c1_i32_166 : BitVec 32 := 1#32
  let arg16 : BitVec 32 := Scf.iv c0_i32_164 c1_i32_166 k0_t10
  let c4_i32_182 : BitVec 32 := 4#32
  let v432 : BitVec 32 := Scalar.remsi arg16 c4_i32_182
  let v450 : Index := Scalar.indexCast v432
  let c16 : Index := 16#32
  let c0_188 : Index := 0#32
  ![v450.toNat, 16, 0]
@[reducible] def k0_t12_loop (v6 : BitVec 32) : Scf.Loop 32 :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let v407 : BitVec 32 := Scalar.addi c0_i32_164 v406
  let c1_i32_167 : BitVec 32 := 1#32
  ⟨v410, v407, c1_i32_167⟩
def k0_mult20 (k0_t1 : Fin k0_t1_loop.trips) (v6 : BitVec 32) (k0_t12 : Fin (k0_t12_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_315 : BitVec 32 := 2048#32
  let v1149 : BitVec 32 := Scalar.muli v4 c2048_i32_315
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_313 : BitVec 32 := 4#32
  let v1147 : BitVec 32 := Scalar.addi arg16 c4_i32_313
  let c1_i32_314 : BitVec 32 := 1#32
  let v1148 : BitVec 32 := Scalar.subi v1147 c1_i32_314
  let c128_i32_316 : BitVec 32 := 128#32
  let v1150 : BitVec 32 := Scalar.muli v1148 c128_i32_316
  let v1151 : BitVec 32 := Scalar.addi v1149 v1150
  v1151
def k0_cond17 (v6 : BitVec 32) (k0_t12 : Fin (k0_t12_loop v6).trips) : BitVec 1 :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32 : BitVec 32 := 4#32
  let v416 : BitVec 32 := Scalar.addi arg16 c4_i32
  let c1_i32_171 : BitVec 32 := 1#32
  let v417 : BitVec 32 := Scalar.subi v416 c1_i32_171
  let v418 : BitVec 1 := Scalar.cmpi .slt v417 v24
  let v419 : BitVec 32 := Scalar.extui v418
  let c0_i32_172 : BitVec 32 := 0#32
  let v420 : BitVec 1 := Scalar.cmpi .ne v419 c0_i32_172
  v420

def k0_off97 (v6 : BitVec 32) (k0_t12 : Fin (k0_t12_loop v6).trips) : Fin 1 → Nat :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_313 : BitVec 32 := 4#32
  let v1147 : BitVec 32 := Scalar.addi arg16 c4_i32_313
  let c1_i32_314 : BitVec 32 := 1#32
  let v1148 : BitVec 32 := Scalar.subi v1147 c1_i32_314
  let c4_i32_317 : BitVec 32 := 4#32
  let v1153 : BitVec 32 := Scalar.remsi v1148 c4_i32_317
  ![v1153.toNat]
def k0_off98 (v6 : BitVec 32) (k0_t12 : Fin (k0_t12_loop v6).trips) : Fin 3 → Nat :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_313 : BitVec 32 := 4#32
  let v1147 : BitVec 32 := Scalar.addi arg16 c4_i32_313
  let c1_i32_314 : BitVec 32 := 1#32
  let v1148 : BitVec 32 := Scalar.subi v1147 c1_i32_314
  let c4_i32_317 : BitVec 32 := 4#32
  let v1153 : BitVec 32 := Scalar.remsi v1148 c4_i32_317
  let c0_i32_318 : BitVec 32 := 0#32
  let c0_i32_319 : BitVec 32 := 0#32
  ![v1153.toNat, 0, 0]
def k0_off99 (k0_t1 : Fin k0_t1_loop.trips) (v6 : BitVec 32) (k0_t12 : Fin (k0_t12_loop v6).trips) : Fin 2 → Nat :=
  let c0_i32_320 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_315 : BitVec 32 := 2048#32
  let v1149 : BitVec 32 := Scalar.muli v4 c2048_i32_315
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_313 : BitVec 32 := 4#32
  let v1147 : BitVec 32 := Scalar.addi arg16 c4_i32_313
  let c1_i32_314 : BitVec 32 := 1#32
  let v1148 : BitVec 32 := Scalar.subi v1147 c1_i32_314
  let c128_i32_316 : BitVec 32 := 128#32
  let v1150 : BitVec 32 := Scalar.muli v1148 c128_i32_316
  let v1151 : BitVec 32 := Scalar.addi v1149 v1150
  let v1152 : BitVec 32 := v1151
  ![0, v1152.toNat]
@[reducible] def k0_t13_loop : Scf.Loop 32 :=
  let c0_i32_173 : BitVec 32 := 0#32
  let c128_i32 : BitVec 32 := 128#32
  let v421 : BitVec 32 := Scalar.addi c0_i32_173 c128_i32
  let c1_i32_174 : BitVec 32 := 1#32
  ⟨c0_i32_173, v421, c1_i32_174⟩
def k0_off100 (k0_t1 : Fin k0_t1_loop.trips) (v6 : BitVec 32) (k0_t12 : Fin (k0_t12_loop v6).trips) (k0_t13 : Fin k0_t13_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v1151 : Index := Scalar.indexCast v4
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c128_i32_315 : BitVec 32 := 128#32
  let v1149 : BitVec 32 := Scalar.muli arg16 c128_i32_315
  let c0_i32_314 : BitVec 32 := 0#32
  let c0_i32_173 : BitVec 32 := 0#32
  let c1_i32_174 : BitVec 32 := 1#32
  let arg19 : BitVec 32 := Scf.iv c0_i32_173 c1_i32_174 k0_t13
  let c1_i32_313 : BitVec 32 := 1#32
  let v1147 : BitVec 32 := Scalar.muli arg19 c1_i32_313
  let v1148 : BitVec 32 := Scalar.addi c0_i32_314 v1147
  let v1150 : BitVec 32 := Scalar.addi v1149 v1148
  let v1152 : Index := Scalar.indexCast v1150
  ![v1151.toNat, v1152.toNat]
def k0_off101 (v1153 : BitVec 32) : Fin 2 → Nat :=
  let c2_i32_316 : BitVec 32 := 2#32
  let v1154 : BitVec 32 := Scalar.muli c2_i32_316 v1153
  let v1155 : Index := Scalar.indexCast v1154
  let c0_317 : Index := 0#32
  ![v1155.toNat, 0]

def k0_chk8 (v180 : BitVec 1) (v190 : BitVec 1) (v201 : BitVec 1) (v1153 : BitVec 32) : Prop :=
  (∀ (k0_h6 : k0_cond6 v180 v190 v201 = 1#1), ∀ (k0_h7 : k0_cond7 v190 v201 = 1#1), ∀ a, (k0_off101 v1153) a + S2x128.size a ≤ S122880x128.size a)
theorem k0_off101_inb : ∀ (v180 : BitVec 1) (v190 : BitVec 1) (v201 : BitVec 1) (v1153 : BitVec 32) (k0_hw8 : k0_chk8 v180 v190 v201 v1153), ∀ (k0_h6 : k0_cond6 v180 v190 v201 = 1#1), ∀ (k0_h7 : k0_cond7 v190 v201 = 1#1), ∀ a, (k0_off101 v1153) a + S2x128.size a ≤ S122880x128.size a := fun v180 v190 v201 v1153 k0_hw8 k0_h6 k0_h7 => k0_hw8 k0_h6 k0_h7

def k0_off102 (k0_t13 : Fin k0_t13_loop.trips) : Fin 2 → Nat :=
  let c2_i32_318 : BitVec 32 := 2#32
  let c0_i32_314 : BitVec 32 := 0#32
  let c0_i32_173 : BitVec 32 := 0#32
  let c1_i32_174 : BitVec 32 := 1#32
  let arg19 : BitVec 32 := Scf.iv c0_i32_173 c1_i32_174 k0_t13
  let c1_i32_313 : BitVec 32 := 1#32
  let v1147 : BitVec 32 := Scalar.muli arg19 c1_i32_313
  let v1148 : BitVec 32 := Scalar.addi c0_i32_314 v1147
  let v1157 : BitVec 32 := Scalar.muli c2_i32_318 v1148
  let v1158 : Index := Scalar.indexCast v1157
  let c0_319 : Index := 0#32
  ![v1158.toNat, 0]
def k0_mult21 (k0_t1 : Fin k0_t1_loop.trips) (v6 : BitVec 32) (k0_t12 : Fin (k0_t12_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c128_i32_177 : BitVec 32 := 128#32
  let v423 : BitVec 32 := Scalar.muli arg16 c128_i32_177
  let v424 : BitVec 32 := Scalar.addi v422 v423
  v424
def k0_off103 (v6 : BitVec 32) (k0_t12 : Fin (k0_t12_loop v6).trips) : Fin 1 → Nat :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_178 : BitVec 32 := 4#32
  let v426 : BitVec 32 := Scalar.remsi arg16 c4_i32_178
  ![v426.toNat]
def k0_off104 (v6 : BitVec 32) (k0_t12 : Fin (k0_t12_loop v6).trips) : Fin 3 → Nat :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_178 : BitVec 32 := 4#32
  let v426 : BitVec 32 := Scalar.remsi arg16 c4_i32_178
  let c0_i32_179 : BitVec 32 := 0#32
  let c0_i32_180 : BitVec 32 := 0#32
  ![v426.toNat, 0, 0]
def k0_off105 (k0_t1 : Fin k0_t1_loop.trips) (v6 : BitVec 32) (k0_t12 : Fin (k0_t12_loop v6).trips) : Fin 2 → Nat :=
  let c0_i32_181 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_176 : BitVec 32 := 2048#32
  let v422 : BitVec 32 := Scalar.muli v4 c2048_i32_176
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c128_i32_177 : BitVec 32 := 128#32
  let v423 : BitVec 32 := Scalar.muli arg16 c128_i32_177
  let v424 : BitVec 32 := Scalar.addi v422 v423
  let v425 : BitVec 32 := v424
  ![0, v425.toNat]
def k0_off106 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v439 : Index := Scalar.indexCast v4
  ![v439.toNat]
def k0_off107 (v6 : BitVec 32) (k0_t12 : Fin (k0_t12_loop v6).trips) : Fin 3 → Nat :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_182 : BitVec 32 := 4#32
  let v432 : BitVec 32 := Scalar.remsi arg16 c4_i32_182
  let v443 : Index := Scalar.indexCast v432
  let c0_184 : Index := 0#32
  let c0_185 : Index := 0#32
  ![v443.toNat, 0, 0]
def k0_off108 (v6 : BitVec 32) (k0_t12 : Fin (k0_t12_loop v6).trips) : Fin 3 → Nat :=
  let c0_i32_164 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v406 : BitVec 32 := Scalar.subi v24 c0_i32_164
  let c1_i32_165 : BitVec 32 := 1#32
  let v408 : BitVec 32 := Scalar.divsi v406 c1_i32_165
  let v409 : BitVec 32 := Scalar.muli v408 c1_i32_165
  let v410 : BitVec 32 := Scalar.addi c0_i32_164 v409
  let c1_i32_167 : BitVec 32 := 1#32
  let arg16 : BitVec 32 := Scf.iv v410 c1_i32_167 k0_t12
  let c4_i32_182 : BitVec 32 := 4#32
  let v432 : BitVec 32 := Scalar.remsi arg16 c4_i32_182
  let v450 : Index := Scalar.indexCast v432
  let c16 : Index := 16#32
  let c0_188 : Index := 0#32
  ![v450.toNat, 16, 0]
def k0_off109 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v219 : Index := Scalar.indexCast v4
  let c0_79 : Index := 0#32
  let c0_80 : Index := 0#32
  ![v219.toNat, 0, 0]
def k0_off110 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v234 : Index := Scalar.indexCast v4
  let c0_88 : Index := 0#32
  let c0_89 : Index := 0#32
  ![v234.toNat, 0, 0]
def k0_mult22 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_138 : BitVec 32 := 2048#32
  let v365 : BitVec 32 := Scalar.muli v4 c2048_i32_138
  let c0_i32_139 : BitVec 32 := 0#32
  let v366 : BitVec 32 := Scalar.addi v365 c0_i32_139
  v366
def k0_off111 : Fin 1 → Nat :=
  let c0_i32_140 : BitVec 32 := 0#32
  let c4_i32 : BitVec 32 := 4#32
  let v368 : BitVec 32 := Scalar.remsi c0_i32_140 c4_i32
  ![v368.toNat]
def k0_off112 : Fin 3 → Nat :=
  let c0_i32_140 : BitVec 32 := 0#32
  let c4_i32 : BitVec 32 := 4#32
  let v368 : BitVec 32 := Scalar.remsi c0_i32_140 c4_i32
  let c0_i32_141 : BitVec 32 := 0#32
  let c0_i32_142 : BitVec 32 := 0#32
  ![v368.toNat, 0, 0]
def k0_off113 (k0_t1 : Fin k0_t1_loop.trips) : Fin 2 → Nat :=
  let c0_i32_143 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_138 : BitVec 32 := 2048#32
  let v365 : BitVec 32 := Scalar.muli v4 c2048_i32_138
  let c0_i32_139 : BitVec 32 := 0#32
  let v366 : BitVec 32 := Scalar.addi v365 c0_i32_139
  let v367 : BitVec 32 := v366
  ![0, v367.toNat]
def k0_mult23 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_138 : BitVec 32 := 2048#32
  let v365 : BitVec 32 := Scalar.muli v4 c2048_i32_138
  let c128_i32 : BitVec 32 := 128#32
  let v366 : BitVec 32 := Scalar.addi v365 c128_i32
  v366
def k0_off114 : Fin 1 → Nat :=
  let c1_i32_139 : BitVec 32 := 1#32
  let c4_i32 : BitVec 32 := 4#32
  let v368 : BitVec 32 := Scalar.remsi c1_i32_139 c4_i32
  ![v368.toNat]
def k0_off115 : Fin 3 → Nat :=
  let c1_i32_139 : BitVec 32 := 1#32
  let c4_i32 : BitVec 32 := 4#32
  let v368 : BitVec 32 := Scalar.remsi c1_i32_139 c4_i32
  let c0_i32_140 : BitVec 32 := 0#32
  let c0_i32_141 : BitVec 32 := 0#32
  ![v368.toNat, 0, 0]
def k0_off116 (k0_t1 : Fin k0_t1_loop.trips) : Fin 2 → Nat :=
  let c0_i32_142 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_138 : BitVec 32 := 2048#32
  let v365 : BitVec 32 := Scalar.muli v4 c2048_i32_138
  let c128_i32 : BitVec 32 := 128#32
  let v366 : BitVec 32 := Scalar.addi v365 c128_i32
  let v367 : BitVec 32 := v366
  ![0, v367.toNat]
def k0_mult24 (k0_t1 : Fin k0_t1_loop.trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_138 : BitVec 32 := 2048#32
  let v365 : BitVec 32 := Scalar.muli v4 c2048_i32_138
  let c256_i32 : BitVec 32 := 256#32
  let v366 : BitVec 32 := Scalar.addi v365 c256_i32
  v366
def k0_off117 : Fin 1 → Nat :=
  let c2_i32_139 : BitVec 32 := 2#32
  let c4_i32 : BitVec 32 := 4#32
  let v368 : BitVec 32 := Scalar.remsi c2_i32_139 c4_i32
  ![v368.toNat]
def k0_off118 : Fin 3 → Nat :=
  let c2_i32_139 : BitVec 32 := 2#32
  let c4_i32 : BitVec 32 := 4#32
  let v368 : BitVec 32 := Scalar.remsi c2_i32_139 c4_i32
  let c0_i32_140 : BitVec 32 := 0#32
  let c0_i32_141 : BitVec 32 := 0#32
  ![v368.toNat, 0, 0]
def k0_off119 (k0_t1 : Fin k0_t1_loop.trips) : Fin 2 → Nat :=
  let c0_i32_142 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_138 : BitVec 32 := 2048#32
  let v365 : BitVec 32 := Scalar.muli v4 c2048_i32_138
  let c256_i32 : BitVec 32 := 256#32
  let v366 : BitVec 32 := Scalar.addi v365 c256_i32
  let v367 : BitVec 32 := v366
  ![0, v367.toNat]
@[reducible] def k0_t14_loop (v6 : BitVec 32) : Scf.Loop 32 :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_100 : BitVec 32 := 1#32
  ⟨c0_i32_98, v253, c1_i32_100⟩
def k0_mult25 (k0_t1 : Fin k0_t1_loop.trips) (v6 : BitVec 32) (k0_t14 : Fin (k0_t14_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_282 : BitVec 32 := 2048#32
  let v1098 : BitVec 32 := Scalar.muli v4 c2048_i32_282
  let c0_i32_98 : BitVec 32 := 0#32
  let c1_i32_100 : BitVec 32 := 1#32
  let arg16 : BitVec 32 := Scf.iv c0_i32_98 c1_i32_100 k0_t14
  let c4_i32_280 : BitVec 32 := 4#32
  let v1096 : BitVec 32 := Scalar.addi arg16 c4_i32_280
  let c1_i32_281 : BitVec 32 := 1#32
  let v1097 : BitVec 32 := Scalar.subi v1096 c1_i32_281
  let c128_i32_283 : BitVec 32 := 128#32
  let v1099 : BitVec 32 := Scalar.muli v1097 c128_i32_283
  let v1100 : BitVec 32 := Scalar.addi v1098 v1099
  v1100
def k0_cond21 (v6 : BitVec 32) (k0_t14 : Fin (k0_t14_loop v6).trips) : BitVec 1 :=
  let c0_i32_98 : BitVec 32 := 0#32
  let c1_i32_100 : BitVec 32 := 1#32
  let arg16 : BitVec 32 := Scf.iv c0_i32_98 c1_i32_100 k0_t14
  let c4_i32 : BitVec 32 := 4#32
  let v365 : BitVec 32 := Scalar.addi arg16 c4_i32
  let c1_i32_138 : BitVec 32 := 1#32
  let v366 : BitVec 32 := Scalar.subi v365 c1_i32_138
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v367 : BitVec 1 := Scalar.cmpi .slt v366 v24
  let v368 : BitVec 32 := Scalar.extui v367
  let c0_i32_139 : BitVec 32 := 0#32
  let v369 : BitVec 1 := Scalar.cmpi .ne v368 c0_i32_139
  v369

def k0_off120 (v6 : BitVec 32) (k0_t14 : Fin (k0_t14_loop v6).trips) : Fin 1 → Nat :=
  let c0_i32_98 : BitVec 32 := 0#32
  let c1_i32_100 : BitVec 32 := 1#32
  let arg16 : BitVec 32 := Scf.iv c0_i32_98 c1_i32_100 k0_t14
  let c4_i32_280 : BitVec 32 := 4#32
  let v1096 : BitVec 32 := Scalar.addi arg16 c4_i32_280
  let c1_i32_281 : BitVec 32 := 1#32
  let v1097 : BitVec 32 := Scalar.subi v1096 c1_i32_281
  let c4_i32_284 : BitVec 32 := 4#32
  let v1102 : BitVec 32 := Scalar.remsi v1097 c4_i32_284
  ![v1102.toNat]
def k0_off121 (v6 : BitVec 32) (k0_t14 : Fin (k0_t14_loop v6).trips) : Fin 3 → Nat :=
  let c0_i32_98 : BitVec 32 := 0#32
  let c1_i32_100 : BitVec 32 := 1#32
  let arg16 : BitVec 32 := Scf.iv c0_i32_98 c1_i32_100 k0_t14
  let c4_i32_280 : BitVec 32 := 4#32
  let v1096 : BitVec 32 := Scalar.addi arg16 c4_i32_280
  let c1_i32_281 : BitVec 32 := 1#32
  let v1097 : BitVec 32 := Scalar.subi v1096 c1_i32_281
  let c4_i32_284 : BitVec 32 := 4#32
  let v1102 : BitVec 32 := Scalar.remsi v1097 c4_i32_284
  let c0_i32_285 : BitVec 32 := 0#32
  let c0_i32_286 : BitVec 32 := 0#32
  ![v1102.toNat, 0, 0]
def k0_off122 (k0_t1 : Fin k0_t1_loop.trips) (v6 : BitVec 32) (k0_t14 : Fin (k0_t14_loop v6).trips) : Fin 2 → Nat :=
  let c0_i32_287 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_282 : BitVec 32 := 2048#32
  let v1098 : BitVec 32 := Scalar.muli v4 c2048_i32_282
  let c0_i32_98 : BitVec 32 := 0#32
  let c1_i32_100 : BitVec 32 := 1#32
  let arg16 : BitVec 32 := Scf.iv c0_i32_98 c1_i32_100 k0_t14
  let c4_i32_280 : BitVec 32 := 4#32
  let v1096 : BitVec 32 := Scalar.addi arg16 c4_i32_280
  let c1_i32_281 : BitVec 32 := 1#32
  let v1097 : BitVec 32 := Scalar.subi v1096 c1_i32_281
  let c128_i32_283 : BitVec 32 := 128#32
  let v1099 : BitVec 32 := Scalar.muli v1097 c128_i32_283
  let v1100 : BitVec 32 := Scalar.addi v1098 v1099
  let v1101 : BitVec 32 := v1100
  ![0, v1101.toNat]
@[reducible] def k0_t15_loop : Scf.Loop 32 :=
  let c0_i32_140 : BitVec 32 := 0#32
  let c128_i32 : BitVec 32 := 128#32
  let v370 : BitVec 32 := Scalar.addi c0_i32_140 c128_i32
  let c1_i32_141 : BitVec 32 := 1#32
  ⟨c0_i32_140, v370, c1_i32_141⟩
def k0_off123 (k0_t1 : Fin k0_t1_loop.trips) (v6 : BitVec 32) (k0_t14 : Fin (k0_t14_loop v6).trips) (k0_t15 : Fin k0_t15_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v1100 : Index := Scalar.indexCast v4
  let c0_i32_98 : BitVec 32 := 0#32
  let c1_i32_100 : BitVec 32 := 1#32
  let arg16 : BitVec 32 := Scf.iv c0_i32_98 c1_i32_100 k0_t14
  let c128_i32_282 : BitVec 32 := 128#32
  let v1098 : BitVec 32 := Scalar.muli arg16 c128_i32_282
  let c0_i32_281 : BitVec 32 := 0#32
  let c0_i32_140 : BitVec 32 := 0#32
  let c1_i32_141 : BitVec 32 := 1#32
  let arg19 : BitVec 32 := Scf.iv c0_i32_140 c1_i32_141 k0_t15
  let c1_i32_280 : BitVec 32 := 1#32
  let v1096 : BitVec 32 := Scalar.muli arg19 c1_i32_280
  let v1097 : BitVec 32 := Scalar.addi c0_i32_281 v1096
  let v1099 : BitVec 32 := Scalar.addi v1098 v1097
  let v1101 : Index := Scalar.indexCast v1099
  ![v1100.toNat, v1101.toNat]
def k0_off124 (v1102 : BitVec 32) : Fin 2 → Nat :=
  let c2_i32_283 : BitVec 32 := 2#32
  let v1103 : BitVec 32 := Scalar.muli c2_i32_283 v1102
  let v1104 : Index := Scalar.indexCast v1103
  let c0_284 : Index := 0#32
  ![v1104.toNat, 0]

def k0_chk9 (v180 : BitVec 1) (v190 : BitVec 1) (v201 : BitVec 1) (v1102 : BitVec 32) : Prop :=
  (∀ (k0_h6 : k0_cond6 v180 v190 v201 = 1#1), ∀ a, (k0_off124 v1102) a + S2x128.size a ≤ S122880x128.size a)
theorem k0_off124_inb : ∀ (v180 : BitVec 1) (v190 : BitVec 1) (v201 : BitVec 1) (v1102 : BitVec 32) (k0_hw9 : k0_chk9 v180 v190 v201 v1102), ∀ (k0_h6 : k0_cond6 v180 v190 v201 = 1#1), ∀ a, (k0_off124 v1102) a + S2x128.size a ≤ S122880x128.size a := fun v180 v190 v201 v1102 k0_hw9 k0_h6 => k0_hw9 k0_h6

def k0_off125 (k0_t15 : Fin k0_t15_loop.trips) : Fin 2 → Nat :=
  let c2_i32_285 : BitVec 32 := 2#32
  let c0_i32_281 : BitVec 32 := 0#32
  let c0_i32_140 : BitVec 32 := 0#32
  let c1_i32_141 : BitVec 32 := 1#32
  let arg19 : BitVec 32 := Scf.iv c0_i32_140 c1_i32_141 k0_t15
  let c1_i32_280 : BitVec 32 := 1#32
  let v1096 : BitVec 32 := Scalar.muli arg19 c1_i32_280
  let v1097 : BitVec 32 := Scalar.addi c0_i32_281 v1096
  let v1106 : BitVec 32 := Scalar.muli c2_i32_285 v1097
  let v1107 : Index := Scalar.indexCast v1106
  let c0_286 : Index := 0#32
  ![v1107.toNat, 0]
def k0_mult26 (k0_t1 : Fin k0_t1_loop.trips) (v6 : BitVec 32) (k0_t14 : Fin (k0_t14_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_143 : BitVec 32 := 2048#32
  let v371 : BitVec 32 := Scalar.muli v4 c2048_i32_143
  let c0_i32_98 : BitVec 32 := 0#32
  let c1_i32_100 : BitVec 32 := 1#32
  let arg16 : BitVec 32 := Scf.iv c0_i32_98 c1_i32_100 k0_t14
  let c128_i32_144 : BitVec 32 := 128#32
  let v372 : BitVec 32 := Scalar.muli arg16 c128_i32_144
  let v373 : BitVec 32 := Scalar.addi v371 v372
  v373
def k0_off126 (v6 : BitVec 32) (k0_t14 : Fin (k0_t14_loop v6).trips) : Fin 1 → Nat :=
  let c0_i32_98 : BitVec 32 := 0#32
  let c1_i32_100 : BitVec 32 := 1#32
  let arg16 : BitVec 32 := Scf.iv c0_i32_98 c1_i32_100 k0_t14
  let c4_i32_145 : BitVec 32 := 4#32
  let v375 : BitVec 32 := Scalar.remsi arg16 c4_i32_145
  ![v375.toNat]
def k0_off127 (v6 : BitVec 32) (k0_t14 : Fin (k0_t14_loop v6).trips) : Fin 3 → Nat :=
  let c0_i32_98 : BitVec 32 := 0#32
  let c1_i32_100 : BitVec 32 := 1#32
  let arg16 : BitVec 32 := Scf.iv c0_i32_98 c1_i32_100 k0_t14
  let c4_i32_145 : BitVec 32 := 4#32
  let v375 : BitVec 32 := Scalar.remsi arg16 c4_i32_145
  let c0_i32_146 : BitVec 32 := 0#32
  let c0_i32_147 : BitVec 32 := 0#32
  ![v375.toNat, 0, 0]
def k0_off128 (k0_t1 : Fin k0_t1_loop.trips) (v6 : BitVec 32) (k0_t14 : Fin (k0_t14_loop v6).trips) : Fin 2 → Nat :=
  let c0_i32_148 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_143 : BitVec 32 := 2048#32
  let v371 : BitVec 32 := Scalar.muli v4 c2048_i32_143
  let c0_i32_98 : BitVec 32 := 0#32
  let c1_i32_100 : BitVec 32 := 1#32
  let arg16 : BitVec 32 := Scf.iv c0_i32_98 c1_i32_100 k0_t14
  let c128_i32_144 : BitVec 32 := 128#32
  let v372 : BitVec 32 := Scalar.muli arg16 c128_i32_144
  let v373 : BitVec 32 := Scalar.addi v371 v372
  let v374 : BitVec 32 := v373
  ![0, v374.toNat]
def k0_off129 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v388 : Index := Scalar.indexCast v4
  ![v388.toNat]
def k0_off130 (v6 : BitVec 32) (k0_t14 : Fin (k0_t14_loop v6).trips) : Fin 3 → Nat :=
  let c0_i32_98 : BitVec 32 := 0#32
  let c1_i32_100 : BitVec 32 := 1#32
  let arg16 : BitVec 32 := Scf.iv c0_i32_98 c1_i32_100 k0_t14
  let c4_i32_149 : BitVec 32 := 4#32
  let v381 : BitVec 32 := Scalar.remsi arg16 c4_i32_149
  let v392 : Index := Scalar.indexCast v381
  let c0_151 : Index := 0#32
  let c0_152 : Index := 0#32
  ![v392.toNat, 0, 0]
def k0_off131 (v6 : BitVec 32) (k0_t14 : Fin (k0_t14_loop v6).trips) : Fin 3 → Nat :=
  let c0_i32_98 : BitVec 32 := 0#32
  let c1_i32_100 : BitVec 32 := 1#32
  let arg16 : BitVec 32 := Scf.iv c0_i32_98 c1_i32_100 k0_t14
  let c4_i32_149 : BitVec 32 := 4#32
  let v381 : BitVec 32 := Scalar.remsi arg16 c4_i32_149
  let v399 : Index := Scalar.indexCast v381
  let c16 : Index := 16#32
  let c0_155 : Index := 0#32
  ![v399.toNat, 16, 0]
@[reducible] def k0_t16_loop (v6 : BitVec 32) : Scf.Loop 32 :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let v250 : BitVec 32 := Scalar.addi c0_i32_98 v249
  let c1_i32_101 : BitVec 32 := 1#32
  ⟨v253, v250, c1_i32_101⟩
def k0_mult27 (k0_t1 : Fin k0_t1_loop.trips) (v6 : BitVec 32) (k0_t16 : Fin (k0_t16_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_282 : BitVec 32 := 2048#32
  let v1098 : BitVec 32 := Scalar.muli v4 c2048_i32_282
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_280 : BitVec 32 := 4#32
  let v1096 : BitVec 32 := Scalar.addi arg16 c4_i32_280
  let c1_i32_281 : BitVec 32 := 1#32
  let v1097 : BitVec 32 := Scalar.subi v1096 c1_i32_281
  let c128_i32_283 : BitVec 32 := 128#32
  let v1099 : BitVec 32 := Scalar.muli v1097 c128_i32_283
  let v1100 : BitVec 32 := Scalar.addi v1098 v1099
  v1100
def k0_cond22 (v6 : BitVec 32) (k0_t16 : Fin (k0_t16_loop v6).trips) : BitVec 1 :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32 : BitVec 32 := 4#32
  let v365 : BitVec 32 := Scalar.addi arg16 c4_i32
  let c1_i32_138 : BitVec 32 := 1#32
  let v366 : BitVec 32 := Scalar.subi v365 c1_i32_138
  let v367 : BitVec 1 := Scalar.cmpi .slt v366 v24
  let v368 : BitVec 32 := Scalar.extui v367
  let c0_i32_139 : BitVec 32 := 0#32
  let v369 : BitVec 1 := Scalar.cmpi .ne v368 c0_i32_139
  v369

def k0_off132 (v6 : BitVec 32) (k0_t16 : Fin (k0_t16_loop v6).trips) : Fin 1 → Nat :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_280 : BitVec 32 := 4#32
  let v1096 : BitVec 32 := Scalar.addi arg16 c4_i32_280
  let c1_i32_281 : BitVec 32 := 1#32
  let v1097 : BitVec 32 := Scalar.subi v1096 c1_i32_281
  let c4_i32_284 : BitVec 32 := 4#32
  let v1102 : BitVec 32 := Scalar.remsi v1097 c4_i32_284
  ![v1102.toNat]
def k0_off133 (v6 : BitVec 32) (k0_t16 : Fin (k0_t16_loop v6).trips) : Fin 3 → Nat :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_280 : BitVec 32 := 4#32
  let v1096 : BitVec 32 := Scalar.addi arg16 c4_i32_280
  let c1_i32_281 : BitVec 32 := 1#32
  let v1097 : BitVec 32 := Scalar.subi v1096 c1_i32_281
  let c4_i32_284 : BitVec 32 := 4#32
  let v1102 : BitVec 32 := Scalar.remsi v1097 c4_i32_284
  let c0_i32_285 : BitVec 32 := 0#32
  let c0_i32_286 : BitVec 32 := 0#32
  ![v1102.toNat, 0, 0]
def k0_off134 (k0_t1 : Fin k0_t1_loop.trips) (v6 : BitVec 32) (k0_t16 : Fin (k0_t16_loop v6).trips) : Fin 2 → Nat :=
  let c0_i32_287 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_282 : BitVec 32 := 2048#32
  let v1098 : BitVec 32 := Scalar.muli v4 c2048_i32_282
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_280 : BitVec 32 := 4#32
  let v1096 : BitVec 32 := Scalar.addi arg16 c4_i32_280
  let c1_i32_281 : BitVec 32 := 1#32
  let v1097 : BitVec 32 := Scalar.subi v1096 c1_i32_281
  let c128_i32_283 : BitVec 32 := 128#32
  let v1099 : BitVec 32 := Scalar.muli v1097 c128_i32_283
  let v1100 : BitVec 32 := Scalar.addi v1098 v1099
  let v1101 : BitVec 32 := v1100
  ![0, v1101.toNat]
@[reducible] def k0_t17_loop : Scf.Loop 32 :=
  let c0_i32_140 : BitVec 32 := 0#32
  let c128_i32 : BitVec 32 := 128#32
  let v370 : BitVec 32 := Scalar.addi c0_i32_140 c128_i32
  let c1_i32_141 : BitVec 32 := 1#32
  ⟨c0_i32_140, v370, c1_i32_141⟩
def k0_off135 (k0_t1 : Fin k0_t1_loop.trips) (v6 : BitVec 32) (k0_t16 : Fin (k0_t16_loop v6).trips) (k0_t17 : Fin k0_t17_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v1100 : Index := Scalar.indexCast v4
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c128_i32_282 : BitVec 32 := 128#32
  let v1098 : BitVec 32 := Scalar.muli arg16 c128_i32_282
  let c0_i32_281 : BitVec 32 := 0#32
  let c0_i32_140 : BitVec 32 := 0#32
  let c1_i32_141 : BitVec 32 := 1#32
  let arg19 : BitVec 32 := Scf.iv c0_i32_140 c1_i32_141 k0_t17
  let c1_i32_280 : BitVec 32 := 1#32
  let v1096 : BitVec 32 := Scalar.muli arg19 c1_i32_280
  let v1097 : BitVec 32 := Scalar.addi c0_i32_281 v1096
  let v1099 : BitVec 32 := Scalar.addi v1098 v1097
  let v1101 : Index := Scalar.indexCast v1099
  ![v1100.toNat, v1101.toNat]
def k0_off136 (v1102 : BitVec 32) : Fin 2 → Nat :=
  let c2_i32_283 : BitVec 32 := 2#32
  let v1103 : BitVec 32 := Scalar.muli c2_i32_283 v1102
  let v1104 : Index := Scalar.indexCast v1103
  let c0_284 : Index := 0#32
  ![v1104.toNat, 0]

def k0_chk10 (v180 : BitVec 1) (v190 : BitVec 1) (v201 : BitVec 1) (v1102 : BitVec 32) : Prop :=
  (∀ (k0_h6 : k0_cond6 v180 v190 v201 = 1#1), ∀ a, (k0_off136 v1102) a + S2x128.size a ≤ S122880x128.size a)
theorem k0_off136_inb : ∀ (v180 : BitVec 1) (v190 : BitVec 1) (v201 : BitVec 1) (v1102 : BitVec 32) (k0_hw10 : k0_chk10 v180 v190 v201 v1102), ∀ (k0_h6 : k0_cond6 v180 v190 v201 = 1#1), ∀ a, (k0_off136 v1102) a + S2x128.size a ≤ S122880x128.size a := fun v180 v190 v201 v1102 k0_hw10 k0_h6 => k0_hw10 k0_h6

def k0_off137 (k0_t17 : Fin k0_t17_loop.trips) : Fin 2 → Nat :=
  let c2_i32_285 : BitVec 32 := 2#32
  let c0_i32_281 : BitVec 32 := 0#32
  let c0_i32_140 : BitVec 32 := 0#32
  let c1_i32_141 : BitVec 32 := 1#32
  let arg19 : BitVec 32 := Scf.iv c0_i32_140 c1_i32_141 k0_t17
  let c1_i32_280 : BitVec 32 := 1#32
  let v1096 : BitVec 32 := Scalar.muli arg19 c1_i32_280
  let v1097 : BitVec 32 := Scalar.addi c0_i32_281 v1096
  let v1106 : BitVec 32 := Scalar.muli c2_i32_285 v1097
  let v1107 : Index := Scalar.indexCast v1106
  let c0_286 : Index := 0#32
  ![v1107.toNat, 0]
def k0_mult28 (k0_t1 : Fin k0_t1_loop.trips) (v6 : BitVec 32) (k0_t16 : Fin (k0_t16_loop v6).trips) : BitVec 32 :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_143 : BitVec 32 := 2048#32
  let v371 : BitVec 32 := Scalar.muli v4 c2048_i32_143
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c128_i32_144 : BitVec 32 := 128#32
  let v372 : BitVec 32 := Scalar.muli arg16 c128_i32_144
  let v373 : BitVec 32 := Scalar.addi v371 v372
  v373
def k0_off138 (v6 : BitVec 32) (k0_t16 : Fin (k0_t16_loop v6).trips) : Fin 1 → Nat :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_145 : BitVec 32 := 4#32
  let v375 : BitVec 32 := Scalar.remsi arg16 c4_i32_145
  ![v375.toNat]
def k0_off139 (v6 : BitVec 32) (k0_t16 : Fin (k0_t16_loop v6).trips) : Fin 3 → Nat :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_145 : BitVec 32 := 4#32
  let v375 : BitVec 32 := Scalar.remsi arg16 c4_i32_145
  let c0_i32_146 : BitVec 32 := 0#32
  let c0_i32_147 : BitVec 32 := 0#32
  ![v375.toNat, 0, 0]
def k0_off140 (k0_t1 : Fin k0_t1_loop.trips) (v6 : BitVec 32) (k0_t16 : Fin (k0_t16_loop v6).trips) : Fin 2 → Nat :=
  let c0_i32_148 : BitVec 32 := 0#32
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let c2048_i32_143 : BitVec 32 := 2048#32
  let v371 : BitVec 32 := Scalar.muli v4 c2048_i32_143
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c128_i32_144 : BitVec 32 := 128#32
  let v372 : BitVec 32 := Scalar.muli arg16 c128_i32_144
  let v373 : BitVec 32 := Scalar.addi v371 v372
  let v374 : BitVec 32 := v373
  ![0, v374.toNat]
def k0_off141 (k0_t1 : Fin k0_t1_loop.trips) : Fin 1 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v388 : Index := Scalar.indexCast v4
  ![v388.toNat]
def k0_off142 (v6 : BitVec 32) (k0_t16 : Fin (k0_t16_loop v6).trips) : Fin 3 → Nat :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_149 : BitVec 32 := 4#32
  let v381 : BitVec 32 := Scalar.remsi arg16 c4_i32_149
  let v392 : Index := Scalar.indexCast v381
  let c0_151 : Index := 0#32
  let c0_152 : Index := 0#32
  ![v392.toNat, 0, 0]
def k0_off143 (v6 : BitVec 32) (k0_t16 : Fin (k0_t16_loop v6).trips) : Fin 3 → Nat :=
  let c0_i32_98 : BitVec 32 := 0#32
  let c2047_i32 : BitVec 32 := 2047#32
  let v7 : BitVec 32 := Scalar.addi v6 c2047_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c2048_i32 : BitVec 32 := 2048#32
  let c0_i32_5 : BitVec 32 := 0#32
  let v14 : BitVec 1 := Scalar.cmpi .sgt c2048_i32 c0_i32_5
  let v15 : BitVec 32 := Scalar.extui v14
  let c0_i32_6 : BitVec 32 := 0#32
  let v16 : BitVec 1 := Scalar.cmpi .slt c2048_i32 c0_i32_6
  let v17 : BitVec 32 := Scalar.extui v16
  let v18 : BitVec 32 := Scalar.subi v15 v17
  let v19 : BitVec 1 := Scalar.cmpi .ne v13 v18
  let v20 : BitVec 32 := Scalar.remsi v7 c2048_i32
  let c0_i32_7 : BitVec 32 := 0#32
  let v21 : BitVec 1 := Scalar.cmpi .ne v20 c0_i32_7
  let v22 : BitVec 1 := Scalar.andi v19 v21
  let v8 : BitVec 32 := Scalar.divsi v7 c2048_i32
  let c1_i32_8 : BitVec 32 := 1#32
  let v23 : BitVec 32 := Scalar.subi v8 c1_i32_8
  let v24 : BitVec 32 := Scalar.select v22 v23 v8
  let v249 : BitVec 32 := Scalar.subi v24 c0_i32_98
  let c1_i32_99 : BitVec 32 := 1#32
  let v251 : BitVec 32 := Scalar.divsi v249 c1_i32_99
  let v252 : BitVec 32 := Scalar.muli v251 c1_i32_99
  let v253 : BitVec 32 := Scalar.addi c0_i32_98 v252
  let c1_i32_101 : BitVec 32 := 1#32
  let arg16 : BitVec 32 := Scf.iv v253 c1_i32_101 k0_t16
  let c4_i32_149 : BitVec 32 := 4#32
  let v381 : BitVec 32 := Scalar.remsi arg16 c4_i32_149
  let v399 : Index := Scalar.indexCast v381
  let c16 : Index := 16#32
  let c0_155 : Index := 0#32
  ![v399.toNat, 16, 0]

def k0_chk4_0 (k0_t1 : Fin k0_t1_loop.trips) (v6 : BitVec 32) (v180 : BitVec 1) (v190 : BitVec 1) (v201 : BitVec 1) : Prop :=
  (∀ (k0_h6 : k0_cond6 v180 v190 v201 = 1#1), ∀ (k0_h7 : k0_cond7 v190 v201 = 1#1), (k0_t6_loop v6).OK) ∧
  (∀ k0_t6 : Fin (k0_t6_loop v6).trips, ∀ (k0_h6 : k0_cond6 v180 v190 v201 = 1#1), ∀ (k0_h7 : k0_cond7 v190 v201 = 1#1), ∀ (k0_h11 : k0_cond11 v6 k0_t6 = 1#1), 128 ∣ (k0_mult11 k0_t1 v6 k0_t6).toNat) ∧
  (∀ k0_t6 : Fin (k0_t6_loop v6).trips, ∀ (k0_h6 : k0_cond6 v180 v190 v201 = 1#1), ∀ (k0_h7 : k0_cond7 v190 v201 = 1#1), ∀ (k0_h11 : k0_cond11 v6 k0_t6 = 1#1), ∀ a, (k0_off52 v6 k0_t6) a + S1.size a ≤ S4.size a) ∧
  (∀ k0_t6 : Fin (k0_t6_loop v6).trips, ∀ (k0_h6 : k0_cond6 v180 v190 v201 = 1#1), ∀ (k0_h7 : k0_cond7 v190 v201 = 1#1), ∀ (k0_h11 : k0_cond11 v6 k0_t6 = 1#1), ∀ a, (k0_off53 v6 k0_t6) a + S1x32x128.size a ≤ S4x32x128.size a) ∧
  (∀ k0_t6 : Fin (k0_t6_loop v6).trips, ∀ (k0_h6 : k0_cond6 v180 v190 v201 = 1#1), ∀ (k0_h7 : k0_cond7 v190 v201 = 1#1), ∀ (k0_h11 : k0_cond11 v6 k0_t6 = 1#1), ∀ a, (k0_off54 k0_t1 v6 k0_t6) a + S32x128.size a ≤ S32x49152.size a) ∧
  (∀ (k0_t6 : Fin (k0_t6_loop v6).trips) (k0_t7 : Fin k0_t7_loop.trips), ∀ (k0_h6 : k0_cond6 v180 v190 v201 = 1#1), ∀ (k0_h7 : k0_cond7 v190 v201 = 1#1), ∀ a, (k0_off55 k0_t1 v6 k0_t6 k0_t7) a + S1x1.size a ≤ S24x2048.size a) ∧
  (∀ k0_t6 : Fin (k0_t6_loop v6).trips, ∀ (k0_h6 : k0_cond6 v180 v190 v201 = 1#1), ∀ (k0_h7 : k0_cond7 v190 v201 = 1#1), 128 ∣ (k0_mult12 k0_t1 v6 k0_t6).toNat) ∧
  (∀ k0_t6 : Fin (k0_t6_loop v6).trips, ∀ (k0_h6 : k0_cond6 v180 v190 v201 = 1#1), ∀ (k0_h7 : k0_cond7 v190 v201 = 1#1), ∀ a, (k0_off58 v6 k0_t6) a + S1.size a ≤ S4.size a) ∧
  (∀ k0_t6 : Fin (k0_t6_loop v6).trips, ∀ (k0_h6 : k0_cond6 v180 v190 v201 = 1#1), ∀ (k0_h7 : k0_cond7 v190 v201 = 1#1), ∀ a, (k0_off59 v6 k0_t6) a + S1x32x128.size a ≤ S4x32x128.size a) ∧
  (∀ k0_t6 : Fin (k0_t6_loop v6).trips, ∀ (k0_h6 : k0_cond6 v180 v190 v201 = 1#1), ∀ (k0_h7 : k0_cond7 v190 v201 = 1#1), ∀ a, (k0_off60 k0_t1 v6 k0_t6) a + S32x128.size a ≤ S32x49152.size a) ∧
  (∀ k0_t6 : Fin (k0_t6_loop v6).trips, ∀ (k0_h6 : k0_cond6 v180 v190 v201 = 1#1), ∀ (k0_h7 : k0_cond7 v190 v201 = 1#1), ∀ a, (k0_off62 v6 k0_t6) a + S1x16x128.size a ≤ S4x32x128.size a) ∧
  (∀ k0_t6 : Fin (k0_t6_loop v6).trips, ∀ (k0_h6 : k0_cond6 v180 v190 v201 = 1#1), ∀ (k0_h7 : k0_cond7 v190 v201 = 1#1), ∀ a, (k0_off63 v6 k0_t6) a + S1x16x128.size a ≤ S4x32x128.size a) ∧
  (∀ (k0_h6 : k0_cond6 v180 v190 v201 = 1#1), ∀ (k0_h7 : k0_cond7 v190 v201 = 1#1), (k0_t8_loop v6).OK) ∧
  (∀ k0_t8 : Fin (k0_t8_loop v6).trips, ∀ (k0_h6 : k0_cond6 v180 v190 v201 = 1#1), ∀ (k0_h7 : k0_cond7 v190 v201 = 1#1), ∀ (k0_h12 : k0_cond12 v6 k0_t8 = 1#1), 128 ∣ (k0_mult13 k0_t1 v6 k0_t8).toNat) ∧
  (∀ k0_t8 : Fin (k0_t8_loop v6).trips, ∀ (k0_h6 : k0_cond6 v180 v190 v201 = 1#1), ∀ (k0_h7 : k0_cond7 v190 v201 = 1#1), ∀ (k0_h12 : k0_cond12 v6 k0_t8 = 1#1), ∀ a, (k0_off64 v6 k0_t8) a + S1.size a ≤ S4.size a) ∧
  (∀ k0_t8 : Fin (k0_t8_loop v6).trips, ∀ (k0_h6 : k0_cond6 v180 v190 v201 = 1#1), ∀ (k0_h7 : k0_cond7 v190 v201 = 1#1), ∀ (k0_h12 : k0_cond12 v6 k0_t8 = 1#1), ∀ a, (k0_off65 v6 k0_t8) a + S1x32x128.size a ≤ S4x32x128.size a) ∧
  (∀ k0_t8 : Fin (k0_t8_loop v6).trips, ∀ (k0_h6 : k0_cond6 v180 v190 v201 = 1#1), ∀ (k0_h7 : k0_cond7 v190 v201 = 1#1), ∀ (k0_h12 : k0_cond12 v6 k0_t8 = 1#1), ∀ a, (k0_off66 k0_t1 v6 k0_t8) a + S32x128.size a ≤ S32x49152.size a) ∧
  (∀ (k0_t8 : Fin (k0_t8_loop v6).trips) (k0_t9 : Fin k0_t9_loop.trips), ∀ (k0_h6 : k0_cond6 v180 v190 v201 = 1#1), ∀ (k0_h7 : k0_cond7 v190 v201 = 1#1), ∀ a, (k0_off67 k0_t1 v6 k0_t8 k0_t9) a + S1x1.size a ≤ S24x2048.size a) ∧
  (∀ k0_t8 : Fin (k0_t8_loop v6).trips, ∀ (k0_h6 : k0_cond6 v180 v190 v201 = 1#1), ∀ (k0_h7 : k0_cond7 v190 v201 = 1#1), 128 ∣ (k0_mult14 k0_t1 v6 k0_t8).toNat) ∧
  (∀ k0_t8 : Fin (k0_t8_loop v6).trips, ∀ (k0_h6 : k0_cond6 v180 v190 v201 = 1#1), ∀ (k0_h7 : k0_cond7 v190 v201 = 1#1), ∀ a, (k0_off70 v6 k0_t8) a + S1.size a ≤ S4.size a) ∧
  (∀ k0_t8 : Fin (k0_t8_loop v6).trips, ∀ (k0_h6 : k0_cond6 v180 v190 v201 = 1#1), ∀ (k0_h7 : k0_cond7 v190 v201 = 1#1), ∀ a, (k0_off71 v6 k0_t8) a + S1x32x128.size a ≤ S4x32x128.size a) ∧
  (∀ k0_t8 : Fin (k0_t8_loop v6).trips, ∀ (k0_h6 : k0_cond6 v180 v190 v201 = 1#1), ∀ (k0_h7 : k0_cond7 v190 v201 = 1#1), ∀ a, (k0_off72 k0_t1 v6 k0_t8) a + S32x128.size a ≤ S32x49152.size a) ∧
  (∀ k0_t8 : Fin (k0_t8_loop v6).trips, ∀ (k0_h6 : k0_cond6 v180 v190 v201 = 1#1), ∀ (k0_h7 : k0_cond7 v190 v201 = 1#1), ∀ a, (k0_off74 v6 k0_t8) a + S1x16x128.size a ≤ S4x32x128.size a) ∧
  (∀ k0_t8 : Fin (k0_t8_loop v6).trips, ∀ (k0_h6 : k0_cond6 v180 v190 v201 = 1#1), ∀ (k0_h7 : k0_cond7 v190 v201 = 1#1), ∀ a, (k0_off75 v6 k0_t8) a + S1x16x128.size a ≤ S4x32x128.size a) ∧
  (∀ (k0_h6 : k0_cond6 v180 v190 v201 = 1#1), ∀ (k0_h7 : k0_cond7 v190 v201 = 1#1), (k0_t10_loop v6).OK) ∧
  (∀ k0_t10 : Fin (k0_t10_loop v6).trips, ∀ (k0_h6 : k0_cond6 v180 v190 v201 = 1#1), ∀ (k0_h7 : k0_cond7 v190 v201 = 1#1), ∀ (k0_h16 : k0_cond16 v6 k0_t10 = 1#1), 128 ∣ (k0_mult18 k0_t1 v6 k0_t10).toNat) ∧
  (∀ k0_t10 : Fin (k0_t10_loop v6).trips, ∀ (k0_h6 : k0_cond6 v180 v190 v201 = 1#1), ∀ (k0_h7 : k0_cond7 v190 v201 = 1#1), ∀ (k0_h16 : k0_cond16 v6 k0_t10 = 1#1), ∀ a, (k0_off85 v6 k0_t10) a + S1.size a ≤ S4.size a) ∧
  (∀ k0_t10 : Fin (k0_t10_loop v6).trips, ∀ (k0_h6 : k0_cond6 v180 v190 v201 = 1#1), ∀ (k0_h7 : k0_cond7 v190 v201 = 1#1), ∀ (k0_h16 : k0_cond16 v6 k0_t10 = 1#1), ∀ a, (k0_off86 v6 k0_t10) a + S1x32x128.size a ≤ S4x32x128.size a) ∧
  (∀ k0_t10 : Fin (k0_t10_loop v6).trips, ∀ (k0_h6 : k0_cond6 v180 v190 v201 = 1#1), ∀ (k0_h7 : k0_cond7 v190 v201 = 1#1), ∀ (k0_h16 : k0_cond16 v6 k0_t10 = 1#1), ∀ a, (k0_off87 k0_t1 v6 k0_t10) a + S32x128.size a ≤ S32x49152.size a) ∧
  (∀ (k0_t10 : Fin (k0_t10_loop v6).trips) (k0_t11 : Fin k0_t11_loop.trips), ∀ (k0_h6 : k0_cond6 v180 v190 v201 = 1#1), ∀ (k0_h7 : k0_cond7 v190 v201 = 1#1), ∀ a, (k0_off88 k0_t1 v6 k0_t10 k0_t11) a + S1x1.size a ≤ S24x2048.size a) ∧
  (∀ k0_t10 : Fin (k0_t10_loop v6).trips, ∀ (k0_h6 : k0_cond6 v180 v190 v201 = 1#1), ∀ (k0_h7 : k0_cond7 v190 v201 = 1#1), 128 ∣ (k0_mult19 k0_t1 v6 k0_t10).toNat) ∧
  (∀ k0_t10 : Fin (k0_t10_loop v6).trips, ∀ (k0_h6 : k0_cond6 v180 v190 v201 = 1#1), ∀ (k0_h7 : k0_cond7 v190 v201 = 1#1), ∀ a, (k0_off91 v6 k0_t10) a + S1.size a ≤ S4.size a)
def k0_chk4_1 (k0_t1 : Fin k0_t1_loop.trips) (v6 : BitVec 32) (v180 : BitVec 1) (v190 : BitVec 1) (v201 : BitVec 1) : Prop :=
  (∀ k0_t10 : Fin (k0_t10_loop v6).trips, ∀ (k0_h6 : k0_cond6 v180 v190 v201 = 1#1), ∀ (k0_h7 : k0_cond7 v190 v201 = 1#1), ∀ a, (k0_off92 v6 k0_t10) a + S1x32x128.size a ≤ S4x32x128.size a) ∧
  (∀ k0_t10 : Fin (k0_t10_loop v6).trips, ∀ (k0_h6 : k0_cond6 v180 v190 v201 = 1#1), ∀ (k0_h7 : k0_cond7 v190 v201 = 1#1), ∀ a, (k0_off93 k0_t1 v6 k0_t10) a + S32x128.size a ≤ S32x49152.size a) ∧
  (∀ k0_t10 : Fin (k0_t10_loop v6).trips, ∀ (k0_h6 : k0_cond6 v180 v190 v201 = 1#1), ∀ (k0_h7 : k0_cond7 v190 v201 = 1#1), ∀ a, (k0_off95 v6 k0_t10) a + S1x16x128.size a ≤ S4x32x128.size a) ∧
  (∀ k0_t10 : Fin (k0_t10_loop v6).trips, ∀ (k0_h6 : k0_cond6 v180 v190 v201 = 1#1), ∀ (k0_h7 : k0_cond7 v190 v201 = 1#1), ∀ a, (k0_off96 v6 k0_t10) a + S1x16x128.size a ≤ S4x32x128.size a) ∧
  (∀ (k0_h6 : k0_cond6 v180 v190 v201 = 1#1), ∀ (k0_h7 : k0_cond7 v190 v201 = 1#1), (k0_t12_loop v6).OK) ∧
  (∀ k0_t12 : Fin (k0_t12_loop v6).trips, ∀ (k0_h6 : k0_cond6 v180 v190 v201 = 1#1), ∀ (k0_h7 : k0_cond7 v190 v201 = 1#1), ∀ (k0_h17 : k0_cond17 v6 k0_t12 = 1#1), 128 ∣ (k0_mult20 k0_t1 v6 k0_t12).toNat) ∧
  (∀ k0_t12 : Fin (k0_t12_loop v6).trips, ∀ (k0_h6 : k0_cond6 v180 v190 v201 = 1#1), ∀ (k0_h7 : k0_cond7 v190 v201 = 1#1), ∀ (k0_h17 : k0_cond17 v6 k0_t12 = 1#1), ∀ a, (k0_off97 v6 k0_t12) a + S1.size a ≤ S4.size a) ∧
  (∀ k0_t12 : Fin (k0_t12_loop v6).trips, ∀ (k0_h6 : k0_cond6 v180 v190 v201 = 1#1), ∀ (k0_h7 : k0_cond7 v190 v201 = 1#1), ∀ (k0_h17 : k0_cond17 v6 k0_t12 = 1#1), ∀ a, (k0_off98 v6 k0_t12) a + S1x32x128.size a ≤ S4x32x128.size a) ∧
  (∀ k0_t12 : Fin (k0_t12_loop v6).trips, ∀ (k0_h6 : k0_cond6 v180 v190 v201 = 1#1), ∀ (k0_h7 : k0_cond7 v190 v201 = 1#1), ∀ (k0_h17 : k0_cond17 v6 k0_t12 = 1#1), ∀ a, (k0_off99 k0_t1 v6 k0_t12) a + S32x128.size a ≤ S32x49152.size a) ∧
  (∀ (k0_t12 : Fin (k0_t12_loop v6).trips) (k0_t13 : Fin k0_t13_loop.trips), ∀ (k0_h6 : k0_cond6 v180 v190 v201 = 1#1), ∀ (k0_h7 : k0_cond7 v190 v201 = 1#1), ∀ a, (k0_off100 k0_t1 v6 k0_t12 k0_t13) a + S1x1.size a ≤ S24x2048.size a) ∧
  (∀ k0_t12 : Fin (k0_t12_loop v6).trips, ∀ (k0_h6 : k0_cond6 v180 v190 v201 = 1#1), ∀ (k0_h7 : k0_cond7 v190 v201 = 1#1), 128 ∣ (k0_mult21 k0_t1 v6 k0_t12).toNat) ∧
  (∀ k0_t12 : Fin (k0_t12_loop v6).trips, ∀ (k0_h6 : k0_cond6 v180 v190 v201 = 1#1), ∀ (k0_h7 : k0_cond7 v190 v201 = 1#1), ∀ a, (k0_off103 v6 k0_t12) a + S1.size a ≤ S4.size a) ∧
  (∀ k0_t12 : Fin (k0_t12_loop v6).trips, ∀ (k0_h6 : k0_cond6 v180 v190 v201 = 1#1), ∀ (k0_h7 : k0_cond7 v190 v201 = 1#1), ∀ a, (k0_off104 v6 k0_t12) a + S1x32x128.size a ≤ S4x32x128.size a) ∧
  (∀ k0_t12 : Fin (k0_t12_loop v6).trips, ∀ (k0_h6 : k0_cond6 v180 v190 v201 = 1#1), ∀ (k0_h7 : k0_cond7 v190 v201 = 1#1), ∀ a, (k0_off105 k0_t1 v6 k0_t12) a + S32x128.size a ≤ S32x49152.size a) ∧
  (∀ k0_t12 : Fin (k0_t12_loop v6).trips, ∀ (k0_h6 : k0_cond6 v180 v190 v201 = 1#1), ∀ (k0_h7 : k0_cond7 v190 v201 = 1#1), ∀ a, (k0_off107 v6 k0_t12) a + S1x16x128.size a ≤ S4x32x128.size a) ∧
  (∀ k0_t12 : Fin (k0_t12_loop v6).trips, ∀ (k0_h6 : k0_cond6 v180 v190 v201 = 1#1), ∀ (k0_h7 : k0_cond7 v190 v201 = 1#1), ∀ a, (k0_off108 v6 k0_t12) a + S1x16x128.size a ≤ S4x32x128.size a) ∧
  (∀ (k0_h6 : k0_cond6 v180 v190 v201 = 1#1), (k0_t14_loop v6).OK) ∧
  (∀ k0_t14 : Fin (k0_t14_loop v6).trips, ∀ (k0_h6 : k0_cond6 v180 v190 v201 = 1#1), ∀ (k0_h21 : k0_cond21 v6 k0_t14 = 1#1), 128 ∣ (k0_mult25 k0_t1 v6 k0_t14).toNat) ∧
  (∀ k0_t14 : Fin (k0_t14_loop v6).trips, ∀ (k0_h6 : k0_cond6 v180 v190 v201 = 1#1), ∀ (k0_h21 : k0_cond21 v6 k0_t14 = 1#1), ∀ a, (k0_off120 v6 k0_t14) a + S1.size a ≤ S4.size a) ∧
  (∀ k0_t14 : Fin (k0_t14_loop v6).trips, ∀ (k0_h6 : k0_cond6 v180 v190 v201 = 1#1), ∀ (k0_h21 : k0_cond21 v6 k0_t14 = 1#1), ∀ a, (k0_off121 v6 k0_t14) a + S1x32x128.size a ≤ S4x32x128.size a) ∧
  (∀ k0_t14 : Fin (k0_t14_loop v6).trips, ∀ (k0_h6 : k0_cond6 v180 v190 v201 = 1#1), ∀ (k0_h21 : k0_cond21 v6 k0_t14 = 1#1), ∀ a, (k0_off122 k0_t1 v6 k0_t14) a + S32x128.size a ≤ S32x49152.size a) ∧
  (∀ (k0_t14 : Fin (k0_t14_loop v6).trips) (k0_t15 : Fin k0_t15_loop.trips), ∀ (k0_h6 : k0_cond6 v180 v190 v201 = 1#1), ∀ a, (k0_off123 k0_t1 v6 k0_t14 k0_t15) a + S1x1.size a ≤ S24x2048.size a) ∧
  (∀ k0_t14 : Fin (k0_t14_loop v6).trips, ∀ (k0_h6 : k0_cond6 v180 v190 v201 = 1#1), 128 ∣ (k0_mult26 k0_t1 v6 k0_t14).toNat) ∧
  (∀ k0_t14 : Fin (k0_t14_loop v6).trips, ∀ (k0_h6 : k0_cond6 v180 v190 v201 = 1#1), ∀ a, (k0_off126 v6 k0_t14) a + S1.size a ≤ S4.size a) ∧
  (∀ k0_t14 : Fin (k0_t14_loop v6).trips, ∀ (k0_h6 : k0_cond6 v180 v190 v201 = 1#1), ∀ a, (k0_off127 v6 k0_t14) a + S1x32x128.size a ≤ S4x32x128.size a) ∧
  (∀ k0_t14 : Fin (k0_t14_loop v6).trips, ∀ (k0_h6 : k0_cond6 v180 v190 v201 = 1#1), ∀ a, (k0_off128 k0_t1 v6 k0_t14) a + S32x128.size a ≤ S32x49152.size a) ∧
  (∀ k0_t14 : Fin (k0_t14_loop v6).trips, ∀ (k0_h6 : k0_cond6 v180 v190 v201 = 1#1), ∀ a, (k0_off130 v6 k0_t14) a + S1x16x128.size a ≤ S4x32x128.size a) ∧
  (∀ k0_t14 : Fin (k0_t14_loop v6).trips, ∀ (k0_h6 : k0_cond6 v180 v190 v201 = 1#1), ∀ a, (k0_off131 v6 k0_t14) a + S1x16x128.size a ≤ S4x32x128.size a) ∧
  (∀ (k0_h6 : k0_cond6 v180 v190 v201 = 1#1), (k0_t16_loop v6).OK) ∧
  (∀ k0_t16 : Fin (k0_t16_loop v6).trips, ∀ (k0_h6 : k0_cond6 v180 v190 v201 = 1#1), ∀ (k0_h22 : k0_cond22 v6 k0_t16 = 1#1), 128 ∣ (k0_mult27 k0_t1 v6 k0_t16).toNat) ∧
  (∀ k0_t16 : Fin (k0_t16_loop v6).trips, ∀ (k0_h6 : k0_cond6 v180 v190 v201 = 1#1), ∀ (k0_h22 : k0_cond22 v6 k0_t16 = 1#1), ∀ a, (k0_off132 v6 k0_t16) a + S1.size a ≤ S4.size a) ∧
  (∀ k0_t16 : Fin (k0_t16_loop v6).trips, ∀ (k0_h6 : k0_cond6 v180 v190 v201 = 1#1), ∀ (k0_h22 : k0_cond22 v6 k0_t16 = 1#1), ∀ a, (k0_off133 v6 k0_t16) a + S1x32x128.size a ≤ S4x32x128.size a)
def k0_chk4_2 (k0_t1 : Fin k0_t1_loop.trips) (v6 : BitVec 32) (v180 : BitVec 1) (v190 : BitVec 1) (v201 : BitVec 1) : Prop :=
  (∀ k0_t16 : Fin (k0_t16_loop v6).trips, ∀ (k0_h6 : k0_cond6 v180 v190 v201 = 1#1), ∀ (k0_h22 : k0_cond22 v6 k0_t16 = 1#1), ∀ a, (k0_off134 k0_t1 v6 k0_t16) a + S32x128.size a ≤ S32x49152.size a) ∧
  (∀ (k0_t16 : Fin (k0_t16_loop v6).trips) (k0_t17 : Fin k0_t17_loop.trips), ∀ (k0_h6 : k0_cond6 v180 v190 v201 = 1#1), ∀ a, (k0_off135 k0_t1 v6 k0_t16 k0_t17) a + S1x1.size a ≤ S24x2048.size a) ∧
  (∀ k0_t16 : Fin (k0_t16_loop v6).trips, ∀ (k0_h6 : k0_cond6 v180 v190 v201 = 1#1), 128 ∣ (k0_mult28 k0_t1 v6 k0_t16).toNat) ∧
  (∀ k0_t16 : Fin (k0_t16_loop v6).trips, ∀ (k0_h6 : k0_cond6 v180 v190 v201 = 1#1), ∀ a, (k0_off138 v6 k0_t16) a + S1.size a ≤ S4.size a) ∧
  (∀ k0_t16 : Fin (k0_t16_loop v6).trips, ∀ (k0_h6 : k0_cond6 v180 v190 v201 = 1#1), ∀ a, (k0_off139 v6 k0_t16) a + S1x32x128.size a ≤ S4x32x128.size a) ∧
  (∀ k0_t16 : Fin (k0_t16_loop v6).trips, ∀ (k0_h6 : k0_cond6 v180 v190 v201 = 1#1), ∀ a, (k0_off140 k0_t1 v6 k0_t16) a + S32x128.size a ≤ S32x49152.size a) ∧
  (∀ k0_t16 : Fin (k0_t16_loop v6).trips, ∀ (k0_h6 : k0_cond6 v180 v190 v201 = 1#1), ∀ a, (k0_off142 v6 k0_t16) a + S1x16x128.size a ≤ S4x32x128.size a) ∧
  (∀ k0_t16 : Fin (k0_t16_loop v6).trips, ∀ (k0_h6 : k0_cond6 v180 v190 v201 = 1#1), ∀ a, (k0_off143 v6 k0_t16) a + S1x16x128.size a ≤ S4x32x128.size a)
def k0_chk4 (k0_t1 : Fin k0_t1_loop.trips) (v6 : BitVec 32) (v180 : BitVec 1) (v190 : BitVec 1) (v201 : BitVec 1) : Prop :=
  k0_chk4_0 k0_t1 v6 v180 v190 v201 ∧
  k0_chk4_1 k0_t1 v6 v180 v190 v201 ∧
  k0_chk4_2 k0_t1 v6 v180 v190 v201
theorem k0_t6_ok : ∀ (k0_t1 : Fin k0_t1_loop.trips) (v6 : BitVec 32) (v180 : BitVec 1) (v190 : BitVec 1) (v201 : BitVec 1) (k0_hw4 : k0_chk4 k0_t1 v6 v180 v190 v201), ∀ (k0_h6 : k0_cond6 v180 v190 v201 = 1#1), ∀ (k0_h7 : k0_cond7 v190 v201 = 1#1), (k0_t6_loop v6).OK := fun k0_t1 v6 v180 v190 v201 k0_hw4 k0_h6 k0_h7 => k0_hw4.1.1 k0_h6 k0_h7
theorem k0_mult11_dvd : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ (k0_h11 : k0_cond11 v6 k0_t6 = 1#1), 128 ∣ (k0_mult11 k0_t1 v6 k0_t6).toNat := fun k0_t1 v6 v180 v190 v201 k0_hw4 k0_t6 k0_h6 k0_h7 k0_h11 => k0_hw4.1.2.1 k0_t6 k0_h6 k0_h7 k0_h11
theorem k0_off52_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ (k0_h11 : k0_cond11 v6 k0_t6 = 1#1), ∀ a, (k0_off52 v6 k0_t6) a + S1.size a ≤ S4.size a := fun k0_t1 v6 v180 v190 v201 k0_hw4 k0_t6 k0_h6 k0_h7 k0_h11 => k0_hw4.1.2.2.1 k0_t6 k0_h6 k0_h7 k0_h11
theorem k0_off53_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ (k0_h11 : k0_cond11 v6 k0_t6 = 1#1), ∀ a, (k0_off53 v6 k0_t6) a + S1x32x128.size a ≤ S4x32x128.size a := fun k0_t1 v6 v180 v190 v201 k0_hw4 k0_t6 k0_h6 k0_h7 k0_h11 => k0_hw4.1.2.2.2.1 k0_t6 k0_h6 k0_h7 k0_h11
theorem k0_off54_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ (k0_h11 : k0_cond11 v6 k0_t6 = 1#1), ∀ a, (k0_off54 k0_t1 v6 k0_t6) a + S32x128.size a ≤ S32x49152.size a := fun k0_t1 v6 v180 v190 v201 k0_hw4 k0_t6 k0_h6 k0_h7 k0_h11 => k0_hw4.1.2.2.2.2.1 k0_t6 k0_h6 k0_h7 k0_h11
theorem k0_off55_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips) (k0_t7 : Fin k0_t7_loop.trips), ∀ (k0_h6 : k0_cond6 v180 v190 v201 = 1#1), ∀ (k0_h7 : k0_cond7 v190 v201 = 1#1), ∀ a, (k0_off55 k0_t1 v6 k0_t6 k0_t7) a + S1x1.size a ≤ S24x2048.size a := fun k0_t1 v6 v180 v190 v201 k0_hw4 k0_t6 k0_t7 k0_h6 k0_h7 => k0_hw4.1.2.2.2.2.2.1 k0_t6 k0_t7 k0_h6 k0_h7
theorem k0_mult12_dvd : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), 128 ∣ (k0_mult12 k0_t1 v6 k0_t6).toNat := fun k0_t1 v6 v180 v190 v201 k0_hw4 k0_t6 k0_h6 k0_h7 => k0_hw4.1.2.2.2.2.2.2.1 k0_t6 k0_h6 k0_h7
theorem k0_off58_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ a, (k0_off58 v6 k0_t6) a + S1.size a ≤ S4.size a := fun k0_t1 v6 v180 v190 v201 k0_hw4 k0_t6 k0_h6 k0_h7 => k0_hw4.1.2.2.2.2.2.2.2.1 k0_t6 k0_h6 k0_h7
theorem k0_off59_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ a, (k0_off59 v6 k0_t6) a + S1x32x128.size a ≤ S4x32x128.size a := fun k0_t1 v6 v180 v190 v201 k0_hw4 k0_t6 k0_h6 k0_h7 => k0_hw4.1.2.2.2.2.2.2.2.2.1 k0_t6 k0_h6 k0_h7
theorem k0_off60_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ a, (k0_off60 k0_t1 v6 k0_t6) a + S32x128.size a ≤ S32x49152.size a := fun k0_t1 v6 v180 v190 v201 k0_hw4 k0_t6 k0_h6 k0_h7 => k0_hw4.1.2.2.2.2.2.2.2.2.2.1 k0_t6 k0_h6 k0_h7
theorem k0_off62_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ a, (k0_off62 v6 k0_t6) a + S1x16x128.size a ≤ S4x32x128.size a := fun k0_t1 v6 v180 v190 v201 k0_hw4 k0_t6 k0_h6 k0_h7 => k0_hw4.1.2.2.2.2.2.2.2.2.2.2.1 k0_t6 k0_h6 k0_h7
theorem k0_off63_inb : ∀ (k0_t1 : Fin k0_t1_loop.trips) (v6 : BitVec 32) (v180 : BitVec 1) (v190 : BitVec 1) (v201 : BitVec 1) (k0_hw4 : k0_chk4 k0_t1 v6 v180 v190 v201) (k0_t6 : Fin (k0_t6_loop v6).trips), ∀ (k0_h6 : k0_cond6 v180 v190 v201 = 1#1), ∀ (k0_h7 : k0_cond7 v190 v201 = 1#1), ∀ a, (k0_off63 v6 k0_t6) a + S1x16x128.size a ≤ S4x32x128.size a := fun k0_t1 v6 v180 v190 v201 k0_hw4 k0_t6 k0_h6 k0_h7 => k0_hw4.1.2.2.2.2.2.2.2.2.2.2.2.1 k0_t6 k0_h6 k0_h7
theorem k0_t8_ok : ∀ (k0_t1 : Fin k0_t1_loop.trips) (v6 : BitVec 32) (v180 : BitVec 1) (v190 : BitVec 1) (v201 : BitVec 1) (k0_hw4 : k0_chk4 k0_t1 v6 v180 v190 v201), ∀ (k0_h6 : k0_cond6 v180 v190 v201 = 1#1), ∀ (k0_h7 : k0_cond7 v190 v201 = 1#1), (k0_t8_loop v6).OK := fun k0_t1 v6 v180 v190 v201 k0_hw4 k0_h6 k0_h7 => k0_hw4.1.2.2.2.2.2.2.2.2.2.2.2.2.1 k0_h6 k0_h7
theorem k0_mult13_dvd : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ (k0_h12 : k0_cond12 v6 k0_t8 = 1#1), 128 ∣ (k0_mult13 k0_t1 v6 k0_t8).toNat := fun k0_t1 v6 v180 v190 v201 k0_hw4 k0_t8 k0_h6 k0_h7 k0_h12 => k0_hw4.1.2.2.2.2.2.2.2.2.2.2.2.2.2.1 k0_t8 k0_h6 k0_h7 k0_h12
theorem k0_off64_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ (k0_h12 : k0_cond12 v6 k0_t8 = 1#1), ∀ a, (k0_off64 v6 k0_t8) a + S1.size a ≤ S4.size a := fun k0_t1 v6 v180 v190 v201 k0_hw4 k0_t8 k0_h6 k0_h7 k0_h12 => k0_hw4.1.2.2.2.2.2.2.2.2.2.2.2.2.2.2.1 k0_t8 k0_h6 k0_h7 k0_h12
theorem k0_off65_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ (k0_h12 : k0_cond12 v6 k0_t8 = 1#1), ∀ a, (k0_off65 v6 k0_t8) a + S1x32x128.size a ≤ S4x32x128.size a := fun k0_t1 v6 v180 v190 v201 k0_hw4 k0_t8 k0_h6 k0_h7 k0_h12 => k0_hw4.1.2.2.2.2.2.2.2.2.2.2.2.2.2.2.2.1 k0_t8 k0_h6 k0_h7 k0_h12
theorem k0_off66_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ (k0_h12 : k0_cond12 v6 k0_t8 = 1#1), ∀ a, (k0_off66 k0_t1 v6 k0_t8) a + S32x128.size a ≤ S32x49152.size a := fun k0_t1 v6 v180 v190 v201 k0_hw4 k0_t8 k0_h6 k0_h7 k0_h12 => k0_hw4.1.2.2.2.2.2.2.2.2.2.2.2.2.2.2.2.2.1 k0_t8 k0_h6 k0_h7 k0_h12
theorem k0_off67_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips) (k0_t9 : Fin k0_t9_loop.trips), ∀ (k0_h6 : k0_cond6 v180 v190 v201 = 1#1), ∀ (k0_h7 : k0_cond7 v190 v201 = 1#1), ∀ a, (k0_off67 k0_t1 v6 k0_t8 k0_t9) a + S1x1.size a ≤ S24x2048.size a := fun k0_t1 v6 v180 v190 v201 k0_hw4 k0_t8 k0_t9 k0_h6 k0_h7 => k0_hw4.1.2.2.2.2.2.2.2.2.2.2.2.2.2.2.2.2.2.1 k0_t8 k0_t9 k0_h6 k0_h7
theorem k0_mult14_dvd : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), 128 ∣ (k0_mult14 k0_t1 v6 k0_t8).toNat := fun k0_t1 v6 v180 v190 v201 k0_hw4 k0_t8 k0_h6 k0_h7 => k0_hw4.1.2.2.2.2.2.2.2.2.2.2.2.2.2.2.2.2.2.2.1 k0_t8 k0_h6 k0_h7
theorem k0_off70_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ a, (k0_off70 v6 k0_t8) a + S1.size a ≤ S4.size a := fun k0_t1 v6 v180 v190 v201 k0_hw4 k0_t8 k0_h6 k0_h7 => k0_hw4.1.2.2.2.2.2.2.2.2.2.2.2.2.2.2.2.2.2.2.2.1 k0_t8 k0_h6 k0_h7
theorem k0_off71_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ a, (k0_off71 v6 k0_t8) a + S1x32x128.size a ≤ S4x32x128.size a := fun k0_t1 v6 v180 v190 v201 k0_hw4 k0_t8 k0_h6 k0_h7 => k0_hw4.1.2.2.2.2.2.2.2.2.2.2.2.2.2.2.2.2.2.2.2.2.1 k0_t8 k0_h6 k0_h7
theorem k0_off72_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ a, (k0_off72 k0_t1 v6 k0_t8) a + S32x128.size a ≤ S32x49152.size a := fun k0_t1 v6 v180 v190 v201 k0_hw4 k0_t8 k0_h6 k0_h7 => k0_hw4.1.2.2.2.2.2.2.2.2.2.2.2.2.2.2.2.2.2.2.2.2.2.1 k0_t8 k0_h6 k0_h7
theorem k0_off74_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ a, (k0_off74 v6 k0_t8) a + S1x16x128.size a ≤ S4x32x128.size a := fun k0_t1 v6 v180 v190 v201 k0_hw4 k0_t8 k0_h6 k0_h7 => k0_hw4.1.2.2.2.2.2.2.2.2.2.2.2.2.2.2.2.2.2.2.2.2.2.2.1 k0_t8 k0_h6 k0_h7
theorem k0_off75_inb : ∀ (k0_t1 : Fin k0_t1_loop.trips) (v6 : BitVec 32) (v180 : BitVec 1) (v190 : BitVec 1) (v201 : BitVec 1) (k0_hw4 : k0_chk4 k0_t1 v6 v180 v190 v201) (k0_t8 : Fin (k0_t8_loop v6).trips), ∀ (k0_h6 : k0_cond6 v180 v190 v201 = 1#1), ∀ (k0_h7 : k0_cond7 v190 v201 = 1#1), ∀ a, (k0_off75 v6 k0_t8) a + S1x16x128.size a ≤ S4x32x128.size a := fun k0_t1 v6 v180 v190 v201 k0_hw4 k0_t8 k0_h6 k0_h7 => k0_hw4.1.2.2.2.2.2.2.2.2.2.2.2.2.2.2.2.2.2.2.2.2.2.2.2.1 k0_t8 k0_h6 k0_h7
theorem k0_t10_ok : ∀ (k0_t1 : Fin k0_t1_loop.trips) (v6 : BitVec 32) (v180 : BitVec 1) (v190 : BitVec 1) (v201 : BitVec 1) (k0_hw4 : k0_chk4 k0_t1 v6 v180 v190 v201), ∀ (k0_h6 : k0_cond6 v180 v190 v201 = 1#1), ∀ (k0_h7 : k0_cond7 v190 v201 = 1#1), (k0_t10_loop v6).OK := fun k0_t1 v6 v180 v190 v201 k0_hw4 k0_h6 k0_h7 => k0_hw4.1.2.2.2.2.2.2.2.2.2.2.2.2.2.2.2.2.2.2.2.2.2.2.2.2.1 k0_h6 k0_h7
theorem k0_mult18_dvd : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ (k0_h16 : k0_cond16 v6 k0_t10 = 1#1), 128 ∣ (k0_mult18 k0_t1 v6 k0_t10).toNat := fun k0_t1 v6 v180 v190 v201 k0_hw4 k0_t10 k0_h6 k0_h7 k0_h16 => k0_hw4.1.2.2.2.2.2.2.2.2.2.2.2.2.2.2.2.2.2.2.2.2.2.2.2.2.2.1 k0_t10 k0_h6 k0_h7 k0_h16
theorem k0_off85_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ (k0_h16 : k0_cond16 v6 k0_t10 = 1#1), ∀ a, (k0_off85 v6 k0_t10) a + S1.size a ≤ S4.size a := fun k0_t1 v6 v180 v190 v201 k0_hw4 k0_t10 k0_h6 k0_h7 k0_h16 => k0_hw4.1.2.2.2.2.2.2.2.2.2.2.2.2.2.2.2.2.2.2.2.2.2.2.2.2.2.2.1 k0_t10 k0_h6 k0_h7 k0_h16
theorem k0_off86_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ (k0_h16 : k0_cond16 v6 k0_t10 = 1#1), ∀ a, (k0_off86 v6 k0_t10) a + S1x32x128.size a ≤ S4x32x128.size a := fun k0_t1 v6 v180 v190 v201 k0_hw4 k0_t10 k0_h6 k0_h7 k0_h16 => k0_hw4.1.2.2.2.2.2.2.2.2.2.2.2.2.2.2.2.2.2.2.2.2.2.2.2.2.2.2.2.1 k0_t10 k0_h6 k0_h7 k0_h16
theorem k0_off87_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ (k0_h16 : k0_cond16 v6 k0_t10 = 1#1), ∀ a, (k0_off87 k0_t1 v6 k0_t10) a + S32x128.size a ≤ S32x49152.size a := fun k0_t1 v6 v180 v190 v201 k0_hw4 k0_t10 k0_h6 k0_h7 k0_h16 => k0_hw4.1.2.2.2.2.2.2.2.2.2.2.2.2.2.2.2.2.2.2.2.2.2.2.2.2.2.2.2.2.1 k0_t10 k0_h6 k0_h7 k0_h16
theorem k0_off88_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips) (k0_t11 : Fin k0_t11_loop.trips), ∀ (k0_h6 : k0_cond6 v180 v190 v201 = 1#1), ∀ (k0_h7 : k0_cond7 v190 v201 = 1#1), ∀ a, (k0_off88 k0_t1 v6 k0_t10 k0_t11) a + S1x1.size a ≤ S24x2048.size a := fun k0_t1 v6 v180 v190 v201 k0_hw4 k0_t10 k0_t11 k0_h6 k0_h7 => k0_hw4.1.2.2.2.2.2.2.2.2.2.2.2.2.2.2.2.2.2.2.2.2.2.2.2.2.2.2.2.2.2.1 k0_t10 k0_t11 k0_h6 k0_h7
theorem k0_mult19_dvd : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), 128 ∣ (k0_mult19 k0_t1 v6 k0_t10).toNat := fun k0_t1 v6 v180 v190 v201 k0_hw4 k0_t10 k0_h6 k0_h7 => k0_hw4.1.2.2.2.2.2.2.2.2.2.2.2.2.2.2.2.2.2.2.2.2.2.2.2.2.2.2.2.2.2.2.1 k0_t10 k0_h6 k0_h7
theorem k0_off91_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ a, (k0_off91 v6 k0_t10) a + S1.size a ≤ S4.size a := fun k0_t1 v6 v180 v190 v201 k0_hw4 k0_t10 k0_h6 k0_h7 => k0_hw4.1.2.2.2.2.2.2.2.2.2.2.2.2.2.2.2.2.2.2.2.2.2.2.2.2.2.2.2.2.2.2.2 k0_t10 k0_h6 k0_h7
theorem k0_off92_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ a, (k0_off92 v6 k0_t10) a + S1x32x128.size a ≤ S4x32x128.size a := fun k0_t1 v6 v180 v190 v201 k0_hw4 k0_t10 k0_h6 k0_h7 => k0_hw4.2.1.1 k0_t10 k0_h6 k0_h7
theorem k0_off93_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ a, (k0_off93 k0_t1 v6 k0_t10) a + S32x128.size a ≤ S32x49152.size a := fun k0_t1 v6 v180 v190 v201 k0_hw4 k0_t10 k0_h6 k0_h7 => k0_hw4.2.1.2.1 k0_t10 k0_h6 k0_h7
theorem k0_off95_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ a, (k0_off95 v6 k0_t10) a + S1x16x128.size a ≤ S4x32x128.size a := fun k0_t1 v6 v180 v190 v201 k0_hw4 k0_t10 k0_h6 k0_h7 => k0_hw4.2.1.2.2.1 k0_t10 k0_h6 k0_h7
theorem k0_off96_inb : ∀ (k0_t1 : Fin k0_t1_loop.trips) (v6 : BitVec 32) (v180 : BitVec 1) (v190 : BitVec 1) (v201 : BitVec 1) (k0_hw4 : k0_chk4 k0_t1 v6 v180 v190 v201) (k0_t10 : Fin (k0_t10_loop v6).trips), ∀ (k0_h6 : k0_cond6 v180 v190 v201 = 1#1), ∀ (k0_h7 : k0_cond7 v190 v201 = 1#1), ∀ a, (k0_off96 v6 k0_t10) a + S1x16x128.size a ≤ S4x32x128.size a := fun k0_t1 v6 v180 v190 v201 k0_hw4 k0_t10 k0_h6 k0_h7 => k0_hw4.2.1.2.2.2.1 k0_t10 k0_h6 k0_h7
theorem k0_t12_ok : ∀ (k0_t1 : Fin k0_t1_loop.trips) (v6 : BitVec 32) (v180 : BitVec 1) (v190 : BitVec 1) (v201 : BitVec 1) (k0_hw4 : k0_chk4 k0_t1 v6 v180 v190 v201), ∀ (k0_h6 : k0_cond6 v180 v190 v201 = 1#1), ∀ (k0_h7 : k0_cond7 v190 v201 = 1#1), (k0_t12_loop v6).OK := fun k0_t1 v6 v180 v190 v201 k0_hw4 k0_h6 k0_h7 => k0_hw4.2.1.2.2.2.2.1 k0_h6 k0_h7
theorem k0_mult20_dvd : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ (k0_h17 : k0_cond17 v6 k0_t12 = 1#1), 128 ∣ (k0_mult20 k0_t1 v6 k0_t12).toNat := fun k0_t1 v6 v180 v190 v201 k0_hw4 k0_t12 k0_h6 k0_h7 k0_h17 => k0_hw4.2.1.2.2.2.2.2.1 k0_t12 k0_h6 k0_h7 k0_h17
theorem k0_off97_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ (k0_h17 : k0_cond17 v6 k0_t12 = 1#1), ∀ a, (k0_off97 v6 k0_t12) a + S1.size a ≤ S4.size a := fun k0_t1 v6 v180 v190 v201 k0_hw4 k0_t12 k0_h6 k0_h7 k0_h17 => k0_hw4.2.1.2.2.2.2.2.2.1 k0_t12 k0_h6 k0_h7 k0_h17
theorem k0_off98_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ (k0_h17 : k0_cond17 v6 k0_t12 = 1#1), ∀ a, (k0_off98 v6 k0_t12) a + S1x32x128.size a ≤ S4x32x128.size a := fun k0_t1 v6 v180 v190 v201 k0_hw4 k0_t12 k0_h6 k0_h7 k0_h17 => k0_hw4.2.1.2.2.2.2.2.2.2.1 k0_t12 k0_h6 k0_h7 k0_h17
theorem k0_off99_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ (k0_h17 : k0_cond17 v6 k0_t12 = 1#1), ∀ a, (k0_off99 k0_t1 v6 k0_t12) a + S32x128.size a ≤ S32x49152.size a := fun k0_t1 v6 v180 v190 v201 k0_hw4 k0_t12 k0_h6 k0_h7 k0_h17 => k0_hw4.2.1.2.2.2.2.2.2.2.2.1 k0_t12 k0_h6 k0_h7 k0_h17
theorem k0_off100_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips) (k0_t13 : Fin k0_t13_loop.trips), ∀ (k0_h6 : k0_cond6 v180 v190 v201 = 1#1), ∀ (k0_h7 : k0_cond7 v190 v201 = 1#1), ∀ a, (k0_off100 k0_t1 v6 k0_t12 k0_t13) a + S1x1.size a ≤ S24x2048.size a := fun k0_t1 v6 v180 v190 v201 k0_hw4 k0_t12 k0_t13 k0_h6 k0_h7 => k0_hw4.2.1.2.2.2.2.2.2.2.2.2.1 k0_t12 k0_t13 k0_h6 k0_h7
theorem k0_mult21_dvd : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), 128 ∣ (k0_mult21 k0_t1 v6 k0_t12).toNat := fun k0_t1 v6 v180 v190 v201 k0_hw4 k0_t12 k0_h6 k0_h7 => k0_hw4.2.1.2.2.2.2.2.2.2.2.2.2.1 k0_t12 k0_h6 k0_h7
theorem k0_off103_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ a, (k0_off103 v6 k0_t12) a + S1.size a ≤ S4.size a := fun k0_t1 v6 v180 v190 v201 k0_hw4 k0_t12 k0_h6 k0_h7 => k0_hw4.2.1.2.2.2.2.2.2.2.2.2.2.2.1 k0_t12 k0_h6 k0_h7
theorem k0_off104_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ a, (k0_off104 v6 k0_t12) a + S1x32x128.size a ≤ S4x32x128.size a := fun k0_t1 v6 v180 v190 v201 k0_hw4 k0_t12 k0_h6 k0_h7 => k0_hw4.2.1.2.2.2.2.2.2.2.2.2.2.2.2.1 k0_t12 k0_h6 k0_h7
theorem k0_off105_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ a, (k0_off105 k0_t1 v6 k0_t12) a + S32x128.size a ≤ S32x49152.size a := fun k0_t1 v6 v180 v190 v201 k0_hw4 k0_t12 k0_h6 k0_h7 => k0_hw4.2.1.2.2.2.2.2.2.2.2.2.2.2.2.2.1 k0_t12 k0_h6 k0_h7
theorem k0_off107_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ a, (k0_off107 v6 k0_t12) a + S1x16x128.size a ≤ S4x32x128.size a := fun k0_t1 v6 v180 v190 v201 k0_hw4 k0_t12 k0_h6 k0_h7 => k0_hw4.2.1.2.2.2.2.2.2.2.2.2.2.2.2.2.2.1 k0_t12 k0_h6 k0_h7
theorem k0_off108_inb : ∀ (k0_t1 : Fin k0_t1_loop.trips) (v6 : BitVec 32) (v180 : BitVec 1) (v190 : BitVec 1) (v201 : BitVec 1) (k0_hw4 : k0_chk4 k0_t1 v6 v180 v190 v201) (k0_t12 : Fin (k0_t12_loop v6).trips), ∀ (k0_h6 : k0_cond6 v180 v190 v201 = 1#1), ∀ (k0_h7 : k0_cond7 v190 v201 = 1#1), ∀ a, (k0_off108 v6 k0_t12) a + S1x16x128.size a ≤ S4x32x128.size a := fun k0_t1 v6 v180 v190 v201 k0_hw4 k0_t12 k0_h6 k0_h7 => k0_hw4.2.1.2.2.2.2.2.2.2.2.2.2.2.2.2.2.2.1 k0_t12 k0_h6 k0_h7
theorem k0_t14_ok : ∀ (k0_t1 : Fin k0_t1_loop.trips) (v6 : BitVec 32) (v180 : BitVec 1) (v190 : BitVec 1) (v201 : BitVec 1) (k0_hw4 : k0_chk4 k0_t1 v6 v180 v190 v201), ∀ (k0_h6 : k0_cond6 v180 v190 v201 = 1#1), (k0_t14_loop v6).OK := fun k0_t1 v6 v180 v190 v201 k0_hw4 k0_h6 => k0_hw4.2.1.2.2.2.2.2.2.2.2.2.2.2.2.2.2.2.2.1 k0_h6
theorem k0_mult25_dvd : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ (k0_h21 : k0_cond21 v6 k0_t14 = 1#1), 128 ∣ (k0_mult25 k0_t1 v6 k0_t14).toNat := fun k0_t1 v6 v180 v190 v201 k0_hw4 k0_t14 k0_h6 k0_h21 => k0_hw4.2.1.2.2.2.2.2.2.2.2.2.2.2.2.2.2.2.2.2.1 k0_t14 k0_h6 k0_h21
theorem k0_off120_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ (k0_h21 : k0_cond21 v6 k0_t14 = 1#1), ∀ a, (k0_off120 v6 k0_t14) a + S1.size a ≤ S4.size a := fun k0_t1 v6 v180 v190 v201 k0_hw4 k0_t14 k0_h6 k0_h21 => k0_hw4.2.1.2.2.2.2.2.2.2.2.2.2.2.2.2.2.2.2.2.2.1 k0_t14 k0_h6 k0_h21
theorem k0_off121_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ (k0_h21 : k0_cond21 v6 k0_t14 = 1#1), ∀ a, (k0_off121 v6 k0_t14) a + S1x32x128.size a ≤ S4x32x128.size a := fun k0_t1 v6 v180 v190 v201 k0_hw4 k0_t14 k0_h6 k0_h21 => k0_hw4.2.1.2.2.2.2.2.2.2.2.2.2.2.2.2.2.2.2.2.2.2.1 k0_t14 k0_h6 k0_h21
theorem k0_off122_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ (k0_h21 : k0_cond21 v6 k0_t14 = 1#1), ∀ a, (k0_off122 k0_t1 v6 k0_t14) a + S32x128.size a ≤ S32x49152.size a := fun k0_t1 v6 v180 v190 v201 k0_hw4 k0_t14 k0_h6 k0_h21 => k0_hw4.2.1.2.2.2.2.2.2.2.2.2.2.2.2.2.2.2.2.2.2.2.2.1 k0_t14 k0_h6 k0_h21
theorem k0_off123_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips) (k0_t15 : Fin k0_t15_loop.trips), ∀ (k0_h6 : k0_cond6 v180 v190 v201 = 1#1), ∀ a, (k0_off123 k0_t1 v6 k0_t14 k0_t15) a + S1x1.size a ≤ S24x2048.size a := fun k0_t1 v6 v180 v190 v201 k0_hw4 k0_t14 k0_t15 k0_h6 => k0_hw4.2.1.2.2.2.2.2.2.2.2.2.2.2.2.2.2.2.2.2.2.2.2.2.1 k0_t14 k0_t15 k0_h6
theorem k0_mult26_dvd : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), 128 ∣ (k0_mult26 k0_t1 v6 k0_t14).toNat := fun k0_t1 v6 v180 v190 v201 k0_hw4 k0_t14 k0_h6 => k0_hw4.2.1.2.2.2.2.2.2.2.2.2.2.2.2.2.2.2.2.2.2.2.2.2.2.1 k0_t14 k0_h6
theorem k0_off126_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ a, (k0_off126 v6 k0_t14) a + S1.size a ≤ S4.size a := fun k0_t1 v6 v180 v190 v201 k0_hw4 k0_t14 k0_h6 => k0_hw4.2.1.2.2.2.2.2.2.2.2.2.2.2.2.2.2.2.2.2.2.2.2.2.2.2.1 k0_t14 k0_h6
theorem k0_off127_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ a, (k0_off127 v6 k0_t14) a + S1x32x128.size a ≤ S4x32x128.size a := fun k0_t1 v6 v180 v190 v201 k0_hw4 k0_t14 k0_h6 => k0_hw4.2.1.2.2.2.2.2.2.2.2.2.2.2.2.2.2.2.2.2.2.2.2.2.2.2.2.1 k0_t14 k0_h6
theorem k0_off128_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ a, (k0_off128 k0_t1 v6 k0_t14) a + S32x128.size a ≤ S32x49152.size a := fun k0_t1 v6 v180 v190 v201 k0_hw4 k0_t14 k0_h6 => k0_hw4.2.1.2.2.2.2.2.2.2.2.2.2.2.2.2.2.2.2.2.2.2.2.2.2.2.2.2.1 k0_t14 k0_h6
theorem k0_off130_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ a, (k0_off130 v6 k0_t14) a + S1x16x128.size a ≤ S4x32x128.size a := fun k0_t1 v6 v180 v190 v201 k0_hw4 k0_t14 k0_h6 => k0_hw4.2.1.2.2.2.2.2.2.2.2.2.2.2.2.2.2.2.2.2.2.2.2.2.2.2.2.2.2.1 k0_t14 k0_h6
theorem k0_off131_inb : ∀ (k0_t1 : Fin k0_t1_loop.trips) (v6 : BitVec 32) (v180 : BitVec 1) (v190 : BitVec 1) (v201 : BitVec 1) (k0_hw4 : k0_chk4 k0_t1 v6 v180 v190 v201) (k0_t14 : Fin (k0_t14_loop v6).trips), ∀ (k0_h6 : k0_cond6 v180 v190 v201 = 1#1), ∀ a, (k0_off131 v6 k0_t14) a + S1x16x128.size a ≤ S4x32x128.size a := fun k0_t1 v6 v180 v190 v201 k0_hw4 k0_t14 k0_h6 => k0_hw4.2.1.2.2.2.2.2.2.2.2.2.2.2.2.2.2.2.2.2.2.2.2.2.2.2.2.2.2.2.1 k0_t14 k0_h6
theorem k0_t16_ok : ∀ (k0_t1 : Fin k0_t1_loop.trips) (v6 : BitVec 32) (v180 : BitVec 1) (v190 : BitVec 1) (v201 : BitVec 1) (k0_hw4 : k0_chk4 k0_t1 v6 v180 v190 v201), ∀ (k0_h6 : k0_cond6 v180 v190 v201 = 1#1), (k0_t16_loop v6).OK := fun k0_t1 v6 v180 v190 v201 k0_hw4 k0_h6 => k0_hw4.2.1.2.2.2.2.2.2.2.2.2.2.2.2.2.2.2.2.2.2.2.2.2.2.2.2.2.2.2.2.1 k0_h6
theorem k0_mult27_dvd : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ (k0_h22 : k0_cond22 v6 k0_t16 = 1#1), 128 ∣ (k0_mult27 k0_t1 v6 k0_t16).toNat := fun k0_t1 v6 v180 v190 v201 k0_hw4 k0_t16 k0_h6 k0_h22 => k0_hw4.2.1.2.2.2.2.2.2.2.2.2.2.2.2.2.2.2.2.2.2.2.2.2.2.2.2.2.2.2.2.2.1 k0_t16 k0_h6 k0_h22
theorem k0_off132_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ (k0_h22 : k0_cond22 v6 k0_t16 = 1#1), ∀ a, (k0_off132 v6 k0_t16) a + S1.size a ≤ S4.size a := fun k0_t1 v6 v180 v190 v201 k0_hw4 k0_t16 k0_h6 k0_h22 => k0_hw4.2.1.2.2.2.2.2.2.2.2.2.2.2.2.2.2.2.2.2.2.2.2.2.2.2.2.2.2.2.2.2.2.1 k0_t16 k0_h6 k0_h22
theorem k0_off133_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ (k0_h22 : k0_cond22 v6 k0_t16 = 1#1), ∀ a, (k0_off133 v6 k0_t16) a + S1x32x128.size a ≤ S4x32x128.size a := fun k0_t1 v6 v180 v190 v201 k0_hw4 k0_t16 k0_h6 k0_h22 => k0_hw4.2.1.2.2.2.2.2.2.2.2.2.2.2.2.2.2.2.2.2.2.2.2.2.2.2.2.2.2.2.2.2.2.2 k0_t16 k0_h6 k0_h22
theorem k0_off134_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ (k0_h22 : k0_cond22 v6 k0_t16 = 1#1), ∀ a, (k0_off134 k0_t1 v6 k0_t16) a + S32x128.size a ≤ S32x49152.size a := fun k0_t1 v6 v180 v190 v201 k0_hw4 k0_t16 k0_h6 k0_h22 => k0_hw4.2.2.1 k0_t16 k0_h6 k0_h22
theorem k0_off135_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips) (k0_t17 : Fin k0_t17_loop.trips), ∀ (k0_h6 : k0_cond6 v180 v190 v201 = 1#1), ∀ a, (k0_off135 k0_t1 v6 k0_t16 k0_t17) a + S1x1.size a ≤ S24x2048.size a := fun k0_t1 v6 v180 v190 v201 k0_hw4 k0_t16 k0_t17 k0_h6 => k0_hw4.2.2.2.1 k0_t16 k0_t17 k0_h6
theorem k0_mult28_dvd : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), 128 ∣ (k0_mult28 k0_t1 v6 k0_t16).toNat := fun k0_t1 v6 v180 v190 v201 k0_hw4 k0_t16 k0_h6 => k0_hw4.2.2.2.2.1 k0_t16 k0_h6
theorem k0_off138_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ a, (k0_off138 v6 k0_t16) a + S1.size a ≤ S4.size a := fun k0_t1 v6 v180 v190 v201 k0_hw4 k0_t16 k0_h6 => k0_hw4.2.2.2.2.2.1 k0_t16 k0_h6
theorem k0_off139_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ a, (k0_off139 v6 k0_t16) a + S1x32x128.size a ≤ S4x32x128.size a := fun k0_t1 v6 v180 v190 v201 k0_hw4 k0_t16 k0_h6 => k0_hw4.2.2.2.2.2.2.1 k0_t16 k0_h6
theorem k0_off140_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ a, (k0_off140 k0_t1 v6 k0_t16) a + S32x128.size a ≤ S32x49152.size a := fun k0_t1 v6 v180 v190 v201 k0_hw4 k0_t16 k0_h6 => k0_hw4.2.2.2.2.2.2.2.1 k0_t16 k0_h6
theorem k0_off142_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ a, (k0_off142 v6 k0_t16) a + S1x16x128.size a ≤ S4x32x128.size a := fun k0_t1 v6 v180 v190 v201 k0_hw4 k0_t16 k0_h6 => k0_hw4.2.2.2.2.2.2.2.2.1 k0_t16 k0_h6
theorem k0_off143_inb : ∀ (k0_t1 : Fin k0_t1_loop.trips) (v6 : BitVec 32) (v180 : BitVec 1) (v190 : BitVec 1) (v201 : BitVec 1) (k0_hw4 : k0_chk4 k0_t1 v6 v180 v190 v201) (k0_t16 : Fin (k0_t16_loop v6).trips), ∀ (k0_h6 : k0_cond6 v180 v190 v201 = 1#1), ∀ a, (k0_off143 v6 k0_t16) a + S1x16x128.size a ≤ S4x32x128.size a := fun k0_t1 v6 v180 v190 v201 k0_hw4 k0_t16 k0_h6 => k0_hw4.2.2.2.2.2.2.2.2.2 k0_t16 k0_h6

def k0_off144 (k0_t1 : Fin k0_t1_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v268 : Index := Scalar.indexCast v4
  let c0_106 : Index := 0#32
  ![v268.toNat, 0]
def k0_off145 (k0_t1 : Fin k0_t1_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v273 : Index := Scalar.indexCast v4
  let c0_107 : Index := 0#32
  ![v273.toNat, 0]
def k0_off146 (k0_t1 : Fin k0_t1_loop.trips) : Fin 3 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v286 : Index := Scalar.indexCast v4
  let c0_109 : Index := 0#32
  let c0_110 : Index := 0#32
  ![v286.toNat, 0, 0]
def k0_off147 (k0_t1 : Fin k0_t1_loop.trips) : Fin 2 → Nat :=
  let c0_i32_2 : BitVec 32 := 0#32
  let c0_i32 : BitVec 32 := 0#32
  let c1_i32 : BitVec 32 := 1#32
  let arg15 : BitVec 32 := Scf.iv c0_i32 c1_i32 k0_t1
  let c1_i32_1 : BitVec 32 := 1#32
  let v3 : BitVec 32 := Scalar.muli arg15 c1_i32_1
  let v4 : BitVec 32 := Scalar.addi c0_i32_2 v3
  let v363 : Index := Scalar.indexCast v4
  let c0_137 : Index := 0#32
  ![v363.toNat, 0]
abbrev stage0_0 : Fin 1 → Memref sig .tc .smem S24x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S24 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x80x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x64x71 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x64x71 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | "log2e_8" => some (((1 / 8) * (Real.log 2)⁻¹ : ℝ) : EReal)
  | _ => none
-- ==== ReferenceIdeal.lean ====
abbrev S24x2048 : Shape := ⟨2, ![24, 2048]⟩
abbrev S24 : Shape := ⟨1, ![24]⟩
abbrev S122880x128 : Shape := ⟨2, ![122880, 128]⟩
abbrev S32x49152 : Shape := ⟨2, ![32, 49152]⟩
abbrev S24x80x64 : Shape := ⟨3, ![24, 80, 64]⟩
abbrev S24x72x128 : Shape := ⟨3, ![24, 72, 128]⟩
abbrev S24x64 : Shape := ⟨2, ![24, 64]⟩
abbrev S24x128 : Shape := ⟨2, ![24, 128]⟩
abbrev S61440x2x16x8 : Shape := ⟨4, ![61440, 2, 16, 8]⟩
abbrev S_ : Shape := ⟨0, ![]⟩
abbrev S24x2048x1 : Shape := ⟨3, ![24, 2048, 1]⟩
abbrev S24x2048x2x16x8 : Shape := ⟨5, ![24, 2048, 2, 16, 8]⟩
abbrev S8 : Shape := ⟨1, ![8]⟩
abbrev S24x2048x2x16x8x1 : Shape := ⟨6, ![24, 2048, 2, 16, 8, 1]⟩
abbrev S1x1x1x1x1x8 : Shape := ⟨6, ![1, 1, 1, 1, 1, 8]⟩
abbrev S24x2048x2x16x8x8 : Shape := ⟨6, ![24, 2048, 2, 16, 8, 8]⟩
abbrev S24x2048x1x16x8x8 : Shape := ⟨6, ![24, 2048, 1, 16, 8, 8]⟩
abbrev S24x2048x16x8x8 : Shape := ⟨5, ![24, 2048, 16, 8, 8]⟩
abbrev S2x16x24x2048 : Shape := ⟨4, ![2, 16, 24, 2048]⟩
abbrev S2x24x2048x16 : Shape := ⟨4, ![2, 24, 2048, 16]⟩
abbrev S1x24x2048x16 : Shape := ⟨4, ![1, 24, 2048, 16]⟩
abbrev S24x2048x16 : Shape := ⟨3, ![24, 2048, 16]⟩
abbrev S24x1x2048x16 : Shape := ⟨4, ![24, 1, 2048, 16]⟩
abbrev S24x71x64 : Shape := ⟨3, ![24, 71, 64]⟩
abbrev S24x71x8x8 : Shape := ⟨4, ![24, 71, 8, 8]⟩
abbrev S24x71x2048x16 : Shape := ⟨4, ![24, 71, 2048, 16]⟩
abbrev S1x2048x16 : Shape := ⟨3, ![1, 2048, 16]⟩
abbrev S24x1x1 : Shape := ⟨3, ![24, 1, 1]⟩
abbrev S24x71x1 : Shape := ⟨3, ![24, 71, 1]⟩
abbrev S24x71 : Shape := ⟨2, ![24, 71]⟩
abbrev S24x71x1x1 : Shape := ⟨4, ![24, 71, 1, 1]⟩
abbrev S24x1x64 : Shape := ⟨3, ![24, 1, 64]⟩
abbrev S24x64x71 : Shape := ⟨3, ![24, 64, 71]⟩
abbrev S24x1 : Shape := ⟨2, ![24, 1]⟩

abbrev nBuf : Space → Nat
  | .hbm => 150
  | .vmem => 0
  | .smem => 0
  | _ => 0

abbrev hbmTy0_0 (i : Nat) : BufTy := match i % 128 with
  | 0 => ⟨S24x2048, .i32⟩
  | 1 => ⟨S24, .i32⟩
  | 2 => ⟨S122880x128, .i32⟩
  | 3 => ⟨S32x49152, .f32⟩
  | 4 => ⟨S24x80x64, .bf16⟩
  | 5 => ⟨S24x72x128, .f32⟩
  | 6 => ⟨S24x64, .f32⟩
  | 7 => ⟨S24x128, .f32⟩
  | 8 => ⟨S61440x2x16x8, .i32⟩
  | 9 => ⟨S_, .i32⟩
  | 10 => ⟨S24x2048, .i32⟩
  | 11 => ⟨S24x2048, .i1⟩
  | 12 => ⟨S_, .i32⟩
  | 13 => ⟨S24x2048, .i32⟩
  | 14 => ⟨S24x2048, .i32⟩
  | 15 => ⟨S24x2048, .i32⟩
  | 16 => ⟨S24x2048x1, .i32⟩
  | 17 => ⟨S24x2048x2x16x8, .i32⟩
  | 18 => ⟨S8, .i32⟩
  | 19 => ⟨S_, .i32⟩
  | 20 => ⟨S8, .i32⟩
  | 21 => ⟨S8, .i32⟩
  | 22 => ⟨S24x2048x2x16x8x1, .i32⟩
  | 23 => ⟨S1x1x1x1x1x8, .i32⟩
  | 24 => ⟨S24x2048x2x16x8x8, .i32⟩
  | 25 => ⟨S24x2048x2x16x8x8, .i32⟩
  | 26 => ⟨S24x2048x2x16x8x8, .i32⟩
  | 27 => ⟨S_, .i32⟩
  | 28 => ⟨S24x2048x2x16x8x8, .i32⟩
  | 29 => ⟨S24x2048x2x16x8x8, .i32⟩
  | 30 => ⟨S_, .i32⟩
  | 31 => ⟨S24x2048x2x16x8x8, .i32⟩
  | 32 => ⟨S24x2048x2x16x8x8, .i32⟩
  | 33 => ⟨S_, .i32⟩
  | 34 => ⟨S24x2048x2x16x8x8, .i32⟩
  | 35 => ⟨S24x2048x2x16x8x8, .i32⟩
  | 36 => ⟨S24x2048x2x16x8x8, .f32⟩
  | 37 => ⟨S24x2048x2x16x8x8, .bf16⟩
  | 38 => ⟨S24x2048x1x16x8x8, .bf16⟩
  | 39 => ⟨S24x2048x16x8x8, .bf16⟩
  | 40 => ⟨S24x2048x1x16x8x8, .bf16⟩
  | 41 => ⟨S24x2048x16x8x8, .bf16⟩
  | 42 => ⟨S2x16x24x2048, .f32⟩
  | 43 => ⟨S2x24x2048x16, .f32⟩
  | 44 => ⟨S1x24x2048x16, .f32⟩
  | 45 => ⟨S24x2048x16, .f32⟩
  | 46 => ⟨S24x1x2048x16, .f32⟩
  | 47 => ⟨S1x24x2048x16, .f32⟩
  | 48 => ⟨S24x2048x16, .f32⟩
  | 49 => ⟨S24x1x2048x16, .f32⟩
  | 50 => ⟨S24x71x64, .bf16⟩
  | 51 => ⟨S24x71x8x8, .bf16⟩
  | 52 => ⟨S24x71x2048x16, .f32⟩
  | 53 => ⟨S1x2048x16, .i32⟩
  | 54 => ⟨S_, .i32⟩
  | 55 => ⟨S1x2048x16, .i32⟩
  | 56 => ⟨S1x2048x16, .i32⟩
  | 57 => ⟨S1x2048x16, .i32⟩
  | 58 => ⟨S1x2048x16, .i32⟩
  | 59 => ⟨S24x1x1, .i32⟩
  | 60 => ⟨S24x2048x16, .i32⟩
  | 61 => ⟨S24x2048x16, .i32⟩
  | 62 => ⟨S24x2048x16, .i1⟩
  | 63 => ⟨S24x1x2048x16, .i1⟩
  | 64 => ⟨S24x71x2048x16, .f32⟩
  | 65 => ⟨S24x71x2048x16, .f32⟩
  | 66 => ⟨S_, .f32⟩
  | 67 => ⟨S24x71x2048x16, .f32⟩
  | 68 => ⟨S24x71x2048x16, .f32⟩
  | 69 => ⟨S_, .f32⟩
  | 70 => ⟨S_, .f32⟩
  | 71 => ⟨S24x71x2048x16, .i1⟩
  | 72 => ⟨S24x71x2048x16, .f32⟩
  | 73 => ⟨S24x71x2048x16, .f32⟩
  | 74 => ⟨S24x71x1, .f32⟩
  | 75 => ⟨S24x71, .f32⟩
  | 76 => ⟨S_, .f32⟩
  | 77 => ⟨S24x71, .f32⟩
  | 78 => ⟨S24x71, .f32⟩
  | 79 => ⟨S24x71, .f32⟩
  | 80 => ⟨S_, .f32⟩
  | 81 => ⟨S24x71, .f32⟩
  | 82 => ⟨S24x71, .f32⟩
  | 83 => ⟨S24x71x1x1, .f32⟩
  | 84 => ⟨S24x71x2048x16, .f32⟩
  | 85 => ⟨S24x71x2048x16, .f32⟩
  | 86 => ⟨S24x71x2048x16, .f32⟩
  | 87 => ⟨S24x71, .f32⟩
  | 88 => ⟨S24x71, .f32⟩
  | 89 => ⟨S_, .f32⟩
  | 90 => ⟨S24x71, .f32⟩
  | 91 => ⟨S24x71, .f32⟩
  | 92 => ⟨S_, .f32⟩
  | 93 => ⟨S24x71, .f32⟩
  | 94 => ⟨S24x71, .f32⟩
  | 95 => ⟨S24x71x1x1, .f32⟩
  | 96 => ⟨S24x71x2048x16, .f32⟩
  | 97 => ⟨S24x71x2048x16, .f32⟩
  | 98 => ⟨S24x71x2048x16, .f32⟩
  | 99 => ⟨S24x71x2048x16, .f32⟩
  | 100 => ⟨S24x71x2048x16, .bf16⟩
  | 101 => ⟨S24x71, .f32⟩
  | 102 => ⟨S24x71, .f32⟩
  | 103 => ⟨S24x71, .f32⟩
  | 104 => ⟨S24x71, .bf16⟩
  | 105 => ⟨S24x71, .f32⟩
  | 106 => ⟨S24x71x8x8, .f32⟩
  | 107 => ⟨S24x71x64, .f32⟩
  | 108 => ⟨S24x71x1, .f32⟩
  | 109 => ⟨S24x1x64, .f32⟩
  | 110 => ⟨S24x71x64, .f32⟩
  | 111 => ⟨S24x71x64, .f32⟩
  | 112 => ⟨S24x71x64, .f32⟩
  | 113 => ⟨S24x71x64, .f32⟩
  | 114 => ⟨S24x71x64, .f32⟩
  | 115 => ⟨S_, .f32⟩
  | 116 => ⟨S24, .f32⟩
  | 117 => ⟨S_, .f32⟩
  | 118 => ⟨S24, .f32⟩
  | 119 => ⟨S24, .f32⟩
  | 120 => ⟨S_, .f32⟩
  | 121 => ⟨S24, .f32⟩
  | 122 => ⟨S24, .f32⟩
  | 123 => ⟨S24, .f32⟩
  | 124 => ⟨S24, .f32⟩
  | 125 => ⟨S24, .f32⟩
  | 126 => ⟨S_, .f32⟩
  | 127 => ⟨S24, .f32⟩
  | _ => ⟨S24x2048, .i32⟩

abbrev hbmTy0_1 (i : Nat) : BufTy := match i % 128 with
  | 0 => ⟨S24, .f32⟩
  | 1 => ⟨S_, .f32⟩
  | 2 => ⟨S_, .f32⟩
  | 3 => ⟨S_, .f32⟩
  | 4 => ⟨S24, .f32⟩
  | 5 => ⟨S24, .f32⟩
  | 6 => ⟨S_, .f32⟩
  | 7 => ⟨S24, .f32⟩
  | 8 => ⟨S24, .f32⟩
  | 9 => ⟨S_, .f32⟩
  | 10 => ⟨S24, .f32⟩
  | 11 => ⟨S24, .i1⟩
  | 12 => ⟨S_, .f32⟩
  | 13 => ⟨S_, .f32⟩
  | 14 => ⟨S24, .f32⟩
  | 15 => ⟨S24, .f32⟩
  | 16 => ⟨S24, .f32⟩
  | 17 => ⟨S24, .f32⟩
  | 18 => ⟨S24x71x64, .bf16⟩
  | 19 => ⟨S24x64x71, .bf16⟩
  | 20 => ⟨S24x1, .f32⟩
  | 21 => ⟨S24x128, .f32⟩
  | _ => ⟨S24x2048, .i32⟩

abbrev hbmTy (i : Nat) : BufTy := match i / 128 with
  | 0 => hbmTy0_0 i
  | 1 => hbmTy0_1 i
  | _ => ⟨S24x2048, .i32⟩

abbrev bufTy : (tb : Table) → Fin (tcTables nBuf tb) → BufTy
  | .hbm, ⟨i, _⟩ => hbmTy i
  | _, _ => ⟨S24x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_9 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_11 : Ref sig .tc := ⟨.hbm, 115, rfl⟩
abbrev main_v91 : Ref sig .tc := ⟨.hbm, 116, rfl⟩
abbrev main_cst_12 : Ref sig .tc := ⟨.hbm, 117, rfl⟩
abbrev main_v92 : Ref sig .tc := ⟨.hbm, 118, rfl⟩
abbrev main_v93 : Ref sig .tc := ⟨.hbm, 119, rfl⟩
abbrev main_cst_13 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_14 : Ref sig .tc := ⟨.hbm, 126, rfl⟩
abbrev main_v99 : Ref sig .tc := ⟨.hbm, 127, rfl⟩
abbrev main_v100 : Ref sig .tc := ⟨.hbm, 128, rfl⟩
abbrev main_cst_15 : Ref sig .tc := ⟨.hbm, 129, rfl⟩
abbrev main_cst_16 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_v101 : Ref sig .tc := ⟨.hbm, 136, rfl⟩
abbrev main_cst_17 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_call2_v0 : Ref sig .tc := ⟨.hbm, 141, rfl⟩
abbrev main_call2_v1 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]
-- ==== Prep.lean ====
abbrev S24x64x71 : Shape := ⟨3, ![24, 64, 71]⟩
abbrev S24x64 : Shape := ⟨2, ![24, 64]⟩
abbrev S24x80x64 : Shape := ⟨3, ![24, 80, 64]⟩
abbrev S24x72x128 : Shape := ⟨3, ![24, 72, 128]⟩
abbrev S24x32 : Shape := ⟨2, ![24, 32]⟩
abbrev S24x1 : Shape := ⟨2, ![24, 1]⟩
abbrev S24x128 : Shape := ⟨2, ![24, 128]⟩
abbrev S64x32 : Shape := ⟨2, ![64, 32]⟩
abbrev S24 : Shape := ⟨1, ![24]⟩
abbrev S1x64x71 : Shape := ⟨3, ![1, 64, 71]⟩
abbrev S64x71 : Shape := ⟨2, ![64, 71]⟩
abbrev S71x64 : Shape := ⟨2, ![71, 64]⟩
abbrev S9x64 : Shape := ⟨2, ![9, 64]⟩
abbrev S80x64 : Shape := ⟨2, ![80, 64]⟩
abbrev S1x80x64 : Shape := ⟨3, ![1, 80, 64]⟩
abbrev S1x64 : Shape := ⟨2, ![1, 64]⟩
abbrev S128x64 : Shape := ⟨2, ![128, 64]⟩
abbrev S80x128 : Shape := ⟨2, ![80, 128]⟩
abbrev S1x1 : Shape := ⟨2, ![1, 1]⟩
abbrev S72x128 : Shape := ⟨2, ![72, 128]⟩
abbrev S1x72x128 : Shape := ⟨3, ![1, 72, 128]⟩

abbrev nBuf : Space → Nat
  | .hbm => 11
  | .vmem => 11
  | .smem => 0
  | _ => 0

abbrev bufTy : (tb : Table) → Fin (tcTables nBuf tb) → BufTy
  | .hbm, ⟨0, _⟩ => ⟨S24x64x71, .bf16⟩
  | .hbm, ⟨1, _⟩ => ⟨S24x64, .bf16⟩
  | .hbm, ⟨2, _⟩ => ⟨S24x64, .bf16⟩
  | .hbm, ⟨3, _⟩ => ⟨S24x80x64, .bf16⟩
  | .hbm, ⟨4, _⟩ => ⟨S24x72x128, .f32⟩
  | .hbm, ⟨5, _⟩ => ⟨S24x32, .i8⟩
  | .hbm, ⟨6, _⟩ => ⟨S24x1, .f32⟩
  | .hbm, ⟨7, _⟩ => ⟨S24x32, .i8⟩
  | .hbm, ⟨8, _⟩ => ⟨S24x1, .f32⟩
  | .hbm, ⟨9, _⟩ => ⟨S24x64, .f32⟩
  | .hbm, ⟨10, _⟩ => ⟨S24x128, .f32⟩
  | .local _ .vmem, ⟨0, _⟩ => ⟨S24x64x71, .bf16⟩
  | .local _ .vmem, ⟨1, _⟩ => ⟨S24x64, .bf16⟩
  | .local _ .vmem, ⟨2, _⟩ => ⟨S24x64, .bf16⟩
  | .local _ .vmem, ⟨3, _⟩ => ⟨S24x80x64, .bf16⟩
  | .local _ .vmem, ⟨4, _⟩ => ⟨S24x72x128, .f32⟩
  | .local _ .vmem, ⟨5, _⟩ => ⟨S24x32, .i8⟩
  | .local _ .vmem, ⟨6, _⟩ => ⟨S24x1, .f32⟩
  | .local _ .vmem, ⟨7, _⟩ => ⟨S24x32, .i8⟩
  | .local _ .vmem, ⟨8, _⟩ => ⟨S24x1, .f32⟩
  | .local _ .vmem, ⟨9, _⟩ => ⟨S24x64, .f32⟩
  | .local _ .vmem, ⟨10, _⟩ => ⟨S24x128, .f32⟩
  | _, _ => ⟨S24x64x71, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x64x71 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x80x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x32 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x32 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== PrepReferenceIdeal.lean ====
abbrev S24x64x71 : Shape := ⟨3, ![24, 64, 71]⟩
abbrev S24x64 : Shape := ⟨2, ![24, 64]⟩
abbrev S_ : Shape := ⟨0, ![]⟩
abbrev S24 : Shape := ⟨1, ![24]⟩
abbrev S24x1 : Shape := ⟨2, ![24, 1]⟩
abbrev S24x32 : Shape := ⟨2, ![24, 32]⟩

abbrev nBuf : Space → Nat
  | .hbm => 89
  | .vmem => 0
  | .smem => 0
  | _ => 0

abbrev bufTy : (tb : Table) → Fin (tcTables nBuf tb) → BufTy
  | .hbm, ⟨0, _⟩ => ⟨S24x64x71, .bf16⟩
  | .hbm, ⟨1, _⟩ => ⟨S24x64, .bf16⟩
  | .hbm, ⟨2, _⟩ => ⟨S24x64, .bf16⟩
  | .hbm, ⟨3, _⟩ => ⟨S24x64, .f32⟩
  | .hbm, ⟨4, _⟩ => ⟨S24x64, .f32⟩
  | .hbm, ⟨5, _⟩ => ⟨S_, .f32⟩
  | .hbm, ⟨6, _⟩ => ⟨S24, .f32⟩
  | .hbm, ⟨7, _⟩ => ⟨S_, .f32⟩
  | .hbm, ⟨8, _⟩ => ⟨S24, .f32⟩
  | .hbm, ⟨9, _⟩ => ⟨S24, .i1⟩
  | .hbm, ⟨10, _⟩ => ⟨S_, .f32⟩
  | .hbm, ⟨11, _⟩ => ⟨S24, .f32⟩
  | .hbm, ⟨12, _⟩ => ⟨S24, .f32⟩
  | .hbm, ⟨13, _⟩ => ⟨S_, .f32⟩
  | .hbm, ⟨14, _⟩ => ⟨S_, .f32⟩
  | .hbm, ⟨15, _⟩ => ⟨S24, .f32⟩
  | .hbm, ⟨16, _⟩ => ⟨S24, .f32⟩
  | .hbm, ⟨17, _⟩ => ⟨S24x1, .f32⟩
  | .hbm, ⟨18, _⟩ => ⟨S24x64, .f32⟩
  | .hbm, ⟨19, _⟩ => ⟨S24x64, .f32⟩
  | .hbm, ⟨20, _⟩ => ⟨S24x64, .f32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S24x64, .f32⟩
  | .hbm, ⟨25, _⟩ => ⟨S24x64, .f32⟩
  | .hbm, ⟨26, _⟩ => ⟨S_, .f32⟩
  | .hbm, ⟨27, _⟩ => ⟨S24x64, .f32⟩
  | .hbm, ⟨28, _⟩ => ⟨S24x64, .f32⟩
  | .hbm, ⟨29, _⟩ => ⟨S24x64, .i32⟩
  | .hbm, ⟨30, _⟩ => ⟨S24x64, .i8⟩
  | .hbm, ⟨31, _⟩ => ⟨S24x64, .f32⟩
  | .hbm, ⟨32, _⟩ => ⟨S24x64, .f32⟩
  | .hbm, ⟨33, _⟩ => ⟨S_, .f32⟩
  | .hbm, ⟨34, _⟩ => ⟨S24, .f32⟩
  | .hbm, ⟨35, _⟩ => ⟨S_, .f32⟩
  | .hbm, ⟨36, _⟩ => ⟨S24, .f32⟩
  | .hbm, ⟨37, _⟩ => ⟨S24, .i1⟩
  | .hbm, ⟨38, _⟩ => ⟨S_, .f32⟩
  | .hbm, ⟨39, _⟩ => ⟨S24, .f32⟩
  | .hbm, ⟨40, _⟩ => ⟨S24, .f32⟩
  | .hbm, ⟨41, _⟩ => ⟨S_, .f32⟩
  | .hbm, ⟨42, _⟩ => ⟨S_, .f32⟩
  | .hbm, ⟨43, _⟩ => ⟨S24, .f32⟩
  | .hbm, ⟨44, _⟩ => ⟨S24, .f32⟩
  | .hbm, ⟨45, _⟩ => ⟨S24x1, .f32⟩
  | .hbm, ⟨46, _⟩ => ⟨S24x64, .f32⟩
  | .hbm, ⟨47, _⟩ => ⟨S24x64, .f32⟩
  | .hbm, ⟨48, _⟩ => ⟨S24x64, .f32⟩
  | .hbm, ⟨49, _⟩ => ⟨S_, .i32⟩
  | .hbm, ⟨50, _⟩ => ⟨S_, .i32⟩
  | .hbm, ⟨51, _⟩ => ⟨S_, .f32⟩
  | .hbm, ⟨52, _⟩ => ⟨S24x64, .f32⟩
  | .hbm, ⟨53, _⟩ => ⟨S24x64, .f32⟩
  | .hbm, ⟨54, _⟩ => ⟨S_, .f32⟩
  | .hbm, ⟨55, _⟩ => ⟨S24x64, .f32⟩
  | .hbm, ⟨56, _⟩ => ⟨S24x64, .f32⟩
  | .hbm, ⟨57, _⟩ => ⟨S24x64, .i32⟩
  | .hbm, ⟨58, _⟩ => ⟨S24x64, .i8⟩
  | .hbm, ⟨59, _⟩ => ⟨S24x64, .i32⟩
  | .hbm, ⟨60, _⟩ => ⟨S24x32, .i32⟩
  | .hbm, ⟨61, _⟩ => ⟨S_, .i32⟩
  | .hbm, ⟨62, _⟩ => ⟨S24x32, .i32⟩
  | .hbm, ⟨63, _⟩ => ⟨S24x32, .i32⟩
  | .hbm, ⟨64, _⟩ => ⟨S24x32, .i32⟩
  | .hbm, ⟨65, _⟩ => ⟨S_, .i32⟩
  | .hbm, ⟨66, _⟩ => ⟨S24x32, .i32⟩
  | .hbm, ⟨67, _⟩ => ⟨S24x32, .i32⟩
  | .hbm, ⟨68, _⟩ => ⟨S_, .i32⟩
  | .hbm, ⟨69, _⟩ => ⟨S24x32, .i32⟩
  | .hbm, ⟨70, _⟩ => ⟨S24x32, .i32⟩
  | .hbm, ⟨71, _⟩ => ⟨S24x32, .i32⟩
  | .hbm, ⟨72, _⟩ => ⟨S24x32, .i8⟩
  | .hbm, ⟨73, _⟩ => ⟨S24x1, .f32⟩
  | .hbm, ⟨74, _⟩ => ⟨S24x64, .i32⟩
  | .hbm, ⟨75, _⟩ => ⟨S24x32, .i32⟩
  | .hbm, ⟨76, _⟩ => ⟨S_, .i32⟩
  | .hbm, ⟨77, _⟩ => ⟨S24x32, .i32⟩
  | .hbm, ⟨78, _⟩ => ⟨S24x32, .i32⟩
  | .hbm, ⟨79, _⟩ => ⟨S24x32, .i32⟩
  | .hbm, ⟨80, _⟩ => ⟨S_, .i32⟩
  | .hbm, ⟨81, _⟩ => ⟨S24x32, .i32⟩
  | .hbm, ⟨82, _⟩ => ⟨S24x32, .i32⟩
  | .hbm, ⟨83, _⟩ => ⟨S_, .i32⟩
  | .hbm, ⟨84, _⟩ => ⟨S24x32, .i32⟩
  | .hbm, ⟨85, _⟩ => ⟨S24x32, .i32⟩
  | .hbm, ⟨86, _⟩ => ⟨S24x32, .i32⟩
  | .hbm, ⟨87, _⟩ => ⟨S24x32, .i8⟩
  | .hbm, ⟨88, _⟩ => ⟨S24x1, .f32⟩
  | _, _ => ⟨S24x64x71, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_c_3 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_cst_7 : Ref sig .tc := ⟨.hbm, 41, rfl⟩
abbrev main_call3_v0 : Ref sig .tc := ⟨.hbm, 42, rfl⟩
abbrev main_call3_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_c_9 : Ref sig .tc := ⟨.hbm, 50, rfl⟩
abbrev main_call5_v0 : Ref sig .tc := ⟨.hbm, 51, rfl⟩
abbrev main_call5_v1 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_10 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_11 : Ref sig .tc := ⟨.hbm, 65, rfl⟩
abbrev main_v35 : Ref sig .tc := ⟨.hbm, 66, rfl⟩
abbrev main_v36 : Ref sig .tc := ⟨.hbm, 67, rfl⟩
abbrev main_c_12 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_14 : Ref sig .tc := ⟨.hbm, 80, rfl⟩
abbrev main_v47 : Ref sig .tc := ⟨.hbm, 81, rfl⟩
abbrev main_v48 : Ref sig .tc := ⟨.hbm, 82, rfl⟩
abbrev main_c_15 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩

abbrev nD : Nat := 1
abbrev τ : Topo := Topo.v7x

variable {F : FTy → Type} [FloatOps F]
-- ==== Proof.Bits.Ring.lean ====
/-
  The ring of four slots the scales arrive in, and the rules by which a body steps its memory operations:
  a load and a store of a buffer owned at known contents, the start of a transfer into a free slot, the wait for it,
  and the loads of the landed slot.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.ValueLayout
public import Idealize.ShloMosaic.Lib.Tactic

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's beside the transfers' counters. -/
local notation "𝕄" => MT nD τ sig Unit (Elt F) ℕ (Pipeline.UD sig nD τ) ℕ

/-- The counters' place in the algebra. -/
abbrev EC : UEmb Counters 𝕄 := countersEmb (U := Pipeline.UD sig nD τ)

/-- Weakest precondition of a program of the body. -/
abbrev wpb {α : Type} (c : Dev nD) (p : Prog (TpuEff nD τ sig (Elt F) Λ₀ .tc) α) (Q : α → sProp 𝕄) : sProp 𝕄 :=
  wp frame (wpE (defs₀ (F := F)) Variants.none (c : Thread nD τ) ((none : Option Variants.none.V))) Set.univ p Q

variable (c : Dev nD) {α : Type} {Q : α → sProp (MT nD τ sig Unit (Elt F) ℕ (Pipeline.UD sig nD τ) ℕ)}

/-! ## A buffer owned at known contents -/

theorem load_owns {cs : CoreSpace} {s : Shape} {e : EltTy} {m : Memref sig .tc cs s e} {r : LoadRect s} {hl : m.view.LoadsAt r}
    {k : (r.shape.Idx → Elt F e) → Prog (TpuEff nD τ sig (Elt F) Λ₀ .tc) α} {q : PosShare TreeShare} {X : s.Idx → Elt F e} :
    (owns (c : Thread nD τ) m q X : sProp 𝕄) ⊢ iprop((owns (c : Thread nD τ) m q X -∗ wpb c (k fun x => X (r.idx x)) Q)
      -∗ wpb c (.op (.load m r hl) k) Q) := by
  unfold owns wpb
  iintro ⟨%f, %hf, H⟩ Hk
  iapply (wp_load (c := (c : Thread nD τ)) (m := m) (r := r) Variants.none none Set.univ
    (show m.view.setOn r.set ⊆ m.view.set from Finset.map_subset_map.2 (Finset.subset_univ _))) $$ H
  iintro H
  have h : m.view.readAt (Elt F) r f = fun x => X (r.idx x) := by
    subst hf; rfl
  rw [h]
  iapply Hk
  iexists f
  isplitr; · ipureintro; exact hf
  iexact H

theorem store_owns {cs : CoreSpace} {s : Shape} {e : EltTy} {m : Memref sig .tc cs s e} {r : Rect s} {w : r.shape.Idx → Elt F e}
    {hx : (m.access r).Stores Finset.univ} {hm}
    {k : PUnit → Prog (TpuEff nD τ sig (Elt F) Λ₀ .tc) α} {X : s.Idx → Elt F e} :
    (owns (c : Thread nD τ) m fullShare X : sProp 𝕄) ⊢ iprop((owns (c : Thread nD τ) m fullShare (r.overlay X w) -∗ wpb c (k ⟨⟩) Q)
      -∗ wpb c (.op (.store m r w Finset.univ hx hm) k) Q) := by
  unfold owns wpb
  iintro ⟨%f, %hf, H⟩ Hk
  iapply (wp_store (c := (c : Thread nD τ)) (m := m) (r := r) Variants.none none Set.univ
    (show (m.access r).setOn Finset.univ ⊆ m.view.set from m.view.set_slice_subset r)) $$ H
  iintro H
  iapply Hk
  iexists _
  isplitr
  swap; · iexact H
  ipureintro
  funext j
  subst hf
  by_cases hj : j ∈ r.set
  · obtain ⟨i, rfl⟩ := r.exists_idx_of_mem hj
    change _ = r.overlay _ w (r.emb i)
    rw [Rect.overlay_emb]
    exact View.read_write_of_mem (v := m.access r) (Val := Elt F) f w (x := i) (Finset.mem_univ _)
  · rw [Rect.overlay_of_not_mem _ _ _ hj]
    rw [View.read_apply, View.read_apply]
    refine congrArg (cast _) (View.write_of_not_mem (v := m.access r) _ _ _ ?_)
    show m.view.emb j ∉ (m.view.slice r).set
    rw [View.set_slice, Finset.mem_map' m.view.emb]; exact hj

theorem smem_owns {s : Shape} {e : EltTy} {m : Memref sig .tc .smem s e} {r : Rect s} {h1 : r.shape.numel = 1} {hp}
    {k : Elt F e → Prog (TpuEff nD τ sig (Elt F) Λ₀ .tc) α} {q : PosShare TreeShare} {X : s.Idx → Elt F e} :
    (owns (c : Thread nD τ) m q X : sProp 𝕄) ⊢ iprop((owns (c : Thread nD τ) m q X -∗ wpb c (k (X (r.point h1))) Q)
      -∗ wpb c ((smemLoad m r h1 hp).bind k) Q) := by
  have := load_owns (F := F) (Q := Q) c (m := m) (r := r.toLoadRect) (q := q) (X := X) (hl := View.loadsAt_rect (View.loads_smem_one hp h1)) (k := fun f => k (f (Shape.Idx.first (h1.symm ▸ Nat.one_pos))))
  exact this

/-! ## The ring -/

section Ring

variable (arg3 : Memref sig .tc .hbm S32x49152 .f32) (arg12 : Memref sig .tc .vmem S4x32x128 .f32) (arg14 : DmaSems sig S4)

/-- Slot `j` of the ring, a block of 32 rows. -/
abbrev slotR (j : Fin 4) : Rect S4x32x128 := Rect.unit (s := S4x32x128) ![j.val, 0, 0] S1x32x128.size (by revert j; decide)
/-- Slot `j` as the transfers name it. -/
abbrev slotM (j : Fin 4) : Memref sig .tc .vmem S32x128 .f32 := (arg12.slice (slotR j) (fun _ => rfl)).squeeze S32x128 squeezes_S1x32x128_S32x128
/-- Block `b` of the gathered scales: 128 columns. -/
abbrev blkR (b : Fin 384) : Rect S32x49152 := Rect.unit (s := S32x49152) ![0, 128 * b.val] S32x128.size
  (by intro a; obtain ⟨b, hb⟩ := b; fin_cases a; · show 0 + 32 ≤ 32; decide
      show 128 * b + 128 ≤ 49152; omega)
/-- Block `b` as the transfers name it. -/
abbrev blkM (b : Fin 384) : Memref sig .tc .hbm S32x128 .f32 := arg3.slice (blkR b) (fun _ => rfl)
/-- Slot `j`'s semaphore. -/
abbrev semJ (j : Fin 4) : DmaSem sig := ((arg14.slice (Rect.unit (s := S4) ![j.val] S1.size (by revert j; decide))).squeeze S_ squeezes_S1_S_).sem

/-- The share of the scales slot `j`'s transfers read through. -/
def qs (j : Fin 4) : PosShare TreeShare :=
  match j with
  | 0 => fullShare.left.left
  | 1 => fullShare.left.right
  | 2 => fullShare.right.left
  | 3 => fullShare.right.right

variable (f3 : Buf (Elt F) (arg3.view.loc (c : Thread nD τ)))

/-- Slot `j` with nothing under way: its semaphore at zero, its elements at some contents, its share of the scales. -/
def Free (j : Fin 4) : sProp 𝕄 :=
  iprop(semVal ((c : Thread nD τ), SemLoc.dma (semJ arg14 j)) 0
    ∗ (∃ f, (slotM arg12 j).view.loc (c : Thread nD τ) ↦[(slotM arg12 j).view.set]{fullShare} f)
    ∗ (arg3.view.loc (c : Thread nD τ) ↦[arg3.view.set]{qs j} f3))

/-- Slot `j` with block `b` of the scales under way. -/
def Busy (j : Fin 4) (b : Fin 384) : sProp 𝕄 :=
  iprop((∃ fd, Transfers.Flight EC (c : Thread nD τ) (SemLoc.dma (semJ arg14 j)) () (slotM arg12 j).view.dmaCredit
      iprop(((slotM arg12 j).view.loc (c : Thread nD τ) ↦[(slotM arg12 j).view.set]{fullShare}
          (slotM arg12 j).view.write (Elt F) fd ((blkM arg3 b).view.read (Elt F) f3) Finset.univ)
        ∗ ((blkM arg3 b).view.loc (c : Thread nD τ) ↦[(blkM arg3 b).view.set]{qs j} f3)))
    ∗ (arg3.view.loc (c : Thread nD τ) ↦[arg3.view.set \ (blkM arg3 b).view.set]{qs j} f3))

/-- Slot `j` holding block `b`, its semaphore at zero and its share of the scales back. -/
def Landed (j : Fin 4) (b : Fin 384) : sProp 𝕄 :=
  iprop(semVal ((c : Thread nD τ), SemLoc.dma (semJ arg14 j)) 0
    ∗ owns (c : Thread nD τ) (slotM arg12 j) fullShare (fun x => arg3.view.read (Elt F) f3 ((blkR b).emb x))
    ∗ (arg3.view.loc (c : Thread nD τ) ↦[arg3.view.set]{qs j} f3))

variable {arg3 arg12 arg14 f3}

theorem landed_free (j : Fin 4) (b : Fin 384) : Landed c arg3 arg12 arg14 f3 j b ⊢ Free c arg3 arg12 arg14 f3 j := by
  unfold Landed Free owns
  iintro ⟨Hs, ⟨%f, %hf, H⟩, Ha⟩
  isplitl [Hs]; · iexact Hs
  isplitl [H]; · iexists f; iexact H
  iexact Ha

theorem issue_slot (j : Fin 4) (b : Fin 384) {o1 : Fin 1 → ℕ} {o3 : Fin 3 → ℕ} {o2 : Fin 2 → ℕ} (h1 : o1 = ![j.val]) (h3 : o3 = ![j.val, 0, 0])
    (h2 : o2 = ![0, 128 * b.val]) {i1 i3 i2} {hsrc hdst hsem} {k : PUnit → Prog (TpuEff nD τ sig (Elt F) Λ₀ .tc) α} :
    Free c arg3 arg12 arg14 f3 j ⊢ iprop((Busy c arg3 arg12 arg14 f3 j b -∗ wpb c (k ⟨⟩) Q)
      -∗ wpb c (.op (.enqueueDma (arg3.slice (Rect.unit (s := S32x49152) o2 S32x128.size i2) (fun _ => rfl))
          (.here ((arg12.slice (Rect.unit (s := S4x32x128) o3 S1x32x128.size i3) (fun _ => rfl)).squeeze S32x128 squeezes_S1x32x128_S32x128))
          (.dma ((arg14.slice (Rect.unit (s := S4) o1 S1.size i1)).squeeze S_ squeezes_S1_S_).sem) hsrc hdst hsem) k) Q) := by
  subst h1 h3 h2
  unfold Free wpb
  iintro ⟨Hs, ⟨%fd, Hd⟩, Ha⟩ Hk
  ihave H' := (pointsTo_split_subset (arg3.view.set_slice_subset (blkR b))).1 $$ Ha
  icases H' with ⟨Hb, Hr⟩
  iapply (Transfers.wp_dmaLocal EC Variants.none (c : Thread nD τ) none (src := blkM arg3 b) (dst := slotM arg12 j)
    (sm := SemLoc.dma (semJ arg14 j)) (fs := f3) (fd := fd) () ((slotM arg12 j).view.dmaCredit) rfl (View.dmaCredit_pos _ (by decide)) (Finset.Subset.refl _)) $$ [Hb Hd Hs]
  · isplitl [Hb]; · iexact Hb
    isplitl [Hd]; · iexact Hd
    iexact Hs
  iintro Hf
  iapply Hk
  unfold Busy
  isplitl [Hf]
  · iexists fd; iexact Hf
  iexact Hr

theorem wait_slot (j : Fin 4) (b : Fin 384) {o1 : Fin 1 → ℕ} {o3 : Fin 3 → ℕ} {o2 : Fin 2 → ℕ} (h1 : o1 = ![j.val])
    {i1 i3 i2} {hsrc hdst} {k : PUnit → Prog (TpuEff nD τ sig (Elt F) Λ₀ .tc) α} {W : Waits sig Unit} :
    iprop(Busy c arg3 arg12 arg14 f3 j b ∗ owes (c : Thread nD τ) 0 W) ⊢ iprop((iprop(Landed c arg3 arg12 arg14 f3 j b ∗ ∃ W, owes (c : Thread nD τ) 0 W) -∗ wpb c (k ⟨⟩) Q)
      -∗ wpb c (.op (.waitDma2 ((arg14.slice (Rect.unit (s := S4) o1 S1.size i1)).squeeze S_ squeezes_S1_S_).sem
          (arg3.slice (Rect.unit (s := S32x49152) o2 S32x128.size i2) (fun _ => rfl))
          ((arg12.slice (Rect.unit (s := S4x32x128) o3 S1x32x128.size i3) (fun _ => rfl)).squeeze S32x128 squeezes_S1x32x128_S32x128) hsrc hdst) k) Q) := by
  subst h1
  unfold Busy wpb
  iintro ⟨⟨⟨%fd, Hf⟩, Hr⟩, HW⟩ Hk
  iapply (Transfers.wp_waitLocal EC Variants.none (c : Thread nD τ) none () (by rfl)) $$ [Hf HW]
  · isplitl [Hf]; · iexact Hf
    iexact HW
  iintro ⟨⟨Hd, Hb⟩, Hs, HW⟩
  iapply Hk
  isplitr [HW]
  swap; · iexists _; iexact HW
  unfold Landed
  isplitl [Hs]; · iexact Hs
  isplitl [Hd]
  · unfold owns
    iexists _
    isplitr
    swap; · iexact Hd
    ipureintro
    rw [View.read_write_univ]; rfl
  iapply (pointsTo_split_subset (arg3.view.set_slice_subset (blkR b))).2
  isplitl [Hb]; · iexact Hb
  iexact Hr

/-- A load of 16 rows of a landed slot. -/
theorem load_slot (j : Fin 4) (o : ℕ) (ho : o + 16 ≤ 32) {X : S32x128.Idx → Elt F .f32} {o3 : Fin 3 → ℕ} (h3 : o3 = ![j.val, o, 0]) {i3} {hl}
    {k : (S1x16x128.Idx → Elt F .f32) → Prog (TpuEff nD τ sig (Elt F) Λ₀ .tc) α} :
    (owns (c : Thread nD τ) (slotM arg12 j) fullShare X : sProp 𝕄) ⊢ iprop((owns (c : Thread nD τ) (slotM arg12 j) fullShare X
        -∗ wpb c (k fun x => X (ix2 (Fin.ofNat 32 (o + (x 1).val)) (x 2))) Q)
      -∗ wpb c (.op (.load arg12 (Rect.unit (s := S4x32x128) o3 S1x16x128.size i3).toLoadRect hl) k) Q) := by
  subst h3
  unfold owns wpb
  iintro ⟨%f, %hf, H⟩ Hk
  have hsub : (arg12.access (Rect.unit (s := S4x32x128) ![j.val, o, 0] S1x16x128.size i3)).set ⊆ (slotM arg12 j).view.set := by
    have h1 : (slotM arg12 j).view.set = (slotR j).set.map arg12.view.emb := by
      rw [← View.set_slice]; exact View.set_reshape (v := arg12.view.slice (slotR j)) _
    have h2 : (arg12.access (Rect.unit (s := S4x32x128) ![j.val, o, 0] S1x16x128.size i3)).set
        = (Rect.unit (s := S4x32x128) ![j.val, o, 0] S1x16x128.size i3).set.map arg12.view.emb := View.set_slice _ _
    refine subset_of_eq_of_subset h2 (Finset.Subset.trans ?_ (subset_of_eq h1.symm))
    refine Finset.map_subset_map.2 ?_
    refine Rect.set_subset_of_axis _ _ fun a j₁ hj₁ => ?_
    fin_cases a
    · exact ⟨j₁, hj₁, rfl⟩
    · refine ⟨o + j₁, ?_, ?_⟩
      · have : j₁ < 16 := hj₁
        show o + j₁ < 32; omega
      · show o + 1 * j₁ = 0 + 1 * (o + j₁); omega
    · exact ⟨j₁, hj₁, rfl⟩
  iapply (wp_load_rect (c := (c : Thread nD τ)) Variants.none none Set.univ hsub) $$ H
  iintro H
  have h : (arg12.access (Rect.unit (s := S4x32x128) ![j.val, o, 0] S1x16x128.size i3)).read (Elt F) f = fun x => X (ix2 (Fin.ofNat 32 (o + (x 1).val)) (x 2)) := by
    subst hf
    funext x
    have h16 : (x 1).val < 16 := (x 1).isLt
    have h0 : (x 0).val < 1 := (x 0).isLt
    suffices he : (Rect.unit (s := S4x32x128) ![j.val, o, 0] S1x16x128.size i3).emb x
        = (slotR j).emb (Shape.reshapeEquiv (squeezes_S1x32x128_S32x128).numel_eq (ix2 (Fin.ofNat 32 (o + (x 1).val)) (x 2))) by
      exact congrArg (fun y => arg12.view.read (Elt F) f y) he
    rw [show Shape.reshapeEquiv (squeezes_S1x32x128_S32x128).numel_eq (ix2 (Fin.ofNat 32 (o + (x 1).val)) (x 2)) = ix3 (0 : Fin 1) (Fin.ofNat 32 (o + (x 1).val)) (x 2) from reshapeEquiv_ix2_1ab _ _ _]
    funext a
    apply Fin.ext
    fin_cases a
    · show j.val + 1 * (x 0).val = j.val + 1 * 0; omega
    · show o + 1 * (x 1).val = 0 + 1 * ((o + (x 1).val) % 32); rw [Nat.mod_eq_of_lt (by omega)]; omega
    · rfl
  rw [h]
  iapply Hk
  iexists f
  isplitr; · ipureintro; exact hf
  iexact H

variable (arg3 arg12 arg14 f3)

/-- The role of the slot `d` places after trip `k`'s: with a block under way if the block exists. -/
def role (B nb k d : ℕ) : sProp 𝕄 :=
  if k + d < nb then Busy c arg3 arg12 arg14 f3 (Fin.ofNat 4 (k + d)) (Fin.ofNat 384 (B + (k + d))) else Free c arg3 arg12 arg14 f3 (Fin.ofNat 4 (k + d))

/-- The ring before trip `k` of `nb`, over the blocks from `B`. -/
def RingAt (B nb k : ℕ) : sProp 𝕄 :=
  iprop(role c arg3 arg12 arg14 f3 B nb k 0 ∗ role c arg3 arg12 arg14 f3 B nb k 1
    ∗ role c arg3 arg12 arg14 f3 B nb k 2 ∗ Free c arg3 arg12 arg14 f3 (Fin.ofNat 4 (k + 3)))

/-- The ring with nothing under way. -/
def RingIdle : sProp 𝕄 :=
  iprop(Free c arg3 arg12 arg14 f3 0 ∗ Free c arg3 arg12 arg14 f3 1 ∗ Free c arg3 arg12 arg14 f3 2 ∗ Free c arg3 arg12 arg14 f3 3)

end Ring

end Cert.Kernel.Hand
-- ==== Proof.Words.lean ====
/-
  The program's words, apart from the buffers: how many blocks a sequence has, and what its index arithmetic comes to.
-/
module

public import Idealize.ShloMosaic.Lib.Scf
public import Idealize.ShloMosaic.Lib.Affine
public import Idealize.ShloMosaic.PureOps

@[expose] public section

noncomputable section

namespace Cert

open Idealize.ShloMosaic Idealize.ShloMosaic.TcCoe

/-! ## The number of blocks -/

/-- The word the program computes for the number of blocks of 2048 tokens in a length. -/
def nbw (v6 : BitVec 32) : BitVec 32 :=
  Scalar.select (Scalar.andi (Scalar.cmpi .ne (Scalar.subi (Scalar.extui (Scalar.cmpi .sgt (Scalar.addi v6 2047#32) 0#32) : BitVec 32) (Scalar.extui (Scalar.cmpi .slt (Scalar.addi v6 2047#32) 0#32)))
      (Scalar.subi (Scalar.extui (Scalar.cmpi .sgt 2048#32 0#32)) (Scalar.extui (Scalar.cmpi .slt 2048#32 0#32))))
      (Scalar.cmpi .ne (Scalar.remsi (Scalar.addi v6 2047#32) 2048#32) 0#32))
    (Scalar.subi (Scalar.divsi (Scalar.addi v6 2047#32) 2048#32) 1#32) (Scalar.divsi (Scalar.addi v6 2047#32) 2048#32)

/-- The number of blocks of a length. -/
def nb (v6 : BitVec 32) : ℕ := ((v6.toInt + 2047) / 2048).toNat

theorem nbw_spec (v6 : BitVec 32) (h : v6.toInt ≤ 32768) : (nbw v6).toInt ≤ 16 ∧ (nbw v6).toInt.toNat = nb v6 ∧ -4194304 ≤ (nbw v6).toInt := by
  have hlo := BitVec.le_toInt v6
  have h7 : (v6 + 2047#32).toInt = v6.toInt + 2047 := by
    rw [BitVec.toInt_add]
    show Int.bmod (v6.toInt + 2047) _ = _
    exact Int.bmod_eq_of_le (by omega) (by omega)
  have hq : (0 ≤ v6.toInt + 2047 ∧ (v6.toInt + 2047).tdiv 2048 = (v6.toInt + 2047) / 2048) ∨
      (v6.toInt + 2047 < 0 ∧ (v6.toInt + 2047).tdiv 2048 = -((-(v6.toInt + 2047)) / 2048)) := by
    by_cases h0 : 0 ≤ v6.toInt + 2047
    · exact .inl ⟨h0, Int.tdiv_eq_ediv_of_nonneg h0⟩
    · refine .inr ⟨by omega, ?_⟩
      rw [← Int.tdiv_eq_ediv_of_nonneg (by omega), Int.neg_tdiv, neg_neg]
  have h8 : (BitVec.sdiv (v6 + 2047#32) 2048#32).toInt = (v6.toInt + 2047).tdiv 2048 := by
    rw [BitVec.toInt_sdiv, h7]
    show Int.bmod ((v6.toInt + 2047).tdiv 2048) _ = _
    exact Int.bmod_eq_of_le (by omega) (by omega)
  have hd : Scalar.divsi (v6 + 2047#32) 2048#32 = BitVec.sdiv (v6 + 2047#32) 2048#32 :=
    if_neg (by rintro (h | ⟨_, h⟩) <;> exact absurd h (by decide))
  have h9 : (BitVec.sdiv (v6 + 2047#32) 2048#32 - 1#32).toInt = (v6.toInt + 2047).tdiv 2048 - 1 := by
    rw [BitVec.toInt_sub, h8]
    show Int.bmod ((v6.toInt + 2047).tdiv 2048 - 1) _ = _
    exact Int.bmod_eq_of_le (by omega) (by omega)
  have hcase : nbw v6 = BitVec.sdiv (v6 + 2047#32) 2048#32 ∨ (v6.toInt + 2047 ≤ 0 ∧ nbw v6 = BitVec.sdiv (v6 + 2047#32) 2048#32 - 1#32) := by
    by_cases hp : 0 < v6.toInt + 2047
    · left
      have e1 : Scalar.cmpi .sgt (v6 + 2047#32) 0#32 = 1#1 := congrArg BitVec.ofBool (decide_eq_true (by rw [h7]; exact hp))
      have e2 : Scalar.cmpi .slt (v6 + 2047#32) 0#32 = 0#1 := congrArg BitVec.ofBool (decide_eq_false (by rw [h7]; show ¬ _ < (0 : ℤ); omega))
      unfold nbw
      rw [show Scalar.addi v6 2047#32 = v6 + 2047#32 from rfl, e1, e2, hd]
      have e3 : Scalar.cmpi .ne (Scalar.subi (Scalar.extui 1#1) (Scalar.extui 0#1)) (Scalar.subi (Scalar.extui (Scalar.cmpi .sgt 2048#32 0#32)) (Scalar.extui (Scalar.cmpi .slt 2048#32 0#32))) = 0#1 := by decide
      rw [e3]
      show Scalar.select (0#1 &&& _) _ _ = _
      rw [BitVec.zero_and]
      rfl
    · have : ∀ (b : BitVec 1) (x y : BitVec 32), Scalar.select b x y = x ∨ Scalar.select b x y = y := by
        intro b x y; unfold Scalar.select; split <;> simp
      rcases this _ _ _ with h | h
      · right; exact ⟨by omega, h.trans (congrArg (· - 1#32) hd)⟩
      · left; exact h.trans hd
  unfold nb
  rcases hcase with h | ⟨h0, h⟩ <;> rw [h]
  · rw [h8]; omega
  · rw [h9]; omega

theorem trips_nbw (v6 : BitVec 32) (h : v6.toInt ≤ 32768) : Scf.trips 0#32 (nbw v6) 1#32 = nb v6 := by
  have := nbw_spec v6 h
  unfold Scf.trips
  rw [← this.2.1]
  show (((nbw v6).toInt - 0 + 1 - 1) / 1).toNat = _
  congr 1; omega

theorem nb_le (v6 : BitVec 32) (h : v6.toInt ≤ 32768) : nb v6 ≤ 16 := by
  have := nbw_spec v6 h; omega

theorem ub_nbw (w : BitVec 32) : Scalar.addi 0#32 (Scalar.muli (Scalar.divsi (Scalar.subi w 0#32) 1#32) 1#32) = w := by
  have : Scalar.divsi (Scalar.subi w 0#32) 1#32 = (w - 0#32).sdiv 1#32 := if_neg (by rintro (h | ⟨_, h⟩) <;> exact absurd h (by decide))
  rw [this]
  show 0#32 + (w - 0#32).sdiv 1#32 * 1#32 = w
  rw [BitVec.sdiv_one, BitVec.mul_one, BitVec.sub_zero, BitVec.zero_add]

/-- Whether block `n` exists, as the program asks it. -/
theorem lt_nbw (v6 : BitVec 32) (h : v6.toInt ≤ 32768) (n : ℕ) (hn : n < 32) :
    (Scalar.cmpi .ne (Scalar.extui (Scalar.cmpi .slt (BitVec.ofNat 32 n) (nbw v6)) : BitVec 32) 0#32 = 1#1) ↔ n < nb v6 := by
  have hb : ∀ b : BitVec 1, (Scalar.cmpi .ne (Scalar.extui b : BitVec 32) 0#32 = 1#1) ↔ b = 1#1 := by decide
  have hi : ∀ n < 32, (BitVec.ofNat 32 n).toInt = n := by decide
  rw [hb]
  show BitVec.ofBool (decide ((BitVec.ofNat 32 n).toInt < (nbw v6).toInt)) = 1#1 ↔ _
  have := nbw_spec v6 h
  have hob : ∀ b : Bool, BitVec.ofBool b = 1#1 ↔ b = true := by decide
  rw [hob, decide_eq_true_iff, hi n hn]
  omega

/-! ## Its loops -/

/-- The bounds as the program computes them for the loop over the blocks. -/
theorem loop_all (v6 : BitVec 32) : (⟨0#32, Scalar.addi 0#32 (Scalar.muli (Scalar.divsi (Scalar.subi (nbw v6) 0#32) 1#32) 1#32), 1#32⟩ : Scf.Loop 32) = ⟨0#32, nbw v6, 1#32⟩ := by
  rw [ub_nbw]

theorem ok_all (v6 : BitVec 32) (h : v6.toInt ≤ 32768) : (⟨0#32, nbw v6, 1#32⟩ : Scf.Loop 32).OK := by
  refine ⟨(by decide : 0 < (1#32).toInt), ?_⟩
  show (0#32).toInt + (Scf.trips 0#32 (nbw v6) 1#32 : ℕ) * (1 : ℤ) < 2 ^ 31
  rw [trips_nbw v6 h]
  have := nb_le v6 h
  show (0 : ℤ) + (nb v6 : ℕ) * (1 : ℤ) < 2 ^ 31
  omega

/-- The bounds of the loop over what is left after the blocks: nothing. -/
theorem loop_rest (v6 : BitVec 32) : (⟨Scalar.addi 0#32 (Scalar.muli (Scalar.divsi (Scalar.subi (nbw v6) 0#32) 1#32) 1#32), Scalar.addi 0#32 (Scalar.subi (nbw v6) 0#32), 1#32⟩ : Scf.Loop 32) = ⟨nbw v6, nbw v6, 1#32⟩ := by
  rw [ub_nbw]
  congr 1
  show 0#32 + (nbw v6 - 0#32) = nbw v6
  rw [BitVec.sub_zero, BitVec.zero_add]

theorem trips_rest (w : BitVec 32) : (⟨w, w, 1#32⟩ : Scf.Loop 32).trips = 0 := by
  show ((w.toInt - w.toInt + 1 - 1) / 1).toNat = 0
  rw [Int.sub_self]; rfl

theorem ok_rest (v6 : BitVec 32) (h : v6.toInt ≤ 32768) : (⟨nbw v6, nbw v6, 1#32⟩ : Scf.Loop 32).OK := by
  have ht := trips_rest (nbw v6)
  refine ⟨(by decide : 0 < (1#32).toInt), ?_⟩
  show (nbw v6).toInt + ((⟨nbw v6, nbw v6, 1#32⟩ : Scf.Loop 32).trips : ℤ) * (1 : ℤ) < 2 ^ 31
  rw [ht]
  have := (nbw_spec v6 h).1
  show (nbw v6).toInt + ((0 : ℕ) : ℤ) * (1 : ℤ) < 2 ^ 31
  omega

/-! ## The words of the offsets -/

theorem w_s : ∀ s < 24, (Scalar.indexCast (Scalar.addi 0#32 (Scalar.muli (Scf.iv 0#32 1#32 s) 1#32))).toNat = s := by decide +kernel
theorem w_sb : ∀ s < 24, ∀ d < 3, (Scalar.addi (Scalar.muli (Scalar.addi 0#32 (Scalar.muli (Scf.iv 0#32 1#32 s) 1#32)) 2048#32) (BitVec.ofNat 32 (128 * d))).toNat = 128 * ((16 * s + d) % 384) := by decide +kernel
theorem w_k3 : ∀ k < 16, (Scalar.remsi (Scalar.subi (Scalar.addi (Scf.iv 0#32 1#32 k) 4#32) 1#32) 4#32).toNat = (k + 3) % 4 := by decide +kernel
theorem w_k : ∀ k < 16, (Scalar.remsi (Scf.iv 0#32 1#32 k) 4#32).toNat = k % 4 := by decide +kernel
theorem w_sk3 : ∀ s < 24, ∀ k < 13, (Scalar.addi (Scalar.muli (Scalar.addi 0#32 (Scalar.muli (Scf.iv 0#32 1#32 s) 1#32)) 2048#32) (Scalar.muli (Scalar.subi (Scalar.addi (Scf.iv 0#32 1#32 k) 4#32) 1#32) 128#32)).toNat = 128 * ((16 * s + (k + 3)) % 384) := by decide +kernel
theorem w_sk : ∀ s < 24, ∀ k < 16, (Scalar.addi (Scalar.muli (Scalar.addi 0#32 (Scalar.muli (Scf.iv 0#32 1#32 s) 1#32)) 2048#32) (Scalar.muli (Scf.iv 0#32 1#32 k) 128#32)).toNat = 128 * ((16 * s + k) % 384) := by decide +kernel
theorem w_kr : ∀ k < 16, ∀ r < 128, (Scalar.indexCast (Scalar.addi (Scalar.muli (Scf.iv 0#32 1#32 k) 128#32) (Scalar.addi 0#32 (Scalar.muli (Scf.iv 0#32 1#32 r) 1#32)))).toNat = 128 * k + r := by decide +kernel
theorem w_r : ∀ r < 128, (Scalar.indexCast (Scalar.muli 2#32 (Scalar.addi 0#32 (Scalar.muli (Scf.iv 0#32 1#32 r) 1#32)))).toNat = 2 * r := by decide +kernel
theorem w_pg (v : BitVec 32) (h : v.toNat < 61440) : (Scalar.indexCast (Scalar.muli 2#32 v)).toNat = 2 * v.toNat := by
  show (2#32 * v).toNat = _
  rw [BitVec.toNat_mul]
  show 2 * v.toNat % 4294967296 = _
  omega
theorem w_k4 (k : ℕ) : Scalar.subi (Scalar.addi (Scf.iv 0#32 1#32 k) 4#32) 1#32 = BitVec.ofNat 32 (k + 3) := by
  show 0#32 + BitVec.ofNat 32 k * 1#32 + 4#32 - 1#32 = _
  rw [BitVec.mul_one, BitVec.zero_add, BitVec.ofNat_add]
  have : ∀ x : BitVec 32, x + 4#32 - 1#32 = x + 3#32 := by intro x; rw [show (4#32 : BitVec 32) = 3#32 + 1#32 from rfl, ← BitVec.add_assoc, BitVec.add_sub_cancel]
  exact this _

/-- Whether the block three on from block `k` exists, as the program asks it. -/
theorem next_iff (v6 : BitVec 32) (h : v6.toInt ≤ 32768) {k : ℕ} (hk : k < nb v6) :
    (Scalar.cmpi .ne (Scalar.extui (Scalar.cmpi .slt (Scalar.subi (Scalar.addi (Scf.iv 0#32 1#32 k) 4#32) 1#32) (nbw v6)) : BitVec 32) 0#32 = 1#1) ↔ k + 3 < nb v6 := by
  have := nb_le v6 h
  rw [w_k4]
  exact lt_nbw v6 h _ (by omega)

/-! ## Side conditions -/

theorem noTrip {n : ℕ} (h : n = 0) (x : Fin n) : False := by subst h; exact x.elim0
theorem inb_of {n : ℕ} {o o' d e : Fin n → ℕ} (h : o = o') (g : ∀ a, o' a + d a ≤ e a) : ∀ a, o a + d a ≤ e a := h ▸ g
theorem dvd_of {w : BitVec 32} {n : ℕ} (h : w.toNat = 128 * n) : 128 ∣ w.toNat := ⟨n, h⟩

end Cert
-- ==== Proof.Bits.Words.lean ====
/-
  The words of the program's memory operations: how often its loops run, which slot, which block and which row each
  operation names, and the side conditions that follow.
-/
module

public import proofs.«01_k».proof.Proof.Bits.Ring
public import proofs.«01_k».proof.Proof.Words

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (s : Fin k0_t1_loop.trips) (v6 : BitVec 32)

/-! ## The loops over the blocks -/

theorem loop2_eq : k0_t2_loop v6 = ⟨0#32, nbw v6, 1#32⟩ := loop_all v6
theorem trips2 (h : v6.toInt ≤ 32768) : (k0_t2_loop v6).trips = nb v6 := by rw [loop2_eq]; exact trips_nbw v6 h
theorem ok2 (h : v6.toInt ≤ 32768) : (k0_t2_loop v6).OK := by rw [loop2_eq]; exact ok_all v6 h

theorem loop6_eq : k0_t6_loop v6 = ⟨0#32, nbw v6, 1#32⟩ := loop_all v6
theorem trips6 (h : v6.toInt ≤ 32768) : (k0_t6_loop v6).trips = nb v6 := by rw [loop6_eq]; exact trips_nbw v6 h
theorem ok6 (h : v6.toInt ≤ 32768) : (k0_t6_loop v6).OK := by rw [loop6_eq]; exact ok_all v6 h

theorem loop10_eq : k0_t10_loop v6 = ⟨0#32, nbw v6, 1#32⟩ := loop_all v6
theorem trips10 (h : v6.toInt ≤ 32768) : (k0_t10_loop v6).trips = nb v6 := by rw [loop10_eq]; exact trips_nbw v6 h
theorem ok10 (h : v6.toInt ≤ 32768) : (k0_t10_loop v6).OK := by rw [loop10_eq]; exact ok_all v6 h

theorem loop14_eq : k0_t14_loop v6 = ⟨0#32, nbw v6, 1#32⟩ := loop_all v6
theorem trips14 (h : v6.toInt ≤ 32768) : (k0_t14_loop v6).trips = nb v6 := by rw [loop14_eq]; exact trips_nbw v6 h
theorem ok14 (h : v6.toInt ≤ 32768) : (k0_t14_loop v6).OK := by rw [loop14_eq]; exact ok_all v6 h

theorem loop4_eq : k0_t4_loop v6 = ⟨nbw v6, nbw v6, 1#32⟩ := loop_rest v6
theorem trips4 : (k0_t4_loop v6).trips = 0 := by rw [loop4_eq]; exact trips_rest _
theorem ok4 (h : v6.toInt ≤ 32768) : (k0_t4_loop v6).OK := by rw [loop4_eq]; exact ok_rest v6 h
theorem no4 {P : Prop} (t : Fin (k0_t4_loop v6).trips) : P := (noTrip (trips4 v6) t).elim

theorem loop8_eq : k0_t8_loop v6 = ⟨nbw v6, nbw v6, 1#32⟩ := loop_rest v6
theorem trips8 : (k0_t8_loop v6).trips = 0 := by rw [loop8_eq]; exact trips_rest _
theorem ok8 (h : v6.toInt ≤ 32768) : (k0_t8_loop v6).OK := by rw [loop8_eq]; exact ok_rest v6 h
theorem no8 {P : Prop} (t : Fin (k0_t8_loop v6).trips) : P := (noTrip (trips8 v6) t).elim

theorem loop12_eq : k0_t12_loop v6 = ⟨nbw v6, nbw v6, 1#32⟩ := loop_rest v6
theorem trips12 : (k0_t12_loop v6).trips = 0 := by rw [loop12_eq]; exact trips_rest _
theorem ok12 (h : v6.toInt ≤ 32768) : (k0_t12_loop v6).OK := by rw [loop12_eq]; exact ok_rest v6 h
theorem no12 {P : Prop} (t : Fin (k0_t12_loop v6).trips) : P := (noTrip (trips12 v6) t).elim

theorem loop16_eq : k0_t16_loop v6 = ⟨nbw v6, nbw v6, 1#32⟩ := loop_rest v6
theorem trips16 : (k0_t16_loop v6).trips = 0 := by rw [loop16_eq]; exact trips_rest _
theorem ok16 (h : v6.toInt ≤ 32768) : (k0_t16_loop v6).OK := by rw [loop16_eq]; exact ok_rest v6 h
theorem no16 {P : Prop} (t : Fin (k0_t16_loop v6).trips) : P := (noTrip (trips16 v6) t).elim

/-! ## The words of the offsets -/

section
variable (v : BitVec 32) (k2 : Fin (k0_t2_loop v6).trips) (k6 : Fin (k0_t6_loop v6).trips) (k10 : Fin (k0_t10_loop v6).trips) (k14 : Fin (k0_t14_loop v6).trips) (r3 : Fin k0_t3_loop.trips) (r7 : Fin k0_t7_loop.trips) (r11 : Fin k0_t11_loop.trips) (r15 : Fin k0_t15_loop.trips)

theorem k0_off1_eq : k0_off1 s = ![s.val] :=
  congrArg (fun n => ![n]) (w_s _ s.isLt)
theorem k0_off22_eq : k0_off22 s = ![s.val] :=
  congrArg (fun n => ![n]) (w_s _ s.isLt)
theorem k0_off61_eq : k0_off61 s = ![s.val] :=
  congrArg (fun n => ![n]) (w_s _ s.isLt)
theorem k0_off94_eq : k0_off94 s = ![s.val] :=
  congrArg (fun n => ![n]) (w_s _ s.isLt)
theorem k0_off129_eq : k0_off129 s = ![s.val] :=
  congrArg (fun n => ![n]) (w_s _ s.isLt)
theorem k0_off2_eq : k0_off2 s = ![s.val, 0, 0] :=
  congrArg (fun n => ![n, 0, 0]) (w_s _ s.isLt)
theorem k0_off3_eq : k0_off3 s = ![s.val, 0, 0] :=
  congrArg (fun n => ![n, 0, 0]) (w_s _ s.isLt)
theorem k0_off37_eq : k0_off37 s = ![s.val, 0, 0] :=
  congrArg (fun n => ![n, 0, 0]) (w_s _ s.isLt)
theorem k0_off40_eq : k0_off40 s = ![s.val, 0, 0] :=
  congrArg (fun n => ![n, 0, 0]) (w_s _ s.isLt)
theorem k0_off42_eq : k0_off42 s = ![s.val, 0, 0] :=
  congrArg (fun n => ![n, 0, 0]) (w_s _ s.isLt)
theorem k0_off109_eq : k0_off109 s = ![s.val, 0, 0] :=
  congrArg (fun n => ![n, 0, 0]) (w_s _ s.isLt)
theorem k0_off110_eq : k0_off110 s = ![s.val, 0, 0] :=
  congrArg (fun n => ![n, 0, 0]) (w_s _ s.isLt)
theorem k0_off146_eq : k0_off146 s = ![s.val, 0, 0] :=
  congrArg (fun n => ![n, 0, 0]) (w_s _ s.isLt)
theorem k0_off38_eq : k0_off38 s = ![s.val, 0] :=
  congrArg (fun n => ![n, 0]) (w_s _ s.isLt)
theorem k0_off39_eq : k0_off39 s = ![s.val, 0] :=
  congrArg (fun n => ![n, 0]) (w_s _ s.isLt)
theorem k0_off41_eq : k0_off41 s = ![s.val, 0] :=
  congrArg (fun n => ![n, 0]) (w_s _ s.isLt)
theorem k0_off144_eq : k0_off144 s = ![s.val, 0] :=
  congrArg (fun n => ![n, 0]) (w_s _ s.isLt)
theorem k0_off145_eq : k0_off145 s = ![s.val, 0] :=
  congrArg (fun n => ![n, 0]) (w_s _ s.isLt)
theorem k0_off147_eq : k0_off147 s = ![s.val, 0] :=
  congrArg (fun n => ![n, 0]) (w_s _ s.isLt)
theorem k0_off4_eq : k0_off4  = ![(Fin.ofNat 4 0).val] := rfl
theorem k0_off43_eq : k0_off43  = ![(Fin.ofNat 4 0).val] := rfl
theorem k0_off76_eq : k0_off76  = ![(Fin.ofNat 4 0).val] := rfl
theorem k0_off111_eq : k0_off111  = ![(Fin.ofNat 4 0).val] := rfl
theorem k0_off5_eq : k0_off5  = ![(Fin.ofNat 4 0).val, 0, 0] := rfl
theorem k0_off44_eq : k0_off44  = ![(Fin.ofNat 4 0).val, 0, 0] := rfl
theorem k0_off77_eq : k0_off77  = ![(Fin.ofNat 4 0).val, 0, 0] := rfl
theorem k0_off112_eq : k0_off112  = ![(Fin.ofNat 4 0).val, 0, 0] := rfl
theorem k0_off6_eq : k0_off6 s = ![0, 128 * (Fin.ofNat 384 (16 * s.val + 0)).val] :=
  congrArg (fun n => ![0, n]) (w_sb _ s.isLt 0 (by decide))
theorem k0_off45_eq : k0_off45 s = ![0, 128 * (Fin.ofNat 384 (16 * s.val + 0)).val] :=
  congrArg (fun n => ![0, n]) (w_sb _ s.isLt 0 (by decide))
theorem k0_off78_eq : k0_off78 s = ![0, 128 * (Fin.ofNat 384 (16 * s.val + 0)).val] :=
  congrArg (fun n => ![0, n]) (w_sb _ s.isLt 0 (by decide))
theorem k0_off113_eq : k0_off113 s = ![0, 128 * (Fin.ofNat 384 (16 * s.val + 0)).val] :=
  congrArg (fun n => ![0, n]) (w_sb _ s.isLt 0 (by decide))
theorem k0_off7_eq : k0_off7  = ![(Fin.ofNat 4 1).val] := rfl
theorem k0_off46_eq : k0_off46  = ![(Fin.ofNat 4 1).val] := rfl
theorem k0_off79_eq : k0_off79  = ![(Fin.ofNat 4 1).val] := rfl
theorem k0_off114_eq : k0_off114  = ![(Fin.ofNat 4 1).val] := rfl
theorem k0_off8_eq : k0_off8  = ![(Fin.ofNat 4 1).val, 0, 0] := rfl
theorem k0_off47_eq : k0_off47  = ![(Fin.ofNat 4 1).val, 0, 0] := rfl
theorem k0_off80_eq : k0_off80  = ![(Fin.ofNat 4 1).val, 0, 0] := rfl
theorem k0_off115_eq : k0_off115  = ![(Fin.ofNat 4 1).val, 0, 0] := rfl
theorem k0_off9_eq : k0_off9 s = ![0, 128 * (Fin.ofNat 384 (16 * s.val + 1)).val] :=
  congrArg (fun n => ![0, n]) (w_sb _ s.isLt 1 (by decide))
theorem k0_off48_eq : k0_off48 s = ![0, 128 * (Fin.ofNat 384 (16 * s.val + 1)).val] :=
  congrArg (fun n => ![0, n]) (w_sb _ s.isLt 1 (by decide))
theorem k0_off81_eq : k0_off81 s = ![0, 128 * (Fin.ofNat 384 (16 * s.val + 1)).val] :=
  congrArg (fun n => ![0, n]) (w_sb _ s.isLt 1 (by decide))
theorem k0_off116_eq : k0_off116 s = ![0, 128 * (Fin.ofNat 384 (16 * s.val + 1)).val] :=
  congrArg (fun n => ![0, n]) (w_sb _ s.isLt 1 (by decide))
theorem k0_off10_eq : k0_off10  = ![(Fin.ofNat 4 2).val] := rfl
theorem k0_off49_eq : k0_off49  = ![(Fin.ofNat 4 2).val] := rfl
theorem k0_off82_eq : k0_off82  = ![(Fin.ofNat 4 2).val] := rfl
theorem k0_off117_eq : k0_off117  = ![(Fin.ofNat 4 2).val] := rfl
theorem k0_off11_eq : k0_off11  = ![(Fin.ofNat 4 2).val, 0, 0] := rfl
theorem k0_off50_eq : k0_off50  = ![(Fin.ofNat 4 2).val, 0, 0] := rfl
theorem k0_off83_eq : k0_off83  = ![(Fin.ofNat 4 2).val, 0, 0] := rfl
theorem k0_off118_eq : k0_off118  = ![(Fin.ofNat 4 2).val, 0, 0] := rfl
theorem k0_off12_eq : k0_off12 s = ![0, 128 * (Fin.ofNat 384 (16 * s.val + 2)).val] :=
  congrArg (fun n => ![0, n]) (w_sb _ s.isLt 2 (by decide))
theorem k0_off51_eq : k0_off51 s = ![0, 128 * (Fin.ofNat 384 (16 * s.val + 2)).val] :=
  congrArg (fun n => ![0, n]) (w_sb _ s.isLt 2 (by decide))
theorem k0_off84_eq : k0_off84 s = ![0, 128 * (Fin.ofNat 384 (16 * s.val + 2)).val] :=
  congrArg (fun n => ![0, n]) (w_sb _ s.isLt 2 (by decide))
theorem k0_off119_eq : k0_off119 s = ![0, 128 * (Fin.ofNat 384 (16 * s.val + 2)).val] :=
  congrArg (fun n => ![0, n]) (w_sb _ s.isLt 2 (by decide))
theorem k0_off13_eq (hk : k2.val < 16) : k0_off13 v6 k2 = ![(Fin.ofNat 4 (k2.val + 3)).val] :=
  congrArg (fun n => ![n]) (w_k3 _ hk)
theorem k0_off52_eq (hk : k6.val < 16) : k0_off52 v6 k6 = ![(Fin.ofNat 4 (k6.val + 3)).val] :=
  congrArg (fun n => ![n]) (w_k3 _ hk)
theorem k0_off85_eq (hk : k10.val < 16) : k0_off85 v6 k10 = ![(Fin.ofNat 4 (k10.val + 3)).val] :=
  congrArg (fun n => ![n]) (w_k3 _ hk)
theorem k0_off120_eq (hk : k14.val < 16) : k0_off120 v6 k14 = ![(Fin.ofNat 4 (k14.val + 3)).val] :=
  congrArg (fun n => ![n]) (w_k3 _ hk)
theorem k0_off14_eq (hk : k2.val < 16) : k0_off14 v6 k2 = ![(Fin.ofNat 4 (k2.val + 3)).val, 0, 0] :=
  congrArg (fun n => ![n, 0, 0]) (w_k3 _ hk)
theorem k0_off53_eq (hk : k6.val < 16) : k0_off53 v6 k6 = ![(Fin.ofNat 4 (k6.val + 3)).val, 0, 0] :=
  congrArg (fun n => ![n, 0, 0]) (w_k3 _ hk)
theorem k0_off86_eq (hk : k10.val < 16) : k0_off86 v6 k10 = ![(Fin.ofNat 4 (k10.val + 3)).val, 0, 0] :=
  congrArg (fun n => ![n, 0, 0]) (w_k3 _ hk)
theorem k0_off121_eq (hk : k14.val < 16) : k0_off121 v6 k14 = ![(Fin.ofNat 4 (k14.val + 3)).val, 0, 0] :=
  congrArg (fun n => ![n, 0, 0]) (w_k3 _ hk)
theorem k0_off15_eq (hk : k2.val < 13) : k0_off15 s v6 k2 = ![0, 128 * (Fin.ofNat 384 (16 * s.val + (k2.val + 3))).val] :=
  congrArg (fun n => ![0, n]) (w_sk3 _ s.isLt _ hk)
theorem k0_off54_eq (hk : k6.val < 13) : k0_off54 s v6 k6 = ![0, 128 * (Fin.ofNat 384 (16 * s.val + (k6.val + 3))).val] :=
  congrArg (fun n => ![0, n]) (w_sk3 _ s.isLt _ hk)
theorem k0_off87_eq (hk : k10.val < 13) : k0_off87 s v6 k10 = ![0, 128 * (Fin.ofNat 384 (16 * s.val + (k10.val + 3))).val] :=
  congrArg (fun n => ![0, n]) (w_sk3 _ s.isLt _ hk)
theorem k0_off122_eq (hk : k14.val < 13) : k0_off122 s v6 k14 = ![0, 128 * (Fin.ofNat 384 (16 * s.val + (k14.val + 3))).val] :=
  congrArg (fun n => ![0, n]) (w_sk3 _ s.isLt _ hk)
theorem k0_off16_eq (hk : k2.val < 16) : k0_off16 s v6 k2 r3 = ![s.val, 128 * k2.val + r3.val] :=
  congrArg₂ (fun m n => ![m, n]) (w_s _ s.isLt) (w_kr _ hk _ r3.isLt)
theorem k0_off55_eq (hk : k6.val < 16) : k0_off55 s v6 k6 r7 = ![s.val, 128 * k6.val + r7.val] :=
  congrArg₂ (fun m n => ![m, n]) (w_s _ s.isLt) (w_kr _ hk _ r7.isLt)
theorem k0_off88_eq (hk : k10.val < 16) : k0_off88 s v6 k10 r11 = ![s.val, 128 * k10.val + r11.val] :=
  congrArg₂ (fun m n => ![m, n]) (w_s _ s.isLt) (w_kr _ hk _ r11.isLt)
theorem k0_off123_eq (hk : k14.val < 16) : k0_off123 s v6 k14 r15 = ![s.val, 128 * k14.val + r15.val] :=
  congrArg₂ (fun m n => ![m, n]) (w_s _ s.isLt) (w_kr _ hk _ r15.isLt)
theorem k0_off17_eq (hp : v.toNat < 61440) : k0_off17 v = ![2 * v.toNat, 0] :=
  congrArg (fun n => ![n, 0]) (w_pg _ hp)
theorem k0_off56_eq (hp : v.toNat < 61440) : k0_off56 v = ![2 * v.toNat, 0] :=
  congrArg (fun n => ![n, 0]) (w_pg _ hp)
theorem k0_off89_eq (hp : v.toNat < 61440) : k0_off89 v = ![2 * v.toNat, 0] :=
  congrArg (fun n => ![n, 0]) (w_pg _ hp)
theorem k0_off124_eq (hp : v.toNat < 61440) : k0_off124 v = ![2 * v.toNat, 0] :=
  congrArg (fun n => ![n, 0]) (w_pg _ hp)
theorem k0_off18_eq : k0_off18 r3 = ![2 * r3.val, 0] :=
  congrArg (fun n => ![n, 0]) (w_r _ r3.isLt)
theorem k0_off57_eq : k0_off57 r7 = ![2 * r7.val, 0] :=
  congrArg (fun n => ![n, 0]) (w_r _ r7.isLt)
theorem k0_off90_eq : k0_off90 r11 = ![2 * r11.val, 0] :=
  congrArg (fun n => ![n, 0]) (w_r _ r11.isLt)
theorem k0_off125_eq : k0_off125 r15 = ![2 * r15.val, 0] :=
  congrArg (fun n => ![n, 0]) (w_r _ r15.isLt)
theorem k0_off19_eq (hk : k2.val < 16) : k0_off19 v6 k2 = ![(Fin.ofNat 4 k2.val).val] :=
  congrArg (fun n => ![n]) (w_k _ hk)
theorem k0_off58_eq (hk : k6.val < 16) : k0_off58 v6 k6 = ![(Fin.ofNat 4 k6.val).val] :=
  congrArg (fun n => ![n]) (w_k _ hk)
theorem k0_off91_eq (hk : k10.val < 16) : k0_off91 v6 k10 = ![(Fin.ofNat 4 k10.val).val] :=
  congrArg (fun n => ![n]) (w_k _ hk)
theorem k0_off126_eq (hk : k14.val < 16) : k0_off126 v6 k14 = ![(Fin.ofNat 4 k14.val).val] :=
  congrArg (fun n => ![n]) (w_k _ hk)
theorem k0_off20_eq (hk : k2.val < 16) : k0_off20 v6 k2 = ![(Fin.ofNat 4 k2.val).val, 0, 0] :=
  congrArg (fun n => ![n, 0, 0]) (w_k _ hk)
theorem k0_off59_eq (hk : k6.val < 16) : k0_off59 v6 k6 = ![(Fin.ofNat 4 k6.val).val, 0, 0] :=
  congrArg (fun n => ![n, 0, 0]) (w_k _ hk)
theorem k0_off92_eq (hk : k10.val < 16) : k0_off92 v6 k10 = ![(Fin.ofNat 4 k10.val).val, 0, 0] :=
  congrArg (fun n => ![n, 0, 0]) (w_k _ hk)
theorem k0_off127_eq (hk : k14.val < 16) : k0_off127 v6 k14 = ![(Fin.ofNat 4 k14.val).val, 0, 0] :=
  congrArg (fun n => ![n, 0, 0]) (w_k _ hk)
theorem k0_off21_eq (hk : k2.val < 16) : k0_off21 s v6 k2 = ![0, 128 * (Fin.ofNat 384 (16 * s.val + k2.val)).val] :=
  congrArg (fun n => ![0, n]) (w_sk _ s.isLt _ hk)
theorem k0_off60_eq (hk : k6.val < 16) : k0_off60 s v6 k6 = ![0, 128 * (Fin.ofNat 384 (16 * s.val + k6.val)).val] :=
  congrArg (fun n => ![0, n]) (w_sk _ s.isLt _ hk)
theorem k0_off93_eq (hk : k10.val < 16) : k0_off93 s v6 k10 = ![0, 128 * (Fin.ofNat 384 (16 * s.val + k10.val)).val] :=
  congrArg (fun n => ![0, n]) (w_sk _ s.isLt _ hk)
theorem k0_off128_eq (hk : k14.val < 16) : k0_off128 s v6 k14 = ![0, 128 * (Fin.ofNat 384 (16 * s.val + k14.val)).val] :=
  congrArg (fun n => ![0, n]) (w_sk _ s.isLt _ hk)
theorem k0_off23_eq (hk : k2.val < 16) : k0_off23 v6 k2 = ![(Fin.ofNat 4 k2.val).val, 0, 0] :=
  congrArg (fun n => ![n, 0, 0]) (w_k _ hk)
theorem k0_off62_eq (hk : k6.val < 16) : k0_off62 v6 k6 = ![(Fin.ofNat 4 k6.val).val, 0, 0] :=
  congrArg (fun n => ![n, 0, 0]) (w_k _ hk)
theorem k0_off95_eq (hk : k10.val < 16) : k0_off95 v6 k10 = ![(Fin.ofNat 4 k10.val).val, 0, 0] :=
  congrArg (fun n => ![n, 0, 0]) (w_k _ hk)
theorem k0_off130_eq (hk : k14.val < 16) : k0_off130 v6 k14 = ![(Fin.ofNat 4 k14.val).val, 0, 0] :=
  congrArg (fun n => ![n, 0, 0]) (w_k _ hk)
theorem k0_off24_eq (hk : k2.val < 16) : k0_off24 v6 k2 = ![(Fin.ofNat 4 k2.val).val, 16, 0] :=
  congrArg (fun n => ![n, 16, 0]) (w_k _ hk)
theorem k0_off63_eq (hk : k6.val < 16) : k0_off63 v6 k6 = ![(Fin.ofNat 4 k6.val).val, 16, 0] :=
  congrArg (fun n => ![n, 16, 0]) (w_k _ hk)
theorem k0_off96_eq (hk : k10.val < 16) : k0_off96 v6 k10 = ![(Fin.ofNat 4 k10.val).val, 16, 0] :=
  congrArg (fun n => ![n, 16, 0]) (w_k _ hk)
theorem k0_off131_eq (hk : k14.val < 16) : k0_off131 v6 k14 = ![(Fin.ofNat 4 k14.val).val, 16, 0] :=
  congrArg (fun n => ![n, 16, 0]) (w_k _ hk)

end

/-! ## Side conditions -/

theorem g1 (j : Fin 4) : ∀ a : Fin 1, (![j.val] : Fin 1 → ℕ) a + S1.size a ≤ S4.size a := by revert j; decide
theorem g3 (j : Fin 4) : ∀ a : Fin 3, (![j.val, 0, 0] : Fin 3 → ℕ) a + S1x32x128.size a ≤ S4x32x128.size a := by revert j; decide
theorem g3a (j : Fin 4) : ∀ a : Fin 3, (![j.val, 0, 0] : Fin 3 → ℕ) a + S1x16x128.size a ≤ S4x32x128.size a := by revert j; decide
theorem g3b (j : Fin 4) : ∀ a : Fin 3, (![j.val, 16, 0] : Fin 3 → ℕ) a + S1x16x128.size a ≤ S4x32x128.size a := by revert j; decide
theorem g2 (b : Fin 384) : ∀ a : Fin 2, (![0, 128 * b.val] : Fin 2 → ℕ) a + S32x128.size a ≤ S32x49152.size a := by
  have := b.isLt
  refine Fin.forall_fin_two.2 ⟨(by decide : 0 + 32 ≤ 32), ?_⟩
  show 128 * b.val + 128 ≤ 49152
  omega
theorem gt (s k r : ℕ) (hs : s < 24) (hk : k < 16) (hr : r < 128) : ∀ a : Fin 2, (![s, 128 * k + r] : Fin 2 → ℕ) a + S1x1.size a ≤ S24x2048.size a := by
  refine Fin.forall_fin_two.2 ⟨?_, ?_⟩
  · show s + 1 ≤ 24; omega
  · show 128 * k + r + 1 ≤ 2048; omega
theorem gp (p : ℕ) (hp : p < 61440) : ∀ a : Fin 2, (![2 * p, 0] : Fin 2 → ℕ) a + S2x128.size a ≤ S122880x128.size a := by
  refine Fin.forall_fin_two.2 ⟨?_, (by decide : 0 + 128 ≤ 128)⟩
  show 2 * p + 2 ≤ 122880; omega

theorem lt2 (h : v6.toInt ≤ 32768) (k : Fin (k0_t2_loop v6).trips) : k.val < nb v6 := trips2 v6 h ▸ k.isLt
theorem cond4_iff (h : v6.toInt ≤ 32768) (k : Fin (k0_t2_loop v6).trips) : k0_cond4 v6 k = 1#1 ↔ k.val + 3 < nb v6 := next_iff v6 h (lt2 v6 h k)
theorem lt16_2 (h : v6.toInt ≤ 32768) (k : Fin (k0_t2_loop v6).trips) : k.val < 16 := lt_of_lt_of_le (lt2 v6 h k) (nb_le v6 h)
theorem lt13_2 (h : v6.toInt ≤ 32768) (k : Fin (k0_t2_loop v6).trips) (hc : k0_cond4 v6 k = 1#1) : k.val < 13 := by
  have h1 := (cond4_iff v6 h k).1 hc
  have h2 := nb_le v6 h
  omega

theorem lt6 (h : v6.toInt ≤ 32768) (k : Fin (k0_t6_loop v6).trips) : k.val < nb v6 := trips6 v6 h ▸ k.isLt
theorem cond11_iff (h : v6.toInt ≤ 32768) (k : Fin (k0_t6_loop v6).trips) : k0_cond11 v6 k = 1#1 ↔ k.val + 3 < nb v6 := next_iff v6 h (lt6 v6 h k)
theorem lt16_6 (h : v6.toInt ≤ 32768) (k : Fin (k0_t6_loop v6).trips) : k.val < 16 := lt_of_lt_of_le (lt6 v6 h k) (nb_le v6 h)
theorem lt13_6 (h : v6.toInt ≤ 32768) (k : Fin (k0_t6_loop v6).trips) (hc : k0_cond11 v6 k = 1#1) : k.val < 13 := by
  have h1 := (cond11_iff v6 h k).1 hc
  have h2 := nb_le v6 h
  omega

theorem lt10 (h : v6.toInt ≤ 32768) (k : Fin (k0_t10_loop v6).trips) : k.val < nb v6 := trips10 v6 h ▸ k.isLt
theorem cond16_iff (h : v6.toInt ≤ 32768) (k : Fin (k0_t10_loop v6).trips) : k0_cond16 v6 k = 1#1 ↔ k.val + 3 < nb v6 := next_iff v6 h (lt10 v6 h k)
theorem lt16_10 (h : v6.toInt ≤ 32768) (k : Fin (k0_t10_loop v6).trips) : k.val < 16 := lt_of_lt_of_le (lt10 v6 h k) (nb_le v6 h)
theorem lt13_10 (h : v6.toInt ≤ 32768) (k : Fin (k0_t10_loop v6).trips) (hc : k0_cond16 v6 k = 1#1) : k.val < 13 := by
  have h1 := (cond16_iff v6 h k).1 hc
  have h2 := nb_le v6 h
  omega

theorem lt14 (h : v6.toInt ≤ 32768) (k : Fin (k0_t14_loop v6).trips) : k.val < nb v6 := trips14 v6 h ▸ k.isLt
theorem cond21_iff (h : v6.toInt ≤ 32768) (k : Fin (k0_t14_loop v6).trips) : k0_cond21 v6 k = 1#1 ↔ k.val + 3 < nb v6 := next_iff v6 h (lt14 v6 h k)
theorem lt16_14 (h : v6.toInt ≤ 32768) (k : Fin (k0_t14_loop v6).trips) : k.val < 16 := lt_of_lt_of_le (lt14 v6 h k) (nb_le v6 h)
theorem lt13_14 (h : v6.toInt ≤ 32768) (k : Fin (k0_t14_loop v6).trips) (hc : k0_cond21 v6 k = 1#1) : k.val < 13 := by
  have h1 := (cond21_iff v6 h k).1 hc
  have h2 := nb_le v6 h
  omega

theorem chk1_of (h : v6.toInt ≤ 32768) : k0_chk1 s v6 :=
  ⟨ok2 v6 h,
    fun k h' => dvd_of (w_sk3 _ s.isLt _ (lt13_2 v6 h k h')),
    fun k _ => inb_of (k0_off13_eq v6 k (lt16_2 v6 h k)) (g1 _),
    fun k _ => inb_of (k0_off14_eq v6 k (lt16_2 v6 h k)) (g3 _),
    fun k h' => inb_of (k0_off15_eq s v6 k (lt13_2 v6 h k h')) (g2 _),
    fun k r => inb_of (k0_off16_eq s v6 k r (lt16_2 v6 h k)) (gt _ _ _ s.isLt (lt16_2 v6 h k) r.isLt),
    fun k => dvd_of (w_sk _ s.isLt _ (lt16_2 v6 h k)),
    fun k => inb_of (k0_off19_eq v6 k (lt16_2 v6 h k)) (g1 _),
    fun k => inb_of (k0_off20_eq v6 k (lt16_2 v6 h k)) (g3 _),
    fun k => inb_of (k0_off21_eq s v6 k (lt16_2 v6 h k)) (g2 _),
    fun k => inb_of (k0_off23_eq v6 k (lt16_2 v6 h k)) (g3a _),
    fun k => inb_of (k0_off24_eq v6 k (lt16_2 v6 h k)) (g3b _),
    ok4 v6 h,
    fun t _ => no4 v6 t,
    fun t _ => no4 v6 t,
    fun t _ => no4 v6 t,
    fun t _ => no4 v6 t,
    fun t _ => no4 v6 t,
    fun t => no4 v6 t,
    fun t => no4 v6 t,
    fun t => no4 v6 t,
    fun t => no4 v6 t,
    fun t => no4 v6 t,
    fun t => no4 v6 t⟩

theorem chk4_0_of (v179 v189 v200 : BitVec 1) (h : v6.toInt ≤ 32768) : k0_chk4_0 s v6 v179 v189 v200 :=
  ⟨fun _ _ => ok6 v6 h,
    fun k _ _ h' => dvd_of (w_sk3 _ s.isLt _ (lt13_6 v6 h k h')),
    fun k _ _ _ => inb_of (k0_off52_eq v6 k (lt16_6 v6 h k)) (g1 _),
    fun k _ _ _ => inb_of (k0_off53_eq v6 k (lt16_6 v6 h k)) (g3 _),
    fun k _ _ h' => inb_of (k0_off54_eq s v6 k (lt13_6 v6 h k h')) (g2 _),
    fun k r _ _ => inb_of (k0_off55_eq s v6 k r (lt16_6 v6 h k)) (gt _ _ _ s.isLt (lt16_6 v6 h k) r.isLt),
    fun k _ _ => dvd_of (w_sk _ s.isLt _ (lt16_6 v6 h k)),
    fun k _ _ => inb_of (k0_off58_eq v6 k (lt16_6 v6 h k)) (g1 _),
    fun k _ _ => inb_of (k0_off59_eq v6 k (lt16_6 v6 h k)) (g3 _),
    fun k _ _ => inb_of (k0_off60_eq s v6 k (lt16_6 v6 h k)) (g2 _),
    fun k _ _ => inb_of (k0_off62_eq v6 k (lt16_6 v6 h k)) (g3a _),
    fun k _ _ => inb_of (k0_off63_eq v6 k (lt16_6 v6 h k)) (g3b _),
    fun _ _ => ok8 v6 h,
    fun t _ _ _ => no8 v6 t,
    fun t _ _ _ => no8 v6 t,
    fun t _ _ _ => no8 v6 t,
    fun t _ _ _ => no8 v6 t,
    fun t _ _ _ => no8 v6 t,
    fun t _ _ => no8 v6 t,
    fun t _ _ => no8 v6 t,
    fun t _ _ => no8 v6 t,
    fun t _ _ => no8 v6 t,
    fun t _ _ => no8 v6 t,
    fun t _ _ => no8 v6 t,
    fun _ _ => ok10 v6 h,
    fun k _ _ h' => dvd_of (w_sk3 _ s.isLt _ (lt13_10 v6 h k h')),
    fun k _ _ _ => inb_of (k0_off85_eq v6 k (lt16_10 v6 h k)) (g1 _),
    fun k _ _ _ => inb_of (k0_off86_eq v6 k (lt16_10 v6 h k)) (g3 _),
    fun k _ _ h' => inb_of (k0_off87_eq s v6 k (lt13_10 v6 h k h')) (g2 _),
    fun k r _ _ => inb_of (k0_off88_eq s v6 k r (lt16_10 v6 h k)) (gt _ _ _ s.isLt (lt16_10 v6 h k) r.isLt),
    fun k _ _ => dvd_of (w_sk _ s.isLt _ (lt16_10 v6 h k)),
    fun k _ _ => inb_of (k0_off91_eq v6 k (lt16_10 v6 h k)) (g1 _)⟩

theorem chk4_1_of (v179 v189 v200 : BitVec 1) (h : v6.toInt ≤ 32768) : k0_chk4_1 s v6 v179 v189 v200 :=
  ⟨fun k _ _ => inb_of (k0_off92_eq v6 k (lt16_10 v6 h k)) (g3 _),
    fun k _ _ => inb_of (k0_off93_eq s v6 k (lt16_10 v6 h k)) (g2 _),
    fun k _ _ => inb_of (k0_off95_eq v6 k (lt16_10 v6 h k)) (g3a _),
    fun k _ _ => inb_of (k0_off96_eq v6 k (lt16_10 v6 h k)) (g3b _),
    fun _ _ => ok12 v6 h,
    fun t _ _ _ => no12 v6 t,
    fun t _ _ _ => no12 v6 t,
    fun t _ _ _ => no12 v6 t,
    fun t _ _ _ => no12 v6 t,
    fun t _ _ _ => no12 v6 t,
    fun t _ _ => no12 v6 t,
    fun t _ _ => no12 v6 t,
    fun t _ _ => no12 v6 t,
    fun t _ _ => no12 v6 t,
    fun t _ _ => no12 v6 t,
    fun t _ _ => no12 v6 t,
    fun _ => ok14 v6 h,
    fun k _ h' => dvd_of (w_sk3 _ s.isLt _ (lt13_14 v6 h k h')),
    fun k _ _ => inb_of (k0_off120_eq v6 k (lt16_14 v6 h k)) (g1 _),
    fun k _ _ => inb_of (k0_off121_eq v6 k (lt16_14 v6 h k)) (g3 _),
    fun k _ h' => inb_of (k0_off122_eq s v6 k (lt13_14 v6 h k h')) (g2 _),
    fun k r _ => inb_of (k0_off123_eq s v6 k r (lt16_14 v6 h k)) (gt _ _ _ s.isLt (lt16_14 v6 h k) r.isLt),
    fun k _ => dvd_of (w_sk _ s.isLt _ (lt16_14 v6 h k)),
    fun k _ => inb_of (k0_off126_eq v6 k (lt16_14 v6 h k)) (g1 _),
    fun k _ => inb_of (k0_off127_eq v6 k (lt16_14 v6 h k)) (g3 _),
    fun k _ => inb_of (k0_off128_eq s v6 k (lt16_14 v6 h k)) (g2 _),
    fun k _ => inb_of (k0_off130_eq v6 k (lt16_14 v6 h k)) (g3a _),
    fun k _ => inb_of (k0_off131_eq v6 k (lt16_14 v6 h k)) (g3b _),
    fun _ => ok16 v6 h,
    fun t _ _ => no16 v6 t,
    fun t _ _ => no16 v6 t,
    fun t _ _ => no16 v6 t⟩

theorem chk4_2_of (v179 v189 v200 : BitVec 1) (h : v6.toInt ≤ 32768) : k0_chk4_2 s v6 v179 v189 v200 :=
  ⟨fun t _ _ => no16 v6 t,
    fun t _ _ => no16 v6 t,
    fun t _ => no16 v6 t,
    fun t _ => no16 v6 t,
    fun t _ => no16 v6 t,
    fun t _ => no16 v6 t,
    fun t _ => no16 v6 t,
    fun t _ => no16 v6 t⟩

theorem chk4_of (v179 v189 v200 : BitVec 1) (h : v6.toInt ≤ 32768) : k0_chk4 s v6 v179 v189 v200 :=
  ⟨chk4_0_of s v6 v179 v189 v200 h, chk4_1_of s v6 v179 v189 v200 h, chk4_2_of s v6 v179 v189 v200 h⟩

theorem chk2_of (v943 : BitVec 32) (hp : v943.toNat < 61440) : k0_chk2 v943 := inb_of (k0_off17_eq v943 hp) (gp _ hp)
theorem chk5_of (v179 v189 v200 : BitVec 1) (v839 : BitVec 32) (hp : v839.toNat < 61440) : k0_chk5 v179 v189 v200 v839 := fun _ _ => inb_of (k0_off56_eq v839 hp) (gp _ hp)
theorem chk7_of (v179 v189 v200 : BitVec 1) (v1151 : BitVec 32) (hp : v1151.toNat < 61440) : k0_chk7 v179 v189 v200 v1151 := fun _ _ => inb_of (k0_off89_eq v1151 hp) (gp _ hp)
theorem chk9_of (v179 v189 v200 : BitVec 1) (v1100 : BitVec 32) (hp : v1100.toNat < 61440) : k0_chk9 v179 v189 v200 v1100 := fun _ => inb_of (k0_off124_eq v1100 hp) (gp _ hp)

end Cert.Kernel.Hand
-- ==== Proof.Bits.Step.lean ====
/-
  The steps a body takes at the ring and at the page rows: the ring's advance by one trip, the conditional start of a
  transfer, and the loop that fetches the 128 page rows of a trip.
-/
module

public import proofs.«01_k».proof.Proof.Bits.Words

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

section Ring

variable {arg3 : Memref sig .tc .hbm S32x49152 .f32} {arg12 : Memref sig .tc .vmem S4x32x128 .f32} {arg14 : DmaSems sig S4}
variable {f3 : Buf (Elt F) (arg3.view.loc (c : Thread nD τ))}

theorem role_next (B n k d : ℕ) : role c arg3 arg12 arg14 f3 B n k (d + 1) = role c arg3 arg12 arg14 f3 B n (k + 1) d := by
  unfold role; rw [show k + (d + 1) = k + 1 + d by omega]

theorem role_busy {B n k d : ℕ} (h : k + d < n) : role c arg3 arg12 arg14 f3 B n k d = Busy c arg3 arg12 arg14 f3 (Fin.ofNat 4 (k + d)) (Fin.ofNat 384 (B + (k + d))) := if_pos h

theorem role_free {B n k d : ℕ} (h : ¬ k + d < n) : role c arg3 arg12 arg14 f3 B n k d = Free c arg3 arg12 arg14 f3 (Fin.ofNat 4 (k + d)) := if_neg h

theorem ofNat4 (k : ℕ) : Fin.ofNat 4 (k + 1 + 3) = Fin.ofNat 4 k := Fin.ext (show (k + 1 + 3) % 4 = k % 4 by omega)

/-- The conditional start of the transfer `d` places ahead. -/
theorem issue_role {B n k d : ℕ} {C : Prop} [Decidable C] (hC : C ↔ k + d < n) {o1 : Fin 1 → ℕ} {o3 : Fin 3 → ℕ} {o2 : Fin 2 → ℕ}
    (h1 : C → o1 = ![(Fin.ofNat 4 (k + d)).val]) (h3 : C → o3 = ![(Fin.ofNat 4 (k + d)).val, 0, 0])
    (h2 : C → o2 = ![0, 128 * (Fin.ofNat 384 (B + (k + d))).val])
    {i1 : C → ∀ a, o1 a + S1.size a ≤ S4.size a} {i3 : C → ∀ a, o3 a + S1x32x128.size a ≤ S4x32x128.size a} {i2 : C → ∀ a, o2 a + S32x128.size a ≤ S32x49152.size a}
    {w1 : ∀ h : C, _} {w2 : ∀ h : C, _} {w3 : ∀ h : C, _} {α : Type} {kk : Prog (TpuEff nD τ sig (Elt F) Λ₀ .tc) α} {Q : α → sProp 𝕄} :
    Free c arg3 arg12 arg14 f3 (Fin.ofNat 4 (k + d)) ⊢ iprop((role c arg3 arg12 arg14 f3 B n k d -∗ wpb c kk Q)
      -∗ wpb c (if h : C then (do
          Prog.lift (.enqueueDma (arg3.slice (Rect.unit (s := S32x49152) o2 S32x128.size (i2 h)) (fun _ => rfl))
            (.here ((arg12.slice (Rect.unit (s := S4x32x128) o3 S1x32x128.size (i3 h)) (fun _ => rfl)).squeeze S32x128 squeezes_S1x32x128_S32x128))
            (.dma ((arg14.slice (Rect.unit (s := S4) o1 S1.size (i1 h))).squeeze S_ squeezes_S1_S_).sem) (w1 h) (w2 h) (w3 h))
          kk) else kk) Q) := by
  by_cases h : C
  · rw [dif_pos h, role_busy c (hC.1 h)]
    iintro HF HQ
    iapply (issue_slot c (Fin.ofNat 4 (k + d)) (Fin.ofNat 384 (B + (k + d))) (h1 h) (h3 h) (h2 h)) $$ HF
    iintro HB
    iapply HQ; iexact HB
  · rw [dif_neg h, role_free c (fun hh => h (hC.2 hh))]
    iintro HF HQ
    iapply HQ; iexact HF

/-- The same, at a condition the branches do not name. -/
theorem issue_role' {B n k d : ℕ} {C : Prop} [Decidable C] (hC : C ↔ k + d < n) {o1 : Fin 1 → ℕ} {o3 : Fin 3 → ℕ} {o2 : Fin 2 → ℕ}
    (h1 : o1 = ![(Fin.ofNat 4 (k + d)).val]) (h3 : o3 = ![(Fin.ofNat 4 (k + d)).val, 0, 0])
    (h2 : o2 = ![0, 128 * (Fin.ofNat 384 (B + (k + d))).val]) {i1 i3 i2}
    {w1 w2 w3} {α : Type} {kk : Prog (TpuEff nD τ sig (Elt F) Λ₀ .tc) α} {Q : α → sProp 𝕄} :
    Free c arg3 arg12 arg14 f3 (Fin.ofNat 4 (k + d)) ⊢ iprop((role c arg3 arg12 arg14 f3 B n k d -∗ wpb c kk Q)
      -∗ wpb c (if C then (do
          Prog.lift (.enqueueDma (arg3.slice (Rect.unit (s := S32x49152) o2 S32x128.size i2) (fun _ => rfl))
            (.here ((arg12.slice (Rect.unit (s := S4x32x128) o3 S1x32x128.size i3) (fun _ => rfl)).squeeze S32x128 squeezes_S1x32x128_S32x128))
            (.dma ((arg14.slice (Rect.unit (s := S4) o1 S1.size i1)).squeeze S_ squeezes_S1_S_).sem) w1 w2 w3)
          kk) else kk) Q) := by
  by_cases h : C
  · rw [if_pos h, role_busy c (hC.1 h)]
    iintro HF HQ
    iapply (issue_slot c (Fin.ofNat 4 (k + d)) (Fin.ofNat 384 (B + (k + d))) h1 h3 h2) $$ HF
    iintro HB
    iapply HQ; iexact HB
  · rw [if_neg h, role_free c (fun hh => h (hC.2 hh))]
    iintro HF HQ
    iapply HQ; iexact HF

theorem ring_open {B n k : ℕ} (h : k < n) : RingAt c arg3 arg12 arg14 f3 B n k ⊢ iprop(Busy c arg3 arg12 arg14 f3 (Fin.ofNat 4 k) (Fin.ofNat 384 (B + k))
    ∗ role c arg3 arg12 arg14 f3 B n (k + 1) 0 ∗ role c arg3 arg12 arg14 f3 B n (k + 1) 1 ∗ Free c arg3 arg12 arg14 f3 (Fin.ofNat 4 (k + 3))) := by
  unfold RingAt
  rw [role_busy c (d := 0) h, role_next, role_next]; exact .rfl

theorem ring_close {B n k : ℕ} : iprop(Free c arg3 arg12 arg14 f3 (Fin.ofNat 4 k)
    ∗ role c arg3 arg12 arg14 f3 B n (k + 1) 0 ∗ role c arg3 arg12 arg14 f3 B n (k + 1) 1 ∗ role c arg3 arg12 arg14 f3 B n k 3) ⊢ RingAt c arg3 arg12 arg14 f3 B n (k + 1) := by
  unfold RingAt
  rw [role_next c B n k 2, ofNat4]
  iintro ⟨H0, H1, H2, H3⟩
  isplitl [H1]; · iexact H1
  isplitl [H2]; · iexact H2
  isplitl [H3]; · iexact H3
  iexact H0

theorem ring_end {B n : ℕ} : RingAt c arg3 arg12 arg14 f3 B n n ⊢ RingIdle c arg3 arg12 arg14 f3 := by
  unfold RingAt RingIdle
  rw [role_free c (by omega), role_free c (by omega), role_free c (by omega)]
  have h : n % 4 = 0 ∨ n % 4 = 1 ∨ n % 4 = 2 ∨ n % 4 = 3 := by omega
  rcases h with h | h | h | h
  · rw [show Fin.ofNat 4 (n + 0) = 0 from Fin.ext h, show Fin.ofNat 4 (n + 1) = 1 from Fin.ext (show (n + 1) % 4 = 1 by omega),
      show Fin.ofNat 4 (n + 2) = 2 from Fin.ext (show (n + 2) % 4 = 2 by omega), show Fin.ofNat 4 (n + 3) = 3 from Fin.ext (show (n + 3) % 4 = 3 by omega)]
  · rw [show Fin.ofNat 4 (n + 0) = 1 from Fin.ext h, show Fin.ofNat 4 (n + 1) = 2 from Fin.ext (show (n + 1) % 4 = 2 by omega),
      show Fin.ofNat 4 (n + 2) = 3 from Fin.ext (show (n + 2) % 4 = 3 by omega), show Fin.ofNat 4 (n + 3) = 0 from Fin.ext (show (n + 3) % 4 = 0 by omega)]
    iintro ⟨H1, H2, H3, H0⟩
    isplitl [H0]; · iexact H0
    isplitl [H1]; · iexact H1
    isplitl [H2]; · iexact H2
    iexact H3
  · rw [show Fin.ofNat 4 (n + 0) = 2 from Fin.ext h, show Fin.ofNat 4 (n + 1) = 3 from Fin.ext (show (n + 1) % 4 = 3 by omega),
      show Fin.ofNat 4 (n + 2) = 0 from Fin.ext (show (n + 2) % 4 = 0 by omega), show Fin.ofNat 4 (n + 3) = 1 from Fin.ext (show (n + 3) % 4 = 1 by omega)]
    iintro ⟨H2, H3, H0, H1⟩
    isplitl [H0]; · iexact H0
    isplitl [H1]; · iexact H1
    isplitl [H2]; · iexact H2
    iexact H3
  · rw [show Fin.ofNat 4 (n + 0) = 3 from Fin.ext h, show Fin.ofNat 4 (n + 1) = 0 from Fin.ext (show (n + 1) % 4 = 0 by omega),
      show Fin.ofNat 4 (n + 2) = 1 from Fin.ext (show (n + 2) % 4 = 1 by omega), show Fin.ofNat 4 (n + 3) = 2 from Fin.ext (show (n + 3) % 4 = 2 by omega)]
    iintro ⟨H3, H0, H1, H2⟩
    isplitl [H0]; · iexact H0
    isplitl [H1]; · iexact H1
    isplitl [H2]; · iexact H2
    iexact H3

end Ring

/-! ## The page rows -/

/-- The rows a trip gathers: row `y` of the 256 is row `y % 2` of the page its token block's entry of the table names. -/
def Gat (Tab : S24x2048.Idx → BitVec 32) (Pool : S122880x128.Idx → BitVec 32) (s : Fin 24) (k : ℕ) : S256x128.Idx → BitVec 32 := fun y =>
  Pool (ix2 (Fin.ofNat 122880 (2 * (Tab (ix2 s (Fin.ofNat 2048 (128 * k + (y 0).val / 2)))).toNat + (y 0).val % 2)) (y 1))

/-- Block `b` of the gathered scales. -/
def Blk {arg3 : Memref sig .tc .hbm S32x49152 .f32} (f3 : Buf (Elt F) (arg3.view.loc (c : Thread nD τ))) (b : ℕ) : S32x128.Idx → Elt F .f32 :=
  fun x => arg3.view.read (Elt F) f3 ((blkR (Fin.ofNat 384 b)).emb x)

section Fetch

variable {arg0 : Memref sig .tc .smem S24x2048 .i32} {arg2 : Memref sig .tc .vmem S122880x128 .i32} {arg11 : Memref sig .tc .vmem S256x128 .i32}
variable {q0 q2 : PosShare TreeShare} {Tab : S24x2048.Idx → BitVec 32} {Pool : S122880x128.Idx → BitVec 32}

/-- Before row `r` of a trip: the page rows before it are in place. -/
def Fet (arg0 : Memref sig .tc .smem S24x2048 .i32) (arg2 : Memref sig .tc .vmem S122880x128 .i32) (arg11 : Memref sig .tc .vmem S256x128 .i32)
    (q0 q2 : PosShare TreeShare) (Tab : S24x2048.Idx → BitVec 32) (Pool : S122880x128.Idx → BitVec 32) (s : Fin 24) (k r : ℕ) : sProp 𝕄 :=
  iprop(owns (c : Thread nD τ) arg0 q0 (e := .i32) Tab ∗ owns (c : Thread nD τ) arg2 q2 (e := .i32) Pool
    ∗ ∃ X : S256x128.Idx → BitVec 32, owns (c : Thread nD τ) arg11 fullShare (e := .i32) X ∗ ⌜∀ y, (y 0).val < 2 * r → X y = Gat Tab Pool s k y⌝)

theorem fetch_row (hT : ∀ y, (Tab y).toNat < 61440) (s : Fin 24) (k r : ℕ) (hk : k < 16) (hr : r < 128)
    {o16 o18 : Fin 2 → ℕ} {o17 : BitVec 32 → Fin 2 → ℕ} {chk : BitVec 32 → Prop} {dec : ∀ v, Decidable (chk v)}
    {i17 : ∀ v, chk v → ∀ a, o17 v a + S2x128.size a ≤ S122880x128.size a} {i16 i18}
    (h16 : o16 = ![s.val, 128 * k + r]) (h17 : ∀ v : BitVec 32, v.toNat < 61440 → o17 v = ![2 * v.toNat, 0])
    (hchk : ∀ v : BitVec 32, v.toNat < 61440 → chk v) (h18 : o18 = ![2 * r, 0]) {pay : (S2x128.Idx → BitVec 32) → S2x128.Idx → BitVec 32} (hpay : ∀ v, pay v = v)
    {n1 p1 hl2 hx hm} {hl1 : ∀ (v : BitVec 32) (hw : chk v), arg2.view.LoadsAt (Rect.unit (s := S122880x128) (o17 v) S2x128.size (i17 v hw)).toLoadRect} :
    Fet c arg0 arg2 arg11 q0 q2 Tab Pool s k r ⊢ wpb (F := F) c (do
      let v943 : Elt F .i32 ← smemLoad arg0 (Rect.unit (s := S24x2048) o16 S1x1.size i16) n1 p1
      have hw : chk v943 := (← Prog.lift (TpuEff.assume (chk v943) (dec v943))).down
      let v946 : Vec F S2x128 .i32 ← Prog.lift (.load arg2 (Rect.unit (s := S122880x128) (o17 v943) S2x128.size (i17 v943 hw)).toLoadRect (hl1 v943 hw))
      let v949 : Vec F S2x128 .i32 ← Prog.lift (.load arg11 (Rect.unit (s := S256x128) o18 S2x128.size i18).toLoadRect hl2)
      Prog.lift (.store arg11 (Rect.unit (s := S256x128) o18 S2x128.size i18) (pay v946) Finset.univ hx hm)
      pure ⟨⟩) (fun (_ : Unit) => Fet c arg0 arg2 arg11 q0 q2 Tab Pool s k (r + 1)) := by
  subst h16 h18
  unfold Fet
  iintro ⟨H0, H2, ⟨%X, H11, %hX⟩⟩
  iapply (smem_owns c) $$ H0
  iintro H0
  have hpt : (Rect.unit (s := S24x2048) ![s.val, 128 * k + r] S1x1.size i16).point n1 = ix2 s (Fin.ofNat 2048 (128 * k + r)) := by
    have h1 : ∀ x : S1x1.Idx, (Rect.unit (s := S24x2048) ![s.val, 128 * k + r] S1x1.size i16).emb x = ix2 s (Fin.ofNat 2048 (128 * k + r)) := by
      intro x
      have hx0 : (x 0).val < 1 := (x 0).isLt
      have hx1 : (x 1).val < 1 := (x 1).isLt
      funext a
      apply Fin.ext
      fin_cases a
      · show s.val + 1 * (x 0).val = s.val; omega
      · show 128 * k + r + 1 * (x 1).val = (128 * k + r) % 2048; omega
    exact h1 _
  rw [hpt]
  have hp := hT (ix2 s (Fin.ofNat 2048 (128 * k + r)))
  generalize hpv : Tab (ix2 s (Fin.ofNat 2048 (128 * k + r))) = p at hp ⊢
  iapply (wp_assume Variants.none (c : Thread nD τ) none Set.univ (hchk p hp))
  iapply (load_owns c) $$ H2
  iintro H2
  iapply (load_owns c) $$ H11
  iintro H11
  iapply (store_owns c) $$ H11
  iintro H11
  unfold wpb; try dsimp only [Prog.bind]
  sl_step
  isplitl [H0]; · iexact H0
  isplitl [H2]; · iexact H2
  iexists _
  isplitl [H11]; · iexact H11
  ipureintro
  intro y hy
  rw [hpay]
  by_cases hm : y ∈ (Rect.unit (s := S256x128) ![2 * r, 0] S2x128.size i18).set
  · obtain ⟨x, rfl⟩ := (Rect.unit (s := S256x128) ![2 * r, 0] S2x128.size i18).exists_idx_of_mem hm
    change Rect.overlay _ _ _ (Rect.emb _ x) = _
    rw [Rect.overlay_emb]
    have hx0 : (x 0).val < 2 := (x 0).isLt
    have hy0 : ((Rect.unit (s := S256x128) ![2 * r, 0] S2x128.size i18).idx x 0).val = 2 * r + 1 * (x 0).val := rfl
    have hy1 : ((Rect.unit (s := S256x128) ![2 * r, 0] S2x128.size i18).idx x 1).val = 0 + 1 * (x 1).val := rfl
    unfold Gat
    rw [hy0, show (2 * r + 1 * (x 0).val) / 2 = r by omega, show (2 * r + 1 * (x 0).val) % 2 = (x 0).val by omega, hpv]
    refine congrArg Pool ?_
    funext a
    apply Fin.ext
    fin_cases a
    · show (o17 p) 0 + 1 * (x 0).val = (2 * p.toNat + (x 0).val) % 122880
      rw [h17 p hp]
      show 2 * p.toNat + 1 * (x 0).val = _
      omega
    · show (o17 p) 1 + 1 * (x 1).val = _
      rw [h17 p hp]
      show 0 + 1 * (x 1).val = _
      exact hy1.symm
  · rw [Rect.overlay_of_not_mem _ _ _ hm]
    refine hX y ?_
    by_contra hlt
    refine hm (Rect.mem_set_unit.2 (Fin.forall_fin_two.2 ⟨⟨?_, ?_⟩, ⟨Nat.zero_le _, ?_⟩⟩))
    · show 2 * r ≤ (y 0).val; omega
    · show (y 0).val < 2 * r + 2; omega
    · show (y 1).val < 0 + 128
      have : (y 1).val < 128 := (y 1).isLt
      omega

end Fetch

end Cert.Kernel.Hand
-- ==== Proof.Bits.Trips.lean ====
/-
  The trips of the loops over the blocks of a sequence: each fetches its page rows, waits for its block of scales,
  starts the transfer three blocks ahead and makes one step of its carry.
-/
module

public import proofs.«01_k».proof.Proof.Bits.Step
public import Idealize.ShloMosaic.Lib.Pipeline.Value

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 : PosShare TreeShare}
  {Tab : S24x2048.Idx → BitVec 32} {Len : S24.Idx → BitVec 32} {Pool : S122880x128.Idx → BitVec 32}

/-- What the loops use beside the ring: the three inputs they read, the buffer of page rows and the right to wait. -/
def Amb (arg0 : Memref sig .tc .smem S24x2048 .i32) (arg1 : Memref sig .tc .smem S24 .i32) (arg2 : Memref sig .tc .vmem S122880x128 .i32) (arg11 : Memref sig .tc .vmem S256x128 .i32)
    (q0 q1 q2 : PosShare TreeShare) (Tab : S24x2048.Idx → BitVec 32) (Len : S24.Idx → BitVec 32) (Pool : S122880x128.Idx → BitVec 32) : sProp 𝕄 :=
  iprop(owns (c : Thread nD τ) arg0 q0 (e := .i32) Tab ∗ owns (c : Thread nD τ) arg1 q1 (e := .i32) Len ∗ owns (c : Thread nD τ) arg2 q2 (e := .i32) Pool
    ∗ (∃ X : S256x128.Idx → BitVec 32, owns (c : Thread nD τ) arg11 fullShare (e := .i32) X) ∗ ∃ W, owes (c : Thread nD τ) 0 W)

/-- In the middle of trip `k`: the page rows are in place, the block of scales has landed, the slot ahead is under way. -/
def Mid (arg0 : Memref sig .tc .smem S24x2048 .i32) (arg1 : Memref sig .tc .smem S24 .i32) (arg2 : Memref sig .tc .vmem S122880x128 .i32) (arg3 : Memref sig .tc .hbm S32x49152 .f32)
    (arg11 : Memref sig .tc .vmem S256x128 .i32) (arg12 : Memref sig .tc .vmem S4x32x128 .f32) (arg14 : DmaSems sig S4) (f3 : Buf (Elt F) (arg3.view.loc (c : Thread nD τ)))
    (q0 q1 q2 : PosShare TreeShare) (Tab : S24x2048.Idx → BitVec 32) (Len : S24.Idx → BitVec 32) (Pool : S122880x128.Idx → BitVec 32) (s : Fin 24) (k B n : ℕ) : sProp 𝕄 :=
  iprop(owns (c : Thread nD τ) arg0 q0 (e := .i32) Tab ∗ owns (c : Thread nD τ) arg1 q1 (e := .i32) Len ∗ owns (c : Thread nD τ) arg2 q2 (e := .i32) Pool
    ∗ owns (c : Thread nD τ) arg11 fullShare (e := .i32) (Gat Tab Pool s k) ∗ (∃ W, owes (c : Thread nD τ) 0 W)
    ∗ Landed c arg3 arg12 arg14 f3 (Fin.ofNat 4 k) (Fin.ofNat 384 (B + k)) ∗ role c arg3 arg12 arg14 f3 B n (k + 1) 0
    ∗ role c arg3 arg12 arg14 f3 B n (k + 1) 1 ∗ role c arg3 arg12 arg14 f3 B n k 3)

theorem bind_wpb {α β : Type} {p : Prog (TpuEff nD τ sig (Elt F) Λ₀ .tc) α} {k : α → Prog (TpuEff nD τ sig (Elt F) Λ₀ .tc) β} {Q : β → sProp 𝕄} :
    wpb c p (fun a => wpb c (k a) Q) ⊢ wpb c (p >>= k) Q := .of_eq (wp_bind _ _ _ _ _ _).symm

theorem ret_wpb {α : Type} {a : α} {Q : α → sProp 𝕄} : Q a ⊢ wpb (F := F) c (Prog.ret a) Q := by
  unfold wpb
  iintro H
  sl_step
  iexact H

theorem wand_wpb {α : Type} {p : Prog (TpuEff nD τ sig (Elt F) Λ₀ .tc) α} {Q Q' : α → sProp 𝕄} :
    wpb c p Q ⊢ iprop((∀ a, Q a -∗ Q' a) -∗ wpb c p Q') := wp_wand _ _ _

theorem point24 {o : Fin 1 → ℕ} {i : ∀ a, o a + S1.size a ≤ S24.size a} {h : (Rect.unit (s := S24) o S1.size i).shape.numel = 1} (s : Fin 24) (ho : o = ![s.val]) :
    (Rect.unit (s := S24) o S1.size i).point h = ix1 s := by
  subst ho
  have h1 : ∀ x : S1.Idx, (Rect.unit (s := S24) ![s.val] S1.size i).emb x = ix1 s := by
    intro x
    have hx0 : (x 0).val < 1 := (x 0).isLt
    funext a
    apply Fin.ext
    fin_cases a
    show s.val + 1 * (x 0).val = s.val; omega
  exact h1 _

/-! ## The trips of loop 2 -/

theorem fetch2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (c0_i32_18 : BitVec 32) (c1_i32_20 : BitVec 32) (t2 : Fin (k0_t2_loop v6).trips) (h6 : v6.toInt ≤ 32768) :
    Fet c arg0 arg2 arg11 q0 q2 Tab Pool t1 t2.val 0 ⊢ wpb (F := F) c
      (Scf.Loop.for k0_t3_loop k0_t3_ok (⟨⟩ : PUnit) (k0_t3_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 c0_i32_18 c1_i32_20 t2))
      (fun _ => Fet c arg0 arg2 arg11 q0 q2 Tab Pool t1 t2.val 128) := by
  refine BIBase.Entails.trans ?_ (Scf.wp_for frame (wpE (defs₀ (F := F)) Variants.none (c : Thread nD τ) none) Set.univ _ _ _ k0_t3_ok (⟨⟩ : PUnit) _
    (fun r _ => Fet c arg0 arg2 arg11 q0 q2 Tab Pool t1 t2.val r) ?_)
  · iintro H
    isplitl [H]
    · iexact H
    iintro %_ H
    iexact H
  · intro r u
    unfold k0_t3_body
    exact fetch_row c hT t1 t2.val r.val (lt16_2 v6 h6 t2) r.isLt (chk := fun v => k0_chk2 v) (dec := fun v => k0_chk2.dec v) (i17 := fun v hv => k0_off17_inb v hv)
      (k0_off16_eq _ _ _ _ (lt16_2 v6 h6 t2)) (fun v hp => k0_off17_eq v hp) (fun v hp => chk2_of v hp) (k0_off18_eq _)
      (fun v => shapeCast_self _ _)

set_option backward.isDefEq.respectTransparency.types false in
theorem open2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (c0_i32_18 : BitVec 32) (c1_i32_20 : BitVec 32) (t2 : Fin (k0_t2_loop v6).trips) (h6 : v6.toInt ≤ 32768) :
    iprop((Amb c arg0 arg1 arg2 arg11 q0 q1 q2 Tab Len Pool) ∗ RingAt c arg3 arg12 arg14 f3 (16 * t1.val) (nb v6) t2.val) ⊢ wpb (F := F) c
      (k0_part1 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 c0_i32_18 c1_i32_20 t2)
      (fun r => iprop(⌜r = ⟨k0_pay2 (F := F) v0 v1 v6 c0_i32_18 c1_i32_20 t2 (Len (ix1 t1)), k0_pay3 (F := F) v0 v1 v6 c0_i32_18 c1_i32_20 t2 (Len (ix1 t1)) (fun x : S1x16x128.Idx => Blk c (arg3 := arg3) f3 (16 * t1.val + t2.val) (ix2 (Fin.ofNat 32 (0 + (x 1).val)) (x 2)))⟩⌝ ∗ (Mid c arg0 arg1 arg2 arg3 arg11 arg12 arg14 f3 q0 q1 q2 Tab Len Pool t1 t2.val (16 * t1.val) (nb v6)))) := by
  have h16 := lt16_2 v6 h6 t2
  have hlt := lt2 v6 h6 t2
  rw [k0_part1_eq_skeleton]
  unfold k0_part1_skel
  refine BIBase.Entails.trans (sep_mono_right (ring_open c hlt)) ?_
  unfold Amb
  iintro ⟨⟨H0, H1, H2, H11, HW⟩, HB, HR0, HR1, HF⟩
  iapply (issue_role c (B := 16 * t1.val) (cond4_iff v6 h6 t2) (fun h => k0_off13_eq _ _ h16) (fun h => k0_off14_eq _ _ h16) (fun h => k0_off15_eq _ _ _ (lt13_2 v6 h6 t2 h))) $$ HF
  iintro HR2
  iapply (bind_wpb c)
  iapply (wand_wpb c) $$ [H0 H2 H11]
  · iapply (fetch2 c hT (q0 := q0) (q2 := q2) (Pool := Pool) v0 v1 t1 v4 v6 k0_hw1 v24 c0_i32_18 c1_i32_20 t2 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t2.val := funext fun y => hX y (y 0).isLt
  subst hX'
  icases HW with ⟨%W, HW⟩
  iapply (wait_slot c (arg3 := arg3) (f3 := f3) (Fin.ofNat 4 t2.val) (Fin.ofNat 384 (16 * t1.val + t2.val)) (k0_off19_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t2.val) 0 (by decide) (k0_off23_eq _ _ h16)) $$ HL2
  iintro HL2
  iapply (ret_wpb c)
  isplitr
  · ipureintro
    rw [show (Rect.unit (s := S24) (k0_off22 t1) S1.size (k0_off22_inb t1)).point numel1_S1 = ix1 t1 from point24 _ (k0_off22_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more2 (t1 : Fin k0_t1_loop.trips) (v6 : Elt F .i32) (k0_hw1 : k0_chk1 t1 v6) (v30 : FVec F S80x64 .bf16) (t2 : Fin (k0_t2_loop v6).trips) (v232 : IVec S16x128 1) (v239 : FVec F S16x128 .f32) (h6 : v6.toInt ≤ 32768) :
    (Mid c arg0 arg1 arg2 arg3 arg11 arg12 arg14 f3 q0 q1 q2 Tab Len Pool t1 t2.val (16 * t1.val) (nb v6)) ⊢ wpb (F := F) c
      (k0_part2 arg0 harg0 arg1 harg1 arg2 harg2 arg3 harg3 arg4 harg4 arg5 harg5 arg6 harg6 arg7 harg7 arg8 harg8 arg9 harg9 arg10 harg10 arg11 harg11 arg12 harg12 arg13 harg13 arg14 t1 v6 k0_hw1 v30 t2 v232 v239)
      (fun r => iprop(⌜r = ⟨k0_pay4 (F := F) v232 (fun x : S1x16x128.Idx => Blk c (arg3 := arg3) f3 (16 * t1.val + t2.val) (ix2 (Fin.ofNat 32 (16 + (x 1).val)) (x 2))), k0_pay5 (F := F) (fun x => Gat Tab Pool t1 t2.val ((⟨![0, 0], S128x128.size, ![2, 1], inb_S256x128_S128x128_0_0_s_2_1⟩ : LoadRect S256x128).idx x)), k0_pay6 (F := F) (fun x => Gat Tab Pool t1 t2.val ((⟨![1, 0], S128x128.size, ![2, 1], inb_S256x128_S128x128_1_0_s_2_1⟩ : LoadRect S256x128).idx x)), k0_pay7 (F := F) v30 v239 (fun x => Gat Tab Pool t1 t2.val ((⟨![0, 0], S128x128.size, ![2, 1], inb_S256x128_S128x128_0_0_s_2_1⟩ : LoadRect S256x128).idx x)), k0_pay8 v232⟩⌝ ∗ (Mid c arg0 arg1 arg2 arg3 arg11 arg12 arg14 f3 q0 q1 q2 Tab Len Pool t1 t2.val (16 * t1.val) (nb v6)))) := by
  have h16 := lt16_2 v6 h6 t2
  rw [k0_part2_eq_skeleton]
  unfold k0_part2_skel Mid Landed
  iintro ⟨H0, H1, H2, H11, HW, ⟨HL1, HL2, HL3⟩, HR⟩
  iapply (load_slot c (Fin.ofNat 4 t2.val) 16 (by decide) (k0_off24_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 2 makes of its carry: the block's scales `SC`, its page rows `G`, the length `len`. -/
def step2 (v0 : IVec S16x128 32) (v1 : IVec S16x128 32) (v6 : Elt F .i32) (v30 : FVec F S80x64 .bf16) (v31 : FVec F S72x256 .f32) (t2 : Fin (k0_t2_loop v6).trips) (G : S256x128.Idx → BitVec 32) (SC : S32x128.Idx → Elt F .f32) (len : BitVec 32) : FVec F S72x128 .f32 × FVec F S64x72 .f32 → FVec F S72x128 .f32 × FVec F S64x72 .f32 := fun (arg17, arg18) =>
  let v230 := len
  let v234 := (fun x : S1x16x128.Idx => SC (ix2 (Fin.ofNat 32 (0 + (x 1).val)) (x 2)))
  let v232 := k0_pay2 (F := F) v0 v1 v6 0#32 1#32 t2 v230
  let v239 := k0_pay3 (F := F) v0 v1 v6 0#32 1#32 t2 v230 v234
  let v241 := (fun x : S1x16x128.Idx => SC (ix2 (Fin.ofNat 32 (16 + (x 1).val)) (x 2)))
  let v245 := (fun x => G ((⟨![0, 0], S128x128.size, ![2, 1], inb_S256x128_S128x128_0_0_s_2_1⟩ : LoadRect S256x128).idx x))
  let v247 := (fun x => G ((⟨![1, 0], S128x128.size, ![2, 1], inb_S256x128_S128x128_1_0_s_2_1⟩ : LoadRect S256x128).idx x))
  let v244 := k0_pay4 (F := F) v232 v241
  let v246 := k0_pay5 (F := F) v245
  let v248 := k0_pay6 (F := F) v247
  let v284 := k0_pay7 (F := F) v30 v239 v245
  let v287 := k0_pay8 v232
  let v336 := iota .tc S8x8x128 32 [1] iota_S8x8x128_d1_w32
  let v297 := k0_pay10 (F := F) v31 arg17 v284 v287
  let v334 := k0_pay11 (F := F) v31 arg18 v244 v248 v284 v287
  let v339 := k0_pay12 v246
  let v391 := iota .tc S8x8x128 32 [1] iota_S8x8x128_d1_w32
  let v383 := k0_pay14 (F := F) v30 v31 v232 v239 v246 v297 v336 v339
  let v389 := k0_pay15 (F := F) v30 v31 v232 v239 v244 v246 v336 v339
  let v390 := k0_pay16 v248
  let v436 := iota .tc S8x8x128 32 [1] iota_S8x8x128_d1_w32
  let v420 := k0_pay17 (F := F) v248 v334 v389 v390 v391
  let v434 := k0_pay18 (F := F) v246
  let v439 := k0_pay19 v246
  let v440 := k0_pay20
  let v491 := iota .tc S8x8x128 32 [1] iota_S8x8x128_d1_w32
  let v469 := k0_pay22 (F := F) v30 v31 v232 v239 v383 v434 v436 v439 v440
  let v475 := k0_pay23 (F := F) v30 v31 v232 v239 v244 v434 v436 v439 v440
  let v489 := k0_pay24 (F := F) v248
  let v493 := k0_pay25 v248
  let v506 := k0_pay26 (F := F) v420 v475 v489 v491 v493
  let v542 := k0_pay27 (F := F) v30 v239 v246
  let v594 := iota .tc S8x8x128 32 [1] iota_S8x8x128_d1_w32
  let v555 := k0_pay29 (F := F) v31 v232 v469 v542
  let v592 := k0_pay30 (F := F) v31 v232 v244 v248 v506 v542
  let v593 := k0_pay31 v246
  let v641 := k0_pay33 (F := F) v30 v31 v232 v239 v246 v555 v593 v594
  let v646 := k0_pay34 (F := F) v30 v31 v232 v239 v244 v246 v593 v594
  let v694 := iota .tc S8x8x128 32 [1] iota_S8x8x128_d1_w32
  let v678 := k0_pay35 (F := F) v248 v592 v646
  let v692 := k0_pay36 (F := F) v246
  let v696 := k0_pay37 v246
  let v727 := k0_pay39 (F := F) v30 v31 v232 v239 v641 v692 v694 v696
  let v733 := k0_pay40 (F := F) v30 v31 v232 v239 v244 v692 v694 v696
  let v747 := k0_pay41 (F := F) v248
  let v748 := k0_pay42 v248
  let v764 := k0_pay43 (F := F) v678 v733 v747 v748
  let v795 := k0_pay44 (F := F) v30 v246
  let v796 := k0_pay45 (F := F) v239
  let v797 := k0_pay46 (F := F) v239
  let v813 := k0_pay48 (F := F) v31 v232 v727 v795 v796 v797
  let v849 := k0_pay49 (F := F) v31 v232 v244 v248 v795 v796 v797
  let v850 := k0_pay50 (F := F) v764 v849
  let v895 := k0_pay51 (F := F) v30 v31 v232 v239 v246
  let v899 := k0_pay52 (F := F) v30 v31 v232 v239 v246 v813
  let v900 := k0_pay53 (F := F) v244
  let v901 := k0_pay54 (F := F) v244
  (v899, k0_pay403 (F := F) v248 v850 v895 v900 v901)

set_option backward.isDefEq.respectTransparency.types false in
theorem trip2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (v27 : FVec F S72x128 .f32) (v30 : FVec F S80x64 .bf16) (v31 : FVec F S72x256 .f32) (v32 : FVec F S72x128 .f32) (v33 : FVec F S64x72 .f32) (v39 : BitVec 1) (h6 : v6.toInt ≤ 32768) (t2 : Fin (k0_t2_loop v6).trips) (acc : FVec F S72x128 .f32 × FVec F S64x72 .f32) :
    iprop((Amb c arg0 arg1 arg2 arg11 q0 q1 q2 Tab Len Pool) ∗ RingAt c arg3 arg12 arg14 f3 (16 * t1.val) (nb v6) t2.val) ⊢ wpb (F := F) c
      (k0_t2_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 v27 v30 v31 v32 v33 v39 t2 acc)
      (fun r => iprop(⌜r = step2 v0 v1 v6 v30 v31 t2 (Gat Tab Pool t1 t2.val) (Blk c (arg3 := arg3) f3 (16 * t1.val + t2.val)) (Len (ix1 t1)) acc⌝
        ∗ (Amb c arg0 arg1 arg2 arg11 q0 q1 q2 Tab Len Pool) ∗ RingAt c arg3 arg12 arg14 f3 (16 * t1.val) (nb v6) (t2.val + 1))) := by
  obtain ⟨arg17, arg18⟩ := acc
  unfold k0_t2_body
  dsimp only
  refine BIBase.Entails.trans ?_ (bind_wpb c (p := k0_part1 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 0#32 1#32 t2))
  refine BIBase.Entails.trans (open2 c hT _ _ _ _ _ _ _ _ _ _  h6) (wp_mono _ _ _ fun r => ?_)
  iintro ⟨%hr, H⟩
  subst hr
  iapply (bind_wpb c)
  iapply (wand_wpb c) $$ [H]
  · iapply (more2 c _ _ _ _ _ _ _  h6) $$ H
  iintro %r ⟨%hr, H⟩
  subst hr
  iapply (show _ ⊢ wpb c (Prog.ret (step2 v0 v1 v6 v30 v31 t2 (Gat Tab Pool t1 t2.val) (Blk c (arg3 := arg3) f3 (16 * t1.val + t2.val)) (Len (ix1 t1)) (arg17, arg18))) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

/-! ## The trips of loop 6 -/

theorem fetch6 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_148 : BitVec 32) (c1_i32_150 : BitVec 32) (t6 : Fin (k0_t6_loop v6).trips) (h6 : v6.toInt ≤ 32768) :
    Fet c arg0 arg2 arg11 q0 q2 Tab Pool t1 t6.val 0 ⊢ wpb (F := F) c
      (Scf.Loop.for k0_t7_loop k0_t7_ok (⟨⟩ : PUnit) (k0_t7_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_148 c1_i32_150 t6))
      (fun _ => Fet c arg0 arg2 arg11 q0 q2 Tab Pool t1 t6.val 128) := by
  refine BIBase.Entails.trans ?_ (Scf.wp_for frame (wpE (defs₀ (F := F)) Variants.none (c : Thread nD τ) none) Set.univ _ _ _ k0_t7_ok (⟨⟩ : PUnit) _
    (fun r _ => Fet c arg0 arg2 arg11 q0 q2 Tab Pool t1 t6.val r) ?_)
  · iintro H
    isplitl [H]
    · iexact H
    iintro %_ H
    iexact H
  · intro r u
    unfold k0_t7_body
    exact fetch_row c hT t1 t6.val r.val (lt16_6 v6 h6 t6) r.isLt (chk := fun v => k0_chk5 v179 v189 v200 v) (dec := fun v => k0_chk5.dec v179 v189 v200 v) (i17 := fun v hv => k0_off56_inb v179 v189 v200 v hv k0_h6 k0_h7)
      (k0_off55_eq _ _ _ _ (lt16_6 v6 h6 t6)) (fun v hp => k0_off56_eq v hp) (fun v hp => chk5_of v179 v189 v200 v hp) (k0_off57_eq _)
      (fun v => shapeCast_self _ _)

set_option backward.isDefEq.respectTransparency.types false in
theorem open6 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_148 : BitVec 32) (c1_i32_150 : BitVec 32) (t6 : Fin (k0_t6_loop v6).trips) (h6 : v6.toInt ≤ 32768) :
    iprop((Amb c arg0 arg1 arg2 arg11 q0 q1 q2 Tab Len Pool) ∗ RingAt c arg3 arg12 arg14 f3 (16 * t1.val) (nb v6) t6.val) ⊢ wpb (F := F) c
      (k0_part29 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_148 c1_i32_150 t6)
      (fun r => iprop(⌜r = ⟨k0_pay110 (F := F) v0 v1 v6 c0_i32_148 c1_i32_150 t6 (Len (ix1 t1)), k0_pay111 (F := F) v0 v1 v6 c0_i32_148 c1_i32_150 t6 (Len (ix1 t1)) (fun x : S1x16x128.Idx => Blk c (arg3 := arg3) f3 (16 * t1.val + t6.val) (ix2 (Fin.ofNat 32 (0 + (x 1).val)) (x 2)))⟩⌝ ∗ (Mid c arg0 arg1 arg2 arg3 arg11 arg12 arg14 f3 q0 q1 q2 Tab Len Pool t1 t6.val (16 * t1.val) (nb v6)))) := by
  have h16 := lt16_6 v6 h6 t6
  have hlt := lt6 v6 h6 t6
  rw [k0_part29_eq_skeleton]
  unfold k0_part29_skel
  refine BIBase.Entails.trans (sep_mono_right (ring_open c hlt)) ?_
  unfold Amb
  iintro ⟨⟨H0, H1, H2, H11, HW⟩, HB, HR0, HR1, HF⟩
  iapply (issue_role c (B := 16 * t1.val) (cond11_iff v6 h6 t6) (fun h => k0_off52_eq _ _ h16) (fun h => k0_off53_eq _ _ h16) (fun h => k0_off54_eq _ _ _ (lt13_6 v6 h6 t6 h))) $$ HF
  iintro HR2
  iapply (bind_wpb c)
  iapply (wand_wpb c) $$ [H0 H2 H11]
  · iapply (fetch6 c hT (q0 := q0) (q2 := q2) (Pool := Pool) v0 v1 t1 v4 v6 v24 v179 v189 v200 k0_hw4 k0_h6 k0_h7 c0_i32_148 c1_i32_150 t6 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t6.val := funext fun y => hX y (y 0).isLt
  subst hX'
  icases HW with ⟨%W, HW⟩
  iapply (wait_slot c (arg3 := arg3) (f3 := f3) (Fin.ofNat 4 t6.val) (Fin.ofNat 384 (16 * t1.val + t6.val)) (k0_off58_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t6.val) 0 (by decide) (k0_off62_eq _ _ h16)) $$ HL2
  iintro HL2
  iapply (ret_wpb c)
  isplitr
  · ipureintro
    rw [show (Rect.unit (s := S24) (k0_off61 t1) S1.size (k0_off61_inb t1)).point numel1_S1 = ix1 t1 from point24 _ (k0_off61_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more6 (t1 : Fin k0_t1_loop.trips) (v6 : Elt F .i32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v365 : FVec F S80x64 .bf16) (t6 : Fin (k0_t6_loop v6).trips) (v440 : IVec S16x128 1) (v447 : FVec F S16x128 .f32) (h6 : v6.toInt ≤ 32768) :
    (Mid c arg0 arg1 arg2 arg3 arg11 arg12 arg14 f3 q0 q1 q2 Tab Len Pool t1 t6.val (16 * t1.val) (nb v6)) ⊢ wpb (F := F) c
      (k0_part30 arg0 harg0 arg1 harg1 arg2 harg2 arg3 harg3 arg4 harg4 arg5 harg5 arg6 harg6 arg7 harg7 arg8 harg8 arg9 harg9 arg10 harg10 arg11 harg11 arg12 harg12 arg13 harg13 arg14 t1 v6 v179 v189 v200 k0_hw4 k0_h6 k0_h7 v365 t6 v440 v447)
      (fun r => iprop(⌜r = ⟨k0_pay112 (F := F) (fun x => Gat Tab Pool t1 t6.val ((⟨![0, 0], S128x128.size, ![2, 1], inb_S256x128_S128x128_0_0_s_2_1⟩ : LoadRect S256x128).idx x)), k0_pay113 (F := F) v365 v447 (fun x => Gat Tab Pool t1 t6.val ((⟨![0, 0], S128x128.size, ![2, 1], inb_S256x128_S128x128_0_0_s_2_1⟩ : LoadRect S256x128).idx x)), k0_pay114 v440⟩⌝ ∗ (Mid c arg0 arg1 arg2 arg3 arg11 arg12 arg14 f3 q0 q1 q2 Tab Len Pool t1 t6.val (16 * t1.val) (nb v6)))) := by
  have h16 := lt16_6 v6 h6 t6
  rw [k0_part30_eq_skeleton]
  unfold k0_part30_skel Mid Landed
  iintro ⟨H0, H1, H2, H11, HW, ⟨HL1, HL2, HL3⟩, HR⟩
  iapply (load_slot c (Fin.ofNat 4 t6.val) 16 (by decide) (k0_off63_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 6 makes of its carry: the block's scales `SC`, its page rows `G`, the length `len`. -/
def step6 (v0 : IVec S16x128 32) (v1 : IVec S16x128 32) (v6 : Elt F .i32) (v364 : Vec F S1x80x64 .bf16) (t6 : Fin (k0_t6_loop v6).trips) (G : S256x128.Idx → BitVec 32) (SC : S32x128.Idx → Elt F .f32) (len : BitVec 32) : FVec F S72x128 .f32 → FVec F S72x128 .f32 := fun (arg17) =>
  let v438 := len
  let v442 := (fun x : S1x16x128.Idx => SC (ix2 (Fin.ofNat 32 (0 + (x 1).val)) (x 2)))
  let v440 := k0_pay110 (F := F) v0 v1 v6 0#32 1#32 t6 v438
  let v447 := k0_pay111 (F := F) v0 v1 v6 0#32 1#32 t6 v438 v442
  let v449 := (fun x : S1x16x128.Idx => SC (ix2 (Fin.ofNat 32 (16 + (x 1).val)) (x 2)))
  let v453 := (fun x => G ((⟨![0, 0], S128x128.size, ![2, 1], inb_S256x128_S128x128_0_0_s_2_1⟩ : LoadRect S256x128).idx x))
  let v455 := (fun x => G ((⟨![1, 0], S128x128.size, ![2, 1], inb_S256x128_S128x128_1_0_s_2_1⟩ : LoadRect S256x128).idx x))
  let v454 := k0_pay112 (F := F) v453
  let v492 := k0_pay113 (F := F) (k0_pay257 (F := F) v364) v447 v453
  let v495 := k0_pay114 v440
  let v503 := k0_pay115 (F := F) arg17 v492 v495
  let v546 := k0_pay116 (F := F) (k0_pay257 (F := F) v364) v440 v447 v454
  let v597 := k0_pay117 (F := F) (k0_pay257 (F := F) v364) v440 v447 v454 v503 v546
  let v598 := k0_pay118 v454
  let v646 := iota .tc S8x8x128 32 [1] iota_S8x8x128_d1_w32
  let v644 := k0_pay119 (F := F) (k0_pay257 (F := F) v364) v440 v447 v454 v597 v598
  let v649 := k0_pay120 v454
  let c4_i32_227 := 4#32
  let v691 := k0_pay121 (F := F) (k0_pay257 (F := F) v364) v440 v447 v454 v644 v646 v649 c4_i32_227
  let v696 := k0_pay122 v454
  let v700 := k0_pay123
  let v738 := k0_pay124 (F := F) (k0_pay257 (F := F) v364) v440 v447 v454 v691 v696 v700
  let v751 := k0_pay125 v454
  let v801 := iota .tc S8x8x128 32 [1] iota_S8x8x128_d1_w32
  let v785 := k0_pay126 (F := F) (k0_pay257 (F := F) v364) v440 v447 v454 v738 v751
  let v799 := k0_pay127 (F := F) v454
  let v803 := k0_pay128 v454
  (k0_pay258 (F := F) v364 v440 v447 v785 v799 v801 v803)

set_option backward.isDefEq.respectTransparency.types false in
theorem trip6 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v364 : Vec F S1x80x64 .bf16) (h6 : v6.toInt ≤ 32768) (t6 : Fin (k0_t6_loop v6).trips) (acc : FVec F S72x128 .f32) :
    iprop((Amb c arg0 arg1 arg2 arg11 q0 q1 q2 Tab Len Pool) ∗ RingAt c arg3 arg12 arg14 f3 (16 * t1.val) (nb v6) t6.val) ⊢ wpb (F := F) c
      (k0_t6_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v179 v189 v200 k0_hw4 k0_h6 k0_h7 v364 t6 acc)
      (fun r => iprop(⌜r = step6 v0 v1 v6 v364 t6 (Gat Tab Pool t1 t6.val) (Blk c (arg3 := arg3) f3 (16 * t1.val + t6.val)) (Len (ix1 t1)) acc⌝
        ∗ (Amb c arg0 arg1 arg2 arg11 q0 q1 q2 Tab Len Pool) ∗ RingAt c arg3 arg12 arg14 f3 (16 * t1.val) (nb v6) (t6.val + 1))) := by
  skip
  unfold k0_t6_body
  dsimp only
  refine BIBase.Entails.trans ?_ (bind_wpb c (p := k0_part29 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 0#32 1#32 t6))
  refine BIBase.Entails.trans (open6 c hT _ _ _ _ _ _ _ _ _ _ _ _ _ _ _  h6) (wp_mono _ _ _ fun r => ?_)
  iintro ⟨%hr, H⟩
  subst hr
  iapply (bind_wpb c)
  iapply (wand_wpb c) $$ [H]
  · iapply (more6 c _ _ _ _ _ _ _ _ _ _ _ _  h6) $$ H
  iintro %r ⟨%hr, H⟩
  subst hr
  iapply (show _ ⊢ wpb c (Prog.ret (step6 v0 v1 v6 v364 t6 (Gat Tab Pool t1 t6.val) (Blk c (arg3 := arg3) f3 (16 * t1.val + t6.val)) (Len (ix1 t1)) acc)) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

/-! ## The trips of loop 10 -/

theorem fetch10 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_166 : BitVec 32) (c1_i32_168 : BitVec 32) (t10 : Fin (k0_t10_loop v6).trips) (h6 : v6.toInt ≤ 32768) :
    Fet c arg0 arg2 arg11 q0 q2 Tab Pool t1 t10.val 0 ⊢ wpb (F := F) c
      (Scf.Loop.for k0_t11_loop k0_t11_ok (⟨⟩ : PUnit) (k0_t11_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_166 c1_i32_168 t10))
      (fun _ => Fet c arg0 arg2 arg11 q0 q2 Tab Pool t1 t10.val 128) := by
  refine BIBase.Entails.trans ?_ (Scf.wp_for frame (wpE (defs₀ (F := F)) Variants.none (c : Thread nD τ) none) Set.univ _ _ _ k0_t11_ok (⟨⟩ : PUnit) _
    (fun r _ => Fet c arg0 arg2 arg11 q0 q2 Tab Pool t1 t10.val r) ?_)
  · iintro H
    isplitl [H]
    · iexact H
    iintro %_ H
    iexact H
  · intro r u
    unfold k0_t11_body
    exact fetch_row c hT t1 t10.val r.val (lt16_10 v6 h6 t10) r.isLt (chk := fun v => k0_chk7 v179 v189 v200 v) (dec := fun v => k0_chk7.dec v179 v189 v200 v) (i17 := fun v hv => k0_off89_inb v179 v189 v200 v hv k0_h6 k0_h7)
      (k0_off88_eq _ _ _ _ (lt16_10 v6 h6 t10)) (fun v hp => k0_off89_eq v hp) (fun v hp => chk7_of v179 v189 v200 v hp) (k0_off90_eq _)
      (fun v => shapeCast_self _ _)

set_option backward.isDefEq.respectTransparency.types false in
theorem open10 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_166 : BitVec 32) (c1_i32_168 : BitVec 32) (t10 : Fin (k0_t10_loop v6).trips) (h6 : v6.toInt ≤ 32768) :
    iprop((Amb c arg0 arg1 arg2 arg11 q0 q1 q2 Tab Len Pool) ∗ RingAt c arg3 arg12 arg14 f3 (16 * t1.val) (nb v6) t10.val) ⊢ wpb (F := F) c
      (k0_part45 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_166 c1_i32_168 t10)
      (fun r => iprop(⌜r = ⟨k0_pay150 (F := F) v0 v1 v6 c0_i32_166 c1_i32_168 t10 (Len (ix1 t1)), k0_pay151 (F := F) v0 v1 v6 c0_i32_166 c1_i32_168 t10 (Len (ix1 t1)) (fun x : S1x16x128.Idx => Blk c (arg3 := arg3) f3 (16 * t1.val + t10.val) (ix2 (Fin.ofNat 32 (0 + (x 1).val)) (x 2)))⟩⌝ ∗ (Mid c arg0 arg1 arg2 arg3 arg11 arg12 arg14 f3 q0 q1 q2 Tab Len Pool t1 t10.val (16 * t1.val) (nb v6)))) := by
  have h16 := lt16_10 v6 h6 t10
  have hlt := lt10 v6 h6 t10
  rw [k0_part45_eq_skeleton]
  unfold k0_part45_skel
  refine BIBase.Entails.trans (sep_mono_right (ring_open c hlt)) ?_
  unfold Amb
  iintro ⟨⟨H0, H1, H2, H11, HW⟩, HB, HR0, HR1, HF⟩
  iapply (issue_role c (B := 16 * t1.val) (cond16_iff v6 h6 t10) (fun h => k0_off85_eq _ _ h16) (fun h => k0_off86_eq _ _ h16) (fun h => k0_off87_eq _ _ _ (lt13_10 v6 h6 t10 h))) $$ HF
  iintro HR2
  iapply (bind_wpb c)
  iapply (wand_wpb c) $$ [H0 H2 H11]
  · iapply (fetch10 c hT (q0 := q0) (q2 := q2) (Pool := Pool) v0 v1 t1 v4 v6 v24 v179 v189 v200 k0_hw4 k0_h6 k0_h7 c0_i32_166 c1_i32_168 t10 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t10.val := funext fun y => hX y (y 0).isLt
  subst hX'
  icases HW with ⟨%W, HW⟩
  iapply (wait_slot c (arg3 := arg3) (f3 := f3) (Fin.ofNat 4 t10.val) (Fin.ofNat 384 (16 * t1.val + t10.val)) (k0_off91_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t10.val) 0 (by decide) (k0_off95_eq _ _ h16)) $$ HL2
  iintro HL2
  iapply (ret_wpb c)
  isplitr
  · ipureintro
    rw [show (Rect.unit (s := S24) (k0_off94 t1) S1.size (k0_off94_inb t1)).point numel1_S1 = ix1 t1 from point24 _ (k0_off94_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more10 (t1 : Fin k0_t1_loop.trips) (v6 : Elt F .i32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v391 : FVec F S80x64 .bf16) (t10 : Fin (k0_t10_loop v6).trips) (v440 : IVec S16x128 1) (v447 : FVec F S16x128 .f32) (h6 : v6.toInt ≤ 32768) :
    (Mid c arg0 arg1 arg2 arg3 arg11 arg12 arg14 f3 q0 q1 q2 Tab Len Pool t1 t10.val (16 * t1.val) (nb v6)) ⊢ wpb (F := F) c
      (k0_part46 arg0 harg0 arg1 harg1 arg2 harg2 arg3 harg3 arg4 harg4 arg5 harg5 arg6 harg6 arg7 harg7 arg8 harg8 arg9 harg9 arg10 harg10 arg11 harg11 arg12 harg12 arg13 harg13 arg14 t1 v6 v179 v189 v200 k0_hw4 k0_h6 k0_h7 v391 t10 v440 v447)
      (fun r => iprop(⌜r = ⟨k0_pay152 (F := F) v440 (fun x : S1x16x128.Idx => Blk c (arg3 := arg3) f3 (16 * t1.val + t10.val) (ix2 (Fin.ofNat 32 (16 + (x 1).val)) (x 2))), k0_pay153 (F := F) (fun x => Gat Tab Pool t1 t10.val ((⟨![0, 0], S128x128.size, ![2, 1], inb_S256x128_S128x128_0_0_s_2_1⟩ : LoadRect S256x128).idx x)), k0_pay154 (F := F) (fun x => Gat Tab Pool t1 t10.val ((⟨![1, 0], S128x128.size, ![2, 1], inb_S256x128_S128x128_1_0_s_2_1⟩ : LoadRect S256x128).idx x)), k0_pay155 (F := F) v391 v447 (fun x => Gat Tab Pool t1 t10.val ((⟨![0, 0], S128x128.size, ![2, 1], inb_S256x128_S128x128_0_0_s_2_1⟩ : LoadRect S256x128).idx x)), k0_pay156 v440⟩⌝ ∗ (Mid c arg0 arg1 arg2 arg3 arg11 arg12 arg14 f3 q0 q1 q2 Tab Len Pool t1 t10.val (16 * t1.val) (nb v6)))) := by
  have h16 := lt16_10 v6 h6 t10
  rw [k0_part46_eq_skeleton]
  unfold k0_part46_skel Mid Landed
  iintro ⟨H0, H1, H2, H11, HW, ⟨HL1, HL2, HL3⟩, HR⟩
  iapply (load_slot c (Fin.ofNat 4 t10.val) 16 (by decide) (k0_off96_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 10 makes of its carry: the block's scales `SC`, its page rows `G`, the length `len`. -/
def step10 (v0 : IVec S16x128 32) (v1 : IVec S16x128 32) (v6 : Elt F .i32) (v391 : FVec F S80x64 .bf16) (v392 : FVec F S72x256 .f32) (t10 : Fin (k0_t10_loop v6).trips) (G : S256x128.Idx → BitVec 32) (SC : S32x128.Idx → Elt F .f32) (len : BitVec 32) : FVec F S72x128 .f32 × FVec F S64x72 .f32 → FVec F S72x128 .f32 × FVec F S64x72 .f32 := fun (arg17, arg18) =>
  let v438 := len
  let v442 := (fun x : S1x16x128.Idx => SC (ix2 (Fin.ofNat 32 (0 + (x 1).val)) (x 2)))
  let v440 := k0_pay150 (F := F) v0 v1 v6 0#32 1#32 t10 v438
  let v447 := k0_pay151 (F := F) v0 v1 v6 0#32 1#32 t10 v438 v442
  let v449 := (fun x : S1x16x128.Idx => SC (ix2 (Fin.ofNat 32 (16 + (x 1).val)) (x 2)))
  let v453 := (fun x => G ((⟨![0, 0], S128x128.size, ![2, 1], inb_S256x128_S128x128_0_0_s_2_1⟩ : LoadRect S256x128).idx x))
  let v455 := (fun x => G ((⟨![1, 0], S128x128.size, ![2, 1], inb_S256x128_S128x128_1_0_s_2_1⟩ : LoadRect S256x128).idx x))
  let v452 := k0_pay152 (F := F) v440 v449
  let v454 := k0_pay153 (F := F) v453
  let v456 := k0_pay154 (F := F) v455
  let v492 := k0_pay155 (F := F) v391 v447 v453
  let v495 := k0_pay156 v440
  let v544 := iota .tc S8x8x128 32 [1] iota_S8x8x128_d1_w32
  let v505 := k0_pay158 (F := F) v392 arg17 v492 v495
  let v542 := k0_pay159 (F := F) v392 arg18 v452 v456 v492 v495
  let v547 := k0_pay160 v454
  let v599 := iota .tc S8x8x128 32 [1] iota_S8x8x128_d1_w32
  let v591 := k0_pay162 (F := F) v391 v392 v440 v447 v454 v505 v544 v547
  let v597 := k0_pay163 (F := F) v391 v392 v440 v447 v452 v454 v544 v547
  let v598 := k0_pay164 v456
  let v644 := iota .tc S8x8x128 32 [1] iota_S8x8x128_d1_w32
  let v628 := k0_pay165 (F := F) v456 v542 v597 v598 v599
  let v642 := k0_pay166 (F := F) v454
  let v647 := k0_pay167 v454
  let v648 := k0_pay168
  let v699 := iota .tc S8x8x128 32 [1] iota_S8x8x128_d1_w32
  let v677 := k0_pay170 (F := F) v391 v392 v440 v447 v591 v642 v644 v647 v648
  let v683 := k0_pay171 (F := F) v391 v392 v440 v447 v452 v642 v644 v647 v648
  let v697 := k0_pay172 (F := F) v456
  let v701 := k0_pay173 v456
  let v714 := k0_pay174 (F := F) v628 v683 v697 v699 v701
  let v750 := k0_pay175 (F := F) v391 v447 v454
  let v802 := iota .tc S8x8x128 32 [1] iota_S8x8x128_d1_w32
  let v763 := k0_pay177 (F := F) v392 v440 v677 v750
  let v800 := k0_pay178 (F := F) v392 v440 v452 v456 v714 v750
  let v801 := k0_pay179 v454
  let v849 := k0_pay181 (F := F) v391 v392 v440 v447 v454 v763 v801 v802
  let v854 := k0_pay182 (F := F) v391 v392 v440 v447 v452 v454 v801 v802
  let v902 := iota .tc S8x8x128 32 [1] iota_S8x8x128_d1_w32
  let v886 := k0_pay183 (F := F) v456 v800 v854
  let v900 := k0_pay184 (F := F) v454
  let v904 := k0_pay185 v454
  let v935 := k0_pay187 (F := F) v391 v392 v440 v447 v849 v900 v902 v904
  let v941 := k0_pay188 (F := F) v391 v392 v440 v447 v452 v900 v902 v904
  let v955 := k0_pay189 (F := F) v456
  let v956 := k0_pay190 v456
  let v972 := k0_pay191 (F := F) v886 v941 v955 v956
  let v1003 := k0_pay192 (F := F) v391 v454
  let v1004 := k0_pay193 (F := F) v447
  let v1005 := k0_pay194 (F := F) v447
  let v1021 := k0_pay196 (F := F) v392 v440 v935 v1003 v1004 v1005
  let v1057 := k0_pay197 (F := F) v392 v440 v452 v456 v1003 v1004 v1005
  let v1058 := k0_pay198 (F := F) v972 v1057
  let v1103 := k0_pay199 (F := F) v391 v392 v440 v447 v454
  let v1107 := k0_pay200 (F := F) v391 v392 v440 v447 v454 v1021
  let v1108 := k0_pay201 (F := F) v452
  let v1109 := k0_pay202 (F := F) v452
  (v1107, k0_pay376 (F := F) v456 v1058 v1103 v1108 v1109)

set_option backward.isDefEq.respectTransparency.types false in
theorem trip10 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v49_0 : FVec F S72x128 .f32) (v179 : BitVec 1) (v189 : BitVec 1) (v200 : BitVec 1) (k0_hw4 : k0_chk4 t1 v6 v179 v189 v200) (v202 : BitVec 1) (k0_h6 : k0_cond6 v179 v189 v200 = 1#1) (k0_h7 : k0_cond7 v189 v200 = 1#1) (v391 : FVec F S80x64 .bf16) (v392 : FVec F S72x256 .f32) (h6 : v6.toInt ≤ 32768) (t10 : Fin (k0_t10_loop v6).trips) (acc : FVec F S72x128 .f32 × FVec F S64x72 .f32) :
    iprop((Amb c arg0 arg1 arg2 arg11 q0 q1 q2 Tab Len Pool) ∗ RingAt c arg3 arg12 arg14 f3 (16 * t1.val) (nb v6) t10.val) ⊢ wpb (F := F) c
      (k0_t10_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v49_0 v179 v189 v200 k0_hw4 v202 k0_h6 k0_h7 v391 v392 t10 acc)
      (fun r => iprop(⌜r = step10 v0 v1 v6 v391 v392 t10 (Gat Tab Pool t1 t10.val) (Blk c (arg3 := arg3) f3 (16 * t1.val + t10.val)) (Len (ix1 t1)) acc⌝
        ∗ (Amb c arg0 arg1 arg2 arg11 q0 q1 q2 Tab Len Pool) ∗ RingAt c arg3 arg12 arg14 f3 (16 * t1.val) (nb v6) (t10.val + 1))) := by
  obtain ⟨arg17, arg18⟩ := acc
  unfold k0_t10_body
  dsimp only
  refine BIBase.Entails.trans ?_ (bind_wpb c (p := k0_part45 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 0#32 1#32 t10))
  refine BIBase.Entails.trans (open10 c hT _ _ _ _ _ _ _ _ _ _ _ _ _ _ _  h6) (wp_mono _ _ _ fun r => ?_)
  iintro ⟨%hr, H⟩
  subst hr
  iapply (bind_wpb c)
  iapply (wand_wpb c) $$ [H]
  · iapply (more10 c _ _ _ _ _ _ _ _ _ _ _ _  h6) $$ H
  iintro %r ⟨%hr, H⟩
  subst hr
  iapply (show _ ⊢ wpb c (Prog.ret (step10 v0 v1 v6 v391 v392 t10 (Gat Tab Pool t1 t10.val) (Blk c (arg3 := arg3) f3 (16 * t1.val + t10.val)) (Len (ix1 t1)) (arg17, arg18))) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

/-! ## The trips of loop 14 -/

theorem fetch14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (c0_i32_99 : BitVec 32) (c1_i32_101 : BitVec 32) (t14 : Fin (k0_t14_loop v6).trips) (h6 : v6.toInt ≤ 32768) :
    Fet c arg0 arg2 arg11 q0 q2 Tab Pool t1 t14.val 0 ⊢ wpb (F := F) c
      (Scf.Loop.for k0_t15_loop k0_t15_ok (⟨⟩ : PUnit) (k0_t15_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 c0_i32_99 c1_i32_101 t14))
      (fun _ => Fet c arg0 arg2 arg11 q0 q2 Tab Pool t1 t14.val 128) := by
  refine BIBase.Entails.trans ?_ (Scf.wp_for frame (wpE (defs₀ (F := F)) Variants.none (c : Thread nD τ) none) Set.univ _ _ _ k0_t15_ok (⟨⟩ : PUnit) _
    (fun r _ => Fet c arg0 arg2 arg11 q0 q2 Tab Pool t1 t14.val r) ?_)
  · iintro H
    isplitl [H]
    · iexact H
    iintro %_ H
    iexact H
  · intro r u
    unfold k0_t15_body
    exact fetch_row c hT t1 t14.val r.val (lt16_14 v6 h6 t14) r.isLt (chk := fun v => k0_chk9 v179 v189 v200 v) (dec := fun v => k0_chk9.dec v179 v189 v200 v) (i17 := fun v hv => k0_off124_inb v179 v189 v200 v hv k0_h6)
      (k0_off123_eq _ _ _ _ (lt16_14 v6 h6 t14)) (fun v hp => k0_off124_eq v hp) (fun v hp => chk9_of v179 v189 v200 v hp) (k0_off125_eq _)
      (fun v => shapeCast_self _ _)

set_option backward.isDefEq.respectTransparency.types false in
theorem open14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (c0_i32_99 : BitVec 32) (c1_i32_101 : BitVec 32) (t14 : Fin (k0_t14_loop v6).trips) (h6 : v6.toInt ≤ 32768) :
    iprop((Amb c arg0 arg1 arg2 arg11 q0 q1 q2 Tab Len Pool) ∗ RingAt c arg3 arg12 arg14 f3 (16 * t1.val) (nb v6) t14.val) ⊢ wpb (F := F) c
      (k0_part74 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 c0_i32_99 c1_i32_101 t14)
      (fun r => iprop(⌜r = ⟨k0_pay267 (F := F) v0 v1 v6 c0_i32_99 c1_i32_101 t14 (Len (ix1 t1)), k0_pay268 (F := F) v0 v1 v6 c0_i32_99 c1_i32_101 t14 (Len (ix1 t1)) (fun x : S1x16x128.Idx => Blk c (arg3 := arg3) f3 (16 * t1.val + t14.val) (ix2 (Fin.ofNat 32 (0 + (x 1).val)) (x 2)))⟩⌝ ∗ (Mid c arg0 arg1 arg2 arg3 arg11 arg12 arg14 f3 q0 q1 q2 Tab Len Pool t1 t14.val (16 * t1.val) (nb v6)))) := by
  have h16 := lt16_14 v6 h6 t14
  have hlt := lt14 v6 h6 t14
  rw [k0_part74_eq_skeleton]
  unfold k0_part74_skel
  refine BIBase.Entails.trans (sep_mono_right (ring_open c hlt)) ?_
  unfold Amb
  iintro ⟨⟨H0, H1, H2, H11, HW⟩, HB, HR0, HR1, HF⟩
  iapply (issue_role c (B := 16 * t1.val) (cond21_iff v6 h6 t14) (fun h => k0_off120_eq _ _ h16) (fun h => k0_off121_eq _ _ h16) (fun h => k0_off122_eq _ _ _ (lt13_14 v6 h6 t14 h))) $$ HF
  iintro HR2
  iapply (bind_wpb c)
  iapply (wand_wpb c) $$ [H0 H2 H11]
  · iapply (fetch14 c hT (q0 := q0) (q2 := q2) (Pool := Pool) v0 v1 t1 v4 v6 v24 v179 v189 v200 k0_hw4 k0_h6 c0_i32_99 c1_i32_101 t14 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t14.val := funext fun y => hX y (y 0).isLt
  subst hX'
  icases HW with ⟨%W, HW⟩
  iapply (wait_slot c (arg3 := arg3) (f3 := f3) (Fin.ofNat 4 t14.val) (Fin.ofNat 384 (16 * t1.val + t14.val)) (k0_off126_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t14.val) 0 (by decide) (k0_off130_eq _ _ h16)) $$ HL2
  iintro HL2
  iapply (ret_wpb c)
  isplitr
  · ipureintro
    rw [show (Rect.unit (s := S24) (k0_off129 t1) S1.size (k0_off129_inb t1)).point numel1_S1 = ix1 t1 from point24 _ (k0_off129_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more14 (t1 : Fin k0_t1_loop.trips) (v6 : Elt F .i32) (v179 : BitVec 1) (v189 : BitVec 1) (v200 : BitVec 1) (k0_hw4 : k0_chk4 t1 v6 v179 v189 v200) (k0_h6 : k0_cond6 v179 v189 v200 = 1#1) (v235 : FVec F S80x64 .bf16) (t14 : Fin (k0_t14_loop v6).trips) (v389 : IVec S16x128 1) (v396 : FVec F S16x128 .f32) (h6 : v6.toInt ≤ 32768) :
    (Mid c arg0 arg1 arg2 arg3 arg11 arg12 arg14 f3 q0 q1 q2 Tab Len Pool t1 t14.val (16 * t1.val) (nb v6)) ⊢ wpb (F := F) c
      (k0_part75 arg0 harg0 arg1 harg1 arg2 harg2 arg3 harg3 arg4 harg4 arg5 harg5 arg6 harg6 arg7 harg7 arg8 harg8 arg9 harg9 arg10 harg10 arg11 harg11 arg12 harg12 arg13 harg13 arg14 t1 v6 v179 v189 v200 k0_hw4 k0_h6 v235 t14 v389 v396)
      (fun r => iprop(⌜r = ⟨k0_pay269 (F := F) v389 (fun x : S1x16x128.Idx => Blk c (arg3 := arg3) f3 (16 * t1.val + t14.val) (ix2 (Fin.ofNat 32 (16 + (x 1).val)) (x 2))), k0_pay270 (F := F) (fun x => Gat Tab Pool t1 t14.val ((⟨![0, 0], S128x128.size, ![2, 1], inb_S256x128_S128x128_0_0_s_2_1⟩ : LoadRect S256x128).idx x)), k0_pay271 (F := F) (fun x => Gat Tab Pool t1 t14.val ((⟨![1, 0], S128x128.size, ![2, 1], inb_S256x128_S128x128_1_0_s_2_1⟩ : LoadRect S256x128).idx x)), k0_pay272 (F := F) v235 v396 (fun x => Gat Tab Pool t1 t14.val ((⟨![0, 0], S128x128.size, ![2, 1], inb_S256x128_S128x128_0_0_s_2_1⟩ : LoadRect S256x128).idx x)), k0_pay273 v389⟩⌝ ∗ (Mid c arg0 arg1 arg2 arg3 arg11 arg12 arg14 f3 q0 q1 q2 Tab Len Pool t1 t14.val (16 * t1.val) (nb v6)))) := by
  have h16 := lt16_14 v6 h6 t14
  rw [k0_part75_eq_skeleton]
  unfold k0_part75_skel Mid Landed
  iintro ⟨H0, H1, H2, H11, HW, ⟨HL1, HL2, HL3⟩, HR⟩
  iapply (load_slot c (Fin.ofNat 4 t14.val) 16 (by decide) (k0_off131_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 14 makes of its carry: the block's scales `SC`, its page rows `G`, the length `len`. -/
def step14 (v0 : IVec S16x128 32) (v1 : IVec S16x128 32) (v6 : Elt F .i32) (v235 : FVec F S80x64 .bf16) (v236 : FVec F S72x256 .f32) (t14 : Fin (k0_t14_loop v6).trips) (G : S256x128.Idx → BitVec 32) (SC : S32x128.Idx → Elt F .f32) (len : BitVec 32) : FVec F S72x128 .f32 × FVec F S64x72 .f32 → FVec F S72x128 .f32 × FVec F S64x72 .f32 := fun (arg17, arg18) =>
  let v387 := len
  let v391 := (fun x : S1x16x128.Idx => SC (ix2 (Fin.ofNat 32 (0 + (x 1).val)) (x 2)))
  let v389 := k0_pay267 (F := F) v0 v1 v6 0#32 1#32 t14 v387
  let v396 := k0_pay268 (F := F) v0 v1 v6 0#32 1#32 t14 v387 v391
  let v398 := (fun x : S1x16x128.Idx => SC (ix2 (Fin.ofNat 32 (16 + (x 1).val)) (x 2)))
  let v402 := (fun x => G ((⟨![0, 0], S128x128.size, ![2, 1], inb_S256x128_S128x128_0_0_s_2_1⟩ : LoadRect S256x128).idx x))
  let v404 := (fun x => G ((⟨![1, 0], S128x128.size, ![2, 1], inb_S256x128_S128x128_1_0_s_2_1⟩ : LoadRect S256x128).idx x))
  let v401 := k0_pay269 (F := F) v389 v398
  let v403 := k0_pay270 (F := F) v402
  let v405 := k0_pay271 (F := F) v404
  let v441 := k0_pay272 (F := F) v235 v396 v402
  let v444 := k0_pay273 v389
  let v493 := iota .tc S8x8x128 32 [1] iota_S8x8x128_d1_w32
  let v454 := k0_pay275 (F := F) v236 arg17 v441 v444
  let v491 := k0_pay276 (F := F) v236 arg18 v401 v405 v441 v444
  let v496 := k0_pay277 v403
  let v548 := iota .tc S8x8x128 32 [1] iota_S8x8x128_d1_w32
  let v540 := k0_pay279 (F := F) v235 v236 v389 v396 v403 v454 v493 v496
  let v546 := k0_pay280 (F := F) v235 v236 v389 v396 v401 v403 v493 v496
  let v547 := k0_pay281 v405
  let v593 := iota .tc S8x8x128 32 [1] iota_S8x8x128_d1_w32
  let v577 := k0_pay282 (F := F) v405 v491 v546 v547 v548
  let v591 := k0_pay283 (F := F) v403
  let v596 := k0_pay284 v403
  let v597 := k0_pay285
  let v648 := iota .tc S8x8x128 32 [1] iota_S8x8x128_d1_w32
  let v626 := k0_pay287 (F := F) v235 v236 v389 v396 v540 v591 v593 v596 v597
  let v632 := k0_pay288 (F := F) v235 v236 v389 v396 v401 v591 v593 v596 v597
  let v646 := k0_pay289 (F := F) v405
  let v650 := k0_pay290 v405
  let v663 := k0_pay291 (F := F) v577 v632 v646 v648 v650
  let v699 := k0_pay292 (F := F) v235 v396 v403
  let v751 := iota .tc S8x8x128 32 [1] iota_S8x8x128_d1_w32
  let v712 := k0_pay294 (F := F) v236 v389 v626 v699
  let v749 := k0_pay295 (F := F) v236 v389 v401 v405 v663 v699
  let v750 := k0_pay296 v403
  let v798 := k0_pay298 (F := F) v235 v236 v389 v396 v403 v712 v750 v751
  let v803 := k0_pay299 (F := F) v235 v236 v389 v396 v401 v403 v750 v751
  let v851 := iota .tc S8x8x128 32 [1] iota_S8x8x128_d1_w32
  let v835 := k0_pay300 (F := F) v405 v749 v803
  let v849 := k0_pay301 (F := F) v403
  let v853 := k0_pay302 v403
  let v884 := k0_pay304 (F := F) v235 v236 v389 v396 v798 v849 v851 v853
  let v890 := k0_pay305 (F := F) v235 v236 v389 v396 v401 v849 v851 v853
  let v904 := k0_pay306 (F := F) v405
  let v905 := k0_pay307 v405
  let v921 := k0_pay308 (F := F) v835 v890 v904 v905
  let v952 := k0_pay309 (F := F) v235 v403
  let v953 := k0_pay310 (F := F) v396
  let v954 := k0_pay311 (F := F) v396
  let v970 := k0_pay313 (F := F) v236 v389 v884 v952 v953 v954
  let v1006 := k0_pay314 (F := F) v236 v389 v401 v405 v952 v953 v954
  let v1007 := k0_pay315 (F := F) v921 v1006
  let v1052 := k0_pay316 (F := F) v235 v236 v389 v396 v403
  let v1056 := k0_pay317 (F := F) v235 v236 v389 v396 v403 v970
  let v1057 := k0_pay318 (F := F) v401
  let v1058 := k0_pay319 (F := F) v401
  (v1056, k0_pay384 (F := F) v405 v1007 v1052 v1057 v1058)

set_option backward.isDefEq.respectTransparency.types false in
theorem trip14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (h6 : v6.toInt ≤ 32768) (t14 : Fin (k0_t14_loop v6).trips) (acc : FVec F S72x128 .f32 × FVec F S64x72 .f32) :
    iprop((Amb c arg0 arg1 arg2 arg11 q0 q1 q2 Tab Len Pool) ∗ RingAt c arg3 arg12 arg14 f3 (16 * t1.val) (nb v6) t14.val) ⊢ wpb (F := F) c
      (k0_t14_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 v232 v235 v236 v237 v238 t14 acc)
      (fun r => iprop(⌜r = step14 v0 v1 v6 v235 v236 t14 (Gat Tab Pool t1 t14.val) (Blk c (arg3 := arg3) f3 (16 * t1.val + t14.val)) (Len (ix1 t1)) acc⌝
        ∗ (Amb c arg0 arg1 arg2 arg11 q0 q1 q2 Tab Len Pool) ∗ RingAt c arg3 arg12 arg14 f3 (16 * t1.val) (nb v6) (t14.val + 1))) := by
  obtain ⟨arg17, arg18⟩ := acc
  unfold k0_t14_body
  dsimp only
  refine BIBase.Entails.trans ?_ (bind_wpb c (p := k0_part74 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 0#32 1#32 t14))
  refine BIBase.Entails.trans (open14 c hT _ _ _ _ _ _ _ _ _ _ _ _ _ _  h6) (wp_mono _ _ _ fun r => ?_)
  iintro ⟨%hr, H⟩
  subst hr
  iapply (bind_wpb c)
  iapply (wand_wpb c) $$ [H]
  · iapply (more14 c _ _ _ _ _ _ _ _ _ _ _  h6) $$ H
  iintro %r ⟨%hr, H⟩
  subst hr
  iapply (show _ ⊢ wpb c (Prog.ret (step14 v0 v1 v6 v235 v236 t14 (Gat Tab Pool t1 t14.val) (Blk c (arg3 := arg3) f3 (16 * t1.val + t14.val)) (Len (ix1 t1)) (arg17, arg18))) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

end Cert.Kernel.Hand
-- ==== Proof.Bits.Passes.lean ====
/-
  One sequence of the grid's loop: the passes over its blocks and the slabs it stores.
-/
module

public import proofs.«01_k».proof.Proof.Bits.Trips

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 q4 q5 q6 q7 : PosShare TreeShare}
  {Tab : S24x2048.Idx → BitVec 32} {Len : S24.Idx → BitVec 32} {Pool : S122880x128.Idx → BitVec 32}
  {Qv : S24x80x64.Idx → Elt F .bf16} {Mv : S24x72x128.Idx → Elt F .f32} {Cv : S24x64.Idx → Elt F .f32} {Sv : S24x128.Idx → Elt F .f32}

theorem ring_begin : RingIdle c arg3 arg12 arg14 f3 ⊢ iprop(Free c arg3 arg12 arg14 f3 (Fin.ofNat 4 (0 + 0)) ∗ Free c arg3 arg12 arg14 f3 (Fin.ofNat 4 (0 + 1)) ∗ Free c arg3 arg12 arg14 f3 (Fin.ofNat 4 (0 + 2)) ∗ Free c arg3 arg12 arg14 f3 (Fin.ofNat 4 (0 + 3))) := .rfl

/-- `n` steps of a carry. -/
def accRun {α : Type} (n : ℕ) (f : Fin n → α → α) (a : α) : ℕ → α
  | 0 => a
  | k + 1 => if h : k < n then f ⟨k, h⟩ (accRun n f a k) else accRun n f a k

theorem accRun_succ {α : Type} (n : ℕ) (f : Fin n → α → α) (a : α) (k : Fin n) : accRun n f a (k.val + 1) = f k (accRun n f a k.val) := by
  rw [accRun, dif_pos k.isLt]

/-! ## The passes over the blocks -/

/-- The carry of loop 2 after all its trips. -/
def run2 (v0 : IVec S16x128 32) (v1 : IVec S16x128 32) (v6 : Elt F .i32) (v30 : FVec F S80x64 .bf16) (v31 : FVec F S72x256 .f32) (G : ℕ → S256x128.Idx → BitVec 32) (SC : ℕ → S32x128.Idx → Elt F .f32) (len : BitVec 32) (a0 : FVec F S72x128 .f32 × FVec F S64x72 .f32) : FVec F S72x128 .f32 × FVec F S64x72 .f32 :=
  accRun (k0_t2_loop v6).trips (fun k a => step2 v0 v1 v6 v30 v31 k (G k.val) (SC k.val) len a) a0 (nb v6)

theorem loop2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (v27 : FVec F S72x128 .f32) (v30 : FVec F S80x64 .bf16) (v31 : FVec F S72x256 .f32) (v32 : FVec F S72x128 .f32) (v33 : FVec F S64x72 .f32) (v39 : BitVec 1) (h6 : v6.toInt ≤ 32768) (ok : (k0_t2_loop v6).OK) (a0 : FVec F S72x128 .f32 × FVec F S64x72 .f32) :
    iprop(Amb c arg0 arg1 arg2 arg11 q0 q1 q2 Tab Len Pool ∗ RingAt c arg3 arg12 arg14 f3 (16 * t1.val) (nb v6) 0) ⊢ wpb (F := F) c
      (Scf.Loop.for (k0_t2_loop v6) ok a0 (k0_t2_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 v27 v30 v31 v32 v33 v39))
      (fun r => iprop(⌜r = run2 v0 v1 v6 v30 v31 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t2_loop v6).trips (fun k a => step2 v0 v1 v6 v30 v31 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t2_loop v6).lb (k0_t2_loop v6).ub (k0_t2_loop v6).st = nb v6 := trips2 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip2 c hT v0 v1 t1 v4 v6 k0_hw1 v24 v27 v30 v31 v32 v33 v39 h6 k acc) $$ H
    iintro %r ⟨%hr, H⟩
    isplitr
    · ipureintro
      rw [hr, hacc]
      exact (accRun_succ _ _ _ k).symm
    iexact H

theorem rest4 (v0 : IVec S16x128 32) (v1 : IVec S16x128 32) (t1 : Fin k0_t1_loop.trips) (v4 : BitVec 32) (v6 : Elt F .i32) (k0_hw1 : k0_chk1 t1 v6) (v24 : BitVec 32) (v27 : FVec F S72x128 .f32) (v30 : FVec F S80x64 .bf16) (v31 : FVec F S72x256 .f32) (v32 : FVec F S72x128 .f32) (v33 : FVec F S64x72 .f32) (v39 : BitVec 1) (v47 : BitVec 32) (ok : (k0_t4_loop v6).OK) (a0 : FVec F S72x128 .f32 × FVec F S64x72 .f32) {P : FVec F S72x128 .f32 × FVec F S64x72 .f32 → sProp 𝕄} :
    P a0 ⊢ wpb (F := F) c (Scf.Loop.for (k0_t4_loop v6) ok a0 (k0_t4_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 v27 v30 v31 v32 v33 v39 v47)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips4 v6) k).elim

/-- The carry of loop 6 after all its trips. -/
def run6 (v0 : IVec S16x128 32) (v1 : IVec S16x128 32) (v6 : Elt F .i32) (v364 : Vec F S1x80x64 .bf16) (G : ℕ → S256x128.Idx → BitVec 32) (SC : ℕ → S32x128.Idx → Elt F .f32) (len : BitVec 32) (a0 : FVec F S72x128 .f32) : FVec F S72x128 .f32 :=
  accRun (k0_t6_loop v6).trips (fun k a => step6 v0 v1 v6 v364 k (G k.val) (SC k.val) len a) a0 (nb v6)

theorem loop6 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v364 : Vec F S1x80x64 .bf16) (h6 : v6.toInt ≤ 32768) (ok : (k0_t6_loop v6).OK) (a0 : FVec F S72x128 .f32) :
    iprop(Amb c arg0 arg1 arg2 arg11 q0 q1 q2 Tab Len Pool ∗ RingAt c arg3 arg12 arg14 f3 (16 * t1.val) (nb v6) 0) ⊢ wpb (F := F) c
      (Scf.Loop.for (k0_t6_loop v6) ok a0 (k0_t6_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v179 v189 v200 k0_hw4 k0_h6 k0_h7 v364))
      (fun r => iprop(⌜r = run6 v0 v1 v6 v364 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t6_loop v6).trips (fun k a => step6 v0 v1 v6 v364 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t6_loop v6).lb (k0_t6_loop v6).ub (k0_t6_loop v6).st = nb v6 := trips6 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip6 c hT v0 v1 t1 v4 v6 v24 v27 v179 v189 v200 k0_hw4 k0_h6 k0_h7 v364 h6 k acc) $$ H
    iintro %r ⟨%hr, H⟩
    isplitr
    · ipureintro
      rw [hr, hacc]
      exact (accRun_succ _ _ _ k).symm
    iexact H

theorem rest8 (v0 : IVec S16x128 32) (v1 : IVec S16x128 32) (t1 : Fin k0_t1_loop.trips) (v4 : BitVec 32) (v6 : Elt F .i32) (v24 : BitVec 32) (v27 : FVec F S72x128 .f32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v364 : Vec F S1x80x64 .bf16) (v379 : BitVec 32) (ok : (k0_t8_loop v6).OK) (a0 : FVec F S72x128 .f32) {P : FVec F S72x128 .f32 → sProp 𝕄} :
    P a0 ⊢ wpb (F := F) c (Scf.Loop.for (k0_t8_loop v6) ok a0 (k0_t8_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v179 v189 v200 k0_hw4 k0_h6 k0_h7 v364 v379)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips8 v6) k).elim

/-- The carry of loop 10 after all its trips. -/
def run10 (v0 : IVec S16x128 32) (v1 : IVec S16x128 32) (v6 : Elt F .i32) (v391 : FVec F S80x64 .bf16) (v392 : FVec F S72x256 .f32) (G : ℕ → S256x128.Idx → BitVec 32) (SC : ℕ → S32x128.Idx → Elt F .f32) (len : BitVec 32) (a0 : FVec F S72x128 .f32 × FVec F S64x72 .f32) : FVec F S72x128 .f32 × FVec F S64x72 .f32 :=
  accRun (k0_t10_loop v6).trips (fun k a => step10 v0 v1 v6 v391 v392 k (G k.val) (SC k.val) len a) a0 (nb v6)

theorem loop10 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v49_0 : FVec F S72x128 .f32) (v179 : BitVec 1) (v189 : BitVec 1) (v200 : BitVec 1) (k0_hw4 : k0_chk4 t1 v6 v179 v189 v200) (v202 : BitVec 1) (k0_h6 : k0_cond6 v179 v189 v200 = 1#1) (k0_h7 : k0_cond7 v189 v200 = 1#1) (v391 : FVec F S80x64 .bf16) (v392 : FVec F S72x256 .f32) (h6 : v6.toInt ≤ 32768) (ok : (k0_t10_loop v6).OK) (a0 : FVec F S72x128 .f32 × FVec F S64x72 .f32) :
    iprop(Amb c arg0 arg1 arg2 arg11 q0 q1 q2 Tab Len Pool ∗ RingAt c arg3 arg12 arg14 f3 (16 * t1.val) (nb v6) 0) ⊢ wpb (F := F) c
      (Scf.Loop.for (k0_t10_loop v6) ok a0 (k0_t10_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v49_0 v179 v189 v200 k0_hw4 v202 k0_h6 k0_h7 v391 v392))
      (fun r => iprop(⌜r = run10 v0 v1 v6 v391 v392 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t10_loop v6).trips (fun k a => step10 v0 v1 v6 v391 v392 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t10_loop v6).lb (k0_t10_loop v6).ub (k0_t10_loop v6).st = nb v6 := trips10 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip10 c hT v0 v1 t1 v4 v6 v24 v27 v49_0 v179 v189 v200 k0_hw4 v202 k0_h6 k0_h7 v391 v392 h6 k acc) $$ H
    iintro %r ⟨%hr, H⟩
    isplitr
    · ipureintro
      rw [hr, hacc]
      exact (accRun_succ _ _ _ k).symm
    iexact H

theorem rest12 (v0 : IVec S16x128 32) (v1 : IVec S16x128 32) (t1 : Fin k0_t1_loop.trips) (v4 : BitVec 32) (v6 : Elt F .i32) (v24 : BitVec 32) (v27 : FVec F S72x128 .f32) (v49_0 : FVec F S72x128 .f32) (v179 : BitVec 1) (v189 : BitVec 1) (v200 : BitVec 1) (k0_hw4 : k0_chk4 t1 v6 v179 v189 v200) (v202 : BitVec 1) (k0_h6 : k0_cond6 v179 v189 v200 = 1#1) (k0_h7 : k0_cond7 v189 v200 = 1#1) (v391 : FVec F S80x64 .bf16) (v392 : FVec F S72x256 .f32) (v408 : BitVec 32) (ok : (k0_t12_loop v6).OK) (a0 : FVec F S72x128 .f32 × FVec F S64x72 .f32) {P : FVec F S72x128 .f32 × FVec F S64x72 .f32 → sProp 𝕄} :
    P a0 ⊢ wpb (F := F) c (Scf.Loop.for (k0_t12_loop v6) ok a0 (k0_t12_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v49_0 v179 v189 v200 k0_hw4 v202 k0_h6 k0_h7 v391 v392 v408)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips12 v6) k).elim

/-- The carry of loop 14 after all its trips. -/
def run14 (v0 : IVec S16x128 32) (v1 : IVec S16x128 32) (v6 : Elt F .i32) (v235 : FVec F S80x64 .bf16) (v236 : FVec F S72x256 .f32) (G : ℕ → S256x128.Idx → BitVec 32) (SC : ℕ → S32x128.Idx → Elt F .f32) (len : BitVec 32) (a0 : FVec F S72x128 .f32 × FVec F S64x72 .f32) : FVec F S72x128 .f32 × FVec F S64x72 .f32 :=
  accRun (k0_t14_loop v6).trips (fun k a => step14 v0 v1 v6 v235 v236 k (G k.val) (SC k.val) len a) a0 (nb v6)

theorem loop14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (h6 : v6.toInt ≤ 32768) (ok : (k0_t14_loop v6).OK) (a0 : FVec F S72x128 .f32 × FVec F S64x72 .f32) :
    iprop(Amb c arg0 arg1 arg2 arg11 q0 q1 q2 Tab Len Pool ∗ RingAt c arg3 arg12 arg14 f3 (16 * t1.val) (nb v6) 0) ⊢ wpb (F := F) c
      (Scf.Loop.for (k0_t14_loop v6) ok a0 (k0_t14_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 v232 v235 v236 v237 v238))
      (fun r => iprop(⌜r = run14 v0 v1 v6 v235 v236 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t14_loop v6).trips (fun k a => step14 v0 v1 v6 v235 v236 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t14_loop v6).lb (k0_t14_loop v6).ub (k0_t14_loop v6).st = nb v6 := trips14 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip14 c hT v0 v1 t1 v4 v6 v24 v179 v189 v200 k0_hw4 k0_h6 v232 v235 v236 v237 v238 h6 k acc) $$ H
    iintro %r ⟨%hr, H⟩
    isplitr
    · ipureintro
      rw [hr, hacc]
      exact (accRun_succ _ _ _ k).symm
    iexact H

theorem rest16 (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (v252 : BitVec 32) (ok : (k0_t16_loop v6).OK) (a0 : FVec F S72x128 .f32 × FVec F S64x72 .f32) {P : FVec F S72x128 .f32 × FVec F S64x72 .f32 → sProp 𝕄} :
    P a0 ⊢ wpb (F := F) c (Scf.Loop.for (k0_t16_loop v6) ok a0 (k0_t16_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 v232 v235 v236 v237 v238 v252)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips16 v6) k).elim

/-! ## The slabs of the operands -/

/-- Sequence `s`'s slab of a value. -/
def Sl3 {α : Type} {n a b : ℕ} (X : (⟨3, ![n, a, b]⟩ : Shape).Idx → α) (s : Fin n) : (⟨3, ![1, a, b]⟩ : Shape).Idx → α := fun x => X (ix3 s (x 1) (x 2))
/-- The first `b` of sequence `s`'s row. -/
def Sl2 {α : Type} {n m : ℕ} (b : ℕ) (h : b ≤ m) (X : (⟨2, ![n, m]⟩ : Shape).Idx → α) (s : Fin n) : (⟨2, ![1, b]⟩ : Shape).Idx → α :=
  fun x => X (ix2 s ⟨(x 1).val, lt_of_lt_of_le (x 1).isLt h⟩)

theorem sl3_eq {α : Type} {n a b : ℕ} (X : (⟨3, ![n, a, b]⟩ : Shape).Idx → α) (s : Fin n) {o : Fin 3 → ℕ} (ho : o = ![s.val, 0, 0]) {i} :
    (fun x => X ((Rect.unit (s := (⟨3, ![n, a, b]⟩ : Shape)) o ![1, a, b] i).toLoadRect.idx x)) = Sl3 X s := by
  subst ho
  funext x
  refine congrArg X ?_
  have h0 : (x 0).val < 1 := (x 0).isLt
  funext d
  apply Fin.ext
  fin_cases d
  · show s.val + 1 * (x 0).val = s.val; omega
  · show 0 + 1 * (x 1).val = (x 1).val; omega
  · show 0 + 1 * (x 2).val = (x 2).val; omega

theorem sl2_eq {α : Type} {n m b : ℕ} (h : b ≤ m) (X : (⟨2, ![n, m]⟩ : Shape).Idx → α) (s : Fin n) {o : Fin 2 → ℕ} (ho : o = ![s.val, 0]) {i} :
    (fun x => X ((Rect.unit (s := (⟨2, ![n, m]⟩ : Shape)) o ![1, b] i).toLoadRect.idx x)) = Sl2 b h X s := by
  subst ho
  funext x
  refine congrArg X ?_
  have h0 : (x 0).val < 1 := (x 0).isLt
  funext d
  apply Fin.ext
  fin_cases d
  · show s.val + 1 * (x 0).val = s.val; omega
  · show 0 + 1 * (x 1).val = (x 1).val; omega

theorem overlay3 {α : Type} {n a b : ℕ} (X : (⟨3, ![n, a, b]⟩ : Shape).Idx → α) (s : Fin n) {o : Fin 3 → ℕ} (ho : o = ![s.val, 0, 0]) {i}
    (w : (⟨3, ![1, a, b]⟩ : Shape).Idx → α) :
    Sl3 ((Rect.unit (s := (⟨3, ![n, a, b]⟩ : Shape)) o ![1, a, b] i).overlay X w) s = w
      ∧ ∀ t ≠ s, Sl3 ((Rect.unit (s := (⟨3, ![n, a, b]⟩ : Shape)) o ![1, a, b] i).overlay X w) t = Sl3 X t := by
  subst ho
  constructor
  · funext x
    have h0 : (x 0).val < 1 := (x 0).isLt
    have he : ix3 s (x 1) (x 2) = (Rect.unit (s := (⟨3, ![n, a, b]⟩ : Shape)) ![s.val, 0, 0] ![1, a, b] i).emb x := by
      funext d
      apply Fin.ext
      fin_cases d
      · show s.val = s.val + 1 * (x 0).val; omega
      · show (x 1).val = 0 + 1 * (x 1).val; omega
      · show (x 2).val = 0 + 1 * (x 2).val; omega
    show Rect.overlay _ _ _ (ix3 s (x 1) (x 2)) = _
    rw [he]
    exact Rect.overlay_emb (Rect.unit (s := (⟨3, ![n, a, b]⟩ : Shape)) ![s.val, 0, 0] ![1, a, b] i) X w x
  · intro t ht
    funext x
    refine Rect.overlay_of_not_mem _ _ _ fun hm => ht ?_
    have h0 : s.val ≤ t.val ∧ t.val < s.val + 1 := Rect.mem_set_unit.1 hm 0
    exact Fin.ext (by omega)

theorem overlay2 {α : Type} {n b : ℕ} (X : (⟨2, ![n, b]⟩ : Shape).Idx → α) (s : Fin n) {o : Fin 2 → ℕ} (ho : o = ![s.val, 0]) {i}
    (w : (⟨2, ![1, b]⟩ : Shape).Idx → α) :
    Sl2 b le_rfl ((Rect.unit (s := (⟨2, ![n, b]⟩ : Shape)) o ![1, b] i).overlay X w) s = w
      ∧ ∀ t ≠ s, Sl2 b le_rfl ((Rect.unit (s := (⟨2, ![n, b]⟩ : Shape)) o ![1, b] i).overlay X w) t = Sl2 b le_rfl X t := by
  subst ho
  constructor
  · funext x
    have h0 : (x 0).val < 1 := (x 0).isLt
    have he : ix2 s (x 1) = (Rect.unit (s := (⟨2, ![n, b]⟩ : Shape)) ![s.val, 0] ![1, b] i).emb x := by
      funext d
      apply Fin.ext
      fin_cases d
      · show s.val = s.val + 1 * (x 0).val; omega
      · show (x 1).val = 0 + 1 * (x 1).val; omega
    show Rect.overlay _ _ _ (ix2 s (x 1)) = _
    rw [he]
    exact Rect.overlay_emb (Rect.unit (s := (⟨2, ![n, b]⟩ : Shape)) ![s.val, 0] ![1, b] i) X w x
  · intro t ht
    funext x
    refine Rect.overlay_of_not_mem _ _ _ fun hm => ht ?_
    have h0 : s.val ≤ t.val ∧ t.val < s.val + 1 := Rect.mem_set_unit.1 hm 0
    exact Fin.ext (by omega)

section Mem

variable {cs : CoreSpace} {e : EltTy}

theorem load_sl3 {n a b : ℕ} {m : Memref sig .tc cs (⟨3, ![n, a, b]⟩ : Shape) e} {q : PosShare TreeShare} {X : (⟨3, ![n, a, b]⟩ : Shape).Idx → Elt F e}
    (s : Fin n) {o : Fin 3 → ℕ} (ho : o = ![s.val, 0, 0]) {i hl} {k : ((⟨3, ![1, a, b]⟩ : Shape).Idx → Elt F e) → Prog (TpuEff nD τ sig (Elt F) Λ₀ .tc) α} :
    (owns (c : Thread nD τ) m q X : sProp 𝕄) ⊢ iprop((owns (c : Thread nD τ) m q X -∗ wpb c (k (Sl3 X s)) Q)
      -∗ wpb c (.op (.load m (Rect.unit (s := (⟨3, ![n, a, b]⟩ : Shape)) o ![1, a, b] i).toLoadRect hl) k) Q) := by
  rw [← sl3_eq X s ho (i := i)]
  exact load_owns c (m := m) (r := (Rect.unit (s := (⟨3, ![n, a, b]⟩ : Shape)) o ![1, a, b] i).toLoadRect) (hl := hl) (k := k)

theorem load_sl2 {n w b : ℕ} (h : b ≤ w) {m : Memref sig .tc cs (⟨2, ![n, w]⟩ : Shape) e} {q : PosShare TreeShare} {X : (⟨2, ![n, w]⟩ : Shape).Idx → Elt F e}
    (s : Fin n) {o : Fin 2 → ℕ} (ho : o = ![s.val, 0]) {i hl} {k : ((⟨2, ![1, b]⟩ : Shape).Idx → Elt F e) → Prog (TpuEff nD τ sig (Elt F) Λ₀ .tc) α} :
    (owns (c : Thread nD τ) m q X : sProp 𝕄) ⊢ iprop((owns (c : Thread nD τ) m q X -∗ wpb c (k (Sl2 b h X s)) Q)
      -∗ wpb c (.op (.load m (Rect.unit (s := (⟨2, ![n, w]⟩ : Shape)) o ![1, b] i).toLoadRect hl) k) Q) := by
  rw [← sl2_eq h X s ho (i := i)]
  exact load_owns c (m := m) (r := (Rect.unit (s := (⟨2, ![n, w]⟩ : Shape)) o ![1, b] i).toLoadRect) (hl := hl) (k := k)

/-- A buffer of slabs: the slab of `s` is `w`, the others are those of `X`. -/
def Slab3 {n a b : ℕ} (m : Memref sig .tc cs (⟨3, ![n, a, b]⟩ : Shape) e) (X : (⟨3, ![n, a, b]⟩ : Shape).Idx → Elt F e) (s : Fin n)
    (w : (⟨3, ![1, a, b]⟩ : Shape).Idx → Elt F e) : sProp 𝕄 :=
  iprop(∃ Y : (⟨3, ![n, a, b]⟩ : Shape).Idx → Elt F e, owns (c : Thread nD τ) m fullShare Y ∗ ⌜Sl3 Y s = w ∧ ∀ t ≠ s, Sl3 Y t = Sl3 X t⌝)
/-- A buffer of rows: the row of `s` is `w`, the others are those of `X`. -/
def Slab2 {n b : ℕ} (m : Memref sig .tc cs (⟨2, ![n, b]⟩ : Shape) e) (X : (⟨2, ![n, b]⟩ : Shape).Idx → Elt F e) (s : Fin n)
    (w : (⟨2, ![1, b]⟩ : Shape).Idx → Elt F e) : sProp 𝕄 :=
  iprop(∃ Y : (⟨2, ![n, b]⟩ : Shape).Idx → Elt F e, owns (c : Thread nD τ) m fullShare Y ∗ ⌜Sl2 b le_rfl Y s = w ∧ ∀ t ≠ s, Sl2 b le_rfl Y t = Sl2 b le_rfl X t⌝)

theorem slab3_any {n a b : ℕ} {m : Memref sig .tc cs (⟨3, ![n, a, b]⟩ : Shape) e} {X : (⟨3, ![n, a, b]⟩ : Shape).Idx → Elt F e} (s : Fin n) :
    owns (c : Thread nD τ) m fullShare X ⊢ Slab3 c m X s (Sl3 X s) := by
  unfold Slab3
  iintro H
  iexists X
  isplitl [H]; · iexact H
  ipureintro; exact ⟨rfl, fun _ _ => rfl⟩
theorem slab2_any {n b : ℕ} {m : Memref sig .tc cs (⟨2, ![n, b]⟩ : Shape) e} {X : (⟨2, ![n, b]⟩ : Shape).Idx → Elt F e} (s : Fin n) :
    owns (c : Thread nD τ) m fullShare X ⊢ Slab2 c m X s (Sl2 b le_rfl X s) := by
  unfold Slab2
  iintro H
  iexists X
  isplitl [H]; · iexact H
  ipureintro; exact ⟨rfl, fun _ _ => rfl⟩

/-- The slab is read, and what is read forgotten, then written. -/
theorem put_sl3 {n a b : ℕ} {m : Memref sig .tc cs (⟨3, ![n, a, b]⟩ : Shape) e} {X : (⟨3, ![n, a, b]⟩ : Shape).Idx → Elt F e} {w0 : (⟨3, ![1, a, b]⟩ : Shape).Idx → Elt F e}
    (s : Fin n) {o : Fin 3 → ℕ} (ho : o = ![s.val, 0, 0]) {i hl hx hm} {w : (⟨3, ![1, a, b]⟩ : Shape).Idx → Elt F e} {k : Prog (TpuEff nD τ sig (Elt F) Λ₀ .tc) α} :
    Slab3 c m X s w0 ⊢ iprop((Slab3 c m X s w -∗ wpb c k Q)
      -∗ wpb c (.op (.load m (Rect.unit (s := (⟨3, ![n, a, b]⟩ : Shape)) o ![1, a, b] i).toLoadRect hl)
        fun _ => .op (.store m (Rect.unit (s := (⟨3, ![n, a, b]⟩ : Shape)) o ![1, a, b] i) w Finset.univ hx hm) fun _ => k) Q) := by
  unfold Slab3
  iintro ⟨%Y, H, %hY⟩ Hk
  iapply (load_owns c) $$ H
  iintro H
  iapply (store_owns c) $$ H
  iintro H
  iapply Hk
  iexists _
  isplitl [H]; · iexact H
  ipureintro
  have h := overlay3 Y s ho (i := i) w
  exact ⟨h.1, fun t ht => (h.2 t ht).trans (hY.2 t ht)⟩
theorem put_sl2 {n b : ℕ} {m : Memref sig .tc cs (⟨2, ![n, b]⟩ : Shape) e} {X : (⟨2, ![n, b]⟩ : Shape).Idx → Elt F e} {w0 : (⟨2, ![1, b]⟩ : Shape).Idx → Elt F e}
    (s : Fin n) {o : Fin 2 → ℕ} (ho : o = ![s.val, 0]) {i hl hx hm} {w : (⟨2, ![1, b]⟩ : Shape).Idx → Elt F e} {k : Prog (TpuEff nD τ sig (Elt F) Λ₀ .tc) α} :
    Slab2 c m X s w0 ⊢ iprop((Slab2 c m X s w -∗ wpb c k Q)
      -∗ wpb c (.op (.load m (Rect.unit (s := (⟨2, ![n, b]⟩ : Shape)) o ![1, b] i).toLoadRect hl)
        fun _ => .op (.store m (Rect.unit (s := (⟨2, ![n, b]⟩ : Shape)) o ![1, b] i) w Finset.univ hx hm) fun _ => k) Q) := by
  unfold Slab2
  iintro ⟨%Y, H, %hY⟩ Hk
  iapply (load_owns c) $$ H
  iintro H
  iapply (store_owns c) $$ H
  iintro H
  iapply Hk
  iexists _
  isplitl [H]; · iexact H
  ipureintro
  have h := overlay2 Y s ho (i := i) w
  exact ⟨h.1, fun t ht => (h.2 t ht).trans (hY.2 t ht)⟩

end Mem

/-! ## The stored maximum and sum -/

section Ml

/-- The buffer of the maximum and the sum, at the two. -/
def Ml (arg13 : Memref sig .tc .vmem S2x72x128 .f32) (a b : S1x72x128.Idx → Elt F .f32) : sProp 𝕄 :=
  iprop(∃ Y : S2x72x128.Idx → Elt F .f32, owns (c : Thread nD τ) arg13 fullShare (e := .f32) Y ∗ ⌜Sl3 Y (0 : Fin 2) = a ∧ Sl3 Y (1 : Fin 2) = b⌝)

theorem ml_load0 {a b : S1x72x128.Idx → Elt F .f32} {i hl} {k : (S1x72x128.Idx → Elt F .f32) → Prog (TpuEff nD τ sig (Elt F) Λ₀ .tc) α} :
    Ml c arg13 a b ⊢ iprop((Ml c arg13 a b -∗ wpb c (k a) Q)
      -∗ wpb c (.op (.load arg13 (Rect.unit (s := S2x72x128) ![0, 0, 0] S1x72x128.size i).toLoadRect hl) k) Q) := by
  unfold Ml
  iintro ⟨%Y, H, %hY⟩ Hk
  iapply (load_sl3 c (n := 2) (a := 72) (b := 128) (0 : Fin 2) rfl) $$ H
  iintro H
  rw [hY.1]
  iapply Hk
  iexists Y
  isplitl [H]; · iexact H
  ipureintro; exact hY
theorem ml_load1 {a b : S1x72x128.Idx → Elt F .f32} {i hl} {k : (S1x72x128.Idx → Elt F .f32) → Prog (TpuEff nD τ sig (Elt F) Λ₀ .tc) α} :
    Ml c arg13 a b ⊢ iprop((Ml c arg13 a b -∗ wpb c (k b) Q)
      -∗ wpb c (.op (.load arg13 (Rect.unit (s := S2x72x128) ![1, 0, 0] S1x72x128.size i).toLoadRect hl) k) Q) := by
  unfold Ml
  iintro ⟨%Y, H, %hY⟩ Hk
  iapply (load_sl3 c (n := 2) (a := 72) (b := 128) (1 : Fin 2) rfl) $$ H
  iintro H
  rw [hY.2]
  iapply Hk
  iexists Y
  isplitl [H]; · iexact H
  ipureintro; exact hY
theorem ml_store0 {a b w : S1x72x128.Idx → Elt F .f32} {i hx hm} {k : PUnit → Prog (TpuEff nD τ sig (Elt F) Λ₀ .tc) α} :
    Ml c arg13 a b ⊢ iprop((Ml c arg13 w b -∗ wpb c (k ⟨⟩) Q)
      -∗ wpb c (.op (.store arg13 (Rect.unit (s := S2x72x128) ![0, 0, 0] S1x72x128.size i) w Finset.univ hx hm) k) Q) := by
  unfold Ml
  iintro ⟨%Y, H, %hY⟩ Hk
  iapply (store_owns c) $$ H
  iintro H
  iapply Hk
  iexists _
  isplitl [H]; · iexact H
  ipureintro
  have h := overlay3 (n := 2) (a := 72) (b := 128) Y (0 : Fin 2) rfl (i := i) w
  exact ⟨h.1, (h.2 1 (by decide)).trans hY.2⟩
theorem ml_store1 {a b w : S1x72x128.Idx → Elt F .f32} {i hx hm} {k : PUnit → Prog (TpuEff nD τ sig (Elt F) Λ₀ .tc) α} :
    Ml c arg13 a b ⊢ iprop((Ml c arg13 a w -∗ wpb c (k ⟨⟩) Q)
      -∗ wpb c (.op (.store arg13 (Rect.unit (s := S2x72x128) ![1, 0, 0] S1x72x128.size i) w Finset.univ hx hm) k) Q) := by
  unfold Ml
  iintro ⟨%Y, H, %hY⟩ Hk
  iapply (store_owns c) $$ H
  iintro H
  iapply Hk
  iexists _
  isplitl [H]; · iexact H
  ipureintro
  have h := overlay3 (n := 2) (a := 72) (b := 128) Y (1 : Fin 2) rfl (i := i) w
  exact ⟨(h.2 0 (by decide)).trans hY.1, h.1⟩

end Ml

end Cert.Kernel.Hand
-- ==== Proof.Bits.Body.lean ====
/-
  One sequence: what its slabs of the results hold after its trip, by part of the body.
-/
module

public import proofs.«01_k».proof.Proof.Bits.Passes

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 q4 q5 q6 q7 : PosShare TreeShare}
  {Tab : S24x2048.Idx → BitVec 32} {Len : S24.Idx → BitVec 32} {Pool : S122880x128.Idx → BitVec 32}
  {Qv : S24x80x64.Idx → Elt F .bf16} {Mv : S24x72x128.Idx → Elt F .f32} {Cv : S24x64.Idx → Elt F .f32} {Sv : S24x128.Idx → Elt F .f32}

/-- What a sequence is computed from: the page rows and the scales of its blocks, its length, its slabs of the operands. -/
structure Seq (F : FTy → Type) where
  v0 : IVec S16x128 32
  v1 : IVec S16x128 32
  G : ℕ → S256x128.Idx → BitVec 32
  SC : ℕ → S32x128.Idx → Elt F .f32
  len : BitVec 32
  q : FVec F S1x80x64 .bf16
  m : FVec F S1x72x128 .f32
  cv : FVec F S1x64 .f32
  sv : FVec F S1x72 .f32

namespace Seq
variable (I : Seq F)

/-- The first pass. -/
def acc : FVec F S72x128 .f32 × FVec F S64x72 .f32 := run2 I.v0 I.v1 I.len (k0_pay399 I.q) (k0_pay400 I.m) I.G I.SC I.len (k0_pay401 (F := F), k0_pay402 (F := F))
/-- The maximum over the blocks. -/
def mt : FVec F S72x128 .f32 := run6 I.v0 I.v1 I.len I.q I.G I.SC I.len (k0_pay398 I.m)
/-- The pass at that maximum. -/
def accT : FVec F S72x128 .f32 × FVec F S64x72 .f32 := run10 I.v0 I.v1 I.len (k0_pay262 I.q) (k0_pay263 I.mt) I.G I.SC I.len (k0_pay264 (F := F), k0_pay265 (F := F))
def mlA : FVec F S1x72x128 .f32 × FVec F S1x72x128 .f32 := (k0_pay374 (k0_pay398 I.m), k0_pay375 I.acc.1)
def mlB : FVec F S1x72x128 .f32 × FVec F S1x72x128 .f32 := (k0_pay261 I.mt, k0_pay378 I.accT.1)
variable (ml : FVec F S1x72x128 .f32 × FVec F S1x72x128 .f32)
/-- The last pass, at the shift made of a maximum and a sum. -/
def accL : FVec F S72x128 .f32 × FVec F S64x72 .f32 :=
  run14 I.v0 I.v1 I.len (k0_pay380 I.q) (k0_pay381 ml.2 I.m ml.1 ml.1) I.G I.SC I.len (k0_pay382 (F := F), k0_pay383 (F := F))
def v80 : FVec F S64x72 .f32 := k0_pay407 I.cv
def v82 : FVec F S64x72 .f32 := k0_pay408 (k0_pay398 I.m) I.acc.1 I.acc.2 I.m
def v83 : FVec F S64x72 .f32 := k0_pay409 (k0_pay398 I.m) I.acc.1 I.m I.sv
def near8 : FVec F S1x64x71 .bf16 := k0_pay411 I.v80 I.v82 I.v83
def near9 : FVec F S1x64x71 .fp8e4m3 := k0_pay417 (k0_pay410 I.v80 I.v82 I.v83) (k0_pay412 I.v80 I.v82 I.v83) (k0_pay413 I.v80 I.v82 I.v83) (k0_pay414 I.v80 I.v82 I.v83) 23#32
def near10 : FVec F S1x128 .f32 := k0_pay418 (k0_pay412 I.v80 I.v82 I.v83) (k0_pay413 I.v80 I.v82 I.v83) (k0_pay414 I.v80 I.v82 I.v83) 23#32
def v271 : FVec F S1x72 .f32 := k0_pay386 (k0_pay379 ml.2 I.m ml.1 ml.1) I.m I.sv
def far8 : FVec F S1x64x71 .bf16 := k0_pay390 (I.accL ml).2 (I.v271 ml) (k0_pay387 I.cv) (k0_pay388 (F := F))
def far9 : FVec F S1x64x71 .fp8e4m3 := k0_pay396 (k0_pay389 (I.accL ml).2 (I.v271 ml) (k0_pay387 I.cv) (k0_pay388 (F := F))) (k0_pay391 (I.accL ml).2 (I.v271 ml) (k0_pay387 I.cv) (k0_pay388 (F := F)))
  (k0_pay392 (I.accL ml).2 (I.v271 ml) (k0_pay387 I.cv) (k0_pay388 (F := F))) (k0_pay393 (I.accL ml).2 (I.v271 ml) (k0_pay387 I.cv) (k0_pay388 (F := F))) k0_pay394
def far10 : FVec F S1x128 .f32 := k0_pay397 (k0_pay391 (I.accL ml).2 (I.v271 ml) (k0_pay387 I.cv) (k0_pay388 (F := F)))
  (k0_pay392 (I.accL ml).2 (I.v271 ml) (k0_pay387 I.cv) (k0_pay388 (F := F))) (k0_pay393 (I.accL ml).2 (I.v271 ml) (k0_pay387 I.cv) (k0_pay388 (F := F))) k0_pay394
/-- Whether some shifted denominator or numerator of the first pass is out of the range it can be kept in. -/
def c189 : BitVec 1 := Scalar.cmpf .ogt (k0_pay422 I.acc.1) (Scalar.ofBits .f32 0x00000000#32)
def c200 : BitVec 1 := Scalar.cmpf .ogt (k0_pay423 I.acc.2) (Scalar.ofBits .f32 0x00000000#32)
/-- Whether some value to be packed is too close to a tie. -/
def c179 : BitVec 1 := Scalar.cmpf .ogt (k0_pay421 (F := F) (k0_pay419 (k0_pay413 I.v80 I.v82 I.v83) (k0_pay414 I.v80 I.v82 I.v83) 23#32) (k0_pay420)) (Scalar.ofBits .f32 0x00000000#32)
/-- The shift and the denominator the last pass starts from. -/
def mlC : FVec F S1x72x128 .f32 × FVec F S1x72x128 .f32 := if k0_cond7 I.c189 I.c200 = 1#1 then I.mlB else I.mlA
/-- The three slabs a sequence ends with: those of the first pass, or those of the last. -/
def out8 : FVec F S1x64x71 .bf16 := if k0_cond6 I.c179 I.c189 I.c200 = 1#1 then I.far8 I.mlC else I.near8
def out9 : FVec F S1x64x71 .fp8e4m3 := if k0_cond6 I.c179 I.c189 I.c200 = 1#1 then I.far9 I.mlC else I.near9
def out10 : FVec F S1x128 .f32 := if k0_cond6 I.c179 I.c189 I.c200 = 1#1 then I.far10 I.mlC else I.near10

end Seq

/-- Sequence `s` of the operands. -/
def seqOf {arg3 : Memref sig .tc .hbm S32x49152 .f32} (f3 : Buf (Elt F) (arg3.view.loc (c : Thread nD τ))) (Tab : S24x2048.Idx → BitVec 32) (Len : S24.Idx → BitVec 32) (Pool : S122880x128.Idx → BitVec 32)
    (Qv : S24x80x64.Idx → Elt F .bf16) (Mv : S24x72x128.Idx → Elt F .f32) (Cv : S24x64.Idx → Elt F .f32) (Sv : S24x128.Idx → Elt F .f32)
    (v0 v1 : IVec S16x128 32) (s : Fin 24) : Seq F where
  v0 := v0
  v1 := v1
  G := Gat Tab Pool s
  SC k := Blk c (arg3 := arg3) f3 (16 * s.val + k)
  len := Len (ix1 s)
  q := Sl3 (n := 24) (a := 80) (b := 64) Qv s
  m := Sl3 (n := 24) (a := 72) (b := 128) Mv s
  cv := Sl2 (n := 24) (m := 64) 64 le_rfl Cv s
  sv := Sl2 (n := 24) (m := 128) 72 (by decide) Sv s

/-- The operands a sequence reads its slabs of. -/
def Ins (arg4 : Memref sig .tc .vmem S24x80x64 .bf16) (arg5 : Memref sig .tc .vmem S24x72x128 .f32) (arg6 : Memref sig .tc .vmem S24x64 .f32) (arg7 : Memref sig .tc .vmem S24x128 .f32)
    (q4 q5 q6 q7 : PosShare TreeShare) (Qv : S24x80x64.Idx → Elt F .bf16) (Mv : S24x72x128.Idx → Elt F .f32) (Cv : S24x64.Idx → Elt F .f32) (Sv : S24x128.Idx → Elt F .f32) : sProp 𝕄 :=
  iprop(owns (c : Thread nD τ) arg4 q4 (e := .bf16) Qv ∗ owns (c : Thread nD τ) arg5 q5 (e := .f32) Mv ∗ owns (c : Thread nD τ) arg6 q6 (e := .f32) Cv ∗ owns (c : Thread nD τ) arg7 q7 (e := .f32) Sv)

set_option backward.isDefEq.respectTransparency.types false in
theorem part106 (c0_i32 : BitVec 32) (c1_i32 : BitVec 32) (t1 : Fin k0_t1_loop.trips) (hL : ∀ y, (Len y).toInt ≤ 32768) :
    iprop(Amb c arg0 arg1 arg2 arg11 q0 q1 q2 Tab Len Pool ∗ RingIdle c arg3 arg12 arg14 f3 ∗ Ins c arg4 arg5 arg6 arg7 q4 q5 q6 q7 Qv Mv Cv Sv) ⊢ wpb (F := F) c (k0_part106 arg0 harg0 arg1 harg1 arg2 harg2 arg3 harg3 arg4 harg4 arg5 harg5 arg6 harg6 arg7 harg7 arg8 harg8 arg9 harg9 arg10 harg10 arg11 harg11 arg12 harg12 arg13 harg13 arg14 c0_i32 c1_i32 t1)
      (fun r => iprop(⌜r = ⟨Scalar.addi 0#32 (Scalar.muli (Scf.iv c0_i32 c1_i32 t1) 1#32), Len (ix1 t1), chk1_of _ _ (hL _), nbw (Len (ix1 t1)), k0_pay398 (Sl3 (n := 24) (a := 72) (b := 128) Mv t1), k0_pay399 (Sl3 (n := 24) (a := 80) (b := 64) Qv t1), k0_pay400 (Sl3 (n := 24) (a := 72) (b := 128) Mv t1), k0_pay401 (F := F), k0_pay402 (F := F), Scalar.cmpi .ne (Scalar.extui (Scalar.cmpi .sgt (nbw (Len (ix1 t1))) 1#32)) 0#32⟩⌝
        ∗ Amb c arg0 arg1 arg2 arg11 q0 q1 q2 Tab Len Pool ∗ role c arg3 arg12 arg14 f3 (16 * t1.val) (nb (Len (ix1 t1))) 0 0 ∗ Free c arg3 arg12 arg14 f3 (Fin.ofNat 4 (0 + 1)) ∗ Free c arg3 arg12 arg14 f3 (Fin.ofNat 4 (0 + 2)) ∗ Free c arg3 arg12 arg14 f3 (Fin.ofNat 4 (0 + 3)) ∗ Ins c arg4 arg5 arg6 arg7 q4 q5 q6 q7 Qv Mv Cv Sv)) := by
  rw [k0_part106_eq_skeleton]
  unfold k0_part106_skel
  have h6 := hL (ix1 t1)
  refine BIBase.Entails.trans (sep_mono_right (sep_mono_left (ring_begin c))) ?_
  unfold Amb Ins
  iintro ⟨⟨H0, H1, H2, H11, HW⟩, ⟨F0, F1, F2, F3⟩, H4, H5, H6, H7⟩
  iapply (smem_owns c (hp := rfl)) $$ H1
  iintro H1
  rw [show (Rect.unit (s := S24) (k0_off1 t1) S1.size (k0_off1_inb t1)).point numel1_S1 = ix1 t1 from point24 _ (k0_off1_eq t1)]
  iapply (wp_assume Variants.none (c : Thread nD τ) none Set.univ (chk1_of t1 _ h6))
  iapply (load_sl3 c (n := 24) (a := 72) (b := 128) t1 (k0_off2_eq t1)) $$ H5
  iintro H5
  iapply (load_sl3 c (n := 24) (a := 80) (b := 64) t1 (k0_off3_eq t1)) $$ H4
  iintro H4
  iapply (issue_role' c (B := 16 * t1.val) (k := 0) (d := 0) (n := nb (Len (ix1 t1))) (by rw [Nat.zero_add]; exact lt_nbw (Len (ix1 t1)) h6 0 (by decide)) k0_off4_eq k0_off5_eq (k0_off6_eq t1)) $$ F0
  iintro R0
  iapply (ret_wpb c)
  isplitr
  · ipureintro; rfl
  isplitl [H0 H1 H2 H11 HW]
  · isplitl [H0]; · iexact H0
    isplitl [H1]; · iexact H1
    isplitl [H2]; · iexact H2
    isplitl [H11]; · iexact H11
    iexact HW
  isplitl [R0]; · iexact R0
  isplitl [F1]; · iexact F1
  isplitl [F2]; · iexact F2
  isplitl [F3]; · iexact F3
  isplitl [H4]; · iexact H4
  isplitl [H5]; · iexact H5
  isplitl [H6]; · iexact H6
  iexact H7
set_option backward.isDefEq.respectTransparency.types false in
theorem part107 (v0 : IVec S16x128 32) (v1 : IVec S16x128 32) (t1 : Fin k0_t1_loop.trips) (v4 : BitVec 32) (k0_hw1 : k0_chk1 t1 (Len (ix1 t1))) (v24 : BitVec 32) (v27 : FVec F S72x128 .f32) (v30 : FVec F S80x64 .bf16) (v31 : FVec F S72x256 .f32) (v32 : FVec F S72x128 .f32) (v33 : FVec F S64x72 .f32) (v39 : BitVec 1) (hT : ∀ y, (Tab y).toNat < 61440) (hL : ∀ y, (Len y).toInt ≤ 32768) (h24 : v24 = nbw (Len (ix1 t1))) (h39 : v39 = Scalar.cmpi .ne (Scalar.extui (Scalar.cmpi .sgt (nbw (Len (ix1 t1))) 1#32)) 0#32) :
    iprop(Amb c arg0 arg1 arg2 arg11 q0 q1 q2 Tab Len Pool ∗ role c arg3 arg12 arg14 f3 (16 * t1.val) (nb (Len (ix1 t1))) 0 0 ∗ Free c arg3 arg12 arg14 f3 (Fin.ofNat 4 (0 + 1)) ∗ Free c arg3 arg12 arg14 f3 (Fin.ofNat 4 (0 + 2)) ∗ Free c arg3 arg12 arg14 f3 (Fin.ofNat 4 (0 + 3)) ∗ Ins c arg4 arg5 arg6 arg7 q4 q5 q6 q7 Qv Mv Cv Sv) ⊢ wpb (F := F) c (k0_part107 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) k0_hw1 v24 v27 v30 v31 v32 v33 v39)
      (fun r => iprop(∃ a, ⌜a = run2 v0 v1 (Len (ix1 t1)) v30 v31 (Gat Tab Pool t1) (fun k => Blk c (arg3 := arg3) f3 (16 * t1.val + k)) (Len (ix1 t1)) (v32, v33)
          ∧ r = ⟨a.1, a.2, k0_pay407 (Sl2 (n := 24) (m := 64) 64 le_rfl Cv t1), k0_pay408 v27 a.1 a.2 (Sl3 (n := 24) (a := 72) (b := 128) Mv t1), k0_pay409 v27 a.1 (Sl3 (n := 24) (a := 72) (b := 128) Mv t1) (Sl2 (n := 24) (m := 128) 72 (by decide) Sv t1)⟩⌝ ∗ Amb c arg0 arg1 arg2 arg11 q0 q1 q2 Tab Len Pool ∗ RingIdle c arg3 arg12 arg14 f3 ∗ Ins c arg4 arg5 arg6 arg7 q4 q5 q6 q7 Qv Mv Cv Sv)) := by
  rw [k0_part107_eq_skeleton]
  unfold k0_part107_skel
  subst h24 h39
  have h6 := hL (ix1 t1)
  unfold Ins
  iintro ⟨HA, R0, F1, F2, F3, H4, H5, H6, H7⟩
  iapply (issue_role' c (B := 16 * t1.val) (k := 0) (d := 1) (n := nb (Len (ix1 t1))) (by rw [Nat.zero_add]; exact lt_nbw (Len (ix1 t1)) h6 1 (by decide)) k0_off7_eq k0_off8_eq (k0_off9_eq t1)) $$ F1
  iintro R1
  iapply (issue_role' c (B := 16 * t1.val) (k := 0) (d := 2) (n := nb (Len (ix1 t1))) (by rw [Nat.zero_add]; exact lt_nbw (Len (ix1 t1)) h6 2 (by decide)) k0_off10_eq k0_off11_eq (k0_off12_eq t1)) $$ F2
  iintro R2
  iapply (bind_wpb c)
  iapply (wand_wpb c) $$ [HA R0 R1 R2 F3]
  · iapply (loop2 c hT _ _ _ _ _ _ _ _ _ _ _ _ _  h6)
    isplitl [HA]; · iexact HA
    unfold RingAt
    isplitl [R0]; · iexact R0
    isplitl [R1]; · iexact R1
    isplitl [R2]; · iexact R2
    iexact F3
  iintro %r ⟨%hr, HA, HR⟩
  subst hr
  iapply (bind_wpb c)
  iapply (rest4 c)
  iapply (load_sl3 c (n := 24) (a := 72) (b := 128) t1 (k0_off37_eq t1)) $$ H5
  iintro H5
  iapply (load_sl2 c (n := 24) (w := 128) (b := 72) (by decide) t1 (k0_off38_eq t1)) $$ H7
  iintro H7
  iapply (load_sl2 c (n := 24) (w := 64) (b := 64) (by decide) t1 (k0_off39_eq t1)) $$ H6
  iintro H6
  iapply (ret_wpb c)
  iexists _
  isplitr
  · ipureintro; exact ⟨rfl, rfl⟩
  isplitl [HA]; · iexact HA
  isplitl [HR]; · iexact HR
  isplitl [H4]; · iexact H4
  isplitl [H5]; · iexact H5
  isplitl [H6]; · iexact H6
  iexact H7
set_option backward.isDefEq.respectTransparency.types false in
theorem part73 (v0 : IVec S16x128 32) (v1 : IVec S16x128 32) (t1 : Fin k0_t1_loop.trips) (v4 : BitVec 32) (v24 : BitVec 32) (v27 : FVec F S72x128 .f32) (v179 : BitVec 1) (v189 : BitVec 1) (v200 : BitVec 1) (k0_hw4 : k0_chk4 t1 (Len (ix1 t1)) v179 v189 v200) (k0_h6 : k0_cond6 v179 v189 v200 = 1#1) (k0_h7 : k0_cond7 v189 v200 = 1#1) (hT : ∀ y, (Tab y).toNat < 61440) (hL : ∀ y, (Len y).toInt ≤ 32768) {a b : S1x72x128.Idx → Elt F .f32} (h24 : v24 = nbw (Len (ix1 t1))) :
    iprop(Amb c arg0 arg1 arg2 arg11 q0 q1 q2 Tab Len Pool ∗ RingIdle c arg3 arg12 arg14 f3 ∗ Ins c arg4 arg5 arg6 arg7 q4 q5 q6 q7 Qv Mv Cv Sv ∗ Ml c arg13 a b) ⊢ wpb (F := F) c (k0_part73 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v27 v179 v189 v200 k0_hw4 k0_h6 k0_h7)
      (fun r => iprop(∃ mt, ⌜mt = run6 v0 v1 (Len (ix1 t1)) (Sl3 (n := 24) (a := 80) (b := 64) Qv t1) (Gat Tab Pool t1) (fun k => Blk c (arg3 := arg3) f3 (16 * t1.val + k)) (Len (ix1 t1)) v27
          ∧ r = ⟨k0_pay262 (Sl3 (n := 24) (a := 80) (b := 64) Qv t1), k0_pay263 mt, k0_pay264 (F := F), k0_pay265 (F := F), Scalar.extui (Scalar.cmpi .sgt (nbw (Len (ix1 t1))) 0#32), 0#32⟩⌝ ∗ Amb c arg0 arg1 arg2 arg11 q0 q1 q2 Tab Len Pool ∗ RingIdle c arg3 arg12 arg14 f3 ∗ Ins c arg4 arg5 arg6 arg7 q4 q5 q6 q7 Qv Mv Cv Sv ∗ Ml c arg13 (k0_pay261 mt) b)) := by
  rw [k0_part73_eq_skeleton]
  unfold k0_part73_skel
  subst h24
  have h6 := hL (ix1 t1)
  unfold Ins
  iintro ⟨HA, HR, ⟨H4, H5, H6, H7⟩, HM⟩
  ihave HR := (ring_begin c) $$ HR
  icases HR with ⟨F0, F1, F2, F3⟩
  iapply (load_sl3 c (n := 24) (a := 80) (b := 64) t1 (k0_off42_eq t1)) $$ H4
  iintro H4
  iapply (issue_role' c (B := 16 * t1.val) (k := 0) (d := 0) (n := nb (Len (ix1 t1))) (by rw [Nat.zero_add]; exact lt_nbw (Len (ix1 t1)) h6 0 (by decide)) k0_off43_eq k0_off44_eq (k0_off45_eq t1)) $$ F0
  iintro R0
  iapply (issue_role' c (B := 16 * t1.val) (k := 0) (d := 1) (n := nb (Len (ix1 t1))) (by rw [Nat.zero_add]; exact lt_nbw (Len (ix1 t1)) h6 1 (by decide)) k0_off46_eq k0_off47_eq (k0_off48_eq t1)) $$ F1
  iintro R1
  iapply (issue_role' c (B := 16 * t1.val) (k := 0) (d := 2) (n := nb (Len (ix1 t1))) (by rw [Nat.zero_add]; exact lt_nbw (Len (ix1 t1)) h6 2 (by decide)) k0_off49_eq k0_off50_eq (k0_off51_eq t1)) $$ F2
  iintro R2
  iapply (bind_wpb c)
  iapply (wand_wpb c) $$ [HA R0 R1 R2 F3]
  · iapply (loop6 c hT _ _ _ _ _ _ _ _ _ _ _ _ _ _  h6)
    isplitl [HA]; · iexact HA
    unfold RingAt
    isplitl [R0]; · iexact R0
    isplitl [R1]; · iexact R1
    isplitl [R2]; · iexact R2
    iexact F3
  iintro %r ⟨%hr, HA, HR⟩
  subst hr
  iapply (bind_wpb c)
  iapply (rest8 c)
  iapply (ml_load0 c) $$ HM
  iintro HM
  iapply (ml_store0 c) $$ HM
  iintro HM
  iapply (load_sl3 c (n := 24) (a := 80) (b := 64) t1 (k0_off42_eq t1)) $$ H4
  iintro H4
  iapply (ret_wpb c)
  iexists _
  isplitr
  · ipureintro; exact ⟨rfl, rfl⟩
  isplitl [HA]; · iexact HA
  isplitl [HR]; · iexact HR
  isplitl [H4 H5 H6 H7]
  · isplitl [H4]; · iexact H4
    isplitl [H5]; · iexact H5
    isplitl [H6]; · iexact H6
    iexact H7
  iexact HM
set_option backward.isDefEq.respectTransparency.types false in
theorem part102 (v0 : IVec S16x128 32) (v1 : IVec S16x128 32) (t1 : Fin k0_t1_loop.trips) (v4 : BitVec 32) (v24 : BitVec 32) (v27 : FVec F S72x128 .f32) (v49_0 : FVec F S72x128 .f32) (v179 : BitVec 1) (v189 : BitVec 1) (v200 : BitVec 1) (k0_hw4 : k0_chk4 t1 (Len (ix1 t1)) v179 v189 v200) (v202 : BitVec 1) (k0_h6 : k0_cond6 v179 v189 v200 = 1#1) (hT : ∀ y, (Tab y).toNat < 61440) (hL : ∀ y, (Len y).toInt ≤ 32768) {a b : S1x72x128.Idx → Elt F .f32} (h24 : v24 = nbw (Len (ix1 t1))) :
    iprop(Amb c arg0 arg1 arg2 arg11 q0 q1 q2 Tab Len Pool ∗ RingIdle c arg3 arg12 arg14 f3 ∗ Ins c arg4 arg5 arg6 arg7 q4 q5 q6 q7 Qv Mv Cv Sv ∗ Ml c arg13 a b) ⊢ wpb (F := F) c (k0_part102 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v27 v49_0 v179 v189 v200 k0_hw4 v202 k0_h6)
      (fun r => iprop(∃ ml : FVec F S1x72x128 .f32 × FVec F S1x72x128 .f32, ⌜ml = (if k0_cond7 v189 v200 = 1#1 then (k0_pay261 (run6 v0 v1 (Len (ix1 t1)) (Sl3 (n := 24) (a := 80) (b := 64) Qv t1) (Gat Tab Pool t1) (fun k => Blk c (arg3 := arg3) f3 (16 * t1.val + k)) (Len (ix1 t1)) v27), k0_pay378 (run10 v0 v1 (Len (ix1 t1)) (k0_pay262 (Sl3 (n := 24) (a := 80) (b := 64) Qv t1)) (k0_pay263 (run6 v0 v1 (Len (ix1 t1)) (Sl3 (n := 24) (a := 80) (b := 64) Qv t1) (Gat Tab Pool t1) (fun k => Blk c (arg3 := arg3) f3 (16 * t1.val + k)) (Len (ix1 t1)) v27)) (Gat Tab Pool t1) (fun k => Blk c (arg3 := arg3) f3 (16 * t1.val + k)) (Len (ix1 t1)) (k0_pay264 (F := F), k0_pay265 (F := F))).1) else (k0_pay374 v27, k0_pay375 v49_0))
          ∧ r = ⟨k0_pay379 ml.2 (Sl3 (n := 24) (a := 72) (b := 128) Mv t1) ml.1 ml.1, k0_pay380 (Sl3 (n := 24) (a := 80) (b := 64) Qv t1), k0_pay381 ml.2 (Sl3 (n := 24) (a := 72) (b := 128) Mv t1) ml.1 ml.1, k0_pay382 (F := F), k0_pay383 (F := F)⟩⌝ ∗ Amb c arg0 arg1 arg2 arg11 q0 q1 q2 Tab Len Pool ∗ RingIdle c arg3 arg12 arg14 f3 ∗ Ins c arg4 arg5 arg6 arg7 q4 q5 q6 q7 Qv Mv Cv Sv ∗ Ml c arg13 ml.1 ml.2)) := by
  rw [k0_part102_eq_skeleton]
  unfold k0_part102_skel
  subst h24
  have h6 := hL (ix1 t1)
  unfold Ins
  iintro ⟨HA, HR, ⟨H4, H5, H6, H7⟩, HM⟩
  iapply (ml_load0 c) $$ HM
  iintro HM
  iapply (ml_store0 c) $$ HM
  iintro HM
  iapply (ml_load1 c) $$ HM
  iintro HM
  iapply (ml_store1 c) $$ HM
  iintro HM
  dsimp only [Prog.bind]
  by_cases h7 : k0_cond7 v189 v200 = 1#1
  · rw [dif_pos h7]
    iapply (bind_wpb c)
    iapply (wand_wpb c) $$ [HA HR H4 H5 H6 H7 HM]
    · iapply (part73 c _ _ _ _ _ _ _ _ _ _ _ _ hT hL rfl)
      isplitl [HA]; · iexact HA
      isplitl [HR]; · iexact HR
      isplitl [H4 H5 H6 H7]
      · unfold Ins
        isplitl [H4]; · iexact H4
        isplitl [H5]; · iexact H5
        isplitl [H6]; · iexact H6
        iexact H7
      iexact HM
    iintro %r ⟨%mt, ⟨%hmt, %hr⟩, HA, HR, HI, HM⟩
    subst hmt
    subst hr
    unfold Ins
    icases HI with ⟨H4, H5, H6, H7⟩
    ihave HR := (ring_begin c) $$ HR
    icases HR with ⟨F0, F1, F2, F3⟩
    iapply (issue_role' c (B := 16 * t1.val) (k := 0) (d := 0) (n := nb (Len (ix1 t1))) (by rw [Nat.zero_add]; exact lt_nbw (Len (ix1 t1)) h6 0 (by decide)) k0_off76_eq k0_off77_eq (k0_off78_eq t1)) $$ F0
    iintro R0
    iapply (issue_role' c (B := 16 * t1.val) (k := 0) (d := 1) (n := nb (Len (ix1 t1))) (by rw [Nat.zero_add]; exact lt_nbw (Len (ix1 t1)) h6 1 (by decide)) k0_off79_eq k0_off80_eq (k0_off81_eq t1)) $$ F1
    iintro R1
    iapply (issue_role' c (B := 16 * t1.val) (k := 0) (d := 2) (n := nb (Len (ix1 t1))) (by rw [Nat.zero_add]; exact lt_nbw (Len (ix1 t1)) h6 2 (by decide)) k0_off82_eq k0_off83_eq (k0_off84_eq t1)) $$ F2
    iintro R2
    iapply (bind_wpb c)
    iapply (wand_wpb c) $$ [HA R0 R1 R2 F3]
    · iapply (loop10 c hT _ _ _ _ _ _ _ _ _ _ _ _ _ _ _ _ _  h6)
      isplitl [HA]; · iexact HA
      unfold RingAt
      isplitl [R0]; · iexact R0
      isplitl [R1]; · iexact R1
      isplitl [R2]; · iexact R2
      iexact F3
    iintro %r ⟨%hr, HA, HR⟩
    subst hr
    iapply (bind_wpb c)
    iapply (rest12 c)
    iapply (ml_load1 c) $$ HM
    iintro HM
    iapply (ml_store1 c) $$ HM
    iintro HM
    iapply (ml_load1 c) $$ HM
    iintro HM
    iapply (load_sl3 c (n := 24) (a := 72) (b := 128) t1 (k0_off109_eq t1)) $$ H5
    iintro H5
    iapply (ml_load0 c) $$ HM
    iintro HM
    iapply (ml_load0 c) $$ HM
    iintro HM
    iapply (load_sl3 c (n := 24) (a := 80) (b := 64) t1 (k0_off110_eq t1)) $$ H4
    iintro H4
    iapply (ret_wpb c)
    iexists (k0_pay261 (run6 v0 v1 (Len (ix1 t1)) (Sl3 (n := 24) (a := 80) (b := 64) Qv t1) (Gat Tab Pool t1) (fun k => Blk c (arg3 := arg3) f3 (16 * t1.val + k)) (Len (ix1 t1)) v27), k0_pay378 (run10 v0 v1 (Len (ix1 t1)) (k0_pay262 (Sl3 (n := 24) (a := 80) (b := 64) Qv t1)) (k0_pay263 (run6 v0 v1 (Len (ix1 t1)) (Sl3 (n := 24) (a := 80) (b := 64) Qv t1) (Gat Tab Pool t1) (fun k => Blk c (arg3 := arg3) f3 (16 * t1.val + k)) (Len (ix1 t1)) v27)) (Gat Tab Pool t1) (fun k => Blk c (arg3 := arg3) f3 (16 * t1.val + k)) (Len (ix1 t1)) (k0_pay264 (F := F), k0_pay265 (F := F))).1)
    isplitr
    · ipureintro; exact ⟨(if_pos h7).symm, by dsimp only⟩
    isplitl [HA]; · iexact HA
    isplitl [HR]; · iexact HR
    isplitl [H4 H5 H6 H7]
    · isplitl [H4]; · iexact H4
      isplitl [H5]; · iexact H5
      isplitl [H6]; · iexact H6
      iexact H7
    iexact HM
  · rw [dif_neg h7]
    iapply (ml_load1 c) $$ HM
    iintro HM
    iapply (load_sl3 c (n := 24) (a := 72) (b := 128) t1 (k0_off109_eq t1)) $$ H5
    iintro H5
    iapply (ml_load0 c) $$ HM
    iintro HM
    iapply (ml_load0 c) $$ HM
    iintro HM
    iapply (load_sl3 c (n := 24) (a := 80) (b := 64) t1 (k0_off110_eq t1)) $$ H4
    iintro H4
    iapply (ret_wpb c)
    iexists (k0_pay374 v27, k0_pay375 v49_0)
    isplitr
    · ipureintro; exact ⟨(if_neg h7).symm, by dsimp only⟩
    isplitl [HA]; · iexact HA
    isplitl [HR]; · iexact HR
    isplitl [H4 H5 H6 H7]
    · isplitl [H4]; · iexact H4
      isplitl [H5]; · iexact H5
      isplitl [H6]; · iexact H6
      iexact H7
    iexact HM
set_option backward.isDefEq.respectTransparency.types false in
theorem part103 (v0 : IVec S16x128 32) (v1 : IVec S16x128 32) (t1 : Fin k0_t1_loop.trips) (v4 : BitVec 32) (v24 : BitVec 32) (v179 : BitVec 1) (v189 : BitVec 1) (v200 : BitVec 1) (k0_hw4 : k0_chk4 t1 (Len (ix1 t1)) v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (hT : ∀ y, (Tab y).toNat < 61440) (hL : ∀ y, (Len y).toInt ≤ 32768) (h24 : v24 = nbw (Len (ix1 t1))) :
    iprop(Amb c arg0 arg1 arg2 arg11 q0 q1 q2 Tab Len Pool ∗ RingIdle c arg3 arg12 arg14 f3 ∗ Ins c arg4 arg5 arg6 arg7 q4 q5 q6 q7 Qv Mv Cv Sv) ⊢ wpb (F := F) c (k0_part103 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v179 v189 v200 k0_hw4 k0_h6 v232 v235 v236 v237 v238)
      (fun r => iprop(∃ a, ⌜a = run14 v0 v1 (Len (ix1 t1)) v235 v236 (Gat Tab Pool t1) (fun k => Blk c (arg3 := arg3) f3 (16 * t1.val + k)) (Len (ix1 t1)) (v237, v238)
          ∧ r = ⟨a.2, k0_pay386 v232 (Sl3 (n := 24) (a := 72) (b := 128) Mv t1) (Sl2 (n := 24) (m := 128) 72 (by decide) Sv t1), k0_pay387 (Sl2 (n := 24) (m := 64) 64 le_rfl Cv t1), k0_pay388 (F := F)⟩⌝ ∗ Amb c arg0 arg1 arg2 arg11 q0 q1 q2 Tab Len Pool ∗ RingIdle c arg3 arg12 arg14 f3 ∗ Ins c arg4 arg5 arg6 arg7 q4 q5 q6 q7 Qv Mv Cv Sv)) := by
  rw [k0_part103_eq_skeleton]
  unfold k0_part103_skel
  subst h24
  have h6 := hL (ix1 t1)
  unfold Ins
  iintro ⟨HA, HR, H4, H5, H6, H7⟩
  ihave HR := (ring_begin c) $$ HR
  icases HR with ⟨F0, F1, F2, F3⟩
  iapply (issue_role' c (B := 16 * t1.val) (k := 0) (d := 0) (n := nb (Len (ix1 t1))) (by rw [Nat.zero_add]; exact lt_nbw (Len (ix1 t1)) h6 0 (by decide)) k0_off111_eq k0_off112_eq (k0_off113_eq t1)) $$ F0
  iintro R0
  iapply (issue_role' c (B := 16 * t1.val) (k := 0) (d := 1) (n := nb (Len (ix1 t1))) (by rw [Nat.zero_add]; exact lt_nbw (Len (ix1 t1)) h6 1 (by decide)) k0_off114_eq k0_off115_eq (k0_off116_eq t1)) $$ F1
  iintro R1
  iapply (issue_role' c (B := 16 * t1.val) (k := 0) (d := 2) (n := nb (Len (ix1 t1))) (by rw [Nat.zero_add]; exact lt_nbw (Len (ix1 t1)) h6 2 (by decide)) k0_off117_eq k0_off118_eq (k0_off119_eq t1)) $$ F2
  iintro R2
  iapply (bind_wpb c)
  iapply (wand_wpb c) $$ [HA R0 R1 R2 F3]
  · iapply (loop14 c hT _ _ _ _ _ _ _ _ _ _ _ _ _ _ _ _  h6)
    isplitl [HA]; · iexact HA
    unfold RingAt
    isplitl [R0]; · iexact R0
    isplitl [R1]; · iexact R1
    isplitl [R2]; · iexact R2
    iexact F3
  iintro %r ⟨%hr, HA, HR⟩
  subst hr
  iapply (bind_wpb c)
  iapply (rest16 c)
  iapply (load_sl3 c (n := 24) (a := 72) (b := 128) t1 (k0_off109_eq t1)) $$ H5
  iintro H5
  iapply (load_sl2 c (n := 24) (w := 128) (b := 72) (by decide) t1 (k0_off144_eq t1)) $$ H7
  iintro H7
  iapply (load_sl2 c (n := 24) (w := 64) (b := 64) (by decide) t1 (k0_off145_eq t1)) $$ H6
  iintro H6
  iapply (ret_wpb c)
  iexists _
  isplitr
  · ipureintro; exact ⟨rfl, rfl⟩
  isplitl [HA]; · iexact HA
  isplitl [HR]; · iexact HR
  isplitl [H4]; · iexact H4
  isplitl [H5]; · iexact H5
  isplitl [H6]; · iexact H6
  iexact H7

theorem dite_pos {C : Prop} [Decidable C] (h : C) {p : C → Prog (TpuEff nD τ sig (Elt F) Λ₀ .tc) α} {e : ¬ C → Prog (TpuEff nD τ sig (Elt F) Λ₀ .tc) α} :
    wpb c (p h) Q ⊢ wpb c (if h' : C then p h' else e h') Q := by rw [dif_pos h]
theorem dite_neg {C : Prop} [Decidable C] (h : ¬ C) {p : C → Prog (TpuEff nD τ sig (Elt F) Λ₀ .tc) α} {e : ¬ C → Prog (TpuEff nD τ sig (Elt F) Λ₀ .tc) α} :
    wpb c (e h) Q ⊢ wpb c (if h' : C then p h' else e h') Q := by rw [dif_neg h]
set_option backward.isDefEq.respectTransparency.types false in
theorem part104 (t1 : Fin k0_t1_loop.trips) (v4 : BitVec 32) (v254_1 : FVec F S64x72 .f32) (v271 : FVec F S1x72 .f32) (v277 : FVec F S64x72 .f32) (v278 : FVec F S64x72 .f32) {X8 : S24x64x71.Idx → Elt F .bf16} {w8 : S1x64x71.Idx → Elt F .bf16} :
    Slab3 c (n := 24) (a := 64) (b := 71) arg8 X8 t1 w8 ⊢ wpb (F := F) c (k0_part104 arg0 harg0 arg1 harg1 arg2 harg2 arg3 harg3 arg4 harg4 arg5 harg5 arg6 harg6 arg7 harg7 arg8 harg8 arg9 harg9 arg10 harg10 arg11 harg11 arg12 harg12 arg13 harg13 arg14 t1 v4 v254_1 v271 v277 v278)
      (fun r => iprop(⌜r = ⟨k0_pay389 v254_1 v271 v277 v278, k0_pay391 v254_1 v271 v277 v278, k0_pay392 v254_1 v271 v277 v278, k0_pay393 v254_1 v271 v277 v278, k0_pay394⟩⌝ ∗ Slab3 c (n := 24) (a := 64) (b := 71) arg8 X8 t1 (k0_pay390 v254_1 v271 v277 v278))) := by
  rw [k0_part104_eq_skeleton]
  unfold k0_part104_skel
  iintro H8
  iapply (put_sl3 c (n := 24) (a := 64) (b := 71) t1 (k0_off146_eq t1)) $$ H8
  iintro H8
  iapply (ret_wpb c)
  isplitr
  · ipureintro; rfl
  iexact H8
set_option backward.isDefEq.respectTransparency.types false in
theorem part108 (t1 : Fin k0_t1_loop.trips) (v4 : BitVec 32) (v80 : FVec F S64x72 .f32) (v82 : FVec F S64x72 .f32) (v83 : FVec F S64x72 .f32) {X8 : S24x64x71.Idx → Elt F .bf16} {w8 : S1x64x71.Idx → Elt F .bf16} :
    Slab3 c (n := 24) (a := 64) (b := 71) arg8 X8 t1 w8 ⊢ wpb (F := F) c (k0_part108 arg0 harg0 arg1 harg1 arg2 harg2 arg3 harg3 arg4 harg4 arg5 harg5 arg6 harg6 arg7 harg7 arg8 harg8 arg9 harg9 arg10 harg10 arg11 harg11 arg12 harg12 arg13 harg13 arg14 t1 v4 v80 v82 v83)
      (fun r => iprop(⌜r = ⟨k0_pay410 v80 v82 v83, k0_pay412 v80 v82 v83, k0_pay413 v80 v82 v83, k0_pay414 v80 v82 v83, 23#32⟩⌝ ∗ Slab3 c (n := 24) (a := 64) (b := 71) arg8 X8 t1 (k0_pay411 v80 v82 v83))) := by
  rw [k0_part108_eq_skeleton]
  unfold k0_part108_skel
  iintro H8
  iapply (put_sl3 c (n := 24) (a := 64) (b := 71) t1 (k0_off40_eq t1)) $$ H8
  iintro H8
  iapply (ret_wpb c)
  isplitr
  · ipureintro; rfl
  iexact H8
set_option backward.isDefEq.respectTransparency.types false in
theorem part109 (t1 : Fin k0_t1_loop.trips) (v4 : BitVec 32) (v86 : FVec F S64x71 .f32) (v98 : FVec F S1x1 .f32) (v115 : IVec S1x1 32) (v127 : FVec F S1x1 .f32) (c23 : BitVec 32) {X9 : S24x64x71.Idx → Elt F .fp8e4m3} {X10 : S24x128.Idx → Elt F .f32} {w9 : S1x64x71.Idx → Elt F .fp8e4m3} {w10 : S1x128.Idx → Elt F .f32} :
    iprop(Slab3 c (n := 24) (a := 64) (b := 71) arg9 X9 t1 w9 ∗ Slab2 c (n := 24) (b := 128) arg10 X10 t1 w10) ⊢ wpb (F := F) c (k0_part109 arg0 harg0 arg1 harg1 arg2 harg2 arg3 harg3 arg4 harg4 arg5 harg5 arg6 harg6 arg7 harg7 arg8 harg8 arg9 harg9 arg10 harg10 arg11 harg11 arg12 harg12 arg13 harg13 arg14 t1 v4 v86 v98 v115 v127 c23)
      (fun r => iprop(⌜r = ⟨k0_pay419 v115 v127 c23, k0_pay420⟩⌝ ∗ Slab3 c (n := 24) (a := 64) (b := 71) arg9 X9 t1 (k0_pay417 v86 v98 v115 v127 c23) ∗ Slab2 c (n := 24) (b := 128) arg10 X10 t1 (k0_pay418 v98 v115 v127 c23))) := by
  rw [k0_part109_eq_skeleton]
  unfold k0_part109_skel
  iintro ⟨H9, H10⟩
  iapply (put_sl3 c (n := 24) (a := 64) (b := 71) t1 (k0_off40_eq t1)) $$ H9
  iintro H9
  iapply (put_sl2 c (n := 24) (b := 128) t1 (k0_off41_eq t1)) $$ H10
  iintro H10
  iapply (ret_wpb c)
  isplitr
  · ipureintro; rfl
  isplitl [H9]; · iexact H9
  iexact H10
set_option backward.isDefEq.respectTransparency.types false in
theorem part105 (v0 : IVec S16x128 32) (v1 : IVec S16x128 32) (t1 : Fin k0_t1_loop.trips) (v4 : BitVec 32) (v24 : BitVec 32) (v27 : FVec F S72x128 .f32) (v49_0 : FVec F S72x128 .f32) (v179 : BitVec 1) (v189 : BitVec 1) (v200 : BitVec 1) (k0_hw4 : k0_chk4 t1 (Len (ix1 t1)) v179 v189 v200) (v202 : BitVec 1) (k0_h6 : k0_cond6 v179 v189 v200 = 1#1) (hT : ∀ y, (Tab y).toNat < 61440) (hL : ∀ y, (Len y).toInt ≤ 32768) {X8 : S24x64x71.Idx → Elt F .bf16} {X9 : S24x64x71.Idx → Elt F .fp8e4m3} {X10 : S24x128.Idx → Elt F .f32} {w8 : S1x64x71.Idx → Elt F .bf16} {w9 : S1x64x71.Idx → Elt F .fp8e4m3} {w10 : S1x128.Idx → Elt F .f32} {a b : S1x72x128.Idx → Elt F .f32} (h24 : v24 = nbw (Len (ix1 t1))) (h27 : v27 = k0_pay398 (Sl3 (n := 24) (a := 72) (b := 128) Mv t1)) (h49 : v49_0 = (seqOf c (arg3 := arg3) f3 Tab Len Pool Qv Mv Cv Sv v0 v1 t1).acc.1) (h189 : v189 = (seqOf c (arg3 := arg3) f3 Tab Len Pool Qv Mv Cv Sv v0 v1 t1).c189) (h200 : v200 = (seqOf c (arg3 := arg3) f3 Tab Len Pool Qv Mv Cv Sv v0 v1 t1).c200) :
    iprop(Amb c arg0 arg1 arg2 arg11 q0 q1 q2 Tab Len Pool ∗ RingIdle c arg3 arg12 arg14 f3 ∗ Ins c arg4 arg5 arg6 arg7 q4 q5 q6 q7 Qv Mv Cv Sv ∗ Ml c arg13 a b ∗ Slab3 c (n := 24) (a := 64) (b := 71) arg8 X8 t1 w8 ∗ Slab3 c (n := 24) (a := 64) (b := 71) arg9 X9 t1 w9 ∗ Slab2 c (n := 24) (b := 128) arg10 X10 t1 w10) ⊢ wpb (F := F) c (k0_part105 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v27 v49_0 v179 v189 v200 k0_hw4 v202 k0_h6)
      (fun r => iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b) ∗ Slab3 c (n := 24) (a := 64) (b := 71) arg8 X8 t1 ((seqOf c (arg3 := arg3) f3 Tab Len Pool Qv Mv Cv Sv v0 v1 t1).far8 (seqOf c (arg3 := arg3) f3 Tab Len Pool Qv Mv Cv Sv v0 v1 t1).mlC) ∗ Slab3 c (n := 24) (a := 64) (b := 71) arg9 X9 t1 ((seqOf c (arg3 := arg3) f3 Tab Len Pool Qv Mv Cv Sv v0 v1 t1).far9 (seqOf c (arg3 := arg3) f3 Tab Len Pool Qv Mv Cv Sv v0 v1 t1).mlC) ∗ Slab2 c (n := 24) (b := 128) arg10 X10 t1 ((seqOf c (arg3 := arg3) f3 Tab Len Pool Qv Mv Cv Sv v0 v1 t1).far10 (seqOf c (arg3 := arg3) f3 Tab Len Pool Qv Mv Cv Sv v0 v1 t1).mlC))) := by
  rw [k0_part105_eq_skeleton]
  unfold k0_part105_skel
  iintro ⟨HA, HR, HI, HM, H8, H9, H10⟩
  iapply (bind_wpb c)
  iapply (wand_wpb c) $$ [HA HR HI HM]
  · iapply (part102 c _ _ _ _ _ _ _ _ _ _ _ _ _ hT hL h24)
    isplitl [HA]; · iexact HA
    isplitl [HR]; · iexact HR
    isplitl [HI]; · iexact HI
    iexact HM
  iintro %r ⟨%ml, ⟨%hml, %hr⟩, HA, HR, HI, HM⟩
  subst hr
  iapply (bind_wpb c)
  iapply (wand_wpb c) $$ [HA HR HI]
  · iapply (part103 c _ _ _ _ _ _ _ _ _ _ _ _ _ _ _ hT hL h24)
    isplitl [HA]; · iexact HA
    isplitl [HR]; · iexact HR
    iexact HI
  iintro %r ⟨%a, ⟨%ha, %hr⟩, HA, HR, HI⟩
  subst hr
  iapply (bind_wpb c)
  iapply (wand_wpb c) $$ [H8]
  · iapply (part104 c) $$ H8
  iintro %r ⟨%hr, H8⟩
  subst hr
  iapply (put_sl3 c (n := 24) (a := 64) (b := 71) t1 (k0_off146_eq t1)) $$ H9
  iintro H9
  iapply (put_sl2 c (n := 24) (b := 128) t1 (k0_off147_eq t1)) $$ H10
  iintro H10
  iapply (ret_wpb c)
  have hml' : ml = (seqOf c (arg3 := arg3) f3 Tab Len Pool Qv Mv Cv Sv v0 v1 t1).mlC := by subst h27 h49 h189 h200; exact hml
  have ha' : a = (seqOf c (arg3 := arg3) f3 Tab Len Pool Qv Mv Cv Sv v0 v1 t1).accL ml := ha
  subst ha'
  subst hml'
  isplitl [HA]; · iexact HA
  isplitl [HR]; · iexact HR
  isplitl [HI]; · iexact HI
  isplitl [HM]; · iexists _, _; iexact HM
  isplitl [H8]; · iexact H8
  isplitl [H9]; · iexact H9
  iexact H10
set_option backward.isDefEq.respectTransparency.types false in
theorem part110 (v0 : IVec S16x128 32) (v1 : IVec S16x128 32) (c0_i32 : BitVec 32) (c1_i32 : BitVec 32) (t1 : Fin k0_t1_loop.trips) (hT : ∀ y, (Tab y).toNat < 61440) (hL : ∀ y, (Len y).toInt ≤ 32768) {X8 : S24x64x71.Idx → Elt F .bf16} {X9 : S24x64x71.Idx → Elt F .fp8e4m3} {X10 : S24x128.Idx → Elt F .f32} {w8 : S1x64x71.Idx → Elt F .bf16} {w9 : S1x64x71.Idx → Elt F .fp8e4m3} {w10 : S1x128.Idx → Elt F .f32} :
    iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b) ∗ Slab3 c (n := 24) (a := 64) (b := 71) arg8 X8 t1 w8 ∗ Slab3 c (n := 24) (a := 64) (b := 71) arg9 X9 t1 w9 ∗ Slab2 c (n := 24) (b := 128) arg10 X10 t1 w10) ⊢ wpb (F := F) c (k0_part110 arg0 harg0 arg1 harg1 arg2 harg2 arg3 harg3 arg4 harg4 arg5 harg5 arg6 harg6 arg7 harg7 arg8 harg8 arg9 harg9 arg10 harg10 arg11 harg11 arg12 harg12 arg13 harg13 arg14 v0 v1 c0_i32 c1_i32 t1)
      (fun r => iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b) ∗ Slab3 c (n := 24) (a := 64) (b := 71) arg8 X8 t1 ((seqOf c (arg3 := arg3) f3 Tab Len Pool Qv Mv Cv Sv v0 v1 t1).out8) ∗ Slab3 c (n := 24) (a := 64) (b := 71) arg9 X9 t1 ((seqOf c (arg3 := arg3) f3 Tab Len Pool Qv Mv Cv Sv v0 v1 t1).out9) ∗ Slab2 c (n := 24) (b := 128) arg10 X10 t1 ((seqOf c (arg3 := arg3) f3 Tab Len Pool Qv Mv Cv Sv v0 v1 t1).out10))) := by
  rw [k0_part110_eq_skeleton]
  unfold k0_part110_skel
  iintro ⟨HA, HR, HI, ⟨%a, %b, HM⟩, H8, H9, H10⟩
  iapply (bind_wpb c)
  iapply (wand_wpb c) $$ [HA HR HI]
  · iapply (part106 c _ _ _ hL)
    isplitl [HA]; · iexact HA
    isplitl [HR]; · iexact HR
    iexact HI
  iintro %r ⟨%hr, HA, R0, F1, F2, F3, HI⟩
  subst hr
  iapply (bind_wpb c)
  iapply (wand_wpb c) $$ [HA R0 F1 F2 F3 HI]
  · iapply (part107 c _ _ _ _ _ _ _ _ _ _ _ _ hT hL rfl rfl)
    isplitl [HA]; · iexact HA
    isplitl [R0]; · iexact R0
    isplitl [F1]; · iexact F1
    isplitl [F2]; · iexact F2
    isplitl [F3]; · iexact F3
    iexact HI
  iintro %r ⟨%acc, ⟨%ha, %hr⟩, HA, HR, HI⟩
  subst hr
  iapply (bind_wpb c)
  iapply (wand_wpb c) $$ [H8]
  · iapply (part108 c) $$ H8
  iintro %r ⟨%hr, H8⟩
  subst hr
  iapply (bind_wpb c)
  iapply (wand_wpb c) $$ [H9 H10]
  · iapply (part109 c)
    isplitl [H9]; · iexact H9
    iexact H10
  iintro %r ⟨%hr, H9, H10⟩
  subst hr
  have ha' : acc = (seqOf c (arg3 := arg3) f3 Tab Len Pool Qv Mv Cv Sv v0 v1 t1).acc := ha
  clear ha
  subst ha'
  iapply (wp_assume Variants.none (c : Thread nD τ) none Set.univ (chk4_of t1 _ _ _ _ (hL (ix1 t1))))
  dsimp only [Prog.bind]
  by_cases h6 : k0_cond6 (seqOf c (arg3 := arg3) f3 Tab Len Pool Qv Mv Cv Sv v0 v1 t1).c179 (seqOf c (arg3 := arg3) f3 Tab Len Pool Qv Mv Cv Sv v0 v1 t1).c189 (seqOf c (arg3 := arg3) f3 Tab Len Pool Qv Mv Cv Sv v0 v1 t1).c200 = 1#1
  · iapply (dite_pos c h6)
    iapply (bind_wpb c)
    iapply (wand_wpb c) $$ [HA HR HI HM H8 H9 H10]
    · iapply (part105 c _ _ _ _ _ _ _ _ _ _ _ _ _ hT hL rfl rfl rfl rfl rfl)
      isplitl [HA]; · iexact HA
      isplitl [HR]; · iexact HR
      isplitl [HI]; · iexact HI
      isplitl [HM]; · iexact HM
      isplitl [H8]; · iexact H8
      isplitl [H9]; · iexact H9
      iexact H10
    iintro %_ H
    iapply (ret_wpb c)
    unfold Seq.out8 Seq.out9 Seq.out10
    rw [if_pos h6, if_pos h6, if_pos h6]
    iexact H
  · iapply (dite_neg c h6)
    iapply (ret_wpb c)
    unfold Seq.out8 Seq.out9 Seq.out10
    rw [if_neg h6, if_neg h6, if_neg h6]
    isplitl [HA]; · iexact HA
    isplitl [HR]; · iexact HR
    isplitl [HI]; · iexact HI
    isplitl [HM]; · iexists _, _; iexact HM
    isplitl [H8]; · iexact H8
    isplitl [H9]; · iexact H9
    iexact H10

end Cert.Kernel.Hand
-- ==== Proof.Bits.Whole.lean ====
/-
  All 24 sequences, one after another: what the kernel leaves in its three results.
-/
module

public import proofs.«01_k».proof.Proof.Bits.Body
public import Idealize.ShloMosaic.Lib.Ring.AtN

@[expose] public section

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 q4 q5 q6 q7 : PosShare TreeShare}
  {Tab : S24x2048.Idx → BitVec 32} {Len : S24.Idx → BitVec 32} {Pool : S122880x128.Idx → BitVec 32}
  {Qv : S24x80x64.Idx → Elt F .bf16} {Mv : S24x72x128.Idx → Elt F .f32} {Cv : S24x64.Idx → Elt F .f32} {Sv : S24x128.Idx → Elt F .f32}

/-! ## The ring's four slots, of the scratch as a whole -/

/-- Slot `j`'s elements of the scratch. -/
abbrev slotSet (j : Fin 4) : Finset S4x32x128.Idx := (slotR j).set

theorem slotSet_eq (j : Fin 4) : (slotM (Memref.whole cc0_scratch1) j).view.set = slotSet j := by
  simp only [slotM, Memref.view_squeeze, View.set_reshape]; exact View.set_slice_whole _ _
theorem slots_disjoint (j j' : Fin 4) (hj : j ≠ j') : Disjoint (slotSet j) (slotSet j') :=
  Ring.lead_disjoint (s := S4x32x128) (0 : Fin 3) 1 (fun j : Fin 4 => (![j.val, 0, 0] : Fin 3 → Nat)) S1x32x128.size (by decide) (fun j => by simp) rfl j j' hj
theorem slots_cover : Finset.univ.biUnion slotSet = Finset.univ :=
  Ring.lead_cover (s := S4x32x128) (0 : Fin 3) 1 (fun j : Fin 4 => (![j.val, 0, 0] : Fin 3 → Nat)) S1x32x128.size (by decide) (fun j => by simp)
    (fun j a ha => by fin_cases a <;> first | exact absurd rfl ha | rfl) rfl (fun a ha => by fin_cases a <;> first | exact absurd rfl ha | rfl) rfl
def slotP (j : Fin 4) (f : Buf (Elt F) ((c : Thread nD τ).loc cc0_scratch1)) : sProp 𝕄 :=
  (slotM (Memref.whole cc0_scratch1) j).view.loc (c : Thread nD τ) ↦[(slotM (Memref.whole cc0_scratch1) j).view.set]{fullShare} f
theorem slotP_eq (j : Fin 4) (f) : slotP (F := F) c j f = ((c : Thread nD τ).loc cc0_scratch1 ↦[slotSet j]{fullShare} f : sProp 𝕄) := by
  unfold slotP; rw [slotSet_eq]

theorem share_in {ℓ : Loc nD τ sig} (S : Finset (Idx ℓ)) (f : Buf (Elt F) ℓ) :
    (ℓ ↦[S]{fullShare} f : sProp 𝕄) ⊣⊢ iprop(((ℓ ↦[S]{qs 0} f) ∗ (ℓ ↦[S]{qs 1} f)) ∗ ((ℓ ↦[S]{qs 2} f) ∗ (ℓ ↦[S]{qs 3} f))) :=
  (pointsTo_share (PosShare.mem_left_op_right fullShare)).trans
    (sep_congr (pointsTo_share (PosShare.mem_left_op_right _)) (pointsTo_share (PosShare.mem_left_op_right _)))

/-- The four cells at zero, the scratch and the scales whole are the ring with nothing under way, -/
theorem ring_in (f : Buf (Elt F) ((c : Thread nD τ).loc main_arg3)) :
    iprop((semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ (∃ g, (c : Thread nD τ).loc cc0_scratch1 ↦{fullShare} g) ∗ ((c : Thread nD τ).loc main_arg3 ↦{fullShare} f))
    ⊢ (RingIdle c (arg3 := Memref.whole main_arg3) (arg12 := Memref.whole cc0_scratch1) (arg14 := cc0_scratch3) (f3 := f) : sProp 𝕄) := by
  iintro ⟨⟨S0, S1, S2, S3⟩, HR, HA⟩
  ihave HR := (Ring.slots4_split (Ix := Unit) (Name := ℕ) (U := Pipeline.UD sig nD τ) (Lvl := ℕ) (ℓ := (c : Thread nD τ).loc cc0_scratch1) (q := fullShare) slotSet slots_disjoint slots_cover
    (slotP c 0) (slotP c 1) (slotP c 2) (slotP c 3) (slotP_eq c 0) (slotP_eq c 1) (slotP_eq c 2) (slotP_eq c 3)) $$ HR
  icases HR with ⟨R0, R1, R2, R3⟩
  ihave HA := (share_in (F := F) _ f).1 $$ HA
  icases HA with ⟨⟨A0, A1⟩, ⟨A2, A3⟩⟩
  unfold RingIdle Free
  rw [show (Memref.whole main_arg3 : Memref sig .tc .hbm S32x49152 .f32).view.set = Finset.univ from View.set_whole _]
  isplitl [S0 R0 A0]
  · isplitl [S0]; · iexact S0
    isplitl [R0]; · iexact R0
    iexact A0
  isplitl [S1 R1 A1]
  · isplitl [S1]; · iexact S1
    isplitl [R1]; · iexact R1
    iexact A1
  isplitl [S2 R2 A2]
  · isplitl [S2]; · iexact S2
    isplitl [R2]; · iexact R2
    iexact A2
  isplitl [S3]; · iexact S3
  isplitl [R3]; · iexact R3
  iexact A3

/-- and back. -/
theorem ring_out (f : Buf (Elt F) ((c : Thread nD τ).loc main_arg3)) :
    (RingIdle c (arg3 := Memref.whole main_arg3) (arg12 := Memref.whole cc0_scratch1) (arg14 := cc0_scratch3) (f3 := f) : sProp 𝕄) ⊢
    iprop((semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ (∃ g, (c : Thread nD τ).loc cc0_scratch1 ↦{fullShare} g) ∗ ((c : Thread nD τ).loc main_arg3 ↦{fullShare} f)) := by
  unfold RingIdle Free
  rw [show (Memref.whole main_arg3 : Memref sig .tc .hbm S32x49152 .f32).view.set = Finset.univ from View.set_whole _]
  iintro ⟨⟨S0, R0, A0⟩, ⟨S1, R1, A1⟩, ⟨S2, R2, A2⟩, ⟨S3, R3, A3⟩⟩
  isplitl [S0 S1 S2 S3]
  · isplitl [S0]; · iexact S0
    isplitl [S1]; · iexact S1
    isplitl [S2]; · iexact S2
    iexact S3
  isplitl [R0 R1 R2 R3]
  · iapply (Ring.slots4_join (Ix := Unit) (Name := ℕ) (U := Pipeline.UD sig nD τ) (Lvl := ℕ) (ℓ := (c : Thread nD τ).loc cc0_scratch1) (q := fullShare) slotSet slots_disjoint slots_cover
      (slotP c 0) (slotP c 1) (slotP c 2) (slotP c 3) (slotP_eq c 0) (slotP_eq c 1) (slotP_eq c 2) (slotP_eq c 3))
    isplitl [R0]; · iexact R0
    isplitl [R1]; · iexact R1
    isplitl [R2]; · iexact R2
    iexact R3
  iapply (share_in (F := F) _ f).2
  isplitl [A0 A1]
  · isplitl [A0]; · iexact A0
    iexact A1
  isplitl [A2]; · iexact A2
  iexact A3

/-! ## The sequences -/

theorem trips24 : k0_t1_loop.trips = 24 := by decide

/-- The numbers of the lanes and of the rows of a tile. -/
abbrev lanes : IVec S16x128 32 := iota .tc S16x128 32 [1] iota_S16x128_d1_w32
abbrev rows : IVec S16x128 32 := iota .tc S16x128 32 [0] iota_S16x128_d0_w32

/-- The slabs of the sequences, together. -/
def Out8 (sq : Fin 24 → Seq F) : S24x64x71.Idx → Elt F .bf16 := fun i => (sq (i 0)).out8 (ix3 0 (i 1) (i 2))
def Out9 (sq : Fin 24 → Seq F) : S24x64x71.Idx → Elt F .fp8e4m3 := fun i => (sq (i 0)).out9 (ix3 0 (i 1) (i 2))
def Out10 (sq : Fin 24 → Seq F) : S24x128.Idx → Elt F .f32 := fun i => (sq (i 0)).out10 (ix2 0 (i 1))

theorem glue3 {α : Type} {n a b : ℕ} {X : (⟨3, ![n, a, b]⟩ : Shape).Idx → α} {o : Fin n → (⟨3, ![1, a, b]⟩ : Shape).Idx → α} (h : ∀ s, Sl3 X s = o s) :
    X = fun i => o (i 0) (ix3 0 (i 1) (i 2)) := by
  funext i
  have e := congrFun (h (i 0)) (ix3 0 (i 1) (i 2))
  refine Eq.trans (congrArg X ?_) e
  funext d
  fin_cases d <;> rfl
theorem glue2 {α : Type} {n b : ℕ} {X : (⟨2, ![n, b]⟩ : Shape).Idx → α} {o : Fin n → (⟨2, ![1, b]⟩ : Shape).Idx → α} (h : ∀ s, Sl2 b le_rfl X s = o s) :
    X = fun i => o (i 0) (ix2 0 (i 1)) := by
  funext i
  have e := congrFun (h (i 0)) (ix2 0 (i 1))
  refine Eq.trans (congrArg X ?_) e
  funext d
  fin_cases d <;> rfl

variable (arg0 arg1 arg2 arg3 arg4 arg5 arg6 arg7 arg8 arg9 arg10 arg11 arg12 arg13 arg14 f3 q0 q1 q2 q4 q5 q6 q7 Tab Len Pool Qv Mv Cv Sv) in
/-- What holds before trip `k`: the first `k` slabs of each result are done. -/
def Inv (k : ℕ) : sProp 𝕄 :=
  iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b)
    ∗ (∃ X, owns (c : Thread nD τ) arg8 fullShare (e := .bf16) X ∗ ⌜∀ s : Fin 24, s.val < k → Sl3 X s = (seqOf c (arg3 := arg3) f3 Tab Len Pool Qv Mv Cv Sv lanes rows s).out8⌝)
    ∗ (∃ X, owns (c : Thread nD τ) arg9 fullShare (e := .fp8e4m3) X ∗ ⌜∀ s : Fin 24, s.val < k → Sl3 X s = (seqOf c (arg3 := arg3) f3 Tab Len Pool Qv Mv Cv Sv lanes rows s).out9⌝)
    ∗ (∃ X, owns (c : Thread nD τ) arg10 fullShare (e := .f32) X ∗ ⌜∀ s : Fin 24, s.val < k → Sl2 128 le_rfl X s = (seqOf c (arg3 := arg3) f3 Tab Len Pool Qv Mv Cv Sv lanes rows s).out10⌝))

theorem done_succ {k : Fin 24} {β : Type} {Y X : Fin 24 → β} {o : Fin 24 → β} (hX : ∀ s : Fin 24, s.val < k.val → X s = o s) (hk : Y k = o k) (hY : ∀ t ≠ k, Y t = X t) :
    ∀ s : Fin 24, s.val < k.val + 1 → Y s = o s := by
  intro s hs
  by_cases e : s = k
  · rw [e, hk]
  · rw [hY s e]
    exact hX s (by have : s.val ≠ k.val := fun h => e (Fin.ext h); omega)

set_option backward.isDefEq.respectTransparency.types false in
theorem trip (hT : ∀ y, (Tab y).toNat < 61440) (hL : ∀ y, (Len y).toInt ≤ 32768) (k : Fin k0_t1_loop.trips) :
    Inv c arg0 arg1 arg2 arg3 arg4 arg5 arg6 arg7 arg8 arg9 arg10 arg11 arg12 arg13 arg14 f3 q0 q1 q2 q4 q5 q6 q7 Tab Len Pool Qv Mv Cv Sv k.val ⊢ wpb (F := F) c (k0_t1_body arg0 harg0 arg1 harg1 arg2 harg2 arg3 harg3 arg4 harg4 arg5 harg5 arg6 harg6 arg7 harg7 arg8 harg8 arg9 harg9 arg10 harg10 arg11 harg11 arg12 harg12 arg13 harg13 arg14 lanes rows k ()) (fun _ => Inv c arg0 arg1 arg2 arg3 arg4 arg5 arg6 arg7 arg8 arg9 arg10 arg11 arg12 arg13 arg14 f3 q0 q1 q2 q4 q5 q6 q7 Tab Len Pool Qv Mv Cv Sv (k.val + 1)) := by
  unfold k0_t1_body Inv
  iintro ⟨HA, HR, HI, HM, ⟨%X8, H8, %h8⟩, ⟨%X9, H9, %h9⟩, ⟨%X10, H10, %h10⟩⟩
  iapply (bind_wpb c)
  iapply (wand_wpb c) $$ [HA HR HI HM H8 H9 H10]
  · iapply (part110 c lanes rows _ _ k hT hL (X8 := X8) (X9 := X9) (X10 := X10) (w8 := Sl3 (n := 24) X8 k) (w9 := Sl3 (n := 24) X9 k) (w10 := Sl2 (n := 24) 128 le_rfl X10 k))
    isplitl [HA]; · iexact HA
    isplitl [HR]; · iexact HR
    isplitl [HI]; · iexact HI
    isplitl [HM]; · iexact HM
    isplitl [H8]; · iapply (slab3_any c (n := 24)) $$ H8
    isplitl [H9]; · iapply (slab3_any c (n := 24)) $$ H9
    iapply (slab2_any c (n := 24)) $$ H10
  iintro %_ ⟨HA, HR, HI, HM, H8, H9, H10⟩
  iapply (ret_wpb c)
  unfold Slab3 Slab2
  icases H8 with ⟨%Y8, H8, %e8⟩
  icases H9 with ⟨%Y9, H9, %e9⟩
  icases H10 with ⟨%Y10, H10, %e10⟩
  isplitl [HA]; · iexact HA
  isplitl [HR]; · iexact HR
  isplitl [HI]; · iexact HI
  isplitl [HM]; · iexact HM
  isplitl [H8]
  · iexists Y8
    isplitl [H8]; · iexact H8
    ipureintro; exact done_succ (k := k) (X := fun s => Sl3 (n := 24) X8 s) (Y := fun s => Sl3 (n := 24) Y8 s) h8 e8.1 e8.2
  isplitl [H9]
  · iexists Y9
    isplitl [H9]; · iexact H9
    ipureintro; exact done_succ (k := k) (X := fun s => Sl3 (n := 24) X9 s) (Y := fun s => Sl3 (n := 24) Y9 s) h9 e9.1 e9.2
  iexists Y10
  isplitl [H10]; · iexact H10
  ipureintro; exact done_succ (k := k) (X := fun s => Sl2 (n := 24) 128 le_rfl X10 s) (Y := fun s => Sl2 (n := 24) 128 le_rfl Y10 s) h10 e10.1 e10.2

/-- The kernel, on its operands at known contents. -/
theorem kernel_run (hT : ∀ y, (Tab y).toNat < 61440) (hL : ∀ y, (Len y).toInt ≤ 32768) :
    iprop(Amb c arg0 arg1 arg2 arg11 q0 q1 q2 Tab Len Pool ∗ RingIdle c arg3 arg12 arg14 f3 ∗ Ins c arg4 arg5 arg6 arg7 q4 q5 q6 q7 Qv Mv Cv Sv ∗ (∃ X, owns (c : Thread nD τ) arg13 fullShare (e := .f32) X) ∗ (∃ X, owns (c : Thread nD τ) arg8 fullShare (e := .bf16) X)
      ∗ (∃ X, owns (c : Thread nD τ) arg9 fullShare (e := .fp8e4m3) X) ∗ (∃ X, owns (c : Thread nD τ) arg10 fullShare (e := .f32) X))
    ⊢ wpb (F := F) c (cc0_attend arg0 harg0 arg1 harg1 arg2 harg2 arg3 harg3 arg4 harg4 arg5 harg5 arg6 harg6 arg7 harg7 arg8 harg8 arg9 harg9 arg10 harg10 arg11 harg11 arg12 harg12 arg13 harg13 arg14)
      (fun _ => iprop(Amb c arg0 arg1 arg2 arg11 q0 q1 q2 Tab Len Pool ∗ RingIdle c arg3 arg12 arg14 f3 ∗ Ins c arg4 arg5 arg6 arg7 q4 q5 q6 q7 Qv Mv Cv Sv ∗ (∃ X, owns (c : Thread nD τ) arg13 fullShare (e := .f32) X)
        ∗ owns (c : Thread nD τ) arg8 fullShare (e := .bf16) (Out8 (seqOf c (arg3 := arg3) f3 Tab Len Pool Qv Mv Cv Sv lanes rows))
        ∗ owns (c : Thread nD τ) arg9 fullShare (e := .fp8e4m3) (Out9 (seqOf c (arg3 := arg3) f3 Tab Len Pool Qv Mv Cv Sv lanes rows))
        ∗ owns (c : Thread nD τ) arg10 fullShare (e := .f32) (Out10 (seqOf c (arg3 := arg3) f3 Tab Len Pool Qv Mv Cv Sv lanes rows)))) := by
  rw [cc0_attend_eq_skeleton]
  unfold cc0_attend_skel
  dsimp only
  iintro ⟨HA, HR, HI, ⟨%X13, HM⟩, ⟨%X8, H8⟩, ⟨%X9, H9⟩, ⟨%X10, H10⟩⟩
  iapply (bind_wpb c)
  iapply (wand_wpb c) $$ [HA HR HI HM H8 H9 H10]
  · iapply (Scf.wp_for frame (wpE (defs₀ (F := F)) Variants.none (c : Thread nD τ) none) Set.univ _ _ _ k0_t1_ok () _
      (fun k _ => Inv c arg0 arg1 arg2 arg3 arg4 arg5 arg6 arg7 arg8 arg9 arg10 arg11 arg12 arg13 arg14 f3 q0 q1 q2 q4 q5 q6 q7 Tab Len Pool Qv Mv Cv Sv k) (fun k _ => trip c hT hL k))
    isplitl [HA HR HI HM H8 H9 H10]
    · unfold Inv
      isplitl [HA]; · iexact HA
      isplitl [HR]; · iexact HR
      isplitl [HI]; · iexact HI
      isplitl [HM]
      · iexists _, _
        unfold Ml
        iexists X13
        isplitl [HM]; · iexact HM
        ipureintro; exact ⟨rfl, rfl⟩
      isplitl [H8]
      · iexists X8
        isplitl [H8]; · iexact H8
        ipureintro; exact fun s h => absurd h (Nat.not_lt_zero _)
      isplitl [H9]
      · iexists X9
        isplitl [H9]; · iexact H9
        ipureintro; exact fun s h => absurd h (Nat.not_lt_zero _)
      iexists X10
      isplitl [H10]; · iexact H10
      ipureintro; exact fun s h => absurd h (Nat.not_lt_zero _)
    iintro %_ H
    iexact H
  iintro %_ H
  iapply (ret_wpb c)
  rw [show Scf.trips k0_t1_loop.lb k0_t1_loop.ub k0_t1_loop.st = 24 from trips24]
  unfold Inv
  icases H with ⟨HA, HR, HI, HM, ⟨%Y8, H8, %h8⟩, ⟨%Y9, H9, %h9⟩, ⟨%Y10, H10, %h10⟩⟩
  have e8 := glue3 (n := 24) fun s => h8 s s.isLt
  have e9 := glue3 (n := 24) fun s => h9 s s.isLt
  have e10 := glue2 (n := 24) fun s => h10 s s.isLt
  subst e8 e9 e10
  isplitl [HA]; · iexact HA
  isplitl [HR]; · iexact HR
  isplitl [HI]; · iexact HI
  isplitl [HM]
  · unfold Ml
    icases HM with ⟨%a, %b, %Y, HM, -⟩
    iexists Y; iexact HM
  isplitl [H8]; · iexact H8
  isplitl [H9]; · iexact H9
  iexact H10

end Cert.Kernel.Hand
-- ==== Proof.Bits.Run.lean ====
/-
  The whole program: it terminates without fault, every semaphore ends at zero, its arguments end as they were, and its
  three results end at what the kernel's sequences leave.
-/
module

public import proofs.«01_k».proof.Proof.Bits.Whole
public import proofs.«01_k».proof.Proof.Gen.Kernel.Points
public import Idealize.ShloMosaic.Lib.Pipeline.FrameBody
public import Idealize.ShloMosaic.Lib.Pipeline.Value

@[expose] public section

set_option maxRecDepth 16384

noncomputable section

namespace Cert.Kernel.Hand

open Cert.Kernel Cert.Kernel.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to the call -/

/-- The contents of a buffer of device `c` when the call is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The windows: each is its whole array -/

/-- Window `w`'s block at the one point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S24x2048.Idx) : ((cfg0.win 0).blk t).view.emb j = j := by
  obtain ⟨e0, e1⟩ := idx_zero0 t
  funext a; apply Fin.ext
  match a with
  | ⟨0, _⟩ => show win0_0.index t (0 : Fin 2) * 24 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 1) = 0 :=
  (by decide +kernel : ∀ t : Fin grid0.N, _)
theorem emb1 (t : Fin cfg0.N) (j : S24.Idx) : ((cfg0.win 1).blk t).view.emb j = j := by
  have e0 := idx_zero1 t
  funext a; apply Fin.ext
  match a with
  | ⟨0, _⟩ => show win0_1.index t (0 : Fin 1) * 24 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S24x80x64.Idx) : ((cfg0.win 2).blk t).view.emb j = j := by
  obtain ⟨e0, e1, e2⟩ := idx_zero2 t
  funext a; apply Fin.ext
  match a with
  | ⟨0, _⟩ => show win0_2.index t (0 : Fin 3) * 24 + 1 * (j 0).val = (j 0).val; omega
  | ⟨1, _⟩ => show win0_2.index t (1 : Fin 3) * 80 + 1 * (j 1).val = (j 1).val; omega
  | ⟨2, _⟩ => show win0_2.index t (2 : Fin 3) * 64 + 1 * (j 2).val = (j 2).val; omega
theorem iblk2_eq (c : Dev nD) (t : Fin cfg0.N) : iblk m c 2 t = V m c main_arg4 := by
  funext j; show V m c main_arg4 (((cfg0.win 2).blk t).view.emb j) = V m c main_arg4 j; rw [emb2]
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S24x72x128.Idx) : ((cfg0.win 3).blk t).view.emb j = j := by
  obtain ⟨e0, e1, e2⟩ := idx_zero3 t
  funext a; apply Fin.ext
  match a with
  | ⟨0, _⟩ => show win0_3.index t (0 : Fin 3) * 24 + 1 * (j 0).val = (j 0).val; omega
  | ⟨1, _⟩ => show win0_3.index t (1 : Fin 3) * 72 + 1 * (j 1).val = (j 1).val; omega
  | ⟨2, _⟩ => show win0_3.index t (2 : Fin 3) * 128 + 1 * (j 2).val = (j 2).val; omega
theorem iblk3_eq (c : Dev nD) (t : Fin cfg0.N) : iblk m c 3 t = V m c main_arg5 := by
  funext j; show V m c main_arg5 (((cfg0.win 3).blk t).view.emb j) = V m c main_arg5 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S24x64.Idx) : ((cfg0.win 4).blk t).view.emb j = j := by
  obtain ⟨e0, e1⟩ := idx_zero4 t
  funext a; apply Fin.ext
  match a with
  | ⟨0, _⟩ => show win0_4.index t (0 : Fin 2) * 24 + 1 * (j 0).val = (j 0).val; omega
  | ⟨1, _⟩ => show win0_4.index t (1 : Fin 2) * 64 + 1 * (j 1).val = (j 1).val; omega
theorem iblk4_eq (c : Dev nD) (t : Fin cfg0.N) : iblk m c 4 t = V m c main_arg6 := by
  funext j; show V m c main_arg6 (((cfg0.win 4).blk t).view.emb j) = V m c main_arg6 j; rw [emb4]
theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S24x128.Idx) : ((cfg0.win 5).blk t).view.emb j = j := by
  obtain ⟨e0, e1⟩ := idx_zero5 t
  funext a; apply Fin.ext
  match a with
  | ⟨0, _⟩ => show win0_5.index t (0 : Fin 2) * 24 + 1 * (j 0).val = (j 0).val; omega
  | ⟨1, _⟩ => show win0_5.index t (1 : Fin 2) * 128 + 1 * (j 1).val = (j 1).val; omega
theorem iblk5_eq (c : Dev nD) (t : Fin cfg0.N) : iblk m c 5 t = V m c main_arg7 := by
  funext j; show V m c main_arg7 (((cfg0.win 5).blk t).view.emb j) = V m c main_arg7 j; rw [emb5]
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb6 (t : Fin cfg0.N) (j : S24x64x71.Idx) : ((cfg0.win 6).blk t).view.emb j = j := by
  obtain ⟨e0, e1, e2⟩ := idx_zero6 t
  funext a; apply Fin.ext
  match a with
  | ⟨0, _⟩ => show win0_6.index t (0 : Fin 3) * 24 + 1 * (j 0).val = (j 0).val; omega
  | ⟨1, _⟩ => show win0_6.index t (1 : Fin 3) * 64 + 1 * (j 1).val = (j 1).val; omega
  | ⟨2, _⟩ => show win0_6.index t (2 : Fin 3) * 71 + 1 * (j 2).val = (j 2).val; omega
theorem cut6_eq (t : Fin cfg0.N) (X : S24x64x71.Idx → Elt F .bf16) : (cfg0.win 6).cut (grid0.coords t) X = ((cfg0.win 6).blk t).view.read (Elt F) X := by
  funext j
  show X j = X (((cfg0.win 6).blk t).view.emb j)
  rw [emb6]
theorem covered6 (i : S24x64x71.Idx) : ∃ t : Fin cfg0.N, (cfg0.win 6).flush t = true ∧ i ∈ ((cfg0.win 6).blk t).view.set :=
  ⟨t0_0, flush0_6 _, by have h := ((cfg0.win 6).blk t0_0).view.emb_mem_set i; rwa [emb6] at h⟩
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (j : S24x64x71.Idx) : ((cfg0.win 7).blk t).view.emb j = j := by
  obtain ⟨e0, e1, e2⟩ := idx_zero7 t
  funext a; apply Fin.ext
  match a with
  | ⟨0, _⟩ => show win0_7.index t (0 : Fin 3) * 24 + 1 * (j 0).val = (j 0).val; omega
  | ⟨1, _⟩ => show win0_7.index t (1 : Fin 3) * 64 + 1 * (j 1).val = (j 1).val; omega
  | ⟨2, _⟩ => show win0_7.index t (2 : Fin 3) * 71 + 1 * (j 2).val = (j 2).val; omega
theorem cut7_eq (t : Fin cfg0.N) (X : S24x64x71.Idx → Elt F .fp8e4m3) : (cfg0.win 7).cut (grid0.coords t) X = ((cfg0.win 7).blk t).view.read (Elt F) X := by
  funext j
  show X j = X (((cfg0.win 7).blk t).view.emb j)
  rw [emb7]
theorem covered7 (i : S24x64x71.Idx) : ∃ t : Fin cfg0.N, (cfg0.win 7).flush t = true ∧ i ∈ ((cfg0.win 7).blk t).view.set :=
  ⟨t0_0, flush0_7 _, by have h := ((cfg0.win 7).blk t0_0).view.emb_mem_set i; rwa [emb7] at h⟩
theorem idx_zero8 : ∀ t : Fin cfg0.N, win0_8.index t (0 : Fin 2) = 0 ∧ win0_8.index t (1 : Fin 2) = 0 :=
  (by decide +kernel : ∀ t : Fin grid0.N, _)
theorem emb8 (t : Fin cfg0.N) (j : S24x128.Idx) : ((cfg0.win 8).blk t).view.emb j = j := by
  obtain ⟨e0, e1⟩ := idx_zero8 t
  funext a; apply Fin.ext
  match a with
  | ⟨0, _⟩ => show win0_8.index t (0 : Fin 2) * 24 + 1 * (j 0).val = (j 0).val; omega
  | ⟨1, _⟩ => show win0_8.index t (1 : Fin 2) * 128 + 1 * (j 1).val = (j 1).val; omega
theorem cut8_eq (t : Fin cfg0.N) (X : S24x128.Idx → Elt F .f32) : (cfg0.win 8).cut (grid0.coords t) X = ((cfg0.win 8).blk t).view.read (Elt F) X := by
  funext j
  show X j = X (((cfg0.win 8).blk t).view.emb j)
  rw [emb8]
theorem covered8 (i : S24x128.Idx) : ∃ t : Fin cfg0.N, (cfg0.win 8).flush t = true ∧ i ∈ ((cfg0.win 8).blk t).view.set :=
  ⟨t0_0, flush0_8 _, by have h := ((cfg0.win 8).blk t0_0).view.emb_mem_set i; rwa [emb8] at h⟩

/-! ## What the kernel owns besides its windows -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3] (by decide) (by decide)]; rfl
def H0 : Finset (Ref sig .tc) := {main_arg3, main_arg2}
theorem H0_sub : H0 ⊆ Pipeline.restRefs sig spec0 := by decide
theorem unstaged_eq (c : Dev nD) :
    (bigSep H0 (fun b => ((c : Thread nD τ).loc b) ↦{fullShare} V m c b) : sProp 𝕄)
      = iprop(((c : Thread nD τ).loc main_arg3 ↦{fullShare} V m c main_arg3) ∗ ((c : Thread nD τ).loc main_arg2 ↦{fullShare} V m c main_arg2)) := by
  rw [BI.bigSep_eq_bigSepL_of_eq [main_arg3, main_arg2] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f))
        ∗ (∃ r, prngReg c r)
        ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
        ∗ iprop(((c : Thread nD τ).loc main_arg3 ↦{fullShare} V m c main_arg3) ∗ ((c : Thread nD τ).loc main_arg2 ↦{fullShare} V m c main_arg2))) := by
  rw [Pipeline.ΦD_eq, scopedRest0_eq, ownSems00_eq, unstaged_eq]

/-! ## The run's data -/

/-- The sequences of the arguments. -/
def Sq (c : Dev nD) : Fin 24 → Seq F :=
  seqOf c (arg3 := Memref.whole main_arg3) (V m c main_arg3) (V m c main_arg0) (V m c main_arg1) (V m c main_arg2) (V m c main_arg4) (V m c main_arg5) (V m c main_arg6) (V m c main_arg7) lanes rows

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Out8 (Sq m c)
    | ⟨7, _⟩ => Out9 (Sq m c)
    | ⟨8, _⟩ => Out10 (Sq m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = Out8 (Sq m c) := by dsimp only [dats]
theorem after0_7 (c : Dev nD) (t : Fin cfg0.N) : (dats m 0 c).after 7 t = Out9 (Sq m c) := by dsimp only [dats]
theorem after0_8 (c : Dev nD) (t : Fin cfg0.N) : (dats m 0 c).after 8 t = Out10 (Sq m c) := by dsimp only [dats]
theorem before0_0 (c : Dev nD) (t : Fin cfg0.N) (d) : (dats m 0 c).before 0 t d = V m c main_arg0 :=
  (((dats m 0 c).before_in_eq_fetched 0 rfl (fun _ => rfl) (fun _ _ _ => rfl) (fun t => by rw [after0_0]; unfold Dat.blockOf iblk; rw [A_eq]; try rfl) t d).trans
    (by unfold Dat.fetched Dat.blockOf; rw [A_eq]; try rfl)).trans (iblk0_eq m c t)
theorem before0_1 (c : Dev nD) (t : Fin cfg0.N) (d) : (dats m 0 c).before 1 t d = V m c main_arg1 :=
  (((dats m 0 c).before_in_eq_fetched 1 rfl (fun _ => rfl) (fun _ _ _ => rfl) (fun t => by rw [after0_1]; unfold Dat.blockOf iblk; rw [A_eq]; try rfl) t d).trans
    (by unfold Dat.fetched Dat.blockOf; rw [A_eq]; try rfl)).trans (iblk1_eq m c t)
theorem before0_2 (c : Dev nD) (t : Fin cfg0.N) (d) : (dats m 0 c).before 2 t d = V m c main_arg4 :=
  (((dats m 0 c).before_in_eq_fetched 2 rfl (fun _ => rfl) (fun _ _ _ => rfl) (fun t => by rw [after0_2]; unfold Dat.blockOf iblk; rw [A_eq]; try rfl) t d).trans
    (by unfold Dat.fetched Dat.blockOf; rw [A_eq]; try rfl)).trans (iblk2_eq m c t)
theorem before0_3 (c : Dev nD) (t : Fin cfg0.N) (d) : (dats m 0 c).before 3 t d = V m c main_arg5 :=
  (((dats m 0 c).before_in_eq_fetched 3 rfl (fun _ => rfl) (fun _ _ _ => rfl) (fun t => by rw [after0_3]; unfold Dat.blockOf iblk; rw [A_eq]; try rfl) t d).trans
    (by unfold Dat.fetched Dat.blockOf; rw [A_eq]; try rfl)).trans (iblk3_eq m c t)
theorem before0_4 (c : Dev nD) (t : Fin cfg0.N) (d) : (dats m 0 c).before 4 t d = V m c main_arg6 :=
  (((dats m 0 c).before_in_eq_fetched 4 rfl (fun _ => rfl) (fun _ _ _ => rfl) (fun t => by rw [after0_4]; unfold Dat.blockOf iblk; rw [A_eq]; try rfl) t d).trans
    (by unfold Dat.fetched Dat.blockOf; rw [A_eq]; try rfl)).trans (iblk4_eq m c t)
theorem before0_5 (c : Dev nD) (t : Fin cfg0.N) (d) : (dats m 0 c).before 5 t d = V m c main_arg7 :=
  (((dats m 0 c).before_in_eq_fetched 5 rfl (fun _ => rfl) (fun _ _ _ => rfl) (fun t => by rw [after0_5]; unfold Dat.blockOf iblk; rw [A_eq]; try rfl) t d).trans
    (by unfold Dat.fetched Dat.blockOf; rw [A_eq]; try rfl)).trans (iblk5_eq m c t)

/-! ## The body -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

theorem sound_body (c : Dev nD) (t : Fin cfg0.N) (hT : ∀ y : S24x2048.Idx, (V m c main_arg0 y).toNat < 61440) (hL : ∀ y : S24.Idx, (V m c main_arg1 y).toInt ≤ 32768) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, iblk0_eq, iblk1_eq, iblk2_eq, iblk3_eq, iblk4_eq, iblk5_eq]
  rw [show (dats m 0 c).Φ t.castSucc = Pipeline.ΦD osem0 spec0 H0 (V m) c from rfl, PhiD0_eq]
  simp only [before0_0, before0_1, before0_2, before0_3, before0_4, before0_5]
  unfold Dat.owesAt Pipeline.owesWithin
  rw [show (dats m 0 c).owed t.castSucc = 0 from rfl, show (dats m 0 c).owed t.succ = 0 from rfl]
  iintro ⟨⟨⟨⟨%x0, HX⟩, HR, ⟨%x2, HM⟩⟩, Hg, HS, ⟨HA, HP⟩⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩⟩
  ihave HR := (ring_in (F := F) c (V m c main_arg3)) $$ [HS HR HA]
  · isplitl [HS]; · iexact HS
    isplitl [HR]; · iexact HR
    iexact HA
  iapply (wand_wpb c) $$ [HX HM HP HR HW B0 B1 B2 B3 B4 B5 B6 B7 B8]
  · iapply (kernel_run c (Tab := V m c main_arg0) (Len := V m c main_arg1) (Pool := V m c main_arg2) (f3 := V m c main_arg3) (Qv := V m c main_arg4) (Mv := V m c main_arg5) (Cv := V m c main_arg6) (Sv := V m c main_arg7)
      (q0 := fullShare) (q1 := fullShare) (q2 := fullShare) (q4 := fullShare) (q5 := fullShare) (q6 := fullShare) (q7 := fullShare) hT hL)
    unfold Amb Ins
    isplitl [HX HP HW B0 B1]
    · isplitl [B0]; · iexact B0
      isplitl [B1]; · iexact B1
      isplitl [HP]; · iapply (Entails.of_eq (owns_whole (c : Thread nD τ) main_arg2 fullShare (V m c main_arg2)).symm) $$ HP
      isplitl [HX]
      · iexists x0
        iapply (Entails.of_eq (owns_whole (c : Thread nD τ) cc0_scratch0 fullShare x0).symm) $$ HX
      iexists W; iexact HW
    isplitl [HR]; · iexact HR
    isplitl [B2 B3 B4 B5]
    · isplitl [B2]; · iexact B2
      isplitl [B3]; · iexact B3
      isplitl [B4]; · iexact B4
      iexact B5
    isplitl [HM]
    · iexists x2
      iapply (Entails.of_eq (owns_whole (c : Thread nD τ) cc0_scratch2 fullShare x2).symm) $$ HM
    isplitl [B6]; · iexists _; iexact B6
    isplitl [B7]; · iexists _; iexact B7
    iexists _; iexact B8
  iintro %_ ⟨HA, HR, HI, ⟨%y2, HM⟩, B6, B7, B8⟩
  unfold Amb Ins
  icases HA with ⟨B0, B1, HP, ⟨%y0, HX⟩, ⟨%W', HW⟩⟩
  icases HI with ⟨B2, B3, B4, B5⟩
  ihave HR := (ring_out (F := F) c (V m c main_arg3)) $$ HR
  icases HR with ⟨HS, HR, HA⟩
  isplitl [HX HR HM Hg HS HA HP]
  · isplitl [HX HR HM]
    · isplitl [HX]
      · iexists y0
        iapply (Entails.of_eq (owns_whole (c : Thread nD τ) cc0_scratch0 fullShare y0)) $$ HX
      isplitl [HR]; · iexact HR
      iexists y2
      iapply (Entails.of_eq (owns_whole (c : Thread nD τ) cc0_scratch2 fullShare y2)) $$ HM
    isplitl [Hg]; · iexact Hg
    isplitl [HS]; · iexact HS
    isplitl [HA]; · iexact HA
    iapply (Entails.of_eq (owns_whole (c : Thread nD τ) main_arg2 fullShare (V m c main_arg2))) $$ HP
  isplitl [HW]
  · iexists W'; isplitr; · ipureintro; exact fun _ _ => Or.inl trivial
    iexact HW
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

theorem defs₀_row (t : Fin cfg0.N) : defs₀ (F := F) .tc cfg0.body (cfg0.bodyArgs t (cfg0.slots t)) = bodyAt0 t := by
  unfold defs₀; rw [Defs.onTc_tc]

theorem body_obligation (c : Dev nD) (hT : ∀ y : S24x2048.Idx, (V m c main_arg0 y).toNat < 61440) (hL : ∀ y : S24.Idx, (V m c main_arg1 y).toInt ≤ 32768) :
    BodyObligation (dats (F := F) m 0 c) (defs₀ (F := F)) Variants.none () Set.univ := fun t => by
  rw [bigSep_W0, bigSep_W0, defs₀_row]
  exact triple_restated (sound_body m c t hT hL) rfl .rfl fun _ => .rfl

/-! ## The run -/

/-- The words the body reads: every page number is one of the pool's, no sequence is longer than its table's row. -/
def InRange : Prop := ∀ c : Dev nD, (∀ y : S24x2048.Idx, (V m c main_arg0 y).toNat < 61440) ∧ ∀ y : S24.Idx, (V m c main_arg1 y).toInt ≤ 32768

set_option backward.isDefEq.respectTransparency.types false in
theorem run_main (h : InRange m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (h c).1 (h c).2).loose) (hshare := fun c => (dats m 0 c).share_full fun _ => rfl)
    (howed := fun _ _ => rfl) (V := V m) (hmain := hmain m Variants.none) (hA := A_eq m)
    (hin := fun _ => .rfl) (hout := fun _ => .rfl)

theorem final6 (c : Dev nD) : (dats m 0 c).arrAt 6 cfg0.N = Out8 (Sq m c) :=
  (dats m 0 c).arrAt_eq_of_cover 6 (Out8 (Sq m c)) (fun t _ => by
    show (cfg0.win 6).cut (grid0.coords t) ((dats m 0 c).after 6 t) = _
    rw [after0_6]
    exact cut6_eq t _) covered6
theorem final7 (c : Dev nD) : (dats m 0 c).arrAt 7 cfg0.N = Out9 (Sq m c) :=
  (dats m 0 c).arrAt_eq_of_cover 7 (Out9 (Sq m c)) (fun t _ => by
    show (cfg0.win 7).cut (grid0.coords t) ((dats m 0 c).after 7 t) = _
    rw [after0_7]
    exact cut7_eq t _) covered7
theorem final8 (c : Dev nD) : (dats m 0 c).arrAt 8 cfg0.N = Out10 (Sq m c) :=
  (dats m 0 c).arrAt_eq_of_cover 8 (Out10 (Sq m c)) (fun t _ => by
    show (cfg0.win 8).cut (grid0.coords t) ((dats m 0 c).after 8 t) = _
    rw [after0_8]
    exact cut8_eq t _) covered8

/-- The run: the results at what the sequences leave, the arguments as they were, every semaphore at zero. -/
theorem run (h : InRange m) : θ_run defs (onTc (τ := τ) (main (F := F))) ⟨m, fun _ => 0, ρ⟩ (fun r => (∀ c : Dev nD,
      (r.2.mem ((c.tc : Thread nD τ).loc main_v0_0) = Out8 (Sq m c)
      ∧ r.2.mem ((c.tc : Thread nD τ).loc main_v0_1) = Out9 (Sq m c)
      ∧ r.2.mem ((c.tc : Thread nD τ).loc main_v0_2) = Out10 (Sq m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨⟨((h.1 c).1 6).trans (final6 m c), ((h.1 c).1 7).trans (final7 m c), ((h.1 c).1 8).trans (final8 m c)⟩,
      ((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide)),
      (h.1 c).2 main_arg3 (Pipeline.mem_restRefs_of main_arg3 (by decide) (by decide)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5))⟩, h.2⟩) (run_main m ρ h)

/-- The frame. -/
theorem frame_run (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run m ρ h)

end Cert.Kernel.Hand
-- ==== Proof.Ideal.Ring.lean ====
/-
  The ring of four slots the scales arrive in, and the rules by which a body steps its memory operations:
  a load and a store of a buffer owned at known contents, the start of a transfer into a free slot, the wait for it,
  and the loads of the landed slot.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.ValueLayout
public import Idealize.ShloMosaic.Lib.Tactic

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The user algebra: the pipeline library's beside the transfers' counters. -/
local notation "𝕄" => MT nD τ sig Unit (Elt F) ℕ (Pipeline.UD sig nD τ) ℕ

/-- The counters' place in the algebra. -/
abbrev EC : UEmb Counters 𝕄 := countersEmb (U := Pipeline.UD sig nD τ)

/-- Weakest precondition of a program of the body. -/
abbrev wpb {α : Type} (c : Dev nD) (p : Prog (TpuEff nD τ sig (Elt F) Λ₀ .tc) α) (Q : α → sProp 𝕄) : sProp 𝕄 :=
  wp frame (wpE (defs₀ (F := F)) Variants.none (c : Thread nD τ) ((none : Option Variants.none.V))) Set.univ p Q

variable (c : Dev nD) {α : Type} {Q : α → sProp (MT nD τ sig Unit (Elt F) ℕ (Pipeline.UD sig nD τ) ℕ)}

/-! ## A buffer owned at known contents -/

theorem load_owns {cs : CoreSpace} {s : Shape} {e : EltTy} {m : Memref sig .tc cs s e} {r : LoadRect s} {hl : m.view.LoadsAt r}
    {k : (r.shape.Idx → Elt F e) → Prog (TpuEff nD τ sig (Elt F) Λ₀ .tc) α} {q : PosShare TreeShare} {X : s.Idx → Elt F e} :
    (owns (c : Thread nD τ) m q X : sProp 𝕄) ⊢ iprop((owns (c : Thread nD τ) m q X -∗ wpb c (k fun x => X (r.idx x)) Q)
      -∗ wpb c (.op (.load m r hl) k) Q) := by
  unfold owns wpb
  iintro ⟨%f, %hf, H⟩ Hk
  iapply (wp_load (c := (c : Thread nD τ)) (m := m) (r := r) Variants.none none Set.univ
    (show m.view.setOn r.set ⊆ m.view.set from Finset.map_subset_map.2 (Finset.subset_univ _))) $$ H
  iintro H
  have h : m.view.readAt (Elt F) r f = fun x => X (r.idx x) := by
    subst hf; rfl
  rw [h]
  iapply Hk
  iexists f
  isplitr; · ipureintro; exact hf
  iexact H

theorem store_owns {cs : CoreSpace} {s : Shape} {e : EltTy} {m : Memref sig .tc cs s e} {r : Rect s} {w : r.shape.Idx → Elt F e}
    {hx : (m.access r).Stores Finset.univ} {hm}
    {k : PUnit → Prog (TpuEff nD τ sig (Elt F) Λ₀ .tc) α} {X : s.Idx → Elt F e} :
    (owns (c : Thread nD τ) m fullShare X : sProp 𝕄) ⊢ iprop((owns (c : Thread nD τ) m fullShare (r.overlay X w) -∗ wpb c (k ⟨⟩) Q)
      -∗ wpb c (.op (.store m r w Finset.univ hx hm) k) Q) := by
  unfold owns wpb
  iintro ⟨%f, %hf, H⟩ Hk
  iapply (wp_store (c := (c : Thread nD τ)) (m := m) (r := r) Variants.none none Set.univ
    (show (m.access r).setOn Finset.univ ⊆ m.view.set from m.view.set_slice_subset r)) $$ H
  iintro H
  iapply Hk
  iexists _
  isplitr
  swap; · iexact H
  ipureintro
  funext j
  subst hf
  by_cases hj : j ∈ r.set
  · obtain ⟨i, rfl⟩ := r.exists_idx_of_mem hj
    change _ = r.overlay _ w (r.emb i)
    rw [Rect.overlay_emb]
    exact View.read_write_of_mem (v := m.access r) (Val := Elt F) f w (x := i) (Finset.mem_univ _)
  · rw [Rect.overlay_of_not_mem _ _ _ hj]
    rw [View.read_apply, View.read_apply]
    refine congrArg (cast _) (View.write_of_not_mem (v := m.access r) _ _ _ ?_)
    show m.view.emb j ∉ (m.view.slice r).set
    rw [View.set_slice, Finset.mem_map' m.view.emb]; exact hj

theorem smem_owns {s : Shape} {e : EltTy} {m : Memref sig .tc .smem s e} {r : Rect s} {h1 : r.shape.numel = 1} {hp}
    {k : Elt F e → Prog (TpuEff nD τ sig (Elt F) Λ₀ .tc) α} {q : PosShare TreeShare} {X : s.Idx → Elt F e} :
    (owns (c : Thread nD τ) m q X : sProp 𝕄) ⊢ iprop((owns (c : Thread nD τ) m q X -∗ wpb c (k (X (r.point h1))) Q)
      -∗ wpb c ((smemLoad m r h1 hp).bind k) Q) := by
  have := load_owns (F := F) (Q := Q) c (m := m) (r := r.toLoadRect) (q := q) (X := X) (hl := View.loadsAt_rect (View.loads_smem_one hp h1)) (k := fun f => k (f (Shape.Idx.first (h1.symm ▸ Nat.one_pos))))
  exact this

/-! ## The ring -/

section Ring

variable (arg3 : Memref sig .tc .hbm S32x49152 .f32) (arg12 : Memref sig .tc .vmem S4x32x128 .f32) (arg14 : DmaSems sig S4)

/-- Slot `j` of the ring, a block of 32 rows. -/
abbrev slotR (j : Fin 4) : Rect S4x32x128 := Rect.unit (s := S4x32x128) ![j.val, 0, 0] S1x32x128.size (by revert j; decide)
/-- Slot `j` as the transfers name it. -/
abbrev slotM (j : Fin 4) : Memref sig .tc .vmem S32x128 .f32 := (arg12.slice (slotR j) (fun _ => rfl)).squeeze S32x128 squeezes_S1x32x128_S32x128
/-- Block `b` of the gathered scales: 128 columns. -/
abbrev blkR (b : Fin 384) : Rect S32x49152 := Rect.unit (s := S32x49152) ![0, 128 * b.val] S32x128.size
  (by intro a; obtain ⟨b, hb⟩ := b; fin_cases a; · show 0 + 32 ≤ 32; decide
      show 128 * b + 128 ≤ 49152; omega)
/-- Block `b` as the transfers name it. -/
abbrev blkM (b : Fin 384) : Memref sig .tc .hbm S32x128 .f32 := arg3.slice (blkR b) (fun _ => rfl)
/-- Slot `j`'s semaphore. -/
abbrev semJ (j : Fin 4) : DmaSem sig := ((arg14.slice (Rect.unit (s := S4) ![j.val] S1.size (by revert j; decide))).squeeze S_ squeezes_S1_S_).sem

/-- The share of the scales slot `j`'s transfers read through. -/
def qs (j : Fin 4) : PosShare TreeShare :=
  match j with
  | 0 => fullShare.left.left
  | 1 => fullShare.left.right
  | 2 => fullShare.right.left
  | 3 => fullShare.right.right

variable (f3 : Buf (Elt F) (arg3.view.loc (c : Thread nD τ)))

/-- Slot `j` with nothing under way: its semaphore at zero, its elements at some contents, its share of the scales. -/
def Free (j : Fin 4) : sProp 𝕄 :=
  iprop(semVal ((c : Thread nD τ), SemLoc.dma (semJ arg14 j)) 0
    ∗ (∃ f, (slotM arg12 j).view.loc (c : Thread nD τ) ↦[(slotM arg12 j).view.set]{fullShare} f)
    ∗ (arg3.view.loc (c : Thread nD τ) ↦[arg3.view.set]{qs j} f3))

/-- Slot `j` with block `b` of the scales under way. -/
def Busy (j : Fin 4) (b : Fin 384) : sProp 𝕄 :=
  iprop((∃ fd, Transfers.Flight EC (c : Thread nD τ) (SemLoc.dma (semJ arg14 j)) () (slotM arg12 j).view.dmaCredit
      iprop(((slotM arg12 j).view.loc (c : Thread nD τ) ↦[(slotM arg12 j).view.set]{fullShare}
          (slotM arg12 j).view.write (Elt F) fd ((blkM arg3 b).view.read (Elt F) f3) Finset.univ)
        ∗ ((blkM arg3 b).view.loc (c : Thread nD τ) ↦[(blkM arg3 b).view.set]{qs j} f3)))
    ∗ (arg3.view.loc (c : Thread nD τ) ↦[arg3.view.set \ (blkM arg3 b).view.set]{qs j} f3))

/-- Slot `j` holding block `b`, its semaphore at zero and its share of the scales back. -/
def Landed (j : Fin 4) (b : Fin 384) : sProp 𝕄 :=
  iprop(semVal ((c : Thread nD τ), SemLoc.dma (semJ arg14 j)) 0
    ∗ owns (c : Thread nD τ) (slotM arg12 j) fullShare (fun x => arg3.view.read (Elt F) f3 ((blkR b).emb x))
    ∗ (arg3.view.loc (c : Thread nD τ) ↦[arg3.view.set]{qs j} f3))

variable {arg3 arg12 arg14 f3}

theorem landed_free (j : Fin 4) (b : Fin 384) : Landed c arg3 arg12 arg14 f3 j b ⊢ Free c arg3 arg12 arg14 f3 j := by
  unfold Landed Free owns
  iintro ⟨Hs, ⟨%f, %hf, H⟩, Ha⟩
  isplitl [Hs]; · iexact Hs
  isplitl [H]; · iexists f; iexact H
  iexact Ha

theorem issue_slot (j : Fin 4) (b : Fin 384) {o1 : Fin 1 → ℕ} {o3 : Fin 3 → ℕ} {o2 : Fin 2 → ℕ} (h1 : o1 = ![j.val]) (h3 : o3 = ![j.val, 0, 0])
    (h2 : o2 = ![0, 128 * b.val]) {i1 i3 i2} {hsrc hdst hsem} {k : PUnit → Prog (TpuEff nD τ sig (Elt F) Λ₀ .tc) α} :
    Free c arg3 arg12 arg14 f3 j ⊢ iprop((Busy c arg3 arg12 arg14 f3 j b -∗ wpb c (k ⟨⟩) Q)
      -∗ wpb c (.op (.enqueueDma (arg3.slice (Rect.unit (s := S32x49152) o2 S32x128.size i2) (fun _ => rfl))
          (.here ((arg12.slice (Rect.unit (s := S4x32x128) o3 S1x32x128.size i3) (fun _ => rfl)).squeeze S32x128 squeezes_S1x32x128_S32x128))
          (.dma ((arg14.slice (Rect.unit (s := S4) o1 S1.size i1)).squeeze S_ squeezes_S1_S_).sem) hsrc hdst hsem) k) Q) := by
  subst h1 h3 h2
  unfold Free wpb
  iintro ⟨Hs, ⟨%fd, Hd⟩, Ha⟩ Hk
  ihave H' := (pointsTo_split_subset (arg3.view.set_slice_subset (blkR b))).1 $$ Ha
  icases H' with ⟨Hb, Hr⟩
  iapply (Transfers.wp_dmaLocal EC Variants.none (c : Thread nD τ) none (src := blkM arg3 b) (dst := slotM arg12 j)
    (sm := SemLoc.dma (semJ arg14 j)) (fs := f3) (fd := fd) () ((slotM arg12 j).view.dmaCredit) rfl (View.dmaCredit_pos _ (by decide)) (Finset.Subset.refl _)) $$ [Hb Hd Hs]
  · isplitl [Hb]; · iexact Hb
    isplitl [Hd]; · iexact Hd
    iexact Hs
  iintro Hf
  iapply Hk
  unfold Busy
  isplitl [Hf]
  · iexists fd; iexact Hf
  iexact Hr

theorem wait_slot (j : Fin 4) (b : Fin 384) {o1 : Fin 1 → ℕ} {o3 : Fin 3 → ℕ} {o2 : Fin 2 → ℕ} (h1 : o1 = ![j.val])
    {i1 i3 i2} {hsrc hdst} {k : PUnit → Prog (TpuEff nD τ sig (Elt F) Λ₀ .tc) α} {W : Waits sig Unit} :
    iprop(Busy c arg3 arg12 arg14 f3 j b ∗ owes (c : Thread nD τ) 0 W) ⊢ iprop((iprop(Landed c arg3 arg12 arg14 f3 j b ∗ ∃ W, owes (c : Thread nD τ) 0 W) -∗ wpb c (k ⟨⟩) Q)
      -∗ wpb c (.op (.waitDma2 ((arg14.slice (Rect.unit (s := S4) o1 S1.size i1)).squeeze S_ squeezes_S1_S_).sem
          (arg3.slice (Rect.unit (s := S32x49152) o2 S32x128.size i2) (fun _ => rfl))
          ((arg12.slice (Rect.unit (s := S4x32x128) o3 S1x32x128.size i3) (fun _ => rfl)).squeeze S32x128 squeezes_S1x32x128_S32x128) hsrc hdst) k) Q) := by
  subst h1
  unfold Busy wpb
  iintro ⟨⟨⟨%fd, Hf⟩, Hr⟩, HW⟩ Hk
  iapply (Transfers.wp_waitLocal EC Variants.none (c : Thread nD τ) none () (by rfl)) $$ [Hf HW]
  · isplitl [Hf]; · iexact Hf
    iexact HW
  iintro ⟨⟨Hd, Hb⟩, Hs, HW⟩
  iapply Hk
  isplitr [HW]
  swap; · iexists _; iexact HW
  unfold Landed
  isplitl [Hs]; · iexact Hs
  isplitl [Hd]
  · unfold owns
    iexists _
    isplitr
    swap; · iexact Hd
    ipureintro
    rw [View.read_write_univ]; rfl
  iapply (pointsTo_split_subset (arg3.view.set_slice_subset (blkR b))).2
  isplitl [Hb]; · iexact Hb
  iexact Hr

/-- A load of 16 rows of a landed slot. -/
theorem load_slot (j : Fin 4) (o : ℕ) (ho : o + 16 ≤ 32) {X : S32x128.Idx → Elt F .f32} {o3 : Fin 3 → ℕ} (h3 : o3 = ![j.val, o, 0]) {i3} {hl}
    {k : (S1x16x128.Idx → Elt F .f32) → Prog (TpuEff nD τ sig (Elt F) Λ₀ .tc) α} :
    (owns (c : Thread nD τ) (slotM arg12 j) fullShare X : sProp 𝕄) ⊢ iprop((owns (c : Thread nD τ) (slotM arg12 j) fullShare X
        -∗ wpb c (k fun x => X (ix2 (Fin.ofNat 32 (o + (x 1).val)) (x 2))) Q)
      -∗ wpb c (.op (.load arg12 (Rect.unit (s := S4x32x128) o3 S1x16x128.size i3).toLoadRect hl) k) Q) := by
  subst h3
  unfold owns wpb
  iintro ⟨%f, %hf, H⟩ Hk
  have hsub : (arg12.access (Rect.unit (s := S4x32x128) ![j.val, o, 0] S1x16x128.size i3)).set ⊆ (slotM arg12 j).view.set := by
    have h1 : (slotM arg12 j).view.set = (slotR j).set.map arg12.view.emb := by
      rw [← View.set_slice]; exact View.set_reshape (v := arg12.view.slice (slotR j)) _
    have h2 : (arg12.access (Rect.unit (s := S4x32x128) ![j.val, o, 0] S1x16x128.size i3)).set
        = (Rect.unit (s := S4x32x128) ![j.val, o, 0] S1x16x128.size i3).set.map arg12.view.emb := View.set_slice _ _
    refine subset_of_eq_of_subset h2 (Finset.Subset.trans ?_ (subset_of_eq h1.symm))
    refine Finset.map_subset_map.2 ?_
    refine Rect.set_subset_of_axis _ _ fun a j₁ hj₁ => ?_
    fin_cases a
    · exact ⟨j₁, hj₁, rfl⟩
    · refine ⟨o + j₁, ?_, ?_⟩
      · have : j₁ < 16 := hj₁
        show o + j₁ < 32; omega
      · show o + 1 * j₁ = 0 + 1 * (o + j₁); omega
    · exact ⟨j₁, hj₁, rfl⟩
  iapply (wp_load_rect (c := (c : Thread nD τ)) Variants.none none Set.univ hsub) $$ H
  iintro H
  have h : (arg12.access (Rect.unit (s := S4x32x128) ![j.val, o, 0] S1x16x128.size i3)).read (Elt F) f = fun x => X (ix2 (Fin.ofNat 32 (o + (x 1).val)) (x 2)) := by
    subst hf
    funext x
    have h16 : (x 1).val < 16 := (x 1).isLt
    have h0 : (x 0).val < 1 := (x 0).isLt
    suffices he : (Rect.unit (s := S4x32x128) ![j.val, o, 0] S1x16x128.size i3).emb x
        = (slotR j).emb (Shape.reshapeEquiv (squeezes_S1x32x128_S32x128).numel_eq (ix2 (Fin.ofNat 32 (o + (x 1).val)) (x 2))) by
      exact congrArg (fun y => arg12.view.read (Elt F) f y) he
    rw [show Shape.reshapeEquiv (squeezes_S1x32x128_S32x128).numel_eq (ix2 (Fin.ofNat 32 (o + (x 1).val)) (x 2)) = ix3 (0 : Fin 1) (Fin.ofNat 32 (o + (x 1).val)) (x 2) from reshapeEquiv_ix2_1ab _ _ _]
    funext a
    apply Fin.ext
    fin_cases a
    · show j.val + 1 * (x 0).val = j.val + 1 * 0; omega
    · show o + 1 * (x 1).val = 0 + 1 * ((o + (x 1).val) % 32); rw [Nat.mod_eq_of_lt (by omega)]; omega
    · rfl
  rw [h]
  iapply Hk
  iexists f
  isplitr; · ipureintro; exact hf
  iexact H

variable (arg3 arg12 arg14 f3)

/-- The role of the slot `d` places after trip `k`'s: with a block under way if the block exists. -/
def role (B nb k d : ℕ) : sProp 𝕄 :=
  if k + d < nb then Busy c arg3 arg12 arg14 f3 (Fin.ofNat 4 (k + d)) (Fin.ofNat 384 (B + (k + d))) else Free c arg3 arg12 arg14 f3 (Fin.ofNat 4 (k + d))

/-- The ring before trip `k` of `nb`, over the blocks from `B`. -/
def RingAt (B nb k : ℕ) : sProp 𝕄 :=
  iprop(role c arg3 arg12 arg14 f3 B nb k 0 ∗ role c arg3 arg12 arg14 f3 B nb k 1
    ∗ role c arg3 arg12 arg14 f3 B nb k 2 ∗ Free c arg3 arg12 arg14 f3 (Fin.ofNat 4 (k + 3)))

/-- The ring with nothing under way. -/
def RingIdle : sProp 𝕄 :=
  iprop(Free c arg3 arg12 arg14 f3 0 ∗ Free c arg3 arg12 arg14 f3 1 ∗ Free c arg3 arg12 arg14 f3 2 ∗ Free c arg3 arg12 arg14 f3 3)

end Ring

end Cert.KernelIdeal.Hand
-- ==== Proof.Ideal.Words.lean ====
/-
  The words of the program's memory operations: how often its loops run, which slot, which block and which row each
  operation names, and the side conditions that follow.
-/
module

public import proofs.«01_k».proof.Proof.Ideal.Ring
public import proofs.«01_k».proof.Proof.Words

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (s : Fin k0_t1_loop.trips) (v6 : BitVec 32)

/-! ## The loops over the blocks -/

theorem loop2_eq : k0_t2_loop v6 = ⟨0#32, nbw v6, 1#32⟩ := loop_all v6
theorem trips2 (h : v6.toInt ≤ 32768) : (k0_t2_loop v6).trips = nb v6 := by rw [loop2_eq]; exact trips_nbw v6 h
theorem ok2 (h : v6.toInt ≤ 32768) : (k0_t2_loop v6).OK := by rw [loop2_eq]; exact ok_all v6 h

theorem loop6_eq : k0_t6_loop v6 = ⟨0#32, nbw v6, 1#32⟩ := loop_all v6
theorem trips6 (h : v6.toInt ≤ 32768) : (k0_t6_loop v6).trips = nb v6 := by rw [loop6_eq]; exact trips_nbw v6 h
theorem ok6 (h : v6.toInt ≤ 32768) : (k0_t6_loop v6).OK := by rw [loop6_eq]; exact ok_all v6 h

theorem loop10_eq : k0_t10_loop v6 = ⟨0#32, nbw v6, 1#32⟩ := loop_all v6
theorem trips10 (h : v6.toInt ≤ 32768) : (k0_t10_loop v6).trips = nb v6 := by rw [loop10_eq]; exact trips_nbw v6 h
theorem ok10 (h : v6.toInt ≤ 32768) : (k0_t10_loop v6).OK := by rw [loop10_eq]; exact ok_all v6 h

theorem loop14_eq : k0_t14_loop v6 = ⟨0#32, nbw v6, 1#32⟩ := loop_all v6
theorem trips14 (h : v6.toInt ≤ 32768) : (k0_t14_loop v6).trips = nb v6 := by rw [loop14_eq]; exact trips_nbw v6 h
theorem ok14 (h : v6.toInt ≤ 32768) : (k0_t14_loop v6).OK := by rw [loop14_eq]; exact ok_all v6 h

theorem loop4_eq : k0_t4_loop v6 = ⟨nbw v6, nbw v6, 1#32⟩ := loop_rest v6
theorem trips4 : (k0_t4_loop v6).trips = 0 := by rw [loop4_eq]; exact trips_rest _
theorem ok4 (h : v6.toInt ≤ 32768) : (k0_t4_loop v6).OK := by rw [loop4_eq]; exact ok_rest v6 h
theorem no4 {P : Prop} (t : Fin (k0_t4_loop v6).trips) : P := (noTrip (trips4 v6) t).elim

theorem loop8_eq : k0_t8_loop v6 = ⟨nbw v6, nbw v6, 1#32⟩ := loop_rest v6
theorem trips8 : (k0_t8_loop v6).trips = 0 := by rw [loop8_eq]; exact trips_rest _
theorem ok8 (h : v6.toInt ≤ 32768) : (k0_t8_loop v6).OK := by rw [loop8_eq]; exact ok_rest v6 h
theorem no8 {P : Prop} (t : Fin (k0_t8_loop v6).trips) : P := (noTrip (trips8 v6) t).elim

theorem loop12_eq : k0_t12_loop v6 = ⟨nbw v6, nbw v6, 1#32⟩ := loop_rest v6
theorem trips12 : (k0_t12_loop v6).trips = 0 := by rw [loop12_eq]; exact trips_rest _
theorem ok12 (h : v6.toInt ≤ 32768) : (k0_t12_loop v6).OK := by rw [loop12_eq]; exact ok_rest v6 h
theorem no12 {P : Prop} (t : Fin (k0_t12_loop v6).trips) : P := (noTrip (trips12 v6) t).elim

theorem loop16_eq : k0_t16_loop v6 = ⟨nbw v6, nbw v6, 1#32⟩ := loop_rest v6
theorem trips16 : (k0_t16_loop v6).trips = 0 := by rw [loop16_eq]; exact trips_rest _
theorem ok16 (h : v6.toInt ≤ 32768) : (k0_t16_loop v6).OK := by rw [loop16_eq]; exact ok_rest v6 h
theorem no16 {P : Prop} (t : Fin (k0_t16_loop v6).trips) : P := (noTrip (trips16 v6) t).elim

/-! ## The words of the offsets -/

section
variable (v : BitVec 32) (k2 : Fin (k0_t2_loop v6).trips) (k6 : Fin (k0_t6_loop v6).trips) (k10 : Fin (k0_t10_loop v6).trips) (k14 : Fin (k0_t14_loop v6).trips) (r3 : Fin k0_t3_loop.trips) (r7 : Fin k0_t7_loop.trips) (r11 : Fin k0_t11_loop.trips) (r15 : Fin k0_t15_loop.trips)

theorem k0_off1_eq : k0_off1 s = ![s.val] :=
  congrArg (fun n => ![n]) (w_s _ s.isLt)
theorem k0_off22_eq : k0_off22 s = ![s.val] :=
  congrArg (fun n => ![n]) (w_s _ s.isLt)
theorem k0_off61_eq : k0_off61 s = ![s.val] :=
  congrArg (fun n => ![n]) (w_s _ s.isLt)
theorem k0_off94_eq : k0_off94 s = ![s.val] :=
  congrArg (fun n => ![n]) (w_s _ s.isLt)
theorem k0_off129_eq : k0_off129 s = ![s.val] :=
  congrArg (fun n => ![n]) (w_s _ s.isLt)
theorem k0_off2_eq : k0_off2 s = ![s.val, 0, 0] :=
  congrArg (fun n => ![n, 0, 0]) (w_s _ s.isLt)
theorem k0_off3_eq : k0_off3 s = ![s.val, 0, 0] :=
  congrArg (fun n => ![n, 0, 0]) (w_s _ s.isLt)
theorem k0_off37_eq : k0_off37 s = ![s.val, 0, 0] :=
  congrArg (fun n => ![n, 0, 0]) (w_s _ s.isLt)
theorem k0_off40_eq : k0_off40 s = ![s.val, 0, 0] :=
  congrArg (fun n => ![n, 0, 0]) (w_s _ s.isLt)
theorem k0_off42_eq : k0_off42 s = ![s.val, 0, 0] :=
  congrArg (fun n => ![n, 0, 0]) (w_s _ s.isLt)
theorem k0_off109_eq : k0_off109 s = ![s.val, 0, 0] :=
  congrArg (fun n => ![n, 0, 0]) (w_s _ s.isLt)
theorem k0_off110_eq : k0_off110 s = ![s.val, 0, 0] :=
  congrArg (fun n => ![n, 0, 0]) (w_s _ s.isLt)
theorem k0_off146_eq : k0_off146 s = ![s.val, 0, 0] :=
  congrArg (fun n => ![n, 0, 0]) (w_s _ s.isLt)
theorem k0_off38_eq : k0_off38 s = ![s.val, 0] :=
  congrArg (fun n => ![n, 0]) (w_s _ s.isLt)
theorem k0_off39_eq : k0_off39 s = ![s.val, 0] :=
  congrArg (fun n => ![n, 0]) (w_s _ s.isLt)
theorem k0_off41_eq : k0_off41 s = ![s.val, 0] :=
  congrArg (fun n => ![n, 0]) (w_s _ s.isLt)
theorem k0_off144_eq : k0_off144 s = ![s.val, 0] :=
  congrArg (fun n => ![n, 0]) (w_s _ s.isLt)
theorem k0_off145_eq : k0_off145 s = ![s.val, 0] :=
  congrArg (fun n => ![n, 0]) (w_s _ s.isLt)
theorem k0_off147_eq : k0_off147 s = ![s.val, 0] :=
  congrArg (fun n => ![n, 0]) (w_s _ s.isLt)
theorem k0_off4_eq : k0_off4  = ![(Fin.ofNat 4 0).val] := rfl
theorem k0_off43_eq : k0_off43  = ![(Fin.ofNat 4 0).val] := rfl
theorem k0_off76_eq : k0_off76  = ![(Fin.ofNat 4 0).val] := rfl
theorem k0_off111_eq : k0_off111  = ![(Fin.ofNat 4 0).val] := rfl
theorem k0_off5_eq : k0_off5  = ![(Fin.ofNat 4 0).val, 0, 0] := rfl
theorem k0_off44_eq : k0_off44  = ![(Fin.ofNat 4 0).val, 0, 0] := rfl
theorem k0_off77_eq : k0_off77  = ![(Fin.ofNat 4 0).val, 0, 0] := rfl
theorem k0_off112_eq : k0_off112  = ![(Fin.ofNat 4 0).val, 0, 0] := rfl
theorem k0_off6_eq : k0_off6 s = ![0, 128 * (Fin.ofNat 384 (16 * s.val + 0)).val] :=
  congrArg (fun n => ![0, n]) (w_sb _ s.isLt 0 (by decide))
theorem k0_off45_eq : k0_off45 s = ![0, 128 * (Fin.ofNat 384 (16 * s.val + 0)).val] :=
  congrArg (fun n => ![0, n]) (w_sb _ s.isLt 0 (by decide))
theorem k0_off78_eq : k0_off78 s = ![0, 128 * (Fin.ofNat 384 (16 * s.val + 0)).val] :=
  congrArg (fun n => ![0, n]) (w_sb _ s.isLt 0 (by decide))
theorem k0_off113_eq : k0_off113 s = ![0, 128 * (Fin.ofNat 384 (16 * s.val + 0)).val] :=
  congrArg (fun n => ![0, n]) (w_sb _ s.isLt 0 (by decide))
theorem k0_off7_eq : k0_off7  = ![(Fin.ofNat 4 1).val] := rfl
theorem k0_off46_eq : k0_off46  = ![(Fin.ofNat 4 1).val] := rfl
theorem k0_off79_eq : k0_off79  = ![(Fin.ofNat 4 1).val] := rfl
theorem k0_off114_eq : k0_off114  = ![(Fin.ofNat 4 1).val] := rfl
theorem k0_off8_eq : k0_off8  = ![(Fin.ofNat 4 1).val, 0, 0] := rfl
theorem k0_off47_eq : k0_off47  = ![(Fin.ofNat 4 1).val, 0, 0] := rfl
theorem k0_off80_eq : k0_off80  = ![(Fin.ofNat 4 1).val, 0, 0] := rfl
theorem k0_off115_eq : k0_off115  = ![(Fin.ofNat 4 1).val, 0, 0] := rfl
theorem k0_off9_eq : k0_off9 s = ![0, 128 * (Fin.ofNat 384 (16 * s.val + 1)).val] :=
  congrArg (fun n => ![0, n]) (w_sb _ s.isLt 1 (by decide))
theorem k0_off48_eq : k0_off48 s = ![0, 128 * (Fin.ofNat 384 (16 * s.val + 1)).val] :=
  congrArg (fun n => ![0, n]) (w_sb _ s.isLt 1 (by decide))
theorem k0_off81_eq : k0_off81 s = ![0, 128 * (Fin.ofNat 384 (16 * s.val + 1)).val] :=
  congrArg (fun n => ![0, n]) (w_sb _ s.isLt 1 (by decide))
theorem k0_off116_eq : k0_off116 s = ![0, 128 * (Fin.ofNat 384 (16 * s.val + 1)).val] :=
  congrArg (fun n => ![0, n]) (w_sb _ s.isLt 1 (by decide))
theorem k0_off10_eq : k0_off10  = ![(Fin.ofNat 4 2).val] := rfl
theorem k0_off49_eq : k0_off49  = ![(Fin.ofNat 4 2).val] := rfl
theorem k0_off82_eq : k0_off82  = ![(Fin.ofNat 4 2).val] := rfl
theorem k0_off117_eq : k0_off117  = ![(Fin.ofNat 4 2).val] := rfl
theorem k0_off11_eq : k0_off11  = ![(Fin.ofNat 4 2).val, 0, 0] := rfl
theorem k0_off50_eq : k0_off50  = ![(Fin.ofNat 4 2).val, 0, 0] := rfl
theorem k0_off83_eq : k0_off83  = ![(Fin.ofNat 4 2).val, 0, 0] := rfl
theorem k0_off118_eq : k0_off118  = ![(Fin.ofNat 4 2).val, 0, 0] := rfl
theorem k0_off12_eq : k0_off12 s = ![0, 128 * (Fin.ofNat 384 (16 * s.val + 2)).val] :=
  congrArg (fun n => ![0, n]) (w_sb _ s.isLt 2 (by decide))
theorem k0_off51_eq : k0_off51 s = ![0, 128 * (Fin.ofNat 384 (16 * s.val + 2)).val] :=
  congrArg (fun n => ![0, n]) (w_sb _ s.isLt 2 (by decide))
theorem k0_off84_eq : k0_off84 s = ![0, 128 * (Fin.ofNat 384 (16 * s.val + 2)).val] :=
  congrArg (fun n => ![0, n]) (w_sb _ s.isLt 2 (by decide))
theorem k0_off119_eq : k0_off119 s = ![0, 128 * (Fin.ofNat 384 (16 * s.val + 2)).val] :=
  congrArg (fun n => ![0, n]) (w_sb _ s.isLt 2 (by decide))
theorem k0_off13_eq (hk : k2.val < 16) : k0_off13 v6 k2 = ![(Fin.ofNat 4 (k2.val + 3)).val] :=
  congrArg (fun n => ![n]) (w_k3 _ hk)
theorem k0_off52_eq (hk : k6.val < 16) : k0_off52 v6 k6 = ![(Fin.ofNat 4 (k6.val + 3)).val] :=
  congrArg (fun n => ![n]) (w_k3 _ hk)
theorem k0_off85_eq (hk : k10.val < 16) : k0_off85 v6 k10 = ![(Fin.ofNat 4 (k10.val + 3)).val] :=
  congrArg (fun n => ![n]) (w_k3 _ hk)
theorem k0_off120_eq (hk : k14.val < 16) : k0_off120 v6 k14 = ![(Fin.ofNat 4 (k14.val + 3)).val] :=
  congrArg (fun n => ![n]) (w_k3 _ hk)
theorem k0_off14_eq (hk : k2.val < 16) : k0_off14 v6 k2 = ![(Fin.ofNat 4 (k2.val + 3)).val, 0, 0] :=
  congrArg (fun n => ![n, 0, 0]) (w_k3 _ hk)
theorem k0_off53_eq (hk : k6.val < 16) : k0_off53 v6 k6 = ![(Fin.ofNat 4 (k6.val + 3)).val, 0, 0] :=
  congrArg (fun n => ![n, 0, 0]) (w_k3 _ hk)
theorem k0_off86_eq (hk : k10.val < 16) : k0_off86 v6 k10 = ![(Fin.ofNat 4 (k10.val + 3)).val, 0, 0] :=
  congrArg (fun n => ![n, 0, 0]) (w_k3 _ hk)
theorem k0_off121_eq (hk : k14.val < 16) : k0_off121 v6 k14 = ![(Fin.ofNat 4 (k14.val + 3)).val, 0, 0] :=
  congrArg (fun n => ![n, 0, 0]) (w_k3 _ hk)
theorem k0_off15_eq (hk : k2.val < 13) : k0_off15 s v6 k2 = ![0, 128 * (Fin.ofNat 384 (16 * s.val + (k2.val + 3))).val] :=
  congrArg (fun n => ![0, n]) (w_sk3 _ s.isLt _ hk)
theorem k0_off54_eq (hk : k6.val < 13) : k0_off54 s v6 k6 = ![0, 128 * (Fin.ofNat 384 (16 * s.val + (k6.val + 3))).val] :=
  congrArg (fun n => ![0, n]) (w_sk3 _ s.isLt _ hk)
theorem k0_off87_eq (hk : k10.val < 13) : k0_off87 s v6 k10 = ![0, 128 * (Fin.ofNat 384 (16 * s.val + (k10.val + 3))).val] :=
  congrArg (fun n => ![0, n]) (w_sk3 _ s.isLt _ hk)
theorem k0_off122_eq (hk : k14.val < 13) : k0_off122 s v6 k14 = ![0, 128 * (Fin.ofNat 384 (16 * s.val + (k14.val + 3))).val] :=
  congrArg (fun n => ![0, n]) (w_sk3 _ s.isLt _ hk)
theorem k0_off16_eq (hk : k2.val < 16) : k0_off16 s v6 k2 r3 = ![s.val, 128 * k2.val + r3.val] :=
  congrArg₂ (fun m n => ![m, n]) (w_s _ s.isLt) (w_kr _ hk _ r3.isLt)
theorem k0_off55_eq (hk : k6.val < 16) : k0_off55 s v6 k6 r7 = ![s.val, 128 * k6.val + r7.val] :=
  congrArg₂ (fun m n => ![m, n]) (w_s _ s.isLt) (w_kr _ hk _ r7.isLt)
theorem k0_off88_eq (hk : k10.val < 16) : k0_off88 s v6 k10 r11 = ![s.val, 128 * k10.val + r11.val] :=
  congrArg₂ (fun m n => ![m, n]) (w_s _ s.isLt) (w_kr _ hk _ r11.isLt)
theorem k0_off123_eq (hk : k14.val < 16) : k0_off123 s v6 k14 r15 = ![s.val, 128 * k14.val + r15.val] :=
  congrArg₂ (fun m n => ![m, n]) (w_s _ s.isLt) (w_kr _ hk _ r15.isLt)
theorem k0_off17_eq (hp : v.toNat < 61440) : k0_off17 v = ![2 * v.toNat, 0] :=
  congrArg (fun n => ![n, 0]) (w_pg _ hp)
theorem k0_off56_eq (hp : v.toNat < 61440) : k0_off56 v = ![2 * v.toNat, 0] :=
  congrArg (fun n => ![n, 0]) (w_pg _ hp)
theorem k0_off89_eq (hp : v.toNat < 61440) : k0_off89 v = ![2 * v.toNat, 0] :=
  congrArg (fun n => ![n, 0]) (w_pg _ hp)
theorem k0_off124_eq (hp : v.toNat < 61440) : k0_off124 v = ![2 * v.toNat, 0] :=
  congrArg (fun n => ![n, 0]) (w_pg _ hp)
theorem k0_off18_eq : k0_off18 r3 = ![2 * r3.val, 0] :=
  congrArg (fun n => ![n, 0]) (w_r _ r3.isLt)
theorem k0_off57_eq : k0_off57 r7 = ![2 * r7.val, 0] :=
  congrArg (fun n => ![n, 0]) (w_r _ r7.isLt)
theorem k0_off90_eq : k0_off90 r11 = ![2 * r11.val, 0] :=
  congrArg (fun n => ![n, 0]) (w_r _ r11.isLt)
theorem k0_off125_eq : k0_off125 r15 = ![2 * r15.val, 0] :=
  congrArg (fun n => ![n, 0]) (w_r _ r15.isLt)
theorem k0_off19_eq (hk : k2.val < 16) : k0_off19 v6 k2 = ![(Fin.ofNat 4 k2.val).val] :=
  congrArg (fun n => ![n]) (w_k _ hk)
theorem k0_off58_eq (hk : k6.val < 16) : k0_off58 v6 k6 = ![(Fin.ofNat 4 k6.val).val] :=
  congrArg (fun n => ![n]) (w_k _ hk)
theorem k0_off91_eq (hk : k10.val < 16) : k0_off91 v6 k10 = ![(Fin.ofNat 4 k10.val).val] :=
  congrArg (fun n => ![n]) (w_k _ hk)
theorem k0_off126_eq (hk : k14.val < 16) : k0_off126 v6 k14 = ![(Fin.ofNat 4 k14.val).val] :=
  congrArg (fun n => ![n]) (w_k _ hk)
theorem k0_off20_eq (hk : k2.val < 16) : k0_off20 v6 k2 = ![(Fin.ofNat 4 k2.val).val, 0, 0] :=
  congrArg (fun n => ![n, 0, 0]) (w_k _ hk)
theorem k0_off59_eq (hk : k6.val < 16) : k0_off59 v6 k6 = ![(Fin.ofNat 4 k6.val).val, 0, 0] :=
  congrArg (fun n => ![n, 0, 0]) (w_k _ hk)
theorem k0_off92_eq (hk : k10.val < 16) : k0_off92 v6 k10 = ![(Fin.ofNat 4 k10.val).val, 0, 0] :=
  congrArg (fun n => ![n, 0, 0]) (w_k _ hk)
theorem k0_off127_eq (hk : k14.val < 16) : k0_off127 v6 k14 = ![(Fin.ofNat 4 k14.val).val, 0, 0] :=
  congrArg (fun n => ![n, 0, 0]) (w_k _ hk)
theorem k0_off21_eq (hk : k2.val < 16) : k0_off21 s v6 k2 = ![0, 128 * (Fin.ofNat 384 (16 * s.val + k2.val)).val] :=
  congrArg (fun n => ![0, n]) (w_sk _ s.isLt _ hk)
theorem k0_off60_eq (hk : k6.val < 16) : k0_off60 s v6 k6 = ![0, 128 * (Fin.ofNat 384 (16 * s.val + k6.val)).val] :=
  congrArg (fun n => ![0, n]) (w_sk _ s.isLt _ hk)
theorem k0_off93_eq (hk : k10.val < 16) : k0_off93 s v6 k10 = ![0, 128 * (Fin.ofNat 384 (16 * s.val + k10.val)).val] :=
  congrArg (fun n => ![0, n]) (w_sk _ s.isLt _ hk)
theorem k0_off128_eq (hk : k14.val < 16) : k0_off128 s v6 k14 = ![0, 128 * (Fin.ofNat 384 (16 * s.val + k14.val)).val] :=
  congrArg (fun n => ![0, n]) (w_sk _ s.isLt _ hk)
theorem k0_off23_eq (hk : k2.val < 16) : k0_off23 v6 k2 = ![(Fin.ofNat 4 k2.val).val, 0, 0] :=
  congrArg (fun n => ![n, 0, 0]) (w_k _ hk)
theorem k0_off62_eq (hk : k6.val < 16) : k0_off62 v6 k6 = ![(Fin.ofNat 4 k6.val).val, 0, 0] :=
  congrArg (fun n => ![n, 0, 0]) (w_k _ hk)
theorem k0_off95_eq (hk : k10.val < 16) : k0_off95 v6 k10 = ![(Fin.ofNat 4 k10.val).val, 0, 0] :=
  congrArg (fun n => ![n, 0, 0]) (w_k _ hk)
theorem k0_off130_eq (hk : k14.val < 16) : k0_off130 v6 k14 = ![(Fin.ofNat 4 k14.val).val, 0, 0] :=
  congrArg (fun n => ![n, 0, 0]) (w_k _ hk)
theorem k0_off24_eq (hk : k2.val < 16) : k0_off24 v6 k2 = ![(Fin.ofNat 4 k2.val).val, 16, 0] :=
  congrArg (fun n => ![n, 16, 0]) (w_k _ hk)
theorem k0_off63_eq (hk : k6.val < 16) : k0_off63 v6 k6 = ![(Fin.ofNat 4 k6.val).val, 16, 0] :=
  congrArg (fun n => ![n, 16, 0]) (w_k _ hk)
theorem k0_off96_eq (hk : k10.val < 16) : k0_off96 v6 k10 = ![(Fin.ofNat 4 k10.val).val, 16, 0] :=
  congrArg (fun n => ![n, 16, 0]) (w_k _ hk)
theorem k0_off131_eq (hk : k14.val < 16) : k0_off131 v6 k14 = ![(Fin.ofNat 4 k14.val).val, 16, 0] :=
  congrArg (fun n => ![n, 16, 0]) (w_k _ hk)

end

/-! ## Side conditions -/

theorem g1 (j : Fin 4) : ∀ a : Fin 1, (![j.val] : Fin 1 → ℕ) a + S1.size a ≤ S4.size a := by revert j; decide
theorem g3 (j : Fin 4) : ∀ a : Fin 3, (![j.val, 0, 0] : Fin 3 → ℕ) a + S1x32x128.size a ≤ S4x32x128.size a := by revert j; decide
theorem g3a (j : Fin 4) : ∀ a : Fin 3, (![j.val, 0, 0] : Fin 3 → ℕ) a + S1x16x128.size a ≤ S4x32x128.size a := by revert j; decide
theorem g3b (j : Fin 4) : ∀ a : Fin 3, (![j.val, 16, 0] : Fin 3 → ℕ) a + S1x16x128.size a ≤ S4x32x128.size a := by revert j; decide
theorem g2 (b : Fin 384) : ∀ a : Fin 2, (![0, 128 * b.val] : Fin 2 → ℕ) a + S32x128.size a ≤ S32x49152.size a := by
  have := b.isLt
  refine Fin.forall_fin_two.2 ⟨(by decide : 0 + 32 ≤ 32), ?_⟩
  show 128 * b.val + 128 ≤ 49152
  omega
theorem gt (s k r : ℕ) (hs : s < 24) (hk : k < 16) (hr : r < 128) : ∀ a : Fin 2, (![s, 128 * k + r] : Fin 2 → ℕ) a + S1x1.size a ≤ S24x2048.size a := by
  refine Fin.forall_fin_two.2 ⟨?_, ?_⟩
  · show s + 1 ≤ 24; omega
  · show 128 * k + r + 1 ≤ 2048; omega
theorem gp (p : ℕ) (hp : p < 61440) : ∀ a : Fin 2, (![2 * p, 0] : Fin 2 → ℕ) a + S2x128.size a ≤ S122880x128.size a := by
  refine Fin.forall_fin_two.2 ⟨?_, (by decide : 0 + 128 ≤ 128)⟩
  show 2 * p + 2 ≤ 122880; omega

theorem lt2 (h : v6.toInt ≤ 32768) (k : Fin (k0_t2_loop v6).trips) : k.val < nb v6 := trips2 v6 h ▸ k.isLt
theorem cond4_iff (h : v6.toInt ≤ 32768) (k : Fin (k0_t2_loop v6).trips) : k0_cond4 v6 k = 1#1 ↔ k.val + 3 < nb v6 := next_iff v6 h (lt2 v6 h k)
theorem lt16_2 (h : v6.toInt ≤ 32768) (k : Fin (k0_t2_loop v6).trips) : k.val < 16 := lt_of_lt_of_le (lt2 v6 h k) (nb_le v6 h)
theorem lt13_2 (h : v6.toInt ≤ 32768) (k : Fin (k0_t2_loop v6).trips) (hc : k0_cond4 v6 k = 1#1) : k.val < 13 := by
  have h1 := (cond4_iff v6 h k).1 hc
  have h2 := nb_le v6 h
  omega

theorem lt6 (h : v6.toInt ≤ 32768) (k : Fin (k0_t6_loop v6).trips) : k.val < nb v6 := trips6 v6 h ▸ k.isLt
theorem cond11_iff (h : v6.toInt ≤ 32768) (k : Fin (k0_t6_loop v6).trips) : k0_cond11 v6 k = 1#1 ↔ k.val + 3 < nb v6 := next_iff v6 h (lt6 v6 h k)
theorem lt16_6 (h : v6.toInt ≤ 32768) (k : Fin (k0_t6_loop v6).trips) : k.val < 16 := lt_of_lt_of_le (lt6 v6 h k) (nb_le v6 h)
theorem lt13_6 (h : v6.toInt ≤ 32768) (k : Fin (k0_t6_loop v6).trips) (hc : k0_cond11 v6 k = 1#1) : k.val < 13 := by
  have h1 := (cond11_iff v6 h k).1 hc
  have h2 := nb_le v6 h
  omega

theorem lt10 (h : v6.toInt ≤ 32768) (k : Fin (k0_t10_loop v6).trips) : k.val < nb v6 := trips10 v6 h ▸ k.isLt
theorem cond16_iff (h : v6.toInt ≤ 32768) (k : Fin (k0_t10_loop v6).trips) : k0_cond16 v6 k = 1#1 ↔ k.val + 3 < nb v6 := next_iff v6 h (lt10 v6 h k)
theorem lt16_10 (h : v6.toInt ≤ 32768) (k : Fin (k0_t10_loop v6).trips) : k.val < 16 := lt_of_lt_of_le (lt10 v6 h k) (nb_le v6 h)
theorem lt13_10 (h : v6.toInt ≤ 32768) (k : Fin (k0_t10_loop v6).trips) (hc : k0_cond16 v6 k = 1#1) : k.val < 13 := by
  have h1 := (cond16_iff v6 h k).1 hc
  have h2 := nb_le v6 h
  omega

theorem lt14 (h : v6.toInt ≤ 32768) (k : Fin (k0_t14_loop v6).trips) : k.val < nb v6 := trips14 v6 h ▸ k.isLt
theorem cond21_iff (h : v6.toInt ≤ 32768) (k : Fin (k0_t14_loop v6).trips) : k0_cond21 v6 k = 1#1 ↔ k.val + 3 < nb v6 := next_iff v6 h (lt14 v6 h k)
theorem lt16_14 (h : v6.toInt ≤ 32768) (k : Fin (k0_t14_loop v6).trips) : k.val < 16 := lt_of_lt_of_le (lt14 v6 h k) (nb_le v6 h)
theorem lt13_14 (h : v6.toInt ≤ 32768) (k : Fin (k0_t14_loop v6).trips) (hc : k0_cond21 v6 k = 1#1) : k.val < 13 := by
  have h1 := (cond21_iff v6 h k).1 hc
  have h2 := nb_le v6 h
  omega

theorem chk1_of (h : v6.toInt ≤ 32768) : k0_chk1 s v6 :=
  ⟨ok2 v6 h,
    fun k h' => dvd_of (w_sk3 _ s.isLt _ (lt13_2 v6 h k h')),
    fun k _ => inb_of (k0_off13_eq v6 k (lt16_2 v6 h k)) (g1 _),
    fun k _ => inb_of (k0_off14_eq v6 k (lt16_2 v6 h k)) (g3 _),
    fun k h' => inb_of (k0_off15_eq s v6 k (lt13_2 v6 h k h')) (g2 _),
    fun k r => inb_of (k0_off16_eq s v6 k r (lt16_2 v6 h k)) (gt _ _ _ s.isLt (lt16_2 v6 h k) r.isLt),
    fun k => dvd_of (w_sk _ s.isLt _ (lt16_2 v6 h k)),
    fun k => inb_of (k0_off19_eq v6 k (lt16_2 v6 h k)) (g1 _),
    fun k => inb_of (k0_off20_eq v6 k (lt16_2 v6 h k)) (g3 _),
    fun k => inb_of (k0_off21_eq s v6 k (lt16_2 v6 h k)) (g2 _),
    fun k => inb_of (k0_off23_eq v6 k (lt16_2 v6 h k)) (g3a _),
    fun k => inb_of (k0_off24_eq v6 k (lt16_2 v6 h k)) (g3b _),
    ok4 v6 h,
    fun t _ => no4 v6 t,
    fun t _ => no4 v6 t,
    fun t _ => no4 v6 t,
    fun t _ => no4 v6 t,
    fun t _ => no4 v6 t,
    fun t => no4 v6 t,
    fun t => no4 v6 t,
    fun t => no4 v6 t,
    fun t => no4 v6 t,
    fun t => no4 v6 t,
    fun t => no4 v6 t⟩

theorem chk4_0_of (v179 v189 v200 : BitVec 1) (h : v6.toInt ≤ 32768) : k0_chk4_0 s v6 v179 v189 v200 :=
  ⟨fun _ _ => ok6 v6 h,
    fun k _ _ h' => dvd_of (w_sk3 _ s.isLt _ (lt13_6 v6 h k h')),
    fun k _ _ _ => inb_of (k0_off52_eq v6 k (lt16_6 v6 h k)) (g1 _),
    fun k _ _ _ => inb_of (k0_off53_eq v6 k (lt16_6 v6 h k)) (g3 _),
    fun k _ _ h' => inb_of (k0_off54_eq s v6 k (lt13_6 v6 h k h')) (g2 _),
    fun k r _ _ => inb_of (k0_off55_eq s v6 k r (lt16_6 v6 h k)) (gt _ _ _ s.isLt (lt16_6 v6 h k) r.isLt),
    fun k _ _ => dvd_of (w_sk _ s.isLt _ (lt16_6 v6 h k)),
    fun k _ _ => inb_of (k0_off58_eq v6 k (lt16_6 v6 h k)) (g1 _),
    fun k _ _ => inb_of (k0_off59_eq v6 k (lt16_6 v6 h k)) (g3 _),
    fun k _ _ => inb_of (k0_off60_eq s v6 k (lt16_6 v6 h k)) (g2 _),
    fun k _ _ => inb_of (k0_off62_eq v6 k (lt16_6 v6 h k)) (g3a _),
    fun k _ _ => inb_of (k0_off63_eq v6 k (lt16_6 v6 h k)) (g3b _),
    fun _ _ => ok8 v6 h,
    fun t _ _ _ => no8 v6 t,
    fun t _ _ _ => no8 v6 t,
    fun t _ _ _ => no8 v6 t,
    fun t _ _ _ => no8 v6 t,
    fun t _ _ _ => no8 v6 t,
    fun t _ _ => no8 v6 t,
    fun t _ _ => no8 v6 t,
    fun t _ _ => no8 v6 t,
    fun t _ _ => no8 v6 t,
    fun t _ _ => no8 v6 t,
    fun t _ _ => no8 v6 t,
    fun _ _ => ok10 v6 h,
    fun k _ _ h' => dvd_of (w_sk3 _ s.isLt _ (lt13_10 v6 h k h')),
    fun k _ _ _ => inb_of (k0_off85_eq v6 k (lt16_10 v6 h k)) (g1 _),
    fun k _ _ _ => inb_of (k0_off86_eq v6 k (lt16_10 v6 h k)) (g3 _),
    fun k _ _ h' => inb_of (k0_off87_eq s v6 k (lt13_10 v6 h k h')) (g2 _),
    fun k r _ _ => inb_of (k0_off88_eq s v6 k r (lt16_10 v6 h k)) (gt _ _ _ s.isLt (lt16_10 v6 h k) r.isLt),
    fun k _ _ => dvd_of (w_sk _ s.isLt _ (lt16_10 v6 h k)),
    fun k _ _ => inb_of (k0_off91_eq v6 k (lt16_10 v6 h k)) (g1 _)⟩

theorem chk4_1_of (v179 v189 v200 : BitVec 1) (h : v6.toInt ≤ 32768) : k0_chk4_1 s v6 v179 v189 v200 :=
  ⟨fun k _ _ => inb_of (k0_off92_eq v6 k (lt16_10 v6 h k)) (g3 _),
    fun k _ _ => inb_of (k0_off93_eq s v6 k (lt16_10 v6 h k)) (g2 _),
    fun k _ _ => inb_of (k0_off95_eq v6 k (lt16_10 v6 h k)) (g3a _),
    fun k _ _ => inb_of (k0_off96_eq v6 k (lt16_10 v6 h k)) (g3b _),
    fun _ _ => ok12 v6 h,
    fun t _ _ _ => no12 v6 t,
    fun t _ _ _ => no12 v6 t,
    fun t _ _ _ => no12 v6 t,
    fun t _ _ _ => no12 v6 t,
    fun t _ _ _ => no12 v6 t,
    fun t _ _ => no12 v6 t,
    fun t _ _ => no12 v6 t,
    fun t _ _ => no12 v6 t,
    fun t _ _ => no12 v6 t,
    fun t _ _ => no12 v6 t,
    fun t _ _ => no12 v6 t,
    fun _ => ok14 v6 h,
    fun k _ h' => dvd_of (w_sk3 _ s.isLt _ (lt13_14 v6 h k h')),
    fun k _ _ => inb_of (k0_off120_eq v6 k (lt16_14 v6 h k)) (g1 _),
    fun k _ _ => inb_of (k0_off121_eq v6 k (lt16_14 v6 h k)) (g3 _),
    fun k _ h' => inb_of (k0_off122_eq s v6 k (lt13_14 v6 h k h')) (g2 _),
    fun k r _ => inb_of (k0_off123_eq s v6 k r (lt16_14 v6 h k)) (gt _ _ _ s.isLt (lt16_14 v6 h k) r.isLt),
    fun k _ => dvd_of (w_sk _ s.isLt _ (lt16_14 v6 h k)),
    fun k _ => inb_of (k0_off126_eq v6 k (lt16_14 v6 h k)) (g1 _),
    fun k _ => inb_of (k0_off127_eq v6 k (lt16_14 v6 h k)) (g3 _),
    fun k _ => inb_of (k0_off128_eq s v6 k (lt16_14 v6 h k)) (g2 _),
    fun k _ => inb_of (k0_off130_eq v6 k (lt16_14 v6 h k)) (g3a _),
    fun k _ => inb_of (k0_off131_eq v6 k (lt16_14 v6 h k)) (g3b _),
    fun _ => ok16 v6 h,
    fun t _ _ => no16 v6 t,
    fun t _ _ => no16 v6 t,
    fun t _ _ => no16 v6 t⟩

theorem chk4_2_of (v179 v189 v200 : BitVec 1) (h : v6.toInt ≤ 32768) : k0_chk4_2 s v6 v179 v189 v200 :=
  ⟨fun t _ _ => no16 v6 t,
    fun t _ _ => no16 v6 t,
    fun t _ => no16 v6 t,
    fun t _ => no16 v6 t,
    fun t _ => no16 v6 t,
    fun t _ => no16 v6 t,
    fun t _ => no16 v6 t,
    fun t _ => no16 v6 t⟩

theorem chk4_of (v179 v189 v200 : BitVec 1) (h : v6.toInt ≤ 32768) : k0_chk4 s v6 v179 v189 v200 :=
  ⟨chk4_0_of s v6 v179 v189 v200 h, chk4_1_of s v6 v179 v189 v200 h, chk4_2_of s v6 v179 v189 v200 h⟩

theorem chk2_of (v943 : BitVec 32) (hp : v943.toNat < 61440) : k0_chk2 v943 := inb_of (k0_off17_eq v943 hp) (gp _ hp)
theorem chk5_of (v179 v189 v200 : BitVec 1) (v839 : BitVec 32) (hp : v839.toNat < 61440) : k0_chk5 v179 v189 v200 v839 := fun _ _ => inb_of (k0_off56_eq v839 hp) (gp _ hp)
theorem chk7_of (v179 v189 v200 : BitVec 1) (v1151 : BitVec 32) (hp : v1151.toNat < 61440) : k0_chk7 v179 v189 v200 v1151 := fun _ _ => inb_of (k0_off89_eq v1151 hp) (gp _ hp)
theorem chk9_of (v179 v189 v200 : BitVec 1) (v1100 : BitVec 32) (hp : v1100.toNat < 61440) : k0_chk9 v179 v189 v200 v1100 := fun _ => inb_of (k0_off124_eq v1100 hp) (gp _ hp)

end Cert.KernelIdeal.Hand
-- ==== Proof.Ideal.Step.lean ====
/-
  The steps a body takes at the ring and at the page rows: the ring's advance by one trip, the conditional start of a
  transfer, and the loop that fetches the 128 page rows of a trip.
-/
module

public import proofs.«01_k».proof.Proof.Ideal.Words

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

section Ring

variable {arg3 : Memref sig .tc .hbm S32x49152 .f32} {arg12 : Memref sig .tc .vmem S4x32x128 .f32} {arg14 : DmaSems sig S4}
variable {f3 : Buf (Elt F) (arg3.view.loc (c : Thread nD τ))}

theorem role_next (B n k d : ℕ) : role c arg3 arg12 arg14 f3 B n k (d + 1) = role c arg3 arg12 arg14 f3 B n (k + 1) d := by
  unfold role; rw [show k + (d + 1) = k + 1 + d by omega]

theorem role_busy {B n k d : ℕ} (h : k + d < n) : role c arg3 arg12 arg14 f3 B n k d = Busy c arg3 arg12 arg14 f3 (Fin.ofNat 4 (k + d)) (Fin.ofNat 384 (B + (k + d))) := if_pos h

theorem role_free {B n k d : ℕ} (h : ¬ k + d < n) : role c arg3 arg12 arg14 f3 B n k d = Free c arg3 arg12 arg14 f3 (Fin.ofNat 4 (k + d)) := if_neg h

theorem ofNat4 (k : ℕ) : Fin.ofNat 4 (k + 1 + 3) = Fin.ofNat 4 k := Fin.ext (show (k + 1 + 3) % 4 = k % 4 by omega)

/-- The conditional start of the transfer `d` places ahead. -/
theorem issue_role {B n k d : ℕ} {C : Prop} [Decidable C] (hC : C ↔ k + d < n) {o1 : Fin 1 → ℕ} {o3 : Fin 3 → ℕ} {o2 : Fin 2 → ℕ}
    (h1 : C → o1 = ![(Fin.ofNat 4 (k + d)).val]) (h3 : C → o3 = ![(Fin.ofNat 4 (k + d)).val, 0, 0])
    (h2 : C → o2 = ![0, 128 * (Fin.ofNat 384 (B + (k + d))).val])
    {i1 : C → ∀ a, o1 a + S1.size a ≤ S4.size a} {i3 : C → ∀ a, o3 a + S1x32x128.size a ≤ S4x32x128.size a} {i2 : C → ∀ a, o2 a + S32x128.size a ≤ S32x49152.size a}
    {w1 : ∀ h : C, _} {w2 : ∀ h : C, _} {w3 : ∀ h : C, _} {α : Type} {kk : Prog (TpuEff nD τ sig (Elt F) Λ₀ .tc) α} {Q : α → sProp 𝕄} :
    Free c arg3 arg12 arg14 f3 (Fin.ofNat 4 (k + d)) ⊢ iprop((role c arg3 arg12 arg14 f3 B n k d -∗ wpb c kk Q)
      -∗ wpb c (if h : C then (do
          Prog.lift (.enqueueDma (arg3.slice (Rect.unit (s := S32x49152) o2 S32x128.size (i2 h)) (fun _ => rfl))
            (.here ((arg12.slice (Rect.unit (s := S4x32x128) o3 S1x32x128.size (i3 h)) (fun _ => rfl)).squeeze S32x128 squeezes_S1x32x128_S32x128))
            (.dma ((arg14.slice (Rect.unit (s := S4) o1 S1.size (i1 h))).squeeze S_ squeezes_S1_S_).sem) (w1 h) (w2 h) (w3 h))
          kk) else kk) Q) := by
  by_cases h : C
  · rw [dif_pos h, role_busy c (hC.1 h)]
    iintro HF HQ
    iapply (issue_slot c (Fin.ofNat 4 (k + d)) (Fin.ofNat 384 (B + (k + d))) (h1 h) (h3 h) (h2 h)) $$ HF
    iintro HB
    iapply HQ; iexact HB
  · rw [dif_neg h, role_free c (fun hh => h (hC.2 hh))]
    iintro HF HQ
    iapply HQ; iexact HF

/-- The same, at a condition the branches do not name. -/
theorem issue_role' {B n k d : ℕ} {C : Prop} [Decidable C] (hC : C ↔ k + d < n) {o1 : Fin 1 → ℕ} {o3 : Fin 3 → ℕ} {o2 : Fin 2 → ℕ}
    (h1 : o1 = ![(Fin.ofNat 4 (k + d)).val]) (h3 : o3 = ![(Fin.ofNat 4 (k + d)).val, 0, 0])
    (h2 : o2 = ![0, 128 * (Fin.ofNat 384 (B + (k + d))).val]) {i1 i3 i2}
    {w1 w2 w3} {α : Type} {kk : Prog (TpuEff nD τ sig (Elt F) Λ₀ .tc) α} {Q : α → sProp 𝕄} :
    Free c arg3 arg12 arg14 f3 (Fin.ofNat 4 (k + d)) ⊢ iprop((role c arg3 arg12 arg14 f3 B n k d -∗ wpb c kk Q)
      -∗ wpb c (if C then (do
          Prog.lift (.enqueueDma (arg3.slice (Rect.unit (s := S32x49152) o2 S32x128.size i2) (fun _ => rfl))
            (.here ((arg12.slice (Rect.unit (s := S4x32x128) o3 S1x32x128.size i3) (fun _ => rfl)).squeeze S32x128 squeezes_S1x32x128_S32x128))
            (.dma ((arg14.slice (Rect.unit (s := S4) o1 S1.size i1)).squeeze S_ squeezes_S1_S_).sem) w1 w2 w3)
          kk) else kk) Q) := by
  by_cases h : C
  · rw [if_pos h, role_busy c (hC.1 h)]
    iintro HF HQ
    iapply (issue_slot c (Fin.ofNat 4 (k + d)) (Fin.ofNat 384 (B + (k + d))) h1 h3 h2) $$ HF
    iintro HB
    iapply HQ; iexact HB
  · rw [if_neg h, role_free c (fun hh => h (hC.2 hh))]
    iintro HF HQ
    iapply HQ; iexact HF

theorem ring_open {B n k : ℕ} (h : k < n) : RingAt c arg3 arg12 arg14 f3 B n k ⊢ iprop(Busy c arg3 arg12 arg14 f3 (Fin.ofNat 4 k) (Fin.ofNat 384 (B + k))
    ∗ role c arg3 arg12 arg14 f3 B n (k + 1) 0 ∗ role c arg3 arg12 arg14 f3 B n (k + 1) 1 ∗ Free c arg3 arg12 arg14 f3 (Fin.ofNat 4 (k + 3))) := by
  unfold RingAt
  rw [role_busy c (d := 0) h, role_next, role_next]; exact .rfl

theorem ring_close {B n k : ℕ} : iprop(Free c arg3 arg12 arg14 f3 (Fin.ofNat 4 k)
    ∗ role c arg3 arg12 arg14 f3 B n (k + 1) 0 ∗ role c arg3 arg12 arg14 f3 B n (k + 1) 1 ∗ role c arg3 arg12 arg14 f3 B n k 3) ⊢ RingAt c arg3 arg12 arg14 f3 B n (k + 1) := by
  unfold RingAt
  rw [role_next c B n k 2, ofNat4]
  iintro ⟨H0, H1, H2, H3⟩
  isplitl [H1]; · iexact H1
  isplitl [H2]; · iexact H2
  isplitl [H3]; · iexact H3
  iexact H0

theorem ring_end {B n : ℕ} : RingAt c arg3 arg12 arg14 f3 B n n ⊢ RingIdle c arg3 arg12 arg14 f3 := by
  unfold RingAt RingIdle
  rw [role_free c (by omega), role_free c (by omega), role_free c (by omega)]
  have h : n % 4 = 0 ∨ n % 4 = 1 ∨ n % 4 = 2 ∨ n % 4 = 3 := by omega
  rcases h with h | h | h | h
  · rw [show Fin.ofNat 4 (n + 0) = 0 from Fin.ext h, show Fin.ofNat 4 (n + 1) = 1 from Fin.ext (show (n + 1) % 4 = 1 by omega),
      show Fin.ofNat 4 (n + 2) = 2 from Fin.ext (show (n + 2) % 4 = 2 by omega), show Fin.ofNat 4 (n + 3) = 3 from Fin.ext (show (n + 3) % 4 = 3 by omega)]
  · rw [show Fin.ofNat 4 (n + 0) = 1 from Fin.ext h, show Fin.ofNat 4 (n + 1) = 2 from Fin.ext (show (n + 1) % 4 = 2 by omega),
      show Fin.ofNat 4 (n + 2) = 3 from Fin.ext (show (n + 2) % 4 = 3 by omega), show Fin.ofNat 4 (n + 3) = 0 from Fin.ext (show (n + 3) % 4 = 0 by omega)]
    iintro ⟨H1, H2, H3, H0⟩
    isplitl [H0]; · iexact H0
    isplitl [H1]; · iexact H1
    isplitl [H2]; · iexact H2
    iexact H3
  · rw [show Fin.ofNat 4 (n + 0) = 2 from Fin.ext h, show Fin.ofNat 4 (n + 1) = 3 from Fin.ext (show (n + 1) % 4 = 3 by omega),
      show Fin.ofNat 4 (n + 2) = 0 from Fin.ext (show (n + 2) % 4 = 0 by omega), show Fin.ofNat 4 (n + 3) = 1 from Fin.ext (show (n + 3) % 4 = 1 by omega)]
    iintro ⟨H2, H3, H0, H1⟩
    isplitl [H0]; · iexact H0
    isplitl [H1]; · iexact H1
    isplitl [H2]; · iexact H2
    iexact H3
  · rw [show Fin.ofNat 4 (n + 0) = 3 from Fin.ext h, show Fin.ofNat 4 (n + 1) = 0 from Fin.ext (show (n + 1) % 4 = 0 by omega),
      show Fin.ofNat 4 (n + 2) = 1 from Fin.ext (show (n + 2) % 4 = 1 by omega), show Fin.ofNat 4 (n + 3) = 2 from Fin.ext (show (n + 3) % 4 = 2 by omega)]
    iintro ⟨H3, H0, H1, H2⟩
    isplitl [H0]; · iexact H0
    isplitl [H1]; · iexact H1
    isplitl [H2]; · iexact H2
    iexact H3

end Ring

/-! ## The page rows -/

/-- The rows a trip gathers: row `y` of the 256 is row `y % 2` of the page its token block's entry of the table names. -/
def Gat (Tab : S24x2048.Idx → BitVec 32) (Pool : S122880x128.Idx → BitVec 32) (s : Fin 24) (k : ℕ) : S256x128.Idx → BitVec 32 := fun y =>
  Pool (ix2 (Fin.ofNat 122880 (2 * (Tab (ix2 s (Fin.ofNat 2048 (128 * k + (y 0).val / 2)))).toNat + (y 0).val % 2)) (y 1))

/-- Block `b` of the gathered scales. -/
def Blk {arg3 : Memref sig .tc .hbm S32x49152 .f32} (f3 : Buf (Elt F) (arg3.view.loc (c : Thread nD τ))) (b : ℕ) : S32x128.Idx → Elt F .f32 :=
  fun x => arg3.view.read (Elt F) f3 ((blkR (Fin.ofNat 384 b)).emb x)

section Fetch

variable {arg0 : Memref sig .tc .smem S24x2048 .i32} {arg2 : Memref sig .tc .vmem S122880x128 .i32} {arg11 : Memref sig .tc .vmem S256x128 .i32}
variable {q0 q2 : PosShare TreeShare} {Tab : S24x2048.Idx → BitVec 32} {Pool : S122880x128.Idx → BitVec 32}

/-- Before row `r` of a trip: the page rows before it are in place. -/
def Fet (arg0 : Memref sig .tc .smem S24x2048 .i32) (arg2 : Memref sig .tc .vmem S122880x128 .i32) (arg11 : Memref sig .tc .vmem S256x128 .i32)
    (q0 q2 : PosShare TreeShare) (Tab : S24x2048.Idx → BitVec 32) (Pool : S122880x128.Idx → BitVec 32) (s : Fin 24) (k r : ℕ) : sProp 𝕄 :=
  iprop(owns (c : Thread nD τ) arg0 q0 (e := .i32) Tab ∗ owns (c : Thread nD τ) arg2 q2 (e := .i32) Pool
    ∗ ∃ X : S256x128.Idx → BitVec 32, owns (c : Thread nD τ) arg11 fullShare (e := .i32) X ∗ ⌜∀ y, (y 0).val < 2 * r → X y = Gat Tab Pool s k y⌝)

theorem fetch_row (hT : ∀ y, (Tab y).toNat < 61440) (s : Fin 24) (k r : ℕ) (hk : k < 16) (hr : r < 128)
    {o16 o18 : Fin 2 → ℕ} {o17 : BitVec 32 → Fin 2 → ℕ} {chk : BitVec 32 → Prop} {dec : ∀ v, Decidable (chk v)}
    {i17 : ∀ v, chk v → ∀ a, o17 v a + S2x128.size a ≤ S122880x128.size a} {i16 i18}
    (h16 : o16 = ![s.val, 128 * k + r]) (h17 : ∀ v : BitVec 32, v.toNat < 61440 → o17 v = ![2 * v.toNat, 0])
    (hchk : ∀ v : BitVec 32, v.toNat < 61440 → chk v) (h18 : o18 = ![2 * r, 0]) {pay : (S2x128.Idx → BitVec 32) → S2x128.Idx → BitVec 32} (hpay : ∀ v, pay v = v)
    {n1 p1 hl2 hx hm} {hl1 : ∀ (v : BitVec 32) (hw : chk v), arg2.view.LoadsAt (Rect.unit (s := S122880x128) (o17 v) S2x128.size (i17 v hw)).toLoadRect} :
    Fet c arg0 arg2 arg11 q0 q2 Tab Pool s k r ⊢ wpb (F := F) c (do
      let v943 : Elt F .i32 ← smemLoad arg0 (Rect.unit (s := S24x2048) o16 S1x1.size i16) n1 p1
      have hw : chk v943 := (← Prog.lift (TpuEff.assume (chk v943) (dec v943))).down
      let v946 : Vec F S2x128 .i32 ← Prog.lift (.load arg2 (Rect.unit (s := S122880x128) (o17 v943) S2x128.size (i17 v943 hw)).toLoadRect (hl1 v943 hw))
      let v949 : Vec F S2x128 .i32 ← Prog.lift (.load arg11 (Rect.unit (s := S256x128) o18 S2x128.size i18).toLoadRect hl2)
      Prog.lift (.store arg11 (Rect.unit (s := S256x128) o18 S2x128.size i18) (pay v946) Finset.univ hx hm)
      pure ⟨⟩) (fun (_ : Unit) => Fet c arg0 arg2 arg11 q0 q2 Tab Pool s k (r + 1)) := by
  subst h16 h18
  unfold Fet
  iintro ⟨H0, H2, ⟨%X, H11, %hX⟩⟩
  iapply (smem_owns c) $$ H0
  iintro H0
  have hpt : (Rect.unit (s := S24x2048) ![s.val, 128 * k + r] S1x1.size i16).point n1 = ix2 s (Fin.ofNat 2048 (128 * k + r)) := by
    have h1 : ∀ x : S1x1.Idx, (Rect.unit (s := S24x2048) ![s.val, 128 * k + r] S1x1.size i16).emb x = ix2 s (Fin.ofNat 2048 (128 * k + r)) := by
      intro x
      have hx0 : (x 0).val < 1 := (x 0).isLt
      have hx1 : (x 1).val < 1 := (x 1).isLt
      funext a
      apply Fin.ext
      fin_cases a
      · show s.val + 1 * (x 0).val = s.val; omega
      · show 128 * k + r + 1 * (x 1).val = (128 * k + r) % 2048; omega
    exact h1 _
  rw [hpt]
  have hp := hT (ix2 s (Fin.ofNat 2048 (128 * k + r)))
  generalize hpv : Tab (ix2 s (Fin.ofNat 2048 (128 * k + r))) = p at hp ⊢
  iapply (wp_assume Variants.none (c : Thread nD τ) none Set.univ (hchk p hp))
  iapply (load_owns c) $$ H2
  iintro H2
  iapply (load_owns c) $$ H11
  iintro H11
  iapply (store_owns c) $$ H11
  iintro H11
  unfold wpb; try dsimp only [Prog.bind]
  sl_step
  isplitl [H0]; · iexact H0
  isplitl [H2]; · iexact H2
  iexists _
  isplitl [H11]; · iexact H11
  ipureintro
  intro y hy
  rw [hpay]
  by_cases hm : y ∈ (Rect.unit (s := S256x128) ![2 * r, 0] S2x128.size i18).set
  · obtain ⟨x, rfl⟩ := (Rect.unit (s := S256x128) ![2 * r, 0] S2x128.size i18).exists_idx_of_mem hm
    change Rect.overlay _ _ _ (Rect.emb _ x) = _
    rw [Rect.overlay_emb]
    have hx0 : (x 0).val < 2 := (x 0).isLt
    have hy0 : ((Rect.unit (s := S256x128) ![2 * r, 0] S2x128.size i18).idx x 0).val = 2 * r + 1 * (x 0).val := rfl
    have hy1 : ((Rect.unit (s := S256x128) ![2 * r, 0] S2x128.size i18).idx x 1).val = 0 + 1 * (x 1).val := rfl
    unfold Gat
    rw [hy0, show (2 * r + 1 * (x 0).val) / 2 = r by omega, show (2 * r + 1 * (x 0).val) % 2 = (x 0).val by omega, hpv]
    refine congrArg Pool ?_
    funext a
    apply Fin.ext
    fin_cases a
    · show (o17 p) 0 + 1 * (x 0).val = (2 * p.toNat + (x 0).val) % 122880
      rw [h17 p hp]
      show 2 * p.toNat + 1 * (x 0).val = _
      omega
    · show (o17 p) 1 + 1 * (x 1).val = _
      rw [h17 p hp]
      show 0 + 1 * (x 1).val = _
      exact hy1.symm
  · rw [Rect.overlay_of_not_mem _ _ _ hm]
    refine hX y ?_
    by_contra hlt
    refine hm (Rect.mem_set_unit.2 (Fin.forall_fin_two.2 ⟨⟨?_, ?_⟩, ⟨Nat.zero_le _, ?_⟩⟩))
    · show 2 * r ≤ (y 0).val; omega
    · show (y 0).val < 2 * r + 2; omega
    · show (y 1).val < 0 + 128
      have : (y 1).val < 128 := (y 1).isLt
      omega

end Fetch

end Cert.KernelIdeal.Hand
-- ==== Proof.Ideal.Trips.lean ====
/-
  The trips of the loops over the blocks of a sequence: each fetches its page rows, waits for its block of scales,
  starts the transfer three blocks ahead and makes one step of its carry.
-/
module

public import proofs.«01_k».proof.Proof.Ideal.Step
public import Idealize.ShloMosaic.Lib.Pipeline.Value

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 : PosShare TreeShare}
  {Tab : S24x2048.Idx → BitVec 32} {Len : S24.Idx → BitVec 32} {Pool : S122880x128.Idx → BitVec 32}

/-- What the loops use beside the ring: the three inputs they read, the buffer of page rows and the right to wait. -/
def Amb (arg0 : Memref sig .tc .smem S24x2048 .i32) (arg1 : Memref sig .tc .smem S24 .i32) (arg2 : Memref sig .tc .vmem S122880x128 .i32) (arg11 : Memref sig .tc .vmem S256x128 .i32)
    (q0 q1 q2 : PosShare TreeShare) (Tab : S24x2048.Idx → BitVec 32) (Len : S24.Idx → BitVec 32) (Pool : S122880x128.Idx → BitVec 32) : sProp 𝕄 :=
  iprop(owns (c : Thread nD τ) arg0 q0 (e := .i32) Tab ∗ owns (c : Thread nD τ) arg1 q1 (e := .i32) Len ∗ owns (c : Thread nD τ) arg2 q2 (e := .i32) Pool
    ∗ (∃ X : S256x128.Idx → BitVec 32, owns (c : Thread nD τ) arg11 fullShare (e := .i32) X) ∗ ∃ W, owes (c : Thread nD τ) 0 W)

/-- In the middle of trip `k`: the page rows are in place, the block of scales has landed, the slot ahead is under way. -/
def Mid (arg0 : Memref sig .tc .smem S24x2048 .i32) (arg1 : Memref sig .tc .smem S24 .i32) (arg2 : Memref sig .tc .vmem S122880x128 .i32) (arg3 : Memref sig .tc .hbm S32x49152 .f32)
    (arg11 : Memref sig .tc .vmem S256x128 .i32) (arg12 : Memref sig .tc .vmem S4x32x128 .f32) (arg14 : DmaSems sig S4) (f3 : Buf (Elt F) (arg3.view.loc (c : Thread nD τ)))
    (q0 q1 q2 : PosShare TreeShare) (Tab : S24x2048.Idx → BitVec 32) (Len : S24.Idx → BitVec 32) (Pool : S122880x128.Idx → BitVec 32) (s : Fin 24) (k B n : ℕ) : sProp 𝕄 :=
  iprop(owns (c : Thread nD τ) arg0 q0 (e := .i32) Tab ∗ owns (c : Thread nD τ) arg1 q1 (e := .i32) Len ∗ owns (c : Thread nD τ) arg2 q2 (e := .i32) Pool
    ∗ owns (c : Thread nD τ) arg11 fullShare (e := .i32) (Gat Tab Pool s k) ∗ (∃ W, owes (c : Thread nD τ) 0 W)
    ∗ Landed c arg3 arg12 arg14 f3 (Fin.ofNat 4 k) (Fin.ofNat 384 (B + k)) ∗ role c arg3 arg12 arg14 f3 B n (k + 1) 0
    ∗ role c arg3 arg12 arg14 f3 B n (k + 1) 1 ∗ role c arg3 arg12 arg14 f3 B n k 3)

theorem bind_wpb {α β : Type} {p : Prog (TpuEff nD τ sig (Elt F) Λ₀ .tc) α} {k : α → Prog (TpuEff nD τ sig (Elt F) Λ₀ .tc) β} {Q : β → sProp 𝕄} :
    wpb c p (fun a => wpb c (k a) Q) ⊢ wpb c (p >>= k) Q := .of_eq (wp_bind _ _ _ _ _ _).symm

theorem ret_wpb {α : Type} {a : α} {Q : α → sProp 𝕄} : Q a ⊢ wpb (F := F) c (Prog.ret a) Q := by
  unfold wpb
  iintro H
  sl_step
  iexact H

theorem wand_wpb {α : Type} {p : Prog (TpuEff nD τ sig (Elt F) Λ₀ .tc) α} {Q Q' : α → sProp 𝕄} :
    wpb c p Q ⊢ iprop((∀ a, Q a -∗ Q' a) -∗ wpb c p Q') := wp_wand _ _ _

theorem point24 {o : Fin 1 → ℕ} {i : ∀ a, o a + S1.size a ≤ S24.size a} {h : (Rect.unit (s := S24) o S1.size i).shape.numel = 1} (s : Fin 24) (ho : o = ![s.val]) :
    (Rect.unit (s := S24) o S1.size i).point h = ix1 s := by
  subst ho
  have h1 : ∀ x : S1.Idx, (Rect.unit (s := S24) ![s.val] S1.size i).emb x = ix1 s := by
    intro x
    have hx0 : (x 0).val < 1 := (x 0).isLt
    funext a
    apply Fin.ext
    fin_cases a
    show s.val + 1 * (x 0).val = s.val; omega
  exact h1 _

/-! ## The trips of loop 2 -/

theorem fetch2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (c0_i32_18 : BitVec 32) (c1_i32_20 : BitVec 32) (t2 : Fin (k0_t2_loop v6).trips) (h6 : v6.toInt ≤ 32768) :
    Fet c arg0 arg2 arg11 q0 q2 Tab Pool t1 t2.val 0 ⊢ wpb (F := F) c
      (Scf.Loop.for k0_t3_loop k0_t3_ok (⟨⟩ : PUnit) (k0_t3_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 c0_i32_18 c1_i32_20 t2))
      (fun _ => Fet c arg0 arg2 arg11 q0 q2 Tab Pool t1 t2.val 128) := by
  refine BIBase.Entails.trans ?_ (Scf.wp_for frame (wpE (defs₀ (F := F)) Variants.none (c : Thread nD τ) none) Set.univ _ _ _ k0_t3_ok (⟨⟩ : PUnit) _
    (fun r _ => Fet c arg0 arg2 arg11 q0 q2 Tab Pool t1 t2.val r) ?_)
  · iintro H
    isplitl [H]
    · iexact H
    iintro %_ H
    iexact H
  · intro r u
    unfold k0_t3_body
    exact fetch_row c hT t1 t2.val r.val (lt16_2 v6 h6 t2) r.isLt (chk := fun v => k0_chk2 v) (dec := fun v => k0_chk2.dec v) (i17 := fun v hv => k0_off17_inb v hv)
      (k0_off16_eq _ _ _ _ (lt16_2 v6 h6 t2)) (fun v hp => k0_off17_eq v hp) (fun v hp => chk2_of v hp) (k0_off18_eq _)
      (fun v => shapeCast_self _ _)

set_option backward.isDefEq.respectTransparency.types false in
theorem open2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (c0_i32_18 : BitVec 32) (c1_i32_20 : BitVec 32) (t2 : Fin (k0_t2_loop v6).trips) (h6 : v6.toInt ≤ 32768) :
    iprop((Amb c arg0 arg1 arg2 arg11 q0 q1 q2 Tab Len Pool) ∗ RingAt c arg3 arg12 arg14 f3 (16 * t1.val) (nb v6) t2.val) ⊢ wpb (F := F) c
      (k0_part1 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 c0_i32_18 c1_i32_20 t2)
      (fun r => iprop(⌜r = ⟨k0_pay2 (F := F) v0 v1 v6 c0_i32_18 c1_i32_20 t2 (Len (ix1 t1)), k0_pay3 (F := F) v0 v1 v6 c0_i32_18 c1_i32_20 t2 (Len (ix1 t1)) (fun x : S1x16x128.Idx => Blk c (arg3 := arg3) f3 (16 * t1.val + t2.val) (ix2 (Fin.ofNat 32 (0 + (x 1).val)) (x 2)))⟩⌝ ∗ (Mid c arg0 arg1 arg2 arg3 arg11 arg12 arg14 f3 q0 q1 q2 Tab Len Pool t1 t2.val (16 * t1.val) (nb v6)))) := by
  have h16 := lt16_2 v6 h6 t2
  have hlt := lt2 v6 h6 t2
  rw [k0_part1_eq_skeleton]
  unfold k0_part1_skel
  refine BIBase.Entails.trans (sep_mono_right (ring_open c hlt)) ?_
  unfold Amb
  iintro ⟨⟨H0, H1, H2, H11, HW⟩, HB, HR0, HR1, HF⟩
  iapply (issue_role c (B := 16 * t1.val) (cond4_iff v6 h6 t2) (fun h => k0_off13_eq _ _ h16) (fun h => k0_off14_eq _ _ h16) (fun h => k0_off15_eq _ _ _ (lt13_2 v6 h6 t2 h))) $$ HF
  iintro HR2
  iapply (bind_wpb c)
  iapply (wand_wpb c) $$ [H0 H2 H11]
  · iapply (fetch2 c hT (q0 := q0) (q2 := q2) (Pool := Pool) v0 v1 t1 v4 v6 k0_hw1 v24 c0_i32_18 c1_i32_20 t2 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t2.val := funext fun y => hX y (y 0).isLt
  subst hX'
  icases HW with ⟨%W, HW⟩
  iapply (wait_slot c (arg3 := arg3) (f3 := f3) (Fin.ofNat 4 t2.val) (Fin.ofNat 384 (16 * t1.val + t2.val)) (k0_off19_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t2.val) 0 (by decide) (k0_off23_eq _ _ h16)) $$ HL2
  iintro HL2
  iapply (ret_wpb c)
  isplitr
  · ipureintro
    rw [show (Rect.unit (s := S24) (k0_off22 t1) S1.size (k0_off22_inb t1)).point numel1_S1 = ix1 t1 from point24 _ (k0_off22_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more2 (t1 : Fin k0_t1_loop.trips) (v6 : Elt F .i32) (k0_hw1 : k0_chk1 t1 v6) (v30 : FVec F S80x64 .bf16) (t2 : Fin (k0_t2_loop v6).trips) (v232 : IVec S16x128 1) (v239 : FVec F S16x128 .f32) (h6 : v6.toInt ≤ 32768) :
    (Mid c arg0 arg1 arg2 arg3 arg11 arg12 arg14 f3 q0 q1 q2 Tab Len Pool t1 t2.val (16 * t1.val) (nb v6)) ⊢ wpb (F := F) c
      (k0_part2 arg0 harg0 arg1 harg1 arg2 harg2 arg3 harg3 arg4 harg4 arg5 harg5 arg6 harg6 arg7 harg7 arg8 harg8 arg9 harg9 arg10 harg10 arg11 harg11 arg12 harg12 arg13 harg13 arg14 t1 v6 k0_hw1 v30 t2 v232 v239)
      (fun r => iprop(⌜r = ⟨k0_pay4 (F := F) v232 (fun x : S1x16x128.Idx => Blk c (arg3 := arg3) f3 (16 * t1.val + t2.val) (ix2 (Fin.ofNat 32 (16 + (x 1).val)) (x 2))), k0_pay5 (F := F) (fun x => Gat Tab Pool t1 t2.val ((⟨![0, 0], S128x128.size, ![2, 1], inb_S256x128_S128x128_0_0_s_2_1⟩ : LoadRect S256x128).idx x)), k0_pay6 (F := F) (fun x => Gat Tab Pool t1 t2.val ((⟨![1, 0], S128x128.size, ![2, 1], inb_S256x128_S128x128_1_0_s_2_1⟩ : LoadRect S256x128).idx x)), k0_pay7 (F := F) v30 v239 (fun x => Gat Tab Pool t1 t2.val ((⟨![0, 0], S128x128.size, ![2, 1], inb_S256x128_S128x128_0_0_s_2_1⟩ : LoadRect S256x128).idx x)), k0_pay8 v232⟩⌝ ∗ (Mid c arg0 arg1 arg2 arg3 arg11 arg12 arg14 f3 q0 q1 q2 Tab Len Pool t1 t2.val (16 * t1.val) (nb v6)))) := by
  have h16 := lt16_2 v6 h6 t2
  rw [k0_part2_eq_skeleton]
  unfold k0_part2_skel Mid Landed
  iintro ⟨H0, H1, H2, H11, HW, ⟨HL1, HL2, HL3⟩, HR⟩
  iapply (load_slot c (Fin.ofNat 4 t2.val) 16 (by decide) (k0_off24_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 2 makes of its carry: the block's scales `SC`, its page rows `G`, the length `len`. -/
def step2 (v0 : IVec S16x128 32) (v1 : IVec S16x128 32) (v6 : Elt F .i32) (v30 : FVec F S80x64 .bf16) (v31 : FVec F S72x256 .f32) (t2 : Fin (k0_t2_loop v6).trips) (G : S256x128.Idx → BitVec 32) (SC : S32x128.Idx → Elt F .f32) (len : BitVec 32) : FVec F S72x128 .f32 × FVec F S64x72 .f32 → FVec F S72x128 .f32 × FVec F S64x72 .f32 := fun (arg17, arg18) =>
  let v230 := len
  let v234 := (fun x : S1x16x128.Idx => SC (ix2 (Fin.ofNat 32 (0 + (x 1).val)) (x 2)))
  let v232 := k0_pay2 (F := F) v0 v1 v6 0#32 1#32 t2 v230
  let v239 := k0_pay3 (F := F) v0 v1 v6 0#32 1#32 t2 v230 v234
  let v241 := (fun x : S1x16x128.Idx => SC (ix2 (Fin.ofNat 32 (16 + (x 1).val)) (x 2)))
  let v245 := (fun x => G ((⟨![0, 0], S128x128.size, ![2, 1], inb_S256x128_S128x128_0_0_s_2_1⟩ : LoadRect S256x128).idx x))
  let v247 := (fun x => G ((⟨![1, 0], S128x128.size, ![2, 1], inb_S256x128_S128x128_1_0_s_2_1⟩ : LoadRect S256x128).idx x))
  let v244 := k0_pay4 (F := F) v232 v241
  let v246 := k0_pay5 (F := F) v245
  let v248 := k0_pay6 (F := F) v247
  let v284 := k0_pay7 (F := F) v30 v239 v245
  let v287 := k0_pay8 v232
  let v336 := iota .tc S8x8x128 32 [1] iota_S8x8x128_d1_w32
  let v297 := k0_pay10 (F := F) v31 arg17 v284 v287
  let v334 := k0_pay11 (F := F) v31 arg18 v244 v248 v284 v287
  let v339 := k0_pay12 v246
  let v391 := iota .tc S8x8x128 32 [1] iota_S8x8x128_d1_w32
  let v383 := k0_pay14 (F := F) v30 v31 v232 v239 v246 v297 v336 v339
  let v389 := k0_pay15 (F := F) v30 v31 v232 v239 v244 v246 v336 v339
  let v390 := k0_pay16 v248
  let v436 := iota .tc S8x8x128 32 [1] iota_S8x8x128_d1_w32
  let v420 := k0_pay17 (F := F) v248 v334 v389 v390 v391
  let v434 := k0_pay18 (F := F) v246
  let v439 := k0_pay19 v246
  let v440 := k0_pay20
  let v491 := iota .tc S8x8x128 32 [1] iota_S8x8x128_d1_w32
  let v469 := k0_pay22 (F := F) v30 v31 v232 v239 v383 v434 v436 v439 v440
  let v475 := k0_pay23 (F := F) v30 v31 v232 v239 v244 v434 v436 v439 v440
  let v489 := k0_pay24 (F := F) v248
  let v493 := k0_pay25 v248
  let v506 := k0_pay26 (F := F) v420 v475 v489 v491 v493
  let v542 := k0_pay27 (F := F) v30 v239 v246
  let v594 := iota .tc S8x8x128 32 [1] iota_S8x8x128_d1_w32
  let v555 := k0_pay29 (F := F) v31 v232 v469 v542
  let v592 := k0_pay30 (F := F) v31 v232 v244 v248 v506 v542
  let v593 := k0_pay31 v246
  let v641 := k0_pay33 (F := F) v30 v31 v232 v239 v246 v555 v593 v594
  let v646 := k0_pay34 (F := F) v30 v31 v232 v239 v244 v246 v593 v594
  let v694 := iota .tc S8x8x128 32 [1] iota_S8x8x128_d1_w32
  let v678 := k0_pay35 (F := F) v248 v592 v646
  let v692 := k0_pay36 (F := F) v246
  let v696 := k0_pay37 v246
  let v727 := k0_pay39 (F := F) v30 v31 v232 v239 v641 v692 v694 v696
  let v733 := k0_pay40 (F := F) v30 v31 v232 v239 v244 v692 v694 v696
  let v747 := k0_pay41 (F := F) v248
  let v748 := k0_pay42 v248
  let v764 := k0_pay43 (F := F) v678 v733 v747 v748
  let v795 := k0_pay44 (F := F) v30 v246
  let v796 := k0_pay45 (F := F) v239
  let v797 := k0_pay46 (F := F) v239
  let v813 := k0_pay48 (F := F) v31 v232 v727 v795 v796 v797
  let v849 := k0_pay49 (F := F) v31 v232 v244 v248 v795 v796 v797
  let v850 := k0_pay50 (F := F) v764 v849
  let v895 := k0_pay51 (F := F) v30 v31 v232 v239 v246
  let v899 := k0_pay52 (F := F) v30 v31 v232 v239 v246 v813
  let v900 := k0_pay53 (F := F) v244
  let v901 := k0_pay54 (F := F) v244
  (v899, k0_pay403 (F := F) v248 v850 v895 v900 v901)

set_option backward.isDefEq.respectTransparency.types false in
theorem trip2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (v27 : FVec F S72x128 .f32) (v30 : FVec F S80x64 .bf16) (v31 : FVec F S72x256 .f32) (v32 : FVec F S72x128 .f32) (v33 : FVec F S64x72 .f32) (v39 : BitVec 1) (h6 : v6.toInt ≤ 32768) (t2 : Fin (k0_t2_loop v6).trips) (acc : FVec F S72x128 .f32 × FVec F S64x72 .f32) :
    iprop((Amb c arg0 arg1 arg2 arg11 q0 q1 q2 Tab Len Pool) ∗ RingAt c arg3 arg12 arg14 f3 (16 * t1.val) (nb v6) t2.val) ⊢ wpb (F := F) c
      (k0_t2_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 v27 v30 v31 v32 v33 v39 t2 acc)
      (fun r => iprop(⌜r = step2 v0 v1 v6 v30 v31 t2 (Gat Tab Pool t1 t2.val) (Blk c (arg3 := arg3) f3 (16 * t1.val + t2.val)) (Len (ix1 t1)) acc⌝
        ∗ (Amb c arg0 arg1 arg2 arg11 q0 q1 q2 Tab Len Pool) ∗ RingAt c arg3 arg12 arg14 f3 (16 * t1.val) (nb v6) (t2.val + 1))) := by
  obtain ⟨arg17, arg18⟩ := acc
  unfold k0_t2_body
  dsimp only
  refine BIBase.Entails.trans ?_ (bind_wpb c (p := k0_part1 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 0#32 1#32 t2))
  refine BIBase.Entails.trans (open2 c hT _ _ _ _ _ _ _ _ _ _  h6) (wp_mono _ _ _ fun r => ?_)
  iintro ⟨%hr, H⟩
  subst hr
  iapply (bind_wpb c)
  iapply (wand_wpb c) $$ [H]
  · iapply (more2 c _ _ _ _ _ _ _  h6) $$ H
  iintro %r ⟨%hr, H⟩
  subst hr
  iapply (show _ ⊢ wpb c (Prog.ret (step2 v0 v1 v6 v30 v31 t2 (Gat Tab Pool t1 t2.val) (Blk c (arg3 := arg3) f3 (16 * t1.val + t2.val)) (Len (ix1 t1)) (arg17, arg18))) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

/-! ## The trips of loop 6 -/

theorem fetch6 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_148 : BitVec 32) (c1_i32_150 : BitVec 32) (t6 : Fin (k0_t6_loop v6).trips) (h6 : v6.toInt ≤ 32768) :
    Fet c arg0 arg2 arg11 q0 q2 Tab Pool t1 t6.val 0 ⊢ wpb (F := F) c
      (Scf.Loop.for k0_t7_loop k0_t7_ok (⟨⟩ : PUnit) (k0_t7_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_148 c1_i32_150 t6))
      (fun _ => Fet c arg0 arg2 arg11 q0 q2 Tab Pool t1 t6.val 128) := by
  refine BIBase.Entails.trans ?_ (Scf.wp_for frame (wpE (defs₀ (F := F)) Variants.none (c : Thread nD τ) none) Set.univ _ _ _ k0_t7_ok (⟨⟩ : PUnit) _
    (fun r _ => Fet c arg0 arg2 arg11 q0 q2 Tab Pool t1 t6.val r) ?_)
  · iintro H
    isplitl [H]
    · iexact H
    iintro %_ H
    iexact H
  · intro r u
    unfold k0_t7_body
    exact fetch_row c hT t1 t6.val r.val (lt16_6 v6 h6 t6) r.isLt (chk := fun v => k0_chk5 v179 v189 v200 v) (dec := fun v => k0_chk5.dec v179 v189 v200 v) (i17 := fun v hv => k0_off56_inb v179 v189 v200 v hv k0_h6 k0_h7)
      (k0_off55_eq _ _ _ _ (lt16_6 v6 h6 t6)) (fun v hp => k0_off56_eq v hp) (fun v hp => chk5_of v179 v189 v200 v hp) (k0_off57_eq _)
      (fun v => shapeCast_self _ _)

set_option backward.isDefEq.respectTransparency.types false in
theorem open6 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_148 : BitVec 32) (c1_i32_150 : BitVec 32) (t6 : Fin (k0_t6_loop v6).trips) (h6 : v6.toInt ≤ 32768) :
    iprop((Amb c arg0 arg1 arg2 arg11 q0 q1 q2 Tab Len Pool) ∗ RingAt c arg3 arg12 arg14 f3 (16 * t1.val) (nb v6) t6.val) ⊢ wpb (F := F) c
      (k0_part29 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_148 c1_i32_150 t6)
      (fun r => iprop(⌜r = ⟨k0_pay110 (F := F) v0 v1 v6 c0_i32_148 c1_i32_150 t6 (Len (ix1 t1)), k0_pay111 (F := F) v0 v1 v6 c0_i32_148 c1_i32_150 t6 (Len (ix1 t1)) (fun x : S1x16x128.Idx => Blk c (arg3 := arg3) f3 (16 * t1.val + t6.val) (ix2 (Fin.ofNat 32 (0 + (x 1).val)) (x 2)))⟩⌝ ∗ (Mid c arg0 arg1 arg2 arg3 arg11 arg12 arg14 f3 q0 q1 q2 Tab Len Pool t1 t6.val (16 * t1.val) (nb v6)))) := by
  have h16 := lt16_6 v6 h6 t6
  have hlt := lt6 v6 h6 t6
  rw [k0_part29_eq_skeleton]
  unfold k0_part29_skel
  refine BIBase.Entails.trans (sep_mono_right (ring_open c hlt)) ?_
  unfold Amb
  iintro ⟨⟨H0, H1, H2, H11, HW⟩, HB, HR0, HR1, HF⟩
  iapply (issue_role c (B := 16 * t1.val) (cond11_iff v6 h6 t6) (fun h => k0_off52_eq _ _ h16) (fun h => k0_off53_eq _ _ h16) (fun h => k0_off54_eq _ _ _ (lt13_6 v6 h6 t6 h))) $$ HF
  iintro HR2
  iapply (bind_wpb c)
  iapply (wand_wpb c) $$ [H0 H2 H11]
  · iapply (fetch6 c hT (q0 := q0) (q2 := q2) (Pool := Pool) v0 v1 t1 v4 v6 v24 v179 v189 v200 k0_hw4 k0_h6 k0_h7 c0_i32_148 c1_i32_150 t6 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t6.val := funext fun y => hX y (y 0).isLt
  subst hX'
  icases HW with ⟨%W, HW⟩
  iapply (wait_slot c (arg3 := arg3) (f3 := f3) (Fin.ofNat 4 t6.val) (Fin.ofNat 384 (16 * t1.val + t6.val)) (k0_off58_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t6.val) 0 (by decide) (k0_off62_eq _ _ h16)) $$ HL2
  iintro HL2
  iapply (ret_wpb c)
  isplitr
  · ipureintro
    rw [show (Rect.unit (s := S24) (k0_off61 t1) S1.size (k0_off61_inb t1)).point numel1_S1 = ix1 t1 from point24 _ (k0_off61_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more6 (t1 : Fin k0_t1_loop.trips) (v6 : Elt F .i32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v365 : FVec F S80x64 .bf16) (t6 : Fin (k0_t6_loop v6).trips) (v440 : IVec S16x128 1) (v447 : FVec F S16x128 .f32) (h6 : v6.toInt ≤ 32768) :
    (Mid c arg0 arg1 arg2 arg3 arg11 arg12 arg14 f3 q0 q1 q2 Tab Len Pool t1 t6.val (16 * t1.val) (nb v6)) ⊢ wpb (F := F) c
      (k0_part30 arg0 harg0 arg1 harg1 arg2 harg2 arg3 harg3 arg4 harg4 arg5 harg5 arg6 harg6 arg7 harg7 arg8 harg8 arg9 harg9 arg10 harg10 arg11 harg11 arg12 harg12 arg13 harg13 arg14 t1 v6 v179 v189 v200 k0_hw4 k0_h6 k0_h7 v365 t6 v440 v447)
      (fun r => iprop(⌜r = ⟨k0_pay112 (F := F) (fun x => Gat Tab Pool t1 t6.val ((⟨![0, 0], S128x128.size, ![2, 1], inb_S256x128_S128x128_0_0_s_2_1⟩ : LoadRect S256x128).idx x)), k0_pay113 (F := F) v365 v447 (fun x => Gat Tab Pool t1 t6.val ((⟨![0, 0], S128x128.size, ![2, 1], inb_S256x128_S128x128_0_0_s_2_1⟩ : LoadRect S256x128).idx x)), k0_pay114 v440⟩⌝ ∗ (Mid c arg0 arg1 arg2 arg3 arg11 arg12 arg14 f3 q0 q1 q2 Tab Len Pool t1 t6.val (16 * t1.val) (nb v6)))) := by
  have h16 := lt16_6 v6 h6 t6
  rw [k0_part30_eq_skeleton]
  unfold k0_part30_skel Mid Landed
  iintro ⟨H0, H1, H2, H11, HW, ⟨HL1, HL2, HL3⟩, HR⟩
  iapply (load_slot c (Fin.ofNat 4 t6.val) 16 (by decide) (k0_off63_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 6 makes of its carry: the block's scales `SC`, its page rows `G`, the length `len`. -/
def step6 (v0 : IVec S16x128 32) (v1 : IVec S16x128 32) (v6 : Elt F .i32) (v364 : Vec F S1x80x64 .bf16) (t6 : Fin (k0_t6_loop v6).trips) (G : S256x128.Idx → BitVec 32) (SC : S32x128.Idx → Elt F .f32) (len : BitVec 32) : FVec F S72x128 .f32 → FVec F S72x128 .f32 := fun (arg17) =>
  let v438 := len
  let v442 := (fun x : S1x16x128.Idx => SC (ix2 (Fin.ofNat 32 (0 + (x 1).val)) (x 2)))
  let v440 := k0_pay110 (F := F) v0 v1 v6 0#32 1#32 t6 v438
  let v447 := k0_pay111 (F := F) v0 v1 v6 0#32 1#32 t6 v438 v442
  let v449 := (fun x : S1x16x128.Idx => SC (ix2 (Fin.ofNat 32 (16 + (x 1).val)) (x 2)))
  let v453 := (fun x => G ((⟨![0, 0], S128x128.size, ![2, 1], inb_S256x128_S128x128_0_0_s_2_1⟩ : LoadRect S256x128).idx x))
  let v455 := (fun x => G ((⟨![1, 0], S128x128.size, ![2, 1], inb_S256x128_S128x128_1_0_s_2_1⟩ : LoadRect S256x128).idx x))
  let v454 := k0_pay112 (F := F) v453
  let v492 := k0_pay113 (F := F) (k0_pay257 (F := F) v364) v447 v453
  let v495 := k0_pay114 v440
  let v503 := k0_pay115 (F := F) arg17 v492 v495
  let v546 := k0_pay116 (F := F) (k0_pay257 (F := F) v364) v440 v447 v454
  let v597 := k0_pay117 (F := F) (k0_pay257 (F := F) v364) v440 v447 v454 v503 v546
  let v598 := k0_pay118 v454
  let v646 := iota .tc S8x8x128 32 [1] iota_S8x8x128_d1_w32
  let v644 := k0_pay119 (F := F) (k0_pay257 (F := F) v364) v440 v447 v454 v597 v598
  let v649 := k0_pay120 v454
  let c4_i32_227 := 4#32
  let v691 := k0_pay121 (F := F) (k0_pay257 (F := F) v364) v440 v447 v454 v644 v646 v649 c4_i32_227
  let v696 := k0_pay122 v454
  let v700 := k0_pay123
  let v738 := k0_pay124 (F := F) (k0_pay257 (F := F) v364) v440 v447 v454 v691 v696 v700
  let v751 := k0_pay125 v454
  let v801 := iota .tc S8x8x128 32 [1] iota_S8x8x128_d1_w32
  let v785 := k0_pay126 (F := F) (k0_pay257 (F := F) v364) v440 v447 v454 v738 v751
  let v799 := k0_pay127 (F := F) v454
  let v803 := k0_pay128 v454
  (k0_pay258 (F := F) v364 v440 v447 v785 v799 v801 v803)

set_option backward.isDefEq.respectTransparency.types false in
theorem trip6 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v364 : Vec F S1x80x64 .bf16) (h6 : v6.toInt ≤ 32768) (t6 : Fin (k0_t6_loop v6).trips) (acc : FVec F S72x128 .f32) :
    iprop((Amb c arg0 arg1 arg2 arg11 q0 q1 q2 Tab Len Pool) ∗ RingAt c arg3 arg12 arg14 f3 (16 * t1.val) (nb v6) t6.val) ⊢ wpb (F := F) c
      (k0_t6_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v179 v189 v200 k0_hw4 k0_h6 k0_h7 v364 t6 acc)
      (fun r => iprop(⌜r = step6 v0 v1 v6 v364 t6 (Gat Tab Pool t1 t6.val) (Blk c (arg3 := arg3) f3 (16 * t1.val + t6.val)) (Len (ix1 t1)) acc⌝
        ∗ (Amb c arg0 arg1 arg2 arg11 q0 q1 q2 Tab Len Pool) ∗ RingAt c arg3 arg12 arg14 f3 (16 * t1.val) (nb v6) (t6.val + 1))) := by
  skip
  unfold k0_t6_body
  dsimp only
  refine BIBase.Entails.trans ?_ (bind_wpb c (p := k0_part29 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 0#32 1#32 t6))
  refine BIBase.Entails.trans (open6 c hT _ _ _ _ _ _ _ _ _ _ _ _ _ _ _  h6) (wp_mono _ _ _ fun r => ?_)
  iintro ⟨%hr, H⟩
  subst hr
  iapply (bind_wpb c)
  iapply (wand_wpb c) $$ [H]
  · iapply (more6 c _ _ _ _ _ _ _ _ _ _ _ _  h6) $$ H
  iintro %r ⟨%hr, H⟩
  subst hr
  iapply (show _ ⊢ wpb c (Prog.ret (step6 v0 v1 v6 v364 t6 (Gat Tab Pool t1 t6.val) (Blk c (arg3 := arg3) f3 (16 * t1.val + t6.val)) (Len (ix1 t1)) acc)) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

/-! ## The trips of loop 10 -/

theorem fetch10 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_166 : BitVec 32) (c1_i32_168 : BitVec 32) (t10 : Fin (k0_t10_loop v6).trips) (h6 : v6.toInt ≤ 32768) :
    Fet c arg0 arg2 arg11 q0 q2 Tab Pool t1 t10.val 0 ⊢ wpb (F := F) c
      (Scf.Loop.for k0_t11_loop k0_t11_ok (⟨⟩ : PUnit) (k0_t11_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_166 c1_i32_168 t10))
      (fun _ => Fet c arg0 arg2 arg11 q0 q2 Tab Pool t1 t10.val 128) := by
  refine BIBase.Entails.trans ?_ (Scf.wp_for frame (wpE (defs₀ (F := F)) Variants.none (c : Thread nD τ) none) Set.univ _ _ _ k0_t11_ok (⟨⟩ : PUnit) _
    (fun r _ => Fet c arg0 arg2 arg11 q0 q2 Tab Pool t1 t10.val r) ?_)
  · iintro H
    isplitl [H]
    · iexact H
    iintro %_ H
    iexact H
  · intro r u
    unfold k0_t11_body
    exact fetch_row c hT t1 t10.val r.val (lt16_10 v6 h6 t10) r.isLt (chk := fun v => k0_chk7 v179 v189 v200 v) (dec := fun v => k0_chk7.dec v179 v189 v200 v) (i17 := fun v hv => k0_off89_inb v179 v189 v200 v hv k0_h6 k0_h7)
      (k0_off88_eq _ _ _ _ (lt16_10 v6 h6 t10)) (fun v hp => k0_off89_eq v hp) (fun v hp => chk7_of v179 v189 v200 v hp) (k0_off90_eq _)
      (fun v => shapeCast_self _ _)

set_option backward.isDefEq.respectTransparency.types false in
theorem open10 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (c0_i32_166 : BitVec 32) (c1_i32_168 : BitVec 32) (t10 : Fin (k0_t10_loop v6).trips) (h6 : v6.toInt ≤ 32768) :
    iprop((Amb c arg0 arg1 arg2 arg11 q0 q1 q2 Tab Len Pool) ∗ RingAt c arg3 arg12 arg14 f3 (16 * t1.val) (nb v6) t10.val) ⊢ wpb (F := F) c
      (k0_part45 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 c0_i32_166 c1_i32_168 t10)
      (fun r => iprop(⌜r = ⟨k0_pay150 (F := F) v0 v1 v6 c0_i32_166 c1_i32_168 t10 (Len (ix1 t1)), k0_pay151 (F := F) v0 v1 v6 c0_i32_166 c1_i32_168 t10 (Len (ix1 t1)) (fun x : S1x16x128.Idx => Blk c (arg3 := arg3) f3 (16 * t1.val + t10.val) (ix2 (Fin.ofNat 32 (0 + (x 1).val)) (x 2)))⟩⌝ ∗ (Mid c arg0 arg1 arg2 arg3 arg11 arg12 arg14 f3 q0 q1 q2 Tab Len Pool t1 t10.val (16 * t1.val) (nb v6)))) := by
  have h16 := lt16_10 v6 h6 t10
  have hlt := lt10 v6 h6 t10
  rw [k0_part45_eq_skeleton]
  unfold k0_part45_skel
  refine BIBase.Entails.trans (sep_mono_right (ring_open c hlt)) ?_
  unfold Amb
  iintro ⟨⟨H0, H1, H2, H11, HW⟩, HB, HR0, HR1, HF⟩
  iapply (issue_role c (B := 16 * t1.val) (cond16_iff v6 h6 t10) (fun h => k0_off85_eq _ _ h16) (fun h => k0_off86_eq _ _ h16) (fun h => k0_off87_eq _ _ _ (lt13_10 v6 h6 t10 h))) $$ HF
  iintro HR2
  iapply (bind_wpb c)
  iapply (wand_wpb c) $$ [H0 H2 H11]
  · iapply (fetch10 c hT (q0 := q0) (q2 := q2) (Pool := Pool) v0 v1 t1 v4 v6 v24 v179 v189 v200 k0_hw4 k0_h6 k0_h7 c0_i32_166 c1_i32_168 t10 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t10.val := funext fun y => hX y (y 0).isLt
  subst hX'
  icases HW with ⟨%W, HW⟩
  iapply (wait_slot c (arg3 := arg3) (f3 := f3) (Fin.ofNat 4 t10.val) (Fin.ofNat 384 (16 * t1.val + t10.val)) (k0_off91_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t10.val) 0 (by decide) (k0_off95_eq _ _ h16)) $$ HL2
  iintro HL2
  iapply (ret_wpb c)
  isplitr
  · ipureintro
    rw [show (Rect.unit (s := S24) (k0_off94 t1) S1.size (k0_off94_inb t1)).point numel1_S1 = ix1 t1 from point24 _ (k0_off94_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more10 (t1 : Fin k0_t1_loop.trips) (v6 : Elt F .i32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v391 : FVec F S80x64 .bf16) (t10 : Fin (k0_t10_loop v6).trips) (v440 : IVec S16x128 1) (v447 : FVec F S16x128 .f32) (h6 : v6.toInt ≤ 32768) :
    (Mid c arg0 arg1 arg2 arg3 arg11 arg12 arg14 f3 q0 q1 q2 Tab Len Pool t1 t10.val (16 * t1.val) (nb v6)) ⊢ wpb (F := F) c
      (k0_part46 arg0 harg0 arg1 harg1 arg2 harg2 arg3 harg3 arg4 harg4 arg5 harg5 arg6 harg6 arg7 harg7 arg8 harg8 arg9 harg9 arg10 harg10 arg11 harg11 arg12 harg12 arg13 harg13 arg14 t1 v6 v179 v189 v200 k0_hw4 k0_h6 k0_h7 v391 t10 v440 v447)
      (fun r => iprop(⌜r = ⟨k0_pay152 (F := F) v440 (fun x : S1x16x128.Idx => Blk c (arg3 := arg3) f3 (16 * t1.val + t10.val) (ix2 (Fin.ofNat 32 (16 + (x 1).val)) (x 2))), k0_pay153 (F := F) (fun x => Gat Tab Pool t1 t10.val ((⟨![0, 0], S128x128.size, ![2, 1], inb_S256x128_S128x128_0_0_s_2_1⟩ : LoadRect S256x128).idx x)), k0_pay154 (F := F) (fun x => Gat Tab Pool t1 t10.val ((⟨![1, 0], S128x128.size, ![2, 1], inb_S256x128_S128x128_1_0_s_2_1⟩ : LoadRect S256x128).idx x)), k0_pay155 (F := F) v391 v447 (fun x => Gat Tab Pool t1 t10.val ((⟨![0, 0], S128x128.size, ![2, 1], inb_S256x128_S128x128_0_0_s_2_1⟩ : LoadRect S256x128).idx x)), k0_pay156 v440⟩⌝ ∗ (Mid c arg0 arg1 arg2 arg3 arg11 arg12 arg14 f3 q0 q1 q2 Tab Len Pool t1 t10.val (16 * t1.val) (nb v6)))) := by
  have h16 := lt16_10 v6 h6 t10
  rw [k0_part46_eq_skeleton]
  unfold k0_part46_skel Mid Landed
  iintro ⟨H0, H1, H2, H11, HW, ⟨HL1, HL2, HL3⟩, HR⟩
  iapply (load_slot c (Fin.ofNat 4 t10.val) 16 (by decide) (k0_off96_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 10 makes of its carry: the block's scales `SC`, its page rows `G`, the length `len`. -/
def step10 (v0 : IVec S16x128 32) (v1 : IVec S16x128 32) (v6 : Elt F .i32) (v391 : FVec F S80x64 .bf16) (v392 : FVec F S72x256 .f32) (t10 : Fin (k0_t10_loop v6).trips) (G : S256x128.Idx → BitVec 32) (SC : S32x128.Idx → Elt F .f32) (len : BitVec 32) : FVec F S72x128 .f32 × FVec F S64x72 .f32 → FVec F S72x128 .f32 × FVec F S64x72 .f32 := fun (arg17, arg18) =>
  let v438 := len
  let v442 := (fun x : S1x16x128.Idx => SC (ix2 (Fin.ofNat 32 (0 + (x 1).val)) (x 2)))
  let v440 := k0_pay150 (F := F) v0 v1 v6 0#32 1#32 t10 v438
  let v447 := k0_pay151 (F := F) v0 v1 v6 0#32 1#32 t10 v438 v442
  let v449 := (fun x : S1x16x128.Idx => SC (ix2 (Fin.ofNat 32 (16 + (x 1).val)) (x 2)))
  let v453 := (fun x => G ((⟨![0, 0], S128x128.size, ![2, 1], inb_S256x128_S128x128_0_0_s_2_1⟩ : LoadRect S256x128).idx x))
  let v455 := (fun x => G ((⟨![1, 0], S128x128.size, ![2, 1], inb_S256x128_S128x128_1_0_s_2_1⟩ : LoadRect S256x128).idx x))
  let v452 := k0_pay152 (F := F) v440 v449
  let v454 := k0_pay153 (F := F) v453
  let v456 := k0_pay154 (F := F) v455
  let v492 := k0_pay155 (F := F) v391 v447 v453
  let v495 := k0_pay156 v440
  let v544 := iota .tc S8x8x128 32 [1] iota_S8x8x128_d1_w32
  let v505 := k0_pay158 (F := F) v392 arg17 v492 v495
  let v542 := k0_pay159 (F := F) v392 arg18 v452 v456 v492 v495
  let v547 := k0_pay160 v454
  let v599 := iota .tc S8x8x128 32 [1] iota_S8x8x128_d1_w32
  let v591 := k0_pay162 (F := F) v391 v392 v440 v447 v454 v505 v544 v547
  let v597 := k0_pay163 (F := F) v391 v392 v440 v447 v452 v454 v544 v547
  let v598 := k0_pay164 v456
  let v644 := iota .tc S8x8x128 32 [1] iota_S8x8x128_d1_w32
  let v628 := k0_pay165 (F := F) v456 v542 v597 v598 v599
  let v642 := k0_pay166 (F := F) v454
  let v647 := k0_pay167 v454
  let v648 := k0_pay168
  let v699 := iota .tc S8x8x128 32 [1] iota_S8x8x128_d1_w32
  let v677 := k0_pay170 (F := F) v391 v392 v440 v447 v591 v642 v644 v647 v648
  let v683 := k0_pay171 (F := F) v391 v392 v440 v447 v452 v642 v644 v647 v648
  let v697 := k0_pay172 (F := F) v456
  let v701 := k0_pay173 v456
  let v714 := k0_pay174 (F := F) v628 v683 v697 v699 v701
  let v750 := k0_pay175 (F := F) v391 v447 v454
  let v802 := iota .tc S8x8x128 32 [1] iota_S8x8x128_d1_w32
  let v763 := k0_pay177 (F := F) v392 v440 v677 v750
  let v800 := k0_pay178 (F := F) v392 v440 v452 v456 v714 v750
  let v801 := k0_pay179 v454
  let v849 := k0_pay181 (F := F) v391 v392 v440 v447 v454 v763 v801 v802
  let v854 := k0_pay182 (F := F) v391 v392 v440 v447 v452 v454 v801 v802
  let v902 := iota .tc S8x8x128 32 [1] iota_S8x8x128_d1_w32
  let v886 := k0_pay183 (F := F) v456 v800 v854
  let v900 := k0_pay184 (F := F) v454
  let v904 := k0_pay185 v454
  let v935 := k0_pay187 (F := F) v391 v392 v440 v447 v849 v900 v902 v904
  let v941 := k0_pay188 (F := F) v391 v392 v440 v447 v452 v900 v902 v904
  let v955 := k0_pay189 (F := F) v456
  let v956 := k0_pay190 v456
  let v972 := k0_pay191 (F := F) v886 v941 v955 v956
  let v1003 := k0_pay192 (F := F) v391 v454
  let v1004 := k0_pay193 (F := F) v447
  let v1005 := k0_pay194 (F := F) v447
  let v1021 := k0_pay196 (F := F) v392 v440 v935 v1003 v1004 v1005
  let v1057 := k0_pay197 (F := F) v392 v440 v452 v456 v1003 v1004 v1005
  let v1058 := k0_pay198 (F := F) v972 v1057
  let v1103 := k0_pay199 (F := F) v391 v392 v440 v447 v454
  let v1107 := k0_pay200 (F := F) v391 v392 v440 v447 v454 v1021
  let v1108 := k0_pay201 (F := F) v452
  let v1109 := k0_pay202 (F := F) v452
  (v1107, k0_pay376 (F := F) v456 v1058 v1103 v1108 v1109)

set_option backward.isDefEq.respectTransparency.types false in
theorem trip10 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v49_0 : FVec F S72x128 .f32) (v179 : BitVec 1) (v189 : BitVec 1) (v200 : BitVec 1) (k0_hw4 : k0_chk4 t1 v6 v179 v189 v200) (v202 : BitVec 1) (k0_h6 : k0_cond6 v179 v189 v200 = 1#1) (k0_h7 : k0_cond7 v189 v200 = 1#1) (v391 : FVec F S80x64 .bf16) (v392 : FVec F S72x256 .f32) (h6 : v6.toInt ≤ 32768) (t10 : Fin (k0_t10_loop v6).trips) (acc : FVec F S72x128 .f32 × FVec F S64x72 .f32) :
    iprop((Amb c arg0 arg1 arg2 arg11 q0 q1 q2 Tab Len Pool) ∗ RingAt c arg3 arg12 arg14 f3 (16 * t1.val) (nb v6) t10.val) ⊢ wpb (F := F) c
      (k0_t10_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v49_0 v179 v189 v200 k0_hw4 v202 k0_h6 k0_h7 v391 v392 t10 acc)
      (fun r => iprop(⌜r = step10 v0 v1 v6 v391 v392 t10 (Gat Tab Pool t1 t10.val) (Blk c (arg3 := arg3) f3 (16 * t1.val + t10.val)) (Len (ix1 t1)) acc⌝
        ∗ (Amb c arg0 arg1 arg2 arg11 q0 q1 q2 Tab Len Pool) ∗ RingAt c arg3 arg12 arg14 f3 (16 * t1.val) (nb v6) (t10.val + 1))) := by
  obtain ⟨arg17, arg18⟩ := acc
  unfold k0_t10_body
  dsimp only
  refine BIBase.Entails.trans ?_ (bind_wpb c (p := k0_part45 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 k0_h7 0#32 1#32 t10))
  refine BIBase.Entails.trans (open10 c hT _ _ _ _ _ _ _ _ _ _ _ _ _ _ _  h6) (wp_mono _ _ _ fun r => ?_)
  iintro ⟨%hr, H⟩
  subst hr
  iapply (bind_wpb c)
  iapply (wand_wpb c) $$ [H]
  · iapply (more10 c _ _ _ _ _ _ _ _ _ _ _ _  h6) $$ H
  iintro %r ⟨%hr, H⟩
  subst hr
  iapply (show _ ⊢ wpb c (Prog.ret (step10 v0 v1 v6 v391 v392 t10 (Gat Tab Pool t1 t10.val) (Blk c (arg3 := arg3) f3 (16 * t1.val + t10.val)) (Len (ix1 t1)) (arg17, arg18))) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

/-! ## The trips of loop 14 -/

theorem fetch14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (c0_i32_99 : BitVec 32) (c1_i32_101 : BitVec 32) (t14 : Fin (k0_t14_loop v6).trips) (h6 : v6.toInt ≤ 32768) :
    Fet c arg0 arg2 arg11 q0 q2 Tab Pool t1 t14.val 0 ⊢ wpb (F := F) c
      (Scf.Loop.for k0_t15_loop k0_t15_ok (⟨⟩ : PUnit) (k0_t15_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 c0_i32_99 c1_i32_101 t14))
      (fun _ => Fet c arg0 arg2 arg11 q0 q2 Tab Pool t1 t14.val 128) := by
  refine BIBase.Entails.trans ?_ (Scf.wp_for frame (wpE (defs₀ (F := F)) Variants.none (c : Thread nD τ) none) Set.univ _ _ _ k0_t15_ok (⟨⟩ : PUnit) _
    (fun r _ => Fet c arg0 arg2 arg11 q0 q2 Tab Pool t1 t14.val r) ?_)
  · iintro H
    isplitl [H]
    · iexact H
    iintro %_ H
    iexact H
  · intro r u
    unfold k0_t15_body
    exact fetch_row c hT t1 t14.val r.val (lt16_14 v6 h6 t14) r.isLt (chk := fun v => k0_chk9 v179 v189 v200 v) (dec := fun v => k0_chk9.dec v179 v189 v200 v) (i17 := fun v hv => k0_off124_inb v179 v189 v200 v hv k0_h6)
      (k0_off123_eq _ _ _ _ (lt16_14 v6 h6 t14)) (fun v hp => k0_off124_eq v hp) (fun v hp => chk9_of v179 v189 v200 v hp) (k0_off125_eq _)
      (fun v => shapeCast_self _ _)

set_option backward.isDefEq.respectTransparency.types false in
theorem open14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (c0_i32_99 : BitVec 32) (c1_i32_101 : BitVec 32) (t14 : Fin (k0_t14_loop v6).trips) (h6 : v6.toInt ≤ 32768) :
    iprop((Amb c arg0 arg1 arg2 arg11 q0 q1 q2 Tab Len Pool) ∗ RingAt c arg3 arg12 arg14 f3 (16 * t1.val) (nb v6) t14.val) ⊢ wpb (F := F) c
      (k0_part74 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 c0_i32_99 c1_i32_101 t14)
      (fun r => iprop(⌜r = ⟨k0_pay267 (F := F) v0 v1 v6 c0_i32_99 c1_i32_101 t14 (Len (ix1 t1)), k0_pay268 (F := F) v0 v1 v6 c0_i32_99 c1_i32_101 t14 (Len (ix1 t1)) (fun x : S1x16x128.Idx => Blk c (arg3 := arg3) f3 (16 * t1.val + t14.val) (ix2 (Fin.ofNat 32 (0 + (x 1).val)) (x 2)))⟩⌝ ∗ (Mid c arg0 arg1 arg2 arg3 arg11 arg12 arg14 f3 q0 q1 q2 Tab Len Pool t1 t14.val (16 * t1.val) (nb v6)))) := by
  have h16 := lt16_14 v6 h6 t14
  have hlt := lt14 v6 h6 t14
  rw [k0_part74_eq_skeleton]
  unfold k0_part74_skel
  refine BIBase.Entails.trans (sep_mono_right (ring_open c hlt)) ?_
  unfold Amb
  iintro ⟨⟨H0, H1, H2, H11, HW⟩, HB, HR0, HR1, HF⟩
  iapply (issue_role c (B := 16 * t1.val) (cond21_iff v6 h6 t14) (fun h => k0_off120_eq _ _ h16) (fun h => k0_off121_eq _ _ h16) (fun h => k0_off122_eq _ _ _ (lt13_14 v6 h6 t14 h))) $$ HF
  iintro HR2
  iapply (bind_wpb c)
  iapply (wand_wpb c) $$ [H0 H2 H11]
  · iapply (fetch14 c hT (q0 := q0) (q2 := q2) (Pool := Pool) v0 v1 t1 v4 v6 v24 v179 v189 v200 k0_hw4 k0_h6 c0_i32_99 c1_i32_101 t14 h6)
    unfold Fet
    isplitl [H0]; · iexact H0
    isplitl [H2]; · iexact H2
    icases H11 with ⟨%X, H11⟩
    iexists X
    isplitl [H11]; · iexact H11
    ipureintro; intro y hy; exact absurd hy (by omega)
  iintro %_ HF
  unfold Fet
  icases HF with ⟨H0, H2, %X, H11, %hX⟩
  have hX' : X = Gat Tab Pool t1 t14.val := funext fun y => hX y (y 0).isLt
  subst hX'
  icases HW with ⟨%W, HW⟩
  iapply (wait_slot c (arg3 := arg3) (f3 := f3) (Fin.ofNat 4 t14.val) (Fin.ofNat 384 (16 * t1.val + t14.val)) (k0_off126_eq _ _ h16)) $$ [HB HW]
  · isplitl [HB]; · iexact HB
    iexact HW
  iintro ⟨HL, HW⟩
  iapply (smem_owns c (hp := rfl)) $$ H1
  iintro H1
  unfold Landed
  icases HL with ⟨HL1, HL2, HL3⟩
  iapply (load_slot c (Fin.ofNat 4 t14.val) 0 (by decide) (k0_off130_eq _ _ h16)) $$ HL2
  iintro HL2
  iapply (ret_wpb c)
  isplitr
  · ipureintro
    rw [show (Rect.unit (s := S24) (k0_off129 t1) S1.size (k0_off129_inb t1)).point numel1_S1 = ix1 t1 from point24 _ (k0_off129_eq t1)]
    rfl
  unfold Mid Landed
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  isplitl [HR0]; · iexact HR0
  isplitl [HR1]; · iexact HR1
  iexact HR2

set_option backward.isDefEq.respectTransparency.types false in
theorem more14 (t1 : Fin k0_t1_loop.trips) (v6 : Elt F .i32) (v179 : BitVec 1) (v189 : BitVec 1) (v200 : BitVec 1) (k0_hw4 : k0_chk4 t1 v6 v179 v189 v200) (k0_h6 : k0_cond6 v179 v189 v200 = 1#1) (v235 : FVec F S80x64 .bf16) (t14 : Fin (k0_t14_loop v6).trips) (v389 : IVec S16x128 1) (v396 : FVec F S16x128 .f32) (h6 : v6.toInt ≤ 32768) :
    (Mid c arg0 arg1 arg2 arg3 arg11 arg12 arg14 f3 q0 q1 q2 Tab Len Pool t1 t14.val (16 * t1.val) (nb v6)) ⊢ wpb (F := F) c
      (k0_part75 arg0 harg0 arg1 harg1 arg2 harg2 arg3 harg3 arg4 harg4 arg5 harg5 arg6 harg6 arg7 harg7 arg8 harg8 arg9 harg9 arg10 harg10 arg11 harg11 arg12 harg12 arg13 harg13 arg14 t1 v6 v179 v189 v200 k0_hw4 k0_h6 v235 t14 v389 v396)
      (fun r => iprop(⌜r = ⟨k0_pay269 (F := F) v389 (fun x : S1x16x128.Idx => Blk c (arg3 := arg3) f3 (16 * t1.val + t14.val) (ix2 (Fin.ofNat 32 (16 + (x 1).val)) (x 2))), k0_pay270 (F := F) (fun x => Gat Tab Pool t1 t14.val ((⟨![0, 0], S128x128.size, ![2, 1], inb_S256x128_S128x128_0_0_s_2_1⟩ : LoadRect S256x128).idx x)), k0_pay271 (F := F) (fun x => Gat Tab Pool t1 t14.val ((⟨![1, 0], S128x128.size, ![2, 1], inb_S256x128_S128x128_1_0_s_2_1⟩ : LoadRect S256x128).idx x)), k0_pay272 (F := F) v235 v396 (fun x => Gat Tab Pool t1 t14.val ((⟨![0, 0], S128x128.size, ![2, 1], inb_S256x128_S128x128_0_0_s_2_1⟩ : LoadRect S256x128).idx x)), k0_pay273 v389⟩⌝ ∗ (Mid c arg0 arg1 arg2 arg3 arg11 arg12 arg14 f3 q0 q1 q2 Tab Len Pool t1 t14.val (16 * t1.val) (nb v6)))) := by
  have h16 := lt16_14 v6 h6 t14
  rw [k0_part75_eq_skeleton]
  unfold k0_part75_skel Mid Landed
  iintro ⟨H0, H1, H2, H11, HW, ⟨HL1, HL2, HL3⟩, HR⟩
  iapply (load_slot c (Fin.ofNat 4 t14.val) 16 (by decide) (k0_off131_eq _ _ h16)) $$ HL2
  iintro HL2
  iapply (load_owns c) $$ H11
  iintro H11
  iapply (load_owns c) $$ H11
  iintro H11
  iapply (ret_wpb c)
  isplitr
  · ipureintro
    rfl
  isplitl [H0]; · iexact H0
  isplitl [H1]; · iexact H1
  isplitl [H2]; · iexact H2
  isplitl [H11]; · iexact H11
  isplitl [HW]; · iexact HW
  isplitl [HL1 HL2 HL3]
  · isplitl [HL1]; · iexact HL1
    isplitl [HL2]; · iexact HL2
    iexact HL3
  iexact HR

/-- What a trip of loop 14 makes of its carry: the block's scales `SC`, its page rows `G`, the length `len`. -/
def step14 (v0 : IVec S16x128 32) (v1 : IVec S16x128 32) (v6 : Elt F .i32) (v235 : FVec F S80x64 .bf16) (v236 : FVec F S72x256 .f32) (t14 : Fin (k0_t14_loop v6).trips) (G : S256x128.Idx → BitVec 32) (SC : S32x128.Idx → Elt F .f32) (len : BitVec 32) : FVec F S72x128 .f32 × FVec F S64x72 .f32 → FVec F S72x128 .f32 × FVec F S64x72 .f32 := fun (arg17, arg18) =>
  let v387 := len
  let v391 := (fun x : S1x16x128.Idx => SC (ix2 (Fin.ofNat 32 (0 + (x 1).val)) (x 2)))
  let v389 := k0_pay267 (F := F) v0 v1 v6 0#32 1#32 t14 v387
  let v396 := k0_pay268 (F := F) v0 v1 v6 0#32 1#32 t14 v387 v391
  let v398 := (fun x : S1x16x128.Idx => SC (ix2 (Fin.ofNat 32 (16 + (x 1).val)) (x 2)))
  let v402 := (fun x => G ((⟨![0, 0], S128x128.size, ![2, 1], inb_S256x128_S128x128_0_0_s_2_1⟩ : LoadRect S256x128).idx x))
  let v404 := (fun x => G ((⟨![1, 0], S128x128.size, ![2, 1], inb_S256x128_S128x128_1_0_s_2_1⟩ : LoadRect S256x128).idx x))
  let v401 := k0_pay269 (F := F) v389 v398
  let v403 := k0_pay270 (F := F) v402
  let v405 := k0_pay271 (F := F) v404
  let v441 := k0_pay272 (F := F) v235 v396 v402
  let v444 := k0_pay273 v389
  let v493 := iota .tc S8x8x128 32 [1] iota_S8x8x128_d1_w32
  let v454 := k0_pay275 (F := F) v236 arg17 v441 v444
  let v491 := k0_pay276 (F := F) v236 arg18 v401 v405 v441 v444
  let v496 := k0_pay277 v403
  let v548 := iota .tc S8x8x128 32 [1] iota_S8x8x128_d1_w32
  let v540 := k0_pay279 (F := F) v235 v236 v389 v396 v403 v454 v493 v496
  let v546 := k0_pay280 (F := F) v235 v236 v389 v396 v401 v403 v493 v496
  let v547 := k0_pay281 v405
  let v593 := iota .tc S8x8x128 32 [1] iota_S8x8x128_d1_w32
  let v577 := k0_pay282 (F := F) v405 v491 v546 v547 v548
  let v591 := k0_pay283 (F := F) v403
  let v596 := k0_pay284 v403
  let v597 := k0_pay285
  let v648 := iota .tc S8x8x128 32 [1] iota_S8x8x128_d1_w32
  let v626 := k0_pay287 (F := F) v235 v236 v389 v396 v540 v591 v593 v596 v597
  let v632 := k0_pay288 (F := F) v235 v236 v389 v396 v401 v591 v593 v596 v597
  let v646 := k0_pay289 (F := F) v405
  let v650 := k0_pay290 v405
  let v663 := k0_pay291 (F := F) v577 v632 v646 v648 v650
  let v699 := k0_pay292 (F := F) v235 v396 v403
  let v751 := iota .tc S8x8x128 32 [1] iota_S8x8x128_d1_w32
  let v712 := k0_pay294 (F := F) v236 v389 v626 v699
  let v749 := k0_pay295 (F := F) v236 v389 v401 v405 v663 v699
  let v750 := k0_pay296 v403
  let v798 := k0_pay298 (F := F) v235 v236 v389 v396 v403 v712 v750 v751
  let v803 := k0_pay299 (F := F) v235 v236 v389 v396 v401 v403 v750 v751
  let v851 := iota .tc S8x8x128 32 [1] iota_S8x8x128_d1_w32
  let v835 := k0_pay300 (F := F) v405 v749 v803
  let v849 := k0_pay301 (F := F) v403
  let v853 := k0_pay302 v403
  let v884 := k0_pay304 (F := F) v235 v236 v389 v396 v798 v849 v851 v853
  let v890 := k0_pay305 (F := F) v235 v236 v389 v396 v401 v849 v851 v853
  let v904 := k0_pay306 (F := F) v405
  let v905 := k0_pay307 v405
  let v921 := k0_pay308 (F := F) v835 v890 v904 v905
  let v952 := k0_pay309 (F := F) v235 v403
  let v953 := k0_pay310 (F := F) v396
  let v954 := k0_pay311 (F := F) v396
  let v970 := k0_pay313 (F := F) v236 v389 v884 v952 v953 v954
  let v1006 := k0_pay314 (F := F) v236 v389 v401 v405 v952 v953 v954
  let v1007 := k0_pay315 (F := F) v921 v1006
  let v1052 := k0_pay316 (F := F) v235 v236 v389 v396 v403
  let v1056 := k0_pay317 (F := F) v235 v236 v389 v396 v403 v970
  let v1057 := k0_pay318 (F := F) v401
  let v1058 := k0_pay319 (F := F) v401
  (v1056, k0_pay384 (F := F) v405 v1007 v1052 v1057 v1058)

set_option backward.isDefEq.respectTransparency.types false in
theorem trip14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (h6 : v6.toInt ≤ 32768) (t14 : Fin (k0_t14_loop v6).trips) (acc : FVec F S72x128 .f32 × FVec F S64x72 .f32) :
    iprop((Amb c arg0 arg1 arg2 arg11 q0 q1 q2 Tab Len Pool) ∗ RingAt c arg3 arg12 arg14 f3 (16 * t1.val) (nb v6) t14.val) ⊢ wpb (F := F) c
      (k0_t14_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 v232 v235 v236 v237 v238 t14 acc)
      (fun r => iprop(⌜r = step14 v0 v1 v6 v235 v236 t14 (Gat Tab Pool t1 t14.val) (Blk c (arg3 := arg3) f3 (16 * t1.val + t14.val)) (Len (ix1 t1)) acc⌝
        ∗ (Amb c arg0 arg1 arg2 arg11 q0 q1 q2 Tab Len Pool) ∗ RingAt c arg3 arg12 arg14 f3 (16 * t1.val) (nb v6) (t14.val + 1))) := by
  obtain ⟨arg17, arg18⟩ := acc
  unfold k0_t14_body
  dsimp only
  refine BIBase.Entails.trans ?_ (bind_wpb c (p := k0_part74 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 0#32 1#32 t14))
  refine BIBase.Entails.trans (open14 c hT _ _ _ _ _ _ _ _ _ _ _ _ _ _  h6) (wp_mono _ _ _ fun r => ?_)
  iintro ⟨%hr, H⟩
  subst hr
  iapply (bind_wpb c)
  iapply (wand_wpb c) $$ [H]
  · iapply (more14 c _ _ _ _ _ _ _ _ _ _ _  h6) $$ H
  iintro %r ⟨%hr, H⟩
  subst hr
  iapply (show _ ⊢ wpb c (Prog.ret (step14 v0 v1 v6 v235 v236 t14 (Gat Tab Pool t1 t14.val) (Blk c (arg3 := arg3) f3 (16 * t1.val + t14.val)) (Len (ix1 t1)) (arg17, arg18))) _ from ret_wpb c)
  isplitr
  · ipureintro; rfl
  unfold Mid
  icases H with ⟨H0, H1, H2, H11, HW, HL, HR0, HR1, HR2⟩
  isplitl [H0 H1 H2 H11 HW]
  · unfold Amb
    isplitl [H0]; · iexact H0
    isplitl [H1]; · iexact H1
    isplitl [H2]; · iexact H2
    isplitl [H11]; · iexists _; iexact H11
    iexact HW
  iapply (ring_close c)
  isplitl [HL]; · iapply (landed_free c); iexact HL
  isplitl [HR0]; · iexact HR0
  isplitl [HR1]; · iexact HR1
  iexact HR2

end Cert.KernelIdeal.Hand
-- ==== Proof.Ideal.Passes.lean ====
/-
  One sequence of the grid's loop: the passes over its blocks and the slabs it stores.
-/
module

public import proofs.«01_k».proof.Proof.Ideal.Trips

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 q4 q5 q6 q7 : PosShare TreeShare}
  {Tab : S24x2048.Idx → BitVec 32} {Len : S24.Idx → BitVec 32} {Pool : S122880x128.Idx → BitVec 32}
  {Qv : S24x80x64.Idx → Elt F .bf16} {Mv : S24x72x128.Idx → Elt F .f32} {Cv : S24x64.Idx → Elt F .f32} {Sv : S24x128.Idx → Elt F .f32}

theorem ring_begin : RingIdle c arg3 arg12 arg14 f3 ⊢ iprop(Free c arg3 arg12 arg14 f3 (Fin.ofNat 4 (0 + 0)) ∗ Free c arg3 arg12 arg14 f3 (Fin.ofNat 4 (0 + 1)) ∗ Free c arg3 arg12 arg14 f3 (Fin.ofNat 4 (0 + 2)) ∗ Free c arg3 arg12 arg14 f3 (Fin.ofNat 4 (0 + 3))) := .rfl

/-- `n` steps of a carry. -/
def accRun {α : Type} (n : ℕ) (f : Fin n → α → α) (a : α) : ℕ → α
  | 0 => a
  | k + 1 => if h : k < n then f ⟨k, h⟩ (accRun n f a k) else accRun n f a k

theorem accRun_succ {α : Type} (n : ℕ) (f : Fin n → α → α) (a : α) (k : Fin n) : accRun n f a (k.val + 1) = f k (accRun n f a k.val) := by
  rw [accRun, dif_pos k.isLt]

/-! ## The passes over the blocks -/

/-- The carry of loop 2 after all its trips. -/
def run2 (v0 : IVec S16x128 32) (v1 : IVec S16x128 32) (v6 : Elt F .i32) (v30 : FVec F S80x64 .bf16) (v31 : FVec F S72x256 .f32) (G : ℕ → S256x128.Idx → BitVec 32) (SC : ℕ → S32x128.Idx → Elt F .f32) (len : BitVec 32) (a0 : FVec F S72x128 .f32 × FVec F S64x72 .f32) : FVec F S72x128 .f32 × FVec F S64x72 .f32 :=
  accRun (k0_t2_loop v6).trips (fun k a => step2 v0 v1 v6 v30 v31 k (G k.val) (SC k.val) len a) a0 (nb v6)

theorem loop2 (hT : ∀ y, (Tab y).toNat < 61440) (v0 : IVec S16x128 32) (v1 : IVec S16x128 32) (t1 : Fin k0_t1_loop.trips) (v4 : BitVec 32) (v6 : Elt F .i32) (k0_hw1 : k0_chk1 t1 v6) (v24 : BitVec 32) (v27 : FVec F S72x128 .f32) (v30 : FVec F S80x64 .bf16) (v31 : FVec F S72x256 .f32) (v32 : FVec F S72x128 .f32) (v33 : FVec F S64x72 .f32) (v39 : BitVec 1) (h6 : v6.toInt ≤ 32768) (ok : (k0_t2_loop v6).OK) (a0 : FVec F S72x128 .f32 × FVec F S64x72 .f32) :
    iprop(Amb c arg0 arg1 arg2 arg11 q0 q1 q2 Tab Len Pool ∗ RingAt c arg3 arg12 arg14 f3 (16 * t1.val) (nb v6) 0) ⊢ wpb (F := F) c
      (Scf.Loop.for (k0_t2_loop v6) ok a0 (k0_t2_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 v27 v30 v31 v32 v33 v39))
      (fun r => iprop(⌜r = run2 v0 v1 v6 v30 v31 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t2_loop v6).trips (fun k a => step2 v0 v1 v6 v30 v31 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t2_loop v6).lb (k0_t2_loop v6).ub (k0_t2_loop v6).st = nb v6 := trips2 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip2 c hT v0 v1 t1 v4 v6 k0_hw1 v24 v27 v30 v31 v32 v33 v39 h6 k acc) $$ H
    iintro %r ⟨%hr, H⟩
    isplitr
    · ipureintro
      rw [hr, hacc]
      exact (accRun_succ _ _ _ k).symm
    iexact H

theorem rest4 (v0 : IVec S16x128 32) (v1 : IVec S16x128 32) (t1 : Fin k0_t1_loop.trips) (v4 : BitVec 32) (v6 : Elt F .i32) (k0_hw1 : k0_chk1 t1 v6) (v24 : BitVec 32) (v27 : FVec F S72x128 .f32) (v30 : FVec F S80x64 .bf16) (v31 : FVec F S72x256 .f32) (v32 : FVec F S72x128 .f32) (v33 : FVec F S64x72 .f32) (v39 : BitVec 1) (v47 : BitVec 32) (ok : (k0_t4_loop v6).OK) (a0 : FVec F S72x128 .f32 × FVec F S64x72 .f32) {P : FVec F S72x128 .f32 × FVec F S64x72 .f32 → sProp 𝕄} :
    P a0 ⊢ wpb (F := F) c (Scf.Loop.for (k0_t4_loop v6) ok a0 (k0_t4_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 k0_hw1 v24 v27 v30 v31 v32 v33 v39 v47)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips4 v6) k).elim

/-- The carry of loop 6 after all its trips. -/
def run6 (v0 : IVec S16x128 32) (v1 : IVec S16x128 32) (v6 : Elt F .i32) (v364 : Vec F S1x80x64 .bf16) (G : ℕ → S256x128.Idx → BitVec 32) (SC : ℕ → S32x128.Idx → Elt F .f32) (len : BitVec 32) (a0 : FVec F S72x128 .f32) : FVec F S72x128 .f32 :=
  accRun (k0_t6_loop v6).trips (fun k a => step6 v0 v1 v6 v364 k (G k.val) (SC k.val) len a) a0 (nb v6)

theorem loop6 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v364 : Vec F S1x80x64 .bf16) (h6 : v6.toInt ≤ 32768) (ok : (k0_t6_loop v6).OK) (a0 : FVec F S72x128 .f32) :
    iprop(Amb c arg0 arg1 arg2 arg11 q0 q1 q2 Tab Len Pool ∗ RingAt c arg3 arg12 arg14 f3 (16 * t1.val) (nb v6) 0) ⊢ wpb (F := F) c
      (Scf.Loop.for (k0_t6_loop v6) ok a0 (k0_t6_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v179 v189 v200 k0_hw4 k0_h6 k0_h7 v364))
      (fun r => iprop(⌜r = run6 v0 v1 v6 v364 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t6_loop v6).trips (fun k a => step6 v0 v1 v6 v364 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t6_loop v6).lb (k0_t6_loop v6).ub (k0_t6_loop v6).st = nb v6 := trips6 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip6 c hT v0 v1 t1 v4 v6 v24 v27 v179 v189 v200 k0_hw4 k0_h6 k0_h7 v364 h6 k acc) $$ H
    iintro %r ⟨%hr, H⟩
    isplitr
    · ipureintro
      rw [hr, hacc]
      exact (accRun_succ _ _ _ k).symm
    iexact H

theorem rest8 (v0 : IVec S16x128 32) (v1 : IVec S16x128 32) (t1 : Fin k0_t1_loop.trips) (v4 : BitVec 32) (v6 : Elt F .i32) (v24 : BitVec 32) (v27 : FVec F S72x128 .f32) (v179 : BitVec 1) (v189 : BitVec 1) (v200 : BitVec 1) (k0_hw4 : k0_chk4 t1 v6 v179 v189 v200) (k0_h6 : k0_cond6 v179 v189 v200 = 1#1) (k0_h7 : k0_cond7 v189 v200 = 1#1) (v364 : Vec F S1x80x64 .bf16) (v379 : BitVec 32) (ok : (k0_t8_loop v6).OK) (a0 : FVec F S72x128 .f32) {P : FVec F S72x128 .f32 → sProp 𝕄} :
    P a0 ⊢ wpb (F := F) c (Scf.Loop.for (k0_t8_loop v6) ok a0 (k0_t8_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v179 v189 v200 k0_hw4 k0_h6 k0_h7 v364 v379)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips8 v6) k).elim

/-- The carry of loop 10 after all its trips. -/
def run10 (v0 : IVec S16x128 32) (v1 : IVec S16x128 32) (v6 : Elt F .i32) (v391 : FVec F S80x64 .bf16) (v392 : FVec F S72x256 .f32) (G : ℕ → S256x128.Idx → BitVec 32) (SC : ℕ → S32x128.Idx → Elt F .f32) (len : BitVec 32) (a0 : FVec F S72x128 .f32 × FVec F S64x72 .f32) : FVec F S72x128 .f32 × FVec F S64x72 .f32 :=
  accRun (k0_t10_loop v6).trips (fun k a => step10 v0 v1 v6 v391 v392 k (G k.val) (SC k.val) len a) a0 (nb v6)

theorem loop10 (hT : ∀ y, (Tab y).toNat < 61440) (v0 : IVec S16x128 32) (v1 : IVec S16x128 32) (t1 : Fin k0_t1_loop.trips) (v4 : BitVec 32) (v6 : Elt F .i32) (v24 : BitVec 32) (v27 : FVec F S72x128 .f32) (v49_0 : FVec F S72x128 .f32) (v179 : BitVec 1) (v189 : BitVec 1) (v200 : BitVec 1) (k0_hw4 : k0_chk4 t1 v6 v179 v189 v200) (v202 : BitVec 1) (k0_h6 : k0_cond6 v179 v189 v200 = 1#1) (k0_h7 : k0_cond7 v189 v200 = 1#1) (v391 : FVec F S80x64 .bf16) (v392 : FVec F S72x256 .f32) (h6 : v6.toInt ≤ 32768) (ok : (k0_t10_loop v6).OK) (a0 : FVec F S72x128 .f32 × FVec F S64x72 .f32) :
    iprop(Amb c arg0 arg1 arg2 arg11 q0 q1 q2 Tab Len Pool ∗ RingAt c arg3 arg12 arg14 f3 (16 * t1.val) (nb v6) 0) ⊢ wpb (F := F) c
      (Scf.Loop.for (k0_t10_loop v6) ok a0 (k0_t10_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v49_0 v179 v189 v200 k0_hw4 v202 k0_h6 k0_h7 v391 v392))
      (fun r => iprop(⌜r = run10 v0 v1 v6 v391 v392 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t10_loop v6).trips (fun k a => step10 v0 v1 v6 v391 v392 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t10_loop v6).lb (k0_t10_loop v6).ub (k0_t10_loop v6).st = nb v6 := trips10 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip10 c hT v0 v1 t1 v4 v6 v24 v27 v49_0 v179 v189 v200 k0_hw4 v202 k0_h6 k0_h7 v391 v392 h6 k acc) $$ H
    iintro %r ⟨%hr, H⟩
    isplitr
    · ipureintro
      rw [hr, hacc]
      exact (accRun_succ _ _ _ k).symm
    iexact H

theorem rest12 (v0 : IVec S16x128 32) (v1 : IVec S16x128 32) (t1 : Fin k0_t1_loop.trips) (v4 : BitVec 32) (v6 : Elt F .i32) (v24 : BitVec 32) (v27 : FVec F S72x128 .f32) (v49_0 : FVec F S72x128 .f32) (v179 : BitVec 1) (v189 : BitVec 1) (v200 : BitVec 1) (k0_hw4 : k0_chk4 t1 v6 v179 v189 v200) (v202 : BitVec 1) (k0_h6 : k0_cond6 v179 v189 v200 = 1#1) (k0_h7 : k0_cond7 v189 v200 = 1#1) (v391 : FVec F S80x64 .bf16) (v392 : FVec F S72x256 .f32) (v408 : BitVec 32) (ok : (k0_t12_loop v6).OK) (a0 : FVec F S72x128 .f32 × FVec F S64x72 .f32) {P : FVec F S72x128 .f32 × FVec F S64x72 .f32 → sProp 𝕄} :
    P a0 ⊢ wpb (F := F) c (Scf.Loop.for (k0_t12_loop v6) ok a0 (k0_t12_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v27 v49_0 v179 v189 v200 k0_hw4 v202 k0_h6 k0_h7 v391 v392 v408)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips12 v6) k).elim

/-- The carry of loop 14 after all its trips. -/
def run14 (v0 : IVec S16x128 32) (v1 : IVec S16x128 32) (v6 : Elt F .i32) (v235 : FVec F S80x64 .bf16) (v236 : FVec F S72x256 .f32) (G : ℕ → S256x128.Idx → BitVec 32) (SC : ℕ → S32x128.Idx → Elt F .f32) (len : BitVec 32) (a0 : FVec F S72x128 .f32 × FVec F S64x72 .f32) : FVec F S72x128 .f32 × FVec F S64x72 .f32 :=
  accRun (k0_t14_loop v6).trips (fun k a => step14 v0 v1 v6 v235 v236 k (G k.val) (SC k.val) len a) a0 (nb v6)

theorem loop14 (hT : ∀ y, (Tab y).toNat < 61440) (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (h6 : v6.toInt ≤ 32768) (ok : (k0_t14_loop v6).OK) (a0 : FVec F S72x128 .f32 × FVec F S64x72 .f32) :
    iprop(Amb c arg0 arg1 arg2 arg11 q0 q1 q2 Tab Len Pool ∗ RingAt c arg3 arg12 arg14 f3 (16 * t1.val) (nb v6) 0) ⊢ wpb (F := F) c
      (Scf.Loop.for (k0_t14_loop v6) ok a0 (k0_t14_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 v232 v235 v236 v237 v238))
      (fun r => iprop(⌜r = run14 v0 v1 v6 v235 v236 (Gat Tab Pool t1) (fun k => Blk c (arg3 := arg3) f3 (16 * t1.val + k)) (Len (ix1 t1)) a0⌝ ∗ Amb c arg0 arg1 arg2 arg11 q0 q1 q2 Tab Len Pool ∗ RingIdle c arg3 arg12 arg14 f3)) := by
  refine BIBase.Entails.trans ?_ (Scf.wp_for frame (wpE (defs₀ (F := F)) Variants.none (c : Thread nD τ) none) Set.univ _ _ _ ok a0 _
    (fun k acc => iprop(⌜acc = accRun (k0_t14_loop v6).trips (fun k a => step14 v0 v1 v6 v235 v236 k (Gat Tab Pool t1 k.val) (Blk c (arg3 := arg3) f3 (16 * t1.val + k.val)) (Len (ix1 t1)) a) a0 k⌝
      ∗ Amb c arg0 arg1 arg2 arg11 q0 q1 q2 Tab Len Pool ∗ RingAt c arg3 arg12 arg14 f3 (16 * t1.val) (nb v6) k)) ?_)
  · iintro ⟨HA, HR⟩
    isplitl [HA HR]
    · isplitr
      · ipureintro; rfl
      isplitl [HA]; · iexact HA
      iexact HR
    iintro %acc ⟨%hacc, HA, HR⟩
    have ht : Scf.trips (k0_t14_loop v6).lb (k0_t14_loop v6).ub (k0_t14_loop v6).st = nb v6 := trips14 v6 h6
    rw [ht] at hacc ⊢
    isplitr
    · ipureintro; exact hacc
    isplitl [HA]; · iexact HA
    iapply (ring_end c) $$ HR
  · intro k acc
    iintro ⟨%hacc, H⟩
    iapply (wand_wpb c) $$ [H]
    · iapply (trip14 c hT v0 v1 t1 v4 v6 v24 v179 v189 v200 k0_hw4 k0_h6 v232 v235 v236 v237 v238 h6 k acc) $$ H
    iintro %r ⟨%hr, H⟩
    isplitr
    · ipureintro
      rw [hr, hacc]
      exact (accRun_succ _ _ _ k).symm
    iexact H

theorem rest16 (v0 : IVec S16x128 32) (v1 : IVec S16x128 32) (t1 : Fin k0_t1_loop.trips) (v4 : BitVec 32) (v6 : Elt F .i32) (v24 : BitVec 32) (v179 : BitVec 1) (v189 : BitVec 1) (v200 : BitVec 1) (k0_hw4 : k0_chk4 t1 v6 v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (v252 : BitVec 32) (ok : (k0_t16_loop v6).OK) (a0 : FVec F S72x128 .f32 × FVec F S64x72 .f32) {P : FVec F S72x128 .f32 × FVec F S64x72 .f32 → sProp 𝕄} :
    P a0 ⊢ wpb (F := F) c (Scf.Loop.for (k0_t16_loop v6) ok a0 (k0_t16_body arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 v6 v24 v179 v189 v200 k0_hw4 k0_h6 v232 v235 v236 v237 v238 v252)) P := by
  refine BIBase.Entails.trans ?_ (Scf.wp_for frame (wpE (defs₀ (F := F)) Variants.none (c : Thread nD τ) none) Set.univ _ _ _ ok a0 _
    (fun _ acc => P acc) ?_)
  · iintro H
    isplitl [H]; · iexact H
    iintro %acc H
    iexact H
  · intro k
    exact (noTrip (trips16 v6) k).elim

/-! ## The slabs of the operands -/

/-- Sequence `s`'s slab of a value. -/
def Sl3 {α : Type} {n a b : ℕ} (X : (⟨3, ![n, a, b]⟩ : Shape).Idx → α) (s : Fin n) : (⟨3, ![1, a, b]⟩ : Shape).Idx → α := fun x => X (ix3 s (x 1) (x 2))
/-- The first `b` of sequence `s`'s row. -/
def Sl2 {α : Type} {n m : ℕ} (b : ℕ) (h : b ≤ m) (X : (⟨2, ![n, m]⟩ : Shape).Idx → α) (s : Fin n) : (⟨2, ![1, b]⟩ : Shape).Idx → α :=
  fun x => X (ix2 s ⟨(x 1).val, lt_of_lt_of_le (x 1).isLt h⟩)

theorem sl3_eq {α : Type} {n a b : ℕ} (X : (⟨3, ![n, a, b]⟩ : Shape).Idx → α) (s : Fin n) {o : Fin 3 → ℕ} (ho : o = ![s.val, 0, 0]) {i} :
    (fun x => X ((Rect.unit (s := (⟨3, ![n, a, b]⟩ : Shape)) o ![1, a, b] i).toLoadRect.idx x)) = Sl3 X s := by
  subst ho
  funext x
  refine congrArg X ?_
  have h0 : (x 0).val < 1 := (x 0).isLt
  funext d
  apply Fin.ext
  fin_cases d
  · show s.val + 1 * (x 0).val = s.val; omega
  · show 0 + 1 * (x 1).val = (x 1).val; omega
  · show 0 + 1 * (x 2).val = (x 2).val; omega

theorem sl2_eq {α : Type} {n m b : ℕ} (h : b ≤ m) (X : (⟨2, ![n, m]⟩ : Shape).Idx → α) (s : Fin n) {o : Fin 2 → ℕ} (ho : o = ![s.val, 0]) {i} :
    (fun x => X ((Rect.unit (s := (⟨2, ![n, m]⟩ : Shape)) o ![1, b] i).toLoadRect.idx x)) = Sl2 b h X s := by
  subst ho
  funext x
  refine congrArg X ?_
  have h0 : (x 0).val < 1 := (x 0).isLt
  funext d
  apply Fin.ext
  fin_cases d
  · show s.val + 1 * (x 0).val = s.val; omega
  · show 0 + 1 * (x 1).val = (x 1).val; omega

theorem overlay3 {α : Type} {n a b : ℕ} (X : (⟨3, ![n, a, b]⟩ : Shape).Idx → α) (s : Fin n) {o : Fin 3 → ℕ} (ho : o = ![s.val, 0, 0]) {i}
    (w : (⟨3, ![1, a, b]⟩ : Shape).Idx → α) :
    Sl3 ((Rect.unit (s := (⟨3, ![n, a, b]⟩ : Shape)) o ![1, a, b] i).overlay X w) s = w
      ∧ ∀ t ≠ s, Sl3 ((Rect.unit (s := (⟨3, ![n, a, b]⟩ : Shape)) o ![1, a, b] i).overlay X w) t = Sl3 X t := by
  subst ho
  constructor
  · funext x
    have h0 : (x 0).val < 1 := (x 0).isLt
    have he : ix3 s (x 1) (x 2) = (Rect.unit (s := (⟨3, ![n, a, b]⟩ : Shape)) ![s.val, 0, 0] ![1, a, b] i).emb x := by
      funext d
      apply Fin.ext
      fin_cases d
      · show s.val = s.val + 1 * (x 0).val; omega
      · show (x 1).val = 0 + 1 * (x 1).val; omega
      · show (x 2).val = 0 + 1 * (x 2).val; omega
    show Rect.overlay _ _ _ (ix3 s (x 1) (x 2)) = _
    rw [he]
    exact Rect.overlay_emb (Rect.unit (s := (⟨3, ![n, a, b]⟩ : Shape)) ![s.val, 0, 0] ![1, a, b] i) X w x
  · intro t ht
    funext x
    refine Rect.overlay_of_not_mem _ _ _ fun hm => ht ?_
    have h0 : s.val ≤ t.val ∧ t.val < s.val + 1 := Rect.mem_set_unit.1 hm 0
    exact Fin.ext (by omega)

theorem overlay2 {α : Type} {n b : ℕ} (X : (⟨2, ![n, b]⟩ : Shape).Idx → α) (s : Fin n) {o : Fin 2 → ℕ} (ho : o = ![s.val, 0]) {i}
    (w : (⟨2, ![1, b]⟩ : Shape).Idx → α) :
    Sl2 b le_rfl ((Rect.unit (s := (⟨2, ![n, b]⟩ : Shape)) o ![1, b] i).overlay X w) s = w
      ∧ ∀ t ≠ s, Sl2 b le_rfl ((Rect.unit (s := (⟨2, ![n, b]⟩ : Shape)) o ![1, b] i).overlay X w) t = Sl2 b le_rfl X t := by
  subst ho
  constructor
  · funext x
    have h0 : (x 0).val < 1 := (x 0).isLt
    have he : ix2 s (x 1) = (Rect.unit (s := (⟨2, ![n, b]⟩ : Shape)) ![s.val, 0] ![1, b] i).emb x := by
      funext d
      apply Fin.ext
      fin_cases d
      · show s.val = s.val + 1 * (x 0).val; omega
      · show (x 1).val = 0 + 1 * (x 1).val; omega
    show Rect.overlay _ _ _ (ix2 s (x 1)) = _
    rw [he]
    exact Rect.overlay_emb (Rect.unit (s := (⟨2, ![n, b]⟩ : Shape)) ![s.val, 0] ![1, b] i) X w x
  · intro t ht
    funext x
    refine Rect.overlay_of_not_mem _ _ _ fun hm => ht ?_
    have h0 : s.val ≤ t.val ∧ t.val < s.val + 1 := Rect.mem_set_unit.1 hm 0
    exact Fin.ext (by omega)

section Mem

variable {cs : CoreSpace} {e : EltTy}

theorem load_sl3 {n a b : ℕ} {m : Memref sig .tc cs (⟨3, ![n, a, b]⟩ : Shape) e} {q : PosShare TreeShare} {X : (⟨3, ![n, a, b]⟩ : Shape).Idx → Elt F e}
    (s : Fin n) {o : Fin 3 → ℕ} (ho : o = ![s.val, 0, 0]) {i hl} {k : ((⟨3, ![1, a, b]⟩ : Shape).Idx → Elt F e) → Prog (TpuEff nD τ sig (Elt F) Λ₀ .tc) α} :
    (owns (c : Thread nD τ) m q X : sProp 𝕄) ⊢ iprop((owns (c : Thread nD τ) m q X -∗ wpb c (k (Sl3 X s)) Q)
      -∗ wpb c (.op (.load m (Rect.unit (s := (⟨3, ![n, a, b]⟩ : Shape)) o ![1, a, b] i).toLoadRect hl) k) Q) := by
  rw [← sl3_eq X s ho (i := i)]
  exact load_owns c (m := m) (r := (Rect.unit (s := (⟨3, ![n, a, b]⟩ : Shape)) o ![1, a, b] i).toLoadRect) (hl := hl) (k := k)

theorem load_sl2 {n w b : ℕ} (h : b ≤ w) {m : Memref sig .tc cs (⟨2, ![n, w]⟩ : Shape) e} {q : PosShare TreeShare} {X : (⟨2, ![n, w]⟩ : Shape).Idx → Elt F e}
    (s : Fin n) {o : Fin 2 → ℕ} (ho : o = ![s.val, 0]) {i hl} {k : ((⟨2, ![1, b]⟩ : Shape).Idx → Elt F e) → Prog (TpuEff nD τ sig (Elt F) Λ₀ .tc) α} :
    (owns (c : Thread nD τ) m q X : sProp 𝕄) ⊢ iprop((owns (c : Thread nD τ) m q X -∗ wpb c (k (Sl2 b h X s)) Q)
      -∗ wpb c (.op (.load m (Rect.unit (s := (⟨2, ![n, w]⟩ : Shape)) o ![1, b] i).toLoadRect hl) k) Q) := by
  rw [← sl2_eq h X s ho (i := i)]
  exact load_owns c (m := m) (r := (Rect.unit (s := (⟨2, ![n, w]⟩ : Shape)) o ![1, b] i).toLoadRect) (hl := hl) (k := k)

/-- A buffer of slabs: the slab of `s` is `w`, the others are those of `X`. -/
def Slab3 {n a b : ℕ} (m : Memref sig .tc cs (⟨3, ![n, a, b]⟩ : Shape) e) (X : (⟨3, ![n, a, b]⟩ : Shape).Idx → Elt F e) (s : Fin n)
    (w : (⟨3, ![1, a, b]⟩ : Shape).Idx → Elt F e) : sProp 𝕄 :=
  iprop(∃ Y : (⟨3, ![n, a, b]⟩ : Shape).Idx → Elt F e, owns (c : Thread nD τ) m fullShare Y ∗ ⌜Sl3 Y s = w ∧ ∀ t ≠ s, Sl3 Y t = Sl3 X t⌝)
/-- A buffer of rows: the row of `s` is `w`, the others are those of `X`. -/
def Slab2 {n b : ℕ} (m : Memref sig .tc cs (⟨2, ![n, b]⟩ : Shape) e) (X : (⟨2, ![n, b]⟩ : Shape).Idx → Elt F e) (s : Fin n)
    (w : (⟨2, ![1, b]⟩ : Shape).Idx → Elt F e) : sProp 𝕄 :=
  iprop(∃ Y : (⟨2, ![n, b]⟩ : Shape).Idx → Elt F e, owns (c : Thread nD τ) m fullShare Y ∗ ⌜Sl2 b le_rfl Y s = w ∧ ∀ t ≠ s, Sl2 b le_rfl Y t = Sl2 b le_rfl X t⌝)

theorem slab3_any {n a b : ℕ} {m : Memref sig .tc cs (⟨3, ![n, a, b]⟩ : Shape) e} {X : (⟨3, ![n, a, b]⟩ : Shape).Idx → Elt F e} (s : Fin n) :
    owns (c : Thread nD τ) m fullShare X ⊢ Slab3 c m X s (Sl3 X s) := by
  unfold Slab3
  iintro H
  iexists X
  isplitl [H]; · iexact H
  ipureintro; exact ⟨rfl, fun _ _ => rfl⟩
theorem slab2_any {n b : ℕ} {m : Memref sig .tc cs (⟨2, ![n, b]⟩ : Shape) e} {X : (⟨2, ![n, b]⟩ : Shape).Idx → Elt F e} (s : Fin n) :
    owns (c : Thread nD τ) m fullShare X ⊢ Slab2 c m X s (Sl2 b le_rfl X s) := by
  unfold Slab2
  iintro H
  iexists X
  isplitl [H]; · iexact H
  ipureintro; exact ⟨rfl, fun _ _ => rfl⟩

/-- The slab is read, and what is read forgotten, then written. -/
theorem put_sl3 {n a b : ℕ} {m : Memref sig .tc cs (⟨3, ![n, a, b]⟩ : Shape) e} {X : (⟨3, ![n, a, b]⟩ : Shape).Idx → Elt F e} {w0 : (⟨3, ![1, a, b]⟩ : Shape).Idx → Elt F e}
    (s : Fin n) {o : Fin 3 → ℕ} (ho : o = ![s.val, 0, 0]) {i hl hx hm} {w : (⟨3, ![1, a, b]⟩ : Shape).Idx → Elt F e} {k : Prog (TpuEff nD τ sig (Elt F) Λ₀ .tc) α} :
    Slab3 c m X s w0 ⊢ iprop((Slab3 c m X s w -∗ wpb c k Q)
      -∗ wpb c (.op (.load m (Rect.unit (s := (⟨3, ![n, a, b]⟩ : Shape)) o ![1, a, b] i).toLoadRect hl)
        fun _ => .op (.store m (Rect.unit (s := (⟨3, ![n, a, b]⟩ : Shape)) o ![1, a, b] i) w Finset.univ hx hm) fun _ => k) Q) := by
  unfold Slab3
  iintro ⟨%Y, H, %hY⟩ Hk
  iapply (load_owns c) $$ H
  iintro H
  iapply (store_owns c) $$ H
  iintro H
  iapply Hk
  iexists _
  isplitl [H]; · iexact H
  ipureintro
  have h := overlay3 Y s ho (i := i) w
  exact ⟨h.1, fun t ht => (h.2 t ht).trans (hY.2 t ht)⟩
theorem put_sl2 {n b : ℕ} {m : Memref sig .tc cs (⟨2, ![n, b]⟩ : Shape) e} {X : (⟨2, ![n, b]⟩ : Shape).Idx → Elt F e} {w0 : (⟨2, ![1, b]⟩ : Shape).Idx → Elt F e}
    (s : Fin n) {o : Fin 2 → ℕ} (ho : o = ![s.val, 0]) {i hl hx hm} {w : (⟨2, ![1, b]⟩ : Shape).Idx → Elt F e} {k : Prog (TpuEff nD τ sig (Elt F) Λ₀ .tc) α} :
    Slab2 c m X s w0 ⊢ iprop((Slab2 c m X s w -∗ wpb c k Q)
      -∗ wpb c (.op (.load m (Rect.unit (s := (⟨2, ![n, b]⟩ : Shape)) o ![1, b] i).toLoadRect hl)
        fun _ => .op (.store m (Rect.unit (s := (⟨2, ![n, b]⟩ : Shape)) o ![1, b] i) w Finset.univ hx hm) fun _ => k) Q) := by
  unfold Slab2
  iintro ⟨%Y, H, %hY⟩ Hk
  iapply (load_owns c) $$ H
  iintro H
  iapply (store_owns c) $$ H
  iintro H
  iapply Hk
  iexists _
  isplitl [H]; · iexact H
  ipureintro
  have h := overlay2 Y s ho (i := i) w
  exact ⟨h.1, fun t ht => (h.2 t ht).trans (hY.2 t ht)⟩

end Mem

/-! ## The stored maximum and sum -/

section Ml

/-- The buffer of the maximum and the sum, at the two. -/
def Ml (arg13 : Memref sig .tc .vmem S2x72x128 .f32) (a b : S1x72x128.Idx → Elt F .f32) : sProp 𝕄 :=
  iprop(∃ Y : S2x72x128.Idx → Elt F .f32, owns (c : Thread nD τ) arg13 fullShare (e := .f32) Y ∗ ⌜Sl3 Y (0 : Fin 2) = a ∧ Sl3 Y (1 : Fin 2) = b⌝)

theorem ml_load0 {a b : S1x72x128.Idx → Elt F .f32} {i hl} {k : (S1x72x128.Idx → Elt F .f32) → Prog (TpuEff nD τ sig (Elt F) Λ₀ .tc) α} :
    Ml c arg13 a b ⊢ iprop((Ml c arg13 a b -∗ wpb c (k a) Q)
      -∗ wpb c (.op (.load arg13 (Rect.unit (s := S2x72x128) ![0, 0, 0] S1x72x128.size i).toLoadRect hl) k) Q) := by
  unfold Ml
  iintro ⟨%Y, H, %hY⟩ Hk
  iapply (load_sl3 c (n := 2) (a := 72) (b := 128) (0 : Fin 2) rfl) $$ H
  iintro H
  rw [hY.1]
  iapply Hk
  iexists Y
  isplitl [H]; · iexact H
  ipureintro; exact hY
theorem ml_load1 {a b : S1x72x128.Idx → Elt F .f32} {i hl} {k : (S1x72x128.Idx → Elt F .f32) → Prog (TpuEff nD τ sig (Elt F) Λ₀ .tc) α} :
    Ml c arg13 a b ⊢ iprop((Ml c arg13 a b -∗ wpb c (k b) Q)
      -∗ wpb c (.op (.load arg13 (Rect.unit (s := S2x72x128) ![1, 0, 0] S1x72x128.size i).toLoadRect hl) k) Q) := by
  unfold Ml
  iintro ⟨%Y, H, %hY⟩ Hk
  iapply (load_sl3 c (n := 2) (a := 72) (b := 128) (1 : Fin 2) rfl) $$ H
  iintro H
  rw [hY.2]
  iapply Hk
  iexists Y
  isplitl [H]; · iexact H
  ipureintro; exact hY
theorem ml_store0 {a b w : S1x72x128.Idx → Elt F .f32} {i hx hm} {k : PUnit → Prog (TpuEff nD τ sig (Elt F) Λ₀ .tc) α} :
    Ml c arg13 a b ⊢ iprop((Ml c arg13 w b -∗ wpb c (k ⟨⟩) Q)
      -∗ wpb c (.op (.store arg13 (Rect.unit (s := S2x72x128) ![0, 0, 0] S1x72x128.size i) w Finset.univ hx hm) k) Q) := by
  unfold Ml
  iintro ⟨%Y, H, %hY⟩ Hk
  iapply (store_owns c) $$ H
  iintro H
  iapply Hk
  iexists _
  isplitl [H]; · iexact H
  ipureintro
  have h := overlay3 (n := 2) (a := 72) (b := 128) Y (0 : Fin 2) rfl (i := i) w
  exact ⟨h.1, (h.2 1 (by decide)).trans hY.2⟩
theorem ml_store1 {a b w : S1x72x128.Idx → Elt F .f32} {i hx hm} {k : PUnit → Prog (TpuEff nD τ sig (Elt F) Λ₀ .tc) α} :
    Ml c arg13 a b ⊢ iprop((Ml c arg13 a w -∗ wpb c (k ⟨⟩) Q)
      -∗ wpb c (.op (.store arg13 (Rect.unit (s := S2x72x128) ![1, 0, 0] S1x72x128.size i) w Finset.univ hx hm) k) Q) := by
  unfold Ml
  iintro ⟨%Y, H, %hY⟩ Hk
  iapply (store_owns c) $$ H
  iintro H
  iapply Hk
  iexists _
  isplitl [H]; · iexact H
  ipureintro
  have h := overlay3 (n := 2) (a := 72) (b := 128) Y (1 : Fin 2) rfl (i := i) w
  exact ⟨(h.2 0 (by decide)).trans hY.1, h.1⟩

end Ml

end Cert.KernelIdeal.Hand
-- ==== Proof.Ideal.Body.lean ====
/-
  One sequence: what its slabs of the results hold after its trip, by part of the body.
-/
module

public import proofs.«01_k».proof.Proof.Ideal.Passes

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 q4 q5 q6 q7 : PosShare TreeShare}
  {Tab : S24x2048.Idx → BitVec 32} {Len : S24.Idx → BitVec 32} {Pool : S122880x128.Idx → BitVec 32}
  {Qv : S24x80x64.Idx → Elt F .bf16} {Mv : S24x72x128.Idx → Elt F .f32} {Cv : S24x64.Idx → Elt F .f32} {Sv : S24x128.Idx → Elt F .f32}

/-- What a sequence is computed from: the page rows and the scales of its blocks, its length, its slabs of the operands. -/
structure Seq (F : FTy → Type) where
  v0 : IVec S16x128 32
  v1 : IVec S16x128 32
  G : ℕ → S256x128.Idx → BitVec 32
  SC : ℕ → S32x128.Idx → Elt F .f32
  len : BitVec 32
  q : FVec F S1x80x64 .bf16
  m : FVec F S1x72x128 .f32
  cv : FVec F S1x64 .f32
  sv : FVec F S1x72 .f32

namespace Seq
variable (I : Seq F)

/-- The first pass. -/
def acc : FVec F S72x128 .f32 × FVec F S64x72 .f32 := run2 I.v0 I.v1 I.len (k0_pay399 I.q) (k0_pay400 I.m) I.G I.SC I.len (k0_pay401 (F := F), k0_pay402 (F := F))
/-- The maximum over the blocks. -/
def mt : FVec F S72x128 .f32 := run6 I.v0 I.v1 I.len I.q I.G I.SC I.len (k0_pay398 I.m)
/-- The pass at that maximum. -/
def accT : FVec F S72x128 .f32 × FVec F S64x72 .f32 := run10 I.v0 I.v1 I.len (k0_pay262 I.q) (k0_pay263 I.mt) I.G I.SC I.len (k0_pay264 (F := F), k0_pay265 (F := F))
def mlA : FVec F S1x72x128 .f32 × FVec F S1x72x128 .f32 := (k0_pay374 (k0_pay398 I.m), k0_pay375 I.acc.1)
def mlB : FVec F S1x72x128 .f32 × FVec F S1x72x128 .f32 := (k0_pay261 I.mt, k0_pay378 I.accT.1)
variable (ml : FVec F S1x72x128 .f32 × FVec F S1x72x128 .f32)
/-- The last pass, at the shift made of a maximum and a sum. -/
def accL : FVec F S72x128 .f32 × FVec F S64x72 .f32 :=
  run14 I.v0 I.v1 I.len (k0_pay380 I.q) (k0_pay381 ml.2 I.m ml.1 ml.1) I.G I.SC I.len (k0_pay382 (F := F), k0_pay383 (F := F))
def v80 : FVec F S64x72 .f32 := k0_pay407 I.cv
def v82 : FVec F S64x72 .f32 := k0_pay408 (k0_pay398 I.m) I.acc.1 I.acc.2 I.m
def v83 : FVec F S64x72 .f32 := k0_pay409 (k0_pay398 I.m) I.acc.1 I.m I.sv
def near8 : FVec F S1x64x71 .bf16 := k0_pay411 I.v80 I.v82 I.v83
def near9 : FVec F S1x64x71 .fp8e4m3 := k0_pay417 (k0_pay410 I.v80 I.v82 I.v83) (k0_pay412 I.v80 I.v82 I.v83) (k0_pay413 I.v80 I.v82 I.v83) (k0_pay414 I.v80 I.v82 I.v83) 23#32
def near10 : FVec F S1x128 .f32 := k0_pay418 (k0_pay412 I.v80 I.v82 I.v83) (k0_pay413 I.v80 I.v82 I.v83) (k0_pay414 I.v80 I.v82 I.v83) 23#32
def v271 : FVec F S1x72 .f32 := k0_pay386 (k0_pay379 ml.2 I.m ml.1 ml.1) I.m I.sv
def far8 : FVec F S1x64x71 .bf16 := k0_pay390 (I.accL ml).2 (I.v271 ml) (k0_pay387 I.cv) (k0_pay388 (F := F))
def far9 : FVec F S1x64x71 .fp8e4m3 := k0_pay396 (k0_pay389 (I.accL ml).2 (I.v271 ml) (k0_pay387 I.cv) (k0_pay388 (F := F))) (k0_pay391 (I.accL ml).2 (I.v271 ml) (k0_pay387 I.cv) (k0_pay388 (F := F)))
  (k0_pay392 (I.accL ml).2 (I.v271 ml) (k0_pay387 I.cv) (k0_pay388 (F := F))) (k0_pay393 (I.accL ml).2 (I.v271 ml) (k0_pay387 I.cv) (k0_pay388 (F := F))) k0_pay394
def far10 : FVec F S1x128 .f32 := k0_pay397 (k0_pay391 (I.accL ml).2 (I.v271 ml) (k0_pay387 I.cv) (k0_pay388 (F := F)))
  (k0_pay392 (I.accL ml).2 (I.v271 ml) (k0_pay387 I.cv) (k0_pay388 (F := F))) (k0_pay393 (I.accL ml).2 (I.v271 ml) (k0_pay387 I.cv) (k0_pay388 (F := F))) k0_pay394
/-- Whether some shifted denominator or numerator of the first pass is out of the range it can be kept in. -/
def c189 : BitVec 1 := Scalar.cmpf .ogt (k0_pay422 I.acc.1) (Scalar.ofBits .f32 0x00000000#32)
def c200 : BitVec 1 := Scalar.cmpf .ogt (k0_pay423 I.acc.2) (Scalar.ofBits .f32 0x00000000#32)
/-- Whether some value to be packed is too close to a tie. -/
def c179 : BitVec 1 := Scalar.cmpf .ogt (k0_pay421 (F := F) (k0_pay419 (k0_pay413 I.v80 I.v82 I.v83) (k0_pay414 I.v80 I.v82 I.v83) 23#32) (k0_pay420)) (Scalar.ofBits .f32 0x00000000#32)
/-- The shift and the denominator the last pass starts from. -/
def mlC : FVec F S1x72x128 .f32 × FVec F S1x72x128 .f32 := if k0_cond7 I.c189 I.c200 = 1#1 then I.mlB else I.mlA
/-- The three slabs a sequence ends with: those of the first pass, or those of the last. -/
def out8 : FVec F S1x64x71 .bf16 := if k0_cond6 I.c179 I.c189 I.c200 = 1#1 then I.far8 I.mlC else I.near8
def out9 : FVec F S1x64x71 .fp8e4m3 := if k0_cond6 I.c179 I.c189 I.c200 = 1#1 then I.far9 I.mlC else I.near9
def out10 : FVec F S1x128 .f32 := if k0_cond6 I.c179 I.c189 I.c200 = 1#1 then I.far10 I.mlC else I.near10

end Seq

/-- Sequence `s` of the operands. -/
def seqOf {arg3 : Memref sig .tc .hbm S32x49152 .f32} (f3 : Buf (Elt F) (arg3.view.loc (c : Thread nD τ))) (Tab : S24x2048.Idx → BitVec 32) (Len : S24.Idx → BitVec 32) (Pool : S122880x128.Idx → BitVec 32)
    (Qv : S24x80x64.Idx → Elt F .bf16) (Mv : S24x72x128.Idx → Elt F .f32) (Cv : S24x64.Idx → Elt F .f32) (Sv : S24x128.Idx → Elt F .f32)
    (v0 v1 : IVec S16x128 32) (s : Fin 24) : Seq F where
  v0 := v0
  v1 := v1
  G := Gat Tab Pool s
  SC k := Blk c (arg3 := arg3) f3 (16 * s.val + k)
  len := Len (ix1 s)
  q := Sl3 (n := 24) (a := 80) (b := 64) Qv s
  m := Sl3 (n := 24) (a := 72) (b := 128) Mv s
  cv := Sl2 (n := 24) (m := 64) 64 le_rfl Cv s
  sv := Sl2 (n := 24) (m := 128) 72 (by decide) Sv s

/-- The operands a sequence reads its slabs of. -/
def Ins (arg4 : Memref sig .tc .vmem S24x80x64 .bf16) (arg5 : Memref sig .tc .vmem S24x72x128 .f32) (arg6 : Memref sig .tc .vmem S24x64 .f32) (arg7 : Memref sig .tc .vmem S24x128 .f32)
    (q4 q5 q6 q7 : PosShare TreeShare) (Qv : S24x80x64.Idx → Elt F .bf16) (Mv : S24x72x128.Idx → Elt F .f32) (Cv : S24x64.Idx → Elt F .f32) (Sv : S24x128.Idx → Elt F .f32) : sProp 𝕄 :=
  iprop(owns (c : Thread nD τ) arg4 q4 (e := .bf16) Qv ∗ owns (c : Thread nD τ) arg5 q5 (e := .f32) Mv ∗ owns (c : Thread nD τ) arg6 q6 (e := .f32) Cv ∗ owns (c : Thread nD τ) arg7 q7 (e := .f32) Sv)

set_option backward.isDefEq.respectTransparency.types false in
theorem part106 (c0_i32 : BitVec 32) (c1_i32 : BitVec 32) (t1 : Fin k0_t1_loop.trips) (hL : ∀ y, (Len y).toInt ≤ 32768) :
    iprop(Amb c arg0 arg1 arg2 arg11 q0 q1 q2 Tab Len Pool ∗ RingIdle c arg3 arg12 arg14 f3 ∗ Ins c arg4 arg5 arg6 arg7 q4 q5 q6 q7 Qv Mv Cv Sv) ⊢ wpb (F := F) c (k0_part106 arg0 harg0 arg1 harg1 arg2 harg2 arg3 harg3 arg4 harg4 arg5 harg5 arg6 harg6 arg7 harg7 arg8 harg8 arg9 harg9 arg10 harg10 arg11 harg11 arg12 harg12 arg13 harg13 arg14 c0_i32 c1_i32 t1)
      (fun r => iprop(⌜r = ⟨Scalar.addi 0#32 (Scalar.muli (Scf.iv c0_i32 c1_i32 t1) 1#32), Len (ix1 t1), chk1_of _ _ (hL _), nbw (Len (ix1 t1)), k0_pay398 (Sl3 (n := 24) (a := 72) (b := 128) Mv t1), k0_pay399 (Sl3 (n := 24) (a := 80) (b := 64) Qv t1), k0_pay400 (Sl3 (n := 24) (a := 72) (b := 128) Mv t1), k0_pay401 (F := F), k0_pay402 (F := F), Scalar.cmpi .ne (Scalar.extui (Scalar.cmpi .sgt (nbw (Len (ix1 t1))) 1#32)) 0#32⟩⌝
        ∗ Amb c arg0 arg1 arg2 arg11 q0 q1 q2 Tab Len Pool ∗ role c arg3 arg12 arg14 f3 (16 * t1.val) (nb (Len (ix1 t1))) 0 0 ∗ Free c arg3 arg12 arg14 f3 (Fin.ofNat 4 (0 + 1)) ∗ Free c arg3 arg12 arg14 f3 (Fin.ofNat 4 (0 + 2)) ∗ Free c arg3 arg12 arg14 f3 (Fin.ofNat 4 (0 + 3)) ∗ Ins c arg4 arg5 arg6 arg7 q4 q5 q6 q7 Qv Mv Cv Sv)) := by
  rw [k0_part106_eq_skeleton]
  unfold k0_part106_skel
  have h6 := hL (ix1 t1)
  refine BIBase.Entails.trans (sep_mono_right (sep_mono_left (ring_begin c))) ?_
  unfold Amb Ins
  iintro ⟨⟨H0, H1, H2, H11, HW⟩, ⟨F0, F1, F2, F3⟩, H4, H5, H6, H7⟩
  iapply (smem_owns c (hp := rfl)) $$ H1
  iintro H1
  rw [show (Rect.unit (s := S24) (k0_off1 t1) S1.size (k0_off1_inb t1)).point numel1_S1 = ix1 t1 from point24 _ (k0_off1_eq t1)]
  iapply (wp_assume Variants.none (c : Thread nD τ) none Set.univ (chk1_of t1 _ h6))
  iapply (load_sl3 c (n := 24) (a := 72) (b := 128) t1 (k0_off2_eq t1)) $$ H5
  iintro H5
  iapply (load_sl3 c (n := 24) (a := 80) (b := 64) t1 (k0_off3_eq t1)) $$ H4
  iintro H4
  iapply (issue_role' c (B := 16 * t1.val) (k := 0) (d := 0) (n := nb (Len (ix1 t1))) (by rw [Nat.zero_add]; exact lt_nbw (Len (ix1 t1)) h6 0 (by decide)) k0_off4_eq k0_off5_eq (k0_off6_eq t1)) $$ F0
  iintro R0
  iapply (ret_wpb c)
  isplitr
  · ipureintro; rfl
  isplitl [H0 H1 H2 H11 HW]
  · isplitl [H0]; · iexact H0
    isplitl [H1]; · iexact H1
    isplitl [H2]; · iexact H2
    isplitl [H11]; · iexact H11
    iexact HW
  isplitl [R0]; · iexact R0
  isplitl [F1]; · iexact F1
  isplitl [F2]; · iexact F2
  isplitl [F3]; · iexact F3
  isplitl [H4]; · iexact H4
  isplitl [H5]; · iexact H5
  isplitl [H6]; · iexact H6
  iexact H7
set_option backward.isDefEq.respectTransparency.types false in
theorem part107 (v0 : IVec S16x128 32) (v1 : IVec S16x128 32) (t1 : Fin k0_t1_loop.trips) (v4 : BitVec 32) (k0_hw1 : k0_chk1 t1 (Len (ix1 t1))) (v24 : BitVec 32) (v27 : FVec F S72x128 .f32) (v30 : FVec F S80x64 .bf16) (v31 : FVec F S72x256 .f32) (v32 : FVec F S72x128 .f32) (v33 : FVec F S64x72 .f32) (v39 : BitVec 1) (hT : ∀ y, (Tab y).toNat < 61440) (hL : ∀ y, (Len y).toInt ≤ 32768) (h24 : v24 = nbw (Len (ix1 t1))) (h39 : v39 = Scalar.cmpi .ne (Scalar.extui (Scalar.cmpi .sgt (nbw (Len (ix1 t1))) 1#32)) 0#32) :
    iprop(Amb c arg0 arg1 arg2 arg11 q0 q1 q2 Tab Len Pool ∗ role c arg3 arg12 arg14 f3 (16 * t1.val) (nb (Len (ix1 t1))) 0 0 ∗ Free c arg3 arg12 arg14 f3 (Fin.ofNat 4 (0 + 1)) ∗ Free c arg3 arg12 arg14 f3 (Fin.ofNat 4 (0 + 2)) ∗ Free c arg3 arg12 arg14 f3 (Fin.ofNat 4 (0 + 3)) ∗ Ins c arg4 arg5 arg6 arg7 q4 q5 q6 q7 Qv Mv Cv Sv) ⊢ wpb (F := F) c (k0_part107 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) k0_hw1 v24 v27 v30 v31 v32 v33 v39)
      (fun r => iprop(∃ a, ⌜a = run2 v0 v1 (Len (ix1 t1)) v30 v31 (Gat Tab Pool t1) (fun k => Blk c (arg3 := arg3) f3 (16 * t1.val + k)) (Len (ix1 t1)) (v32, v33)
          ∧ r = ⟨a.1, a.2, k0_pay407 (Sl2 (n := 24) (m := 64) 64 le_rfl Cv t1), k0_pay408 v27 a.1 a.2 (Sl3 (n := 24) (a := 72) (b := 128) Mv t1), k0_pay409 v27 a.1 (Sl3 (n := 24) (a := 72) (b := 128) Mv t1) (Sl2 (n := 24) (m := 128) 72 (by decide) Sv t1)⟩⌝ ∗ Amb c arg0 arg1 arg2 arg11 q0 q1 q2 Tab Len Pool ∗ RingIdle c arg3 arg12 arg14 f3 ∗ Ins c arg4 arg5 arg6 arg7 q4 q5 q6 q7 Qv Mv Cv Sv)) := by
  rw [k0_part107_eq_skeleton]
  unfold k0_part107_skel
  subst h24 h39
  have h6 := hL (ix1 t1)
  unfold Ins
  iintro ⟨HA, R0, F1, F2, F3, H4, H5, H6, H7⟩
  iapply (issue_role' c (B := 16 * t1.val) (k := 0) (d := 1) (n := nb (Len (ix1 t1))) (by rw [Nat.zero_add]; exact lt_nbw (Len (ix1 t1)) h6 1 (by decide)) k0_off7_eq k0_off8_eq (k0_off9_eq t1)) $$ F1
  iintro R1
  iapply (issue_role' c (B := 16 * t1.val) (k := 0) (d := 2) (n := nb (Len (ix1 t1))) (by rw [Nat.zero_add]; exact lt_nbw (Len (ix1 t1)) h6 2 (by decide)) k0_off10_eq k0_off11_eq (k0_off12_eq t1)) $$ F2
  iintro R2
  iapply (bind_wpb c)
  iapply (wand_wpb c) $$ [HA R0 R1 R2 F3]
  · iapply (loop2 c hT _ _ _ _ _ _ _ _ _ _ _ _ _  h6)
    isplitl [HA]; · iexact HA
    unfold RingAt
    isplitl [R0]; · iexact R0
    isplitl [R1]; · iexact R1
    isplitl [R2]; · iexact R2
    iexact F3
  iintro %r ⟨%hr, HA, HR⟩
  subst hr
  iapply (bind_wpb c)
  iapply (rest4 c)
  iapply (load_sl3 c (n := 24) (a := 72) (b := 128) t1 (k0_off37_eq t1)) $$ H5
  iintro H5
  iapply (load_sl2 c (n := 24) (w := 128) (b := 72) (by decide) t1 (k0_off38_eq t1)) $$ H7
  iintro H7
  iapply (load_sl2 c (n := 24) (w := 64) (b := 64) (by decide) t1 (k0_off39_eq t1)) $$ H6
  iintro H6
  iapply (ret_wpb c)
  iexists _
  isplitr
  · ipureintro; exact ⟨rfl, rfl⟩
  isplitl [HA]; · iexact HA
  isplitl [HR]; · iexact HR
  isplitl [H4]; · iexact H4
  isplitl [H5]; · iexact H5
  isplitl [H6]; · iexact H6
  iexact H7
set_option backward.isDefEq.respectTransparency.types false in
theorem part73 (v0 : IVec S16x128 32) (v1 : IVec S16x128 32) (t1 : Fin k0_t1_loop.trips) (v4 : BitVec 32) (v24 : BitVec 32) (v27 : FVec F S72x128 .f32) (v179 : BitVec 1) (v189 : BitVec 1) (v200 : BitVec 1) (k0_hw4 : k0_chk4 t1 (Len (ix1 t1)) v179 v189 v200) (k0_h6 : k0_cond6 v179 v189 v200 = 1#1) (k0_h7 : k0_cond7 v189 v200 = 1#1) (hT : ∀ y, (Tab y).toNat < 61440) (hL : ∀ y, (Len y).toInt ≤ 32768) {a b : S1x72x128.Idx → Elt F .f32} (h24 : v24 = nbw (Len (ix1 t1))) :
    iprop(Amb c arg0 arg1 arg2 arg11 q0 q1 q2 Tab Len Pool ∗ RingIdle c arg3 arg12 arg14 f3 ∗ Ins c arg4 arg5 arg6 arg7 q4 q5 q6 q7 Qv Mv Cv Sv ∗ Ml c arg13 a b) ⊢ wpb (F := F) c (k0_part73 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v27 v179 v189 v200 k0_hw4 k0_h6 k0_h7)
      (fun r => iprop(∃ mt, ⌜mt = run6 v0 v1 (Len (ix1 t1)) (Sl3 (n := 24) (a := 80) (b := 64) Qv t1) (Gat Tab Pool t1) (fun k => Blk c (arg3 := arg3) f3 (16 * t1.val + k)) (Len (ix1 t1)) v27
          ∧ r = ⟨k0_pay262 (Sl3 (n := 24) (a := 80) (b := 64) Qv t1), k0_pay263 mt, k0_pay264 (F := F), k0_pay265 (F := F), Scalar.extui (Scalar.cmpi .sgt (nbw (Len (ix1 t1))) 0#32), 0#32⟩⌝ ∗ Amb c arg0 arg1 arg2 arg11 q0 q1 q2 Tab Len Pool ∗ RingIdle c arg3 arg12 arg14 f3 ∗ Ins c arg4 arg5 arg6 arg7 q4 q5 q6 q7 Qv Mv Cv Sv ∗ Ml c arg13 (k0_pay261 mt) b)) := by
  rw [k0_part73_eq_skeleton]
  unfold k0_part73_skel
  subst h24
  have h6 := hL (ix1 t1)
  unfold Ins
  iintro ⟨HA, HR, ⟨H4, H5, H6, H7⟩, HM⟩
  ihave HR := (ring_begin c) $$ HR
  icases HR with ⟨F0, F1, F2, F3⟩
  iapply (load_sl3 c (n := 24) (a := 80) (b := 64) t1 (k0_off42_eq t1)) $$ H4
  iintro H4
  iapply (issue_role' c (B := 16 * t1.val) (k := 0) (d := 0) (n := nb (Len (ix1 t1))) (by rw [Nat.zero_add]; exact lt_nbw (Len (ix1 t1)) h6 0 (by decide)) k0_off43_eq k0_off44_eq (k0_off45_eq t1)) $$ F0
  iintro R0
  iapply (issue_role' c (B := 16 * t1.val) (k := 0) (d := 1) (n := nb (Len (ix1 t1))) (by rw [Nat.zero_add]; exact lt_nbw (Len (ix1 t1)) h6 1 (by decide)) k0_off46_eq k0_off47_eq (k0_off48_eq t1)) $$ F1
  iintro R1
  iapply (issue_role' c (B := 16 * t1.val) (k := 0) (d := 2) (n := nb (Len (ix1 t1))) (by rw [Nat.zero_add]; exact lt_nbw (Len (ix1 t1)) h6 2 (by decide)) k0_off49_eq k0_off50_eq (k0_off51_eq t1)) $$ F2
  iintro R2
  iapply (bind_wpb c)
  iapply (wand_wpb c) $$ [HA R0 R1 R2 F3]
  · iapply (loop6 c hT _ _ _ _ _ _ _ _ _ _ _ _ _ _  h6)
    isplitl [HA]; · iexact HA
    unfold RingAt
    isplitl [R0]; · iexact R0
    isplitl [R1]; · iexact R1
    isplitl [R2]; · iexact R2
    iexact F3
  iintro %r ⟨%hr, HA, HR⟩
  subst hr
  iapply (bind_wpb c)
  iapply (rest8 c)
  iapply (ml_load0 c) $$ HM
  iintro HM
  iapply (ml_store0 c) $$ HM
  iintro HM
  iapply (load_sl3 c (n := 24) (a := 80) (b := 64) t1 (k0_off42_eq t1)) $$ H4
  iintro H4
  iapply (ret_wpb c)
  iexists _
  isplitr
  · ipureintro; exact ⟨rfl, rfl⟩
  isplitl [HA]; · iexact HA
  isplitl [HR]; · iexact HR
  isplitl [H4 H5 H6 H7]
  · isplitl [H4]; · iexact H4
    isplitl [H5]; · iexact H5
    isplitl [H6]; · iexact H6
    iexact H7
  iexact HM
set_option backward.isDefEq.respectTransparency.types false in
theorem part102 (v0 : IVec S16x128 32) (v1 : IVec S16x128 32) (t1 : Fin k0_t1_loop.trips) (v4 : BitVec 32) (v24 : BitVec 32) (v27 : FVec F S72x128 .f32) (v49_0 : FVec F S72x128 .f32) (v179 : BitVec 1) (v189 : BitVec 1) (v200 : BitVec 1) (k0_hw4 : k0_chk4 t1 (Len (ix1 t1)) v179 v189 v200) (v202 : BitVec 1) (k0_h6 : k0_cond6 v179 v189 v200 = 1#1) (hT : ∀ y, (Tab y).toNat < 61440) (hL : ∀ y, (Len y).toInt ≤ 32768) {a b : S1x72x128.Idx → Elt F .f32} (h24 : v24 = nbw (Len (ix1 t1))) :
    iprop(Amb c arg0 arg1 arg2 arg11 q0 q1 q2 Tab Len Pool ∗ RingIdle c arg3 arg12 arg14 f3 ∗ Ins c arg4 arg5 arg6 arg7 q4 q5 q6 q7 Qv Mv Cv Sv ∗ Ml c arg13 a b) ⊢ wpb (F := F) c (k0_part102 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v27 v49_0 v179 v189 v200 k0_hw4 v202 k0_h6)
      (fun r => iprop(∃ ml : FVec F S1x72x128 .f32 × FVec F S1x72x128 .f32, ⌜ml = (if k0_cond7 v189 v200 = 1#1 then (k0_pay261 (run6 v0 v1 (Len (ix1 t1)) (Sl3 (n := 24) (a := 80) (b := 64) Qv t1) (Gat Tab Pool t1) (fun k => Blk c (arg3 := arg3) f3 (16 * t1.val + k)) (Len (ix1 t1)) v27), k0_pay378 (run10 v0 v1 (Len (ix1 t1)) (k0_pay262 (Sl3 (n := 24) (a := 80) (b := 64) Qv t1)) (k0_pay263 (run6 v0 v1 (Len (ix1 t1)) (Sl3 (n := 24) (a := 80) (b := 64) Qv t1) (Gat Tab Pool t1) (fun k => Blk c (arg3 := arg3) f3 (16 * t1.val + k)) (Len (ix1 t1)) v27)) (Gat Tab Pool t1) (fun k => Blk c (arg3 := arg3) f3 (16 * t1.val + k)) (Len (ix1 t1)) (k0_pay264 (F := F), k0_pay265 (F := F))).1) else (k0_pay374 v27, k0_pay375 v49_0))
          ∧ r = ⟨k0_pay379 ml.2 (Sl3 (n := 24) (a := 72) (b := 128) Mv t1) ml.1 ml.1, k0_pay380 (Sl3 (n := 24) (a := 80) (b := 64) Qv t1), k0_pay381 ml.2 (Sl3 (n := 24) (a := 72) (b := 128) Mv t1) ml.1 ml.1, k0_pay382 (F := F), k0_pay383 (F := F)⟩⌝ ∗ Amb c arg0 arg1 arg2 arg11 q0 q1 q2 Tab Len Pool ∗ RingIdle c arg3 arg12 arg14 f3 ∗ Ins c arg4 arg5 arg6 arg7 q4 q5 q6 q7 Qv Mv Cv Sv ∗ Ml c arg13 ml.1 ml.2)) := by
  rw [k0_part102_eq_skeleton]
  unfold k0_part102_skel
  subst h24
  have h6 := hL (ix1 t1)
  unfold Ins
  iintro ⟨HA, HR, ⟨H4, H5, H6, H7⟩, HM⟩
  iapply (ml_load0 c) $$ HM
  iintro HM
  iapply (ml_store0 c) $$ HM
  iintro HM
  iapply (ml_load1 c) $$ HM
  iintro HM
  iapply (ml_store1 c) $$ HM
  iintro HM
  dsimp only [Prog.bind]
  by_cases h7 : k0_cond7 v189 v200 = 1#1
  · rw [dif_pos h7]
    iapply (bind_wpb c)
    iapply (wand_wpb c) $$ [HA HR H4 H5 H6 H7 HM]
    · iapply (part73 c _ _ _ _ _ _ _ _ _ _ _ _ hT hL rfl)
      isplitl [HA]; · iexact HA
      isplitl [HR]; · iexact HR
      isplitl [H4 H5 H6 H7]
      · unfold Ins
        isplitl [H4]; · iexact H4
        isplitl [H5]; · iexact H5
        isplitl [H6]; · iexact H6
        iexact H7
      iexact HM
    iintro %r ⟨%mt, ⟨%hmt, %hr⟩, HA, HR, HI, HM⟩
    subst hmt
    subst hr
    unfold Ins
    icases HI with ⟨H4, H5, H6, H7⟩
    ihave HR := (ring_begin c) $$ HR
    icases HR with ⟨F0, F1, F2, F3⟩
    iapply (issue_role' c (B := 16 * t1.val) (k := 0) (d := 0) (n := nb (Len (ix1 t1))) (by rw [Nat.zero_add]; exact lt_nbw (Len (ix1 t1)) h6 0 (by decide)) k0_off76_eq k0_off77_eq (k0_off78_eq t1)) $$ F0
    iintro R0
    iapply (issue_role' c (B := 16 * t1.val) (k := 0) (d := 1) (n := nb (Len (ix1 t1))) (by rw [Nat.zero_add]; exact lt_nbw (Len (ix1 t1)) h6 1 (by decide)) k0_off79_eq k0_off80_eq (k0_off81_eq t1)) $$ F1
    iintro R1
    iapply (issue_role' c (B := 16 * t1.val) (k := 0) (d := 2) (n := nb (Len (ix1 t1))) (by rw [Nat.zero_add]; exact lt_nbw (Len (ix1 t1)) h6 2 (by decide)) k0_off82_eq k0_off83_eq (k0_off84_eq t1)) $$ F2
    iintro R2
    iapply (bind_wpb c)
    iapply (wand_wpb c) $$ [HA R0 R1 R2 F3]
    · iapply (loop10 c hT _ _ _ _ _ _ _ _ _ _ _ _ _ _ _ _ _  h6)
      isplitl [HA]; · iexact HA
      unfold RingAt
      isplitl [R0]; · iexact R0
      isplitl [R1]; · iexact R1
      isplitl [R2]; · iexact R2
      iexact F3
    iintro %r ⟨%hr, HA, HR⟩
    subst hr
    iapply (bind_wpb c)
    iapply (rest12 c)
    iapply (ml_load1 c) $$ HM
    iintro HM
    iapply (ml_store1 c) $$ HM
    iintro HM
    iapply (ml_load1 c) $$ HM
    iintro HM
    iapply (load_sl3 c (n := 24) (a := 72) (b := 128) t1 (k0_off109_eq t1)) $$ H5
    iintro H5
    iapply (ml_load0 c) $$ HM
    iintro HM
    iapply (ml_load0 c) $$ HM
    iintro HM
    iapply (load_sl3 c (n := 24) (a := 80) (b := 64) t1 (k0_off110_eq t1)) $$ H4
    iintro H4
    iapply (ret_wpb c)
    iexists (k0_pay261 (run6 v0 v1 (Len (ix1 t1)) (Sl3 (n := 24) (a := 80) (b := 64) Qv t1) (Gat Tab Pool t1) (fun k => Blk c (arg3 := arg3) f3 (16 * t1.val + k)) (Len (ix1 t1)) v27), k0_pay378 (run10 v0 v1 (Len (ix1 t1)) (k0_pay262 (Sl3 (n := 24) (a := 80) (b := 64) Qv t1)) (k0_pay263 (run6 v0 v1 (Len (ix1 t1)) (Sl3 (n := 24) (a := 80) (b := 64) Qv t1) (Gat Tab Pool t1) (fun k => Blk c (arg3 := arg3) f3 (16 * t1.val + k)) (Len (ix1 t1)) v27)) (Gat Tab Pool t1) (fun k => Blk c (arg3 := arg3) f3 (16 * t1.val + k)) (Len (ix1 t1)) (k0_pay264 (F := F), k0_pay265 (F := F))).1)
    isplitr
    · ipureintro; exact ⟨(if_pos h7).symm, by dsimp only⟩
    isplitl [HA]; · iexact HA
    isplitl [HR]; · iexact HR
    isplitl [H4 H5 H6 H7]
    · isplitl [H4]; · iexact H4
      isplitl [H5]; · iexact H5
      isplitl [H6]; · iexact H6
      iexact H7
    iexact HM
  · rw [dif_neg h7]
    iapply (ml_load1 c) $$ HM
    iintro HM
    iapply (load_sl3 c (n := 24) (a := 72) (b := 128) t1 (k0_off109_eq t1)) $$ H5
    iintro H5
    iapply (ml_load0 c) $$ HM
    iintro HM
    iapply (ml_load0 c) $$ HM
    iintro HM
    iapply (load_sl3 c (n := 24) (a := 80) (b := 64) t1 (k0_off110_eq t1)) $$ H4
    iintro H4
    iapply (ret_wpb c)
    iexists (k0_pay374 v27, k0_pay375 v49_0)
    isplitr
    · ipureintro; exact ⟨(if_neg h7).symm, by dsimp only⟩
    isplitl [HA]; · iexact HA
    isplitl [HR]; · iexact HR
    isplitl [H4 H5 H6 H7]
    · isplitl [H4]; · iexact H4
      isplitl [H5]; · iexact H5
      isplitl [H6]; · iexact H6
      iexact H7
    iexact HM
set_option backward.isDefEq.respectTransparency.types false in
theorem part103 (v0 : IVec S16x128 32) (v1 : IVec S16x128 32) (t1 : Fin k0_t1_loop.trips) (v4 : BitVec 32) (v24 : BitVec 32) (v179 : BitVec 1) (v189 : BitVec 1) (v200 : BitVec 1) (k0_hw4 : k0_chk4 t1 (Len (ix1 t1)) v179 v189 v200) (k0_h6 : k0_cond6 v179 v189 v200 = 1#1) (v232 : FVec F S72x128 .f32) (v235 : FVec F S80x64 .bf16) (v236 : FVec F S72x256 .f32) (v237 : FVec F S72x128 .f32) (v238 : FVec F S64x72 .f32) (hT : ∀ y, (Tab y).toNat < 61440) (hL : ∀ y, (Len y).toInt ≤ 32768) (h24 : v24 = nbw (Len (ix1 t1))) :
    iprop(Amb c arg0 arg1 arg2 arg11 q0 q1 q2 Tab Len Pool ∗ RingIdle c arg3 arg12 arg14 f3 ∗ Ins c arg4 arg5 arg6 arg7 q4 q5 q6 q7 Qv Mv Cv Sv) ⊢ wpb (F := F) c (k0_part103 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v179 v189 v200 k0_hw4 k0_h6 v232 v235 v236 v237 v238)
      (fun r => iprop(∃ a, ⌜a = run14 v0 v1 (Len (ix1 t1)) v235 v236 (Gat Tab Pool t1) (fun k => Blk c (arg3 := arg3) f3 (16 * t1.val + k)) (Len (ix1 t1)) (v237, v238)
          ∧ r = ⟨a.2, k0_pay386 v232 (Sl3 (n := 24) (a := 72) (b := 128) Mv t1) (Sl2 (n := 24) (m := 128) 72 (by decide) Sv t1), k0_pay387 (Sl2 (n := 24) (m := 64) 64 le_rfl Cv t1), k0_pay388 (F := F)⟩⌝ ∗ Amb c arg0 arg1 arg2 arg11 q0 q1 q2 Tab Len Pool ∗ RingIdle c arg3 arg12 arg14 f3 ∗ Ins c arg4 arg5 arg6 arg7 q4 q5 q6 q7 Qv Mv Cv Sv)) := by
  rw [k0_part103_eq_skeleton]
  unfold k0_part103_skel
  subst h24
  have h6 := hL (ix1 t1)
  unfold Ins
  iintro ⟨HA, HR, H4, H5, H6, H7⟩
  ihave HR := (ring_begin c) $$ HR
  icases HR with ⟨F0, F1, F2, F3⟩
  iapply (issue_role' c (B := 16 * t1.val) (k := 0) (d := 0) (n := nb (Len (ix1 t1))) (by rw [Nat.zero_add]; exact lt_nbw (Len (ix1 t1)) h6 0 (by decide)) k0_off111_eq k0_off112_eq (k0_off113_eq t1)) $$ F0
  iintro R0
  iapply (issue_role' c (B := 16 * t1.val) (k := 0) (d := 1) (n := nb (Len (ix1 t1))) (by rw [Nat.zero_add]; exact lt_nbw (Len (ix1 t1)) h6 1 (by decide)) k0_off114_eq k0_off115_eq (k0_off116_eq t1)) $$ F1
  iintro R1
  iapply (issue_role' c (B := 16 * t1.val) (k := 0) (d := 2) (n := nb (Len (ix1 t1))) (by rw [Nat.zero_add]; exact lt_nbw (Len (ix1 t1)) h6 2 (by decide)) k0_off117_eq k0_off118_eq (k0_off119_eq t1)) $$ F2
  iintro R2
  iapply (bind_wpb c)
  iapply (wand_wpb c) $$ [HA R0 R1 R2 F3]
  · iapply (loop14 c hT _ _ _ _ _ _ _ _ _ _ _ _ _ _ _ _  h6)
    isplitl [HA]; · iexact HA
    unfold RingAt
    isplitl [R0]; · iexact R0
    isplitl [R1]; · iexact R1
    isplitl [R2]; · iexact R2
    iexact F3
  iintro %r ⟨%hr, HA, HR⟩
  subst hr
  iapply (bind_wpb c)
  iapply (rest16 c)
  iapply (load_sl3 c (n := 24) (a := 72) (b := 128) t1 (k0_off109_eq t1)) $$ H5
  iintro H5
  iapply (load_sl2 c (n := 24) (w := 128) (b := 72) (by decide) t1 (k0_off144_eq t1)) $$ H7
  iintro H7
  iapply (load_sl2 c (n := 24) (w := 64) (b := 64) (by decide) t1 (k0_off145_eq t1)) $$ H6
  iintro H6
  iapply (ret_wpb c)
  iexists _
  isplitr
  · ipureintro; exact ⟨rfl, rfl⟩
  isplitl [HA]; · iexact HA
  isplitl [HR]; · iexact HR
  isplitl [H4]; · iexact H4
  isplitl [H5]; · iexact H5
  isplitl [H6]; · iexact H6
  iexact H7

theorem dite_pos {C : Prop} [Decidable C] (h : C) {p : C → Prog (TpuEff nD τ sig (Elt F) Λ₀ .tc) α} {e : ¬ C → Prog (TpuEff nD τ sig (Elt F) Λ₀ .tc) α} :
    wpb c (p h) Q ⊢ wpb c (if h' : C then p h' else e h') Q := by rw [dif_pos h]
theorem dite_neg {C : Prop} [Decidable C] (h : ¬ C) {p : C → Prog (TpuEff nD τ sig (Elt F) Λ₀ .tc) α} {e : ¬ C → Prog (TpuEff nD τ sig (Elt F) Λ₀ .tc) α} :
    wpb c (e h) Q ⊢ wpb c (if h' : C then p h' else e h') Q := by rw [dif_neg h]
set_option backward.isDefEq.respectTransparency.types false in
theorem part104 (t1 : Fin k0_t1_loop.trips) (v4 : BitVec 32) (v254_1 : FVec F S64x72 .f32) (v271 : FVec F S1x72 .f32) (v277 : FVec F S64x72 .f32) (v278 : FVec F S64x72 .f32) {X8 : S24x64x71.Idx → Elt F .bf16} {w8 : S1x64x71.Idx → Elt F .bf16} :
    Slab3 c (n := 24) (a := 64) (b := 71) arg8 X8 t1 w8 ⊢ wpb (F := F) c (k0_part104 arg0 harg0 arg1 harg1 arg2 harg2 arg3 harg3 arg4 harg4 arg5 harg5 arg6 harg6 arg7 harg7 arg8 harg8 arg9 harg9 arg10 harg10 arg11 harg11 arg12 harg12 arg13 harg13 arg14 t1 v4 v254_1 v271 v277 v278)
      (fun r => iprop(⌜r = ⟨k0_pay389 v254_1 v271 v277 v278, k0_pay391 v254_1 v271 v277 v278, k0_pay392 v254_1 v271 v277 v278, k0_pay393 v254_1 v271 v277 v278, k0_pay394⟩⌝ ∗ Slab3 c (n := 24) (a := 64) (b := 71) arg8 X8 t1 (k0_pay390 v254_1 v271 v277 v278))) := by
  rw [k0_part104_eq_skeleton]
  unfold k0_part104_skel
  iintro H8
  iapply (put_sl3 c (n := 24) (a := 64) (b := 71) t1 (k0_off146_eq t1)) $$ H8
  iintro H8
  iapply (ret_wpb c)
  isplitr
  · ipureintro; rfl
  iexact H8
set_option backward.isDefEq.respectTransparency.types false in
theorem part108 (t1 : Fin k0_t1_loop.trips) (v4 : BitVec 32) (v80 : FVec F S64x72 .f32) (v82 : FVec F S64x72 .f32) (v83 : FVec F S64x72 .f32) {X8 : S24x64x71.Idx → Elt F .bf16} {w8 : S1x64x71.Idx → Elt F .bf16} :
    Slab3 c (n := 24) (a := 64) (b := 71) arg8 X8 t1 w8 ⊢ wpb (F := F) c (k0_part108 arg0 harg0 arg1 harg1 arg2 harg2 arg3 harg3 arg4 harg4 arg5 harg5 arg6 harg6 arg7 harg7 arg8 harg8 arg9 harg9 arg10 harg10 arg11 harg11 arg12 harg12 arg13 harg13 arg14 t1 v4 v80 v82 v83)
      (fun r => iprop(⌜r = ⟨k0_pay410 v80 v82 v83, k0_pay412 v80 v82 v83, k0_pay413 v80 v82 v83, k0_pay414 v80 v82 v83, 23#32⟩⌝ ∗ Slab3 c (n := 24) (a := 64) (b := 71) arg8 X8 t1 (k0_pay411 v80 v82 v83))) := by
  rw [k0_part108_eq_skeleton]
  unfold k0_part108_skel
  iintro H8
  iapply (put_sl3 c (n := 24) (a := 64) (b := 71) t1 (k0_off40_eq t1)) $$ H8
  iintro H8
  iapply (ret_wpb c)
  isplitr
  · ipureintro; rfl
  iexact H8
set_option backward.isDefEq.respectTransparency.types false in
theorem part109 (t1 : Fin k0_t1_loop.trips) (v4 : BitVec 32) (v86 : FVec F S64x71 .f32) (v98 : FVec F S1x1 .f32) (v115 : IVec S1x1 32) (v127 : FVec F S1x1 .f32) (c23 : BitVec 32) {X9 : S24x64x71.Idx → Elt F .fp8e4m3} {X10 : S24x128.Idx → Elt F .f32} {w9 : S1x64x71.Idx → Elt F .fp8e4m3} {w10 : S1x128.Idx → Elt F .f32} :
    iprop(Slab3 c (n := 24) (a := 64) (b := 71) arg9 X9 t1 w9 ∗ Slab2 c (n := 24) (b := 128) arg10 X10 t1 w10) ⊢ wpb (F := F) c (k0_part109 arg0 harg0 arg1 harg1 arg2 harg2 arg3 harg3 arg4 harg4 arg5 harg5 arg6 harg6 arg7 harg7 arg8 harg8 arg9 harg9 arg10 harg10 arg11 harg11 arg12 harg12 arg13 harg13 arg14 t1 v4 v86 v98 v115 v127 c23)
      (fun r => iprop(⌜r = ⟨k0_pay419 v115 v127 c23, k0_pay420⟩⌝ ∗ Slab3 c (n := 24) (a := 64) (b := 71) arg9 X9 t1 (k0_pay417 v86 v98 v115 v127 c23) ∗ Slab2 c (n := 24) (b := 128) arg10 X10 t1 (k0_pay418 v98 v115 v127 c23))) := by
  rw [k0_part109_eq_skeleton]
  unfold k0_part109_skel
  iintro ⟨H9, H10⟩
  iapply (put_sl3 c (n := 24) (a := 64) (b := 71) t1 (k0_off40_eq t1)) $$ H9
  iintro H9
  iapply (put_sl2 c (n := 24) (b := 128) t1 (k0_off41_eq t1)) $$ H10
  iintro H10
  iapply (ret_wpb c)
  isplitr
  · ipureintro; rfl
  isplitl [H9]; · iexact H9
  iexact H10
set_option backward.isDefEq.respectTransparency.types false in
theorem part105 (v0 : IVec S16x128 32) (v1 : IVec S16x128 32) (t1 : Fin k0_t1_loop.trips) (v4 : BitVec 32) (v24 : BitVec 32) (v27 : FVec F S72x128 .f32) (v49_0 : FVec F S72x128 .f32) (v179 : BitVec 1) (v189 : BitVec 1) (v200 : BitVec 1) (k0_hw4 : k0_chk4 t1 (Len (ix1 t1)) v179 v189 v200) (v202 : BitVec 1) (k0_h6 : k0_cond6 v179 v189 v200 = 1#1) (hT : ∀ y, (Tab y).toNat < 61440) (hL : ∀ y, (Len y).toInt ≤ 32768) {X8 : S24x64x71.Idx → Elt F .bf16} {X9 : S24x64x71.Idx → Elt F .fp8e4m3} {X10 : S24x128.Idx → Elt F .f32} {w8 : S1x64x71.Idx → Elt F .bf16} {w9 : S1x64x71.Idx → Elt F .fp8e4m3} {w10 : S1x128.Idx → Elt F .f32} {a b : S1x72x128.Idx → Elt F .f32} (h24 : v24 = nbw (Len (ix1 t1))) (h27 : v27 = k0_pay398 (Sl3 (n := 24) (a := 72) (b := 128) Mv t1)) (h49 : v49_0 = (seqOf c (arg3 := arg3) f3 Tab Len Pool Qv Mv Cv Sv v0 v1 t1).acc.1) (h189 : v189 = (seqOf c (arg3 := arg3) f3 Tab Len Pool Qv Mv Cv Sv v0 v1 t1).c189) (h200 : v200 = (seqOf c (arg3 := arg3) f3 Tab Len Pool Qv Mv Cv Sv v0 v1 t1).c200) :
    iprop(Amb c arg0 arg1 arg2 arg11 q0 q1 q2 Tab Len Pool ∗ RingIdle c arg3 arg12 arg14 f3 ∗ Ins c arg4 arg5 arg6 arg7 q4 q5 q6 q7 Qv Mv Cv Sv ∗ Ml c arg13 a b ∗ Slab3 c (n := 24) (a := 64) (b := 71) arg8 X8 t1 w8 ∗ Slab3 c (n := 24) (a := 64) (b := 71) arg9 X9 t1 w9 ∗ Slab2 c (n := 24) (b := 128) arg10 X10 t1 w10) ⊢ wpb (F := F) c (k0_part105 arg0 harg0 arg1 harg1 arg2 harg2 arg3 harg3 arg4 harg4 arg5 harg5 arg6 harg6 arg7 harg7 arg8 harg8 arg9 harg9 arg10 harg10 arg11 harg11 arg12 harg12 arg13 harg13 arg14 v0 v1 t1 v4 (Len (ix1 t1)) v24 v27 v49_0 v179 v189 v200 k0_hw4 v202 k0_h6)
      (fun r => iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b) ∗ Slab3 c (n := 24) (a := 64) (b := 71) arg8 X8 t1 ((seqOf c (arg3 := arg3) f3 Tab Len Pool Qv Mv Cv Sv v0 v1 t1).far8 (seqOf c (arg3 := arg3) f3 Tab Len Pool Qv Mv Cv Sv v0 v1 t1).mlC) ∗ Slab3 c (n := 24) (a := 64) (b := 71) arg9 X9 t1 ((seqOf c (arg3 := arg3) f3 Tab Len Pool Qv Mv Cv Sv v0 v1 t1).far9 (seqOf c (arg3 := arg3) f3 Tab Len Pool Qv Mv Cv Sv v0 v1 t1).mlC) ∗ Slab2 c (n := 24) (b := 128) arg10 X10 t1 ((seqOf c (arg3 := arg3) f3 Tab Len Pool Qv Mv Cv Sv v0 v1 t1).far10 (seqOf c (arg3 := arg3) f3 Tab Len Pool Qv Mv Cv Sv v0 v1 t1).mlC))) := by
  rw [k0_part105_eq_skeleton]
  unfold k0_part105_skel
  iintro ⟨HA, HR, HI, HM, H8, H9, H10⟩
  iapply (bind_wpb c)
  iapply (wand_wpb c) $$ [HA HR HI HM]
  · iapply (part102 c _ _ _ _ _ _ _ _ _ _ _ _ _ hT hL h24)
    isplitl [HA]; · iexact HA
    isplitl [HR]; · iexact HR
    isplitl [HI]; · iexact HI
    iexact HM
  iintro %r ⟨%ml, ⟨%hml, %hr⟩, HA, HR, HI, HM⟩
  subst hr
  iapply (bind_wpb c)
  iapply (wand_wpb c) $$ [HA HR HI]
  · iapply (part103 c _ _ _ _ _ _ _ _ _ _ _ _ _ _ _ hT hL h24)
    isplitl [HA]; · iexact HA
    isplitl [HR]; · iexact HR
    iexact HI
  iintro %r ⟨%a, ⟨%ha, %hr⟩, HA, HR, HI⟩
  subst hr
  iapply (bind_wpb c)
  iapply (wand_wpb c) $$ [H8]
  · iapply (part104 c) $$ H8
  iintro %r ⟨%hr, H8⟩
  subst hr
  iapply (put_sl3 c (n := 24) (a := 64) (b := 71) t1 (k0_off146_eq t1)) $$ H9
  iintro H9
  iapply (put_sl2 c (n := 24) (b := 128) t1 (k0_off147_eq t1)) $$ H10
  iintro H10
  iapply (ret_wpb c)
  have hml' : ml = (seqOf c (arg3 := arg3) f3 Tab Len Pool Qv Mv Cv Sv v0 v1 t1).mlC := by subst h27 h49 h189 h200; exact hml
  have ha' : a = (seqOf c (arg3 := arg3) f3 Tab Len Pool Qv Mv Cv Sv v0 v1 t1).accL ml := ha
  subst ha'
  subst hml'
  isplitl [HA]; · iexact HA
  isplitl [HR]; · iexact HR
  isplitl [HI]; · iexact HI
  isplitl [HM]; · iexists _, _; iexact HM
  isplitl [H8]; · iexact H8
  isplitl [H9]; · iexact H9
  iexact H10
set_option backward.isDefEq.respectTransparency.types false in
theorem part110 (v0 : IVec S16x128 32) (v1 : IVec S16x128 32) (c0_i32 : BitVec 32) (c1_i32 : BitVec 32) (t1 : Fin k0_t1_loop.trips) (hT : ∀ y, (Tab y).toNat < 61440) (hL : ∀ y, (Len y).toInt ≤ 32768) {X8 : S24x64x71.Idx → Elt F .bf16} {X9 : S24x64x71.Idx → Elt F .fp8e4m3} {X10 : S24x128.Idx → Elt F .f32} {w8 : S1x64x71.Idx → Elt F .bf16} {w9 : S1x64x71.Idx → Elt F .fp8e4m3} {w10 : S1x128.Idx → Elt F .f32} :
    iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b) ∗ Slab3 c (n := 24) (a := 64) (b := 71) arg8 X8 t1 w8 ∗ Slab3 c (n := 24) (a := 64) (b := 71) arg9 X9 t1 w9 ∗ Slab2 c (n := 24) (b := 128) arg10 X10 t1 w10) ⊢ wpb (F := F) c (k0_part110 arg0 harg0 arg1 harg1 arg2 harg2 arg3 harg3 arg4 harg4 arg5 harg5 arg6 harg6 arg7 harg7 arg8 harg8 arg9 harg9 arg10 harg10 arg11 harg11 arg12 harg12 arg13 harg13 arg14 v0 v1 c0_i32 c1_i32 t1)
      (fun r => iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b) ∗ Slab3 c (n := 24) (a := 64) (b := 71) arg8 X8 t1 ((seqOf c (arg3 := arg3) f3 Tab Len Pool Qv Mv Cv Sv v0 v1 t1).out8) ∗ Slab3 c (n := 24) (a := 64) (b := 71) arg9 X9 t1 ((seqOf c (arg3 := arg3) f3 Tab Len Pool Qv Mv Cv Sv v0 v1 t1).out9) ∗ Slab2 c (n := 24) (b := 128) arg10 X10 t1 ((seqOf c (arg3 := arg3) f3 Tab Len Pool Qv Mv Cv Sv v0 v1 t1).out10))) := by
  rw [k0_part110_eq_skeleton]
  unfold k0_part110_skel
  iintro ⟨HA, HR, HI, ⟨%a, %b, HM⟩, H8, H9, H10⟩
  iapply (bind_wpb c)
  iapply (wand_wpb c) $$ [HA HR HI]
  · iapply (part106 c _ _ _ hL)
    isplitl [HA]; · iexact HA
    isplitl [HR]; · iexact HR
    iexact HI
  iintro %r ⟨%hr, HA, R0, F1, F2, F3, HI⟩
  subst hr
  iapply (bind_wpb c)
  iapply (wand_wpb c) $$ [HA R0 F1 F2 F3 HI]
  · iapply (part107 c _ _ _ _ _ _ _ _ _ _ _ _ hT hL rfl rfl)
    isplitl [HA]; · iexact HA
    isplitl [R0]; · iexact R0
    isplitl [F1]; · iexact F1
    isplitl [F2]; · iexact F2
    isplitl [F3]; · iexact F3
    iexact HI
  iintro %r ⟨%acc, ⟨%ha, %hr⟩, HA, HR, HI⟩
  subst hr
  iapply (bind_wpb c)
  iapply (wand_wpb c) $$ [H8]
  · iapply (part108 c) $$ H8
  iintro %r ⟨%hr, H8⟩
  subst hr
  iapply (bind_wpb c)
  iapply (wand_wpb c) $$ [H9 H10]
  · iapply (part109 c)
    isplitl [H9]; · iexact H9
    iexact H10
  iintro %r ⟨%hr, H9, H10⟩
  subst hr
  have ha' : acc = (seqOf c (arg3 := arg3) f3 Tab Len Pool Qv Mv Cv Sv v0 v1 t1).acc := ha
  clear ha
  subst ha'
  iapply (wp_assume Variants.none (c : Thread nD τ) none Set.univ (chk4_of t1 _ _ _ _ (hL (ix1 t1))))
  dsimp only [Prog.bind]
  by_cases h6 : k0_cond6 (seqOf c (arg3 := arg3) f3 Tab Len Pool Qv Mv Cv Sv v0 v1 t1).c179 (seqOf c (arg3 := arg3) f3 Tab Len Pool Qv Mv Cv Sv v0 v1 t1).c189 (seqOf c (arg3 := arg3) f3 Tab Len Pool Qv Mv Cv Sv v0 v1 t1).c200 = 1#1
  · iapply (dite_pos c h6)
    iapply (bind_wpb c)
    iapply (wand_wpb c) $$ [HA HR HI HM H8 H9 H10]
    · iapply (part105 c _ _ _ _ _ _ _ _ _ _ _ _ _ hT hL rfl rfl rfl rfl rfl)
      isplitl [HA]; · iexact HA
      isplitl [HR]; · iexact HR
      isplitl [HI]; · iexact HI
      isplitl [HM]; · iexact HM
      isplitl [H8]; · iexact H8
      isplitl [H9]; · iexact H9
      iexact H10
    iintro %_ H
    iapply (ret_wpb c)
    unfold Seq.out8 Seq.out9 Seq.out10
    rw [if_pos h6, if_pos h6, if_pos h6]
    iexact H
  · iapply (dite_neg c h6)
    iapply (ret_wpb c)
    unfold Seq.out8 Seq.out9 Seq.out10
    rw [if_neg h6, if_neg h6, if_neg h6]
    isplitl [HA]; · iexact HA
    isplitl [HR]; · iexact HR
    isplitl [HI]; · iexact HI
    isplitl [HM]; · iexists _, _; iexact HM
    isplitl [H8]; · iexact H8
    isplitl [H9]; · iexact H9
    iexact H10

end Cert.KernelIdeal.Hand
-- ==== Proof.Ideal.Whole.lean ====
/-
  All 24 sequences, one after another: what the kernel leaves in its three results.
-/
module

public import proofs.«01_k».proof.Proof.Ideal.Body
public import Idealize.ShloMosaic.Lib.Ring.AtN

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) {α : Type} {Q : α → sProp (MT nD τ sig Unit (Elt F) ℕ (Pipeline.UD sig nD τ) ℕ)}

variable {arg0 : Memref sig .tc .smem S24x2048 .i32} {harg0 : arg0.IsWhole} {arg1 : Memref sig .tc .smem S24 .i32} {harg1 : arg1.IsWhole} {arg2 : Memref sig .tc .vmem S122880x128 .i32} {harg2 : arg2.IsWhole} {arg3 : Memref sig .tc .hbm S32x49152 .f32} {harg3 : arg3.IsWhole} {arg4 : Memref sig .tc .vmem S24x80x64 .bf16} {harg4 : arg4.IsWhole} {arg5 : Memref sig .tc .vmem S24x72x128 .f32} {harg5 : arg5.IsWhole} {arg6 : Memref sig .tc .vmem S24x64 .f32} {harg6 : arg6.IsWhole} {arg7 : Memref sig .tc .vmem S24x128 .f32} {harg7 : arg7.IsWhole} {arg8 : Memref sig .tc .vmem S24x64x71 .bf16} {harg8 : arg8.IsWhole} {arg9 : Memref sig .tc .vmem S24x64x71 .fp8e4m3} {harg9 : arg9.IsWhole} {arg10 : Memref sig .tc .vmem S24x128 .f32} {harg10 : arg10.IsWhole} {arg11 : Memref sig .tc .vmem S256x128 .i32} {harg11 : arg11.IsWhole} {arg12 : Memref sig .tc .vmem S4x32x128 .f32} {harg12 : arg12.IsWhole} {arg13 : Memref sig .tc .vmem S2x72x128 .f32} {harg13 : arg13.IsWhole} {arg14 : DmaSems sig S4}
variable {f3 : Buf (Elt F) (arg3.view.loc (c : Thread nD τ))} {q0 q1 q2 q4 q5 q6 q7 : PosShare TreeShare}
  {Tab : S24x2048.Idx → BitVec 32} {Len : S24.Idx → BitVec 32} {Pool : S122880x128.Idx → BitVec 32}
  {Qv : S24x80x64.Idx → Elt F .bf16} {Mv : S24x72x128.Idx → Elt F .f32} {Cv : S24x64.Idx → Elt F .f32} {Sv : S24x128.Idx → Elt F .f32}

/-! ## The ring's four slots, of the scratch as a whole -/

/-- Slot `j`'s elements of the scratch. -/
abbrev slotSet (j : Fin 4) : Finset S4x32x128.Idx := (slotR j).set

theorem slotSet_eq (j : Fin 4) : (slotM (Memref.whole cc0_scratch1) j).view.set = slotSet j := by
  simp only [slotM, Memref.view_squeeze, View.set_reshape]; exact View.set_slice_whole _ _
theorem slots_disjoint (j j' : Fin 4) (hj : j ≠ j') : Disjoint (slotSet j) (slotSet j') :=
  Ring.lead_disjoint (s := S4x32x128) (0 : Fin 3) 1 (fun j : Fin 4 => (![j.val, 0, 0] : Fin 3 → Nat)) S1x32x128.size (by decide) (fun j => by simp) rfl j j' hj
theorem slots_cover : Finset.univ.biUnion slotSet = Finset.univ :=
  Ring.lead_cover (s := S4x32x128) (0 : Fin 3) 1 (fun j : Fin 4 => (![j.val, 0, 0] : Fin 3 → Nat)) S1x32x128.size (by decide) (fun j => by simp)
    (fun j a ha => by fin_cases a <;> first | exact absurd rfl ha | rfl) rfl (fun a ha => by fin_cases a <;> first | exact absurd rfl ha | rfl) rfl
def slotP (j : Fin 4) (f : Buf (Elt F) ((c : Thread nD τ).loc cc0_scratch1)) : sProp 𝕄 :=
  (slotM (Memref.whole cc0_scratch1) j).view.loc (c : Thread nD τ) ↦[(slotM (Memref.whole cc0_scratch1) j).view.set]{fullShare} f
theorem slotP_eq (j : Fin 4) (f) : slotP (F := F) c j f = ((c : Thread nD τ).loc cc0_scratch1 ↦[slotSet j]{fullShare} f : sProp 𝕄) := by
  unfold slotP; rw [slotSet_eq]

theorem share_in {ℓ : Loc nD τ sig} (S : Finset (Idx ℓ)) (f : Buf (Elt F) ℓ) :
    (ℓ ↦[S]{fullShare} f : sProp 𝕄) ⊣⊢ iprop(((ℓ ↦[S]{qs 0} f) ∗ (ℓ ↦[S]{qs 1} f)) ∗ ((ℓ ↦[S]{qs 2} f) ∗ (ℓ ↦[S]{qs 3} f))) :=
  (pointsTo_share (PosShare.mem_left_op_right fullShare)).trans
    (sep_congr (pointsTo_share (PosShare.mem_left_op_right _)) (pointsTo_share (PosShare.mem_left_op_right _)))

/-- The four cells at zero, the scratch and the scales whole are the ring with nothing under way, -/
theorem ring_in (f : Buf (Elt F) ((c : Thread nD τ).loc main_arg3)) :
    iprop((semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ (∃ g, (c : Thread nD τ).loc cc0_scratch1 ↦{fullShare} g) ∗ ((c : Thread nD τ).loc main_arg3 ↦{fullShare} f))
    ⊢ (RingIdle c (arg3 := Memref.whole main_arg3) (arg12 := Memref.whole cc0_scratch1) (arg14 := cc0_scratch3) (f3 := f) : sProp 𝕄) := by
  iintro ⟨⟨S0, S1, S2, S3⟩, HR, HA⟩
  ihave HR := (Ring.slots4_split (Ix := Unit) (Name := ℕ) (U := Pipeline.UD sig nD τ) (Lvl := ℕ) (ℓ := (c : Thread nD τ).loc cc0_scratch1) (q := fullShare) slotSet slots_disjoint slots_cover
    (slotP c 0) (slotP c 1) (slotP c 2) (slotP c 3) (slotP_eq c 0) (slotP_eq c 1) (slotP_eq c 2) (slotP_eq c 3)) $$ HR
  icases HR with ⟨R0, R1, R2, R3⟩
  ihave HA := (share_in (F := F) _ f).1 $$ HA
  icases HA with ⟨⟨A0, A1⟩, ⟨A2, A3⟩⟩
  unfold RingIdle Free
  rw [show (Memref.whole main_arg3 : Memref sig .tc .hbm S32x49152 .f32).view.set = Finset.univ from View.set_whole _]
  isplitl [S0 R0 A0]
  · isplitl [S0]; · iexact S0
    isplitl [R0]; · iexact R0
    iexact A0
  isplitl [S1 R1 A1]
  · isplitl [S1]; · iexact S1
    isplitl [R1]; · iexact R1
    iexact A1
  isplitl [S2 R2 A2]
  · isplitl [S2]; · iexact S2
    isplitl [R2]; · iexact R2
    iexact A2
  isplitl [S3]; · iexact S3
  isplitl [R3]; · iexact R3
  iexact A3

/-- and back. -/
theorem ring_out (f : Buf (Elt F) ((c : Thread nD τ).loc main_arg3)) :
    (RingIdle c (arg3 := Memref.whole main_arg3) (arg12 := Memref.whole cc0_scratch1) (arg14 := cc0_scratch3) (f3 := f) : sProp 𝕄) ⊢
    iprop((semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
      ∗ (∃ g, (c : Thread nD τ).loc cc0_scratch1 ↦{fullShare} g) ∗ ((c : Thread nD τ).loc main_arg3 ↦{fullShare} f)) := by
  unfold RingIdle Free
  rw [show (Memref.whole main_arg3 : Memref sig .tc .hbm S32x49152 .f32).view.set = Finset.univ from View.set_whole _]
  iintro ⟨⟨S0, R0, A0⟩, ⟨S1, R1, A1⟩, ⟨S2, R2, A2⟩, ⟨S3, R3, A3⟩⟩
  isplitl [S0 S1 S2 S3]
  · isplitl [S0]; · iexact S0
    isplitl [S1]; · iexact S1
    isplitl [S2]; · iexact S2
    iexact S3
  isplitl [R0 R1 R2 R3]
  · iapply (Ring.slots4_join (Ix := Unit) (Name := ℕ) (U := Pipeline.UD sig nD τ) (Lvl := ℕ) (ℓ := (c : Thread nD τ).loc cc0_scratch1) (q := fullShare) slotSet slots_disjoint slots_cover
      (slotP c 0) (slotP c 1) (slotP c 2) (slotP c 3) (slotP_eq c 0) (slotP_eq c 1) (slotP_eq c 2) (slotP_eq c 3))
    isplitl [R0]; · iexact R0
    isplitl [R1]; · iexact R1
    isplitl [R2]; · iexact R2
    iexact R3
  iapply (share_in (F := F) _ f).2
  isplitl [A0 A1]
  · isplitl [A0]; · iexact A0
    iexact A1
  isplitl [A2]; · iexact A2
  iexact A3

/-! ## The sequences -/

theorem trips24 : k0_t1_loop.trips = 24 := by decide

/-- The numbers of the lanes and of the rows of a tile. -/
abbrev lanes : IVec S16x128 32 := iota .tc S16x128 32 [1] iota_S16x128_d1_w32
abbrev rows : IVec S16x128 32 := iota .tc S16x128 32 [0] iota_S16x128_d0_w32

/-- The slabs of the sequences, together. -/
def Out8 (sq : Fin 24 → Seq F) : S24x64x71.Idx → Elt F .bf16 := fun i => (sq (i 0)).out8 (ix3 0 (i 1) (i 2))
def Out9 (sq : Fin 24 → Seq F) : S24x64x71.Idx → Elt F .fp8e4m3 := fun i => (sq (i 0)).out9 (ix3 0 (i 1) (i 2))
def Out10 (sq : Fin 24 → Seq F) : S24x128.Idx → Elt F .f32 := fun i => (sq (i 0)).out10 (ix2 0 (i 1))

theorem glue3 {α : Type} {n a b : ℕ} {X : (⟨3, ![n, a, b]⟩ : Shape).Idx → α} {o : Fin n → (⟨3, ![1, a, b]⟩ : Shape).Idx → α} (h : ∀ s, Sl3 X s = o s) :
    X = fun i => o (i 0) (ix3 0 (i 1) (i 2)) := by
  funext i
  have e := congrFun (h (i 0)) (ix3 0 (i 1) (i 2))
  refine Eq.trans (congrArg X ?_) e
  funext d
  fin_cases d <;> rfl
theorem glue2 {α : Type} {n b : ℕ} {X : (⟨2, ![n, b]⟩ : Shape).Idx → α} {o : Fin n → (⟨2, ![1, b]⟩ : Shape).Idx → α} (h : ∀ s, Sl2 b le_rfl X s = o s) :
    X = fun i => o (i 0) (ix2 0 (i 1)) := by
  funext i
  have e := congrFun (h (i 0)) (ix2 0 (i 1))
  refine Eq.trans (congrArg X ?_) e
  funext d
  fin_cases d <;> rfl

variable (arg0 arg1 arg2 arg3 arg4 arg5 arg6 arg7 arg8 arg9 arg10 arg11 arg12 arg13 arg14 f3 q0 q1 q2 q4 q5 q6 q7 Tab Len Pool Qv Mv Cv Sv) in
/-- What holds before trip `k`: the first `k` slabs of each result are done. -/
def Inv (k : ℕ) : sProp 𝕄 :=
  iprop(Amb c arg0 arg1 arg2 arg11 q0 q1 q2 Tab Len Pool ∗ RingIdle c arg3 arg12 arg14 f3 ∗ Ins c arg4 arg5 arg6 arg7 q4 q5 q6 q7 Qv Mv Cv Sv ∗ (∃ a b, Ml c arg13 a b)
    ∗ (∃ X, owns (c : Thread nD τ) arg8 fullShare (e := .bf16) X ∗ ⌜∀ s : Fin 24, s.val < k → Sl3 X s = (seqOf c (arg3 := arg3) f3 Tab Len Pool Qv Mv Cv Sv lanes rows s).out8⌝)
    ∗ (∃ X, owns (c : Thread nD τ) arg9 fullShare (e := .fp8e4m3) X ∗ ⌜∀ s : Fin 24, s.val < k → Sl3 X s = (seqOf c (arg3 := arg3) f3 Tab Len Pool Qv Mv Cv Sv lanes rows s).out9⌝)
    ∗ (∃ X, owns (c : Thread nD τ) arg10 fullShare (e := .f32) X ∗ ⌜∀ s : Fin 24, s.val < k → Sl2 128 le_rfl X s = (seqOf c (arg3 := arg3) f3 Tab Len Pool Qv Mv Cv Sv lanes rows s).out10⌝))

theorem done_succ {k : Fin 24} {β : Type} {Y X : Fin 24 → β} {o : Fin 24 → β} (hX : ∀ s : Fin 24, s.val < k.val → X s = o s) (hk : Y k = o k) (hY : ∀ t ≠ k, Y t = X t) :
    ∀ s : Fin 24, s.val < k.val + 1 → Y s = o s := by
  intro s hs
  by_cases e : s = k
  · rw [e, hk]
  · rw [hY s e]
    exact hX s (by have : s.val ≠ k.val := fun h => e (Fin.ext h); omega)

set_option backward.isDefEq.respectTransparency.types false in
theorem trip (hT : ∀ y, (Tab y).toNat < 61440) (hL : ∀ y, (Len y).toInt ≤ 32768) (k : Fin k0_t1_loop.trips) :
    Inv c arg0 arg1 arg2 arg3 arg4 arg5 arg6 arg7 arg8 arg9 arg10 arg11 arg12 arg13 arg14 f3 q0 q1 q2 q4 q5 q6 q7 Tab Len Pool Qv Mv Cv Sv k.val ⊢ wpb (F := F) c (k0_t1_body arg0 harg0 arg1 harg1 arg2 harg2 arg3 harg3 arg4 harg4 arg5 harg5 arg6 harg6 arg7 harg7 arg8 harg8 arg9 harg9 arg10 harg10 arg11 harg11 arg12 harg12 arg13 harg13 arg14 lanes rows k ()) (fun _ => Inv c arg0 arg1 arg2 arg3 arg4 arg5 arg6 arg7 arg8 arg9 arg10 arg11 arg12 arg13 arg14 f3 q0 q1 q2 q4 q5 q6 q7 Tab Len Pool Qv Mv Cv Sv (k.val + 1)) := by
  unfold k0_t1_body Inv
  iintro ⟨HA, HR, HI, HM, ⟨%X8, H8, %h8⟩, ⟨%X9, H9, %h9⟩, ⟨%X10, H10, %h10⟩⟩
  iapply (bind_wpb c)
  iapply (wand_wpb c) $$ [HA HR HI HM H8 H9 H10]
  · iapply (part110 c lanes rows _ _ k hT hL (X8 := X8) (X9 := X9) (X10 := X10) (w8 := Sl3 (n := 24) X8 k) (w9 := Sl3 (n := 24) X9 k) (w10 := Sl2 (n := 24) 128 le_rfl X10 k))
    isplitl [HA]; · iexact HA
    isplitl [HR]; · iexact HR
    isplitl [HI]; · iexact HI
    isplitl [HM]; · iexact HM
    isplitl [H8]; · iapply (slab3_any c (n := 24)) $$ H8
    isplitl [H9]; · iapply (slab3_any c (n := 24)) $$ H9
    iapply (slab2_any c (n := 24)) $$ H10
  iintro %_ ⟨HA, HR, HI, HM, H8, H9, H10⟩
  iapply (ret_wpb c)
  unfold Slab3 Slab2
  icases H8 with ⟨%Y8, H8, %e8⟩
  icases H9 with ⟨%Y9, H9, %e9⟩
  icases H10 with ⟨%Y10, H10, %e10⟩
  isplitl [HA]; · iexact HA
  isplitl [HR]; · iexact HR
  isplitl [HI]; · iexact HI
  isplitl [HM]; · iexact HM
  isplitl [H8]
  · iexists Y8
    isplitl [H8]; · iexact H8
    ipureintro; exact done_succ (k := k) (X := fun s => Sl3 (n := 24) X8 s) (Y := fun s => Sl3 (n := 24) Y8 s) h8 e8.1 e8.2
  isplitl [H9]
  · iexists Y9
    isplitl [H9]; · iexact H9
    ipureintro; exact done_succ (k := k) (X := fun s => Sl3 (n := 24) X9 s) (Y := fun s => Sl3 (n := 24) Y9 s) h9 e9.1 e9.2
  iexists Y10
  isplitl [H10]; · iexact H10
  ipureintro; exact done_succ (k := k) (X := fun s => Sl2 (n := 24) 128 le_rfl X10 s) (Y := fun s => Sl2 (n := 24) 128 le_rfl Y10 s) h10 e10.1 e10.2

/-- The kernel, on its operands at known contents. -/
theorem kernel_run (hT : ∀ y, (Tab y).toNat < 61440) (hL : ∀ y, (Len y).toInt ≤ 32768) :
    iprop(Amb c arg0 arg1 arg2 arg11 q0 q1 q2 Tab Len Pool ∗ RingIdle c arg3 arg12 arg14 f3 ∗ Ins c arg4 arg5 arg6 arg7 q4 q5 q6 q7 Qv Mv Cv Sv ∗ (∃ X, owns (c : Thread nD τ) arg13 fullShare (e := .f32) X) ∗ (∃ X, owns (c : Thread nD τ) arg8 fullShare (e := .bf16) X)
      ∗ (∃ X, owns (c : Thread nD τ) arg9 fullShare (e := .fp8e4m3) X) ∗ (∃ X, owns (c : Thread nD τ) arg10 fullShare (e := .f32) X))
    ⊢ wpb (F := F) c (cc0_attend arg0 harg0 arg1 harg1 arg2 harg2 arg3 harg3 arg4 harg4 arg5 harg5 arg6 harg6 arg7 harg7 arg8 harg8 arg9 harg9 arg10 harg10 arg11 harg11 arg12 harg12 arg13 harg13 arg14)
      (fun _ => iprop(Amb c arg0 arg1 arg2 arg11 q0 q1 q2 Tab Len Pool ∗ RingIdle c arg3 arg12 arg14 f3 ∗ Ins c arg4 arg5 arg6 arg7 q4 q5 q6 q7 Qv Mv Cv Sv ∗ (∃ X, owns (c : Thread nD τ) arg13 fullShare (e := .f32) X)
        ∗ owns (c : Thread nD τ) arg8 fullShare (e := .bf16) (Out8 (seqOf c (arg3 := arg3) f3 Tab Len Pool Qv Mv Cv Sv lanes rows))
        ∗ owns (c : Thread nD τ) arg9 fullShare (e := .fp8e4m3) (Out9 (seqOf c (arg3 := arg3) f3 Tab Len Pool Qv Mv Cv Sv lanes rows))
        ∗ owns (c : Thread nD τ) arg10 fullShare (e := .f32) (Out10 (seqOf c (arg3 := arg3) f3 Tab Len Pool Qv Mv Cv Sv lanes rows)))) := by
  rw [cc0_attend_eq_skeleton]
  unfold cc0_attend_skel
  dsimp only
  iintro ⟨HA, HR, HI, ⟨%X13, HM⟩, ⟨%X8, H8⟩, ⟨%X9, H9⟩, ⟨%X10, H10⟩⟩
  iapply (bind_wpb c)
  iapply (wand_wpb c) $$ [HA HR HI HM H8 H9 H10]
  · iapply (Scf.wp_for frame (wpE (defs₀ (F := F)) Variants.none (c : Thread nD τ) none) Set.univ _ _ _ k0_t1_ok () _
      (fun k _ => Inv c arg0 arg1 arg2 arg3 arg4 arg5 arg6 arg7 arg8 arg9 arg10 arg11 arg12 arg13 arg14 f3 q0 q1 q2 q4 q5 q6 q7 Tab Len Pool Qv Mv Cv Sv k) (fun k _ => trip c hT hL k))
    isplitl [HA HR HI HM H8 H9 H10]
    · unfold Inv
      isplitl [HA]; · iexact HA
      isplitl [HR]; · iexact HR
      isplitl [HI]; · iexact HI
      isplitl [HM]
      · iexists _, _
        unfold Ml
        iexists X13
        isplitl [HM]; · iexact HM
        ipureintro; exact ⟨rfl, rfl⟩
      isplitl [H8]
      · iexists X8
        isplitl [H8]; · iexact H8
        ipureintro; exact fun s h => absurd h (Nat.not_lt_zero _)
      isplitl [H9]
      · iexists X9
        isplitl [H9]; · iexact H9
        ipureintro; exact fun s h => absurd h (Nat.not_lt_zero _)
      iexists X10
      isplitl [H10]; · iexact H10
      ipureintro; exact fun s h => absurd h (Nat.not_lt_zero _)
    iintro %_ H
    iexact H
  iintro %_ H
  iapply (ret_wpb c)
  rw [show Scf.trips k0_t1_loop.lb k0_t1_loop.ub k0_t1_loop.st = 24 from trips24]
  unfold Inv
  icases H with ⟨HA, HR, HI, HM, ⟨%Y8, H8, %h8⟩, ⟨%Y9, H9, %h9⟩, ⟨%Y10, H10, %h10⟩⟩
  have e8 := glue3 (n := 24) fun s => h8 s s.isLt
  have e9 := glue3 (n := 24) fun s => h9 s s.isLt
  have e10 := glue2 (n := 24) fun s => h10 s s.isLt
  subst e8 e9 e10
  isplitl [HA]; · iexact HA
  isplitl [HR]; · iexact HR
  isplitl [HI]; · iexact HI
  isplitl [HM]
  · unfold Ml
    icases HM with ⟨%a, %b, %Y, HM, -⟩
    iexists Y; iexact HM
  isplitl [H8]; · iexact H8
  isplitl [H9]; · iexact H9
  iexact H10

end Cert.KernelIdeal.Hand
-- ==== Proof.Ideal.Run.lean ====
/-
  The whole program: it terminates without fault, every semaphore ends at zero, its arguments end as they were, and its
  three results end at what the kernel's sequences leave.
-/
module

public import proofs.«01_k».proof.Proof.Ideal.Whole
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The program up to the call -/

/-- The contents of a buffer of device `c` when the call is entered. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The windows: each is its whole array -/

/-- Window `w`'s block at the one point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S24x2048.Idx) : ((cfg0.win 0).blk t).view.emb j = j := by
  obtain ⟨e0, e1⟩ := idx_zero0 t
  funext a; apply Fin.ext
  match a with
  | ⟨0, _⟩ => show win0_0.index t (0 : Fin 2) * 24 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 1) = 0 :=
  (by decide +kernel : ∀ t : Fin grid0.N, _)
theorem emb1 (t : Fin cfg0.N) (j : S24.Idx) : ((cfg0.win 1).blk t).view.emb j = j := by
  have e0 := idx_zero1 t
  funext a; apply Fin.ext
  match a with
  | ⟨0, _⟩ => show win0_1.index t (0 : Fin 1) * 24 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S24x80x64.Idx) : ((cfg0.win 2).blk t).view.emb j = j := by
  obtain ⟨e0, e1, e2⟩ := idx_zero2 t
  funext a; apply Fin.ext
  match a with
  | ⟨0, _⟩ => show win0_2.index t (0 : Fin 3) * 24 + 1 * (j 0).val = (j 0).val; omega
  | ⟨1, _⟩ => show win0_2.index t (1 : Fin 3) * 80 + 1 * (j 1).val = (j 1).val; omega
  | ⟨2, _⟩ => show win0_2.index t (2 : Fin 3) * 64 + 1 * (j 2).val = (j 2).val; omega
theorem iblk2_eq (c : Dev nD) (t : Fin cfg0.N) : iblk m c 2 t = V m c main_arg4 := by
  funext j; show V m c main_arg4 (((cfg0.win 2).blk t).view.emb j) = V m c main_arg4 j; rw [emb2]
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S24x72x128.Idx) : ((cfg0.win 3).blk t).view.emb j = j := by
  obtain ⟨e0, e1, e2⟩ := idx_zero3 t
  funext a; apply Fin.ext
  match a with
  | ⟨0, _⟩ => show win0_3.index t (0 : Fin 3) * 24 + 1 * (j 0).val = (j 0).val; omega
  | ⟨1, _⟩ => show win0_3.index t (1 : Fin 3) * 72 + 1 * (j 1).val = (j 1).val; omega
  | ⟨2, _⟩ => show win0_3.index t (2 : Fin 3) * 128 + 1 * (j 2).val = (j 2).val; omega
theorem iblk3_eq (c : Dev nD) (t : Fin cfg0.N) : iblk m c 3 t = V m c main_arg5 := by
  funext j; show V m c main_arg5 (((cfg0.win 3).blk t).view.emb j) = V m c main_arg5 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S24x64.Idx) : ((cfg0.win 4).blk t).view.emb j = j := by
  obtain ⟨e0, e1⟩ := idx_zero4 t
  funext a; apply Fin.ext
  match a with
  | ⟨0, _⟩ => show win0_4.index t (0 : Fin 2) * 24 + 1 * (j 0).val = (j 0).val; omega
  | ⟨1, _⟩ => show win0_4.index t (1 : Fin 2) * 64 + 1 * (j 1).val = (j 1).val; omega
theorem iblk4_eq (c : Dev nD) (t : Fin cfg0.N) : iblk m c 4 t = V m c main_arg6 := by
  funext j; show V m c main_arg6 (((cfg0.win 4).blk t).view.emb j) = V m c main_arg6 j; rw [emb4]
theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S24x128.Idx) : ((cfg0.win 5).blk t).view.emb j = j := by
  obtain ⟨e0, e1⟩ := idx_zero5 t
  funext a; apply Fin.ext
  match a with
  | ⟨0, _⟩ => show win0_5.index t (0 : Fin 2) * 24 + 1 * (j 0).val = (j 0).val; omega
  | ⟨1, _⟩ => show win0_5.index t (1 : Fin 2) * 128 + 1 * (j 1).val = (j 1).val; omega
theorem iblk5_eq (c : Dev nD) (t : Fin cfg0.N) : iblk m c 5 t = V m c main_arg7 := by
  funext j; show V m c main_arg7 (((cfg0.win 5).blk t).view.emb j) = V m c main_arg7 j; rw [emb5]
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb6 (t : Fin cfg0.N) (j : S24x64x71.Idx) : ((cfg0.win 6).blk t).view.emb j = j := by
  obtain ⟨e0, e1, e2⟩ := idx_zero6 t
  funext a; apply Fin.ext
  match a with
  | ⟨0, _⟩ => show win0_6.index t (0 : Fin 3) * 24 + 1 * (j 0).val = (j 0).val; omega
  | ⟨1, _⟩ => show win0_6.index t (1 : Fin 3) * 64 + 1 * (j 1).val = (j 1).val; omega
  | ⟨2, _⟩ => show win0_6.index t (2 : Fin 3) * 71 + 1 * (j 2).val = (j 2).val; omega
theorem cut6_eq (t : Fin cfg0.N) (X : S24x64x71.Idx → Elt F .bf16) : (cfg0.win 6).cut (grid0.coords t) X = ((cfg0.win 6).blk t).view.read (Elt F) X := by
  funext j
  show X j = X (((cfg0.win 6).blk t).view.emb j)
  rw [emb6]
theorem covered6 (i : S24x64x71.Idx) : ∃ t : Fin cfg0.N, (cfg0.win 6).flush t = true ∧ i ∈ ((cfg0.win 6).blk t).view.set :=
  ⟨t0_0, flush0_6 _, by have h := ((cfg0.win 6).blk t0_0).view.emb_mem_set i; rwa [emb6] at h⟩
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (j : S24x64x71.Idx) : ((cfg0.win 7).blk t).view.emb j = j := by
  obtain ⟨e0, e1, e2⟩ := idx_zero7 t
  funext a; apply Fin.ext
  match a with
  | ⟨0, _⟩ => show win0_7.index t (0 : Fin 3) * 24 + 1 * (j 0).val = (j 0).val; omega
  | ⟨1, _⟩ => show win0_7.index t (1 : Fin 3) * 64 + 1 * (j 1).val = (j 1).val; omega
  | ⟨2, _⟩ => show win0_7.index t (2 : Fin 3) * 71 + 1 * (j 2).val = (j 2).val; omega
theorem cut7_eq (t : Fin cfg0.N) (X : S24x64x71.Idx → Elt F .fp8e4m3) : (cfg0.win 7).cut (grid0.coords t) X = ((cfg0.win 7).blk t).view.read (Elt F) X := by
  funext j
  show X j = X (((cfg0.win 7).blk t).view.emb j)
  rw [emb7]
theorem covered7 (i : S24x64x71.Idx) : ∃ t : Fin cfg0.N, (cfg0.win 7).flush t = true ∧ i ∈ ((cfg0.win 7).blk t).view.set :=
  ⟨t0_0, flush0_7 _, by have h := ((cfg0.win 7).blk t0_0).view.emb_mem_set i; rwa [emb7] at h⟩
theorem idx_zero8 : ∀ t : Fin cfg0.N, win0_8.index t (0 : Fin 2) = 0 ∧ win0_8.index t (1 : Fin 2) = 0 :=
  (by decide +kernel : ∀ t : Fin grid0.N, _)
theorem emb8 (t : Fin cfg0.N) (j : S24x128.Idx) : ((cfg0.win 8).blk t).view.emb j = j := by
  obtain ⟨e0, e1⟩ := idx_zero8 t
  funext a; apply Fin.ext
  match a with
  | ⟨0, _⟩ => show win0_8.index t (0 : Fin 2) * 24 + 1 * (j 0).val = (j 0).val; omega
  | ⟨1, _⟩ => show win0_8.index t (1 : Fin 2) * 128 + 1 * (j 1).val = (j 1).val; omega
theorem cut8_eq (t : Fin cfg0.N) (X : S24x128.Idx → Elt F .f32) : (cfg0.win 8).cut (grid0.coords t) X = ((cfg0.win 8).blk t).view.read (Elt F) X := by
  funext j
  show X j = X (((cfg0.win 8).blk t).view.emb j)
  rw [emb8]
theorem covered8 (i : S24x128.Idx) : ∃ t : Fin cfg0.N, (cfg0.win 8).flush t = true ∧ i ∈ ((cfg0.win 8).blk t).view.set :=
  ⟨t0_0, flush0_8 _, by have h := ((cfg0.win 8).blk t0_0).view.emb_mem_set i; rwa [emb8] at h⟩

/-! ## What the kernel owns besides its windows -/

abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3] (by decide) (by decide)]; rfl
def H0 : Finset (Ref sig .tc) := {main_arg3, main_arg2}
theorem H0_sub : H0 ⊆ Pipeline.restRefs sig spec0 := by decide
theorem unstaged_eq (c : Dev nD) :
    (bigSep H0 (fun b => ((c : Thread nD τ).loc b) ↦{fullShare} V m c b) : sProp 𝕄)
      = iprop(((c : Thread nD τ).loc main_arg3 ↦{fullShare} V m c main_arg3) ∗ ((c : Thread nD τ).loc main_arg2 ↦{fullShare} V m c main_arg2)) := by
  rw [BI.bigSep_eq_bigSepL_of_eq [main_arg3, main_arg2] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f))
        ∗ (∃ r, prngReg c r)
        ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
        ∗ iprop(((c : Thread nD τ).loc main_arg3 ↦{fullShare} V m c main_arg3) ∗ ((c : Thread nD τ).loc main_arg2 ↦{fullShare} V m c main_arg2))) := by
  rw [Pipeline.ΦD_eq, scopedRest0_eq, ownSems00_eq, unstaged_eq]

/-! ## The run's data -/

/-- The sequences of the arguments. -/
def Sq (c : Dev nD) : Fin 24 → Seq F :=
  seqOf c (arg3 := Memref.whole main_arg3) (V m c main_arg3) (V m c main_arg0) (V m c main_arg1) (V m c main_arg2) (V m c main_arg4) (V m c main_arg5) (V m c main_arg6) (V m c main_arg7) lanes rows

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Out8 (Sq m c)
    | ⟨7, _⟩ => Out9 (Sq m c)
    | ⟨8, _⟩ => Out10 (Sq m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = Out8 (Sq m c) := by dsimp only [dats]
theorem after0_7 (c : Dev nD) (t : Fin cfg0.N) : (dats m 0 c).after 7 t = Out9 (Sq m c) := by dsimp only [dats]
theorem after0_8 (c : Dev nD) (t : Fin cfg0.N) : (dats m 0 c).after 8 t = Out10 (Sq m c) := by dsimp only [dats]
theorem before0_0 (c : Dev nD) (t : Fin cfg0.N) (d) : (dats m 0 c).before 0 t d = V m c main_arg0 :=
  (((dats m 0 c).before_in_eq_fetched 0 rfl (fun _ => rfl) (fun _ _ _ => rfl) (fun t => by rw [after0_0]; unfold Dat.blockOf iblk; rw [A_eq]; try rfl) t d).trans
    (by unfold Dat.fetched Dat.blockOf; rw [A_eq]; try rfl)).trans (iblk0_eq m c t)
theorem before0_1 (c : Dev nD) (t : Fin cfg0.N) (d) : (dats m 0 c).before 1 t d = V m c main_arg1 :=
  (((dats m 0 c).before_in_eq_fetched 1 rfl (fun _ => rfl) (fun _ _ _ => rfl) (fun t => by rw [after0_1]; unfold Dat.blockOf iblk; rw [A_eq]; try rfl) t d).trans
    (by unfold Dat.fetched Dat.blockOf; rw [A_eq]; try rfl)).trans (iblk1_eq m c t)
theorem before0_2 (c : Dev nD) (t : Fin cfg0.N) (d) : (dats m 0 c).before 2 t d = V m c main_arg4 :=
  (((dats m 0 c).before_in_eq_fetched 2 rfl (fun _ => rfl) (fun _ _ _ => rfl) (fun t => by rw [after0_2]; unfold Dat.blockOf iblk; rw [A_eq]; try rfl) t d).trans
    (by unfold Dat.fetched Dat.blockOf; rw [A_eq]; try rfl)).trans (iblk2_eq m c t)
theorem before0_3 (c : Dev nD) (t : Fin cfg0.N) (d) : (dats m 0 c).before 3 t d = V m c main_arg5 :=
  (((dats m 0 c).before_in_eq_fetched 3 rfl (fun _ => rfl) (fun _ _ _ => rfl) (fun t => by rw [after0_3]; unfold Dat.blockOf iblk; rw [A_eq]; try rfl) t d).trans
    (by unfold Dat.fetched Dat.blockOf; rw [A_eq]; try rfl)).trans (iblk3_eq m c t)
theorem before0_4 (c : Dev nD) (t : Fin cfg0.N) (d) : (dats m 0 c).before 4 t d = V m c main_arg6 :=
  (((dats m 0 c).before_in_eq_fetched 4 rfl (fun _ => rfl) (fun _ _ _ => rfl) (fun t => by rw [after0_4]; unfold Dat.blockOf iblk; rw [A_eq]; try rfl) t d).trans
    (by unfold Dat.fetched Dat.blockOf; rw [A_eq]; try rfl)).trans (iblk4_eq m c t)
theorem before0_5 (c : Dev nD) (t : Fin cfg0.N) (d) : (dats m 0 c).before 5 t d = V m c main_arg7 :=
  (((dats m 0 c).before_in_eq_fetched 5 rfl (fun _ => rfl) (fun _ _ _ => rfl) (fun t => by rw [after0_5]; unfold Dat.blockOf iblk; rw [A_eq]; try rfl) t d).trans
    (by unfold Dat.fetched Dat.blockOf; rw [A_eq]; try rfl)).trans (iblk5_eq m c t)

/-! ## The body -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

theorem sound_body (c : Dev nD) (t : Fin cfg0.N) (hT : ∀ y : S24x2048.Idx, (V m c main_arg0 y).toNat < 61440) (hL : ∀ y : S24.Idx, (V m c main_arg1 y).toInt ≤ 32768) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, iblk0_eq, iblk1_eq, iblk2_eq, iblk3_eq, iblk4_eq, iblk5_eq]
  rw [show (dats m 0 c).Φ t.castSucc = Pipeline.ΦD osem0 spec0 H0 (V m) c from rfl, PhiD0_eq]
  simp only [before0_0, before0_1, before0_2, before0_3, before0_4, before0_5]
  unfold Dat.owesAt Pipeline.owesWithin
  rw [show (dats m 0 c).owed t.castSucc = 0 from rfl, show (dats m 0 c).owed t.succ = 0 from rfl]
  iintro ⟨⟨⟨⟨%x0, HX⟩, HR, ⟨%x2, HM⟩⟩, Hg, HS, ⟨HA, HP⟩⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩⟩
  ihave HR := (ring_in (F := F) c (V m c main_arg3)) $$ [HS HR HA]
  · isplitl [HS]; · iexact HS
    isplitl [HR]; · iexact HR
    iexact HA
  iapply (wand_wpb c) $$ [HX HM HP HR HW B0 B1 B2 B3 B4 B5 B6 B7 B8]
  · iapply (kernel_run c (Tab := V m c main_arg0) (Len := V m c main_arg1) (Pool := V m c main_arg2) (f3 := V m c main_arg3) (Qv := V m c main_arg4) (Mv := V m c main_arg5) (Cv := V m c main_arg6) (Sv := V m c main_arg7)
      (q0 := fullShare) (q1 := fullShare) (q2 := fullShare) (q4 := fullShare) (q5 := fullShare) (q6 := fullShare) (q7 := fullShare) hT hL)
    unfold Amb Ins
    isplitl [HX HP HW B0 B1]
    · isplitl [B0]; · iexact B0
      isplitl [B1]; · iexact B1
      isplitl [HP]; · iapply (Entails.of_eq (owns_whole (c : Thread nD τ) main_arg2 fullShare (V m c main_arg2)).symm) $$ HP
      isplitl [HX]
      · iexists x0
        iapply (Entails.of_eq (owns_whole (c : Thread nD τ) cc0_scratch0 fullShare x0).symm) $$ HX
      iexists W; iexact HW
    isplitl [HR]; · iexact HR
    isplitl [B2 B3 B4 B5]
    · isplitl [B2]; · iexact B2
      isplitl [B3]; · iexact B3
      isplitl [B4]; · iexact B4
      iexact B5
    isplitl [HM]
    · iexists x2
      iapply (Entails.of_eq (owns_whole (c : Thread nD τ) cc0_scratch2 fullShare x2).symm) $$ HM
    isplitl [B6]; · iexists _; iexact B6
    isplitl [B7]; · iexists _; iexact B7
    iexists _; iexact B8
  iintro %_ ⟨HA, HR, HI, ⟨%y2, HM⟩, B6, B7, B8⟩
  unfold Amb Ins
  icases HA with ⟨B0, B1, HP, ⟨%y0, HX⟩, ⟨%W', HW⟩⟩
  icases HI with ⟨B2, B3, B4, B5⟩
  ihave HR := (ring_out (F := F) c (V m c main_arg3)) $$ HR
  icases HR with ⟨HS, HR, HA⟩
  isplitl [HX HR HM Hg HS HA HP]
  · isplitl [HX HR HM]
    · isplitl [HX]
      · iexists y0
        iapply (Entails.of_eq (owns_whole (c : Thread nD τ) cc0_scratch0 fullShare y0)) $$ HX
      isplitl [HR]; · iexact HR
      iexists y2
      iapply (Entails.of_eq (owns_whole (c : Thread nD τ) cc0_scratch2 fullShare y2)) $$ HM
    isplitl [Hg]; · iexact Hg
    isplitl [HS]; · iexact HS
    isplitl [HA]; · iexact HA
    iapply (Entails.of_eq (owns_whole (c : Thread nD τ) main_arg2 fullShare (V m c main_arg2))) $$ HP
  isplitl [HW]
  · iexists W'; isplitr; · ipureintro; exact fun _ _ => Or.inl trivial
    iexact HW
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

theorem defs₀_row (t : Fin cfg0.N) : defs₀ (F := F) .tc cfg0.body (cfg0.bodyArgs t (cfg0.slots t)) = bodyAt0 t := by
  unfold defs₀; rw [Defs.onTc_tc]

theorem body_obligation (c : Dev nD) (hT : ∀ y : S24x2048.Idx, (V m c main_arg0 y).toNat < 61440) (hL : ∀ y : S24.Idx, (V m c main_arg1 y).toInt ≤ 32768) :
    BodyObligation (dats (F := F) m 0 c) (defs₀ (F := F)) Variants.none () Set.univ := fun t => by
  rw [bigSep_W0, bigSep_W0, defs₀_row]
  exact triple_restated (sound_body m c t hT hL) rfl .rfl fun _ => .rfl

/-! ## The run -/

/-- The words the body reads: every page number is one of the pool's, no sequence is longer than its table's row. -/
def InRange : Prop := ∀ c : Dev nD, (∀ y : S24x2048.Idx, (V m c main_arg0 y).toNat < 61440) ∧ ∀ y : S24.Idx, (V m c main_arg1 y).toInt ≤ 32768

set_option backward.isDefEq.respectTransparency.types false in
theorem run_main (h : InRange m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (h c).1 (h c).2).loose) (hshare := fun c => (dats m 0 c).share_full fun _ => rfl)
    (howed := fun _ _ => rfl) (V := V m) (hmain := hmain m Variants.none) (hA := A_eq m)
    (hin := fun _ => .rfl) (hout := fun _ => .rfl)

theorem final6 (c : Dev nD) : (dats m 0 c).arrAt 6 cfg0.N = Out8 (Sq m c) :=
  (dats m 0 c).arrAt_eq_of_cover 6 (Out8 (Sq m c)) (fun t _ => by
    show (cfg0.win 6).cut (grid0.coords t) ((dats m 0 c).after 6 t) = _
    rw [after0_6]
    exact cut6_eq t _) covered6
theorem final7 (c : Dev nD) : (dats m 0 c).arrAt 7 cfg0.N = Out9 (Sq m c) :=
  (dats m 0 c).arrAt_eq_of_cover 7 (Out9 (Sq m c)) (fun t _ => by
    show (cfg0.win 7).cut (grid0.coords t) ((dats m 0 c).after 7 t) = _
    rw [after0_7]
    exact cut7_eq t _) covered7
theorem final8 (c : Dev nD) : (dats m 0 c).arrAt 8 cfg0.N = Out10 (Sq m c) :=
  (dats m 0 c).arrAt_eq_of_cover 8 (Out10 (Sq m c)) (fun t _ => by
    show (cfg0.win 8).cut (grid0.coords t) ((dats m 0 c).after 8 t) = _
    rw [after0_8]
    exact cut8_eq t _) covered8

/-- The run: the results at what the sequences leave, the arguments as they were, every semaphore at zero. -/
theorem run (h : InRange m) : θ_run defs (onTc (τ := τ) (main (F := F))) ⟨m, fun _ => 0, ρ⟩ (fun r => (∀ c : Dev nD,
      (r.2.mem ((c.tc : Thread nD τ).loc main_v0_0) = Out8 (Sq m c)
      ∧ r.2.mem ((c.tc : Thread nD τ).loc main_v0_1) = Out9 (Sq m c)
      ∧ r.2.mem ((c.tc : Thread nD τ).loc main_v0_2) = Out10 (Sq m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨⟨((h.1 c).1 6).trans (final6 m c), ((h.1 c).1 7).trans (final7 m c), ((h.1 c).1 8).trans (final8 m c)⟩,
      ((h.1 c).1 0).trans (((dats m 0 c).arrAt_in 0 rfl _).trans (A_eq m c 0)),
      ((h.1 c).1 1).trans (((dats m 0 c).arrAt_in 1 rfl _).trans (A_eq m c 1)),
      (h.1 c).2 main_arg2 (Pipeline.mem_restRefs_of main_arg2 (by decide) (by decide)),
      (h.1 c).2 main_arg3 (Pipeline.mem_restRefs_of main_arg3 (by decide) (by decide)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5))⟩, h.2⟩) (run_main m ρ h)

/-- The frame. -/
theorem frame_run (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (run m ρ h)

end Cert.KernelIdeal.Hand
-- ==== Proof.Pre.lean ====
/-
  What the precondition on the table and the lengths says of the arguments: the printed comparisons, decoded.
-/
module

public import proofs.«01_k».proof.Defs
public import proofs.«01_k».proof.Proof.Gen.Pre_in_range
public import Idealize.ShloMosaic.Lib.Pipeline.Value

@[expose] public section

noncomputable section

namespace Cert.Proof

open Idealize.ShloMosaic

/-- A vector laid out as a line and all ones was all ones. -/
theorem of_shapeCast {s t : Shape} {α : Type} {x : s.Idx → α} {h : s.ShapeCasts t} {v : α} (e : ∀ j, shapeCast t x h j = v) (i : s.Idx) : x i = v := by
  have := e ((Shape.reshapeEquiv h).symm i)
  simpa [shapeCast] using this

/-- Piece `k` of a line of pieces that is `v` throughout is `v` throughout. -/
theorem of_concat {n : ℕ} {α : Type} {xs : List ((s : Shape) × (s.Idx → α))} {h : Shape.Concatenates (xs.map (·.1)) ⟨1, ![n]⟩ 0} {v : α}
    (e : ∀ j, concatenate ⟨1, ![n]⟩ 0 xs h j = v) (k : ℕ) (hk : k < xs.length) {d : ℕ} (x : (⟨1, ![d]⟩ : Shape).Idx → α) (hx : xs[k] = ⟨⟨1, ![d]⟩, x⟩)
    (pre : ℕ) (hpre : (((xs.take k).map (·.1)).map fun s => if h : s.rank = 1 then s.size ((0 : Fin 1).cast h.symm) else 0).sum = pre) (hd : pre + d ≤ n)
    (i : (⟨1, ![d]⟩ : Shape).Idx) : x i = v := by
  have hb : (i 0).val < d := (i 0).isLt
  rw [← concatenate_apply_piece (t := ⟨1, ![n]⟩) 0 xs h (fun a => ⟨pre + (i 0).val, by fin_cases a; show pre + (i 0).val < n; omega⟩) k hk ⟨1, ![d]⟩ x hx rfl pre hpre i
    (fun b hb => absurd (by fin_cases b; rfl) hb) rfl]
  exact e _

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide
theorem page_of {v : BitVec 32} (e : IntOp.andi (IntOp.cmpi .sge v 0#32) (IntOp.cmpi .slt v 61440#32) = 1#1) : v.toNat < 61440 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega
theorem len_of {v : BitVec 32} (e : IntOp.cmpi .sle v 32768#32 = 1#1) : v.toInt ≤ 32768 := by
  simp only [IntOp.cmpi, ofBool_eq_one, BitVec.sle_eq_decide, decide_eq_true_eq] at e
  exact e

variable {F : FTy → Type} [FloatOps F]

section InRange
open Cert.Pre_in_range

theorem in_range {a0 : IVec S24x2048 32} {a1 : IVec S24 32} {a2 a3 a4 a5 a6 a7} (h : Cert.Pre_in_range.fn (F := F) a0 a1 a2 a3 a4 a5 a6 a7 = fun _ => 1#1) :
    (∀ y, (a0 y).toNat < 61440) ∧ ∀ y, (a1 y).toInt ≤ 32768 := by
  have e := congrFun h
  simp only [Cert.Pre_in_range.fn] at e
  constructor
  · intro y
    have e0 := of_shapeCast (of_concat e 0 (of_decide_eq_true rfl) _ rfl 0 rfl (by decide)) y
    exact page_of e0
  · intro y
    have e1 := of_concat e 1 (of_decide_eq_true rfl) _ rfl 49152 rfl (by decide) y
    exact len_of e1

end InRange

end Cert.Proof

end
-- ==== Proof.FinitePre.lean ====
/-
  What the precondition of the value claim says of the arguments: the printed comparisons, decoded.
-/
module

public import proofs.«01_k».proof.Proof.Pre
public import Idealize.ShloMosaic.Lib.Pointwise
public import proofs.«01_k».proof.Proof.Gen.Pre_finite_in_range

@[expose] public section

noncomputable section

namespace Cert.Proof

open Idealize.ShloMosaic

section Finite
open Cert.Pre_finite_in_range

theorem finite_of {v : EReal} (e : IntOp.andi (Ideal.cmp .ogt v ⊥) (Ideal.cmp .olt v ⊤) = 1#1) : ∃ r : ℝ, v = r := by
  simp only [Ideal.cmp, andi_ofBool, ofBool_eq_one, Bool.and_eq_true, decide_eq_true_eq] at e
  exact ⟨v.toReal, (EReal.coe_toReal e.2.ne e.1.ne').symm⟩

theorem eq_of {v w : EReal} (e : Ideal.cmp .oeq v w = 1#1) : v = w := by
  simpa only [Ideal.cmp, ofBool_eq_one, decide_eq_true_eq] using e

theorem neg_top : Ideal.ofBits .f32 4286578688#32 = (⊥ : EReal) := by
  simp [Ideal.ofBits, Ideal.ieee]
theorem pos_top : Ideal.ofBits .f32 2139095040#32 = (⊤ : EReal) := by
  simp [Ideal.ofBits, Ideal.ieee]

/-- What `finite_in_range` says. -/
structure Fin' (a0 : IVec S24x2048 32) (a1 : IVec S24 32) (a3 : FVec Ideal S32x49152 .f32) (a4 : FVec Ideal S24x80x64 .bf16) (a5 : FVec Ideal S24x72x128 .f32) : Prop where
  page : ∀ y, (a0 y).toNat < 61440
  len : ∀ y, (a1 y).toInt ≤ 32768
  scale : ∀ y, ∃ r : ℝ, a3 y = (r : EReal)
  query : ∀ y, ∃ r : ℝ, a4 y = (r : EReal)
  self : ∀ y, ∃ r : ℝ, a5 y = (r : EReal)
  lanes : ∀ (b0 : Fin 24) (b1 : Fin 72) (b2 : Fin 128), a5 (ix3 b0 b1 b2) = a5 (ix3 b0 b1 0)

/-- Every piece of a line of five that is `v` throughout is. -/
theorem of_five {n a b c d f : ℕ} {α : Type} {x0 : (⟨1, ![a]⟩ : Shape).Idx → α} {x1 : (⟨1, ![b]⟩ : Shape).Idx → α} {x2 : (⟨1, ![c]⟩ : Shape).Idx → α} {x3 : (⟨1, ![d]⟩ : Shape).Idx → α} {x4 : (⟨1, ![f]⟩ : Shape).Idx → α} {h} {v : α}
    (e : ∀ j, concatenate ⟨1, ![n]⟩ 0 [⟨⟨1, ![a]⟩, x0⟩, ⟨⟨1, ![b]⟩, x1⟩, ⟨⟨1, ![c]⟩, x2⟩, ⟨⟨1, ![d]⟩, x3⟩, ⟨⟨1, ![f]⟩, x4⟩] h j = v) (hn : a + b + c + d + f ≤ n) :
    (∀ i, x0 i = v) ∧ (∀ i, x1 i = v) ∧ (∀ i, x2 i = v) ∧ (∀ i, x3 i = v) ∧ (∀ i, x4 i = v) :=
  ⟨of_concat e 0 (of_decide_eq_true rfl) x0 rfl 0 rfl (by omega), of_concat e 1 (of_decide_eq_true rfl) x1 rfl (a + 0) rfl (by omega),
    of_concat e 2 (of_decide_eq_true rfl) x2 rfl (a + (b + 0)) rfl (by omega), of_concat e 3 (of_decide_eq_true rfl) x3 rfl (a + (b + (c + 0))) rfl (by omega),
    of_concat e 4 (of_decide_eq_true rfl) x4 rfl (a + (b + (c + (d + 0)))) rfl (by omega)⟩

theorem of_two {n a b : ℕ} {α : Type} {x0 : (⟨1, ![a]⟩ : Shape).Idx → α} {x1 : (⟨1, ![b]⟩ : Shape).Idx → α} {h} {v : α}
    (e : ∀ j, concatenate ⟨1, ![n]⟩ 0 [⟨⟨1, ![a]⟩, x0⟩, ⟨⟨1, ![b]⟩, x1⟩] h j = v) (hn : a + b ≤ n) : (∀ i, x0 i = v) ∧ (∀ i, x1 i = v) :=
  ⟨of_concat e 0 (of_decide_eq_true rfl) x0 rfl 0 rfl (by omega), of_concat e 1 (of_decide_eq_true rfl) x1 rfl (a + 0) rfl (by omega)⟩

theorem lanes_of {a5 : FVec Ideal S24x72x128 .f32} {h h'} (e : ∀ y, cmpf (F := Ideal) (φ := .f32) .oeq a5 (broadcastInDim S24x72x128 ![0, 1, 2] h (extractStridedSlice S24x72x1 ![0, 0, 0] a5 h')) y = 1#1)
    (b0 : Fin 24) (b1 : Fin 72) (b2 : Fin 128) : a5 (ix3 b0 b1 b2) = a5 (ix3 b0 b1 0) := by
  have e2 := eq_of (show Ideal.cmp .oeq (a5 (ix3 b0 b1 b2)) (broadcastInDim S24x72x128 ![0, 1, 2] h (extractStridedSlice S24x72x1 ![0, 0, 0] a5 h') (ix3 b0 b1 b2)) = 1#1 from e _)
  rw [e2]
  pointwise []

theorem real_of {sh : Shape} {φ : FTy} {v : FVec Ideal sh φ} {l u : FVec Ideal sh φ} (hl : ∀ y, (l y : EReal) = ⊥) (hu : ∀ y, (u y : EReal) = ⊤)
    (e : ∀ y, andi (cmpf .ogt v l) (cmpf .olt v u) y = 1#1) (y : sh.Idx) : ∃ r : ℝ, (v y : EReal) = r := by
  have e1 : IntOp.andi (Ideal.cmp .ogt (v y) (l y)) (Ideal.cmp .olt (v y) (u y)) = 1#1 := e y
  rw [hl, hu] at e1
  exact finite_of e1

theorem finite_in_range {a0 : IVec S24x2048 32} {a1 : IVec S24 32} {a2 a3 a4 a5 a6 a7} (h : Cert.Pre_finite_in_range.fn (F := Ideal) a0 a1 a2 a3 a4 a5 a6 a7 = fun _ => 1#1) :
    Fin' a0 a1 a3 a4 a5 := by
  have e := congrFun h
  simp only [Cert.Pre_finite_in_range.fn, fn_part1] at e
  obtain ⟨e0, e1, e2, e3, e4⟩ := of_five (n := 2187288) (a := 49176) (b := 1572864) (c := 122880) (d := 221184) (f := 221184) e (by norm_num)
  obtain ⟨p0, p1⟩ := of_two (n := 49176) (a := 49152) (b := 24) e0 (by norm_num)
  have n1 := of_shapeCast e1
  have n2 := of_shapeCast e2
  have n3 := of_shapeCast e3
  have n4 := of_shapeCast e4
  have n0 := of_shapeCast p0
  clear e e0 e1 e2 e3 e4 p0 h
  refine ⟨fun y => page_of (n0 y), fun y => len_of (p1 y), real_of (fun _ => neg_top) (fun _ => pos_top) n1, ?_, real_of (fun _ => neg_top) (fun _ => pos_top) n3, ?_⟩
  · have n5 := n2
    exact real_of (fun _ => neg_top) (fun _ => pos_top) n5
  · exact lanes_of n4

end Finite

end Cert.Proof

end
-- ==== Proof.Ideal.Clean.lean ====
/-
  A trip's arithmetic as one small function of a pair of tokens, eight times over: the printed payloads are these by unfolding.
-/
module

public import proofs.«01_k».proof.Proof.Ideal.Body

@[expose] public section

noncomputable section

namespace Cert.KernelIdeal.Hand

open Cert.KernelIdeal Cert.KernelIdeal.Gen
open Idealize.ShloMosaic Idealize.ShloMosaic.ValueIdx Idealize.ShloMosaic.TcCoe

variable {F : FTy → Type} [FloatOps F] [Named F]

/-- The 64 by 128 codes of a token: the eight words at row `o`, unpacked. -/
def un (W : IVec S128x128 32) (o : ℕ) (h : S128x128.Slices ![o, 0] S8x128) : FVec F S64x128 .bf16 :=
  sitofp .bf16 (shapeCast S64x128 (shrsi (shli (broadcastTo S8x8x128 (shapeCast S8x1x128 (shapeCast S8x1x128 (extractStridedSlice S8x128 ![o, 0] W h) shapeCasts_S8x128_S8x1x128) shapeCasts_S8x1x128_S8x1x128) broadcasts_S8x1x128_S8x8x128)
    (subi (broadcast S8x8x128 28#32) (muli (broadcast S8x8x128 4#32) (iota .tc S8x8x128 32 [1] iota_S8x8x128_d1_w32)))) (broadcast S8x8x128 28#32)) shapeCasts_S8x8x128_S64x128)

/-- The codes of two tokens side by side. -/
def un2 (W : IVec S128x128 32) (o o' : ℕ) (h : S128x128.Slices ![o, 0] S8x128) (h' : S128x128.Slices ![o', 0] S8x128) : FVec F S64x256 .bf16 :=
  concatenate S64x256 1 [⟨S64x128, un W o h⟩, ⟨S64x128, un W o' h'⟩] concatenates_S64x128_S64x128_S64x256_d1

/-- Two rows side by side. -/
def row2 {α : Type} (V : S16x128.Idx → α) (a a' : ℕ) (h : S16x128.Slices ![a, 0] S1x128) (h' : S16x128.Slices ![a', 0] S1x128) : S1x256.Idx → α :=
  concatenate S1x256 1 [⟨S1x128, extractStridedSlice S1x128 ![a, 0] V h⟩, ⟨S1x128, extractStridedSlice S1x128 ![a', 0] V h'⟩] concatenates_S1x128_S1x128_S1x256_d1

/-- The two tokens' scores, scaled. -/
def scoreC (qs : FVec F S80x64 .bf16) (kb : FVec F S64x256 .bf16) (kr : FVec F S1x256 .f32) : FVec F S72x256 .f32 :=
  mulf (extractStridedSlice S72x256 ![0, 0] (matmul dot_S80x64_S64x256_S80x256_1_0_0_1_n_n none qs kb (constant S80x256 .f32 0x00000000#32)) slices_S80x256_o0_0_S72x256) (broadcastTo S72x256 kr broadcasts_S1x256_S72x256)

/-- The two tokens' weights: `2 ^ (score - shift)` where the tokens are within the length. -/
def prC (m2 sc : FVec F S72x256 .f32) (mk : IVec S1x256 1) : FVec F S72x256 .f32 :=
  select (broadcastTo S72x256 (shapeCast S1x256 mk shapeCasts_S1x256_S1x256) broadcasts_S1x256_S72x256) (exp2 (subf sc m2)) (broadcast S72x256 (Scalar.ofBits .f32 0x00000000#32))

def lC (l : FVec F S72x128 .f32) (pr : FVec F S72x256 .f32) : FVec F S72x128 .f32 :=
  addf (addf l (extractStridedSlice S72x128 ![0, 0] pr slices_S72x256_o0_0_S72x128)) (extractStridedSlice S72x128 ![0, 128] pr slices_S72x256_o0_128_S72x128)

def accC (acc : FVec F S64x72 .f32) (pr : FVec F S72x256 .f32) (vr : FVec F S1x256 .f32) (vb : FVec F S64x256 .bf16) : FVec F S64x72 .f32 :=
  addf acc (matmul dot_S64x256_S72x256_S64x72_1_1_0_0_n_n none vb (truncf .bf16 (mulf pr (broadcastTo S72x256 vr broadcasts_S1x256_S72x256)) bitsLt_bf16_f32) (constant S64x72 .f32 0x00000000#32))

def mxC (mx : FVec F S72x128 .f32) (sc : FVec F S72x256 .f32) (mk : IVec S1x256 1) : FVec F S72x128 .f32 :=
  let z : FVec F S72x256 .f32 := select (broadcastTo S72x256 (shapeCast S1x256 mk shapeCasts_S1x256_S1x256) broadcasts_S1x256_S72x256) sc (broadcast S72x256 (Scalar.ofBits .f32 0xFF800000#32))
  maximumf mx (maximumf (extractStridedSlice S72x128 ![0, 0] z slices_S72x256_o0_0_S72x128) (extractStridedSlice S72x128 ![0, 128] z slices_S72x256_o0_128_S72x128))

section
variable (qs : FVec F S80x64 .bf16) (m2 : FVec F S72x256 .f32) (ks vs : FVec F S16x128 .f32) (mask : IVec S16x128 1) (kw vw : IVec S128x128 32)

def sc0 : FVec F S72x256 .f32 := scoreC qs (un2 kw 0 8 slices_S128x128_o0_0_S8x128 slices_S128x128_o8_0_S8x128) (row2 ks 0 1 slices_S16x128_o0_0_S1x128 slices_S16x128_o1_0_S1x128)
def pr0 : FVec F S72x256 .f32 := prC m2 (sc0 qs ks kw) (row2 mask 0 1 slices_S16x128_o0_0_S1x128 slices_S16x128_o1_0_S1x128)
def ac0 (acc : FVec F S64x72 .f32) : FVec F S64x72 .f32 := accC acc (pr0 qs m2 ks mask kw) (row2 vs 0 1 slices_S16x128_o0_0_S1x128 slices_S16x128_o1_0_S1x128) (un2 vw 0 8 slices_S128x128_o0_0_S8x128 slices_S128x128_o8_0_S8x128)
def mx0 (mx : FVec F S72x128 .f32) : FVec F S72x128 .f32 := mxC mx (sc0 qs ks kw) (row2 mask 0 1 slices_S16x128_o0_0_S1x128 slices_S16x128_o1_0_S1x128)

def sc1 : FVec F S72x256 .f32 := scoreC qs (un2 kw 16 24 slices_S128x128_o16_0_S8x128 slices_S128x128_o24_0_S8x128) (row2 ks 2 3 slices_S16x128_o2_0_S1x128 slices_S16x128_o3_0_S1x128)
def pr1 : FVec F S72x256 .f32 := prC m2 (sc1 qs ks kw) (row2 mask 2 3 slices_S16x128_o2_0_S1x128 slices_S16x128_o3_0_S1x128)
def ac1 (acc : FVec F S64x72 .f32) : FVec F S64x72 .f32 := accC acc (pr1 qs m2 ks mask kw) (row2 vs 2 3 slices_S16x128_o2_0_S1x128 slices_S16x128_o3_0_S1x128) (un2 vw 16 24 slices_S128x128_o16_0_S8x128 slices_S128x128_o24_0_S8x128)
def mx1 (mx : FVec F S72x128 .f32) : FVec F S72x128 .f32 := mxC mx (sc1 qs ks kw) (row2 mask 2 3 slices_S16x128_o2_0_S1x128 slices_S16x128_o3_0_S1x128)

def sc2 : FVec F S72x256 .f32 := scoreC qs (un2 kw 32 40 slices_S128x128_o32_0_S8x128 slices_S128x128_o40_0_S8x128) (row2 ks 4 5 slices_S16x128_o4_0_S1x128 slices_S16x128_o5_0_S1x128)
def pr2 : FVec F S72x256 .f32 := prC m2 (sc2 qs ks kw) (row2 mask 4 5 slices_S16x128_o4_0_S1x128 slices_S16x128_o5_0_S1x128)
def ac2 (acc : FVec F S64x72 .f32) : FVec F S64x72 .f32 := accC acc (pr2 qs m2 ks mask kw) (row2 vs 4 5 slices_S16x128_o4_0_S1x128 slices_S16x128_o5_0_S1x128) (un2 vw 32 40 slices_S128x128_o32_0_S8x128 slices_S128x128_o40_0_S8x128)
def mx2 (mx : FVec F S72x128 .f32) : FVec F S72x128 .f32 := mxC mx (sc2 qs ks kw) (row2 mask 4 5 slices_S16x128_o4_0_S1x128 slices_S16x128_o5_0_S1x128)

def sc3 : FVec F S72x256 .f32 := scoreC qs (un2 kw 48 56 slices_S128x128_o48_0_S8x128 slices_S128x128_o56_0_S8x128) (row2 ks 6 7 slices_S16x128_o6_0_S1x128 slices_S16x128_o7_0_S1x128)
def pr3 : FVec F S72x256 .f32 := prC m2 (sc3 qs ks kw) (row2 mask 6 7 slices_S16x128_o6_0_S1x128 slices_S16x128_o7_0_S1x128)
def ac3 (acc : FVec F S64x72 .f32) : FVec F S64x72 .f32 := accC acc (pr3 qs m2 ks mask kw) (row2 vs 6 7 slices_S16x128_o6_0_S1x128 slices_S16x128_o7_0_S1x128) (un2 vw 48 56 slices_S128x128_o48_0_S8x128 slices_S128x128_o56_0_S8x128)
def mx3 (mx : FVec F S72x128 .f32) : FVec F S72x128 .f32 := mxC mx (sc3 qs ks kw) (row2 mask 6 7 slices_S16x128_o6_0_S1x128 slices_S16x128_o7_0_S1x128)

def sc4 : FVec F S72x256 .f32 := scoreC qs (un2 kw 64 72 slices_S128x128_o64_0_S8x128 slices_S128x128_o72_0_S8x128) (row2 ks 8 9 slices_S16x128_o8_0_S1x128 slices_S16x128_o9_0_S1x128)
def pr4 : FVec F S72x256 .f32 := prC m2 (sc4 qs ks kw) (row2 mask 8 9 slices_S16x128_o8_0_S1x128 slices_S16x128_o9_0_S1x128)
def ac4 (acc : FVec F S64x72 .f32) : FVec F S64x72 .f32 := accC acc (pr4 qs m2 ks mask kw) (row2 vs 8 9 slices_S16x128_o8_0_S1x128 slices_S16x128_o9_0_S1x128) (un2 vw 64 72 slices_S128x128_o64_0_S8x128 slices_S128x128_o72_0_S8x128)
def mx4 (mx : FVec F S72x128 .f32) : FVec F S72x128 .f32 := mxC mx (sc4 qs ks kw) (row2 mask 8 9 slices_S16x128_o8_0_S1x128 slices_S16x128_o9_0_S1x128)

def sc5 : FVec F S72x256 .f32 := scoreC qs (un2 kw 80 88 slices_S128x128_o80_0_S8x128 slices_S128x128_o88_0_S8x128) (row2 ks 10 11 slices_S16x128_o10_0_S1x128 slices_S16x128_o11_0_S1x128)
def pr5 : FVec F S72x256 .f32 := prC m2 (sc5 qs ks kw) (row2 mask 10 11 slices_S16x128_o10_0_S1x128 slices_S16x128_o11_0_S1x128)
def ac5 (acc : FVec F S64x72 .f32) : FVec F S64x72 .f32 := accC acc (pr5 qs m2 ks mask kw) (row2 vs 10 11 slices_S16x128_o10_0_S1x128 slices_S16x128_o11_0_S1x128) (un2 vw 80 88 slices_S128x128_o80_0_S8x128 slices_S128x128_o88_0_S8x128)
def mx5 (mx : FVec F S72x128 .f32) : FVec F S72x128 .f32 := mxC mx (sc5 qs ks kw) (row2 mask 10 11 slices_S16x128_o10_0_S1x128 slices_S16x128_o11_0_S1x128)

def sc6 : FVec F S72x256 .f32 := scoreC qs (un2 kw 96 104 slices_S128x128_o96_0_S8x128 slices_S128x128_o104_0_S8x128) (row2 ks 12 13 slices_S16x128_o12_0_S1x128 slices_S16x128_o13_0_S1x128)
def pr6 : FVec F S72x256 .f32 := prC m2 (sc6 qs ks kw) (row2 mask 12 13 slices_S16x128_o12_0_S1x128 slices_S16x128_o13_0_S1x128)
def ac6 (acc : FVec F S64x72 .f32) : FVec F S64x72 .f32 := accC acc (pr6 qs m2 ks mask kw) (row2 vs 12 13 slices_S16x128_o12_0_S1x128 slices_S16x128_o13_0_S1x128) (un2 vw 96 104 slices_S128x128_o96_0_S8x128 slices_S128x128_o104_0_S8x128)
def mx6 (mx : FVec F S72x128 .f32) : FVec F S72x128 .f32 := mxC mx (sc6 qs ks kw) (row2 mask 12 13 slices_S16x128_o12_0_S1x128 slices_S16x128_o13_0_S1x128)

def sc7 : FVec F S72x256 .f32 := scoreC qs (un2 kw 112 120 slices_S128x128_o112_0_S8x128 slices_S128x128_o120_0_S8x128) (row2 ks 14 15 slices_S16x128_o14_0_S1x128 slices_S16x128_o15_0_S1x128)
def pr7 : FVec F S72x256 .f32 := prC m2 (sc7 qs ks kw) (row2 mask 14 15 slices_S16x128_o14_0_S1x128 slices_S16x128_o15_0_S1x128)
def ac7 (acc : FVec F S64x72 .f32) : FVec F S64x72 .f32 := accC acc (pr7 qs m2 ks mask kw) (row2 vs 14 15 slices_S16x128_o14_0_S1x128 slices_S16x128_o15_0_S1x128) (un2 vw 112 120 slices_S128x128_o112_0_S8x128 slices_S128x128_o120_0_S8x128)
def mx7 (mx : FVec F S72x128 .f32) : FVec F S72x128 .f32 := mxC mx (sc7 qs ks kw) (row2 mask 14 15 slices_S16x128_o14_0_S1x128 slices_S16x128_o15_0_S1x128)

/-- The denominators after the sixteen tokens of a trip. -/
def stepL (l : FVec F S72x128 .f32) : FVec F S72x128 .f32 := (lC (lC (lC (lC (lC (lC (lC (lC l (pr0 qs m2 ks mask kw)) (pr1 qs m2 ks mask kw)) (pr2 qs m2 ks mask kw)) (pr3 qs m2 ks mask kw)) (pr4 qs m2 ks mask kw)) (pr5 qs m2 ks mask kw)) (pr6 qs m2 ks mask kw)) (pr7 qs m2 ks mask kw))
/-- The numerators after the sixteen tokens of a trip. -/
def stepA (acc : FVec F S64x72 .f32) : FVec F S64x72 .f32 := (ac7 qs m2 ks vs mask kw vw (ac6 qs m2 ks vs mask kw vw (ac5 qs m2 ks vs mask kw vw (ac4 qs m2 ks vs mask kw vw (ac3 qs m2 ks vs mask kw vw (ac2 qs m2 ks vs mask kw vw (ac1 qs m2 ks vs mask kw vw (ac0 qs m2 ks vs mask kw vw acc))))))))
/-- The maxima after the sixteen tokens of a trip. -/
def stepM (mx : FVec F S72x128 .f32) : FVec F S72x128 .f32 := (mx7 qs ks mask kw (mx6 qs ks mask kw (mx5 qs ks mask kw (mx4 qs ks mask kw (mx3 qs ks mask kw (mx2 qs ks mask kw (mx1 qs ks mask kw (mx0 qs ks mask kw mx))))))))
end

/-- The tokens of trip `k` within the length. -/
def maskI (v0 v1 : IVec S16x128 32) (k : BitVec 32) (len : BitVec 32) : IVec S16x128 1 :=
  cmpi .slt (addi (muli (addi (broadcast S16x128 (Scalar.muli k 128#32)) v0) (broadcast S16x128 16#32)) v1) (broadcast S16x128 len)

def ksC (mask : IVec S16x128 1) (SC : S32x128.Idx → Elt F .f32) : FVec F S16x128 .f32 :=
  select mask (mulf (shapeCast S16x128 (show FVec F S1x16x128 .f32 from fun x : S1x16x128.Idx => SC (ix2 (Fin.ofNat 32 (0 + (x 1).val)) (x 2))) shapeCasts_S1x16x128_S16x128)
    (broadcast S16x128 (Named.named κ "log2e_8" 0x3E38AA3B#32))) (broadcast S16x128 (Scalar.ofBits .f32 0x00000000#32))

def vsC (mask : IVec S16x128 1) (SC : S32x128.Idx → Elt F .f32) : FVec F S16x128 .f32 :=
  select mask (shapeCast S16x128 (show FVec F S1x16x128 .f32 from fun x : S1x16x128.Idx => SC (ix2 (Fin.ofNat 32 (16 + (x 1).val)) (x 2))) shapeCasts_S1x16x128_S16x128) (broadcast S16x128 (Scalar.ofBits .f32 0x00000000#32))

/-- The keys' and the values' words of a trip, one token block to a lane. -/
def kwC (G : S256x128.Idx → BitVec 32) : IVec S128x128 32 :=
  transpose S128x128 [1, 0] (fun x => G ((⟨![0, 0], S128x128.size, ![2, 1], inb_S256x128_S128x128_0_0_s_2_1⟩ : LoadRect S256x128).idx x)) transposes_S128x128_p1_0_S128x128
def vwC (G : S256x128.Idx → BitVec 32) : IVec S128x128 32 :=
  transpose S128x128 [1, 0] (fun x => G ((⟨![1, 0], S128x128.size, ![2, 1], inb_S256x128_S128x128_1_0_s_2_1⟩ : LoadRect S256x128).idx x)) transposes_S128x128_p1_0_S128x128

theorem step2_eq (v0 v1 : IVec S16x128 32) (v6 : BitVec 32) (qs : FVec F S80x64 .bf16) (m2 : FVec F S72x256 .f32) (k : Fin (k0_t2_loop v6).trips) (G : S256x128.Idx → BitVec 32) (SC : S32x128.Idx → Elt F .f32) (len : BitVec 32) (l : FVec F S72x128 .f32) (acc : FVec F S64x72 .f32) :
    step2 v0 v1 v6 qs m2 k G SC len (l, acc) = (stepL qs m2 (ksC (maskI v0 v1 (Scf.iv 0#32 1#32 k) len) SC) (maskI v0 v1 (Scf.iv 0#32 1#32 k) len) (kwC G) l,
      stepA qs m2 (ksC (maskI v0 v1 (Scf.iv 0#32 1#32 k) len) SC) (vsC (maskI v0 v1 (Scf.iv 0#32 1#32 k) len) SC) (maskI v0 v1 (Scf.iv 0#32 1#32 k) len) (kwC G) (vwC G) acc) := rfl

theorem step10_eq (v0 v1 : IVec S16x128 32) (v6 : BitVec 32) (qs : FVec F S80x64 .bf16) (m2 : FVec F S72x256 .f32) (k : Fin (k0_t10_loop v6).trips) (G : S256x128.Idx → BitVec 32) (SC : S32x128.Idx → Elt F .f32) (len : BitVec 32) (l : FVec F S72x128 .f32) (acc : FVec F S64x72 .f32) :
    step10 v0 v1 v6 qs m2 k G SC len (l, acc) = (stepL qs m2 (ksC (maskI v0 v1 (Scf.iv 0#32 1#32 k) len) SC) (maskI v0 v1 (Scf.iv 0#32 1#32 k) len) (kwC G) l,
      stepA qs m2 (ksC (maskI v0 v1 (Scf.iv 0#32 1#32 k) len) SC) (vsC (maskI v0 v1 (Scf.iv 0#32 1#32 k) len) SC) (maskI v0 v1 (Scf.iv 0#32 1#32 k) len) (kwC G) (vwC G) acc) := rfl

theorem step14_eq (v0 v1 : IVec S16x128 32) (v6 : BitVec 32) (qs : FVec F S80x64 .bf16) (m2 : FVec F S72x256 .f32) (k : Fin (k0_t14_loop v6).trips) (G : S256x128.Idx → BitVec 32) (SC : S32x128.Idx → Elt F .f32) (len : BitVec 32) (l : FVec F S72x128 .f32) (acc : FVec F S64x72 .f32) :
    step14 v0 v1 v6 qs m2 k G SC len (l, acc) = (stepL qs m2 (ksC (maskI v0 v1 (Scf.iv 0#32 1#32 k) len) SC) (maskI v0 v1 (Scf.iv 0#32 1#32 k) len) (kwC G) l,
      stepA qs m2 (ksC (maskI v0 v1 (Scf.iv 0#32 1#32 k) len) SC) (vsC (maskI v0 v1 (Scf.iv 0#32 1#32 k) len) SC) (maskI v0 v1 (Scf.iv 0#32 1#32 k) len) (kwC G) (vwC G) acc) := rfl

theorem step6_eq (v0 v1 : IVec S16x128 32) (v6 : BitVec 32) (q : Vec F S1x80x64 .bf16) (k : Fin (k0_t6_loop v6).trips) (G : S256x128.Idx → BitVec 32) (SC : S32x128.Idx → Elt F .f32) (len : BitVec 32) (mx : FVec F S72x128 .f32) :
    step6 v0 v1 v6 q k G SC len mx = stepM (shapeCast S80x64 q shapeCasts_S1x80x64_S80x64) (ksC (maskI v0 v1 (Scf.iv 0#32 1#32 k) len) SC) (maskI v0 v1 (Scf.iv 0#32 1#32 k) len) (kwC G) mx := rfl

end Cert.KernelIdeal.Hand

end
-- ==== Proof.Ideal.Point.lean ====
/-
  A trip's arithmetic at an entry, over the extended reals.
-/
module

public import proofs.«01_k».proof.Proof.Ideal.Clean
public import proofs.«01_k».proof.Proof.Ideal.Whole
public import Idealize.ShloMosaic.Lib.Pointwise

@[expose] public section

noncomputable section

namespace Cert.KernelIdeal.Hand

open Cert.KernelIdeal Cert.KernelIdeal.Gen
open Idealize.ShloMosaic

/-- A signed four-bit code as a number: the bits from `4 n` up of a word, by a shift up and a shift down. -/
def cod (w : BitVec 32) (n : ℕ) : EReal :=
  (FloatOps.sitofp .bf16 (IntOp.shrsi .vector (IntOp.shli .vector w (IntOp.subi 28#32 (IntOp.muli 4#32 (BitVec.ofNat 32 n)))) 28#32) : Ideal .bf16)

theorem un_apply (W : IVec S128x128 32) (o : ℕ) (h : S128x128.Slices ![o, 0] S8x128) (d : Fin 64) (j : Fin 128) (ho : o + 8 ≤ 128) :
    un (F := Ideal) W o h (ix2 d j) = cod (W (ix2 ⟨o + d.val / 8, by omega⟩ j)) (d.val % 8) := by
  pointwise [un, cod]

theorem row2_lo {α : Type} (V : S16x128.Idx → α) (a a' : ℕ) (h h') (ha : a < 16) (x : Fin 128) :
    row2 V a a' h h' (ix2 0 (Fin.castAdd 128 x)) = V (ix2 ⟨a, ha⟩ x) := by
  pointwise [row2]
  simp

theorem row2_hi {α : Type} (V : S16x128.Idx → α) (a a' : ℕ) (h h') (ha : a' < 16) (x : Fin 128) :
    row2 V a a' h h' (ix2 0 (Fin.natAdd 128 x)) = V (ix2 ⟨a', ha⟩ x) := by
  pointwise [row2]
  simp

theorem un2_lo (W : IVec S128x128 32) (o o' : ℕ) (h h') (d : Fin 64) (x : Fin 128) :
    un2 (F := Ideal) W o o' h h' (ix2 d (Fin.castAdd 128 x)) = un W o h (ix2 d x) := by
  pointwise [un2]
  simp

theorem un2_hi (W : IVec S128x128 32) (o o' : ℕ) (h h') (d : Fin 64) (x : Fin 128) :
    un2 (F := Ideal) W o o' h h' (ix2 d (Fin.natAdd 128 x)) = un W o' h' (ix2 d x) := by
  pointwise [un2]
  simp

theorem scoreC_apply (qs : FVec Ideal S80x64 .bf16) (kb : FVec Ideal S64x256 .bf16) (kr : FVec Ideal S1x256 .f32) (h : Fin 72) (x : Fin 256) :
    scoreC qs kb kr (ix2 h x) = ((∑ d, qs (ix2 ⟨h.val, by omega⟩ d) * kb (ix2 d x)) * kr (ix2 0 x) : EReal) := by
  pointwise [scoreC]

theorem prC_apply (m2 sc : FVec Ideal S72x256 .f32) (mk : IVec S1x256 1) (h : Fin 72) (x : Fin 256) :
    prC m2 sc mk (ix2 h x) = (Scalar.select (mk (ix2 0 x)) (FloatOps.exp2 (F := Ideal) (φ := .f32) (sc (ix2 h x) - m2 (ix2 h x) : EReal)) 0 : EReal) := by
  pointwise [prC]

theorem lC_apply (l : FVec Ideal S72x128 .f32) (pr : FVec Ideal S72x256 .f32) (h : Fin 72) (j : Fin 128) :
    lC l pr (ix2 h j) = (l (ix2 h j) + pr (ix2 h (Fin.castAdd 128 j)) + pr (ix2 h (Fin.natAdd 128 j)) : EReal) := by
  pointwise [lC]
  rfl

theorem accC_apply (acc : FVec Ideal S64x72 .f32) (pr : FVec Ideal S72x256 .f32) (vr : FVec Ideal S1x256 .f32) (vb : FVec Ideal S64x256 .bf16) (d : Fin 64) (h : Fin 72) :
    accC acc pr vr vb (ix2 d h) = (acc (ix2 d h) + ∑ x, vb (ix2 d x) * (pr (ix2 h x) * vr (ix2 0 x)) : EReal) := by
  pointwise [accC]

theorem mxC_apply (mx : FVec Ideal S72x128 .f32) (sc : FVec Ideal S72x256 .f32) (mk : IVec S1x256 1) (h : Fin 72) (j : Fin 128) :
    mxC mx sc mk (ix2 h j) = (max (mx (ix2 h j)) (max (Scalar.select (mk (ix2 0 (Fin.castAdd 128 j))) (sc (ix2 h (Fin.castAdd 128 j))) (Ideal.ofBits .f32 4286578688#32))
      (Scalar.select (mk (ix2 0 (Fin.natAdd 128 j))) (sc (ix2 h (Fin.natAdd 128 j))) (Ideal.ofBits .f32 4286578688#32))) : EReal) := by
  pointwise [mxC]
  rfl

theorem kwC_apply (G : S256x128.Idx → BitVec 32) (w j : Fin 128) : kwC G (ix2 w j) = G (ix2 ⟨2 * j.val, by omega⟩ w) := by
  pointwise [kwC]
theorem vwC_apply (G : S256x128.Idx → BitVec 32) (w j : Fin 128) : vwC G (ix2 w j) = G (ix2 ⟨1 + 2 * j.val, by omega⟩ w) := by
  pointwise [vwC]

theorem ksC_apply (mask : IVec S16x128 1) (SC : S32x128.Idx → EReal) (t : Fin 16) (j : Fin 128) :
    ksC (F := Ideal) mask SC (ix2 t j) = (Scalar.select (mask (ix2 t j)) (SC (ix2 ⟨t.val, by omega⟩ j) * Named.named (F := Ideal) (φ := .f32) κ "log2e_8" 1043900987#32) 0 : EReal) := by
  pointwise [ksC]
  rw [show Fin.ofNat 32 t.val = ⟨t.val, by omega⟩ from Fin.ext (Nat.mod_eq_of_lt (by omega))]
  rfl
theorem vsC_apply (mask : IVec S16x128 1) (SC : S32x128.Idx → EReal) (t : Fin 16) (j : Fin 128) :
    vsC (F := Ideal) mask SC (ix2 t j) = (Scalar.select (mask (ix2 t j)) (SC (ix2 ⟨16 + t.val, by omega⟩ j)) 0 : EReal) := by
  pointwise [vsC]
  rw [show Fin.ofNat 32 (16 + t.val) = ⟨16 + t.val, by omega⟩ from Fin.ext (Nat.mod_eq_of_lt (by omega))]
  rfl

theorem maskI_apply (k len : BitVec 32) (t : Fin 16) (j : Fin 128) : maskI lanes rows k len (ix2 t j)
    = IntOp.cmpi .slt (IntOp.addi (IntOp.muli (IntOp.addi (Scalar.muli k 128#32) (BitVec.ofNat 32 j.val)) 16#32) (BitVec.ofNat 32 t.val)) len := by
  pointwise [maskI, lanes, rows]

end Cert.KernelIdeal.Hand

end
-- ==== Proof.Nums.lean ====
/-
  The numbers of the value claim: the extended reals' operations on finite numbers, the four-bit codes, sums over blocks.
-/
module

public import Idealize.ShloMosaic.Lib.Pointwise

@[expose] public section

noncomputable section

namespace Cert.Nums

open Idealize.ShloMosaic

/-- A finite number. -/
def IsR (x : EReal) : Prop := ∃ r : ℝ, x = r

theorem exp2_real (r : ℝ) : Ideal.exp2 (r : EReal) = (((2 : ℝ) ^ r : ℝ) : EReal) := rfl
theorem exp_real (r : ℝ) : Ideal.exp (r : EReal) = ((Real.exp r : ℝ) : EReal) := rfl
theorem log_real {r : ℝ} (h : 0 < r) : Ideal.log (r : EReal) = ((Real.log r : ℝ) : EReal) := by
  rw [Ideal.log_coe, if_neg (not_le.2 h)]
theorem div_one_real {r : ℝ} (h : 0 < r) : Ideal.div 1 (r : EReal) = ((1 / r : ℝ) : EReal) := by
  rw [Ideal.div, if_neg (by exact_mod_cast h.ne'), one_mul, ← EReal.coe_inv, one_div]

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem isR_mul {x y : EReal} (hx : IsR x) (hy : IsR y) : IsR (x * y) := by
  obtain ⟨a, rfl⟩ := hx; obtain ⟨b, rfl⟩ := hy
  exact ⟨a * b, (EReal.coe_mul a b).symm⟩
theorem isR_sum {ι : Type} (s : Finset ι) {f : ι → EReal} (h : ∀ i, IsR (f i)) : IsR (∑ i ∈ s, f i) := by
  choose g hg using h
  exact ⟨∑ i ∈ s, g i, by simp only [hg, sum_real]⟩
theorem max_isR {a b : EReal} (ha : IsR a) (hb : b < ⊤) : IsR (max a b) := by
  obtain ⟨r, rfl⟩ := ha
  have h1 : max (r : EReal) b < ⊤ := max_lt (EReal.coe_lt_top r) hb
  have h2 : ⊥ < max (r : EReal) b := lt_max_of_lt_left (EReal.bot_lt_coe r)
  exact ⟨_, (EReal.coe_toReal h1.ne h2.ne').symm⟩

theorem neg_inf : Ideal.ofBits .f32 4286578688#32 = (⊥ : EReal) := by simp [Ideal.ofBits, Ideal.ieee]
theorem eighth : Ideal.ofBits .f32 1040187392#32 = ((1 / 8 : ℝ) : EReal) := by
  simp [Ideal.ofBits, Ideal.ieee]
  rw [← EReal.coe_mul]
  congr 1
  norm_num
theorem two : Ideal.ofBits .f32 1073741824#32 = ((2 : ℝ) : EReal) := by
  simp [Ideal.ofBits, Ideal.ieee]
  rw [← EReal.coe_mul]
  congr 1
  norm_num
theorem one : Ideal.ofBits .f32 1065353216#32 = (1 : EReal) := by
  simp [Ideal.ofBits, Ideal.ieee]
  rw [← EReal.coe_mul, ← EReal.coe_one]
  congr 1
  norm_num

/-! ## The codes -/

/-- Code `n` of a word as a number: its four bits, the top one the sign. -/
def ci (w : BitVec 32) (n : ℕ) : ℝ :=
  ((IntOp.subi (IntOp.xori (IntOp.andi (IntOp.shrsi .host w (IntOp.muli 4#32 (BitVec.ofNat 32 n))) 15#32) 8#32) 8#32).toInt : ℝ)

theorem sign4 (v : BitVec 4) : (v.zeroExtend 32 ^^^ 8#32) - 8#32 = v.signExtend 32 := by
  revert v; decide

theorem low4 (w : BitVec 32) (c : ℕ) : (w.sshiftRight c) &&& 15#32 = ((w.sshiftRight c).extractLsb' 0 4).zeroExtend 32 := by
  apply BitVec.eq_of_toNat_eq
  simp only [BitVec.toNat_and, BitVec.toNat_ofNat, BitVec.truncate_eq_setWidth, BitVec.toNat_setWidth, BitVec.extractLsb'_toNat, Nat.shiftRight_zero]
  rw [show (15 : ℕ) % 2 ^ 32 = 2 ^ 4 - 1 from rfl, Nat.and_two_pow_sub_one_eq_mod]
  exact (Nat.mod_eq_of_lt (lt_of_lt_of_le (Nat.mod_lt _ (by norm_num)) (by norm_num))).symm

theorem high4 (w : BitVec 32) (c : ℕ) (hc : c ≤ 28) : (w <<< (28 - c)).sshiftRight 28 = ((w.sshiftRight c).extractLsb' 0 4).signExtend 32 := by
  apply BitVec.eq_of_getLsbD_eq
  intro i hi
  rw [BitVec.getLsbD_sshiftRight, BitVec.getLsbD_signExtend]
  have e : ∀ j, j < 4 → (w <<< (28 - c)).getLsbD (28 + j) = ((w.sshiftRight c).extractLsb' 0 4).getLsbD j := by
    intro j hj
    rw [BitVec.getLsbD_shiftLeft, BitVec.getLsbD_extractLsb', BitVec.getLsbD_sshiftRight]
    have h1 : 28 + j - (28 - c) = c + (0 + j) := by omega
    have h2 : c + (0 + j) < 32 := by omega
    simp [h1, hj, h2, show 28 + j < 32 by omega, show ¬ 28 + j < 28 - c by omega, show ¬ 32 ≤ 0 + j by omega, show ¬ 32 ≤ j by omega]
    omega
  by_cases h : i < 4
  · rw [if_pos (by omega), if_pos h, ← e i h]
    simp [show ¬ 32 ≤ i by omega, hi]
  · rw [if_neg (by omega), if_neg h, BitVec.msb_eq_getLsbD_last, BitVec.msb_eq_getLsbD_last, ← e 3 (by omega)]
    simp [show ¬ 32 ≤ i by omega, hi]

theorem code (w : BitVec 32) (n : ℕ) (hn : n < 8) :
    IntOp.shrsi .vector (IntOp.shli .vector w (IntOp.subi 28#32 (IntOp.muli 4#32 (BitVec.ofNat 32 n)))) 28#32
      = IntOp.subi (IntOp.xori (IntOp.andi (IntOp.shrsi .host w (IntOp.muli 4#32 (BitVec.ofNat 32 n))) 15#32) 8#32) 8#32 := by
  have h1 : (IntOp.muli 4#32 (BitVec.ofNat 32 n)).toNat = 4 * n := by
    simp only [IntOp.muli, BitVec.toNat_mul, BitVec.toNat_ofNat]; omega
  have h2 : (IntOp.subi 28#32 (IntOp.muli 4#32 (BitVec.ofNat 32 n))).toNat = 28 - 4 * n := by
    simp only [IntOp.subi, BitVec.toNat_sub, h1, BitVec.toNat_ofNat]; omega
  have h3 : (28#32).toNat = 28 := rfl
  simp only [IntOp.shrsi, IntOp.shli, h1, h2, h3]
  rw [if_pos (by omega), if_pos (by omega), if_pos (by omega)]
  simp only [BitVec.sshiftRight', BitVec.shiftLeft_eq', h1, h2, h3]
  rw [high4 w (4 * n) (by omega)]
  simp only [IntOp.subi, IntOp.xori, IntOp.andi]
  rw [low4, sign4]

/-! ## Sums over blocks -/

theorem sum_blocks (f : ℕ → Fin 16 → ℝ) : ∑ k ∈ Finset.range 16, ∑ a : Fin 16, ∑ j : Fin 128, f (128 * k + j.val) a = ∑ p : Fin 2048, ∑ a : Fin 16, f p.val a := by
  have h : ∀ g : ℕ → ℝ, ∑ p : Fin 2048, g p.val = ∑ k ∈ Finset.range 16, ∑ j : Fin 128, g (128 * k + j.val) := by
    intro g
    rw [Finset.sum_range, ← Fintype.sum_prod_type' (f := fun (k : Fin 16) (j : Fin 128) => g (128 * k.val + j.val))]
    refine (Fintype.sum_equiv (finProdFinEquiv (m := 16) (n := 128)) _ _ (fun x => ?_)).symm
    congr 1
    simp [finProdFinEquiv, add_comm]
  rw [h (fun p => ∑ a, f p a)]
  refine Finset.sum_congr rfl (fun k _ => ?_)
  rw [Finset.sum_comm]

theorem sum16 {M : Type} [AddCommMonoid M] (f : Fin 16 → M) (l : M) :
    l + f 0 + f 1 + f 2 + f 3 + f 4 + f 5 + f 6 + f 7 + f 8 + f 9 + f 10 + f 11 + f 12 + f 13 + f 14 + f 15 = l + ∑ a, f a := by
  simp only [Fin.sum_univ_succ, Fin.sum_univ_zero, add_zero, ← add_assoc]
  rfl

end Cert.Nums

end
-- ==== Proof.Ideal.Trip.lean ====
/-
  A trip's sixteen tokens at an entry: sums over the tokens and the lanes, and those sums as finite numbers.
-/
module

public import proofs.«01_k».proof.Proof.Ideal.Point
public import proofs.«01_k».proof.Proof.Nums

@[expose] public section

noncomputable section

namespace Cert.KernelIdeal.Hand

open Cert.KernelIdeal Cert.KernelIdeal.Gen Cert.Nums
open Idealize.ShloMosaic

theorem cod_eq (w : BitVec 32) (n : ℕ) (hn : n < 8) : cod w n = ((ci w n : ℝ) : EReal) := by
  show (((_ : BitVec 32).toInt : ℝ) : EReal) = _
  rw [code w n hn]
  rfl

section
variable (qs : FVec Ideal S80x64 .bf16) (m2 : FVec Ideal S72x256 .f32) (ks vs : FVec Ideal S16x128 .f32) (mask : IVec S16x128 1) (kw vw : IVec S128x128 32)

/-- The score of token `a` of lane `j`, scaled. -/
def Sc (a : Fin 16) (h : Fin 72) (j : Fin 128) : EReal :=
  (∑ d : Fin 64, qs (ix2 ⟨h.val, by omega⟩ d) * cod (kw (ix2 ⟨8 * a.val + d.val / 8, by omega⟩ j)) (d.val % 8)) * ks (ix2 a j)

/-- Its weight. -/
def Pt (a : Fin 16) (h : Fin 72) (j : Fin 128) : EReal :=
  Scalar.select (mask (ix2 a j)) (Ideal.exp2 (Sc qs ks kw a h j - m2 (ix2 h (Fin.castAdd 128 j)))) 0

/-- What it adds to entry `(d, h)` of the numerators. -/
def Vt (a : Fin 16) (d : Fin 64) (h : Fin 72) (j : Fin 128) : EReal :=
  cod (vw (ix2 ⟨8 * a.val + d.val / 8, by omega⟩ j)) (d.val % 8) * (Pt qs m2 ks mask kw a h j * vs (ix2 a j))

variable {m2}

theorem score_lo (a a' o o' : ℕ) (ha : a < 16) (ho : o = 8 * a) (h1 h2 h3 h4) (h : Fin 72) (j : Fin 128) :
    scoreC qs (un2 kw o o' h1 h2) (row2 ks a a' h3 h4) (ix2 h (Fin.castAdd 128 j)) = Sc qs ks kw ⟨a, ha⟩ h j := by
  subst ho
  rw [scoreC_apply, row2_lo _ _ _ _ _ ha]
  simp only [un2_lo, un_apply _ _ _ _ _ (show 8 * a + 8 ≤ 128 by omega)]
  rfl
theorem score_hi (a a' o o' : ℕ) (ha : a' < 16) (ho : o' = 8 * a') (h1 h2 h3 h4) (h : Fin 72) (j : Fin 128) :
    scoreC qs (un2 kw o o' h1 h2) (row2 ks a a' h3 h4) (ix2 h (Fin.natAdd 128 j)) = Sc qs ks kw ⟨a', ha⟩ h j := by
  subst ho
  rw [scoreC_apply, row2_hi _ _ _ _ _ ha]
  simp only [un2_hi, un_apply _ _ _ _ _ (show 8 * a' + 8 ≤ 128 by omega)]
  rfl

theorem pr_lo (a a' o o' : ℕ) (ha : a < 16) (ho : o = 8 * a) (h1 h2 h3 h4 h5 h6) (h : Fin 72) (j : Fin 128) :
    prC m2 (scoreC qs (un2 kw o o' h1 h2) (row2 ks a a' h3 h4)) (row2 mask a a' h5 h6) (ix2 h (Fin.castAdd 128 j)) = Pt qs m2 ks mask kw ⟨a, ha⟩ h j := by
  rw [prC_apply, score_lo _ _ _ _ _ _ _ ha ho, row2_lo _ _ _ _ _ ha]
  rfl
theorem pr_hi (hm : ∀ h j, m2 (ix2 h (Fin.natAdd 128 j)) = m2 (ix2 h (Fin.castAdd 128 j))) (a a' o o' : ℕ) (ha : a' < 16) (ho : o' = 8 * a') (h1 h2 h3 h4 h5 h6) (h : Fin 72) (j : Fin 128) :
    prC m2 (scoreC qs (un2 kw o o' h1 h2) (row2 ks a a' h3 h4)) (row2 mask a a' h5 h6) (ix2 h (Fin.natAdd 128 j)) = Pt qs m2 ks mask kw ⟨a', ha⟩ h j := by
  rw [prC_apply, score_hi _ _ _ _ _ _ _ ha ho, row2_hi _ _ _ _ _ ha, hm]
  rfl

theorem lPair (hm : ∀ h j, m2 (ix2 h (Fin.natAdd 128 j)) = m2 (ix2 h (Fin.castAdd 128 j))) (a a' o o' : ℕ) (ha : a < 16) (ha' : a' < 16) (ho : o = 8 * a) (ho' : o' = 8 * a') (h1 h2 h3 h4 h5 h6)
    (l : FVec Ideal S72x128 .f32) (h : Fin 72) (j : Fin 128) :
    lC l (prC m2 (scoreC qs (un2 kw o o' h1 h2) (row2 ks a a' h3 h4)) (row2 mask a a' h5 h6)) (ix2 h j)
      = (l (ix2 h j) + Pt qs m2 ks mask kw ⟨a, ha⟩ h j + Pt qs m2 ks mask kw ⟨a', ha'⟩ h j : EReal) := by
  rw [lC_apply, pr_lo _ _ _ _ _ _ _ _ ha ho, pr_hi _ _ _ _ hm _ _ _ _ ha' ho']

theorem sum256 (f : Fin 256 → EReal) : ∑ x, f x = ∑ j : Fin 128, f (Fin.castAdd 128 j) + ∑ j : Fin 128, f (Fin.natAdd 128 j) := Fin.sum_univ_add (a := 128) (b := 128) f

theorem aPair (hm : ∀ h j, m2 (ix2 h (Fin.natAdd 128 j)) = m2 (ix2 h (Fin.castAdd 128 j))) (a a' o o' : ℕ) (ha : a < 16) (ha' : a' < 16) (ho : o = 8 * a) (ho' : o' = 8 * a') (h1 h2 h3 h4 h5 h6 h7 h8 h9 h10)
    (acc : FVec Ideal S64x72 .f32) (d : Fin 64) (h : Fin 72) :
    accC acc (prC m2 (scoreC qs (un2 kw o o' h1 h2) (row2 ks a a' h3 h4)) (row2 mask a a' h5 h6)) (row2 vs a a' h7 h8) (un2 vw o o' h9 h10) (ix2 d h)
      = (acc (ix2 d h) + ∑ j, Vt qs m2 ks vs mask kw vw ⟨a, ha⟩ d h j + ∑ j, Vt qs m2 ks vs mask kw vw ⟨a', ha'⟩ d h j : EReal) := by
  subst ho ho'
  rw [accC_apply, sum256, ← add_assoc]
  simp only [pr_lo qs ks mask kw a a' _ _ ha rfl, pr_hi qs ks mask kw hm a a' _ _ ha' rfl, un2_lo, un2_hi, row2_lo _ _ _ _ _ ha, row2_hi _ _ _ _ _ ha',
    un_apply _ _ _ _ _ (show 8 * a + 8 ≤ 128 by omega), un_apply _ _ _ _ _ (show 8 * a' + 8 ≤ 128 by omega)]
  rfl

theorem stepL_apply (hm : ∀ h j, m2 (ix2 h (Fin.natAdd 128 j)) = m2 (ix2 h (Fin.castAdd 128 j))) (l : FVec Ideal S72x128 .f32) (h : Fin 72) (j : Fin 128) :
    stepL qs m2 ks mask kw l (ix2 h j) = (l (ix2 h j) + ∑ a, Pt qs m2 ks mask kw a h j : EReal) := by
  rw [← sum16]
  unfold stepL pr0 pr1 pr2 pr3 pr4 pr5 pr6 pr7 sc0 sc1 sc2 sc3 sc4 sc5 sc6 sc7
  rw [lPair _ _ _ _ hm 14 15 112 120 (by decide) (by decide) rfl rfl, lPair _ _ _ _ hm 12 13 96 104 (by decide) (by decide) rfl rfl,
    lPair _ _ _ _ hm 10 11 80 88 (by decide) (by decide) rfl rfl, lPair _ _ _ _ hm 8 9 64 72 (by decide) (by decide) rfl rfl,
    lPair _ _ _ _ hm 6 7 48 56 (by decide) (by decide) rfl rfl, lPair _ _ _ _ hm 4 5 32 40 (by decide) (by decide) rfl rfl,
    lPair _ _ _ _ hm 2 3 16 24 (by decide) (by decide) rfl rfl, lPair _ _ _ _ hm 0 1 0 8 (by decide) (by decide) rfl rfl]
  rfl

theorem stepA_apply (hm : ∀ h j, m2 (ix2 h (Fin.natAdd 128 j)) = m2 (ix2 h (Fin.castAdd 128 j))) (acc : FVec Ideal S64x72 .f32) (d : Fin 64) (h : Fin 72) :
    stepA qs m2 ks vs mask kw vw acc (ix2 d h) = (acc (ix2 d h) + ∑ a, ∑ j, Vt qs m2 ks vs mask kw vw a d h j : EReal) := by
  rw [← sum16]
  unfold stepA ac0 ac1 ac2 ac3 ac4 ac5 ac6 ac7 pr0 pr1 pr2 pr3 pr4 pr5 pr6 pr7 sc0 sc1 sc2 sc3 sc4 sc5 sc6 sc7
  rw [aPair _ _ _ _ _ _ hm 14 15 112 120 (by decide) (by decide) rfl rfl, aPair _ _ _ _ _ _ hm 12 13 96 104 (by decide) (by decide) rfl rfl,
    aPair _ _ _ _ _ _ hm 10 11 80 88 (by decide) (by decide) rfl rfl, aPair _ _ _ _ _ _ hm 8 9 64 72 (by decide) (by decide) rfl rfl,
    aPair _ _ _ _ _ _ hm 6 7 48 56 (by decide) (by decide) rfl rfl, aPair _ _ _ _ _ _ hm 4 5 32 40 (by decide) (by decide) rfl rfl,
    aPair _ _ _ _ _ _ hm 2 3 16 24 (by decide) (by decide) rfl rfl, aPair _ _ _ _ _ _ hm 0 1 0 8 (by decide) (by decide) rfl rfl]
  rfl

/-! ## The maxima are finite -/

theorem cod_isR (w : BitVec 32) (n : ℕ) : IsR (cod w n) := ⟨_, rfl⟩

theorem mPair (a a' o o' : ℕ) (ha : a < 16) (ha' : a' < 16) (ho : o = 8 * a) (ho' : o' = 8 * a') (h1 h2 h3 h4 h5 h6) (hS : ∀ a h j, IsR (Sc qs ks kw a h j))
    (mx : FVec Ideal S72x128 .f32) (hx : ∀ h j, IsR (mx (ix2 h j))) (h : Fin 72) (j : Fin 128) :
    IsR (mxC mx (scoreC qs (un2 kw o o' h1 h2) (row2 ks a a' h3 h4)) (row2 mask a a' h5 h6) (ix2 h j)) := by
  rw [mxC_apply, score_lo _ _ _ _ _ _ _ ha ho, score_hi _ _ _ _ _ _ _ ha' ho']
  refine max_isR (hx h j) (max_lt ?_ ?_)
  · unfold Scalar.select
    split
    · obtain ⟨r, hr⟩ := hS ⟨a, ha⟩ h j
      rw [hr]; exact EReal.coe_lt_top r
    · rw [neg_inf]; exact bot_lt_top
  · unfold Scalar.select
    split
    · obtain ⟨r, hr⟩ := hS ⟨a', ha'⟩ h j
      rw [hr]; exact EReal.coe_lt_top r
    · rw [neg_inf]; exact bot_lt_top

theorem stepM_isR (hS : ∀ a h j, IsR (Sc qs ks kw a h j)) (mx : FVec Ideal S72x128 .f32) (hx : ∀ h j, IsR (mx (ix2 h j))) (h : Fin 72) (j : Fin 128) :
    IsR (stepM qs ks mask kw mx (ix2 h j)) := by
  unfold stepM mx0 mx1 mx2 mx3 mx4 mx5 mx6 mx7 sc0 sc1 sc2 sc3 sc4 sc5 sc6 sc7
  refine mPair _ _ _ _ 14 15 112 120 (by decide) (by decide) rfl rfl _ _ _ _ _ _ hS _ (fun h j => ?_) h j
  refine mPair _ _ _ _ 12 13 96 104 (by decide) (by decide) rfl rfl _ _ _ _ _ _ hS _ (fun h j => ?_) h j
  refine mPair _ _ _ _ 10 11 80 88 (by decide) (by decide) rfl rfl _ _ _ _ _ _ hS _ (fun h j => ?_) h j
  refine mPair _ _ _ _ 8 9 64 72 (by decide) (by decide) rfl rfl _ _ _ _ _ _ hS _ (fun h j => ?_) h j
  refine mPair _ _ _ _ 6 7 48 56 (by decide) (by decide) rfl rfl _ _ _ _ _ _ hS _ (fun h j => ?_) h j
  refine mPair _ _ _ _ 4 5 32 40 (by decide) (by decide) rfl rfl _ _ _ _ _ _ hS _ (fun h j => ?_) h j
  refine mPair _ _ _ _ 2 3 16 24 (by decide) (by decide) rfl rfl _ _ _ _ _ _ hS _ (fun h j => ?_) h j
  exact mPair _ _ _ _ 0 1 0 8 (by decide) (by decide) rfl rfl _ _ _ _ _ _ hS _ hx h j
end

end Cert.KernelIdeal.Hand

end
-- ==== Proof.Dat.lean ====
/-
  One sequence's data as numbers, and its result: the softmax over the cached tokens and the token of its own.
-/
module

public import proofs.«01_k».proof.Proof.Nums

@[expose] public section

noncomputable section

namespace Cert.Nums

open Idealize.ShloMosaic

/-- The words of the keys and the values by block of sixteen tokens and row, their scales by block and token. -/
structure Dat where
  qr : Fin 72 → Fin 64 → ℝ
  mr : Fin 72 → ℝ
  kw : ℕ → Fin 128 → BitVec 32
  vw : ℕ → Fin 128 → BitVec 32
  kr : ℕ → Fin 16 → ℝ
  vr : ℕ → Fin 16 → ℝ
  len : BitVec 32
  cv : Fin 64 → EReal
  sv : Fin 72 → EReal

namespace Dat
variable (D : Dat)

/-- Whether token `t` of block `p` is within the length. -/
def Va (p : ℕ) (t : Fin 16) : Prop := ((p * 16 + t.val : ℕ) : ℤ) < D.len.toInt
instance (p : ℕ) (t : Fin 16) : Decidable (D.Va p t) := inferInstanceAs (Decidable (_ < _))
/-- The codes of a token. -/
def kc (p : ℕ) (t : Fin 16) (d : Fin 64) : ℝ := ci (D.kw p ⟨8 * t.val + d.val / 8, by omega⟩) (d.val % 8)
def vc (p : ℕ) (t : Fin 16) (d : Fin 64) : ℝ := ci (D.vw p ⟨8 * t.val + d.val / 8, by omega⟩) (d.val % 8)
/-- Its score, in powers of two. -/
def S (p : ℕ) (t : Fin 16) (h : Fin 72) : ℝ := (∑ d, D.qr h d * D.kc p t d) * (D.kr p t * ((1 / 8) * (Real.log 2)⁻¹))
/-- Its weight. -/
def W (p : ℕ) (t : Fin 16) (h : Fin 72) : ℝ := if D.Va p t then (2 : ℝ) ^ D.S p t h else 0
/-- The weights' sum, and the values' weighted sum. -/
def RL (h : Fin 72) : ℝ := ∑ p : Fin 2048, ∑ t : Fin 16, D.W p.val t h
def RA (d : Fin 64) (h : Fin 72) : ℝ := ∑ p : Fin 2048, ∑ t : Fin 16, D.vc p.val t d * (D.W p.val t h * D.vr p.val t)
/-- The weight of the token of its own, and the sum with it. -/
def ws (h : Fin 72) : ℝ := (2 : ℝ) ^ D.mr h
def Z (h : Fin 72) : ℝ := D.RL h + D.ws h
/-- The result. -/
def T (d : Fin 64) (h : Fin 72) : EReal :=
  ((D.RA d h / D.Z h : ℝ) : EReal) + ((D.ws h / D.Z h : ℝ) : EReal) * D.sv h * D.cv d

theorem W_nonneg (p : ℕ) (t : Fin 16) (h : Fin 72) : 0 ≤ D.W p t h := by
  unfold W; split
  · positivity
  · exact le_rfl
theorem RL_nonneg (h : Fin 72) : 0 ≤ D.RL h := Finset.sum_nonneg fun p _ => Finset.sum_nonneg fun t _ => D.W_nonneg _ _ _
theorem ws_pos (h : Fin 72) : 0 < D.ws h := by unfold ws; positivity
theorem Z_pos (h : Fin 72) : 0 < D.Z h := add_pos_of_nonneg_of_pos (D.RL_nonneg h) (D.ws_pos h)

theorem slt_iff (n : ℕ) (hn : n < 2 ^ 31) (x : BitVec 32) (hx : x.toNat = n) (l : BitVec 32) : IntOp.cmpi .slt x l = if (n : ℤ) < l.toInt then 1#1 else 0#1 := by
  have e : x.toInt = (n : ℤ) := by rw [BitVec.toInt_eq_toNat_cond, hx, if_pos (by omega)]
  simp only [IntOp.cmpi, BitVec.slt, e]
  by_cases h : (n : ℤ) < l.toInt
  · simp [h]
  · simp [h]

/-- The mask as the reference makes it. -/
theorem mask_ref (p : ℕ) (hp : p < 2048) (t : Fin 16) : IntOp.cmpi .slt (IntOp.addi (IntOp.muli 16#32 (BitVec.ofNat 32 p)) (BitVec.ofNat 32 t.val)) D.len = if D.Va p t then 1#1 else 0#1 := by
  refine slt_iff (p * 16 + t.val) (by omega) _ ?_ _
  simp only [IntOp.addi, IntOp.muli, BitVec.toNat_add, BitVec.toNat_mul, BitVec.toNat_ofNat]; omega
/-- The mask as a trip makes it. -/
theorem mask_trip (k : ℕ) (hk : k < 16) (j : Fin 128) (t : Fin 16) :
    IntOp.cmpi .slt (IntOp.addi (IntOp.muli (IntOp.addi (Scalar.muli (Scf.iv 0#32 1#32 k) 128#32) (BitVec.ofNat 32 j.val)) 16#32) (BitVec.ofNat 32 t.val)) D.len
      = if D.Va (128 * k + j.val) t then 1#1 else 0#1 := by
  refine slt_iff ((128 * k + j.val) * 16 + t.val) (by omega) _ ?_ _
  simp only [Scf.iv, Scalar.muli, IntOp.addi, IntOp.muli, BitVec.toNat_add, BitVec.toNat_mul, BitVec.toNat_ofNat]; omega

end Dat

/-- Sequence `s` of the operands, as numbers. -/
def datOf (tab : IVec ⟨2, ![24, 2048]⟩ 32) (len : IVec ⟨1, ![24]⟩ 32) (pool : IVec ⟨2, ![122880, 128]⟩ 32) (scales : FVec Ideal ⟨2, ![32, 49152]⟩ .f32)
    (q : FVec Ideal ⟨3, ![24, 80, 64]⟩ .bf16) (ms : FVec Ideal ⟨3, ![24, 72, 128]⟩ .f32) (vc : FVec Ideal ⟨2, ![24, 64]⟩ .f32) (vs : FVec Ideal ⟨2, ![24, 128]⟩ .f32) (s : Fin 24) : Dat where
  qr h d := EReal.toReal (q (ix3 s ⟨h.val, by omega⟩ d))
  mr h := EReal.toReal (ms (ix3 s h 0))
  kw p w := pool (ix2 (Fin.ofNat 122880 (2 * (tab (ix2 s (Fin.ofNat 2048 p))).toNat)) w)
  vw p w := pool (ix2 (Fin.ofNat 122880 (2 * (tab (ix2 s (Fin.ofNat 2048 p))).toNat + 1)) w)
  kr p t := EReal.toReal (scales (ix2 ⟨t.val, by omega⟩ (Fin.ofNat 49152 (s.val * 2048 + p))))
  vr p t := EReal.toReal (scales (ix2 ⟨16 + t.val, by omega⟩ (Fin.ofNat 49152 (s.val * 2048 + p))))
  len := len (ix1 s)
  cv d := vc (ix2 s d)
  sv h := vs (ix2 s ⟨h.val, by omega⟩)

theorem toReal_of {x : EReal} (h : ∃ r : ℝ, x = r) : x = ((EReal.toReal x : ℝ) : EReal) := by
  obtain ⟨r, rfl⟩ := h
  rw [EReal.toReal_coe]

theorem sum64 {M : Type} [AddCommMonoid M] (f : ℕ → M) : ∑ x : Fin 8, ∑ y : Fin 8, f (y.val * 8 + x.val) = ∑ d : Fin 64, f d.val := by
  rw [Finset.sum_comm, ← Fintype.sum_prod_type' (f := fun (y x : Fin 8) => f (y.val * 8 + x.val))]
  refine Fintype.sum_equiv (finProdFinEquiv (m := 8) (n := 8)) _ _ (fun x => ?_)
  congr 1
  simp [finProdFinEquiv, mul_comm, add_comm]

end Cert.Nums

end
-- ==== Proof.Ideal.Runs.lean ====
/-
  The passes' running sums as finite numbers.
-/
module

public import proofs.«01_k».proof.Proof.Ideal.Trip
public import proofs.«01_k».proof.Proof.Dat

@[expose] public section

noncomputable section

namespace Cert.KernelIdeal.Hand

open Cert.KernelIdeal Cert.KernelIdeal.Gen Cert.Nums
open Idealize.ShloMosaic

/-- The trips' words, scales and queries are the data's. -/
structure Is (D : Dat) (qs : FVec Ideal S80x64 .bf16) (G : ℕ → S256x128.Idx → BitVec 32) (SC : ℕ → S32x128.Idx → EReal) : Prop where
  hq : ∀ (h : Fin 72) d, qs (ix2 ⟨h.val, by omega⟩ d) = (D.qr h d : EReal)
  hkw : ∀ k, k < 16 → ∀ (j w : Fin 128), G k (ix2 ⟨2 * j.val, by omega⟩ w) = D.kw (128 * k + j.val) w
  hvw : ∀ k, k < 16 → ∀ (j w : Fin 128), G k (ix2 ⟨1 + 2 * j.val, by omega⟩ w) = D.vw (128 * k + j.val) w
  hkr : ∀ k, k < 16 → ∀ (t : Fin 16) (j : Fin 128), SC k (ix2 ⟨t.val, by omega⟩ j) = (D.kr (128 * k + j.val) t : EReal)
  hvr : ∀ k, k < 16 → ∀ (t : Fin 16) (j : Fin 128), SC k (ix2 ⟨16 + t.val, by omega⟩ j) = (D.vr (128 * k + j.val) t : EReal)
  hlen : D.len.toInt ≤ 32768

/-- The mask of trip `k`. -/
def mk (D : Dat) (k : ℕ) : IVec S16x128 1 := maskI lanes rows (Scf.iv 0#32 1#32 k) D.len

theorem mk_apply (D : Dat) (k : ℕ) (hk : k < 16) (t : Fin 16) (j : Fin 128) : mk D k (ix2 t j) = if D.Va (128 * k + j.val) t then 1#1 else 0#1 := by
  rw [mk, maskI_apply, D.mask_trip k hk]

section
variable {D : Dat} {qs : FVec Ideal S80x64 .bf16} {G : ℕ → S256x128.Idx → BitVec 32} {SC : ℕ → S32x128.Idx → EReal} (H : Is D qs G SC)
include H

theorem dot_real (k : ℕ) (hk : k < 16) (a : Fin 16) (h : Fin 72) (j : Fin 128) :
    (∑ d : Fin 64, qs (ix2 ⟨h.val, by omega⟩ d) * cod (kwC (G k) (ix2 ⟨8 * a.val + d.val / 8, by omega⟩ j)) (d.val % 8) : EReal)
      = ((∑ d, D.qr h d * D.kc (128 * k + j.val) a d : ℝ) : EReal) := by
  rw [← sum_real]
  refine Finset.sum_congr rfl fun d _ => ?_
  rw [H.hq, kwC_apply, H.hkw k hk, cod_eq _ _ (by omega), ← EReal.coe_mul]
  rfl

theorem named_c8 : Named.named (F := Ideal) (φ := .f32) κ "log2e_8" 1043900987#32 = ((((1 / 8) * (Real.log 2)⁻¹ : ℝ)) : EReal) := by
  simp [Named.named, κ]

theorem ks_real (k : ℕ) (hk : k < 16) (a : Fin 16) (j : Fin 128) :
    ksC (F := Ideal) (mk D k) (SC k) (ix2 a j) = (((if D.Va (128 * k + j.val) a then D.kr (128 * k + j.val) a * ((1 / 8) * (Real.log 2)⁻¹) else 0 : ℝ)) : EReal) := by
  rw [ksC_apply, mk_apply D k hk, H.hkr k hk, named_c8 H]
  unfold Scalar.select
  by_cases hv : D.Va (128 * k + j.val) a
  · rw [if_pos hv, if_pos hv, if_pos (show (1#1 : BitVec 1) = 1 from rfl), ← EReal.coe_mul]
  · rw [if_neg hv, if_neg hv, if_neg (by decide)]; rfl

theorem vs_real (k : ℕ) (hk : k < 16) (a : Fin 16) (j : Fin 128) :
    vsC (F := Ideal) (mk D k) (SC k) (ix2 a j) = (((if D.Va (128 * k + j.val) a then D.vr (128 * k + j.val) a else 0 : ℝ)) : EReal) := by
  rw [vsC_apply, mk_apply D k hk, H.hvr k hk]
  unfold Scalar.select
  by_cases hv : D.Va (128 * k + j.val) a
  · rw [if_pos hv, if_pos hv, if_pos (show (1#1 : BitVec 1) = 1 from rfl)]
  · rw [if_neg hv, if_neg hv, if_neg (by decide)]; rfl

theorem Sc_real (k : ℕ) (hk : k < 16) (a : Fin 16) (h : Fin 72) (j : Fin 128) :
    Sc qs (ksC (F := Ideal) (mk D k) (SC k)) (kwC (G k)) a h j = ((if D.Va (128 * k + j.val) a then D.S (128 * k + j.val) a h else 0 : ℝ) : EReal) := by
  rw [Sc, dot_real H k hk, ks_real H k hk, ← EReal.coe_mul]
  by_cases hv : D.Va (128 * k + j.val) a
  · rw [if_pos hv, if_pos hv]; rfl
  · rw [if_neg hv, if_neg hv, mul_zero]

variable {m2 : FVec Ideal S72x256 .f32} {x : Fin 72 → ℝ} (hm : ∀ h j, m2 (ix2 h (Fin.castAdd 128 j)) = (x h : EReal))
include hm

theorem Pt_real (k : ℕ) (hk : k < 16) (a : Fin 16) (h : Fin 72) (j : Fin 128) :
    Pt qs m2 (ksC (F := Ideal) (mk D k) (SC k)) (mk D k) (kwC (G k)) a h j = ((D.W (128 * k + j.val) a h * (2 : ℝ) ^ (-x h) : ℝ) : EReal) := by
  rw [Pt, Sc_real H k hk, mk_apply D k hk, hm]
  unfold Scalar.select Dat.W
  by_cases hv : D.Va (128 * k + j.val) a
  · rw [if_pos hv, if_pos hv, if_pos hv, if_pos (show (1#1 : BitVec 1) = 1 from rfl), ← EReal.coe_sub, exp2_real, sub_eq_add_neg, Real.rpow_add two_pos]
  · rw [if_neg hv, if_neg hv, if_neg hv, if_neg (by decide), zero_mul]; rfl

theorem Vt_real (k : ℕ) (hk : k < 16) (a : Fin 16) (d : Fin 64) (h : Fin 72) (j : Fin 128) :
    Vt qs m2 (ksC (F := Ideal) (mk D k) (SC k)) (vsC (F := Ideal) (mk D k) (SC k)) (mk D k) (kwC (G k)) (vwC (G k)) a d h j
      = ((D.vc (128 * k + j.val) a d * (D.W (128 * k + j.val) a h * D.vr (128 * k + j.val) a) * (2 : ℝ) ^ (-x h) : ℝ) : EReal) := by
  rw [Vt, Pt_real H hm k hk, vs_real H k hk, vwC_apply, H.hvw k hk, cod_eq _ _ (by omega), ← EReal.coe_mul, ← EReal.coe_mul]
  congr 1
  show D.vc _ _ _ * _ = _
  by_cases hv : D.Va (128 * k + j.val) a
  · rw [if_pos hv]; ring
  · have e : D.W (128 * k + j.val) a h = 0 := if_neg hv
    rw [if_neg hv, e]; ring

variable (hm' : ∀ h j, m2 (ix2 h (Fin.natAdd 128 j)) = m2 (ix2 h (Fin.castAdd 128 j)))
include hm'

/-- The sums after `k` trips. -/
theorem run_real (n : ℕ) (hn : n ≤ 16) (f : Fin n → FVec Ideal S72x128 .f32 × FVec Ideal S64x72 .f32 → FVec Ideal S72x128 .f32 × FVec Ideal S64x72 .f32)
    (hf : ∀ (k : Fin n) l acc, f k (l, acc) = (stepL qs m2 (ksC (F := Ideal) (mk D k.val) (SC k.val)) (mk D k.val) (kwC (G k.val)) l,
      stepA qs m2 (ksC (F := Ideal) (mk D k.val) (SC k.val)) (vsC (F := Ideal) (mk D k.val) (SC k.val)) (mk D k.val) (kwC (G k.val)) (vwC (G k.val)) acc))
    (a0 : FVec Ideal S72x128 .f32 × FVec Ideal S64x72 .f32) (h1 : ∀ h j, a0.1 (ix2 h j) = (0 : EReal)) (h2 : ∀ d h, a0.2 (ix2 d h) = (0 : EReal)) (k : ℕ) (hk : k ≤ n) :
    (∀ h j, (accRun n f a0 k).1 (ix2 h j) = (((∑ i ∈ Finset.range k, ∑ a : Fin 16, D.W (128 * i + j.val) a h) * (2 : ℝ) ^ (-x h) : ℝ) : EReal))
    ∧ (∀ d h, (accRun n f a0 k).2 (ix2 d h) = (((∑ i ∈ Finset.range k, ∑ a : Fin 16, ∑ j : Fin 128, D.vc (128 * i + j.val) a d * (D.W (128 * i + j.val) a h * D.vr (128 * i + j.val) a)) * (2 : ℝ) ^ (-x h) : ℝ) : EReal)) := by
  induction k with
  | zero => exact ⟨fun h j => by simpa [accRun] using h1 h j, fun d h => by simpa [accRun] using h2 d h⟩
  | succ k ih =>
    obtain ⟨ih1, ih2⟩ := ih (by omega)
    rw [accRun_succ n f a0 ⟨k, by omega⟩]
    change (∀ h j, (f ⟨k, _⟩ ((accRun n f a0 k).1, (accRun n f a0 k).2)).1 (ix2 h j) = _) ∧ (∀ d h, (f ⟨k, _⟩ ((accRun n f a0 k).1, (accRun n f a0 k).2)).2 (ix2 d h) = _)
    rw [hf]
    dsimp only
    constructor
    · intro h j
      rw [stepL_apply _ _ _ _ hm', ih1, Finset.sum_range_succ, add_mul, EReal.coe_add]
      congr 1
      rw [Finset.sum_mul, ← sum_real]
      exact Finset.sum_congr rfl fun a _ => Pt_real H hm k (by omega) a h j
    · intro d h
      rw [stepA_apply _ _ _ _ _ _ hm', ih2, Finset.sum_range_succ, add_mul, EReal.coe_add]
      congr 1
      rw [Finset.sum_mul, ← sum_real]
      refine Finset.sum_congr rfl fun a _ => ?_
      rw [Finset.sum_mul, ← sum_real]
      exact Finset.sum_congr rfl fun j _ => Vt_real H hm k (by omega) a d h j

omit H hm hm' in
theorem W_zero (D : Dat) (i : ℕ) (hi : nb D.len ≤ i) (j : Fin 128) (a : Fin 16) (h : Fin 72) : D.W (128 * i + j.val) a h = 0 := by
  refine if_neg ?_
  unfold Dat.Va
  unfold nb at hi
  omega

omit H hm hm' in
theorem sum_ext (D : Dat) (f : ℕ → ℝ) (hf : ∀ i, nb D.len ≤ i → f i = 0) (hl : D.len.toInt ≤ 32768) : ∑ i ∈ Finset.range (nb D.len), f i = ∑ i ∈ Finset.range 16, f i := by
  refine Finset.sum_subset (fun i hi => ?_) (fun i _ hi => hf i (by simpa using hi))
  simp only [Finset.mem_range] at hi ⊢
  unfold nb at hi
  omega

/-- A pass's sums: over every token. -/
theorem pass_real (n : ℕ) (hn : n = nb D.len) (f : Fin n → FVec Ideal S72x128 .f32 × FVec Ideal S64x72 .f32 → FVec Ideal S72x128 .f32 × FVec Ideal S64x72 .f32)
    (hf : ∀ (k : Fin n) l acc, f k (l, acc) = (stepL qs m2 (ksC (F := Ideal) (mk D k.val) (SC k.val)) (mk D k.val) (kwC (G k.val)) l,
      stepA qs m2 (ksC (F := Ideal) (mk D k.val) (SC k.val)) (vsC (F := Ideal) (mk D k.val) (SC k.val)) (mk D k.val) (kwC (G k.val)) (vwC (G k.val)) acc))
    (a0 : FVec Ideal S72x128 .f32 × FVec Ideal S64x72 .f32) (h1 : ∀ h j, a0.1 (ix2 h j) = (0 : EReal)) (h2 : ∀ d h, a0.2 (ix2 d h) = (0 : EReal)) :
    (∀ h, (∑ j : Fin 128, (accRun n f a0 (nb D.len)).1 (ix2 h j) : EReal) = ((D.RL h * (2 : ℝ) ^ (-x h) : ℝ) : EReal))
    ∧ (∀ d h, (accRun n f a0 (nb D.len)).2 (ix2 d h) = ((D.RA d h * (2 : ℝ) ^ (-x h) : ℝ) : EReal)) := by
  have hl := H.hlen
  obtain ⟨r1, r2⟩ := run_real H hm hm' n (by unfold nb at hn; omega) f hf a0 h1 h2 (nb D.len) hn.ge
  constructor
  · intro h
    simp only [r1]
    rw [sum_real, ← Finset.sum_mul, Dat.RL, ← sum_blocks (fun p a => D.W p a h), Finset.sum_comm]
    congr 2
    rw [sum_ext D _ _ hl]
    · exact Finset.sum_congr rfl fun i _ => Finset.sum_comm
    · intro i hi
      exact Finset.sum_eq_zero fun j _ => Finset.sum_eq_zero fun a _ => W_zero D i hi j a h
  · intro d h
    rw [r2, Dat.RA, ← sum_blocks (fun p a => D.vc p a d * (D.W p a h * D.vr p a)), sum_ext D _ _ hl]
    intro i hi
    refine Finset.sum_eq_zero fun a _ => Finset.sum_eq_zero fun j _ => ?_
    rw [W_zero D i hi, zero_mul, mul_zero]

end

/-- The maxima stay finite. -/
theorem max_real {D : Dat} {qs : FVec Ideal S80x64 .bf16} {G : ℕ → S256x128.Idx → BitVec 32} {SC : ℕ → S32x128.Idx → EReal} (H : Is D qs G SC) (n : ℕ) (hn : n ≤ 16)
    (f : Fin n → FVec Ideal S72x128 .f32 → FVec Ideal S72x128 .f32) (hf : ∀ (k : Fin n) mx, f k mx = stepM qs (ksC (F := Ideal) (mk D k.val) (SC k.val)) (mk D k.val) (kwC (G k.val)) mx)
    (a0 : FVec Ideal S72x128 .f32) (h0 : ∀ h j, IsR (a0 (ix2 h j))) (k : ℕ) (hk : k ≤ n) (h : Fin 72) (j : Fin 128) : IsR (accRun n f a0 k (ix2 h j)) := by
  induction k generalizing h j with
  | zero => exact h0 h j
  | succ k ih =>
    rw [accRun_succ n f a0 ⟨k, by omega⟩, hf]
    exact stepM_isR _ _ _ _ (fun a h j => ⟨_, Sc_real H k (by omega) a h j⟩) _ (fun h j => ih (by omega) h j) h j

end Cert.KernelIdeal.Hand

end
-- ==== Proof.Ideal.Pays.lean ====
/-
  What surrounds the passes, at an entry: the shifts, the own token's weight, the reciprocal, the two ways a result is put together.
-/
module

public import proofs.«01_k».proof.Proof.Ideal.Runs

@[expose] public section

noncomputable section

namespace Cert.KernelIdeal.Hand

open Cert.KernelIdeal Cert.KernelIdeal.Gen Cert.Nums
open Idealize.ShloMosaic

theorem pay398_apply (v : Vec Ideal S1x72x128 .f32) (h : Fin 72) (j : Fin 128) : k0_pay398 v (ix2 h j) = (v (ix3 0 h j) : EReal) := by
  pointwise [k0_pay398]
theorem pay399_apply (v : Vec Ideal S1x80x64 .bf16) (h : Fin 80) (d : Fin 64) : k0_pay399 v (ix2 h d) = (v (ix3 0 h d) : EReal) := by
  pointwise [k0_pay399]
theorem pay374_apply (v : FVec Ideal S72x128 .f32) (h : Fin 72) (j : Fin 128) : k0_pay374 v (ix3 0 h j) = (v (ix2 h j) : EReal) := by
  pointwise [k0_pay374]
theorem pay375_apply (v : FVec Ideal S72x128 .f32) (h : Fin 72) (j : Fin 128) : k0_pay375 v (ix3 0 h j) = (v (ix2 h j) : EReal) := by
  pointwise [k0_pay375]
theorem pay378_apply (v : FVec Ideal S72x128 .f32) (h : Fin 72) (j : Fin 128) : k0_pay378 v (ix3 0 h j) = (v (ix2 h j) : EReal) := by
  pointwise [k0_pay378]
theorem pay261_apply (v : FVec Ideal S72x128 .f32) (h : Fin 72) (j : Fin 128) : k0_pay261 v (ix3 0 h j) = (k0_pay260 v (ix2 h j) : EReal) := by
  pointwise [k0_pay261]

theorem twice_lo (X : FVec Ideal S72x128 .f32) (h1) (h : Fin 72) (j : Fin 128) : concatenate S72x256 1 [⟨S72x128, X⟩, ⟨S72x128, X⟩] h1 (ix2 h (Fin.castAdd 128 j)) = (X (ix2 h j) : EReal) := by
  pointwise []
  exact dif_pos j.isLt
theorem twice_hi (X : FVec Ideal S72x128 .f32) (h1) (h : Fin 72) (j : Fin 128) : concatenate S72x256 1 [⟨S72x128, X⟩, ⟨S72x128, X⟩] h1 (ix2 h (Fin.natAdd 128 j)) = (X (ix2 h j) : EReal) := by
  pointwise []
  rw [dif_neg (show ¬ (Fin.natAdd 128 j).val < 128 by simp)]
  congr 2
  exact Fin.ext (by simp)

theorem pay260_apply (v : FVec Ideal S72x128 .f32) (h : Fin 72) (j : Fin 128) : k0_pay260 v (ix2 h j) = (multiReduction .maximumf [1] S72 v 0xFF800000#32 reduces_S72x128_S72 (.inl rfl) rfl (ix1 h) : EReal) := by
  unfold k0_pay260
  generalize multiReduction .maximumf [1] S72 v 0xFF800000#32 reduces_S72x128_S72 (.inl rfl) rfl = X
  pointwise []

theorem rowmax_real (v : FVec Ideal S72x128 .f32) (hv : ∀ h j, IsR (v (ix2 h j))) (h : Fin 72) : IsR (multiReduction .maximumf [1] S72 v 0xFF800000#32 reduces_S72x128_S72 (.inl rfl) rfl (ix1 h)) := by
  pointwise []
  have h1 : Finset.fold max (Ideal.ofBits FTy.f32 4286578688#32) (fun x => (v (ix2 h x) : EReal)) Finset.univ < ⊤ := by
    refine (Finset.fold_max_lt (c := (⊤ : EReal))).2 ⟨by rw [neg_inf]; exact bot_lt_top, fun x _ => ?_⟩
    obtain ⟨r, hr⟩ := hv h x
    rw [hr]; exact EReal.coe_lt_top r
  have h2 : ⊥ < Finset.fold max (Ideal.ofBits FTy.f32 4286578688#32) (fun x => (v (ix2 h x) : EReal)) Finset.univ := by
    refine (Finset.lt_fold_max (c := (⊥ : EReal))).2 (.inr ⟨0, Finset.mem_univ _, ?_⟩)
    obtain ⟨r, hr⟩ := hv h 0
    rw [hr]; exact EReal.bot_lt_coe r
  exact ⟨_, (EReal.coe_toReal h1.ne h2.ne').symm⟩

theorem pay379_apply (l m x y : Vec Ideal S1x72x128 .f32) (h : Fin 72) (j : Fin 128) :
    k0_pay379 l m x y (ix2 h j) = (y (ix3 0 h j) + Ideal.log ((∑ i, l (ix3 0 h i)) + Ideal.exp2 (m (ix3 0 h j) - x (ix3 0 h j))) * Named.named (F := Ideal) (φ := .f32) κ "log2e" 0x3FB8AA3B#32 : EReal) := by
  pointwise [k0_pay379]
  rfl

theorem pay405_apply (v : FVec Ideal S72x128 .f32) (m : Vec Ideal S1x72x128 .f32) (h : Fin 72) : k0_pay405 v m (ix2 0 h) = (Ideal.exp2 (m (ix3 0 h 0) - v (ix2 h 0)) : EReal) := by
  pointwise [k0_pay405]
  rfl
theorem pay406_apply (v l : FVec Ideal S72x128 .f32) (m : Vec Ideal S1x72x128 .f32) (h : Fin 72) :
    k0_pay406 v l m (ix2 0 h) = (Ideal.div 1 ((∑ i, l (ix2 h i)) + k0_pay405 v m (ix2 0 h)) : EReal) := by
  unfold k0_pay406
  generalize k0_pay405 v m = X
  pointwise []
theorem pay407_apply (c : Vec Ideal S1x64 .f32) (d : Fin 64) (h : Fin 72) : k0_pay407 c (ix2 d h) = (c (ix2 0 d) : EReal) := by
  pointwise [k0_pay407]
theorem pay387_apply (c : Vec Ideal S1x64 .f32) (d : Fin 64) (h : Fin 72) : k0_pay387 c (ix2 d h) = (c (ix2 0 d) : EReal) := by
  pointwise [k0_pay387]
theorem pay408_apply (v l : FVec Ideal S72x128 .f32) (a : FVec Ideal S64x72 .f32) (m : Vec Ideal S1x72x128 .f32) (d : Fin 64) (h : Fin 72) :
    k0_pay408 v l a m (ix2 d h) = (a (ix2 d h) * k0_pay406 v l m (ix2 0 h) : EReal) := by
  unfold k0_pay408
  generalize k0_pay406 v l m = X
  pointwise []
theorem pay409_apply (v l : FVec Ideal S72x128 .f32) (m : Vec Ideal S1x72x128 .f32) (s : Vec Ideal S1x72 .f32) (d : Fin 64) (h : Fin 72) :
    k0_pay409 v l m s (ix2 d h) = (k0_pay405 v m (ix2 0 h) * k0_pay406 v l m (ix2 0 h) * s (ix2 0 h) : EReal) := by
  unfold k0_pay409
  generalize k0_pay406 v l m = X
  generalize k0_pay405 v m = Y
  pointwise []
theorem pay411_apply (a b c : FVec Ideal S64x72 .f32) (d : Fin 64) (h : Fin 71) :
    k0_pay411 a b c (ix3 0 d h) = (b (ix2 d ⟨h.val, by omega⟩) + c (ix2 d ⟨h.val, by omega⟩) * a (ix2 d ⟨h.val, by omega⟩) : EReal) := by
  pointwise [k0_pay411, k0_pay410]
theorem pay386_apply (v : FVec Ideal S72x128 .f32) (m : Vec Ideal S1x72x128 .f32) (s : Vec Ideal S1x72 .f32) (h : Fin 72) :
    k0_pay386 v m s (ix2 0 h) = (Ideal.exp2 (m (ix3 0 h 0) - v (ix2 h 0)) * s (ix2 0 h) : EReal) := by
  pointwise [k0_pay386]
  rfl
theorem pay390_apply (a : FVec Ideal S64x72 .f32) (b : FVec Ideal S1x72 .f32) (c : FVec Ideal S64x72 .f32) (d : Fin 64) (h : Fin 71) :
    k0_pay390 a b c (k0_pay388 (F := Ideal)) (ix3 0 d h) = (a (ix2 d ⟨h.val, by omega⟩) + b (ix2 0 ⟨h.val, by omega⟩) * c (ix2 d ⟨h.val, by omega⟩) : EReal) := by
  pointwise [k0_pay390, k0_pay389, k0_pay388]

end Cert.KernelIdeal.Hand

end
-- ==== Proof.Ideal.Value.lean ====
/-
  A sequence's result is the softmax over its tokens, whichever way the kernel takes.
-/
module

public import proofs.«01_k».proof.Proof.Ideal.Pays

@[expose] public section

noncomputable section

namespace Cert.KernelIdeal.Hand

open Cert.KernelIdeal Cert.KernelIdeal.Gen Cert.Nums
open Idealize.ShloMosaic

/-- A sequence's slabs are the data's. -/
structure Of (I : Seq Ideal) (D : Dat) : Prop where
  is : Is D (k0_pay399 I.q) I.G I.SC
  v0 : I.v0 = lanes
  v1 : I.v1 = rows
  len : I.len = D.len
  hm : ∀ (h : Fin 72) (j : Fin 128), I.m (ix3 0 h j) = (D.mr h : EReal)
  hc : ∀ (d : Fin 64), I.cv (ix2 0 d) = D.cv d
  hs : ∀ (h : Fin 72), I.sv (ix2 0 h) = D.sv h

/-- A pass's sums at shift `x`. -/
def Sums (D : Dat) (x : Fin 72 → ℝ) (r : FVec Ideal S72x128 .f32 × FVec Ideal S64x72 .f32) : Prop :=
  (∀ h, (∑ j : Fin 128, r.1 (ix2 h j) : EReal) = ((D.RL h * (2 : ℝ) ^ (-x h) : ℝ) : EReal)) ∧ (∀ d h, r.2 (ix2 d h) = ((D.RA d h * (2 : ℝ) ^ (-x h) : ℝ) : EReal))

theorem zero_bits : Ideal.ofBits .f32 0x00000000#32 = (0 : EReal) := by simp [Ideal.ofBits, Ideal.ieee]

section
variable {I : Seq Ideal} {D : Dat} (O : Of I D)
include O

theorem acc_sums : Sums D D.mr I.acc := by
  have hl := O.is.hlen
  obtain ⟨v0, v1, G, SC, len, q, m, cv, sv⟩ := I
  obtain ⟨is, e0, e1, el, hm, hc, hs⟩ := O
  dsimp only at is e0 e1 el hm hc hs
  subst e0 e1 el
  refine pass_real is (m2 := k0_pay400 m) (x := D.mr) (fun h j => ?_) (fun h j => ?_) _ (trips2 _ hl) _ (fun k l acc => step2_eq _ _ _ _ _ _ _ _ _ _ _) _ (fun h j => zero_bits) (fun d h => zero_bits)
  · rw [k0_pay400, twice_lo, pay398_apply, hm]
  · rw [k0_pay400, twice_lo, twice_hi]

theorem mt_real (h : Fin 72) (j : Fin 128) : IsR (I.mt (ix2 h j)) := by
  have hl := O.is.hlen
  obtain ⟨v0, v1, G, SC, len, q, m, cv, sv⟩ := I
  obtain ⟨is, e0, e1, el, hm, hc, hs⟩ := O
  dsimp only at is e0 e1 el hm hc hs
  subst e0 e1 el
  have hn := trips6 D.len hl
  refine max_real is _ (by rw [hn]; unfold nb; omega) _ (fun k mx => step6_eq _ _ _ _ _ _ _ _ _) _ (fun h j => ?_) _ hn.ge h j
  exact ⟨_, by rw [pay398_apply]; exact hm h j⟩

theorem mt_max : ∃ x : Fin 72 → ℝ, ∀ h j, k0_pay260 I.mt (ix2 h j) = (x h : EReal) := by
  choose x hx using fun h => rowmax_real I.mt (mt_real O) h
  exact ⟨x, fun h j => by rw [pay260_apply, hx]⟩

theorem accT_sums {x : Fin 72 → ℝ} (hx : ∀ h j, k0_pay260 I.mt (ix2 h j) = (x h : EReal)) : Sums D x I.accT := by
  have hl := O.is.hlen
  have e0 := O.v0
  have e1 := O.v1
  have el := O.len
  have is := O.is
  unfold Seq.accT
  generalize I.mt = mt at hx ⊢
  obtain ⟨v0, v1, G, SC, len, q, m, cv, sv⟩ := I
  dsimp only at is e0 e1 el ⊢
  subst e0 e1 el
  refine pass_real is (m2 := k0_pay263 mt) (x := x) (fun h j => ?_) (fun h j => ?_) _ (trips10 _ hl) _ (fun k l acc => step10_eq _ _ _ _ _ _ _ _ _ _ _) _ (fun h j => zero_bits) (fun d h => zero_bits)
  · rw [k0_pay263, twice_lo, hx]
  · rw [k0_pay263, twice_lo, twice_hi]

/-- The shift made of a shift and its sums. -/
def Sh (D : Dat) (x : Fin 72 → ℝ) (h : Fin 72) : ℝ := x h + Real.log (D.RL h * (2 : ℝ) ^ (-x h) + (2 : ℝ) ^ (D.mr h - x h)) * (Real.log 2)⁻¹

omit O in
theorem two_pow_Sh (x : Fin 72 → ℝ) (h : Fin 72) : (2 : ℝ) ^ (-Sh D x h) = 1 / D.Z h := by
  have hp : 0 < (2 : ℝ) ^ (-x h) := by positivity
  have e : D.RL h * (2 : ℝ) ^ (-x h) + (2 : ℝ) ^ (D.mr h - x h) = D.Z h * (2 : ℝ) ^ (-x h) := by
    rw [sub_eq_add_neg, Real.rpow_add two_pos, Dat.Z, Dat.ws, add_mul]
  have hz := D.Z_pos h
  have h2 : Real.log 2 ≠ 0 := (Real.log_pos one_lt_two).ne'
  rw [Sh, e, neg_add, Real.rpow_add two_pos, Real.rpow_neg two_pos.le (Real.log _ * _), Real.rpow_def_of_pos two_pos (Real.log _ * _),
    show Real.log 2 * (Real.log (D.Z h * (2 : ℝ) ^ (-x h)) * (Real.log 2)⁻¹) = Real.log (D.Z h * (2 : ℝ) ^ (-x h)) by field_simp, Real.exp_log (mul_pos hz hp)]
  field_simp

omit O in
theorem named_c : Named.named (F := Ideal) (φ := .f32) κ "log2e" 0x3FB8AA3B#32 = (((Real.log 2)⁻¹ : ℝ) : EReal) := by
  simp [Named.named, κ]

theorem shift_real {x : Fin 72 → ℝ} (ml : FVec Ideal S1x72x128 .f32 × FVec Ideal S1x72x128 .f32) (h1 : ∀ h j, ml.1 (ix3 0 h j) = (x h : EReal))
    (h2 : ∀ h, (∑ j : Fin 128, ml.2 (ix3 0 h j) : EReal) = ((D.RL h * (2 : ℝ) ^ (-x h) : ℝ) : EReal)) (h : Fin 72) (j : Fin 128) :
    k0_pay379 (F := Ideal) ml.2 I.m ml.1 ml.1 (ix2 h j) = (Sh D x h : EReal) := by
  have hp : 0 < D.RL h * (2 : ℝ) ^ (-x h) + (2 : ℝ) ^ (D.mr h - x h) := add_pos_of_nonneg_of_pos (mul_nonneg (D.RL_nonneg h) (by positivity)) (by positivity)
  rw [pay379_apply, h1, h2, O.hm, ← EReal.coe_sub, exp2_real, ← EReal.coe_add, log_real hp, named_c, ← EReal.coe_mul, ← EReal.coe_add]
  rfl

theorem accL_sums {y : Fin 72 → ℝ} (ml : FVec Ideal S1x72x128 .f32 × FVec Ideal S1x72x128 .f32) (hy : ∀ h j, k0_pay379 (F := Ideal) ml.2 I.m ml.1 ml.1 (ix2 h j) = (y h : EReal)) : Sums D y (I.accL ml) := by
  have hl := O.is.hlen
  obtain ⟨v0, v1, G, SC, len, q, m, cv, sv⟩ := I
  obtain ⟨is, e0, e1, el, hm, hc, hs⟩ := O
  dsimp only at is e0 e1 el hm hc hs hy
  subst e0 e1 el
  refine pass_real is (m2 := k0_pay381 ml.2 m ml.1 ml.1) (x := y) (fun h j => ?_) (fun h j => ?_) _ (trips14 _ hl) _ (fun k l acc => step14_eq _ _ _ _ _ _ _ _ _ _ _) _ (fun h j => zero_bits) (fun d h => zero_bits)
  · rw [k0_pay381, twice_lo, hy]
  · rw [k0_pay381, twice_lo, twice_hi]

theorem near_val (d : Fin 64) (h : Fin 71) : I.near8 (ix3 0 d h) = D.T d ⟨h.val, by omega⟩ := by
  obtain ⟨s1, s2⟩ := acc_sums O
  rw [Seq.near8, pay411_apply, Seq.v82, Seq.v83, Seq.v80, pay407_apply, pay408_apply, pay409_apply, pay406_apply, pay405_apply, s1, s2, O.hm, O.hc, O.hs, pay398_apply, O.hm,
    ← EReal.coe_sub, exp2_real, sub_self, Real.rpow_zero, ← EReal.coe_add, div_one_real, ← EReal.coe_mul, ← EReal.coe_mul, Dat.T]
  · have hz := D.Z_pos ⟨h.val, by omega⟩
    have e : D.RL ⟨h.val, by omega⟩ * (2 : ℝ) ^ (-D.mr ⟨h.val, by omega⟩) + 1 = D.Z ⟨h.val, by omega⟩ * (2 : ℝ) ^ (-D.mr ⟨h.val, by omega⟩) := by
      rw [Dat.Z, Dat.ws, add_mul, ← Real.rpow_add two_pos, add_neg_cancel, Real.rpow_zero]
    have hp : 0 < (2 : ℝ) ^ (-D.mr ⟨h.val, by omega⟩) := by positivity
    have e' : D.ws ⟨h.val, by omega⟩ = ((2 : ℝ) ^ (-D.mr ⟨h.val, by omega⟩))⁻¹ := by rw [Dat.ws, Real.rpow_neg two_pos.le, inv_inv]
    rw [e, e', show ∀ a z p : ℝ, 0 < z → 0 < p → a * p * (1 / (z * p)) = a / z from fun a z p hz hp => by field_simp,
      show ∀ z p : ℝ, 0 < z → 0 < p → 1 * (1 / (z * p)) = p⁻¹ / z from fun z p hz hp => by field_simp]
    · exact hz
    · exact hp
    · exact hz
    · exact hp
  · exact add_pos_of_nonneg_of_pos (mul_nonneg (D.RL_nonneg _) (by positivity)) one_pos

theorem far_val {x : Fin 72 → ℝ} (ml : FVec Ideal S1x72x128 .f32 × FVec Ideal S1x72x128 .f32) (h1 : ∀ h j, ml.1 (ix3 0 h j) = (x h : EReal))
    (h2 : ∀ h, (∑ j : Fin 128, ml.2 (ix3 0 h j) : EReal) = ((D.RL h * (2 : ℝ) ^ (-x h) : ℝ) : EReal)) (d : Fin 64) (h : Fin 71) :
    I.far8 ml (ix3 0 d h) = D.T d ⟨h.val, by omega⟩ := by
  have hy := shift_real O ml h1 h2
  obtain ⟨s1, s2⟩ := accL_sums O ml hy
  rw [Seq.far8, pay390_apply, Seq.v271, pay386_apply, pay387_apply, s2, hy, O.hm, O.hc, O.hs, ← EReal.coe_sub, exp2_real, sub_eq_add_neg, Real.rpow_add two_pos, two_pow_Sh, Dat.T,
    mul_one_div, mul_one_div]
  rfl

/-- Whichever way it takes. -/
theorem out8_val (d : Fin 64) (h : Fin 71) : I.out8 (ix3 0 d h) = D.T d ⟨h.val, by omega⟩ := by
  unfold Seq.out8
  split
  · unfold Seq.mlC
    split
    · obtain ⟨x, hx⟩ := mt_max O
      refine far_val O (x := x) _ (fun h j => ?_) (fun h => ?_) d h
      · unfold Seq.mlB
        dsimp only
        rw [pay261_apply, hx]
      · simp only [Seq.mlB, pay378_apply]
        exact (accT_sums O hx).1 h
    · refine far_val O (x := D.mr) _ (fun h j => ?_) (fun h => ?_) d h
      · unfold Seq.mlA
        dsimp only
        rw [pay374_apply, pay398_apply, O.hm]
      · simp only [Seq.mlA, pay375_apply]
        exact (acc_sums O).1 h
  · exact near_val O d h

end

end Cert.KernelIdeal.Hand

end
-- ==== Proof.Exponent.lean ====
/-
  The power of two just above a positive number, in two ways: from the logarithm, and by counting the powers of two that the number reaches.
-/
module

public import proofs.«01_k».proof.Proof.Nums

@[expose] public section

noncomputable section

namespace Cert.Nums

open Idealize.ShloMosaic

/-- The whole part of the number's logarithm to base 2. -/
def lg (r : ℝ) : ℤ := ⌊Real.log r / Real.log 2⌋

theorem reach {r : ℝ} (h : 0 < r) (z : ℤ) : (2 : ℝ) ^ z ≤ r ↔ z ≤ lg r := by
  have h2 : 0 < Real.log 2 := Real.log_pos one_lt_two
  rw [lg, Int.le_floor, le_div_iff₀ h2, ← Real.log_zpow, Real.log_le_log_iff (by positivity) h]

/-- How many of the powers 2^-126 … 2^125 the number reaches. -/
def cnt (r : ℝ) : ℕ := (min 252 (lg r + 127)).toNat

theorem cnt_le (r : ℝ) : cnt r ≤ 252 := by unfold cnt; omega

theorem card_reach {r : ℝ} (h : 0 < r) : (Finset.univ.filter fun j : Fin 256 => (1 ≤ j.val ∧ j.val < 253) ∧ (2 : ℝ) ^ ((j.val : ℤ) - 127) ≤ r).card = cnt r := by
  have e : (Finset.univ.filter fun j : Fin 256 => (1 ≤ j.val ∧ j.val < 253) ∧ (2 : ℝ) ^ ((j.val : ℤ) - 127) ≤ r).map Fin.valEmbedding = Finset.Icc 1 (cnt r) := by
    ext k
    simp only [Finset.mem_map, Finset.mem_filter, Finset.mem_univ, true_and, Fin.valEmbedding_apply, Finset.mem_Icc, reach h]
    unfold cnt
    constructor
    · rintro ⟨j, ⟨⟨h1, h2⟩, h3⟩, rfl⟩
      omega
    · rintro ⟨h1, h2⟩
      exact ⟨⟨k, by omega⟩, ⟨⟨h1, by show k < 253; omega⟩, by show (k : ℤ) - 127 ≤ lg r; omega⟩, rfl⟩
  rw [← Finset.card_map Fin.valEmbedding, e, Nat.card_Icc, Nat.add_sub_cancel]

theorem ofNat_shl (n : ℕ) : IntOp.shli .vector (BitVec.ofNat 32 n) 23#32 = BitVec.ofNat 32 (n * 2 ^ 23) := by
  rw [IntOp.shli, if_pos (by decide)]
  apply BitVec.eq_of_toNat_eq
  rw [BitVec.shiftLeft_eq', BitVec.toNat_shiftLeft, BitVec.toNat_ofNat, Nat.shiftLeft_eq]
  show n % 2 ^ 32 * 2 ^ 23 % 2 ^ 32 = _
  rw [BitVec.toNat_ofNat]
  omega

/-- A word with the exponent's field alone is a power of two. -/
theorem pow_bits (n : ℕ) (h1 : 1 ≤ n) (h2 : n < 255) : Ideal.ofBits .f32 (IntOp.shli .vector (BitVec.ofNat 32 n) 23#32) = (((2 : ℝ) ^ ((n : ℤ) - 127) : ℝ) : EReal) := by
  rw [ofNat_shl]
  have e0 : ((BitVec.ofNat 32 (n * 2 ^ 23)).extractLsb' 31 1 == 1#1) = false := by
    have e : (BitVec.ofNat 32 (n * 2 ^ 23)).extractLsb' 31 1 = 0#1 := by
      apply BitVec.eq_of_toNat_eq
      rw [BitVec.extractLsb'_toNat, BitVec.toNat_ofNat, Nat.shiftRight_eq_div_pow]
      show _ = 0
      omega
    rw [e]
    rfl
  have e1 : ((BitVec.ofNat 32 (n * 2 ^ 23)).extractLsb' 23 8).toNat = n := by
    rw [BitVec.extractLsb'_toNat, BitVec.toNat_ofNat, Nat.shiftRight_eq_div_pow]
    omega
  have e2 : ((BitVec.ofNat 32 (n * 2 ^ 23)).extractLsb' 0 23).toNat = 0 := by
    rw [BitVec.extractLsb'_toNat, BitVec.toNat_ofNat, Nat.shiftRight_eq_div_pow]
    omega
  show Ideal.ieee 8 23 _ = _
  simp only [Ideal.ieee, Nat.reduceAdd, e0, e1, e2]
  rw [if_neg (by omega), if_neg (by omega)]
  refine congrArg _ ?_
  rw [show (n : ℤ) - 127 = ((n : ℤ) - (2 ^ (8 - 1) - 1) - (23 : ℕ)) + 23 by norm_num, zpow_add₀ two_ne_zero]
  norm_num [mul_comm]

/-- The count, as the word the kernel makes of it. -/
def eword (y : EReal) : BitVec 32 :=
  FloatOps.fptosi (F := Ideal) (φ := .f32) 32 (∑ x : Fin 256, FloatOps.sitofp (F := Ideal) FTy.f32 (BitVec.setWidth 32 (IntOp.andi (IntOp.andi (IntOp.cmpi CmpIPredicate.sge (BitVec.ofNat 32 x.val) 1#32)
    (IntOp.cmpi CmpIPredicate.slt (BitVec.ofNat 32 x.val) 253#32)) (BitVec.ofBool (decide (Ideal.ofBits FTy.f32 (IntOp.shli .vector (BitVec.ofNat 32 x.val) 23#32) ≤ y)))) : BitVec 32) : EReal)

theorem one_bit (p q : Bool) : (BitVec.setWidth 32 (IntOp.andi (BitVec.ofBool p) (BitVec.ofBool q)) : BitVec 32) = if p && q then 1#32 else 0#32 := by
  revert p q
  decide

theorem range_bit : ∀ j : Fin 256, IntOp.andi (IntOp.cmpi CmpIPredicate.sge (BitVec.ofNat 32 j.val) 1#32) (IntOp.cmpi CmpIPredicate.slt (BitVec.ofNat 32 j.val) 253#32)
    = BitVec.ofBool (decide (1 ≤ j.val ∧ j.val < 253)) := by decide

theorem term_real (r : ℝ) (j : Fin 256) : (FloatOps.sitofp (F := Ideal) FTy.f32 (BitVec.setWidth 32 (IntOp.andi (IntOp.andi (IntOp.cmpi CmpIPredicate.sge (BitVec.ofNat 32 j.val) 1#32)
    (IntOp.cmpi CmpIPredicate.slt (BitVec.ofNat 32 j.val) 253#32)) (BitVec.ofBool (decide (Ideal.ofBits FTy.f32 (IntOp.shli .vector (BitVec.ofNat 32 j.val) 23#32) ≤ (r : EReal))))) : BitVec 32) : EReal)
    = (((if (1 ≤ j.val ∧ j.val < 253) ∧ (2 : ℝ) ^ ((j.val : ℤ) - 127) ≤ r then 1 else 0 : ℝ)) : EReal) := by
  rw [range_bit, one_bit]
  by_cases hj : 1 ≤ j.val ∧ j.val < 253
  · rw [pow_bits _ hj.1 (by omega)]
    simp only [EReal.coe_le_coe_iff, hj, and_self, true_and, decide_true, Bool.true_and, decide_eq_true_eq]
    split
    · show (((1#32).toInt : ℝ) : EReal) = _
      norm_num
    · show (((0#32).toInt : ℝ) : EReal) = _
      norm_num
  · rw [decide_eq_false hj, Bool.false_and, if_neg Bool.false_ne_true, if_neg (fun h => hj h.1)]
    show (((0#32).toInt : ℝ) : EReal) = _
    norm_num

theorem word_of_real (r : ℝ) (h0 : 0 ≤ r) (h1 : r < 2 ^ 31 - 1) : FloatOps.fptosi (F := Ideal) (φ := .f32) 32 (r : EReal) = BitVec.ofNat 32 ⌊r⌋₊ := by
  show Ideal.fptosi 32 _ = _
  have e : (⌊r⌋ : ℤ) = (⌊r⌋₊ : ℤ) := (Int.natCast_floor_eq_floor h0).symm
  have hf : ⌊r⌋₊ ≤ 2 ^ 31 - 1 := by
    have : (⌊r⌋₊ : ℝ) < 2 ^ 31 - 1 := (Nat.floor_le h0).trans_lt h1
    have h2 : (⌊r⌋₊ : ℝ) < ((2 ^ 31 - 1 : ℕ) : ℝ) := this.trans_eq (by norm_num)
    exact (Nat.cast_lt.1 h2).le
  rw [Ideal.fptosi, Ideal.toIntClamped_coe, if_pos h0, e, min_eq_right (by push_cast; omega), max_eq_right (by push_cast; omega), BitVec.ofInt_natCast]

theorem eword_real {r : ℝ} (h : 0 < r) : eword (r : EReal) = BitVec.ofNat 32 (cnt r) := by
  rw [eword, Finset.sum_congr rfl fun j _ => term_real r j, sum_real, Finset.sum_boole, card_reach h, word_of_real _ (Nat.cast_nonneg _), Nat.floor_natCast]
  have : (cnt r : ℝ) ≤ 252 := by exact_mod_cast cnt_le r
  linarith

/-- The power that the kernel makes of a number's count and of the fraction left, which does not count. -/
def kpow (y : EReal) (e : BitVec 32) (fr : EReal) : EReal :=
  Ideal.ofBits FTy.f32 (IntOp.shli .vector (IntOp.addi (if y = 0 then 0#32 else IntOp.subi (IntOp.shrsi .vector (IntOp.addi (IntOp.shli .vector e 23#32)
    (FloatOps.fptosi (F := Ideal) (φ := .f32) 32 (fr * Ideal.ofBits FTy.f32 1258291200#32))) 23#32) 126#32) 127#32) 23#32)

theorem kpow_zero (e fr) : kpow 0 e fr = (1 : EReal) := by
  rw [kpow, if_pos rfl]
  refine (pow_bits 127 (by omega) (by omega)).trans ?_
  norm_num

theorem kpow_word {y : EReal} (hy : y ≠ 0) {n : ℕ} (hn : n ≤ 252) {f : ℝ} (h0 : 0 ≤ f) (h1 : f ≤ 1 - 2⁻¹ ^ 23) : kpow y (BitVec.ofNat 32 n) f = (((2 : ℝ) ^ ((n : ℤ) - 126) : ℝ) : EReal) := by
  have e23 : Ideal.ofBits FTy.f32 1258291200#32 = ((2 ^ 23 : ℝ) : EReal) := by
    rw [show ((2 : ℝ) ^ 23) = 8388608 by norm_num]
    simp [Ideal.ofBits, Ideal.ieee]
  have hf : f * 2 ^ 23 ≤ 2 ^ 23 - 1 := by
    have := mul_le_mul_of_nonneg_right h1 (show (0 : ℝ) ≤ 2 ^ 23 by positivity)
    refine this.trans (le_of_eq ?_)
    norm_num
  have hg : ⌊f * 2 ^ 23⌋₊ < 2 ^ 23 := by
    rw [Nat.floor_lt (by positivity)]
    push_cast
    linarith
  have hs : IntOp.shrsi .vector (IntOp.addi (BitVec.ofNat 32 (n * 2 ^ 23)) (BitVec.ofNat 32 ⌊f * 2 ^ 23⌋₊)) 23#32 = BitVec.ofNat 32 n := by
    generalize ⌊f * 2 ^ 23⌋₊ = g at hg ⊢
    rw [IntOp.shrsi, if_pos (by decide), IntOp.addi, ← BitVec.ofNat_add, BitVec.sshiftRight', show (23#32).toNat = 23 from rfl, BitVec.sshiftRight_eq_of_msb_false]
    · apply BitVec.eq_of_toNat_eq
      rw [BitVec.toNat_ushiftRight, BitVec.toNat_ofNat, BitVec.toNat_ofNat, Nat.shiftRight_eq_div_pow]
      omega
    · rw [BitVec.msb_eq_false_iff_two_mul_lt, BitVec.toNat_ofNat]
      omega
  have hw : IntOp.addi (IntOp.subi (BitVec.ofNat 32 n) 126#32) 127#32 = BitVec.ofNat 32 (n + 1) := by
    apply BitVec.eq_of_toNat_eq
    simp only [IntOp.addi, IntOp.subi, BitVec.toNat_add, BitVec.toNat_sub, BitVec.toNat_ofNat]
    omega
  rw [kpow, if_neg hy, ofNat_shl n, e23, ← EReal.coe_mul, word_of_real _ (by positivity) (by linarith [show (2:ℝ)^23 < 2^31 by norm_num]), hs, hw, pow_bits _ (by omega) (by omega)]
  rw [show ((n + 1 : ℕ) : ℤ) - 127 = (n : ℤ) - 126 by push_cast; ring]

theorem kpow_real {r f : ℝ} (h : 0 < r) (h0 : 0 ≤ f) (h1 : f ≤ 1 - 2⁻¹ ^ 23) : kpow r (eword r) f = (((2 : ℝ) ^ ((cnt r : ℤ) - 126) : ℝ) : EReal) := by
  rw [eword_real h]
  exact kpow_word (by exact_mod_cast h.ne') (cnt_le r) h0 h1

theorem term_top (j : Fin 256) : (FloatOps.sitofp (F := Ideal) FTy.f32 (BitVec.setWidth 32 (IntOp.andi (IntOp.andi (IntOp.cmpi CmpIPredicate.sge (BitVec.ofNat 32 j.val) 1#32)
    (IntOp.cmpi CmpIPredicate.slt (BitVec.ofNat 32 j.val) 253#32)) (BitVec.ofBool (decide (Ideal.ofBits FTy.f32 (IntOp.shli .vector (BitVec.ofNat 32 j.val) 23#32) ≤ (⊤ : EReal))))) : BitVec 32) : EReal)
    = (((if 1 ≤ j.val ∧ j.val < 253 then 1 else 0 : ℝ)) : EReal) := by
  rw [range_bit, one_bit, decide_eq_true (le_top : _ ≤ (⊤ : EReal)), Bool.and_true]
  by_cases hj : 1 ≤ j.val ∧ j.val < 253
  · rw [decide_eq_true hj, if_pos rfl, if_pos hj]
    show (((1#32).toInt : ℝ) : EReal) = _
    norm_num
  · rw [decide_eq_false hj, if_neg Bool.false_ne_true, if_neg hj]
    show (((0#32).toInt : ℝ) : EReal) = _
    norm_num

/-- An infinite number reaches all of them. -/
theorem eword_top : eword ⊤ = BitVec.ofNat 32 252 := by
  have e : (Finset.univ.filter fun j : Fin 256 => 1 ≤ j.val ∧ j.val < 253).card = 252 := by decide
  rw [eword, Finset.sum_congr rfl fun j _ => term_top j, sum_real, Finset.sum_boole, e, word_of_real _ (Nat.cast_nonneg _) (by norm_num), Nat.floor_natCast]

theorem bits_below_one : Ideal.ofBits FTy.f32 1065353214#32 = ((1 - 2⁻¹ ^ 23 : ℝ) : EReal) := by
  rw [show ((1 : ℝ) - 2⁻¹ ^ 23) = 16777214 * (2 ^ 24)⁻¹ by norm_num, EReal.coe_mul]
  simp [Ideal.ofBits, Ideal.ieee]

/-- The fraction left is between 0 and the greatest below 1. -/
theorem frac_real (y e : ℝ) : ∃ f : ℝ, 0 ≤ f ∧ f ≤ 1 - 2⁻¹ ^ 23 ∧ min (Ideal.ofBits FTy.f32 1065353214#32) (max 0 ((y : EReal) * e - 1)) = (f : EReal) := by
  refine ⟨min (1 - 2⁻¹ ^ 23) (max 0 (y * e - 1)), le_min (by norm_num) (le_max_left _ _), min_le_left _ _, ?_⟩
  have e2 : (y : EReal) * e - 1 = ((y * e - 1 : ℝ) : EReal) := by
    rw [EReal.coe_sub, EReal.coe_mul]
    rfl
  rw [bits_below_one, e2, EReal.coe_strictMono.monotone.map_min, EReal.coe_strictMono.monotone.map_max]
  rfl

/-- The power of two just above a number, by its logarithm. -/
def rpow (a y : EReal) : EReal :=
  Ideal.exp ((if a = 0 then 0 else min (Ideal.ofBits FTy.f32 0x42FC0000#32) (max (Ideal.ofBits FTy.f32 0xC2FC0000#32) (Ideal.liftRound Int.floor (Ideal.div (Ideal.log y) (Ideal.log (Ideal.ofBits FTy.f32 0x40000000#32))) + 1)))
    * Ideal.log (Ideal.ofBits FTy.f32 0x40000000#32))

theorem rpow_zero (y : EReal) : rpow 0 y = 1 := by
  rw [rpow, if_pos rfl, zero_mul]
  exact (exp_real 0).trans (by simp)

theorem bits_126 : Ideal.ofBits FTy.f32 0x42FC0000#32 = ((126 : ℝ) : EReal) := by simp [Ideal.ofBits, Ideal.ieee]; rw [← EReal.coe_mul]; norm_num
theorem bits_neg_126 : Ideal.ofBits FTy.f32 0xC2FC0000#32 = ((-126 : ℝ) : EReal) := by simp [Ideal.ofBits, Ideal.ieee]; rw [← EReal.coe_mul]; norm_num
theorem bits_2 : Ideal.ofBits FTy.f32 0x40000000#32 = ((2 : ℝ) : EReal) := by simp [Ideal.ofBits, Ideal.ieee]; rw [← EReal.coe_mul]; norm_num

theorem rpow_real {a : EReal} (ha : a ≠ 0) {r : ℝ} (h : 0 < r) : rpow a r = (((2 : ℝ) ^ ((cnt r : ℤ) - 126) : ℝ) : EReal) := by
  have h2 : 0 < Real.log 2 := Real.log_pos one_lt_two
  have hd : Ideal.div ((Real.log r : ℝ) : EReal) ((Real.log 2 : ℝ) : EReal) = ((Real.log r / Real.log 2 : ℝ) : EReal) := by
    rw [Ideal.div, if_neg (by exact_mod_cast h2.ne'), ← EReal.coe_inv, ← EReal.coe_mul, div_eq_mul_inv]
  have hl : Ideal.liftRound Int.floor ((Real.log r / Real.log 2 : ℝ) : EReal) = ((lg r : ℝ) : EReal) := rfl
  have hm : min (126 : ℝ) (max (-126) ((lg r : ℝ) + 1)) = (((cnt r : ℤ) - 126 : ℤ) : ℝ) := by
    have : min (126 : ℤ) (max (-126) (lg r + 1)) = (cnt r : ℤ) - 126 := by unfold cnt; omega
    rw [← this]
    push_cast
    rfl
  rw [rpow, if_neg ha, bits_126, bits_neg_126, bits_2, log_real h, log_real two_pos, hd, hl, show (1 : EReal) = ((1 : ℝ) : EReal) from rfl, ← EReal.coe_add, ← EReal.coe_strictMono.monotone.map_max, ← EReal.coe_strictMono.monotone.map_min, hm, ← EReal.coe_mul, exp_real,
    mul_comm, Real.exp_mul, Real.exp_log two_pos, Real.rpow_intCast]

theorem rpow_top : rpow ⊤ ⊤ = (((2 : ℝ) ^ ((252 : ℤ) - 126) : ℝ) : EReal) := by
  have h2 : 0 < Real.log 2 := Real.log_pos one_lt_two
  have hd : Ideal.div (Ideal.log ⊤) ((Real.log 2 : ℝ) : EReal) = ⊤ := by
    rw [Ideal.div, if_neg (by exact_mod_cast h2.ne'), ← EReal.coe_inv]
    exact EReal.top_mul_coe_of_pos (inv_pos.2 h2)
  have hl : Ideal.liftRound Int.floor ⊤ + 1 = ⊤ := rfl
  rw [rpow, if_neg (by decide), bits_126, bits_neg_126, bits_2, log_real two_pos, hd, hl, max_eq_right le_top, min_eq_left le_top, ← EReal.coe_mul, exp_real, mul_comm, Real.exp_mul, Real.exp_log two_pos]
  norm_num

end Cert.Nums

end
-- ==== Proof.Ideal.Scale.lean ====
/-
  The scale the kernel writes for a sequence: the power of two just above its greatest output over 448.
-/
module

public import proofs.«01_k».proof.Proof.Ideal.Value
public import proofs.«01_k».proof.Proof.Exponent

@[expose] public section

noncomputable section

namespace Cert.KernelIdeal.Hand

open Cert.KernelIdeal Cert.KernelIdeal.Gen Cert.Nums
open Idealize.ShloMosaic

/-- The greatest magnitude of an output. -/
def peak (X : FVec Ideal S64x71 .f32) : EReal :=
  Finset.fold max (Ideal.ofBits FTy.f32 4286578688#32) (fun x : Fin 64 => Finset.fold max (Ideal.ofBits FTy.f32 4286578688#32) (fun y : Fin 71 => (FloatOps.absf (X (ix2 x y)) : EReal)) Finset.univ) Finset.univ

section
variable (a : FVec Ideal S64x72 .f32) (b : FVec Ideal S1x72 .f32) (c d : FVec Ideal S64x72 .f32)

theorem pay391_apply : k0_pay391 (F := Ideal) a b c d (ix2 0 0) = (peak (k0_pay389 a b c d) * Ideal.ofBits FTy.f32 991054117#32 : EReal) := by
  unfold k0_pay391
  generalize k0_pay389 (F := Ideal) a b c d = X
  unfold peak
  pointwise []
theorem pay392_apply : k0_pay392 (F := Ideal) a b c d (ix2 0 0) = eword (k0_pay391 (F := Ideal) a b c d (ix2 0 0)) := by
  unfold k0_pay392 eword
  generalize k0_pay391 (F := Ideal) a b c d = X
  pointwise []
theorem pay393_apply : k0_pay393 (F := Ideal) a b c d (ix2 0 0)
    = (max 0 (k0_pay391 (F := Ideal) a b c d (ix2 0 0) * Ideal.ofBits FTy.f32 (IntOp.shli .vector (IntOp.subi (254#32) (k0_pay392 (F := Ideal) a b c d (ix2 0 0))) 23#32) - 1) : EReal) := by
  unfold k0_pay393
  generalize k0_pay391 (F := Ideal) a b c d = X
  generalize k0_pay392 (F := Ideal) a b c d = Y
  pointwise []
theorem pay397_apply (x : FVec Ideal S1x1 .f32) (e : IVec S1x1 32) (f g : FVec Ideal S1x1 .f32) (j : Fin 128) :
    k0_pay397 (F := Ideal) x e f g (ix2 0 j) = (kpow (x (ix2 0 0)) (e (ix2 0 0)) (min (g (ix2 0 0)) (f (ix2 0 0))) : EReal) := by
  unfold k0_pay397 k0_pay395 kpow
  pointwise []
theorem pay394_apply : k0_pay394 (F := Ideal) (ix2 0 0) = (Ideal.ofBits FTy.f32 1065353214#32 : EReal) := by
  pointwise [k0_pay394]
theorem pay389_apply (i : Fin 64) (h : Fin 71) : k0_pay389 (F := Ideal) a b c d (ix2 i h) = (k0_pay390 (F := Ideal) a b c d (ix3 0 i h) : EReal) := by
  unfold k0_pay390
  generalize k0_pay389 (F := Ideal) a b c d = X
  pointwise []
end

section
variable (a b c : FVec Ideal S64x72 .f32)

theorem pay412_apply : k0_pay412 (F := Ideal) a b c (ix2 0 0) = (peak (k0_pay410 a b c) * Ideal.ofBits FTy.f32 991054117#32 : EReal) := by
  unfold k0_pay412
  generalize k0_pay410 (F := Ideal) a b c = X
  unfold peak
  pointwise []
theorem pay413_apply : k0_pay413 (F := Ideal) a b c (ix2 0 0) = eword (k0_pay412 (F := Ideal) a b c (ix2 0 0)) := by
  unfold k0_pay413 eword
  generalize k0_pay412 (F := Ideal) a b c = X
  pointwise []
theorem pay414_apply : k0_pay414 (F := Ideal) a b c (ix2 0 0)
    = (min (Ideal.ofBits FTy.f32 1065353214#32) (max 0 (k0_pay412 (F := Ideal) a b c (ix2 0 0) * Ideal.ofBits FTy.f32 (IntOp.shli .vector (IntOp.subi (254#32) (k0_pay413 (F := Ideal) a b c (ix2 0 0))) 23#32) - 1)) : EReal) := by
  unfold k0_pay414
  generalize k0_pay412 (F := Ideal) a b c = X
  generalize k0_pay413 (F := Ideal) a b c = Y
  pointwise []
theorem pay418_apply (x : FVec Ideal S1x1 .f32) (e : IVec S1x1 32) (f : FVec Ideal S1x1 .f32) (j : Fin 128) :
    k0_pay418 (F := Ideal) x e f 23#32 (ix2 0 j) = (kpow (x (ix2 0 0)) (e (ix2 0 0)) (f (ix2 0 0)) : EReal) := by
  unfold k0_pay418 k0_pay416 k0_pay415 kpow
  pointwise []
theorem pay410_apply (i : Fin 64) (h : Fin 71) : k0_pay410 (F := Ideal) a b c (ix2 i h) = (k0_pay411 (F := Ideal) a b c (ix3 0 i h) : EReal) := by
  unfold k0_pay411
  generalize k0_pay410 (F := Ideal) a b c = X
  pointwise []
end

theorem fp8_max : ∃ c : ℝ, 0 < c ∧ Ideal.ofBits FTy.f32 991054117#32 = (c : EReal) := by
  refine ⟨9586981 * (2 ^ 32)⁻¹, by norm_num, ?_⟩
  rw [EReal.coe_mul]
  simp [Ideal.ofBits, Ideal.ieee]

/-- The kernel's power of two of a greatest magnitude, by the logarithm. -/
theorem kpow_eq (p : EReal) (h : 0 ≤ p) : kpow (p * Ideal.ofBits FTy.f32 991054117#32) (eword (p * Ideal.ofBits FTy.f32 991054117#32))
    (min (Ideal.ofBits FTy.f32 1065353214#32) (max 0 (p * Ideal.ofBits FTy.f32 991054117#32 * Ideal.ofBits FTy.f32 (IntOp.shli .vector (IntOp.subi (254#32) (eword (p * Ideal.ofBits FTy.f32 991054117#32))) 23#32) - 1)))
    = rpow p (p * Ideal.ofBits FTy.f32 991054117#32) := by
  obtain ⟨c, hc, e⟩ := fp8_max
  rw [e]
  induction p with
  | bot => exact absurd h (not_le.2 EReal.bot_lt_zero)
  | top =>
    have e2 : IntOp.subi (254#32) (BitVec.ofNat 32 252) = BitVec.ofNat 32 2 := by decide
    obtain ⟨f, h0, h1, ef⟩ : ∃ f : ℝ, 0 ≤ f ∧ f ≤ 1 - 2⁻¹ ^ 23 ∧ min (Ideal.ofBits FTy.f32 1065353214#32) (max 0 ((⊤ : EReal) - 1)) = (f : EReal) :=
      ⟨1 - 2⁻¹ ^ 23, by norm_num, le_rfl, by rw [show (⊤ : EReal) - 1 = ⊤ from rfl, max_eq_right le_top, min_eq_left le_top, bits_below_one]⟩
    rw [EReal.top_mul_coe_of_pos hc, rpow_top, eword_top, e2, pow_bits 2 (by omega) (by omega), EReal.top_mul_coe_of_pos (by positivity), ef]
    exact kpow_word (by decide) le_rfl h0 h1
  | coe p =>
    rw [← EReal.coe_mul]
    rcases (EReal.coe_nonneg.1 h).eq_or_lt with rfl | hp
    · rw [zero_mul]
      exact (kpow_zero _ _).trans (rpow_zero _).symm
    · have hy : 0 < p * c := mul_pos hp hc
      have hn := cnt_le (p * c)
      have hw : IntOp.subi (254#32) (BitVec.ofNat 32 (cnt (p * c))) = BitVec.ofNat 32 (254 - cnt (p * c)) := by
        generalize cnt (p * c) = n at hn ⊢
        apply BitVec.eq_of_toNat_eq
        simp only [IntOp.subi, BitVec.toNat_sub, BitVec.toNat_ofNat]
        omega
      obtain ⟨f, h0, h1, ef⟩ := frac_real (p * c) ((2 : ℝ) ^ (((254 - cnt (p * c) : ℕ) : ℤ) - 127))
      rw [rpow_real (by exact_mod_cast hp.ne') hy, ← kpow_real hy h0 h1, ← ef, ← pow_bits _ (by omega) (by omega), ← hw, ← eword_real hy]

theorem peak_le (X : FVec Ideal S64x71 .f32) (t : EReal) : peak X ≤ t ↔ (Ideal.ofBits FTy.f32 4286578688#32 : EReal) ≤ t ∧ ∀ (i : Fin 64) (h : Fin 71), max (X (ix2 i h) : EReal) (-X (ix2 i h)) ≤ t := by
  unfold peak
  constructor
  · intro h
    exact ⟨((Finset.fold_max_le _).1 h).1, fun i j => ((Finset.fold_max_le _).1 (((Finset.fold_max_le _).1 h).2 i (Finset.mem_univ _))).2 j (Finset.mem_univ _)⟩
  · rintro ⟨h0, h⟩
    exact (Finset.fold_max_le _).2 ⟨h0, fun i _ => (Finset.fold_max_le _).2 ⟨h0, fun j _ => h i j⟩⟩

/-- The greatest magnitude is not negative. -/
theorem peak_nonneg (X : FVec Ideal S64x71 .f32) : 0 ≤ peak X := by
  refine le_trans ?_ (((peak_le X (peak X)).1 le_rfl).2 0 0)
  rcases le_total (0 : EReal) (X (ix2 0 0)) with h | h
  · exact h.trans (le_max_left _ _)
  · exact (EReal.neg_nonneg.2 h).trans (le_max_right _ _)

section
variable {I : Seq Ideal} {D : Dat} (O : Of I D)

/-- A way's scale is made of its own output's greatest magnitude. -/
theorem far_scale (ml : FVec Ideal S1x72x128 .f32 × FVec Ideal S1x72x128 .f32) (hT : ∀ (i : Fin 64) (h : Fin 71), I.far8 ml (ix3 0 i h) = (D.T i ⟨h.val, by omega⟩ : EReal)) (j : Fin 128) :
    ∃ X : FVec Ideal S64x71 .f32, (∀ (i : Fin 64) (h : Fin 71), X (ix2 i h) = (D.T i ⟨h.val, by omega⟩ : EReal)) ∧ I.far10 ml (ix2 0 j) = rpow (peak X) (peak X * Ideal.ofBits FTy.f32 991054117#32) := by
  have hX : ∀ (i : Fin 64) (h : Fin 71), k0_pay389 (I.accL ml).2 (I.v271 ml) (k0_pay387 I.cv) (k0_pay388 (F := Ideal)) (ix2 i h) = (D.T i ⟨h.val, by omega⟩ : EReal) := fun i h => by rw [pay389_apply]; exact hT i h
  refine ⟨_, hX, ?_⟩
  rw [Seq.far10, pay397_apply, pay394_apply, pay393_apply, pay392_apply, pay391_apply]
  exact kpow_eq _ (peak_nonneg _)

include O in
theorem near_scale (j : Fin 128) :
    ∃ X : FVec Ideal S64x71 .f32, (∀ (i : Fin 64) (h : Fin 71), X (ix2 i h) = (D.T i ⟨h.val, by omega⟩ : EReal)) ∧ I.near10 (ix2 0 j) = rpow (peak X) (peak X * Ideal.ofBits FTy.f32 991054117#32) := by
  have hX : ∀ (i : Fin 64) (h : Fin 71), k0_pay410 I.v80 I.v82 I.v83 (ix2 i h) = (D.T i ⟨h.val, by omega⟩ : EReal) := fun i h => by rw [pay410_apply]; exact near_val O i h
  refine ⟨_, hX, ?_⟩
  rw [Seq.near10, pay418_apply, pay414_apply, pay413_apply, pay412_apply]
  exact kpow_eq _ (peak_nonneg _)

include O in
/-- Whichever way it takes. -/
theorem out10_val (j : Fin 128) :
    ∃ X : FVec Ideal S64x71 .f32, (∀ (i : Fin 64) (h : Fin 71), X (ix2 i h) = (D.T i ⟨h.val, by omega⟩ : EReal)) ∧ I.out10 (ix2 0 j) = rpow (peak X) (peak X * Ideal.ofBits FTy.f32 991054117#32) := by
  have h8 := out8_val O
  unfold Seq.out8 at h8
  unfold Seq.out10
  split
  · rename_i hc
    refine far_scale _ (fun i h => ?_) j
    have := h8 i h
    rwa [if_pos hc] at this
  · exact near_scale O j

end

end Cert.KernelIdeal.Hand

end
-- ==== Proof.RefValue.lean ====
/-
  The reference's result at an entry, over the extended reals: its composed term in named pieces, each piece read at an entry.
-/
module

public import proofs.«01_k».proof.Proof.Gen.ReferenceIdeal.Run
public import proofs.«01_k».proof.Proof.Exponent
public import Idealize.ShloMosaic.Lib.Pointwise
public import Idealize.ShloMosaic.Lib.KernelVsHost

@[expose] public section

noncomputable section

namespace Cert.ReferenceIdeal.Value

open Cert.ReferenceIdeal Cert.ReferenceIdeal.Gen
open Idealize.ShloMosaic Idealize.ShloMosaic.TcCoe

section Pieces
variable {F : FTy → Type} [FloatOps F]
variable (tab : IVec S24x2048 32) (len : IVec S24 32) (pool : IVec S122880x128 32) (scales : FVec F S32x49152 .f32)
  (q : FVec F S24x80x64 .bf16) (ms : FVec F S24x72x128 .f32) (vc : FVec F S24x64 .f32) (vs : FVec F S24x128 .f32)

/-- The words of the pages the table names. -/
def gath : IVec S24x2048x2x16x8 32 :=
  Host.gather gather_S61440x2x16x8_S24x2048x1_S24x2048x2x16x8_234_0_n_n_0_2_12168 (shapeCast _ pool shapeCasts_S122880x128_S61440x2x16x8)
    (broadcastInDim S24x2048x1 ![0, 1] bcast_S24x2048_S24x2048x1_0_1 (select (cmpi .slt tab (broadcastInDim S24x2048 ![] bcast_S_S24x2048 (constantI S_ 32 0#32))) (addi tab (broadcastInDim S24x2048 ![] bcast_S_S24x2048 (constantI S_ 32 61440#32))) tab))

/-- Their codes. -/
def codes (g : IVec S24x2048x2x16x8 32) : FVec F S24x2048x2x16x8x8 .bf16 :=
  truncf .bf16 (sitofp .f32 (subi (xori (andi (Host.shrsi (broadcastInDim S24x2048x2x16x8x8 ![0, 1, 2, 3, 4, 5] bcast_S24x2048x2x16x8x1_S24x2048x2x16x8x8_0_1_2_3_4_5 (broadcastInDim S24x2048x2x16x8x1 ![0, 1, 2, 3, 4] bcast_S24x2048x2x16x8_S24x2048x2x16x8x1_0_1_2_3_4 g))
    (broadcastInDim S24x2048x2x16x8x8 ![0, 1, 2, 3, 4, 5] bcast_S1x1x1x1x1x8_S24x2048x2x16x8x8_0_1_2_3_4_5 (broadcastInDim S1x1x1x1x1x8 ![5] bcast_S8_S1x1x1x1x1x8_5 (muli (broadcastInDim S8 ![] bcast_S_S8 (constantI S_ 32 4#32)) (iotaInDim S8 32 0)))))
    (broadcastInDim S24x2048x2x16x8x8 ![] bcast_S_S24x2048x2x16x8x8 (constantI S_ 32 15#32))) (broadcastInDim S24x2048x2x16x8x8 ![] bcast_S_S24x2048x2x16x8x8 (constantI S_ 32 8#32))) (broadcastInDim S24x2048x2x16x8x8 ![] bcast_S_S24x2048x2x16x8x8 (constantI S_ 32 8#32)))) bitsLt_bf16_f32

def kf (cd : FVec F S24x2048x2x16x8x8 .bf16) : FVec F S24x2048x16x8x8 .bf16 :=
  shapeCast _ (extractStridedSlice S24x2048x1x16x8x8 ![0, 0, 0, 0, 0, 0] cd slices_S24x2048x2x16x8x8_S24x2048x1x16x8x8_0_0_0_0_0_0) shapeCasts_S24x2048x1x16x8x8_S24x2048x16x8x8
def vf (cd : FVec F S24x2048x2x16x8x8 .bf16) : FVec F S24x2048x16x8x8 .bf16 :=
  shapeCast _ (extractStridedSlice S24x2048x1x16x8x8 ![0, 0, 1, 0, 0, 0] cd slices_S24x2048x2x16x8x8_S24x2048x1x16x8x8_0_0_1_0_0_0) shapeCasts_S24x2048x1x16x8x8_S24x2048x16x8x8
def ksc : FVec F S24x71x2048x16 .f32 :=
  broadcastInDim S24x71x2048x16 ![0, 1, 2, 3] bcast_S24x1x2048x16_S24x71x2048x16_0_1_2_3 (broadcastInDim S24x1x2048x16 ![0, 2, 3] bcast_S24x2048x16_S24x1x2048x16_0_2_3 (shapeCast _ (extractStridedSlice S1x24x2048x16 ![0, 0, 0, 0] (transpose S2x24x2048x16 [0, 2, 3, 1] (shapeCast _ scales shapeCasts_S32x49152_S2x16x24x2048) transposes_S2x16x24x2048_S2x24x2048x16_0_2_3_1) slices_S2x24x2048x16_S1x24x2048x16_0_0_0_0) shapeCasts_S1x24x2048x16_S24x2048x16))
def vsc : FVec F S24x71x2048x16 .f32 :=
  broadcastInDim S24x71x2048x16 ![0, 1, 2, 3] bcast_S24x1x2048x16_S24x71x2048x16_0_1_2_3 (broadcastInDim S24x1x2048x16 ![0, 2, 3] bcast_S24x2048x16_S24x1x2048x16_0_2_3 (shapeCast _ (extractStridedSlice S1x24x2048x16 ![1, 0, 0, 0] (transpose S2x24x2048x16 [0, 2, 3, 1] (shapeCast _ scales shapeCasts_S32x49152_S2x16x24x2048) transposes_S2x16x24x2048_S2x24x2048x16_0_2_3_1) slices_S2x24x2048x16_S1x24x2048x16_1_0_0_0) shapeCasts_S1x24x2048x16_S24x2048x16))
def raw (k : FVec F S24x2048x16x8x8 .bf16) : FVec F S24x71x2048x16 .f32 :=
  Host.dotGeneral dot_S24x71x8x8_S24x2048x16x8x8_S24x71x2048x16_32_43_1_12_0_0 none (shapeCast _ (extractStridedSlice S24x71x64 ![0, 0, 0] q slices_S24x80x64_S24x71x64_0_0_0) shapeCasts_S24x71x64_S24x71x8x8) k
def valid : IVec S24x71x2048x16 1 :=
  broadcastInDim S24x71x2048x16 ![0, 1, 2, 3] bcast_S24x1x2048x16_S24x71x2048x16_0_1_2_3 (broadcastInDim S24x1x2048x16 ![0, 2, 3] bcast_S24x2048x16_S24x1x2048x16_0_2_3 (cmpi .slt (broadcastInDim S24x2048x16 ![0, 1, 2] bcast_S1x2048x16_S24x2048x16_0_1_2 (addi (muli (broadcastInDim S1x2048x16 ![] bcast_S_S1x2048x16 (constantI S_ 32 16#32)) (iotaInDim S1x2048x16 32 1)) (iotaInDim S1x2048x16 32 2))) (broadcastInDim S24x2048x16 ![0, 1, 2] bcast_S24x1x1_S24x2048x16_0_1_2 (broadcastInDim S24x1x1 ![0] bcast_S24_S24x1x1_0 len))))
def scor (va : IVec S24x71x2048x16 1) (r k : FVec F S24x71x2048x16 .f32) : FVec F S24x71x2048x16 .f32 :=
  select va (mulf (mulf r k) (broadcastInDim S24x71x2048x16 ![] bcast_S_S24x71x2048x16 (constant S_ .f32 0x3E000000#32))) (broadcastInDim S24x71x2048x16 ![] bcast_S_S24x71x2048x16 (id (constant S_ .f32 0xFF800000#32)))
def sself : FVec F S24x71 .f32 :=
  mulf (shapeCast _ (extractStridedSlice S24x71x1 ![0, 0, 0] ms slices_S24x72x128_S24x71x1_0_0_0) shapeCasts_S24x71x1_S24x71) (Host.log (broadcastInDim S24x71 ![] bcast_S_S24x71 (constant S_ .f32 0x40000000#32)))
def mmax (sc : FVec F S24x71x2048x16 .f32) (ss : FVec F S24x71 .f32) : FVec F S24x71 .f32 :=
  maximumf (Host.reduce FloatOps.maximumf sc (constant S_ .f32 0xFF800000#32) reducesTo_S24x71x2048x16_S24x71_d2_3 h_S_) ss
def spread (x : FVec F S24x71 .f32) : FVec F S24x71x2048x16 .f32 :=
  broadcastInDim S24x71x2048x16 ![0, 1, 2, 3] bcast_S24x71x1x1_S24x71x2048x16_0_1_2_3 (broadcastInDim S24x71x1x1 ![0, 1] bcast_S24x71_S24x71x1x1_0_1 x)
def ec (sc : FVec F S24x71x2048x16 .f32) (mx : FVec F S24x71 .f32) : FVec F S24x71x2048x16 .f32 := Host.exp (subf sc (spread mx))
def es (ss mx : FVec F S24x71 .f32) : FVec F S24x71 .f32 := Host.exp (subf ss mx)
def invr (e : FVec F S24x71x2048x16 .f32) (s : FVec F S24x71 .f32) : FVec F S24x71 .f32 :=
  Host.divf (broadcastInDim S24x71 ![] bcast_S_S24x71 (constant S_ .f32 0x3F800000#32)) (addf (Host.reduceAdd e (constant S_ .f32 0x00000000#32) reducesTo_S24x71x2048x16_S24x71_d2_3 h_S_) s)
def pvr (e v : FVec F S24x71x2048x16 .f32) (i : FVec F S24x71 .f32) : FVec F S24x71x2048x16 .bf16 := truncf .bf16 (mulf (mulf e (spread i)) v) bitsLt_bf16_f32
def psr (s i : FVec F S24x71 .f32) : FVec F S24x71 .f32 :=
  extf .f32 (truncf .bf16 (mulf (mulf s i) (extractStridedSlice S24x71 ![0, 0] vs slices_S24x128_S24x71_0_0)) bitsLt_bf16_f32) bitsLt_bf16_f32
/-- The output before its last rounding, and after it, transposed. -/
def out (pv : FVec F S24x71x2048x16 .bf16) (v : FVec F S24x2048x16x8x8 .bf16) (ps : FVec F S24x71 .f32) : FVec F S24x71x64 .f32 :=
  addf (shapeCast _ (Host.dotGeneral dot_S24x71x2048x16_S24x2048x16x8x8_S24x71x8x8_23_12_1_34_0_0 none pv v) shapeCasts_S24x71x8x8_S24x71x64)
    (mulf (broadcastInDim S24x71x64 ![0, 1, 2] bcast_S24x71x1_S24x71x64_0_1_2 (broadcastInDim S24x71x1 ![0, 1] bcast_S24x71_S24x71x1_0_1 ps)) (broadcastInDim S24x71x64 ![0, 1, 2] bcast_S24x1x64_S24x71x64_0_1_2 (broadcastInDim S24x1x64 ![0, 2] bcast_S24x64_S24x1x64_0_2 vc)))
def fin (pv : FVec F S24x71x2048x16 .bf16) (v : FVec F S24x2048x16x8x8 .bf16) (ps : FVec F S24x71 .f32) : FVec F S24x64x71 .bf16 :=
  transpose S24x64x71 [0, 2, 1] (truncf .bf16 (out vc pv v ps) bitsLt_bf16_f32) transposes_S24x71x64_S24x64x71_0_2_1

/-- The scores, the shift, the weights, the token's own weight, the reciprocal of their sum. -/
def SC : FVec F S24x71x2048x16 .f32 := scor (valid len) (raw q (kf (codes (gath tab pool)))) (ksc scales)
def MX : FVec F S24x71 .f32 := mmax (SC tab len pool scales q) (sself ms)
def EC : FVec F S24x71x2048x16 .f32 := ec (SC tab len pool scales q) (MX tab len pool scales q ms)
def ES : FVec F S24x71 .f32 := es (sself ms) (MX tab len pool scales q ms)
def INV : FVec F S24x71 .f32 := invr (EC tab len pool scales q ms) (ES tab len pool scales q ms)
def RES : FVec F S24x64x71 .bf16 :=
  fin vc (pvr (EC tab len pool scales q ms) (vsc scales) (INV tab len pool scales q ms)) (vf (codes (gath tab pool))) (psr vs (ES tab len pool scales q ms) (INV tab len pool scales q ms))

def OUT : FVec F S24x71x64 .f32 :=
  out vc (pvr (EC tab len pool scales q ms) (vsc scales) (INV tab len pool scales q ms)) (vf (codes (gath tab pool))) (psr vs (ES tab len pool scales q ms) (INV tab len pool scales q ms))

/-- The greatest magnitude of a sequence's output, and the scale made of it. -/
def top (o : FVec F S24x71x64 .f32) : FVec F S24 .f32 := Host.reduce FloatOps.maximumf (Host.absf o) (constant S_ .f32 0xFF800000#32) reducesTo_S24x71x64_S24_d1_2 h_S_
def scl (a : FVec F S24 .f32) : FVec F S24x128 .f32 :=
  broadcastInDim S24x128 ![0, 1] bcast_S24x1_S24x128_0_1 (broadcastInDim S24x1 ![0] bcast_S24_S24x1_0 (Host.exp (mulf (select (cmpf .oeq a (broadcastInDim S24 ![] bcast_S_S24 (constant S_ .f32 0x00000000#32))) (broadcastInDim S24 ![] bcast_S_S24 (id (constant S_ .f32 0x00000000#32)))
    (minimumf (broadcastInDim S24 ![] bcast_S_S24 (id (constant S_ .f32 0x42FC0000#32))) (maximumf (broadcastInDim S24 ![] bcast_S_S24 (id (constant S_ .f32 0xC2FC0000#32)))
      (addf (Host.floor (Host.divf (Host.log (mulf a (broadcastInDim S24 ![] bcast_S_S24 (constant S_ .f32 0x3B124925#32)))) (Host.log (broadcastInDim S24 ![] bcast_S_S24 (constant S_ .f32 0x40000000#32))))) (broadcastInDim S24 ![] bcast_S_S24 (constant S_ .f32 0x3F800000#32))))))
    (Host.log (broadcastInDim S24 ![] bcast_S_S24 (constant S_ .f32 0x40000000#32))))))
def SCALE : FVec F S24x128 .f32 := scl (top (OUT tab len pool scales q ms vc vs))

set_option maxRecDepth 8192 in
theorem scale_eq (m : (ℓ : Loc nD τ sig) → Buf (Elt F) ℓ) (c : Dev nD) :
    res_main_v110 m c = SCALE (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

set_option maxRecDepth 8192 in
theorem res_eq (m : (ℓ : Loc nD τ sig) → Buf (Elt F) ℓ) (c : Dev nD) :
    res_main_v108 m c = RES (F := F) (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

end Pieces

section Entries
variable (tab : IVec S24x2048 32) (len : IVec S24 32) (pool : IVec S122880x128 32) (scales : FVec Ideal S32x49152 .f32)
  (q : FVec Ideal S24x80x64 .bf16) (ms : FVec Ideal S24x72x128 .f32) (vc : FVec Ideal S24x64 .f32) (vs : FVec Ideal S24x128 .f32)
variable (s : Fin 24) (h : Fin 71) (p : Fin 2048) (t : Fin 16) (w n : Fin 8) (d : Fin 64)

theorem codes_apply (g) (b : Fin 2) : codes (F := Ideal) g (ix6 s p b t w n)
    = (FloatOps.sitofp .f32 (IntOp.subi (IntOp.xori (IntOp.andi (IntOp.shrsi .host (g (ix5 s p b t w)) (IntOp.muli (4#32) (BitVec.ofNat 32 n.val))) 15#32) 8#32) 8#32) : Ideal .f32) := by
  pointwise [codes]
theorem kf_apply (cd : FVec Ideal S24x2048x2x16x8x8 .bf16) : kf cd (ix5 s p t w n) = (cd (ix6 s p 0 t w n) : EReal) := by
  pointwise [kf]
theorem vf_apply (cd : FVec Ideal S24x2048x2x16x8x8 .bf16) : vf cd (ix5 s p t w n) = (cd (ix6 s p 1 t w n) : EReal) := by
  pointwise [vf]
theorem ksc_apply : ksc scales (ix4 s h p t) = (scales (ix2 ⟨t.val, by omega⟩ ⟨s.val * 2048 + p.val, by omega⟩) : EReal) := by
  pointwise [ksc]
theorem vsc_apply : vsc scales (ix4 s h p t) = (scales (ix2 ⟨16 + t.val, by omega⟩ ⟨s.val * 2048 + p.val, by omega⟩) : EReal) := by
  pointwise [vsc]
theorem raw_apply (k : FVec Ideal S24x2048x16x8x8 .bf16) : raw q k (ix4 s h p t)
    = (∑ x : Fin 8, ∑ x_1 : Fin 8, q (ix3 s ⟨h.val, by omega⟩ ⟨x_1.val * 8 + x.val, by omega⟩) * k (ix5 s p t x_1 x) : EReal) := by
  pointwise [raw]
theorem valid_apply : valid len (ix4 s h p t) = IntOp.cmpi .slt (IntOp.addi (IntOp.muli (16#32) (BitVec.ofNat 32 p.val)) (BitVec.ofNat 32 t.val)) (len (ix1 s)) := by
  pointwise [valid]
theorem scor_apply (va) (r k : FVec Ideal S24x71x2048x16 .f32) : scor va r k (ix4 s h p t)
    = (Scalar.select (va (ix4 s h p t)) (r (ix4 s h p t) * k (ix4 s h p t) * Ideal.ofBits .f32 1040187392#32) (Ideal.ofBits .f32 4286578688#32) : EReal) := by
  pointwise [scor]
  rfl
theorem sself_apply : sself ms (ix2 s h) = (ms (ix3 s ⟨h.val, by omega⟩ 0) * Ideal.log (Ideal.ofBits .f32 1073741824#32) : EReal) := by
  pointwise [sself]
theorem ec_apply (sc : FVec Ideal S24x71x2048x16 .f32) (ss) : ec sc ss (ix4 s h p t) = (Ideal.exp (sc (ix4 s h p t) - ss (ix2 s h)) : EReal) := by
  pointwise [ec, spread]
theorem es_apply (sc ss) : es (F := Ideal) sc ss (ix2 s h) = (Ideal.exp (sc (ix2 s h) - ss (ix2 s h)) : EReal) := by
  pointwise [es]
theorem invr_apply (sc : FVec Ideal S24x71x2048x16 .f32) (ss) : invr sc ss (ix2 s h) = (Ideal.div 1 (∑ x, ∑ x_1, sc (ix4 s h x x_1) + ss (ix2 s h)) : EReal) := by
  pointwise [invr]
theorem pvr_apply (sc v : FVec Ideal S24x71x2048x16 .f32) (ss) : pvr sc v ss (ix4 s h p t) = (sc (ix4 s h p t) * ss (ix2 s h) * v (ix4 s h p t) : EReal) := by
  pointwise [pvr, spread]
theorem psr_apply (a i) : psr vs a i (ix2 s h) = (a (ix2 s h) * i (ix2 s h) * vs (ix2 s ⟨h.val, by omega⟩) : EReal) := by
  pointwise [psr]
theorem fin_apply (pv) (v : FVec Ideal S24x2048x16x8x8 .bf16) (ps) : fin vc pv v ps (ix3 s d h)
    = (∑ x, ∑ x_1, pv (ix4 s h x x_1) * v (ix5 s x x_1 ⟨d.val / 8, by omega⟩ ⟨d.val % 8, by omega⟩) + ps (ix2 s h) * vc (ix2 s d) : EReal) := by
  pointwise [fin, out]
/-- The last rounding is the identity here. -/
theorem out_apply : OUT tab len pool scales q ms vc vs (ix3 s h d) = (RES tab len pool scales q ms vc vs (ix3 s d h) : EReal) := by
  unfold RES fin OUT
  generalize out (F := Ideal) vc _ _ _ = o
  pointwise []
theorem top_apply (o : FVec Ideal S24x71x64 .f32) : top o (ix1 s)
    = (Finset.fold max (Ideal.ofBits FTy.f32 4286578688#32) (fun x : Fin 71 × Fin 64 => (FloatOps.absf (o (ix3 s x.1 x.2)) : EReal)) Finset.univ : EReal) := by
  unfold top
  rw [hostReduce_maximumf_eq_multiReduction _ _ _ _ (by decide) (by decide) (by decide)]
  pointwise []
theorem scl_apply (a : FVec Ideal S24 .f32) (j : Fin 128) : scl a (ix2 s j) = (Nums.rpow (a (ix1 s)) (a (ix1 s) * Ideal.ofBits FTy.f32 991054117#32) : EReal) := by
  have e0 : id (constant (F := Ideal) S_ FTy.f32 0#32) ix0 = (0 : EReal) := (show Ideal.ofBits FTy.f32 0#32 = 0 by simp [Ideal.ofBits, Ideal.ieee])
  unfold scl Nums.rpow
  pointwise []
  rw [e0]
  rfl

theorem maximumf_at {sh : Shape} (x y : FVec Ideal sh .f32) (i : sh.Idx) : maximumf x y i = (max (x i) (y i) : EReal) := rfl

theorem reduce_lt {sh u v : Shape} {axes : List (Fin sh.rank)} (x : FVec Ideal sh .f32) (init : FVec Ideal v .f32) (h : sh.ReducesTo axes u) (hu : 0 < v.numel)
    (hx : ∀ y, (x y : EReal) < ⊤) (hi : ∀ y, (init y : EReal) < ⊤) (j : u.Idx) :
    (Host.reduce (FloatOps.maximumf (F := Ideal) (φ := .f32)) x init h hu j : EReal) < ⊤ := by
  rw [Host.reduce_eq_fold]
  exact (Finset.fold_max_lt (c := (⊤ : EReal))).2 ⟨hi _, fun x _ => hx x⟩

theorem max_real {a b : EReal} (ha : a < ⊤) (hb : ∃ r : ℝ, b = r) : ∃ r : ℝ, max a b = r := by
  obtain ⟨r, rfl⟩ := hb
  have h1 : max a r < ⊤ := max_lt ha (EReal.coe_lt_top r)
  have h2 : ⊥ < max a r := lt_max_of_lt_right (EReal.bot_lt_coe r)
  exact ⟨_, (EReal.coe_toReal h1.ne h2.ne').symm⟩

theorem mmax_real (sc : FVec Ideal S24x71x2048x16 .f32) (ss : FVec Ideal S24x71 .f32) (hs : ∀ y, (sc y : EReal) < ⊤) (y : S24x71.Idx) (hy : ∃ r : ℝ, (ss y : EReal) = r) :
    ∃ r : ℝ, (mmax sc ss y : EReal) = r := by
  rw [mmax, maximumf_at]
  refine max_real (reduce_lt _ _ _ _ hs (fun y => ?_) _) hy
  show Ideal.ofBits .f32 0xFF800000#32 < (⊤ : EReal)
  simp [Ideal.ofBits, Ideal.ieee]

theorem start_apply : (select (cmpi .slt tab (broadcastInDim S24x2048 ![] bcast_S_S24x2048 (constantI S_ 32 0#32))) (addi tab (broadcastInDim S24x2048 ![] bcast_S_S24x2048 (constantI S_ 32 61440#32))) tab) (ix2 s p)
    = Scalar.select (IntOp.cmpi .slt (tab (ix2 s p)) 0#32) (IntOp.addi (tab (ix2 s p)) 61440#32) (tab (ix2 s p)) := rfl

theorem gath_apply (b : Fin 2) (hp : (tab (ix2 s p)).toNat < 61440) : gath tab pool (ix5 s p b t w)
    = pool (ix2 ⟨(tab (ix2 s p)).toNat * 2 + b.val, by omega⟩ ⟨t.val * 8 + w.val, by omega⟩) := by
  set G := gather_S61440x2x16x8_S24x2048x1_S24x2048x2x16x8_234_0_n_n_0_2_12168 with hG
  have hI : (tab (ix2 s p)).toInt = (tab (ix2 s p)).toNat := BitVec.toInt_eq_toNat_of_lt (by omega)
  have key : gath tab pool (ix5 s p b t w) = shapeCast S61440x2x16x8 pool shapeCasts_S122880x128_S61440x2x16x8 (ix4 ⟨(tab (ix2 s p)).toNat, hp⟩ b t w) := by
    unfold gath Host.gather
    congr 1
    funext a
    refine Fin.ext ?_
    rw [← hG]
    show G.start _ _ a + G.batchCoord _ a + G.offCoord _ a = _
    rw [GatherDims.batchCoord_eq_zero _ _ _ List.not_mem_nil]
    have h4 : a = 0 ∨ a = 1 ∨ a = 2 ∨ a = 3 := by
      match a with
      | ⟨0, _⟩ => exact Or.inl rfl
      | ⟨1, _⟩ => exact Or.inr (Or.inl rfl)
      | ⟨2, _⟩ => exact Or.inr (Or.inr (Or.inl rfl))
      | ⟨3, _⟩ => exact Or.inr (Or.inr (Or.inr rfl))
    rcases h4 with rfl | rfl | rfl | rfl
    · rw [GatherDims.offCoord_eq_zero _ _ _ (fun h => ((GatherDims.mem_sKept _ _).mp h).1 (List.mem_singleton.mpr rfl))]
      unfold GatherDims.start
      rw [dif_pos (show (0 : Fin 4) ∈ G.startIndexMap from List.mem_singleton.mpr rfl)]
      have hsi : G.siIdx (ix5 s p b t w) ⟨List.idxOf (0 : Fin 4) G.startIndexMap, List.idxOf_lt_length_iff.2 (List.mem_singleton.mpr rfl)⟩ = ix3 s p 0 := by
        funext b; refine Fin.ext ?_
        match b with
        | ⟨0, _⟩ => rfl
        | ⟨1, _⟩ => rfl
        | ⟨2, _⟩ => rfl
      rw [hsi]
      have hb : ∀ X : IVec S24x2048 32, broadcastInDim S24x2048x1 ![0, 1] bcast_S24x2048_S24x2048x1_0_1 X (ix3 s p 0) = X (ix2 s p) := by
        intro X
        pointwise []
      rw [hb, start_apply]
      have hc : IntOp.cmpi .slt (tab (ix2 s p)) 0#32 = 0#1 := by
        simp only [IntOp.cmpi, BitVec.slt, hI]
        rw [decide_eq_false (by simp)]
        rfl
      rw [hc]
      show min (tab (ix2 s p)).toInt.toNat 61439 + 0 + 0 = (tab (ix2 s p)).toNat
      omega
    · exact Nat.zero_add b.val
    · exact Nat.zero_add t.val
    · exact Nat.zero_add w.val
  rw [key]
  pointwise []

end Entries

end Cert.ReferenceIdeal.Value

end
-- ==== Proof.RefSum.lean ====
/-
  The reference's result is the softmax over a sequence's tokens.
-/
module

public import proofs.«01_k».proof.Proof.RefValue
public import proofs.«01_k».proof.Proof.FinitePre
public import proofs.«01_k».proof.Proof.Dat

@[expose] public section

noncomputable section

namespace Cert.ReferenceIdeal.Value

open Cert.ReferenceIdeal Cert.ReferenceIdeal.Gen Cert.Nums
open Idealize.ShloMosaic

/-- A query head among the rows. -/
def up (h : Fin 71) : Fin 72 := ⟨h.val, by omega⟩

section
variable {tab : IVec S24x2048 32} {len : IVec S24 32} {pool : IVec S122880x128 32} {scales : FVec Ideal S32x49152 .f32}
  {q : FVec Ideal S24x80x64 .bf16} {ms : FVec Ideal S24x72x128 .f32} {vc : FVec Ideal S24x64 .f32} {vs : FVec Ideal S24x128 .f32}
variable (P : Cert.Proof.Fin' tab len scales q ms) (s : Fin 24) (h : Fin 71) (p : Fin 2048) (t : Fin 16) (d : Fin 64)

theorem two_rpow (r : ℝ) : Real.exp (r * Real.log 2) = (2 : ℝ) ^ r := by rw [Real.rpow_def_of_pos two_pos, mul_comm]

include P in
theorem code_real (b : Fin 2) (w n : Fin 8) : codes (F := Ideal) (gath tab pool) (ix6 s p b t w n)
    = ((ci (pool (ix2 (Fin.ofNat 122880 (2 * (tab (ix2 s (Fin.ofNat 2048 p.val))).toNat + b.val)) ⟨8 * t.val + w.val, by omega⟩)) n.val : ℝ) : EReal) := by
  have hp := P.page (ix2 s p)
  rw [codes_apply, gath_apply _ _ _ _ _ _ _ hp]
  have e1 : (Fin.ofNat 2048 p.val : Fin 2048) = p := Fin.ext (Nat.mod_eq_of_lt p.isLt)
  have e2 : (Fin.ofNat 122880 (2 * (tab (ix2 s p)).toNat + b.val) : Fin 122880) = ⟨(tab (ix2 s p)).toNat * 2 + b.val, by omega⟩ :=
    Fin.ext (by show (2 * (tab (ix2 s p)).toNat + b.val) % 122880 = (tab (ix2 s p)).toNat * 2 + b.val; omega)
  have e3 : (⟨8 * t.val + w.val, by omega⟩ : Fin 128) = ⟨t.val * 8 + w.val, by omega⟩ := Fin.ext (by show 8 * t.val + w.val = t.val * 8 + w.val; omega)
  rw [e1, e2, e3]
  rfl

include P in
theorem raw_real : raw q (kf (codes (gath tab pool))) (ix4 s h p t) = ((∑ d, (datOf tab len pool scales q ms vc vs s).qr (up h) d * (datOf tab len pool scales q ms vc vs s).kc p.val t d : ℝ) : EReal) := by
  rw [raw_apply, ← sum_real]
  obtain ⟨f, hf⟩ : ∃ f : ℕ → EReal, ∀ d : Fin 64, f d.val = (((datOf tab len pool scales q ms vc vs s).qr (up h) d * (datOf tab len pool scales q ms vc vs s).kc p.val t d : ℝ) : EReal) :=
    ⟨fun n => if hn : n < 64 then (((datOf tab len pool scales q ms vc vs s).qr (up h) ⟨n, hn⟩ * (datOf tab len pool scales q ms vc vs s).kc p.val t ⟨n, hn⟩ : ℝ) : EReal) else 0, fun d => dif_pos d.isLt⟩
  have key : ∀ x y : Fin 8, (q (ix3 s ⟨h.val, by omega⟩ ⟨y.val * 8 + x.val, by omega⟩) * kf (F := Ideal) (codes (gath tab pool)) (ix5 s p t y x) : EReal) = f (y.val * 8 + x.val) := by
    intro x y
    rw [kf_apply, code_real P, toReal_of (P.query _), ← EReal.coe_mul]
    refine Eq.trans ?_ (hf ⟨y.val * 8 + x.val, by omega⟩).symm
    have e1 : (y.val * 8 + x.val) / 8 = y.val := by omega
    have e2 : (y.val * 8 + x.val) % 8 = x.val := by omega
    simp only [Dat.kc, datOf, e1, e2]
    rfl
  refine (Finset.sum_congr rfl fun x _ => Finset.sum_congr rfl fun y _ => key x y).trans ((sum64 f).trans ?_)
  exact Finset.sum_congr rfl fun d _ => hf d

include P in
theorem SC_real : SC tab len pool scales q (ix4 s h p t) = (if (datOf tab len pool scales q ms vc vs s).Va p.val t then (((datOf tab len pool scales q ms vc vs s).S p.val t (up h) * Real.log 2 : ℝ) : EReal) else ⊥ : EReal) := by
  have e2 : (Fin.ofNat 49152 (s.val * 2048 + p.val) : Fin 49152) = ⟨s.val * 2048 + p.val, by omega⟩ := Fin.ext (Nat.mod_eq_of_lt (by omega))
  rw [SC, scor_apply, valid_apply, raw_real P (vc := vc) (vs := vs), ksc_apply, toReal_of (P.scale _), eighth, Nums.neg_inf, ← EReal.coe_mul, ← EReal.coe_mul]
  rw [show len (ix1 s) = (datOf tab len pool scales q ms vc vs s).len from rfl, Dat.mask_ref _ _ p.isLt]
  unfold Scalar.select
  by_cases hv : (datOf tab len pool scales q ms vc vs s).Va p.val t
  · rw [if_pos hv, if_pos hv, if_pos (show (1#1 : BitVec 1) = 1 from rfl)]
    have h2 : Real.log 2 ≠ 0 := (Real.log_pos one_lt_two).ne'
    congr 1
    have e3 : (datOf tab len pool scales q ms vc vs s).kr p.val t = EReal.toReal (scales (ix2 ⟨t.val, by omega⟩ ⟨s.val * 2048 + p.val, by omega⟩)) := by
      rw [← e2]; rfl
    rw [← e3, Dat.S]
    field_simp
  · rw [if_neg hv, if_neg hv, if_neg (by decide)]

include P in
theorem SC_lt (y : S24x71x2048x16.Idx) : (SC tab len pool scales q y : EReal) < ⊤ := by
  obtain ⟨s, h, p, t, rfl⟩ : ∃ s h p t, y = ix4 s h p t := ⟨y 0, y 1, y 2, y 3, ValueIdx.eq_ix4 y⟩
  rw [SC_real P (ms := ms) (vc := fun _ => 0) (vs := fun _ => 0)]
  split
  · exact EReal.coe_lt_top _
  · exact bot_lt_top

include P in
theorem sself_real : sself ms (ix2 s h) = (((datOf tab len pool scales q ms vc vs s).mr (up h) * Real.log 2 : ℝ) : EReal) := by
  rw [sself_apply, toReal_of (P.self _), two, log_real two_pos, ← EReal.coe_mul]
  rfl

include P in
theorem MX_real : ∃ r : ℝ, (MX tab len pool scales q ms (ix2 s h) : EReal) = r := by
  unfold MX
  exact mmax_real _ _ (SC_lt P) _ ⟨_, sself_real (pool := pool) (vc := fun _ => 0) (vs := fun _ => 0) P s h⟩

section
variable {M : ℝ} (hM : (MX tab len pool scales q ms (ix2 s h) : EReal) = M)
include P hM

theorem EC_real : EC tab len pool scales q ms (ix4 s h p t) = (((datOf tab len pool scales q ms vc vs s).W p.val t (up h) * Real.exp (-M) : ℝ) : EReal) := by
  rw [EC, ec_apply, SC_real P (ms := ms) (vc := vc) (vs := vs), hM, Dat.W]
  by_cases hv : (datOf tab len pool scales q ms vc vs s).Va p.val t
  · rw [if_pos hv, if_pos hv, ← EReal.coe_sub, exp_real, sub_eq_add_neg, Real.exp_add, two_rpow]
  · rw [if_neg hv, if_neg hv, zero_mul, EReal.bot_sub]; rfl

theorem ES_real : ES tab len pool scales q ms (ix2 s h) = (((datOf tab len pool scales q ms vc vs s).ws (up h) * Real.exp (-M) : ℝ) : EReal) := by
  rw [ES, es_apply, sself_real (pool := pool) (vc := vc) (vs := vs) P, hM, Dat.ws, ← EReal.coe_sub, exp_real, sub_eq_add_neg, Real.exp_add, two_rpow]

theorem INV_real : INV tab len pool scales q ms (ix2 s h) = ((1 / ((datOf tab len pool scales q ms vc vs s).Z (up h) * Real.exp (-M)) : ℝ) : EReal) := by
  rw [INV, invr_apply, ES_real (vc := vc) (vs := vs) P s h hM]
  simp only [EC_real (vc := vc) (vs := vs) P s h _ _ hM, sum_real]
  rw [← EReal.coe_add, div_one_real]
  · simp only [← Finset.sum_mul]
    rw [← Dat.RL, ← add_mul, ← Dat.Z]
  · simp only [← Finset.sum_mul]
    rw [← Dat.RL, ← add_mul, ← Dat.Z]
    exact mul_pos (Dat.Z_pos _ _) (Real.exp_pos _)

theorem RES_real : RES tab len pool scales q ms vc vs (ix3 s d h) = (datOf tab len pool scales q ms vc vs s).T d (up h) := by
  have hz := Dat.Z_pos (datOf tab len pool scales q ms vc vs s) (up h)
  have he := Real.exp_pos (-M)
  have term : ∀ (x : Fin 2048) (y : Fin 16), (pvr (EC tab len pool scales q ms) (vsc scales) (INV tab len pool scales q ms) (ix4 s h x y)
      * vf (F := Ideal) (codes (gath tab pool)) (ix5 s x y ⟨d.val / 8, by omega⟩ ⟨d.val % 8, by omega⟩) : EReal)
      = (((datOf tab len pool scales q ms vc vs s).vc x.val y d * ((datOf tab len pool scales q ms vc vs s).W x.val y (up h) * (datOf tab len pool scales q ms vc vs s).vr x.val y) / (datOf tab len pool scales q ms vc vs s).Z (up h) : ℝ) : EReal) := by
    intro x y
    have e2 : (Fin.ofNat 49152 (s.val * 2048 + x.val) : Fin 49152) = ⟨s.val * 2048 + x.val, by omega⟩ := Fin.ext (Nat.mod_eq_of_lt (by omega))
    have e3 : EReal.toReal (scales (ix2 ⟨16 + y.val, by omega⟩ ⟨s.val * 2048 + x.val, by omega⟩)) = (datOf tab len pool scales q ms vc vs s).vr x.val y := by
      rw [← e2]; rfl
    rw [pvr_apply, vf_apply, code_real P, EC_real (vc := vc) (vs := vs) P s h x y hM, INV_real (vc := vc) (vs := vs) P s h hM, vsc_apply, toReal_of (P.scale _), e3, ← EReal.coe_mul, ← EReal.coe_mul, ← EReal.coe_mul]
    show (((datOf tab len pool scales q ms vc vs s).W x.val y (up h) * Real.exp (-M) * (1 / ((datOf tab len pool scales q ms vc vs s).Z (up h) * Real.exp (-M))) * (datOf tab len pool scales q ms vc vs s).vr x.val y * (datOf tab len pool scales q ms vc vs s).vc x.val y d : ℝ) : EReal) = _
    rw [show (datOf tab len pool scales q ms vc vs s).W x.val y (up h) * Real.exp (-M) * (1 / ((datOf tab len pool scales q ms vc vs s).Z (up h) * Real.exp (-M))) * (datOf tab len pool scales q ms vc vs s).vr x.val y * (datOf tab len pool scales q ms vc vs s).vc x.val y d = (datOf tab len pool scales q ms vc vs s).vc x.val y d * ((datOf tab len pool scales q ms vc vs s).W x.val y (up h) * (datOf tab len pool scales q ms vc vs s).vr x.val y) / (datOf tab len pool scales q ms vc vs s).Z (up h) by field_simp]
  rw [RES, fin_apply]
  simp only [term, sum_real]
  rw [psr_apply, ES_real (vc := vc) (vs := vs) P s h hM, INV_real (vc := vc) (vs := vs) P s h hM, ← EReal.coe_mul, Dat.T, Dat.RA]
  simp only [← Finset.sum_div]
  rw [show (datOf tab len pool scales q ms vc vs s).ws (up h) * Real.exp (-M) * (1 / ((datOf tab len pool scales q ms vc vs s).Z (up h) * Real.exp (-M))) = (datOf tab len pool scales q ms vc vs s).ws (up h) / (datOf tab len pool scales q ms vc vs s).Z (up h) by field_simp]
  rfl

end

include P in
theorem RES_val : RES tab len pool scales q ms vc vs (ix3 s d h) = (datOf tab len pool scales q ms vc vs s).T d (up h) := by
  obtain ⟨M, hM⟩ := MX_real (pool := pool) P s h
  exact RES_real P s h d hM

end

end Cert.ReferenceIdeal.Value

end
-- ==== Proof.Match.lean ====
/-
  The kernel's results and the reference's, on the same arguments, are the same arrays.
-/
module

public import proofs.«01_k».proof.Proof.Ideal.Run
public import proofs.«01_k».proof.Proof.Ideal.Scale
public import proofs.«01_k».proof.Proof.RefSum

@[expose] public section

noncomputable section

namespace Cert.Proof

open Idealize.ShloMosaic Cert.Nums Cert.KernelIdeal.Hand
open Idealize.ShloMosaic.TcCoe

section
variable (c : Dev Cert.KernelIdeal.nD) (tab : IVec ⟨2, ![24, 2048]⟩ 32) (len : IVec ⟨1, ![24]⟩ 32) (pool : IVec ⟨2, ![122880, 128]⟩ 32) (scales : FVec Ideal ⟨2, ![32, 49152]⟩ .f32)
    (q : FVec Ideal ⟨3, ![24, 80, 64]⟩ .bf16) (ms : FVec Ideal ⟨3, ![24, 72, 128]⟩ .f32) (vc : FVec Ideal ⟨2, ![24, 64]⟩ .f32) (vs : FVec Ideal ⟨2, ![24, 128]⟩ .f32)

theorem gat_key (s : Fin 24) (k : ℕ) (j w : Fin 128) : Gat tab pool s k (ix2 ⟨2 * j.val, by omega⟩ w) = (datOf tab len pool scales q ms vc vs s).kw (128 * k + j.val) w := by
  show pool (ix2 (Fin.ofNat 122880 (2 * (tab (ix2 s (Fin.ofNat 2048 (128 * k + (2 * j.val) / 2)))).toNat + (2 * j.val) % 2)) w) = pool (ix2 (Fin.ofNat 122880 (2 * (tab (ix2 s (Fin.ofNat 2048 (128 * k + j.val)))).toNat)) w)
  rw [show (2 * j.val) / 2 = j.val by omega, show (2 * j.val) % 2 = 0 by omega, Nat.add_zero]
theorem gat_val (s : Fin 24) (k : ℕ) (j w : Fin 128) : Gat tab pool s k (ix2 ⟨1 + 2 * j.val, by omega⟩ w) = (datOf tab len pool scales q ms vc vs s).vw (128 * k + j.val) w := by
  show pool (ix2 (Fin.ofNat 122880 (2 * (tab (ix2 s (Fin.ofNat 2048 (128 * k + (1 + 2 * j.val) / 2)))).toNat + (1 + 2 * j.val) % 2)) w) = pool (ix2 (Fin.ofNat 122880 (2 * (tab (ix2 s (Fin.ofNat 2048 (128 * k + j.val)))).toNat + 1)) w)
  rw [show (1 + 2 * j.val) / 2 = j.val by omega, show (1 + 2 * j.val) % 2 = 1 by omega]

theorem blk_at (s : Fin 24) (k : ℕ) (hk : k < 16) (t : Fin 32) (j : Fin 128) :
    Blk (F := Ideal) c (arg3 := Memref.whole Cert.KernelIdeal.main_arg3) scales (16 * s.val + k) (ix2 t j) = scales (ix2 t (Fin.ofNat 49152 (s.val * 2048 + (128 * k + j.val)))) := by
  show scales ((Cert.KernelIdeal.Hand.blkR (Fin.ofNat 384 (16 * s.val + k))).emb (ix2 t j)) = _
  congr 1
  rw [ValueIdx.eq_ix2 ((Cert.KernelIdeal.Hand.blkR (Fin.ofNat 384 (16 * s.val + k))).emb (ix2 t j))]
  have e1 : (Cert.KernelIdeal.Hand.blkR (Fin.ofNat 384 (16 * s.val + k))).emb (ix2 t j) 0 = t := Fin.ext (by show 0 + 1 * t.val = t.val; omega)
  have e2 : (Cert.KernelIdeal.Hand.blkR (Fin.ofNat 384 (16 * s.val + k))).emb (ix2 t j) 1 = Fin.ofNat 49152 (s.val * 2048 + (128 * k + j.val)) :=
    Fin.ext (by show 128 * ((16 * s.val + k) % 384) + 1 * j.val = (s.val * 2048 + (128 * k + j.val)) % 49152; omega)
  rw [e1, e2]
  rfl

theorem of_args (P : Fin' tab len scales q ms) (s : Fin 24) :
    Of (seqOf (F := Ideal) c (arg3 := Memref.whole Cert.KernelIdeal.main_arg3) scales tab len pool q ms vc vs lanes rows s) (datOf tab len pool scales q ms vc vs s) where
  is :=
    { hq := fun h d => (pay399_apply _ _ _).trans (toReal_of (P.query _))
      hkw := fun k _ j w => gat_key tab len pool scales q ms vc vs s k j w
      hvw := fun k _ j w => gat_val tab len pool scales q ms vc vs s k j w
      hkr := fun k hk t j => (blk_at c scales s k hk _ j).trans (toReal_of (P.scale _))
      hvr := fun k hk t j => (blk_at c scales s k hk _ j).trans (toReal_of (P.scale _))
      hlen := P.len _ }
  v0 := rfl
  v1 := rfl
  len := rfl
  hm := fun h j => (P.lanes s h j).trans (toReal_of (P.self _))
  hc := fun d => rfl
  hs := fun h => rfl

/-- The two attention outputs are one array. -/
theorem same (P : Fin' tab len scales q ms) :
    Out8 (seqOf (F := Ideal) c (arg3 := Memref.whole Cert.KernelIdeal.main_arg3) scales tab len pool q ms vc vs lanes rows) = Cert.ReferenceIdeal.Value.RES tab len pool scales q ms vc vs := by
  funext i
  obtain ⟨s, d, h, rfl⟩ : ∃ (s : Fin 24) (d : Fin 64) (h : Fin 71), i = ix3 s d h := ⟨i 0, i 1, i 2, ValueIdx.eq_ix3 i⟩
  exact (out8_val (of_args c tab len pool scales q ms vc vs P s) d h).trans (Cert.ReferenceIdeal.Value.RES_val P s h d).symm
/-- A sequence's greatest output, of an output that holds the same numbers as the reference's. -/
theorem peak_top (o : FVec Ideal ⟨3, ![24, 71, 64]⟩ .f32) (X : FVec Ideal ⟨2, ![64, 71]⟩ .f32) (s : Fin 24) (e : ∀ i h, X (ix2 i h) = (o (ix3 s h i) : EReal)) :
    peak X = (Cert.ReferenceIdeal.Value.top o (ix1 s) : EReal) := by
  rw [Cert.ReferenceIdeal.Value.top_apply]
  refine eq_of_forall_ge_iff fun t => ?_
  rw [peak_le, Finset.fold_max_le]
  refine and_congr_right fun _ => ⟨fun h x _ => ?_, fun h i j => ?_⟩
  · exact (show max (X (ix2 x.2 x.1) : EReal) (-X (ix2 x.2 x.1)) = FloatOps.absf (o (ix3 s x.1 x.2)) by rw [e]; rfl).symm.trans_le (h x.2 x.1)
  · exact (show max (X (ix2 i j) : EReal) (-X (ix2 i j)) = FloatOps.absf (o (ix3 s j i)) by rw [e]; rfl).trans_le (h (j, i) (Finset.mem_univ _))

/-- The two scales are one array. -/
theorem same_scale (P : Fin' tab len scales q ms) :
    Out10 (seqOf (F := Ideal) c (arg3 := Memref.whole Cert.KernelIdeal.main_arg3) scales tab len pool q ms vc vs lanes rows) = Cert.ReferenceIdeal.Value.SCALE tab len pool scales q ms vc vs := by
  funext i
  obtain ⟨s, j, rfl⟩ : ∃ (s : Fin 24) (j : Fin 128), i = ix2 s j := ⟨i 0, i 1, ValueIdx.eq_ix2 i⟩
  obtain ⟨X, hX, e⟩ := out10_val (of_args c tab len pool scales q ms vc vs P s) j
  have hp := peak_top (Cert.ReferenceIdeal.Value.OUT tab len pool scales q ms vc vs) X s fun d h =>
    (hX d h).trans ((Cert.ReferenceIdeal.Value.RES_val P s h d).symm.trans (Cert.ReferenceIdeal.Value.out_apply tab len pool scales q ms vc vs s h d).symm)
  rw [hp] at e
  exact e.trans (Cert.ReferenceIdeal.Value.scl_apply s _ j).symm

end

end Cert.Proof

end
-- ==== Proof.Prep.lean ====
/-
  The new token's codes and scales: the call `prep` against the quantiser.
-/
module

public import proofs.«01_k».proof.Proof.Gen.Prep
public import proofs.«01_k».proof.Proof.Gen.Prep.Frame
public import proofs.«01_k».proof.Proof.Gen.PrepIdeal
public import proofs.«01_k».proof.Proof.Gen.PrepIdeal.Value
public import proofs.«01_k».proof.Proof.Gen.PrepReferenceIdeal.Run
public import proofs.«01_k».proof.Proof.Nums
public import Idealize.ShloMosaic.Lib.Pointwise
public import Idealize.ShloMosaic.Lib.KernelVsHost

@[expose] public section

noncomputable section

namespace Cert.PrepIdeal.Hand

open Cert.PrepIdeal Cert.PrepIdeal.Gen Cert.Nums
open Idealize.ShloMosaic

/-- A row's largest magnitude. -/
def mx (P : FVec Ideal S24x64 .bf16) : FVec Ideal S24 .f32 :=
  multiReduction .maximumf [1] S24 (absf (extf .f32 P bitsLt_bf16_f32)) 0xFF800000#32 reduces_S24x64_S24 (.inl rfl) rfl
/-- The scale of a row whose largest magnitude is `a`. -/
def scl (a : Ideal .f32) : Ideal .f32 :=
  Scalar.select (FloatOps.cmpf .oeq a (Scalar.ofBits .f32 0x00000000#32)) (Scalar.ofBits .f32 0x3F800000#32) (FloatOps.divf a (Scalar.ofBits .f32 0x40E00000#32))
/-- A code, as a number: rounded and clipped. -/
def cde (x a : Ideal .f32) : Ideal .f32 :=
  FloatOps.minimumf (FloatOps.sitofp .f32 7#32) (FloatOps.maximumf (FloatOps.sitofp .f32 4294967289#32) (FloatOps.roundeven (FloatOps.divf x (scl a))))
/-- The same, as a word. -/
def wrd (P : FVec Ideal S24x64 .bf16) (r : Fin 24) (d : Fin 64) : BitVec 32 := FloatOps.fptosi 32 (cde (P (ix2 r d)) (mx P (ix1 r)))

theorem pay4_apply (P : FVec Ideal S24x64 .bf16) (r : Fin 24) (u : Fin 1) : k0_pay4 (F := Ideal) P (ix2 r u) = scl (mx P (ix1 r)) := by
  unfold k0_pay4 k0_pay3
  change (let X := mx P; select (cmpf .oeq (shapeCast S24x1 X shapeCasts_S24_S24x1) (broadcast S24x1 (Scalar.ofBits .f32 0x00000000#32))) (broadcast S24x1 (Scalar.ofBits .f32 0x3F800000#32)) (divf (shapeCast S24x1 X shapeCasts_S24_S24x1) (broadcast S24x1 (Scalar.ofBits .f32 0x40E00000#32)))) (ix2 r u) = _
  generalize mx P = X
  dsimp only
  pointwise [scl]

theorem pay5_apply (P : FVec Ideal S24x64 .bf16) (r : Fin 24) (d : Fin 64) : k0_pay5 (F := Ideal) P (ix2 r d) = cde (P (ix2 r d)) (mx P (ix1 r)) := by
  have e := pay4_apply P r 0
  unfold k0_pay5 k0_pay3
  generalize k0_pay4 (F := Ideal) P = X at e ⊢
  generalize mx P (ix1 r) = a at e ⊢
  have : broadcastTo S24x64 X broadcasts_S24x1_S24x64 (ix2 r d) = X (ix2 r 0) := by pointwise []
  unfold cde
  rw [← e, ← this]
  rfl

theorem sixteen : Ideal.ofBits .f32 1098907648#32 = ((16 : ℝ) : EReal) := by
  simp [Ideal.ofBits, Ideal.ieee]
  rw [← EReal.coe_mul]
  congr 1
  norm_num

/-- The matrix that puts two codes in a byte. -/
theorem pay2_apply (d : Fin 64) (j : Fin 32) : k0_pay2 (F := Ideal) (ix2 d j) = (if d.val = 2 * j.val then 1 else if d.val = 2 * j.val + 1 then 16 else 0 : EReal) := by
  pointwise [k0_pay2]
  have hd := d.isLt
  have hj := j.isLt
  have e1 : IntOp.muli (2#32) (BitVec.ofNat 32 j.val) = BitVec.ofNat 32 (2 * j.val) := (BitVec.ofNat_mul ..).symm
  have e2 : IntOp.addi (BitVec.ofNat 32 (2 * j.val)) 1#32 = BitVec.ofNat 32 (2 * j.val + 1) := (BitVec.ofNat_add ..).symm
  have e3 (n : ℕ) (hn : n < 64) (a b : EReal) : Scalar.select (IntOp.cmpi CmpIPredicate.eq (BitVec.ofNat 32 d.val) (BitVec.ofNat 32 n)) a b = if d.val = n then a else b := by
    have : (BitVec.ofNat 32 d.val = BitVec.ofNat 32 n) ↔ d.val = n := by
      rw [← BitVec.toNat_inj, BitVec.toNat_ofNat, BitVec.toNat_ofNat, Nat.mod_eq_of_lt (by omega), Nat.mod_eq_of_lt (by omega)]
    by_cases h : d.val = n
    · simp [Scalar.select, IntOp.cmpi, h]
    · have q : (BitVec.ofNat 32 d.val == BitVec.ofNat 32 n) = false := beq_eq_false_iff_ne.mpr (mt this.mp h)
      simp [Scalar.select, IntOp.cmpi, h, q]
  rw [e1, e2, e3 _ (by omega), e3 _ (by omega)]
  rw [sixteen]
  rfl

theorem pay11_apply (X : FVec Ideal S24x64 .f32) (r : Fin 24) (j : Fin 32) : k0_pay11 (F := Ideal) k0_pay2 X (ix2 r j)
    = BitVec.setWidth 8 (Ideal.fptosi 32 (∑ d : Fin 64, (FloatOps.sitofp .f32 (IntOp.andi (FloatOps.fptosi 32 (X (ix2 r d))) 15#32) : Ideal .f32) * (k0_pay2 (F := Ideal) (ix2 d j)) : EReal)) := by
  unfold k0_pay11
  generalize k0_pay2 (F := Ideal) = Y
  pointwise []
  rfl

theorem low (w : BitVec 32) : ∃ n : ℕ, n < 16 ∧ IntOp.andi w 15#32 = BitVec.ofNat 32 n :=
  ⟨(w &&& 15#32).toNat, by rw [BitVec.toNat_and]; exact Nat.lt_succ_of_le Nat.and_le_right, (BitVec.ofNat_toNat ..).symm ▸ by simp [IntOp.andi]⟩

/-- Narrowing to a byte and widening again keeps the low four bits. -/
theorem low_narrow (w : BitVec 32) : IntOp.andi ((w.setWidth 8).signExtend 32) 15#32 = IntOp.andi w 15#32 := by
  unfold IntOp.andi
  apply BitVec.eq_of_getLsbD_eq
  intro i hi
  rw [BitVec.getLsbD_and, BitVec.getLsbD_and]
  by_cases h : i < 4
  · rw [BitVec.getLsbD_signExtend, BitVec.getLsbD_setWidth]
    simp [hi, (by omega : i < 8)]
  · have : BitVec.getLsbD 15#32 i = false := by
      rw [BitVec.getLsbD_ofNat]
      have : Nat.testBit 15 i = false := Nat.testBit_lt_two_pow (lt_of_lt_of_le (by norm_num) (Nat.pow_le_pow_right (by norm_num) (by omega : 4 ≤ i)))
      simp [this]
    simp [this]

/-- Two codes in a byte: the product with 1 and 16 is the shift and the or. -/
theorem two_codes (w v : BitVec 32) :
    BitVec.setWidth 8 (Ideal.fptosi 32 (((FloatOps.sitofp .f32 (IntOp.andi w 15#32) : Ideal .f32) : EReal) * 1 + ((FloatOps.sitofp .f32 (IntOp.andi v 15#32) : Ideal .f32) : EReal) * 16))
      = BitVec.setWidth 8 (IntOp.ori (IntOp.andi w 15#32) (IntOp.shli .host (IntOp.andi v 15#32) 4#32)) := by
  obtain ⟨n, hn, e⟩ := low w
  obtain ⟨k, hk, f⟩ := low v
  rw [e, f]
  have t (n : ℕ) (hn : n < 16) : (FloatOps.sitofp .f32 (BitVec.ofNat 32 n) : Ideal .f32) = (((n : ℕ) : ℝ) : EReal) := by
    show (((BitVec.ofNat 32 n).toInt : ℝ) : EReal) = _
    rw [show (BitVec.ofNat 32 n).toInt = n by interval_cases n <;> rfl]; rfl
  rw [t n hn, t k hk]
  have s : (((n : ℕ) : ℝ) : EReal) * 1 + (((k : ℕ) : ℝ) : EReal) * 16 = (((n + 16 * k : ℕ) : ℝ) : EReal) := by
    rw [mul_one]
    push_cast
    rw [mul_comm]
    rfl
  rw [s]
  have z : Ideal.fptosi 32 (((n + 16 * k : ℕ) : ℝ) : EReal) = BitVec.ofNat 32 (n + 16 * k) := by
    rw [Ideal.fptosi, Ideal.toIntClamped_coe, if_pos (Nat.cast_nonneg _), Int.floor_natCast, min_eq_right (by norm_num; omega), max_eq_right (by norm_num; omega), BitVec.ofInt_natCast]
  rw [z]
  clear s z t e f
  interval_cases n <;> interval_cases k <;> rfl

end Cert.PrepIdeal.Hand

namespace Cert.PrepReferenceIdeal.Hand

open Cert.PrepReferenceIdeal Cert.PrepReferenceIdeal.Gen Cert.Nums
open Cert.PrepIdeal.Hand (mx scl cde wrd)
open Idealize.ShloMosaic

/-- The reference's scale of each row. -/
def SC (P : FVec Ideal S24x64 .bf16) : FVec Ideal S24 .f32 :=
  select (cmpf .oeq (Host.reduce FloatOps.maximumf (Host.absf (extf .f32 P bitsLt_bf16_f32)) (constant S_ .f32 0xFF800000#32) reducesTo_S24x64_S24_d1 h_S_) (broadcastInDim S24 ![] bcast_S_S24 (constant S_ .f32 0x00000000#32))) (broadcastInDim S24 ![] bcast_S_S24 (id (constant S_ .f32 0x3F800000#32))) (Host.divf (Host.reduce FloatOps.maximumf (Host.absf (extf .f32 P bitsLt_bf16_f32)) (constant S_ .f32 0xFF800000#32) reducesTo_S24x64_S24_d1 h_S_) (broadcastInDim S24 ![] bcast_S_S24 (constant S_ .f32 0x40E00000#32)))
/-- The same, as a column. -/
def SCL (P : FVec Ideal S24x64 .bf16) : FVec Ideal S24x1 .f32 := broadcastInDim S24x1 ![0] bcast_S24_S24x1_0 (SC P)
/-- The reference's codes, as words. -/
def WD (P : FVec Ideal S24x64 .bf16) : IVec S24x64 32 :=
  fptosi 32 (minimumf (broadcastInDim S24x64 ![] bcast_S_S24x64 (sitofp .f32 (constantI S_ 32 7#32))) (maximumf (broadcastInDim S24x64 ![] bcast_S_S24x64 (sitofp .f32 (constantI S_ 32 4294967289#32))) (Host.roundeven (Host.divf (extf .f32 P bitsLt_bf16_f32) (broadcastInDim S24x64 ![0, 1] bcast_S24x1_S24x64_0_1 (broadcastInDim S24x1 ![0] bcast_S24_S24x1_0 (SC P)))))))
/-- The reference's bytes, two codes in each. -/
def PK (X : IVec S24x64 32) : IVec S24x32 8 :=
  trunci 8 (ori (andi (Host.slice S24x32 ![0, 0] ![1, 2] (extsi 32 (trunci 8 X natLt_8_32) natLt_8_32) slicesBy_S24x64_S24x32_0s1_0s2) (broadcastInDim S24x32 ![] bcast_S_S24x32 (constantI S_ 32 15#32))) (Host.shli (andi (Host.slice S24x32 ![0, 1] ![1, 2] (extsi 32 (trunci 8 X natLt_8_32) natLt_8_32) slicesBy_S24x64_S24x32_0s1_1s2) (broadcastInDim S24x32 ![] bcast_S_S24x32 (constantI S_ 32 15#32))) (broadcastInDim S24x32 ![] bcast_S_S24x32 (constantI S_ 32 4#32)))) natLt_8_32

theorem SC_apply (P : FVec Ideal S24x64 .bf16) (r : Fin 24) : SC P (ix1 r) = scl (mx P (ix1 r)) := by
  have e : Host.reduce FloatOps.maximumf (Host.absf (extf .f32 P bitsLt_bf16_f32)) (constant S_ .f32 0xFF800000#32) reducesTo_S24x64_S24_d1 h_S_ = mx P :=
    hostReduce_maximumf_eq_multiReduction _ _ _ _ _ _ _
  unfold SC
  rw [e]
  generalize mx P = X
  pointwise [scl]
  simp only [id, constant_apply, ← one]
  rfl

theorem WD_apply (P : FVec Ideal S24x64 .bf16) (r : Fin 24) (d : Fin 64) : WD P (ix2 r d) = wrd P r d := by
  have e := SC_apply P r
  unfold WD wrd
  unfold cde
  rw [← e]
  generalize SC P = X
  pointwise []

theorem PK_apply (X : IVec S24x64 32) (r : Fin 24) (j : Fin 32) : PK X (ix2 r j) =
    BitVec.setWidth 8 (IntOp.ori (IntOp.andi (X (ix2 r ⟨2 * j.val, by omega⟩)) 15#32) (IntOp.shli .host (IntOp.andi (X (ix2 r ⟨2 * j.val + 1, by omega⟩)) 15#32) 4#32)) := by
  rw [← Cert.PrepIdeal.Hand.low_narrow (X (ix2 r ⟨2 * j.val, _⟩)), ← Cert.PrepIdeal.Hand.low_narrow (X (ix2 r ⟨2 * j.val + 1, _⟩))]
  unfold PK
  pointwise []
  simp only [Nat.add_comm 1]

end Cert.PrepReferenceIdeal.Hand

namespace Cert.PrepIdeal.Hand

open Cert.PrepIdeal Cert.PrepIdeal.Gen
open Idealize.ShloMosaic

/-- The kernel's byte: the codes of columns `2 j` and `2 j + 1` of the row. -/
theorem pack_apply (P : FVec Ideal S24x64 .bf16) (r : Fin 24) (j : Fin 32) : k0_pay11 (F := Ideal) k0_pay2 (k0_pay5 P) (ix2 r j) =
    BitVec.setWidth 8 (IntOp.ori (IntOp.andi (wrd P r ⟨2 * j.val, by omega⟩) 15#32) (IntOp.shli .host (IntOp.andi (wrd P r ⟨2 * j.val + 1, by omega⟩) 15#32) 4#32)) := by
  rw [pay11_apply, ← two_codes]
  refine congrArg (fun x => BitVec.setWidth 8 (Ideal.fptosi 32 x)) ?_
  have h : ∀ d : Fin 64, (FloatOps.fptosi 32 (k0_pay5 (F := Ideal) P (ix2 r d)) : BitVec 32) = wrd P r d := fun d => by rw [pay5_apply]; rfl
  simp only [h, pay2_apply]
  rw [Finset.sum_eq_add (⟨2 * j.val, by omega⟩ : Fin 64) ⟨2 * j.val + 1, by omega⟩ (by simp) (fun d _ hd => ?_) (by simp) (by simp)]
  · simp
  · have h1 : d.val ≠ 2 * j.val := fun e => hd.1 (Fin.ext e)
    have h2 : d.val ≠ 2 * j.val + 1 := fun e => hd.2 (Fin.ext e)
    rw [if_neg h1, if_neg h2, mul_zero]

/-- The kernel's bytes are the reference's. -/
theorem pack_eq (P : FVec Ideal S24x64 .bf16) : Cert.PrepReferenceIdeal.Hand.PK (Cert.PrepReferenceIdeal.Hand.WD P) = k0_pay11 (F := Ideal) k0_pay2 (k0_pay5 P) := by
  funext i
  obtain ⟨r, j, rfl⟩ : ∃ (r : Fin 24) (j : Fin 32), i = ix2 r j := ⟨i 0, i 1, by funext a; fin_cases a <;> rfl⟩
  rw [pack_apply, Cert.PrepReferenceIdeal.Hand.PK_apply, Cert.PrepReferenceIdeal.Hand.WD_apply, Cert.PrepReferenceIdeal.Hand.WD_apply]

/-- The kernel's scales are the reference's. -/
theorem scale_eq (P : FVec Ideal S24x64 .bf16) : Cert.PrepReferenceIdeal.Hand.SCL P = k0_pay4 (F := Ideal) P := by
  funext i
  obtain ⟨r, j, rfl⟩ : ∃ (r : Fin 24) (j : Fin 1), i = ix2 r j := ⟨i 0, i 1, by funext a; fin_cases a <;> rfl⟩
  rw [pay4_apply, ← Cert.PrepReferenceIdeal.Hand.SC_apply]
  unfold Cert.PrepReferenceIdeal.Hand.SCL
  generalize Cert.PrepReferenceIdeal.Hand.SC P = X
  pointwise []

theorem G5_eq (a0 : Vec Ideal S24x64x71 .bf16) (a1 a2 : Vec Ideal S24x64 .bf16) : Cert.PrepIdeal.Value.G5 a0 a1 a2 = k0_pay11 (F := Ideal) k0_pay2 (k0_pay5 a1) := by
  have e : View.ld a1 r0_0 = a1 := View.ld_unit_zero Cert.PrepIdeal.Value.hz1 _ _
  unfold Cert.PrepIdeal.Value.G5 k0_pay94 k0_pay96
  rw [e]

theorem G6_eq (a0 : Vec Ideal S24x64x71 .bf16) (a1 a2 : Vec Ideal S24x64 .bf16) : Cert.PrepIdeal.Value.G6 a0 a1 a2 = k0_pay4 (F := Ideal) a1 := by
  have e : View.ld a1 r0_0 = a1 := View.ld_unit_zero Cert.PrepIdeal.Value.hz1 _ _
  unfold Cert.PrepIdeal.Value.G6 k0_pay95
  rw [e]

theorem G7_eq (a0 : Vec Ideal S24x64x71 .bf16) (a1 a2 : Vec Ideal S24x64 .bf16) : Cert.PrepIdeal.Value.G7 a0 a1 a2 = k0_pay11 (F := Ideal) k0_pay2 (k0_pay5 a2) := by
  have e : View.ld a2 r0_0 = a2 := View.ld_unit_zero Cert.PrepIdeal.Value.hz1 _ _
  unfold Cert.PrepIdeal.Value.G7 k0_pay94 k0_pay97 k0_pay98 k0_pay99
  rw [e]
  rfl

theorem G8_eq (a0 : Vec Ideal S24x64x71 .bf16) (a1 a2 : Vec Ideal S24x64 .bf16) : Cert.PrepIdeal.Value.G8 a0 a1 a2 = k0_pay4 (F := Ideal) a2 := by
  have e : View.ld a2 r0_0 = a2 := View.ld_unit_zero Cert.PrepIdeal.Value.hz1 _ _
  unfold Cert.PrepIdeal.Value.G8 k0_pay98 k0_pay99
  rw [e]
  rfl

end Cert.PrepIdeal.Hand

end
-- ==== Proof.lean ====
/-
  The certificate.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Pre
public import proofs.«01_k».proof.Proof.FinitePre
public import proofs.«01_k».proof.Proof.Match
public import proofs.«01_k».proof.Proof.Prep
public import Idealize.ShloMosaic.Adequacy
public import Idealize.ShloMosaic.Init
public import Idealize.ShloMosaic.Lib.Quiescent

@[expose] public section

noncomputable section

namespace Cert.Proof

open Idealize.ShloMosaic

theorem bits_range {m : (ℓ : Loc Cert.Kernel.nD Cert.Kernel.τ Cert.Kernel.sig) → Buf (Elt Bits) ℓ} (h : Cert.Pre_Kernel m) : Cert.Kernel.Hand.InRange m :=
  fun c => in_range (h c)

theorem ideal_range {m : (ℓ : Loc Cert.KernelIdeal.nD Cert.KernelIdeal.τ Cert.KernelIdeal.sig) → Buf (Elt Ideal) ℓ} (h : Cert.Pre_KernelIdeal m) : Cert.KernelIdeal.Hand.InRange m :=
  fun c => in_range (h c)

theorem frame_p : Cert.quiescent_Kernel (hKernel := Cert.Kernel.Gen.facts) (hPre_in_range := Cert.Pre_in_range.Gen.facts) :=
  fun m ρ h => Cert.Kernel.Hand.frame_run m ρ (bits_range h)

theorem frame_pi : Cert.quiescent_KernelIdeal (hKernelIdeal := Cert.KernelIdeal.Gen.facts) (hPre_in_range := Cert.Pre_in_range.Gen.facts) :=
  fun m ρ h => Cert.KernelIdeal.Hand.frame_run m ρ (ideal_range h)

theorem frame_ri : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The two named constants of the ideal program are the values the table gives them. -/
theorem preserves : Cert.preserves_Kernel_KernelIdeal :=
  ⟨IdealRules.named_const.statement Cert.KernelIdeal.κ "log2e_8" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

theorem finite_range {m : (ℓ : Loc Cert.KernelIdeal.nD Cert.KernelIdeal.τ Cert.KernelIdeal.sig) → Buf (Elt Ideal) ℓ} (h : Cert.Pre_KernelIdeal_finite_in_range (hPre_finite_in_range := Cert.Pre_finite_in_range.Gen.facts) m) :
    Cert.KernelIdeal.Hand.InRange m := fun c => ⟨(finite_in_range (h c)).page, (finite_in_range (h c)).len⟩

theorem frame_pi_finite : Cert.quiescent_KernelIdeal_pre_finite_in_range (hKernelIdeal := Cert.KernelIdeal.Gen.facts) (hPre_finite_in_range := Cert.Pre_finite_in_range.Gen.facts) :=
  fun m ρ h => Cert.KernelIdeal.Hand.frame_run m ρ (finite_range h)

theorem frame_ri_finite : Cert.quiescent_ReferenceIdeal_pre_finite_in_range (hReferenceIdeal := Cert.ReferenceIdeal.Gen.facts) (hPre_finite_in_range := Cert.Pre_finite_in_range.Gen.facts) :=
  fun m ρ _ => frame_ri m ρ trivial

/-- The kernel's results are the reference's, over the extended reals. -/
theorem algebraic : Cert.algebraic_KernelIdeal_ReferenceIdeal_pre_finite_in_range (hKernelIdeal := Cert.KernelIdeal.Gen.facts) (hReferenceIdeal := Cert.ReferenceIdeal.Gen.facts) (hPre_finite_in_range := Cert.Pre_finite_in_range.Gen.facts) := by
  intro m g m' g' h e
  refine ⟨fun c => Cert.KernelIdeal.Hand.Out8 (Cert.KernelIdeal.Hand.Sq m c), fun c => Cert.KernelIdeal.Hand.Out10 (Cert.KernelIdeal.Hand.Sq m c), ?_, ?_⟩
  · exact (θ_run Cert.KernelIdeal.defs _ _).mono (fun r hr c => ⟨(hr.1 c).1.1, (hr.1 c).1.2.2, (hr.1 c).2⟩) (Cert.KernelIdeal.Hand.run m g (finite_range h))
  · refine (θ_run Cert.ReferenceIdeal.defs _ _).mono (fun r hr c => ⟨?_, ?_, (hr c).2.2⟩) (Cert.ReferenceIdeal.Value.run (F := Ideal) m' g')
    · obtain ⟨e0, e1, e2, e3, e4, e5, e6, e7⟩ := e c
      rw [(hr c).1, Cert.ReferenceIdeal.Value.res_eq, e0, e1, e2, e3, e4, e5, e6, e7]
      exact (same c _ _ _ _ _ _ _ _ (finite_in_range (h c))).symm
    · obtain ⟨e0, e1, e2, e3, e4, e5, e6, e7⟩ := e c
      rw [(hr c).2.1, Cert.ReferenceIdeal.Value.scale_eq, e0, e1, e2, e3, e4, e5, e6, e7]
      exact (same_scale c _ _ _ _ _ _ _ _ (finite_in_range (h c))).symm

theorem frame_prep : Cert.quiescent_Prep (hPrep := Cert.Prep.Gen.facts) := fun m ρ _ => Cert.Prep.Gen.frame m ρ

theorem frame_prep_ideal : Cert.quiescent_PrepIdeal (hPrepIdeal := Cert.PrepIdeal.Gen.facts) := fun m ρ _ => Cert.PrepIdeal.Gen.frame m ρ

theorem frame_prep_ref : Cert.quiescent_PrepReferenceIdeal (hPrepReferenceIdeal := Cert.PrepReferenceIdeal.Gen.facts) := fun m ρ _ =>
  (θ_run Cert.PrepReferenceIdeal.defs _ _).mono (fun r h => ⟨fun c => (h c).2.2.2.2, sem_eq_zero_of_no_sems (by decide) r.2⟩)
    (Cert.PrepReferenceIdeal.Value.run (F := Ideal) m ρ)

/-- The packed codes and the scales that `prep` writes for the new token's keys and values are the quantiser's. -/
theorem prep_algebraic : Cert.algebraic_PrepIdeal_PrepReferenceIdeal (hPrepIdeal := Cert.PrepIdeal.Gen.facts) (hPrepReferenceIdeal := Cert.PrepReferenceIdeal.Gen.facts) := by
  intro m g m' g' _ e
  refine ⟨fun c => Cert.PrepReferenceIdeal.Hand.PK (Cert.PrepReferenceIdeal.Hand.WD (m ((c.tc : Thread Cert.PrepIdeal.nD Cert.PrepIdeal.τ).loc Cert.PrepIdeal.main_arg1))),
    fun c => Cert.PrepReferenceIdeal.Hand.SCL (m ((c.tc : Thread Cert.PrepIdeal.nD Cert.PrepIdeal.τ).loc Cert.PrepIdeal.main_arg1)),
    fun c => Cert.PrepReferenceIdeal.Hand.PK (Cert.PrepReferenceIdeal.Hand.WD (m ((c.tc : Thread Cert.PrepIdeal.nD Cert.PrepIdeal.τ).loc Cert.PrepIdeal.main_arg2))),
    fun c => Cert.PrepReferenceIdeal.Hand.SCL (m ((c.tc : Thread Cert.PrepIdeal.nD Cert.PrepIdeal.τ).loc Cert.PrepIdeal.main_arg2)), ?_, ?_⟩
  · refine (θ_run Cert.PrepIdeal.defs _ _).mono (fun r hr c => ?_) (Cert.PrepIdeal.Value.run m g)
    obtain ⟨_, _, h5, h6, h7, h8, _, _, ha⟩ := hr c
    exact ⟨h5.trans ((Cert.PrepIdeal.Hand.G5_eq _ _ _).trans (Cert.PrepIdeal.Hand.pack_eq _).symm), h6.trans ((Cert.PrepIdeal.Hand.G6_eq _ _ _).trans (Cert.PrepIdeal.Hand.scale_eq _).symm),
      h7.trans ((Cert.PrepIdeal.Hand.G7_eq _ _ _).trans (Cert.PrepIdeal.Hand.pack_eq _).symm), h8.trans ((Cert.PrepIdeal.Hand.G8_eq _ _ _).trans (Cert.PrepIdeal.Hand.scale_eq _).symm), ha⟩
  · refine (θ_run Cert.PrepReferenceIdeal.defs _ _).mono (fun r hr c => ?_) (Cert.PrepReferenceIdeal.Value.run (F := Ideal) m' g')
    obtain ⟨h1, h2, h3, h4, ha⟩ := hr c
    obtain ⟨_, e1, e2⟩ := e c
    exact ⟨h1.trans (congrArg (fun P => Cert.PrepReferenceIdeal.Hand.PK (Cert.PrepReferenceIdeal.Hand.WD P)) e1), h2.trans (congrArg Cert.PrepReferenceIdeal.Hand.SCL e1),
      h3.trans (congrArg (fun P => Cert.PrepReferenceIdeal.Hand.PK (Cert.PrepReferenceIdeal.Hand.WD P)) e2), h4.trans (congrArg Cert.PrepReferenceIdeal.Hand.SCL e2), ha⟩

theorem claim : Cert.Claim :=
  ⟨Cert.Kernel.Gen.facts, Cert.KernelIdeal.Gen.facts, Cert.ReferenceIdeal.Gen.facts, Cert.Prep.Gen.facts, Cert.PrepIdeal.Gen.facts, Cert.PrepReferenceIdeal.Gen.facts,
    Cert.Pre_in_range.Gen.facts, Cert.Pre_finite_in_range.Gen.facts,
    frame_p, frame_pi, frame_pi_finite, frame_ri, frame_ri_finite, frame_prep, frame_prep_ideal, frame_prep_ref, preserves, algebraic, trivial, prep_algebraic⟩

end Cert.Proof

end
